-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_tiles_named : Cert.Pre_tiles_named.Facts] (m : (ℓ : Loc Cert.Kernel2.nD Cert.Kernel2.τ Cert.Kernel2.sig) → Buf (Elt Bits) ℓ) : Prop :=
  ∀ c : Dev Cert.Kernel2.nD,
    (Cert.Pre_tiles_named.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))) = (fun _ => 1#1)

def Pre_Kernel2Ideal [hPre_tiles_named : Cert.Pre_tiles_named.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tiles_named.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal [hPre_tiles_named : Cert.Pre_tiles_named.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tiles_named.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 [hPre_tiles_named_down : Cert.Pre_tiles_named_down.Facts] (m : (ℓ : Loc Cert.Kernel3.nD Cert.Kernel3.τ Cert.Kernel3.sig) → Buf (Elt Bits) ℓ) : Prop :=
  ∀ c : Dev Cert.Kernel3.nD,
    (Cert.Pre_tiles_named_down.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4))) = (fun _ => 1#1)

def Pre_Kernel3Ideal [hPre_tiles_named_down : Cert.Pre_tiles_named_down.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_tiles_named_down.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal [hPre_tiles_named_down : Cert.Pre_tiles_named_down.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_tiles_named_down.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 [hPre_tiles_named : Cert.Pre_tiles_named.Facts] (m : (ℓ : Loc Cert.Kernel4.nD Cert.Kernel4.τ Cert.Kernel4.sig) → Buf (Elt Bits) ℓ) : Prop :=
  ∀ c : Dev Cert.Kernel4.nD,
    (Cert.Pre_tiles_named.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4))) = (fun _ => 1#1)

def Pre_Kernel4Ideal [hPre_tiles_named : Cert.Pre_tiles_named.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_tiles_named.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal [hPre_tiles_named : Cert.Pre_tiles_named.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_tiles_named.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 [hPre_tiles_named_down : Cert.Pre_tiles_named_down.Facts] (m : (ℓ : Loc Cert.Kernel5.nD Cert.Kernel5.τ Cert.Kernel5.sig) → Buf (Elt Bits) ℓ) : Prop :=
  ∀ c : Dev Cert.Kernel5.nD,
    (Cert.Pre_tiles_named_down.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4))) = (fun _ => 1#1)

def Pre_Kernel5Ideal [hPre_tiles_named_down : Cert.Pre_tiles_named_down.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_tiles_named_down.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal [hPre_tiles_named_down : Cert.Pre_tiles_named_down.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_tiles_named_down.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite [hPre_finite : Cert.Pre_finite.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg11))).1 = (fun _ => 1#1)
    ∧ (Cert.Pre_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg11))).2.1 = (fun _ => 1#1)
    ∧ (Cert.Pre_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg11))).2.2.1 = (fun _ => 1#1)
    ∧ (Cert.Pre_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg11))).2.2.2.1 = (fun _ => 1#1)
    ∧ (Cert.Pre_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg11))).2.2.2.2.1 = (fun _ => 1#1)
    ∧ (Cert.Pre_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg11))).2.2.2.2.2.1 = (fun _ => 1#1)
    ∧ (Cert.Pre_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg11))).2.2.2.2.2.2.1 = (fun _ => 1#1)
    ∧ (Cert.Pre_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg11))).2.2.2.2.2.2.2.1 = (fun _ => 1#1)
    ∧ (Cert.Pre_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg11))).2.2.2.2.2.2.2.2.1 = (fun _ => 1#1)
    ∧ (Cert.Pre_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg11))).2.2.2.2.2.2.2.2.2.1 = (fun _ => 1#1)
    ∧ (Cert.Pre_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg11))).2.2.2.2.2.2.2.2.2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite [hPre_finite : Cert.Pre_finite.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10)) (m ((c.tc : Thread Cert.Reference8Ideal.nD Cert.Reference8Ideal.τ).loc Cert.Reference8Ideal.main_arg11))).1 = (fun _ => 1#1)
    ∧ (Cert.Pre_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10)) (m ((c.tc : Thread Cert.Reference8Ideal.nD Cert.Reference8Ideal.τ).loc Cert.Reference8Ideal.main_arg11))).2.1 = (fun _ => 1#1)
    ∧ (Cert.Pre_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10)) (m ((c.tc : Thread Cert.Reference8Ideal.nD Cert.Reference8Ideal.τ).loc Cert.Reference8Ideal.main_arg11))).2.2.1 = (fun _ => 1#1)
    ∧ (Cert.Pre_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10)) (m ((c.tc : Thread Cert.Reference8Ideal.nD Cert.Reference8Ideal.τ).loc Cert.Reference8Ideal.main_arg11))).2.2.2.1 = (fun _ => 1#1)
    ∧ (Cert.Pre_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10)) (m ((c.tc : Thread Cert.Reference8Ideal.nD Cert.Reference8Ideal.τ).loc Cert.Reference8Ideal.main_arg11))).2.2.2.2.1 = (fun _ => 1#1)
    ∧ (Cert.Pre_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10)) (m ((c.tc : Thread Cert.Reference8Ideal.nD Cert.Reference8Ideal.τ).loc Cert.Reference8Ideal.main_arg11))).2.2.2.2.2.1 = (fun _ => 1#1)
    ∧ (Cert.Pre_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10)) (m ((c.tc : Thread Cert.Reference8Ideal.nD Cert.Reference8Ideal.τ).loc Cert.Reference8Ideal.main_arg11))).2.2.2.2.2.2.1 = (fun _ => 1#1)
    ∧ (Cert.Pre_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10)) (m ((c.tc : Thread Cert.Reference8Ideal.nD Cert.Reference8Ideal.τ).loc Cert.Reference8Ideal.main_arg11))).2.2.2.2.2.2.2.1 = (fun _ => 1#1)
    ∧ (Cert.Pre_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10)) (m ((c.tc : Thread Cert.Reference8Ideal.nD Cert.Reference8Ideal.τ).loc Cert.Reference8Ideal.main_arg11))).2.2.2.2.2.2.2.2.1 = (fun _ => 1#1)
    ∧ (Cert.Pre_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10)) (m ((c.tc : Thread Cert.Reference8Ideal.nD Cert.Reference8Ideal.τ).loc Cert.Reference8Ideal.main_arg11))).2.2.2.2.2.2.2.2.2.1 = (fun _ => 1#1)
    ∧ (Cert.Pre_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10)) (m ((c.tc : Thread Cert.Reference8Ideal.nD Cert.Reference8Ideal.τ).loc Cert.Reference8Ideal.main_arg11))).2.2.2.2.2.2.2.2.2.2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite [hPre_finite : Cert.Pre_finite.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10)) (m ((c.tc : Thread Cert.Kernel9Ideal.nD Cert.Kernel9Ideal.τ).loc Cert.Kernel9Ideal.main_arg11))).1 = (fun _ => 1#1)
    ∧ (Cert.Pre_finite.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10)) (m ((c.tc : Thread Cert.Kernel9Ideal.nD Cert.Kernel9Ideal.τ).loc Cert.Kernel9Ideal.main_arg11))).2.1 = (fun _ => 1#1)
    ∧ (Cert.Pre_finite.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10)) (m ((c.tc : Thread Cert.Kernel9Ideal.nD Cert.Kernel9Ideal.τ).loc Cert.Kernel9Ideal.main_arg11))).2.2.1 = (fun _ => 1#1)
    ∧ (Cert.Pre_finite.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10)) (m ((c.tc : Thread Cert.Kernel9Ideal.nD Cert.Kernel9Ideal.τ).loc Cert.Kernel9Ideal.main_arg11))).2.2.2.1 = (fun _ => 1#1)
    ∧ (Cert.Pre_finite.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10)) (m ((c.tc : Thread Cert.Kernel9Ideal.nD Cert.Kernel9Ideal.τ).loc Cert.Kernel9Ideal.main_arg11))).2.2.2.2.1 = (fun _ => 1#1)
    ∧ (Cert.Pre_finite.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10)) (m ((c.tc : Thread Cert.Kernel9Ideal.nD Cert.Kernel9Ideal.τ).loc Cert.Kernel9Ideal.main_arg11))).2.2.2.2.2.1 = (fun _ => 1#1)
    ∧ (Cert.Pre_finite.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10)) (m ((c.tc : Thread Cert.Kernel9Ideal.nD Cert.Kernel9Ideal.τ).loc Cert.Kernel9Ideal.main_arg11))).2.2.2.2.2.2.1 = (fun _ => 1#1)
    ∧ (Cert.Pre_finite.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10)) (m ((c.tc : Thread Cert.Kernel9Ideal.nD Cert.Kernel9Ideal.τ).loc Cert.Kernel9Ideal.main_arg11))).2.2.2.2.2.2.2.1 = (fun _ => 1#1)
    ∧ (Cert.Pre_finite.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10)) (m ((c.tc : Thread Cert.Kernel9Ideal.nD Cert.Kernel9Ideal.τ).loc Cert.Kernel9Ideal.main_arg11))).2.2.2.2.2.2.2.2.1 = (fun _ => 1#1)
    ∧ (Cert.Pre_finite.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10)) (m ((c.tc : Thread Cert.Kernel9Ideal.nD Cert.Kernel9Ideal.τ).loc Cert.Kernel9Ideal.main_arg11))).2.2.2.2.2.2.2.2.2.1 = (fun _ => 1#1)
    ∧ (Cert.Pre_finite.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10)) (m ((c.tc : Thread Cert.Kernel9Ideal.nD Cert.Kernel9Ideal.τ).loc Cert.Kernel9Ideal.main_arg11))).2.2.2.2.2.2.2.2.2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite [hPre_finite : Cert.Pre_finite.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10)) (m ((c.tc : Thread Cert.Reference9Ideal.nD Cert.Reference9Ideal.τ).loc Cert.Reference9Ideal.main_arg11))).1 = (fun _ => 1#1)
    ∧ (Cert.Pre_finite.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10)) (m ((c.tc : Thread Cert.Reference9Ideal.nD Cert.Reference9Ideal.τ).loc Cert.Reference9Ideal.main_arg11))).2.1 = (fun _ => 1#1)
    ∧ (Cert.Pre_finite.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10)) (m ((c.tc : Thread Cert.Reference9Ideal.nD Cert.Reference9Ideal.τ).loc Cert.Reference9Ideal.main_arg11))).2.2.1 = (fun _ => 1#1)
    ∧ (Cert.Pre_finite.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10)) (m ((c.tc : Thread Cert.Reference9Ideal.nD Cert.Reference9Ideal.τ).loc Cert.Reference9Ideal.main_arg11))).2.2.2.1 = (fun _ => 1#1)
    ∧ (Cert.Pre_finite.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10)) (m ((c.tc : Thread Cert.Reference9Ideal.nD Cert.Reference9Ideal.τ).loc Cert.Reference9Ideal.main_arg11))).2.2.2.2.1 = (fun _ => 1#1)
    ∧ (Cert.Pre_finite.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10)) (m ((c.tc : Thread Cert.Reference9Ideal.nD Cert.Reference9Ideal.τ).loc Cert.Reference9Ideal.main_arg11))).2.2.2.2.2.1 = (fun _ => 1#1)
    ∧ (Cert.Pre_finite.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10)) (m ((c.tc : Thread Cert.Reference9Ideal.nD Cert.Reference9Ideal.τ).loc Cert.Reference9Ideal.main_arg11))).2.2.2.2.2.2.1 = (fun _ => 1#1)
    ∧ (Cert.Pre_finite.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10)) (m ((c.tc : Thread Cert.Reference9Ideal.nD Cert.Reference9Ideal.τ).loc Cert.Reference9Ideal.main_arg11))).2.2.2.2.2.2.2.1 = (fun _ => 1#1)
    ∧ (Cert.Pre_finite.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10)) (m ((c.tc : Thread Cert.Reference9Ideal.nD Cert.Reference9Ideal.τ).loc Cert.Reference9Ideal.main_arg11))).2.2.2.2.2.2.2.2.1 = (fun _ => 1#1)
    ∧ (Cert.Pre_finite.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10)) (m ((c.tc : Thread Cert.Reference9Ideal.nD Cert.Reference9Ideal.τ).loc Cert.Reference9Ideal.main_arg11))).2.2.2.2.2.2.2.2.2.1 = (fun _ => 1#1)
    ∧ (Cert.Pre_finite.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10)) (m ((c.tc : Thread Cert.Reference9Ideal.nD Cert.Reference9Ideal.τ).loc Cert.Reference9Ideal.main_arg11))).2.2.2.2.2.2.2.2.2.2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite_heads [hPre_finite_heads : Cert.Pre_finite_heads.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite_heads.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))).1 = (fun _ => 1#1)
    ∧ (Cert.Pre_finite_heads.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))).2.1 = (fun _ => 1#1)
    ∧ (Cert.Pre_finite_heads.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))).2.2.1 = (fun _ => 1#1)
    ∧ (Cert.Pre_finite_heads.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))).2.2.2 = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite_heads [hPre_finite_heads : Cert.Pre_finite_heads.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite_heads.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))).1 = (fun _ => 1#1)
    ∧ (Cert.Pre_finite_heads.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))).2.1 = (fun _ => 1#1)
    ∧ (Cert.Pre_finite_heads.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))).2.2.1 = (fun _ => 1#1)
    ∧ (Cert.Pre_finite_heads.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_tiles_named : Cert.Pre_tiles_named.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_tiles_named : Cert.Pre_tiles_named.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] [hPre_tiles_named : Cert.Pre_tiles_named.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] [hPre_tiles_named_down : Cert.Pre_tiles_named_down.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] [hPre_tiles_named_down : Cert.Pre_tiles_named_down.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] [hPre_tiles_named_down : Cert.Pre_tiles_named_down.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] [hPre_tiles_named : Cert.Pre_tiles_named.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] [hPre_tiles_named : Cert.Pre_tiles_named.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] [hPre_tiles_named : Cert.Pre_tiles_named.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] [hPre_tiles_named_down : Cert.Pre_tiles_named_down.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] [hPre_tiles_named_down : Cert.Pre_tiles_named_down.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] [hPre_tiles_named_down : Cert.Pre_tiles_named_down.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11))
      ∧ r.2.sem = fun _ => 0)

def quiescent_Kernel8Ideal_pre_finite [hKernel8Ideal : Cert.Kernel8Ideal.Facts] [hPre_finite : Cert.Pre_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11))
      ∧ r.2.sem = fun _ => 0)

def quiescent_Reference8Ideal_pre_finite [hReference8Ideal : Cert.Reference8Ideal.Facts] [hPre_finite : Cert.Pre_finite.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10)
      ∧ r.2.mem ((c.tc : Thread Cert.Kernel9.nD Cert.Kernel9.τ).loc Cert.Kernel9.main_arg11) = m ((c.tc : Thread Cert.Kernel9.nD Cert.Kernel9.τ).loc Cert.Kernel9.main_arg11))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
      ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11))
      ∧ r.2.sem = fun _ => 0)

def quiescent_Kernel9Ideal_pre_finite [hKernel9Ideal : Cert.Kernel9Ideal.Facts] [hPre_finite : Cert.Pre_finite.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
      ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11))
      ∧ r.2.sem = fun _ => 0)

def quiescent_Reference9Ideal_pre_finite [hReference9Ideal : Cert.Reference9Ideal.Facts] [hPre_finite : Cert.Pre_finite.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Kernel10Ideal_pre_finite_heads [hKernel10Ideal : Cert.Kernel10Ideal.Facts] [hPre_finite_heads : Cert.Pre_finite_heads.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite_heads m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Reference10Ideal_pre_finite_heads [hReference10Ideal : Cert.Reference10Ideal.Facts] [hPre_finite_heads : Cert.Pre_finite_heads.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite_heads m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_tiles_named : Cert.Pre_tiles_named.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] [hPre_tiles_named_down : Cert.Pre_tiles_named_down.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] [hPre_tiles_named : Cert.Pre_tiles_named.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v35) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] [hPre_tiles_named_down : Cert.Pre_tiles_named_down.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v9) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal_pre_finite [hKernel8Ideal : Cert.Kernel8Ideal.Facts] [hReference8Ideal : Cert.Reference8Ideal.Facts] [hPre_finite : Cert.Pre_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v42) = v0 c
          ∧ r.2.mem ((c.tc : Thread Cert.Reference8Ideal.nD Cert.Reference8Ideal.τ).loc Cert.Reference8Ideal.main_v48) = v1 c
          ∧ r.2.mem ((c.tc : Thread Cert.Reference8Ideal.nD Cert.Reference8Ideal.τ).loc Cert.Reference8Ideal.main_v56) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11))

def preserves_Kernel9_Kernel9Ideal : Prop :=
  True

def algebraic_Kernel9Ideal_Reference9Ideal_pre_finite [hKernel9Ideal : Cert.Kernel9Ideal.Facts] [hReference9Ideal : Cert.Reference9Ideal.Facts] [hPre_finite : Cert.Pre_finite.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)
      ∧ m' ((c.tc : Thread Cert.Reference9Ideal.nD Cert.Reference9Ideal.τ).loc Cert.Reference9Ideal.main_arg11) = m ((c.tc : Thread Cert.Kernel9Ideal.nD Cert.Kernel9Ideal.τ).loc Cert.Kernel9Ideal.main_arg11)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
          ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v42) = v0 c
          ∧ r.2.mem ((c.tc : Thread Cert.Reference9Ideal.nD Cert.Reference9Ideal.τ).loc Cert.Reference9Ideal.main_v48) = v1 c
          ∧ r.2.mem ((c.tc : Thread Cert.Reference9Ideal.nD Cert.Reference9Ideal.τ).loc Cert.Reference9Ideal.main_v56) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10)
          ∧ r.2.mem ((c.tc : Thread Cert.Reference9Ideal.nD Cert.Reference9Ideal.τ).loc Cert.Reference9Ideal.main_arg11) = m' ((c.tc : Thread Cert.Reference9Ideal.nD Cert.Reference9Ideal.τ).loc Cert.Reference9Ideal.main_arg11))

def preserves_Kernel10_Kernel10Ideal : Prop :=
  IdealRules.named_const.Statement Cert.Kernel10Ideal.κ "mask" .f32 0xF149F2CA#32 ⊥

def algebraic_Kernel10Ideal_Reference10Ideal_pre_finite_heads [hKernel10Ideal : Cert.Kernel10Ideal.Facts] [hReference10Ideal : Cert.Reference10Ideal.Facts] [hPre_finite_heads : Cert.Pre_finite_heads.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite_heads m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v73) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_tiles_named : Cert.Pre_tiles_named.Facts) (hPre_tiles_named_down : Cert.Pre_tiles_named_down.Facts) (hPre_finite : Cert.Pre_finite.Facts) (hPre_finite_heads : Cert.Pre_finite_heads.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_tiles_named := hPre_tiles_named)
    ∧ quiescent_Kernel2Ideal (hKernel2Ideal := hKernel2Ideal) (hPre_tiles_named := hPre_tiles_named)
    ∧ quiescent_Reference2Ideal (hReference2Ideal := hReference2Ideal) (hPre_tiles_named := hPre_tiles_named)
    ∧ quiescent_Kernel3 (hKernel3 := hKernel3) (hPre_tiles_named_down := hPre_tiles_named_down)
    ∧ quiescent_Kernel3Ideal (hKernel3Ideal := hKernel3Ideal) (hPre_tiles_named_down := hPre_tiles_named_down)
    ∧ quiescent_Reference3Ideal (hReference3Ideal := hReference3Ideal) (hPre_tiles_named_down := hPre_tiles_named_down)
    ∧ quiescent_Kernel4 (hKernel4 := hKernel4) (hPre_tiles_named := hPre_tiles_named)
    ∧ quiescent_Kernel4Ideal (hKernel4Ideal := hKernel4Ideal) (hPre_tiles_named := hPre_tiles_named)
    ∧ quiescent_Reference4Ideal (hReference4Ideal := hReference4Ideal) (hPre_tiles_named := hPre_tiles_named)
    ∧ quiescent_Kernel5 (hKernel5 := hKernel5) (hPre_tiles_named_down := hPre_tiles_named_down)
    ∧ quiescent_Kernel5Ideal (hKernel5Ideal := hKernel5Ideal) (hPre_tiles_named_down := hPre_tiles_named_down)
    ∧ quiescent_Reference5Ideal (hReference5Ideal := hReference5Ideal) (hPre_tiles_named_down := hPre_tiles_named_down)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite (hKernel8Ideal := hKernel8Ideal) (hPre_finite := hPre_finite)
    ∧ quiescent_Reference8Ideal (hReference8Ideal := hReference8Ideal)
    ∧ quiescent_Reference8Ideal_pre_finite (hReference8Ideal := hReference8Ideal) (hPre_finite := hPre_finite)
    ∧ quiescent_Kernel9 (hKernel9 := hKernel9)
    ∧ quiescent_Kernel9Ideal (hKernel9Ideal := hKernel9Ideal)
    ∧ quiescent_Kernel9Ideal_pre_finite (hKernel9Ideal := hKernel9Ideal) (hPre_finite := hPre_finite)
    ∧ quiescent_Reference9Ideal (hReference9Ideal := hReference9Ideal)
    ∧ quiescent_Reference9Ideal_pre_finite (hReference9Ideal := hReference9Ideal) (hPre_finite := hPre_finite)
    ∧ quiescent_Kernel10 (hKernel10 := hKernel10)
    ∧ quiescent_Kernel10Ideal (hKernel10Ideal := hKernel10Ideal)
    ∧ quiescent_Kernel10Ideal_pre_finite_heads (hKernel10Ideal := hKernel10Ideal) (hPre_finite_heads := hPre_finite_heads)
    ∧ quiescent_Reference10Ideal (hReference10Ideal := hReference10Ideal)
    ∧ quiescent_Reference10Ideal_pre_finite_heads (hReference10Ideal := hReference10Ideal) (hPre_finite_heads := hPre_finite_heads)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_tiles_named := hPre_tiles_named)
    ∧ preserves_Kernel3_Kernel3Ideal
    ∧ algebraic_Kernel3Ideal_Reference3Ideal (hKernel3Ideal := hKernel3Ideal) (hReference3Ideal := hReference3Ideal) (hPre_tiles_named_down := hPre_tiles_named_down)
    ∧ preserves_Kernel4_Kernel4Ideal
    ∧ algebraic_Kernel4Ideal_Reference4Ideal (hKernel4Ideal := hKernel4Ideal) (hReference4Ideal := hReference4Ideal) (hPre_tiles_named := hPre_tiles_named)
    ∧ preserves_Kernel5_Kernel5Ideal
    ∧ algebraic_Kernel5Ideal_Reference5Ideal (hKernel5Ideal := hKernel5Ideal) (hReference5Ideal := hReference5Ideal) (hPre_tiles_named_down := hPre_tiles_named_down)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite (hKernel8Ideal := hKernel8Ideal) (hReference8Ideal := hReference8Ideal) (hPre_finite := hPre_finite)
    ∧ preserves_Kernel9_Kernel9Ideal
    ∧ algebraic_Kernel9Ideal_Reference9Ideal_pre_finite (hKernel9Ideal := hKernel9Ideal) (hReference9Ideal := hReference9Ideal) (hPre_finite := hPre_finite)
    ∧ preserves_Kernel10_Kernel10Ideal
    ∧ algebraic_Kernel10Ideal_Reference10Ideal_pre_finite_heads (hKernel10Ideal := hKernel10Ideal) (hReference10Ideal := hReference10Ideal) (hPre_finite_heads := hPre_finite_heads)
-- ==== Pre_finite.lean ====
abbrev S2x4096x768 : Shape := ⟨3, ![2, 4096, 768]⟩
abbrev S2x4096x640 : Shape := ⟨3, ![2, 4096, 640]⟩
abbrev S2x2048x2048 : Shape := ⟨3, ![2, 2048, 2048]⟩
abbrev S2x4096x2048 : Shape := ⟨3, ![2, 4096, 2048]⟩
abbrev S2x1x2048 : Shape := ⟨3, ![2, 1, 2048]⟩
abbrev S2x2048x32 : Shape := ⟨3, ![2, 2048, 32]⟩
abbrev S2x1x32 : Shape := ⟨3, ![2, 1, 32]⟩
abbrev S_ : Shape := ⟨0, ![]⟩

class Facts : Prop where
  bitsLt_bf16_f32 : FTy.bits .bf16 < FTy.bits .f32
  bcast_S_S2x4096x768 : S_.BroadcastsInDim S2x4096x768 (![] : Fin 0 → Fin S2x4096x768.rank)
  bcast_S_S2x4096x640 : S_.BroadcastsInDim S2x4096x640 (![] : Fin 0 → Fin S2x4096x640.rank)
  bcast_S_S2x2048x2048 : S_.BroadcastsInDim S2x2048x2048 (![] : Fin 0 → Fin S2x2048x2048.rank)
  bcast_S_S2x4096x2048 : S_.BroadcastsInDim S2x4096x2048 (![] : Fin 0 → Fin S2x4096x2048.rank)
  bcast_S_S2x1x2048 : S_.BroadcastsInDim S2x1x2048 (![] : Fin 0 → Fin S2x1x2048.rank)
  bcast_S_S2x2048x32 : S_.BroadcastsInDim S2x2048x32 (![] : Fin 0 → Fin S2x2048x32.rank)

variable [Facts]

def fn_part1 {F : FTy → Type} [FloatOps F] (main_arg5 : FVec F S2x1x2048 .f32) (main_arg6 : FVec F S2x1x2048 .f32) (main_arg7 : FVec F S2x1x2048 .f32) (main_arg8 : FVec F S2x1x2048 .f32) (main_arg9 : FVec F S2x1x2048 .f32) (main_arg10 : FVec F S2x2048x32 .f32) (main_v3 : IVec S2x4096x768 1) (main_v7 : IVec S2x4096x640 1) (main_v11 : IVec S2x4096x640 1) (main_v15 : IVec S2x2048x2048 1) (main_v18 : IVec S2x4096x2048 1) : IVec S2x4096x768 1 × IVec S2x4096x640 1 × IVec S2x4096x640 1 × IVec S2x2048x2048 1 × IVec S2x4096x2048 1 × IVec S2x1x2048 1 × IVec S2x1x2048 1 × IVec S2x1x2048 1 × IVec S2x1x2048 1 × IVec S2x1x2048 1 × IVec S2x2048x32 1 :=
  let main_v19 : FVec F S2x1x2048 .f32 := Host.absf main_arg5
  let main_cst_4 : FVec F S_ .f32 := constant S_ .f32 0x7F800000#32
  let main_v20 : FVec F S2x1x2048 .f32 := broadcastInDim S2x1x2048 ![] bcast_S_S2x1x2048 main_cst_4
  let main_v21 : IVec S2x1x2048 1 := cmpf .olt main_v19 main_v20
  let main_v22 : FVec F S2x1x2048 .f32 := Host.absf main_arg6
  let main_cst_5 : FVec F S_ .f32 := constant S_ .f32 0x7F800000#32
  let main_v23 : FVec F S2x1x2048 .f32 := broadcastInDim S2x1x2048 ![] bcast_S_S2x1x2048 main_cst_5
  let main_v24 : IVec S2x1x2048 1 := cmpf .olt main_v22 main_v23
  let main_v25 : FVec F S2x1x2048 .f32 := Host.absf main_arg7
  let main_cst_6 : FVec F S_ .f32 := constant S_ .f32 0x7F800000#32
  let main_v26 : FVec F S2x1x2048 .f32 := broadcastInDim S2x1x2048 ![] bcast_S_S2x1x2048 main_cst_6
  let main_v27 : IVec S2x1x2048 1 := cmpf .olt main_v25 main_v26
  let main_v28 : FVec F S2x1x2048 .f32 := Host.absf main_arg8
  let main_cst_7 : FVec F S_ .f32 := constant S_ .f32 0x7F800000#32
  let main_v29 : FVec F S2x1x2048 .f32 := broadcastInDim S2x1x2048 ![] bcast_S_S2x1x2048 main_cst_7
  let main_v30 : IVec S2x1x2048 1 := cmpf .olt main_v28 main_v29
  let main_v31 : FVec F S2x1x2048 .f32 := Host.absf main_arg9
  let main_cst_8 : FVec F S_ .f32 := constant S_ .f32 0x7F800000#32
  let main_v32 : FVec F S2x1x2048 .f32 := broadcastInDim S2x1x2048 ![] bcast_S_S2x1x2048 main_cst_8
  let main_v33 : IVec S2x1x2048 1 := cmpf .olt main_v31 main_v32
  let main_v34 : FVec F S2x2048x32 .f32 := Host.absf main_arg10
  let main_cst_9 : FVec F S_ .f32 := constant S_ .f32 0x7F800000#32
  let main_v35 : FVec F S2x2048x32 .f32 := broadcastInDim S2x2048x32 ![] bcast_S_S2x2048x32 main_cst_9
  let main_v36 : IVec S2x2048x32 1 := cmpf .olt main_v34 main_v35
  (main_v3, main_v7, main_v11, main_v15, main_v18, main_v21, main_v24, main_v27, main_v30, main_v33, main_v36)

def fn {F : FTy → Type} [FloatOps F] (main_arg0 : FVec F S2x4096x768 .bf16) (main_arg1 : FVec F S2x4096x640 .bf16) (main_arg2 : FVec F S2x4096x640 .bf16) (main_arg3 : FVec F S2x2048x2048 .bf16) (main_arg4 : FVec F S2x4096x2048 .f32) (main_arg5 : FVec F S2x1x2048 .f32) (main_arg6 : FVec F S2x1x2048 .f32) (main_arg7 : FVec F S2x1x2048 .f32) (main_arg8 : FVec F S2x1x2048 .f32) (main_arg9 : FVec F S2x1x2048 .f32) (main_arg10 : FVec F S2x2048x32 .f32) (main_arg11 : FVec F S2x1x32 .f32) : IVec S2x4096x768 1 × IVec S2x4096x640 1 × IVec S2x4096x640 1 × IVec S2x2048x2048 1 × IVec S2x4096x2048 1 × IVec S2x1x2048 1 × IVec S2x1x2048 1 × IVec S2x1x2048 1 × IVec S2x1x2048 1 × IVec S2x1x2048 1 × IVec S2x2048x32 1 :=
  let main_v0 : FVec F S2x4096x768 .f32 := (extf .f32 · bitsLt_bf16_f32) main_arg0
  let main_v1 : FVec F S2x4096x768 .f32 := Host.absf main_v0
  let main_cst : FVec F S_ .f32 := constant S_ .f32 0x7F800000#32
  let main_v2 : FVec F S2x4096x768 .f32 := broadcastInDim S2x4096x768 ![] bcast_S_S2x4096x768 main_cst
  let main_v3 : IVec S2x4096x768 1 := cmpf .olt main_v1 main_v2
  let main_v4 : FVec F S2x4096x640 .f32 := (extf .f32 · bitsLt_bf16_f32) main_arg1
  let main_v5 : FVec F S2x4096x640 .f32 := Host.absf main_v4
  let main_cst_0 : FVec F S_ .f32 := constant S_ .f32 0x7F800000#32
  let main_v6 : FVec F S2x4096x640 .f32 := broadcastInDim S2x4096x640 ![] bcast_S_S2x4096x640 main_cst_0
  let main_v7 : IVec S2x4096x640 1 := cmpf .olt main_v5 main_v6
  let main_v8 : FVec F S2x4096x640 .f32 := (extf .f32 · bitsLt_bf16_f32) main_arg2
  let main_v9 : FVec F S2x4096x640 .f32 := Host.absf main_v8
  let main_cst_1 : FVec F S_ .f32 := constant S_ .f32 0x7F800000#32
  let main_v10 : FVec F S2x4096x640 .f32 := broadcastInDim S2x4096x640 ![] bcast_S_S2x4096x640 main_cst_1
  let main_v11 : IVec S2x4096x640 1 := cmpf .olt main_v9 main_v10
  let main_v12 : FVec F S2x2048x2048 .f32 := (extf .f32 · bitsLt_bf16_f32) main_arg3
  let main_v13 : FVec F S2x2048x2048 .f32 := Host.absf main_v12
  let main_cst_2 : FVec F S_ .f32 := constant S_ .f32 0x7F800000#32
  let main_v14 : FVec F S2x2048x2048 .f32 := broadcastInDim S2x2048x2048 ![] bcast_S_S2x2048x2048 main_cst_2
  let main_v15 : IVec S2x2048x2048 1 := cmpf .olt main_v13 main_v14
  let main_v16 : FVec F S2x4096x2048 .f32 := Host.absf main_arg4
  let main_cst_3 : FVec F S_ .f32 := constant S_ .f32 0x7F800000#32
  let main_v17 : FVec F S2x4096x2048 .f32 := broadcastInDim S2x4096x2048 ![] bcast_S_S2x4096x2048 main_cst_3
  let main_v18 : IVec S2x4096x2048 1 := cmpf .olt main_v16 main_v17
  fn_part1 (F := F) main_arg5 main_arg6 main_arg7 main_arg8 main_arg9 main_arg10 main_v3 main_v7 main_v11 main_v15 main_v18
-- ==== Pre_finite_heads.lean ====
abbrev S2x4096x768 : Shape := ⟨3, ![2, 4096, 768]⟩
abbrev S2x4x64 : Shape := ⟨3, ![2, 4, 64]⟩
abbrev S2x1x768 : Shape := ⟨3, ![2, 1, 768]⟩
abbrev S_ : Shape := ⟨0, ![]⟩

class Facts : Prop where
  bitsLt_bf16_f32 : FTy.bits .bf16 < FTy.bits .f32
  bcast_S_S2x4096x768 : S_.BroadcastsInDim S2x4096x768 (![] : Fin 0 → Fin S2x4096x768.rank)
  bcast_S_S2x4x64 : S_.BroadcastsInDim S2x4x64 (![] : Fin 0 → Fin S2x4x64.rank)

variable [Facts]

def fn {F : FTy → Type} [FloatOps F] (main_arg0 : FVec F S2x4096x768 .bf16) (main_arg1 : FVec F S2x4096x768 .bf16) (main_arg2 : FVec F S2x4096x768 .bf16) (main_arg3 : FVec F S2x4x64 .f32) (main_arg4 : FVec F S2x1x768 .f32) : IVec S2x4096x768 1 × IVec S2x4096x768 1 × IVec S2x4096x768 1 × IVec S2x4x64 1 :=
  let main_v0 : FVec F S2x4096x768 .f32 := (extf .f32 · bitsLt_bf16_f32) main_arg0
  let main_v1 : FVec F S2x4096x768 .f32 := Host.absf main_v0
  let main_cst : FVec F S_ .f32 := constant S_ .f32 0x7F800000#32
  let main_v2 : FVec F S2x4096x768 .f32 := broadcastInDim S2x4096x768 ![] bcast_S_S2x4096x768 main_cst
  let main_v3 : IVec S2x4096x768 1 := cmpf .olt main_v1 main_v2
  let main_v4 : FVec F S2x4096x768 .f32 := (extf .f32 · bitsLt_bf16_f32) main_arg1
  let main_v5 : FVec F S2x4096x768 .f32 := Host.absf main_v4
  let main_cst_0 : FVec F S_ .f32 := constant S_ .f32 0x7F800000#32
  let main_v6 : FVec F S2x4096x768 .f32 := broadcastInDim S2x4096x768 ![] bcast_S_S2x4096x768 main_cst_0
  let main_v7 : IVec S2x4096x768 1 := cmpf .olt main_v5 main_v6
  let main_v8 : FVec F S2x4096x768 .f32 := (extf .f32 · bitsLt_bf16_f32) main_arg2
  let main_v9 : FVec F S2x4096x768 .f32 := Host.absf main_v8
  let main_cst_1 : FVec F S_ .f32 := constant S_ .f32 0x7F800000#32
  let main_v10 : FVec F S2x4096x768 .f32 := broadcastInDim S2x4096x768 ![] bcast_S_S2x4096x768 main_cst_1
  let main_v11 : IVec S2x4096x768 1 := cmpf .olt main_v9 main_v10
  let main_v12 : FVec F S2x4x64 .f32 := Host.absf main_arg3
  let main_cst_2 : FVec F S_ .f32 := constant S_ .f32 0x7F800000#32
  let main_v13 : FVec F S2x4x64 .f32 := broadcastInDim S2x4x64 ![] bcast_S_S2x4x64 main_cst_2
  let main_v14 : IVec S2x4x64 1 := cmpf .olt main_v12 main_v13
  (main_v3, main_v7, main_v11, main_v14)
-- ==== Pre_tiles_named.lean ====
abbrev S161 : Shape := ⟨1, ![161]⟩
abbrev S41216x2048 : Shape := ⟨2, ![41216, 2048]⟩
abbrev S2x32x2048x4096 : Shape := ⟨4, ![2, 32, 2048, 4096]⟩
abbrev S2x32x4096 : Shape := ⟨3, ![2, 32, 4096]⟩
abbrev S_ : Shape := ⟨0, ![]⟩

class Facts : Prop where
  bcast_S_S161 : S_.BroadcastsInDim S161 (![] : Fin 0 → Fin S161.rank)

variable [Facts]

def fn {F : FTy → Type} [FloatOps F] (main_arg0 : IVec S161 32) (main_arg1 : IVec S161 32) (main_arg2 : FVec F S41216x2048 .f32) (main_arg3 : FVec F S2x32x2048x4096 .f32) (main_arg4 : FVec F S2x32x4096 .f32) : IVec S161 1 :=
  let main_c : IVec S_ 32 := constantI S_ 32 0#32
  let main_v0 : IVec S161 32 := broadcastInDim S161 ![] bcast_S_S161 main_c
  let main_v1 : IVec S161 1 := cmpi .sge main_arg0 main_v0
  let main_c_0 : IVec S_ 32 := constantI S_ 32 31#32
  let main_v2 : IVec S161 32 := broadcastInDim S161 ![] bcast_S_S161 main_c_0
  let main_v3 : IVec S161 1 := cmpi .sle main_arg0 main_v2
  let main_v4 : IVec S161 1 := andi main_v1 main_v3
  let main_c_1 : IVec S_ 32 := constantI S_ 32 0#32
  let main_v5 : IVec S161 32 := broadcastInDim S161 ![] bcast_S_S161 main_c_1
  let main_v6 : IVec S161 1 := cmpi .sge main_arg1 main_v5
  let main_v7 : IVec S161 1 := andi main_v4 main_v6
  main_v7
-- ==== Pre_tiles_named_down.lean ====
abbrev S161 : Shape := ⟨1, ![161]⟩
abbrev S41216x2048 : Shape := ⟨2, ![41216, 2048]⟩
abbrev S2x32x2048x2048 : Shape := ⟨4, ![2, 32, 2048, 2048]⟩
abbrev S2x32x2048 : Shape := ⟨3, ![2, 32, 2048]⟩
abbrev S_ : Shape := ⟨0, ![]⟩

class Facts : Prop where
  bcast_S_S161 : S_.BroadcastsInDim S161 (![] : Fin 0 → Fin S161.rank)

variable [Facts]

def fn {F : FTy → Type} [FloatOps F] (main_arg0 : IVec S161 32) (main_arg1 : IVec S161 32) (main_arg2 : FVec F S41216x2048 .bf16) (main_arg3 : FVec F S2x32x2048x2048 .f32) (main_arg4 : FVec F S2x32x2048 .f32) : IVec S161 1 :=
  let main_c : IVec S_ 32 := constantI S_ 32 0#32
  let main_v0 : IVec S161 32 := broadcastInDim S161 ![] bcast_S_S161 main_c
  let main_v1 : IVec S161 1 := cmpi .sge main_arg0 main_v0
  let main_c_0 : IVec S_ 32 := constantI S_ 32 31#32
  let main_v2 : IVec S161 32 := broadcastInDim S161 ![] bcast_S_S161 main_c_0
  let main_v3 : IVec S161 1 := cmpi .sle main_arg0 main_v2
  let main_v4 : IVec S161 1 := andi main_v1 main_v3
  let main_c_1 : IVec S_ 32 := constantI S_ 32 0#32
  let main_v5 : IVec S161 32 := broadcastInDim S161 ![] bcast_S_S161 main_c_1
  let main_v6 : IVec S161 1 := cmpi .sge main_arg1 main_v5
  let main_v7 : IVec S161 1 := andi main_v4 main_v6
  main_v7
-- ==== Kernel.lean ====
abbrev S2x4096x640 : Shape := ⟨3, ![2, 4096, 640]⟩
abbrev S1x512x640 : Shape := ⟨3, ![1, 512, 640]⟩
abbrev S1x4096x640 : Shape := ⟨3, ![1, 4096, 640]⟩
abbrev S512x1 : Shape := ⟨2, ![512, 1]⟩
abbrev S128x128 : Shape := ⟨2, ![128, 128]⟩
abbrev S512x128 : Shape := ⟨2, ![512, 128]⟩
abbrev S1x128 : Shape := ⟨2, ![1, 128]⟩
abbrev S1x512x128 : Shape := ⟨3, ![1, 512, 128]⟩
abbrev S1x128x128 : Shape := ⟨3, ![1, 128, 128]⟩
abbrev S1024x128 : Shape := ⟨2, ![1024, 128]⟩
abbrev S512 : Shape := ⟨1, ![512]⟩

abbrev nBuf : Space → Nat
  | .hbm => 4
  | .vmem => 6
  | .smem => 0
  | _ => 0

abbrev bufTy : (tb : Table) → Fin (tcTables nBuf tb) → BufTy
  | .hbm, ⟨0, _⟩ => ⟨S2x4096x640, .bf16⟩
  | .hbm, ⟨1, _⟩ => ⟨S2x4096x640, .bf16⟩
  | .hbm, ⟨2, _⟩ => ⟨S2x4096x640, .bf16⟩
  | .hbm, ⟨3, _⟩ => ⟨S2x4096x640, .bf16⟩
  | .local _ .vmem, ⟨0, _⟩ => ⟨S1x512x640, .bf16⟩
  | .local _ .vmem, ⟨1, _⟩ => ⟨S1x512x640, .bf16⟩
  | .local _ .vmem, ⟨2, _⟩ => ⟨S1x4096x640, .bf16⟩
  | .local _ .vmem, ⟨3, _⟩ => ⟨S1x4096x640, .bf16⟩
  | .local _ .vmem, ⟨4, _⟩ => ⟨S1x512x640, .bf16⟩
  | .local _ .vmem, ⟨5, _⟩ => ⟨S1x512x640, .bf16⟩
  | _, _ => ⟨S2x4096x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 8], ![false, false]⟩

@[reducible] def k0_t1_loop (i : grid0.Coords) : Scf.Loop 32 :=
  let c0_i32_15 : BitVec 32 := 0#32
  let arg1 : BitVec 32 := BitVec.ofNat 32 (i 1).val
  let c1_i32 : BitVec 32 := 1#32
  let v0 : BitVec 32 := Scalar.addi arg1 c1_i32
  let c512_i32 : BitVec 32 := 512#32
  let v1 : BitVec 32 := Scalar.muli v0 c512_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32_4 : BitVec 32 := 1#32
  let v17 : BitVec 32 := Scalar.subi v2 c1_i32_4
  let v18 : BitVec 32 := Scalar.select v16 v17 v2
  let c0_i32_9 : BitVec 32 := 0#32
  let v33 : BitVec 1 := Scalar.cmpi .sgt v18 c0_i32_9
  let v34 : BitVec 32 := Scalar.extui v33
  let c0_i32_10 : BitVec 32 := 0#32
  let v35 : BitVec 1 := Scalar.cmpi .slt v18 c0_i32_10
  let v36 : BitVec 32 := Scalar.extui v35
  let v37 : BitVec 32 := Scalar.subi v34 v36
  let c4_i32 : BitVec 32 := 4#32
  let c0_i32_11 : BitVec 32 := 0#32
  let v38 : BitVec 1 := Scalar.cmpi .sgt c4_i32 c0_i32_11
  let v39 : BitVec 32 := Scalar.extui v38
  let c0_i32_12 : BitVec 32 := 0#32
  let v40 : BitVec 1 := Scalar.cmpi .slt c4_i32 c0_i32_12
  let v41 : BitVec 32 := Scalar.extui v40
  let v42 : BitVec 32 := Scalar.subi v39 v41
  let v43 : BitVec 1 := Scalar.cmpi .ne v37 v42
  let v44 : BitVec 32 := Scalar.remsi v18 c4_i32
  let c0_i32_13 : BitVec 32 := 0#32
  let v45 : BitVec 1 := Scalar.cmpi .ne v44 c0_i32_13
  let v46 : BitVec 1 := Scalar.andi v43 v45
  let v32 : BitVec 32 := Scalar.divsi v18 c4_i32
  let c1_i32_14 : BitVec 32 := 1#32
  let v47 : BitVec 32 := Scalar.subi v32 c1_i32_14
  let v48 : BitVec 32 := Scalar.select v46 v47 v32
  let v49 : BitVec 32 := Scalar.subi v48 c0_i32_15
  let c1_i32_16 : BitVec 32 := 1#32
  let v51 : BitVec 32 := Scalar.divsi v49 c1_i32_16
  let v52 : BitVec 32 := Scalar.muli v51 c1_i32_16
  let v53 : BitVec 32 := Scalar.addi c0_i32_15 v52
  let c1_i32_17 : BitVec 32 := 1#32
  ⟨c0_i32_15, v53, c1_i32_17⟩
def k0_mult1 (i : grid0.Coords) (k0_t1 : Fin (k0_t1_loop i).trips) : BitVec 32 :=
  let arg1 : BitVec 32 := BitVec.ofNat 32 (i 1).val
  let c1_i32 : BitVec 32 := 1#32
  let v0 : BitVec 32 := Scalar.addi arg1 c1_i32
  let c512_i32 : BitVec 32 := 512#32
  let v1 : BitVec 32 := Scalar.muli v0 c512_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32_4 : BitVec 32 := 1#32
  let v17 : BitVec 32 := Scalar.subi v2 c1_i32_4
  let v18 : BitVec 32 := Scalar.select v16 v17 v2
  let c1_i32_29 : BitVec 32 := 1#32
  let v76 : BitVec 32 := Scalar.subi v18 c1_i32_29
  let c4_i32_30 : BitVec 32 := 4#32
  let c0_i32_15 : BitVec 32 := 0#32
  let c1_i32_17 : BitVec 32 := 1#32
  let arg6 : BitVec 32 := Scf.iv c0_i32_15 c1_i32_17 k0_t1
  let v77 : BitVec 32 := Scalar.muli c4_i32_30 arg6
  let v78 : BitVec 32 := Scalar.subi v76 v77
  let c0_i32_31 : BitVec 32 := 0#32
  let v79 : BitVec 32 := Scalar.subi v78 c0_i32_31
  let c128_i32_32 : BitVec 32 := 128#32
  let v80 : BitVec 32 := Scalar.muli v79 c128_i32_32
  v80
def k0_off1 (i : grid0.Coords) (k0_t1 : Fin (k0_t1_loop i).trips) (c0_i32_31 : BitVec 32) : Fin 3 → Nat :=
  let c0_36 : Index := 0#32
  let arg1 : BitVec 32 := BitVec.ofNat 32 (i 1).val
  let c1_i32 : BitVec 32 := 1#32
  let v0 : BitVec 32 := Scalar.addi arg1 c1_i32
  let c512_i32 : BitVec 32 := 512#32
  let v1 : BitVec 32 := Scalar.muli v0 c512_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32_4 : BitVec 32 := 1#32
  let v17 : BitVec 32 := Scalar.subi v2 c1_i32_4
  let v18 : BitVec 32 := Scalar.select v16 v17 v2
  let c1_i32_29 : BitVec 32 := 1#32
  let v76 : BitVec 32 := Scalar.subi v18 c1_i32_29
  let c4_i32_30 : BitVec 32 := 4#32
  let c0_i32_15 : BitVec 32 := 0#32
  let c1_i32_17 : BitVec 32 := 1#32
  let arg6 : BitVec 32 := Scf.iv c0_i32_15 c1_i32_17 k0_t1
  let v77 : BitVec 32 := Scalar.muli c4_i32_30 arg6
  let v78 : BitVec 32 := Scalar.subi v76 v77
  let v79 : BitVec 32 := Scalar.subi v78 c0_i32_31
  let c128_i32_32 : BitVec 32 := 128#32
  let v80 : BitVec 32 := Scalar.muli v79 c128_i32_32
  let v81 : BitVec 32 := v80
  let v90 : Index := Scalar.indexCast v81
  let c0_37 : Index := 0#32
  ![0, v90.toNat, 0]
def k0_off2 (i : grid0.Coords) (k0_t1 : Fin (k0_t1_loop i).trips) (c0_i32_31 : BitVec 32) : Fin 3 → Nat :=
  let c0_54 : Index := 0#32
  let arg1 : BitVec 32 := BitVec.ofNat 32 (i 1).val
  let c1_i32 : BitVec 32 := 1#32
  let v0 : BitVec 32 := Scalar.addi arg1 c1_i32
  let c512_i32 : BitVec 32 := 512#32
  let v1 : BitVec 32 := Scalar.muli v0 c512_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32_4 : BitVec 32 := 1#32
  let v17 : BitVec 32 := Scalar.subi v2 c1_i32_4
  let v18 : BitVec 32 := Scalar.select v16 v17 v2
  let c1_i32_29 : BitVec 32 := 1#32
  let v76 : BitVec 32 := Scalar.subi v18 c1_i32_29
  let c4_i32_30 : BitVec 32 := 4#32
  let c0_i32_15 : BitVec 32 := 0#32
  let c1_i32_17 : BitVec 32 := 1#32
  let arg6 : BitVec 32 := Scf.iv c0_i32_15 c1_i32_17 k0_t1
  let v77 : BitVec 32 := Scalar.muli c4_i32_30 arg6
  let v78 : BitVec 32 := Scalar.subi v76 v77
  let v79 : BitVec 32 := Scalar.subi v78 c0_i32_31
  let c128_i32_32 : BitVec 32 := 128#32
  let v80 : BitVec 32 := Scalar.muli v79 c128_i32_32
  let v81 : BitVec 32 := v80
  let v137 : Index := Scalar.indexCast v81
  let c128_55 : Index := 128#32
  ![0, v137.toNat, 128]
def k0_off3 (i : grid0.Coords) (k0_t1 : Fin (k0_t1_loop i).trips) (c0_i32_31 : BitVec 32) : Fin 3 → Nat :=
  let c0_72 : Index := 0#32
  let arg1 : BitVec 32 := BitVec.ofNat 32 (i 1).val
  let c1_i32 : BitVec 32 := 1#32
  let v0 : BitVec 32 := Scalar.addi arg1 c1_i32
  let c512_i32 : BitVec 32 := 512#32
  let v1 : BitVec 32 := Scalar.muli v0 c512_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32_4 : BitVec 32 := 1#32
  let v17 : BitVec 32 := Scalar.subi v2 c1_i32_4
  let v18 : BitVec 32 := Scalar.select v16 v17 v2
  let c1_i32_29 : BitVec 32 := 1#32
  let v76 : BitVec 32 := Scalar.subi v18 c1_i32_29
  let c4_i32_30 : BitVec 32 := 4#32
  let c0_i32_15 : BitVec 32 := 0#32
  let c1_i32_17 : BitVec 32 := 1#32
  let arg6 : BitVec 32 := Scf.iv c0_i32_15 c1_i32_17 k0_t1
  let v77 : BitVec 32 := Scalar.muli c4_i32_30 arg6
  let v78 : BitVec 32 := Scalar.subi v76 v77
  let v79 : BitVec 32 := Scalar.subi v78 c0_i32_31
  let c128_i32_32 : BitVec 32 := 128#32
  let v80 : BitVec 32 := Scalar.muli v79 c128_i32_32
  let v81 : BitVec 32 := v80
  let v184 : Index := Scalar.indexCast v81
  let c256_73 : Index := 256#32
  ![0, v184.toNat, 256]
def k0_off4 (i : grid0.Coords) (k0_t1 : Fin (k0_t1_loop i).trips) (c0_i32_31 : BitVec 32) : Fin 3 → Nat :=
  let c0_90 : Index := 0#32
  let arg1 : BitVec 32 := BitVec.ofNat 32 (i 1).val
  let c1_i32 : BitVec 32 := 1#32
  let v0 : BitVec 32 := Scalar.addi arg1 c1_i32
  let c512_i32 : BitVec 32 := 512#32
  let v1 : BitVec 32 := Scalar.muli v0 c512_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32_4 : BitVec 32 := 1#32
  let v17 : BitVec 32 := Scalar.subi v2 c1_i32_4
  let v18 : BitVec 32 := Scalar.select v16 v17 v2
  let c1_i32_29 : BitVec 32 := 1#32
  let v76 : BitVec 32 := Scalar.subi v18 c1_i32_29
  let c4_i32_30 : BitVec 32 := 4#32
  let c0_i32_15 : BitVec 32 := 0#32
  let c1_i32_17 : BitVec 32 := 1#32
  let arg6 : BitVec 32 := Scf.iv c0_i32_15 c1_i32_17 k0_t1
  let v77 : BitVec 32 := Scalar.muli c4_i32_30 arg6
  let v78 : BitVec 32 := Scalar.subi v76 v77
  let v79 : BitVec 32 := Scalar.subi v78 c0_i32_31
  let c128_i32_32 : BitVec 32 := 128#32
  let v80 : BitVec 32 := Scalar.muli v79 c128_i32_32
  let v81 : BitVec 32 := v80
  let v231 : Index := Scalar.indexCast v81
  let c384_91 : Index := 384#32
  ![0, v231.toNat, 384]
def k0_off5 (i : grid0.Coords) (k0_t1 : Fin (k0_t1_loop i).trips) (c0_i32_31 : BitVec 32) : Fin 3 → Nat :=
  let c0_108 : Index := 0#32
  let arg1 : BitVec 32 := BitVec.ofNat 32 (i 1).val
  let c1_i32 : BitVec 32 := 1#32
  let v0 : BitVec 32 := Scalar.addi arg1 c1_i32
  let c512_i32 : BitVec 32 := 512#32
  let v1 : BitVec 32 := Scalar.muli v0 c512_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32_4 : BitVec 32 := 1#32
  let v17 : BitVec 32 := Scalar.subi v2 c1_i32_4
  let v18 : BitVec 32 := Scalar.select v16 v17 v2
  let c1_i32_29 : BitVec 32 := 1#32
  let v76 : BitVec 32 := Scalar.subi v18 c1_i32_29
  let c4_i32_30 : BitVec 32 := 4#32
  let c0_i32_15 : BitVec 32 := 0#32
  let c1_i32_17 : BitVec 32 := 1#32
  let arg6 : BitVec 32 := Scf.iv c0_i32_15 c1_i32_17 k0_t1
  let v77 : BitVec 32 := Scalar.muli c4_i32_30 arg6
  let v78 : BitVec 32 := Scalar.subi v76 v77
  let v79 : BitVec 32 := Scalar.subi v78 c0_i32_31
  let c128_i32_32 : BitVec 32 := 128#32
  let v80 : BitVec 32 := Scalar.muli v79 c128_i32_32
  let v81 : BitVec 32 := v80
  let v278 : Index := Scalar.indexCast v81
  let c512_109 : Index := 512#32
  ![0, v278.toNat, 512]
def k0_mult2 (i : grid0.Coords) (k0_t1 : Fin (k0_t1_loop i).trips) : BitVec 32 :=
  let arg1 : BitVec 32 := BitVec.ofNat 32 (i 1).val
  let c1_i32 : BitVec 32 := 1#32
  let v0 : BitVec 32 := Scalar.addi arg1 c1_i32
  let c512_i32 : BitVec 32 := 512#32
  let v1 : BitVec 32 := Scalar.muli v0 c512_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32_4 : BitVec 32 := 1#32
  let v17 : BitVec 32 := Scalar.subi v2 c1_i32_4
  let v18 : BitVec 32 := Scalar.select v16 v17 v2
  let c1_i32_123 : BitVec 32 := 1#32
  let v323 : BitVec 32 := Scalar.subi v18 c1_i32_123
  let c4_i32_124 : BitVec 32 := 4#32
  let c0_i32_15 : BitVec 32 := 0#32
  let c1_i32_17 : BitVec 32 := 1#32
  let arg6 : BitVec 32 := Scf.iv c0_i32_15 c1_i32_17 k0_t1
  let v324 : BitVec 32 := Scalar.muli c4_i32_124 arg6
  let v325 : BitVec 32 := Scalar.subi v323 v324
  let c1_i32_125 : BitVec 32 := 1#32
  let v326 : BitVec 32 := Scalar.subi v325 c1_i32_125
  let c128_i32_126 : BitVec 32 := 128#32
  let v327 : BitVec 32 := Scalar.muli v326 c128_i32_126
  v327
def k0_mult3 (i : grid0.Coords) (k0_t1 : Fin (k0_t1_loop i).trips) : BitVec 32 :=
  let arg1 : BitVec 32 := BitVec.ofNat 32 (i 1).val
  let c1_i32 : BitVec 32 := 1#32
  let v0 : BitVec 32 := Scalar.addi arg1 c1_i32
  let c512_i32 : BitVec 32 := 512#32
  let v1 : BitVec 32 := Scalar.muli v0 c512_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32_4 : BitVec 32 := 1#32
  let v17 : BitVec 32 := Scalar.subi v2 c1_i32_4
  let v18 : BitVec 32 := Scalar.select v16 v17 v2
  let c1_i32_217 : BitVec 32 := 1#32
  let v570 : BitVec 32 := Scalar.subi v18 c1_i32_217
  let c4_i32_218 : BitVec 32 := 4#32
  let c0_i32_15 : BitVec 32 := 0#32
  let c1_i32_17 : BitVec 32 := 1#32
  let arg6 : BitVec 32 := Scf.iv c0_i32_15 c1_i32_17 k0_t1
  let v571 : BitVec 32 := Scalar.muli c4_i32_218 arg6
  let v572 : BitVec 32 := Scalar.subi v570 v571
  let c2_i32 : BitVec 32 := 2#32
  let v573 : BitVec 32 := Scalar.subi v572 c2_i32
  let c128_i32_219 : BitVec 32 := 128#32
  let v574 : BitVec 32 := Scalar.muli v573 c128_i32_219
  v574
def k0_mult4 (i : grid0.Coords) (k0_t1 : Fin (k0_t1_loop i).trips) : BitVec 32 :=
  let arg1 : BitVec 32 := BitVec.ofNat 32 (i 1).val
  let c1_i32 : BitVec 32 := 1#32
  let v0 : BitVec 32 := Scalar.addi arg1 c1_i32
  let c512_i32 : BitVec 32 := 512#32
  let v1 : BitVec 32 := Scalar.muli v0 c512_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32_4 : BitVec 32 := 1#32
  let v17 : BitVec 32 := Scalar.subi v2 c1_i32_4
  let v18 : BitVec 32 := Scalar.select v16 v17 v2
  let c1_i32_310 : BitVec 32 := 1#32
  let v817 : BitVec 32 := Scalar.subi v18 c1_i32_310
  let c4_i32_311 : BitVec 32 := 4#32
  let c0_i32_15 : BitVec 32 := 0#32
  let c1_i32_17 : BitVec 32 := 1#32
  let arg6 : BitVec 32 := Scf.iv c0_i32_15 c1_i32_17 k0_t1
  let v818 : BitVec 32 := Scalar.muli c4_i32_311 arg6
  let v819 : BitVec 32 := Scalar.subi v817 v818
  let c3_i32 : BitVec 32 := 3#32
  let v820 : BitVec 32 := Scalar.subi v819 c3_i32
  let c128_i32_312 : BitVec 32 := 128#32
  let v821 : BitVec 32 := Scalar.muli v820 c128_i32_312
  v821
@[reducible] def k0_t2_loop (i : grid0.Coords) : Scf.Loop 32 :=
  let c0_i32_15 : BitVec 32 := 0#32
  let arg1 : BitVec 32 := BitVec.ofNat 32 (i 1).val
  let c1_i32 : BitVec 32 := 1#32
  let v0 : BitVec 32 := Scalar.addi arg1 c1_i32
  let c512_i32 : BitVec 32 := 512#32
  let v1 : BitVec 32 := Scalar.muli v0 c512_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32_4 : BitVec 32 := 1#32
  let v17 : BitVec 32 := Scalar.subi v2 c1_i32_4
  let v18 : BitVec 32 := Scalar.select v16 v17 v2
  let c0_i32_9 : BitVec 32 := 0#32
  let v33 : BitVec 1 := Scalar.cmpi .sgt v18 c0_i32_9
  let v34 : BitVec 32 := Scalar.extui v33
  let c0_i32_10 : BitVec 32 := 0#32
  let v35 : BitVec 1 := Scalar.cmpi .slt v18 c0_i32_10
  let v36 : BitVec 32 := Scalar.extui v35
  let v37 : BitVec 32 := Scalar.subi v34 v36
  let c4_i32 : BitVec 32 := 4#32
  let c0_i32_11 : BitVec 32 := 0#32
  let v38 : BitVec 1 := Scalar.cmpi .sgt c4_i32 c0_i32_11
  let v39 : BitVec 32 := Scalar.extui v38
  let c0_i32_12 : BitVec 32 := 0#32
  let v40 : BitVec 1 := Scalar.cmpi .slt c4_i32 c0_i32_12
  let v41 : BitVec 32 := Scalar.extui v40
  let v42 : BitVec 32 := Scalar.subi v39 v41
  let v43 : BitVec 1 := Scalar.cmpi .ne v37 v42
  let v44 : BitVec 32 := Scalar.remsi v18 c4_i32
  let c0_i32_13 : BitVec 32 := 0#32
  let v45 : BitVec 1 := Scalar.cmpi .ne v44 c0_i32_13
  let v46 : BitVec 1 := Scalar.andi v43 v45
  let v32 : BitVec 32 := Scalar.divsi v18 c4_i32
  let c1_i32_14 : BitVec 32 := 1#32
  let v47 : BitVec 32 := Scalar.subi v32 c1_i32_14
  let v48 : BitVec 32 := Scalar.select v46 v47 v32
  let v49 : BitVec 32 := Scalar.subi v48 c0_i32_15
  let c1_i32_16 : BitVec 32 := 1#32
  let v51 : BitVec 32 := Scalar.divsi v49 c1_i32_16
  let v52 : BitVec 32 := Scalar.muli v51 c1_i32_16
  let v53 : BitVec 32 := Scalar.addi c0_i32_15 v52
  let v50 : BitVec 32 := Scalar.addi c0_i32_15 v49
  let c1_i32_18 : BitVec 32 := 1#32
  ⟨v53, v50, c1_i32_18⟩
def k0_mult5 (i : grid0.Coords) (k0_t2 : Fin (k0_t2_loop i).trips) : BitVec 32 :=
  let arg1 : BitVec 32 := BitVec.ofNat 32 (i 1).val
  let c1_i32 : BitVec 32 := 1#32
  let v0 : BitVec 32 := Scalar.addi arg1 c1_i32
  let c512_i32 : BitVec 32 := 512#32
  let v1 : BitVec 32 := Scalar.muli v0 c512_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32_4 : BitVec 32 := 1#32
  let v17 : BitVec 32 := Scalar.subi v2 c1_i32_4
  let v18 : BitVec 32 := Scalar.select v16 v17 v2
  let c1_i32_29 : BitVec 32 := 1#32
  let v76 : BitVec 32 := Scalar.subi v18 c1_i32_29
  let c4_i32_30 : BitVec 32 := 4#32
  let c0_i32_15 : BitVec 32 := 0#32
  let c0_i32_9 : BitVec 32 := 0#32
  let v33 : BitVec 1 := Scalar.cmpi .sgt v18 c0_i32_9
  let v34 : BitVec 32 := Scalar.extui v33
  let c0_i32_10 : BitVec 32 := 0#32
  let v35 : BitVec 1 := Scalar.cmpi .slt v18 c0_i32_10
  let v36 : BitVec 32 := Scalar.extui v35
  let v37 : BitVec 32 := Scalar.subi v34 v36
  let c4_i32 : BitVec 32 := 4#32
  let c0_i32_11 : BitVec 32 := 0#32
  let v38 : BitVec 1 := Scalar.cmpi .sgt c4_i32 c0_i32_11
  let v39 : BitVec 32 := Scalar.extui v38
  let c0_i32_12 : BitVec 32 := 0#32
  let v40 : BitVec 1 := Scalar.cmpi .slt c4_i32 c0_i32_12
  let v41 : BitVec 32 := Scalar.extui v40
  let v42 : BitVec 32 := Scalar.subi v39 v41
  let v43 : BitVec 1 := Scalar.cmpi .ne v37 v42
  let v44 : BitVec 32 := Scalar.remsi v18 c4_i32
  let c0_i32_13 : BitVec 32 := 0#32
  let v45 : BitVec 1 := Scalar.cmpi .ne v44 c0_i32_13
  let v46 : BitVec 1 := Scalar.andi v43 v45
  let v32 : BitVec 32 := Scalar.divsi v18 c4_i32
  let c1_i32_14 : BitVec 32 := 1#32
  let v47 : BitVec 32 := Scalar.subi v32 c1_i32_14
  let v48 : BitVec 32 := Scalar.select v46 v47 v32
  let v49 : BitVec 32 := Scalar.subi v48 c0_i32_15
  let c1_i32_16 : BitVec 32 := 1#32
  let v51 : BitVec 32 := Scalar.divsi v49 c1_i32_16
  let v52 : BitVec 32 := Scalar.muli v51 c1_i32_16
  let v53 : BitVec 32 := Scalar.addi c0_i32_15 v52
  let c1_i32_18 : BitVec 32 := 1#32
  let arg6 : BitVec 32 := Scf.iv v53 c1_i32_18 k0_t2
  let v77 : BitVec 32 := Scalar.muli c4_i32_30 arg6
  let v78 : BitVec 32 := Scalar.subi v76 v77
  let c0_i32_31 : BitVec 32 := 0#32
  let v79 : BitVec 32 := Scalar.subi v78 c0_i32_31
  let c128_i32_32 : BitVec 32 := 128#32
  let v80 : BitVec 32 := Scalar.muli v79 c128_i32_32
  v80
def k0_off6 (i : grid0.Coords) (k0_t2 : Fin (k0_t2_loop i).trips) (c0_i32_31 : BitVec 32) : Fin 3 → Nat :=
  let c0_36 : Index := 0#32
  let arg1 : BitVec 32 := BitVec.ofNat 32 (i 1).val
  let c1_i32 : BitVec 32 := 1#32
  let v0 : BitVec 32 := Scalar.addi arg1 c1_i32
  let c512_i32 : BitVec 32 := 512#32
  let v1 : BitVec 32 := Scalar.muli v0 c512_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32_4 : BitVec 32 := 1#32
  let v17 : BitVec 32 := Scalar.subi v2 c1_i32_4
  let v18 : BitVec 32 := Scalar.select v16 v17 v2
  let c1_i32_29 : BitVec 32 := 1#32
  let v76 : BitVec 32 := Scalar.subi v18 c1_i32_29
  let c4_i32_30 : BitVec 32 := 4#32
  let c0_i32_15 : BitVec 32 := 0#32
  let c0_i32_9 : BitVec 32 := 0#32
  let v33 : BitVec 1 := Scalar.cmpi .sgt v18 c0_i32_9
  let v34 : BitVec 32 := Scalar.extui v33
  let c0_i32_10 : BitVec 32 := 0#32
  let v35 : BitVec 1 := Scalar.cmpi .slt v18 c0_i32_10
  let v36 : BitVec 32 := Scalar.extui v35
  let v37 : BitVec 32 := Scalar.subi v34 v36
  let c4_i32 : BitVec 32 := 4#32
  let c0_i32_11 : BitVec 32 := 0#32
  let v38 : BitVec 1 := Scalar.cmpi .sgt c4_i32 c0_i32_11
  let v39 : BitVec 32 := Scalar.extui v38
  let c0_i32_12 : BitVec 32 := 0#32
  let v40 : BitVec 1 := Scalar.cmpi .slt c4_i32 c0_i32_12
  let v41 : BitVec 32 := Scalar.extui v40
  let v42 : BitVec 32 := Scalar.subi v39 v41
  let v43 : BitVec 1 := Scalar.cmpi .ne v37 v42
  let v44 : BitVec 32 := Scalar.remsi v18 c4_i32
  let c0_i32_13 : BitVec 32 := 0#32
  let v45 : BitVec 1 := Scalar.cmpi .ne v44 c0_i32_13
  let v46 : BitVec 1 := Scalar.andi v43 v45
  let v32 : BitVec 32 := Scalar.divsi v18 c4_i32
  let c1_i32_14 : BitVec 32 := 1#32
  let v47 : BitVec 32 := Scalar.subi v32 c1_i32_14
  let v48 : BitVec 32 := Scalar.select v46 v47 v32
  let v49 : BitVec 32 := Scalar.subi v48 c0_i32_15
  let c1_i32_16 : BitVec 32 := 1#32
  let v51 : BitVec 32 := Scalar.divsi v49 c1_i32_16
  let v52 : BitVec 32 := Scalar.muli v51 c1_i32_16
  let v53 : BitVec 32 := Scalar.addi c0_i32_15 v52
  let c1_i32_18 : BitVec 32 := 1#32
  let arg6 : BitVec 32 := Scf.iv v53 c1_i32_18 k0_t2
  let v77 : BitVec 32 := Scalar.muli c4_i32_30 arg6
  let v78 : BitVec 32 := Scalar.subi v76 v77
  let v79 : BitVec 32 := Scalar.subi v78 c0_i32_31
  let c128_i32_32 : BitVec 32 := 128#32
  let v80 : BitVec 32 := Scalar.muli v79 c128_i32_32
  let v81 : BitVec 32 := v80
  let v90 : Index := Scalar.indexCast v81
  let c0_37 : Index := 0#32
  ![0, v90.toNat, 0]
def k0_off7 (i : grid0.Coords) (k0_t2 : Fin (k0_t2_loop i).trips) (c0_i32_31 : BitVec 32) : Fin 3 → Nat :=
  let c0_54 : Index := 0#32
  let arg1 : BitVec 32 := BitVec.ofNat 32 (i 1).val
  let c1_i32 : BitVec 32 := 1#32
  let v0 : BitVec 32 := Scalar.addi arg1 c1_i32
  let c512_i32 : BitVec 32 := 512#32
  let v1 : BitVec 32 := Scalar.muli v0 c512_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32_4 : BitVec 32 := 1#32
  let v17 : BitVec 32 := Scalar.subi v2 c1_i32_4
  let v18 : BitVec 32 := Scalar.select v16 v17 v2
  let c1_i32_29 : BitVec 32 := 1#32
  let v76 : BitVec 32 := Scalar.subi v18 c1_i32_29
  let c4_i32_30 : BitVec 32 := 4#32
  let c0_i32_15 : BitVec 32 := 0#32
  let c0_i32_9 : BitVec 32 := 0#32
  let v33 : BitVec 1 := Scalar.cmpi .sgt v18 c0_i32_9
  let v34 : BitVec 32 := Scalar.extui v33
  let c0_i32_10 : BitVec 32 := 0#32
  let v35 : BitVec 1 := Scalar.cmpi .slt v18 c0_i32_10
  let v36 : BitVec 32 := Scalar.extui v35
  let v37 : BitVec 32 := Scalar.subi v34 v36
  let c4_i32 : BitVec 32 := 4#32
  let c0_i32_11 : BitVec 32 := 0#32
  let v38 : BitVec 1 := Scalar.cmpi .sgt c4_i32 c0_i32_11
  let v39 : BitVec 32 := Scalar.extui v38
  let c0_i32_12 : BitVec 32 := 0#32
  let v40 : BitVec 1 := Scalar.cmpi .slt c4_i32 c0_i32_12
  let v41 : BitVec 32 := Scalar.extui v40
  let v42 : BitVec 32 := Scalar.subi v39 v41
  let v43 : BitVec 1 := Scalar.cmpi .ne v37 v42
  let v44 : BitVec 32 := Scalar.remsi v18 c4_i32
  let c0_i32_13 : BitVec 32 := 0#32
  let v45 : BitVec 1 := Scalar.cmpi .ne v44 c0_i32_13
  let v46 : BitVec 1 := Scalar.andi v43 v45
  let v32 : BitVec 32 := Scalar.divsi v18 c4_i32
  let c1_i32_14 : BitVec 32 := 1#32
  let v47 : BitVec 32 := Scalar.subi v32 c1_i32_14
  let v48 : BitVec 32 := Scalar.select v46 v47 v32
  let v49 : BitVec 32 := Scalar.subi v48 c0_i32_15
  let c1_i32_16 : BitVec 32 := 1#32
  let v51 : BitVec 32 := Scalar.divsi v49 c1_i32_16
  let v52 : BitVec 32 := Scalar.muli v51 c1_i32_16
  let v53 : BitVec 32 := Scalar.addi c0_i32_15 v52
  let c1_i32_18 : BitVec 32 := 1#32
  let arg6 : BitVec 32 := Scf.iv v53 c1_i32_18 k0_t2
  let v77 : BitVec 32 := Scalar.muli c4_i32_30 arg6
  let v78 : BitVec 32 := Scalar.subi v76 v77
  let v79 : BitVec 32 := Scalar.subi v78 c0_i32_31
  let c128_i32_32 : BitVec 32 := 128#32
  let v80 : BitVec 32 := Scalar.muli v79 c128_i32_32
  let v81 : BitVec 32 := v80
  let v137 : Index := Scalar.indexCast v81
  let c128_55 : Index := 128#32
  ![0, v137.toNat, 128]
def k0_off8 (i : grid0.Coords) (k0_t2 : Fin (k0_t2_loop i).trips) (c0_i32_31 : BitVec 32) : Fin 3 → Nat :=
  let c0_72 : Index := 0#32
  let arg1 : BitVec 32 := BitVec.ofNat 32 (i 1).val
  let c1_i32 : BitVec 32 := 1#32
  let v0 : BitVec 32 := Scalar.addi arg1 c1_i32
  let c512_i32 : BitVec 32 := 512#32
  let v1 : BitVec 32 := Scalar.muli v0 c512_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32_4 : BitVec 32 := 1#32
  let v17 : BitVec 32 := Scalar.subi v2 c1_i32_4
  let v18 : BitVec 32 := Scalar.select v16 v17 v2
  let c1_i32_29 : BitVec 32 := 1#32
  let v76 : BitVec 32 := Scalar.subi v18 c1_i32_29
  let c4_i32_30 : BitVec 32 := 4#32
  let c0_i32_15 : BitVec 32 := 0#32
  let c0_i32_9 : BitVec 32 := 0#32
  let v33 : BitVec 1 := Scalar.cmpi .sgt v18 c0_i32_9
  let v34 : BitVec 32 := Scalar.extui v33
  let c0_i32_10 : BitVec 32 := 0#32
  let v35 : BitVec 1 := Scalar.cmpi .slt v18 c0_i32_10
  let v36 : BitVec 32 := Scalar.extui v35
  let v37 : BitVec 32 := Scalar.subi v34 v36
  let c4_i32 : BitVec 32 := 4#32
  let c0_i32_11 : BitVec 32 := 0#32
  let v38 : BitVec 1 := Scalar.cmpi .sgt c4_i32 c0_i32_11
  let v39 : BitVec 32 := Scalar.extui v38
  let c0_i32_12 : BitVec 32 := 0#32
  let v40 : BitVec 1 := Scalar.cmpi .slt c4_i32 c0_i32_12
  let v41 : BitVec 32 := Scalar.extui v40
  let v42 : BitVec 32 := Scalar.subi v39 v41
  let v43 : BitVec 1 := Scalar.cmpi .ne v37 v42
  let v44 : BitVec 32 := Scalar.remsi v18 c4_i32
  let c0_i32_13 : BitVec 32 := 0#32
  let v45 : BitVec 1 := Scalar.cmpi .ne v44 c0_i32_13
  let v46 : BitVec 1 := Scalar.andi v43 v45
  let v32 : BitVec 32 := Scalar.divsi v18 c4_i32
  let c1_i32_14 : BitVec 32 := 1#32
  let v47 : BitVec 32 := Scalar.subi v32 c1_i32_14
  let v48 : BitVec 32 := Scalar.select v46 v47 v32
  let v49 : BitVec 32 := Scalar.subi v48 c0_i32_15
  let c1_i32_16 : BitVec 32 := 1#32
  let v51 : BitVec 32 := Scalar.divsi v49 c1_i32_16
  let v52 : BitVec 32 := Scalar.muli v51 c1_i32_16
  let v53 : BitVec 32 := Scalar.addi c0_i32_15 v52
  let c1_i32_18 : BitVec 32 := 1#32
  let arg6 : BitVec 32 := Scf.iv v53 c1_i32_18 k0_t2
  let v77 : BitVec 32 := Scalar.muli c4_i32_30 arg6
  let v78 : BitVec 32 := Scalar.subi v76 v77
  let v79 : BitVec 32 := Scalar.subi v78 c0_i32_31
  let c128_i32_32 : BitVec 32 := 128#32
  let v80 : BitVec 32 := Scalar.muli v79 c128_i32_32
  let v81 : BitVec 32 := v80
  let v184 : Index := Scalar.indexCast v81
  let c256_73 : Index := 256#32
  ![0, v184.toNat, 256]
def k0_off9 (i : grid0.Coords) (k0_t2 : Fin (k0_t2_loop i).trips) (c0_i32_31 : BitVec 32) : Fin 3 → Nat :=
  let c0_90 : Index := 0#32
  let arg1 : BitVec 32 := BitVec.ofNat 32 (i 1).val
  let c1_i32 : BitVec 32 := 1#32
  let v0 : BitVec 32 := Scalar.addi arg1 c1_i32
  let c512_i32 : BitVec 32 := 512#32
  let v1 : BitVec 32 := Scalar.muli v0 c512_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32_4 : BitVec 32 := 1#32
  let v17 : BitVec 32 := Scalar.subi v2 c1_i32_4
  let v18 : BitVec 32 := Scalar.select v16 v17 v2
  let c1_i32_29 : BitVec 32 := 1#32
  let v76 : BitVec 32 := Scalar.subi v18 c1_i32_29
  let c4_i32_30 : BitVec 32 := 4#32
  let c0_i32_15 : BitVec 32 := 0#32
  let c0_i32_9 : BitVec 32 := 0#32
  let v33 : BitVec 1 := Scalar.cmpi .sgt v18 c0_i32_9
  let v34 : BitVec 32 := Scalar.extui v33
  let c0_i32_10 : BitVec 32 := 0#32
  let v35 : BitVec 1 := Scalar.cmpi .slt v18 c0_i32_10
  let v36 : BitVec 32 := Scalar.extui v35
  let v37 : BitVec 32 := Scalar.subi v34 v36
  let c4_i32 : BitVec 32 := 4#32
  let c0_i32_11 : BitVec 32 := 0#32
  let v38 : BitVec 1 := Scalar.cmpi .sgt c4_i32 c0_i32_11
  let v39 : BitVec 32 := Scalar.extui v38
  let c0_i32_12 : BitVec 32 := 0#32
  let v40 : BitVec 1 := Scalar.cmpi .slt c4_i32 c0_i32_12
  let v41 : BitVec 32 := Scalar.extui v40
  let v42 : BitVec 32 := Scalar.subi v39 v41
  let v43 : BitVec 1 := Scalar.cmpi .ne v37 v42
  let v44 : BitVec 32 := Scalar.remsi v18 c4_i32
  let c0_i32_13 : BitVec 32 := 0#32
  let v45 : BitVec 1 := Scalar.cmpi .ne v44 c0_i32_13
  let v46 : BitVec 1 := Scalar.andi v43 v45
  let v32 : BitVec 32 := Scalar.divsi v18 c4_i32
  let c1_i32_14 : BitVec 32 := 1#32
  let v47 : BitVec 32 := Scalar.subi v32 c1_i32_14
  let v48 : BitVec 32 := Scalar.select v46 v47 v32
  let v49 : BitVec 32 := Scalar.subi v48 c0_i32_15
  let c1_i32_16 : BitVec 32 := 1#32
  let v51 : BitVec 32 := Scalar.divsi v49 c1_i32_16
  let v52 : BitVec 32 := Scalar.muli v51 c1_i32_16
  let v53 : BitVec 32 := Scalar.addi c0_i32_15 v52
  let c1_i32_18 : BitVec 32 := 1#32
  let arg6 : BitVec 32 := Scf.iv v53 c1_i32_18 k0_t2
  let v77 : BitVec 32 := Scalar.muli c4_i32_30 arg6
  let v78 : BitVec 32 := Scalar.subi v76 v77
  let v79 : BitVec 32 := Scalar.subi v78 c0_i32_31
  let c128_i32_32 : BitVec 32 := 128#32
  let v80 : BitVec 32 := Scalar.muli v79 c128_i32_32
  let v81 : BitVec 32 := v80
  let v231 : Index := Scalar.indexCast v81
  let c384_91 : Index := 384#32
  ![0, v231.toNat, 384]
def k0_off10 (i : grid0.Coords) (k0_t2 : Fin (k0_t2_loop i).trips) (c0_i32_31 : BitVec 32) : Fin 3 → Nat :=
  let c0_108 : Index := 0#32
  let arg1 : BitVec 32 := BitVec.ofNat 32 (i 1).val
  let c1_i32 : BitVec 32 := 1#32
  let v0 : BitVec 32 := Scalar.addi arg1 c1_i32
  let c512_i32 : BitVec 32 := 512#32
  let v1 : BitVec 32 := Scalar.muli v0 c512_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32_4 : BitVec 32 := 1#32
  let v17 : BitVec 32 := Scalar.subi v2 c1_i32_4
  let v18 : BitVec 32 := Scalar.select v16 v17 v2
  let c1_i32_29 : BitVec 32 := 1#32
  let v76 : BitVec 32 := Scalar.subi v18 c1_i32_29
  let c4_i32_30 : BitVec 32 := 4#32
  let c0_i32_15 : BitVec 32 := 0#32
  let c0_i32_9 : BitVec 32 := 0#32
  let v33 : BitVec 1 := Scalar.cmpi .sgt v18 c0_i32_9
  let v34 : BitVec 32 := Scalar.extui v33
  let c0_i32_10 : BitVec 32 := 0#32
  let v35 : BitVec 1 := Scalar.cmpi .slt v18 c0_i32_10
  let v36 : BitVec 32 := Scalar.extui v35
  let v37 : BitVec 32 := Scalar.subi v34 v36
  let c4_i32 : BitVec 32 := 4#32
  let c0_i32_11 : BitVec 32 := 0#32
  let v38 : BitVec 1 := Scalar.cmpi .sgt c4_i32 c0_i32_11
  let v39 : BitVec 32 := Scalar.extui v38
  let c0_i32_12 : BitVec 32 := 0#32
  let v40 : BitVec 1 := Scalar.cmpi .slt c4_i32 c0_i32_12
  let v41 : BitVec 32 := Scalar.extui v40
  let v42 : BitVec 32 := Scalar.subi v39 v41
  let v43 : BitVec 1 := Scalar.cmpi .ne v37 v42
  let v44 : BitVec 32 := Scalar.remsi v18 c4_i32
  let c0_i32_13 : BitVec 32 := 0#32
  let v45 : BitVec 1 := Scalar.cmpi .ne v44 c0_i32_13
  let v46 : BitVec 1 := Scalar.andi v43 v45
  let v32 : BitVec 32 := Scalar.divsi v18 c4_i32
  let c1_i32_14 : BitVec 32 := 1#32
  let v47 : BitVec 32 := Scalar.subi v32 c1_i32_14
  let v48 : BitVec 32 := Scalar.select v46 v47 v32
  let v49 : BitVec 32 := Scalar.subi v48 c0_i32_15
  let c1_i32_16 : BitVec 32 := 1#32
  let v51 : BitVec 32 := Scalar.divsi v49 c1_i32_16
  let v52 : BitVec 32 := Scalar.muli v51 c1_i32_16
  let v53 : BitVec 32 := Scalar.addi c0_i32_15 v52
  let c1_i32_18 : BitVec 32 := 1#32
  let arg6 : BitVec 32 := Scf.iv v53 c1_i32_18 k0_t2
  let v77 : BitVec 32 := Scalar.muli c4_i32_30 arg6
  let v78 : BitVec 32 := Scalar.subi v76 v77
  let v79 : BitVec 32 := Scalar.subi v78 c0_i32_31
  let c128_i32_32 : BitVec 32 := 128#32
  let v80 : BitVec 32 := Scalar.muli v79 c128_i32_32
  let v81 : BitVec 32 := v80
  let v278 : Index := Scalar.indexCast v81
  let c512_109 : Index := 512#32
  ![0, v278.toNat, 512]
def k0_mult6 (i : grid0.Coords) (k0_t2 : Fin (k0_t2_loop i).trips) : BitVec 32 :=
  let arg1 : BitVec 32 := BitVec.ofNat 32 (i 1).val
  let c1_i32 : BitVec 32 := 1#32
  let v0 : BitVec 32 := Scalar.addi arg1 c1_i32
  let c512_i32 : BitVec 32 := 512#32
  let v1 : BitVec 32 := Scalar.muli v0 c512_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32_4 : BitVec 32 := 1#32
  let v17 : BitVec 32 := Scalar.subi v2 c1_i32_4
  let v18 : BitVec 32 := Scalar.select v16 v17 v2
  let c1_i32_123 : BitVec 32 := 1#32
  let v323 : BitVec 32 := Scalar.subi v18 c1_i32_123
  let c4_i32_124 : BitVec 32 := 4#32
  let c0_i32_15 : BitVec 32 := 0#32
  let c0_i32_9 : BitVec 32 := 0#32
  let v33 : BitVec 1 := Scalar.cmpi .sgt v18 c0_i32_9
  let v34 : BitVec 32 := Scalar.extui v33
  let c0_i32_10 : BitVec 32 := 0#32
  let v35 : BitVec 1 := Scalar.cmpi .slt v18 c0_i32_10
  let v36 : BitVec 32 := Scalar.extui v35
  let v37 : BitVec 32 := Scalar.subi v34 v36
  let c4_i32 : BitVec 32 := 4#32
  let c0_i32_11 : BitVec 32 := 0#32
  let v38 : BitVec 1 := Scalar.cmpi .sgt c4_i32 c0_i32_11
  let v39 : BitVec 32 := Scalar.extui v38
  let c0_i32_12 : BitVec 32 := 0#32
  let v40 : BitVec 1 := Scalar.cmpi .slt c4_i32 c0_i32_12
  let v41 : BitVec 32 := Scalar.extui v40
  let v42 : BitVec 32 := Scalar.subi v39 v41
  let v43 : BitVec 1 := Scalar.cmpi .ne v37 v42
  let v44 : BitVec 32 := Scalar.remsi v18 c4_i32
  let c0_i32_13 : BitVec 32 := 0#32
  let v45 : BitVec 1 := Scalar.cmpi .ne v44 c0_i32_13
  let v46 : BitVec 1 := Scalar.andi v43 v45
  let v32 : BitVec 32 := Scalar.divsi v18 c4_i32
  let c1_i32_14 : BitVec 32 := 1#32
  let v47 : BitVec 32 := Scalar.subi v32 c1_i32_14
  let v48 : BitVec 32 := Scalar.select v46 v47 v32
  let v49 : BitVec 32 := Scalar.subi v48 c0_i32_15
  let c1_i32_16 : BitVec 32 := 1#32
  let v51 : BitVec 32 := Scalar.divsi v49 c1_i32_16
  let v52 : BitVec 32 := Scalar.muli v51 c1_i32_16
  let v53 : BitVec 32 := Scalar.addi c0_i32_15 v52
  let c1_i32_18 : BitVec 32 := 1#32
  let arg6 : BitVec 32 := Scf.iv v53 c1_i32_18 k0_t2
  let v324 : BitVec 32 := Scalar.muli c4_i32_124 arg6
  let v325 : BitVec 32 := Scalar.subi v323 v324
  let c1_i32_125 : BitVec 32 := 1#32
  let v326 : BitVec 32 := Scalar.subi v325 c1_i32_125
  let c128_i32_126 : BitVec 32 := 128#32
  let v327 : BitVec 32 := Scalar.muli v326 c128_i32_126
  v327
def k0_mult7 (i : grid0.Coords) (k0_t2 : Fin (k0_t2_loop i).trips) : BitVec 32 :=
  let arg1 : BitVec 32 := BitVec.ofNat 32 (i 1).val
  let c1_i32 : BitVec 32 := 1#32
  let v0 : BitVec 32 := Scalar.addi arg1 c1_i32
  let c512_i32 : BitVec 32 := 512#32
  let v1 : BitVec 32 := Scalar.muli v0 c512_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32_4 : BitVec 32 := 1#32
  let v17 : BitVec 32 := Scalar.subi v2 c1_i32_4
  let v18 : BitVec 32 := Scalar.select v16 v17 v2
  let c1_i32_217 : BitVec 32 := 1#32
  let v570 : BitVec 32 := Scalar.subi v18 c1_i32_217
  let c4_i32_218 : BitVec 32 := 4#32
  let c0_i32_15 : BitVec 32 := 0#32
  let c0_i32_9 : BitVec 32 := 0#32
  let v33 : BitVec 1 := Scalar.cmpi .sgt v18 c0_i32_9
  let v34 : BitVec 32 := Scalar.extui v33
  let c0_i32_10 : BitVec 32 := 0#32
  let v35 : BitVec 1 := Scalar.cmpi .slt v18 c0_i32_10
  let v36 : BitVec 32 := Scalar.extui v35
  let v37 : BitVec 32 := Scalar.subi v34 v36
  let c4_i32 : BitVec 32 := 4#32
  let c0_i32_11 : BitVec 32 := 0#32
  let v38 : BitVec 1 := Scalar.cmpi .sgt c4_i32 c0_i32_11
  let v39 : BitVec 32 := Scalar.extui v38
  let c0_i32_12 : BitVec 32 := 0#32
  let v40 : BitVec 1 := Scalar.cmpi .slt c4_i32 c0_i32_12
  let v41 : BitVec 32 := Scalar.extui v40
  let v42 : BitVec 32 := Scalar.subi v39 v41
  let v43 : BitVec 1 := Scalar.cmpi .ne v37 v42
  let v44 : BitVec 32 := Scalar.remsi v18 c4_i32
  let c0_i32_13 : BitVec 32 := 0#32
  let v45 : BitVec 1 := Scalar.cmpi .ne v44 c0_i32_13
  let v46 : BitVec 1 := Scalar.andi v43 v45
  let v32 : BitVec 32 := Scalar.divsi v18 c4_i32
  let c1_i32_14 : BitVec 32 := 1#32
  let v47 : BitVec 32 := Scalar.subi v32 c1_i32_14
  let v48 : BitVec 32 := Scalar.select v46 v47 v32
  let v49 : BitVec 32 := Scalar.subi v48 c0_i32_15
  let c1_i32_16 : BitVec 32 := 1#32
  let v51 : BitVec 32 := Scalar.divsi v49 c1_i32_16
  let v52 : BitVec 32 := Scalar.muli v51 c1_i32_16
  let v53 : BitVec 32 := Scalar.addi c0_i32_15 v52
  let c1_i32_18 : BitVec 32 := 1#32
  let arg6 : BitVec 32 := Scf.iv v53 c1_i32_18 k0_t2
  let v571 : BitVec 32 := Scalar.muli c4_i32_218 arg6
  let v572 : BitVec 32 := Scalar.subi v570 v571
  let c2_i32 : BitVec 32 := 2#32
  let v573 : BitVec 32 := Scalar.subi v572 c2_i32
  let c128_i32_219 : BitVec 32 := 128#32
  let v574 : BitVec 32 := Scalar.muli v573 c128_i32_219
  v574
def k0_mult8 (i : grid0.Coords) (k0_t2 : Fin (k0_t2_loop i).trips) : BitVec 32 :=
  let arg1 : BitVec 32 := BitVec.ofNat 32 (i 1).val
  let c1_i32 : BitVec 32 := 1#32
  let v0 : BitVec 32 := Scalar.addi arg1 c1_i32
  let c512_i32 : BitVec 32 := 512#32
  let v1 : BitVec 32 := Scalar.muli v0 c512_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32_4 : BitVec 32 := 1#32
  let v17 : BitVec 32 := Scalar.subi v2 c1_i32_4
  let v18 : BitVec 32 := Scalar.select v16 v17 v2
  let c1_i32_310 : BitVec 32 := 1#32
  let v817 : BitVec 32 := Scalar.subi v18 c1_i32_310
  let c4_i32_311 : BitVec 32 := 4#32
  let c0_i32_15 : BitVec 32 := 0#32
  let c0_i32_9 : BitVec 32 := 0#32
  let v33 : BitVec 1 := Scalar.cmpi .sgt v18 c0_i32_9
  let v34 : BitVec 32 := Scalar.extui v33
  let c0_i32_10 : BitVec 32 := 0#32
  let v35 : BitVec 1 := Scalar.cmpi .slt v18 c0_i32_10
  let v36 : BitVec 32 := Scalar.extui v35
  let v37 : BitVec 32 := Scalar.subi v34 v36
  let c4_i32 : BitVec 32 := 4#32
  let c0_i32_11 : BitVec 32 := 0#32
  let v38 : BitVec 1 := Scalar.cmpi .sgt c4_i32 c0_i32_11
  let v39 : BitVec 32 := Scalar.extui v38
  let c0_i32_12 : BitVec 32 := 0#32
  let v40 : BitVec 1 := Scalar.cmpi .slt c4_i32 c0_i32_12
  let v41 : BitVec 32 := Scalar.extui v40
  let v42 : BitVec 32 := Scalar.subi v39 v41
  let v43 : BitVec 1 := Scalar.cmpi .ne v37 v42
  let v44 : BitVec 32 := Scalar.remsi v18 c4_i32
  let c0_i32_13 : BitVec 32 := 0#32
  let v45 : BitVec 1 := Scalar.cmpi .ne v44 c0_i32_13
  let v46 : BitVec 1 := Scalar.andi v43 v45
  let v32 : BitVec 32 := Scalar.divsi v18 c4_i32
  let c1_i32_14 : BitVec 32 := 1#32
  let v47 : BitVec 32 := Scalar.subi v32 c1_i32_14
  let v48 : BitVec 32 := Scalar.select v46 v47 v32
  let v49 : BitVec 32 := Scalar.subi v48 c0_i32_15
  let c1_i32_16 : BitVec 32 := 1#32
  let v51 : BitVec 32 := Scalar.divsi v49 c1_i32_16
  let v52 : BitVec 32 := Scalar.muli v51 c1_i32_16
  let v53 : BitVec 32 := Scalar.addi c0_i32_15 v52
  let c1_i32_18 : BitVec 32 := 1#32
  let arg6 : BitVec 32 := Scf.iv v53 c1_i32_18 k0_t2
  let v818 : BitVec 32 := Scalar.muli c4_i32_311 arg6
  let v819 : BitVec 32 := Scalar.subi v817 v818
  let c3_i32 : BitVec 32 := 3#32
  let v820 : BitVec 32 := Scalar.subi v819 c3_i32
  let c128_i32_312 : BitVec 32 := 128#32
  let v821 : BitVec 32 := Scalar.muli v820 c128_i32_312
  v821
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x4096x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x512x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x4096x640 : Shape := ⟨3, ![2, 4096, 640]⟩
abbrev S2x4096x5x128 : Shape := ⟨4, ![2, 4096, 5, 128]⟩
abbrev S4096 : Shape := ⟨1, ![4096]⟩
abbrev S2x5x4096x4096 : Shape := ⟨4, ![2, 5, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S2x5x128x4096 : Shape := ⟨4, ![2, 5, 128, 4096]⟩

abbrev nBuf : Space → Nat
  | .hbm => 72
  | .vmem => 0
  | .smem => 0
  | _ => 0

abbrev bufTy : (tb : Table) → Fin (tcTables nBuf tb) → BufTy
  | .hbm, ⟨0, _⟩ => ⟨S2x4096x640, .bf16⟩
  | .hbm, ⟨1, _⟩ => ⟨S2x4096x640, .bf16⟩
  | .hbm, ⟨2, _⟩ => ⟨S2x4096x640, .bf16⟩
  | .hbm, ⟨3, _⟩ => ⟨S2x4096x640, .f32⟩
  | .hbm, ⟨4, _⟩ => ⟨S2x4096x5x128, .f32⟩
  | .hbm, ⟨5, _⟩ => ⟨S2x4096x640, .f32⟩
  | .hbm, ⟨6, _⟩ => ⟨S2x4096x5x128, .f32⟩
  | .hbm, ⟨7, _⟩ => ⟨S2x4096x640, .f32⟩
  | .hbm, ⟨8, _⟩ => ⟨S2x4096x5x128, .f32⟩
  | .hbm, ⟨9, _⟩ => ⟨S4096, .i32⟩
  | .hbm, ⟨10, _⟩ => ⟨S2x5x4096x4096, .f32⟩
  | .hbm, ⟨11, _⟩ => ⟨S_, .f32⟩
  | .hbm, ⟨12, _⟩ => ⟨S2x5x4096x4096, .f32⟩
  | .hbm, ⟨13, _⟩ => ⟨S2x5x4096x4096, .f32⟩
  | .hbm, ⟨14, _⟩ => ⟨S1x4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S2x5x4096x4096, .f32⟩
  | .hbm, ⟨20, _⟩ => ⟨S2x5x4096x4096, .f32⟩
  | .hbm, ⟨21, _⟩ => ⟨S_, .f32⟩
  | .hbm, ⟨22, _⟩ => ⟨S2x5x4096x4096, .f32⟩
  | .hbm, ⟨23, _⟩ => ⟨S2x5x4096x4096, .f32⟩
  | .hbm, ⟨24, _⟩ => ⟨S2x5x4096x4096, .f32⟩
  | .hbm, ⟨25, _⟩ => ⟨S2x5x4096x4096, .f32⟩
  | .hbm, ⟨26, _⟩ => ⟨S2x5x4096x4096, .i1⟩
  | .hbm, ⟨27, _⟩ => ⟨S2x5x4096x4096, .f32⟩
  | .hbm, ⟨28, _⟩ => ⟨S2x5x4096x4096, .f32⟩
  | .hbm, ⟨29, _⟩ => ⟨S2x5x4096x4096, .f32⟩
  | .hbm, ⟨30, _⟩ => ⟨S2x5x4096x4096, .f32⟩
  | .hbm, ⟨31, _⟩ => ⟨S2x5x4096x4096, .f32⟩
  | .hbm, ⟨32, _⟩ => ⟨S2x5x4096x4096, .f32⟩
  | .hbm, ⟨33, _⟩ => ⟨S2x5x4096x4096, .f32⟩
  | .hbm, ⟨34, _⟩ => ⟨S2x5x4096x4096, .f32⟩
  | .hbm, ⟨35, _⟩ => ⟨S2x5x4096x4096, .f32⟩
  | .hbm, ⟨36, _⟩ => ⟨S_, .f32⟩
  | .hbm, ⟨37, _⟩ => ⟨S_, .f32⟩
  | .hbm, ⟨38, _⟩ => ⟨S2x5x4096x4096, .i1⟩
  | .hbm, ⟨39, _⟩ => ⟨S2x5x4096x4096, .f32⟩
  | .hbm, ⟨40, _⟩ => ⟨S2x5x4096x4096, .f32⟩
  | .hbm, ⟨41, _⟩ => ⟨S_, .f32⟩
  | .hbm, ⟨42, _⟩ => ⟨S_, .f32⟩
  | .hbm, ⟨43, _⟩ => ⟨S2x5x4096x4096, .f32⟩
  | .hbm, ⟨44, _⟩ => ⟨S2x5x4096x4096, .f32⟩
  | .hbm, ⟨45, _⟩ => ⟨S2x5x4096x4096, .f32⟩
  | .hbm, ⟨46, _⟩ => ⟨S_, .f32⟩
  | .hbm, ⟨47, _⟩ => ⟨S2x5x4096x4096, .f32⟩
  | .hbm, ⟨48, _⟩ => ⟨S2x5x4096x4096, .f32⟩
  | .hbm, ⟨49, _⟩ => ⟨S2x5x4096x4096, .f32⟩
  | .hbm, ⟨50, _⟩ => ⟨S2x5x4096x4096, .f32⟩
  | .hbm, ⟨51, _⟩ => ⟨S2x5x4096x4096, .i1⟩
  | .hbm, ⟨52, _⟩ => ⟨S2x5x4096x4096, .f32⟩
  | .hbm, ⟨53, _⟩ => ⟨S2x5x4096x4096, .f32⟩
  | .hbm, ⟨54, _⟩ => ⟨S2x5x4096x4096, .f32⟩
  | .hbm, ⟨55, _⟩ => ⟨S2x5x4096x4096, .f32⟩
  | .hbm, ⟨56, _⟩ => ⟨S2x5x4096x4096, .f32⟩
  | .hbm, ⟨57, _⟩ => ⟨S2x5x4096x4096, .f32⟩
  | .hbm, ⟨58, _⟩ => ⟨S2x5x4096x4096, .f32⟩
  | .hbm, ⟨59, _⟩ => ⟨S2x5x4096x4096, .f32⟩
  | .hbm, ⟨60, _⟩ => ⟨S2x5x4096x4096, .f32⟩
  | .hbm, ⟨61, _⟩ => ⟨S2x5x4096x4096, .f32⟩
  | .hbm, ⟨62, _⟩ => ⟨S_, .f32⟩
  | .hbm, ⟨63, _⟩ => ⟨S_, .f32⟩
  | .hbm, ⟨64, _⟩ => ⟨S2x5x4096x4096, .i1⟩
  | .hbm, ⟨65, _⟩ => ⟨S2x5x4096x4096, .f32⟩
  | .hbm, ⟨66, _⟩ => ⟨S2x5x4096x4096, .f32⟩
  | .hbm, ⟨67, _⟩ => ⟨S2x5x4096x4096, .f32⟩
  | .hbm, ⟨68, _⟩ => ⟨S2x5x128x4096, .f32⟩
  | .hbm, ⟨69, _⟩ => ⟨S2x4096x5x128, .f32⟩
  | .hbm, ⟨70, _⟩ => ⟨S2x4096x5x128, .bf16⟩
  | .hbm, ⟨71, _⟩ => ⟨S2x4096x640, .bf16⟩
  | _, _ => ⟨S2x4096x640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v16 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v17 : Ref sig .tc := ⟨.hbm, 40, rfl⟩
abbrev main_call2_cst : Ref sig .tc := ⟨.hbm, 41, rfl⟩
abbrev main_call2_v0 : Ref sig .tc := ⟨.hbm, 42, rfl⟩
abbrev main_v18 : Ref sig .tc := ⟨.hbm, 43, rfl⟩
abbrev main_v19 : Ref sig .tc := ⟨.hbm, 44, rfl⟩
abbrev main_call3_v0 : Ref sig .tc := ⟨.hbm, 45, rfl⟩
abbrev main_call3_call0_cst : Ref sig .tc := ⟨.hbm, 46, rfl⟩
abbrev main_call3_call0_v0 : Ref sig .tc := ⟨.hbm, 47, rfl⟩
abbrev main_call3_call0_v1 : Ref sig .tc := ⟨.hbm, 48, rfl⟩
abbrev main_call3_call0_v2 : Ref sig .tc := ⟨.hbm, 49, rfl⟩
abbrev main_call3_call0_v3 : Ref sig .tc := ⟨.hbm, 50, rfl⟩
abbrev main_call3_call0_v4 : Ref sig .tc := ⟨.hbm, 51, rfl⟩
abbrev main_call3_call0_v5 : Ref sig .tc := ⟨.hbm, 52, rfl⟩
abbrev main_call3_call0_v6 : Ref sig .tc := ⟨.hbm, 53, rfl⟩
abbrev main_call3_call0_v7 : Ref sig .tc := ⟨.hbm, 54, rfl⟩
abbrev main_call3_call0_v8 : Ref sig .tc := ⟨.hbm, 55, rfl⟩
abbrev main_call3_call0_v9 : Ref sig .tc := ⟨.hbm, 56, rfl⟩
abbrev main_call3_call0_v10 : Ref sig .tc := ⟨.hbm, 57, rfl⟩
abbrev main_call3_call0_v11 : Ref sig .tc := ⟨.hbm, 58, rfl⟩
abbrev main_call3_v1 : Ref sig .tc := ⟨.hbm, 59, rfl⟩
abbrev main_v20 : Ref sig .tc := ⟨.hbm, 60, rfl⟩
abbrev main_v21 : Ref sig .tc := ⟨.hbm, 61, rfl⟩
abbrev main_cst_1 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩

abbrev nD : Nat := 1
abbrev τ : Topo := Topo.v7x

variable {F : FTy → Type} [FloatOps F]
-- ==== Kernel2.lean ====
abbrev S161 : Shape := ⟨1, ![161]⟩
abbrev S41216x2048 : Shape := ⟨2, ![41216, 2048]⟩
abbrev S2x32x2048x4096 : Shape := ⟨4, ![2, 32, 2048, 4096]⟩
abbrev S2x32x4096 : Shape := ⟨3, ![2, 32, 4096]⟩
abbrev S2x32x1x4096 : Shape := ⟨4, ![2, 32, 1, 4096]⟩
abbrev S256x2048 : Shape := ⟨2, ![256, 2048]⟩
abbrev S1x1x2048x1024 : Shape := ⟨4, ![1, 1, 2048, 1024]⟩
abbrev S1 : Shape := ⟨1, ![1]⟩
abbrev S1x1x1x1024 : Shape := ⟨4, ![1, 1, 1, 1024]⟩
abbrev S256x1024 : Shape := ⟨2, ![256, 1024]⟩
abbrev S2048x1024 : Shape := ⟨2, ![2048, 1024]⟩
abbrev S1x1024 : Shape := ⟨2, ![1, 1024]⟩

abbrev nBuf : Space → Nat
  | .hbm => 5
  | .vmem => 14
  | .smem => 2
  | _ => 0

abbrev bufTy : (tb : Table) → Fin (tcTables nBuf tb) → BufTy
  | .hbm, ⟨0, _⟩ => ⟨S41216x2048, .f32⟩
  | .hbm, ⟨1, _⟩ => ⟨S2x32x2048x4096, .f32⟩
  | .hbm, ⟨2, _⟩ => ⟨S2x32x4096, .f32⟩
  | .hbm, ⟨3, _⟩ => ⟨S2x32x1x4096, .f32⟩
  | .hbm, ⟨4, _⟩ => ⟨S41216x2048, .bf16⟩
  | .local _ .vmem, ⟨0, _⟩ => ⟨S256x2048, .f32⟩
  | .local _ .vmem, ⟨1, _⟩ => ⟨S256x2048, .f32⟩
  | .local _ .vmem, ⟨2, _⟩ => ⟨S1x1x2048x1024, .f32⟩
  | .local _ .vmem, ⟨3, _⟩ => ⟨S1x1x2048x1024, .f32⟩
  | .local _ .vmem, ⟨4, _⟩ => ⟨S1x1x2048x1024, .f32⟩
  | .local _ .vmem, ⟨5, _⟩ => ⟨S1x1x2048x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S256x1024, .bf16⟩
  | .local _ .vmem, ⟨11, _⟩ => ⟨S256x1024, .bf16⟩
  | .local _ .vmem, ⟨12, _⟩ => ⟨S2048x1024, .bf16⟩
  | .local _ .vmem, ⟨13, _⟩ => ⟨S2048x1024, .bf16⟩
  | .local _ .smem, ⟨0, _⟩ => ⟨S161, .i32⟩
  | .local _ .smem, ⟨1, _⟩ => ⟨S161, .i32⟩
  | _, _ => ⟨S41216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 161], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
def k0_off3 (i : grid0.Coords) : Fin 1 → Nat :=
  let arg1 : BitVec 32 := BitVec.ofNat 32 (i 1).val
  let v11 : Index := Scalar.indexCast arg1
  ![v11.toNat]
def k0_off4 (i : grid0.Coords) : Fin 1 → Nat :=
  let arg1 : BitVec 32 := BitVec.ofNat 32 (i 1).val
  let v16 : Index := Scalar.indexCast arg1
  ![v16.toNat]
def k0_cond2 (v12 : BitVec 32) : BitVec 1 :=
  let c0_i32_2 : BitVec 32 := 0#32
  let v13 : BitVec 1 := Scalar.cmpi .sgt v12 c0_i32_2
  let v14 : BitVec 32 := Scalar.extui v13
  let c0_i32_3 : BitVec 32 := 0#32
  let v15 : BitVec 1 := Scalar.cmpi .ne v14 c0_i32_3
  v15

def k0_cond3 (v17 : BitVec 32) : BitVec 1 :=
  let c0_i32_4 : BitVec 32 := 0#32
  let v18 : BitVec 1 := Scalar.cmpi .eq v17 c0_i32_4
  let v19 : BitVec 32 := Scalar.extui v18
  let c0_i32_5 : BitVec 32 := 0#32
  let v20 : BitVec 1 := Scalar.cmpi .ne v19 c0_i32_5
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S161.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S161) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S161.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S161) ![v0.toNat] S1.size (k0_off1_inb i)) numel1_S1
  let c2_i32 : BitVec 32 := 2#32
  let v2 : BitVec 32 := Scalar.addi arg0 c2_i32
  let c0_i32 : BitVec 32 := 0#32
  let c0_i32_0 : BitVec 32 := 0#32
  let c0_i32_1 : BitVec 32 := 0#32
  ![c0_i32.toNat, v1.toNat, c0_i32_0.toNat, v2.toNat]

def cc0_transform_3 (k0_off1_inb : ∀ i : grid0.Coords, ∀ a, (k0_off1 i) a + S1.size a ≤ S161.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S161) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_4 (k0_off1_inb : ∀ i : grid0.Coords, ∀ a, (k0_off1 i) a + S1.size a ≤ S161.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S161) ![v0.toNat] S1.size (k0_off1_inb i)) numel1_S1
  let c2_i32 : BitVec 32 := 2#32
  let v2 : BitVec 32 := Scalar.addi arg0 c2_i32
  let c0_i32 : BitVec 32 := 0#32
  let c0_i32_0 : BitVec 32 := 0#32
  let c0_i32_1 : BitVec 32 := 0#32
  ![c0_i32.toNat, v1.toNat, c0_i32_0.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S161 : Shape := ⟨1, ![161]⟩
abbrev S41216x2048 : Shape := ⟨2, ![41216, 2048]⟩
abbrev S2x32x2048x4096 : Shape := ⟨4, ![2, 32, 2048, 4096]⟩
abbrev S2x32x4096 : Shape := ⟨3, ![2, 32, 4096]⟩
abbrev S161x256x2048 : Shape := ⟨3, ![161, 256, 2048]⟩
abbrev S1x32x2048x4096 : Shape := ⟨4, ![1, 32, 2048, 4096]⟩
abbrev S32x2048x4096 : Shape := ⟨3, ![32, 2048, 4096]⟩
abbrev S161x1 : Shape := ⟨2, ![161, 1]⟩
abbrev S161x2048x4096 : Shape := ⟨3, ![161, 2048, 4096]⟩
abbrev S161x256x4096 : Shape := ⟨3, ![161, 256, 4096]⟩
abbrev S1x32x4096 : Shape := ⟨3, ![1, 32, 4096]⟩
abbrev S32x4096 : Shape := ⟨2, ![32, 4096]⟩
abbrev S161x4096 : Shape := ⟨2, ![161, 4096]⟩
abbrev S161x1x4096 : Shape := ⟨3, ![161, 1, 4096]⟩
abbrev S_ : Shape := ⟨0, ![]⟩
abbrev S161x1x1 : Shape := ⟨3, ![161, 1, 1]⟩

abbrev nBuf : Space → Nat
  | .hbm => 58
  | .vmem => 0
  | .smem => 0
  | _ => 0

abbrev bufTy : (tb : Table) → Fin (tcTables nBuf tb) → BufTy
  | .hbm, ⟨0, _⟩ => ⟨S161, .i32⟩
  | .hbm, ⟨1, _⟩ => ⟨S161, .i32⟩
  | .hbm, ⟨2, _⟩ => ⟨S41216x2048, .f32⟩
  | .hbm, ⟨3, _⟩ => ⟨S2x32x2048x4096, .f32⟩
  | .hbm, ⟨4, _⟩ => ⟨S2x32x4096, .f32⟩
  | .hbm, ⟨5, _⟩ => ⟨S161x256x2048, .f32⟩
  | .hbm, ⟨6, _⟩ => ⟨S1x32x2048x4096, .f32⟩
  | .hbm, ⟨7, _⟩ => ⟨S32x2048x4096, .f32⟩
  | .hbm, ⟨8, _⟩ => ⟨S161x1, .i32⟩
  | .hbm, ⟨9, _⟩ => ⟨S161x2048x4096, .f32⟩
  | .hbm, ⟨10, _⟩ => ⟨S161x256x4096, .f32⟩
  | .hbm, ⟨11, _⟩ => ⟨S1x32x4096, .f32⟩
  | .hbm, ⟨12, _⟩ => ⟨S32x4096, .f32⟩
  | .hbm, ⟨13, _⟩ => ⟨S161x1, .i32⟩
  | .hbm, ⟨14, _⟩ => ⟨S161x4096, .f32⟩
  | .hbm, ⟨15, _⟩ => ⟨S161x1x4096, .f32⟩
  | .hbm, ⟨16, _⟩ => ⟨S161x256x4096, .f32⟩
  | .hbm, ⟨17, _⟩ => ⟨S161x256x4096, .f32⟩
  | .hbm, ⟨18, _⟩ => ⟨S161x256x2048, .f32⟩
  | .hbm, ⟨19, _⟩ => ⟨S_, .f32⟩
  | .hbm, ⟨20, _⟩ => ⟨S161x256x2048, .f32⟩
  | .hbm, ⟨21, _⟩ => ⟨S161x256x2048, .f32⟩
  | .hbm, ⟨22, _⟩ => ⟨S161x256x2048, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S161x256x2048, .f32⟩
  | .hbm, ⟨27, _⟩ => ⟨S161x256x2048, .f32⟩
  | .hbm, ⟨28, _⟩ => ⟨S_, .f32⟩
  | .hbm, ⟨29, _⟩ => ⟨S161x256x2048, .f32⟩
  | .hbm, ⟨30, _⟩ => ⟨S161x256x2048, .f32⟩
  | .hbm, ⟨31, _⟩ => ⟨S_, .f32⟩
  | .hbm, ⟨32, _⟩ => ⟨S161x256x2048, .f32⟩
  | .hbm, ⟨33, _⟩ => ⟨S161x256x2048, .f32⟩
  | .hbm, ⟨34, _⟩ => ⟨S161x256x2048, .f32⟩
  | .hbm, ⟨35, _⟩ => ⟨S_, .f32⟩
  | .hbm, ⟨36, _⟩ => ⟨S161x256x2048, .f32⟩
  | .hbm, ⟨37, _⟩ => ⟨S161x256x2048, .f32⟩
  | .hbm, ⟨38, _⟩ => ⟨S161x256x2048, .f32⟩
  | .hbm, ⟨39, _⟩ => ⟨S161x256x2048, .f32⟩
  | .hbm, ⟨40, _⟩ => ⟨S_, .f32⟩
  | .hbm, ⟨41, _⟩ => ⟨S161x256x2048, .f32⟩
  | .hbm, ⟨42, _⟩ => ⟨S161x256x2048, .f32⟩
  | .hbm, ⟨43, _⟩ => ⟨S_, .f32⟩
  | .hbm, ⟨44, _⟩ => ⟨S161x256x2048, .f32⟩
  | .hbm, ⟨45, _⟩ => ⟨S161x256x2048, .f32⟩
  | .hbm, ⟨46, _⟩ => ⟨S161x256x2048, .f32⟩
  | .hbm, ⟨47, _⟩ => ⟨S_, .i32⟩
  | .hbm, ⟨48, _⟩ => ⟨S161, .i32⟩
  | .hbm, ⟨49, _⟩ => ⟨S161, .i1⟩
  | .hbm, ⟨50, _⟩ => ⟨S161x1x1, .i1⟩
  | .hbm, ⟨51, _⟩ => ⟨S_, .f32⟩
  | .hbm, ⟨52, _⟩ => ⟨S_, .f32⟩
  | .hbm, ⟨53, _⟩ => ⟨S161x256x2048, .i1⟩
  | .hbm, ⟨54, _⟩ => ⟨S161x256x2048, .f32⟩
  | .hbm, ⟨55, _⟩ => ⟨S161x256x2048, .f32⟩
  | .hbm, ⟨56, _⟩ => ⟨S161x256x2048, .bf16⟩
  | .hbm, ⟨57, _⟩ => ⟨S41216x2048, .bf16⟩
  | _, _ => ⟨S161, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_cst_1 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩

abbrev nD : Nat := 1
abbrev τ : Topo := Topo.v7x

variable {F : FTy → Type} [FloatOps F]
-- ==== Kernel3.lean ====
abbrev S161 : Shape := ⟨1, ![161]⟩
abbrev S41216x2048 : Shape := ⟨2, ![41216, 2048]⟩
abbrev S2x32x2048x2048 : Shape := ⟨4, ![2, 32, 2048, 2048]⟩
abbrev S2x32x2048 : Shape := ⟨3, ![2, 32, 2048]⟩
abbrev S2x32x1x2048 : Shape := ⟨4, ![2, 32, 1, 2048]⟩
abbrev S256x2048 : Shape := ⟨2, ![256, 2048]⟩
abbrev S1x1x2048x1024 : Shape := ⟨4, ![1, 1, 2048, 1024]⟩
abbrev S1 : Shape := ⟨1, ![1]⟩
abbrev S1x1x1x1024 : Shape := ⟨4, ![1, 1, 1, 1024]⟩
abbrev S256x1024 : Shape := ⟨2, ![256, 1024]⟩
abbrev S2048x1024 : Shape := ⟨2, ![2048, 1024]⟩
abbrev S1x1024 : Shape := ⟨2, ![1, 1024]⟩

abbrev nBuf : Space → Nat
  | .hbm => 5
  | .vmem => 9
  | .smem => 2
  | _ => 0

abbrev bufTy : (tb : Table) → Fin (tcTables nBuf tb) → BufTy
  | .hbm, ⟨0, _⟩ => ⟨S41216x2048, .bf16⟩
  | .hbm, ⟨1, _⟩ => ⟨S2x32x2048x2048, .f32⟩
  | .hbm, ⟨2, _⟩ => ⟨S2x32x2048, .f32⟩
  | .hbm, ⟨3, _⟩ => ⟨S2x32x1x2048, .f32⟩
  | .hbm, ⟨4, _⟩ => ⟨S41216x2048, .f32⟩
  | .local _ .vmem, ⟨0, _⟩ => ⟨S256x2048, .bf16⟩
  | .local _ .vmem, ⟨1, _⟩ => ⟨S256x2048, .bf16⟩
  | .local _ .vmem, ⟨2, _⟩ => ⟨S1x1x2048x1024, .f32⟩
  | .local _ .vmem, ⟨3, _⟩ => ⟨S1x1x2048x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S256x1024, .f32⟩
  | .local _ .vmem, ⟨7, _⟩ => ⟨S256x1024, .f32⟩
  | .local _ .vmem, ⟨8, _⟩ => ⟨S2048x1024, .bf16⟩
  | .local _ .smem, ⟨0, _⟩ => ⟨S161, .i32⟩
  | .local _ .smem, ⟨1, _⟩ => ⟨S161, .i32⟩
  | _, _ => ⟨S41216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 161], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
def k0_off3 (i : grid0.Coords) : Fin 1 → Nat :=
  let arg1 : BitVec 32 := BitVec.ofNat 32 (i 1).val
  let v11 : Index := Scalar.indexCast arg1
  ![v11.toNat]
def k0_off4 (i : grid0.Coords) : Fin 1 → Nat :=
  let arg1 : BitVec 32 := BitVec.ofNat 32 (i 1).val
  let v16 : Index := Scalar.indexCast arg1
  ![v16.toNat]
def k0_cond2 (v12 : BitVec 32) : BitVec 1 :=
  let c0_i32_2 : BitVec 32 := 0#32
  let v13 : BitVec 1 := Scalar.cmpi .sgt v12 c0_i32_2
  let v14 : BitVec 32 := Scalar.extui v13
  let c0_i32_3 : BitVec 32 := 0#32
  let v15 : BitVec 1 := Scalar.cmpi .ne v14 c0_i32_3
  v15

def k0_cond3 (v17 : BitVec 32) : BitVec 1 :=
  let c0_i32_4 : BitVec 32 := 0#32
  let v18 : BitVec 1 := Scalar.cmpi .eq v17 c0_i32_4
  let v19 : BitVec 32 := Scalar.extui v18
  let c0_i32_5 : BitVec 32 := 0#32
  let v20 : BitVec 1 := Scalar.cmpi .ne v19 c0_i32_5
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S161.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S161) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S161.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S161) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S161 : Shape := ⟨1, ![161]⟩
abbrev S41216x2048 : Shape := ⟨2, ![41216, 2048]⟩
abbrev S2x32x2048x2048 : Shape := ⟨4, ![2, 32, 2048, 2048]⟩
abbrev S2x32x2048 : Shape := ⟨3, ![2, 32, 2048]⟩
abbrev S161x256x2048 : Shape := ⟨3, ![161, 256, 2048]⟩
abbrev S1x32x2048x2048 : Shape := ⟨4, ![1, 32, 2048, 2048]⟩
abbrev S32x2048x2048 : Shape := ⟨3, ![32, 2048, 2048]⟩
abbrev S161x1 : Shape := ⟨2, ![161, 1]⟩
abbrev S161x2048x2048 : Shape := ⟨3, ![161, 2048, 2048]⟩
abbrev S1x32x2048 : Shape := ⟨3, ![1, 32, 2048]⟩
abbrev S32x2048 : Shape := ⟨2, ![32, 2048]⟩
abbrev S161x2048 : Shape := ⟨2, ![161, 2048]⟩
abbrev S161x1x2048 : Shape := ⟨3, ![161, 1, 2048]⟩
abbrev S_ : Shape := ⟨0, ![]⟩
abbrev S161x1x1 : Shape := ⟨3, ![161, 1, 1]⟩

abbrev nBuf : Space → Nat
  | .hbm => 29
  | .vmem => 0
  | .smem => 0
  | _ => 0

abbrev bufTy : (tb : Table) → Fin (tcTables nBuf tb) → BufTy
  | .hbm, ⟨0, _⟩ => ⟨S161, .i32⟩
  | .hbm, ⟨1, _⟩ => ⟨S161, .i32⟩
  | .hbm, ⟨2, _⟩ => ⟨S41216x2048, .bf16⟩
  | .hbm, ⟨3, _⟩ => ⟨S2x32x2048x2048, .f32⟩
  | .hbm, ⟨4, _⟩ => ⟨S2x32x2048, .f32⟩
  | .hbm, ⟨5, _⟩ => ⟨S41216x2048, .f32⟩
  | .hbm, ⟨6, _⟩ => ⟨S161x256x2048, .f32⟩
  | .hbm, ⟨7, _⟩ => ⟨S1x32x2048x2048, .f32⟩
  | .hbm, ⟨8, _⟩ => ⟨S32x2048x2048, .f32⟩
  | .hbm, ⟨9, _⟩ => ⟨S161x1, .i32⟩
  | .hbm, ⟨10, _⟩ => ⟨S161x2048x2048, .f32⟩
  | .hbm, ⟨11, _⟩ => ⟨S161x256x2048, .f32⟩
  | .hbm, ⟨12, _⟩ => ⟨S1x32x2048, .f32⟩
  | .hbm, ⟨13, _⟩ => ⟨S32x2048, .f32⟩
  | .hbm, ⟨14, _⟩ => ⟨S161x1, .i32⟩
  | .hbm, ⟨15, _⟩ => ⟨S161x2048, .f32⟩
  | .hbm, ⟨16, _⟩ => ⟨S161x1x2048, .f32⟩
  | .hbm, ⟨17, _⟩ => ⟨S161x256x2048, .f32⟩
  | .hbm, ⟨18, _⟩ => ⟨S161x256x2048, .f32⟩
  | .hbm, ⟨19, _⟩ => ⟨S_, .i32⟩
  | .hbm, ⟨20, _⟩ => ⟨S161, .i32⟩
  | .hbm, ⟨21, _⟩ => ⟨S161, .i1⟩
  | .hbm, ⟨22, _⟩ => ⟨S161x1x1, .i1⟩
  | .hbm, ⟨23, _⟩ => ⟨S_, .f32⟩
  | .hbm, ⟨24, _⟩ => ⟨S_, .f32⟩
  | .hbm, ⟨25, _⟩ => ⟨S161x256x2048, .i1⟩
  | .hbm, ⟨26, _⟩ => ⟨S161x256x2048, .f32⟩
  | .hbm, ⟨27, _⟩ => ⟨S161x256x2048, .f32⟩
  | .hbm, ⟨28, _⟩ => ⟨S41216x2048, .f32⟩
  | _, _ => ⟨S161, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Kernel4.lean ====
abbrev S161 : Shape := ⟨1, ![161]⟩
abbrev S41216x2048 : Shape := ⟨2, ![41216, 2048]⟩
abbrev S2x32x2048x4096 : Shape := ⟨4, ![2, 32, 2048, 4096]⟩
abbrev S2x32x4096 : Shape := ⟨3, ![2, 32, 4096]⟩
abbrev S2x32x1x4096 : Shape := ⟨4, ![2, 32, 1, 4096]⟩
abbrev S256x2048 : Shape := ⟨2, ![256, 2048]⟩
abbrev S1x1x2048x1024 : Shape := ⟨4, ![1, 1, 2048, 1024]⟩
abbrev S1 : Shape := ⟨1, ![1]⟩
abbrev S1x1x1x1024 : Shape := ⟨4, ![1, 1, 1, 1024]⟩
abbrev S256x1024 : Shape := ⟨2, ![256, 1024]⟩
abbrev S2048x1024 : Shape := ⟨2, ![2048, 1024]⟩
abbrev S1x1024 : Shape := ⟨2, ![1, 1024]⟩

abbrev nBuf : Space → Nat
  | .hbm => 5
  | .vmem => 14
  | .smem => 2
  | _ => 0

abbrev bufTy : (tb : Table) → Fin (tcTables nBuf tb) → BufTy
  | .hbm, ⟨0, _⟩ => ⟨S41216x2048, .f32⟩
  | .hbm, ⟨1, _⟩ => ⟨S2x32x2048x4096, .f32⟩
  | .hbm, ⟨2, _⟩ => ⟨S2x32x4096, .f32⟩
  | .hbm, ⟨3, _⟩ => ⟨S2x32x1x4096, .f32⟩
  | .hbm, ⟨4, _⟩ => ⟨S41216x2048, .bf16⟩
  | .local _ .vmem, ⟨0, _⟩ => ⟨S256x2048, .f32⟩
  | .local _ .vmem, ⟨1, _⟩ => ⟨S256x2048, .f32⟩
  | .local _ .vmem, ⟨2, _⟩ => ⟨S1x1x2048x1024, .f32⟩
  | .local _ .vmem, ⟨3, _⟩ => ⟨S1x1x2048x1024, .f32⟩
  | .local _ .vmem, ⟨4, _⟩ => ⟨S1x1x2048x1024, .f32⟩
  | .local _ .vmem, ⟨5, _⟩ => ⟨S1x1x2048x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S256x1024, .bf16⟩
  | .local _ .vmem, ⟨11, _⟩ => ⟨S256x1024, .bf16⟩
  | .local _ .vmem, ⟨12, _⟩ => ⟨S2048x1024, .bf16⟩
  | .local _ .vmem, ⟨13, _⟩ => ⟨S2048x1024, .bf16⟩
  | .local _ .smem, ⟨0, _⟩ => ⟨S161, .i32⟩
  | .local _ .smem, ⟨1, _⟩ => ⟨S161, .i32⟩
  | _, _ => ⟨S41216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 161], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
def k0_off3 (i : grid0.Coords) : Fin 1 → Nat :=
  let arg1 : BitVec 32 := BitVec.ofNat 32 (i 1).val
  let v11 : Index := Scalar.indexCast arg1
  ![v11.toNat]
def k0_off4 (i : grid0.Coords) : Fin 1 → Nat :=
  let arg1 : BitVec 32 := BitVec.ofNat 32 (i 1).val
  let v16 : Index := Scalar.indexCast arg1
  ![v16.toNat]
def k0_cond2 (v12 : BitVec 32) : BitVec 1 :=
  let c0_i32_2 : BitVec 32 := 0#32
  let v13 : BitVec 1 := Scalar.cmpi .sgt v12 c0_i32_2
  let v14 : BitVec 32 := Scalar.extui v13
  let c0_i32_3 : BitVec 32 := 0#32
  let v15 : BitVec 1 := Scalar.cmpi .ne v14 c0_i32_3
  v15

def k0_cond3 (v17 : BitVec 32) : BitVec 1 :=
  let c0_i32_4 : BitVec 32 := 0#32
  let v18 : BitVec 1 := Scalar.cmpi .eq v17 c0_i32_4
  let v19 : BitVec 32 := Scalar.extui v18
  let c0_i32_5 : BitVec 32 := 0#32
  let v20 : BitVec 1 := Scalar.cmpi .ne v19 c0_i32_5
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S161.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S161) ![v0.toNat] S1.size (k0_off1_inb i)) numel1_S1
  let c1_i32 : BitVec 32 := 1#32
  let c0_i32 : BitVec 32 := 0#32
  let c0_i32_0 : BitVec 32 := 0#32
  ![c1_i32.toNat, v1.toNat, c0_i32.toNat, arg0.toNat]

def cc0_transform_2 (k0_off1_inb : ∀ i : grid0.Coords, ∀ a, (k0_off1 i) a + S1.size a ≤ S161.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S161) ![v0.toNat] S1.size (k0_off1_inb i)) numel1_S1
  let c2_i32 : BitVec 32 := 2#32
  let v2 : BitVec 32 := Scalar.addi arg0 c2_i32
  let c1_i32 : BitVec 32 := 1#32
  let c0_i32 : BitVec 32 := 0#32
  let c0_i32_0 : BitVec 32 := 0#32
  ![c1_i32.toNat, v1.toNat, c0_i32.toNat, v2.toNat]

def cc0_transform_3 (k0_off1_inb : ∀ i : grid0.Coords, ∀ a, (k0_off1 i) a + S1.size a ≤ S161.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S161) ![v0.toNat] S1.size (k0_off1_inb i)) numel1_S1
  let c1_i32 : BitVec 32 := 1#32
  let c0_i32 : BitVec 32 := 0#32
  let c0_i32_0 : BitVec 32 := 0#32
  ![c1_i32.toNat, v1.toNat, c0_i32.toNat, arg0.toNat]

def cc0_transform_4 (k0_off1_inb : ∀ i : grid0.Coords, ∀ a, (k0_off1 i) a + S1.size a ≤ S161.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S161) ![v0.toNat] S1.size (k0_off1_inb i)) numel1_S1
  let c2_i32 : BitVec 32 := 2#32
  let v2 : BitVec 32 := Scalar.addi arg0 c2_i32
  let c1_i32 : BitVec 32 := 1#32
  let c0_i32 : BitVec 32 := 0#32
  let c0_i32_0 : BitVec 32 := 0#32
  ![c1_i32.toNat, v1.toNat, c0_i32.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S161 : Shape := ⟨1, ![161]⟩
abbrev S41216x2048 : Shape := ⟨2, ![41216, 2048]⟩
abbrev S2x32x2048x4096 : Shape := ⟨4, ![2, 32, 2048, 4096]⟩
abbrev S2x32x4096 : Shape := ⟨3, ![2, 32, 4096]⟩
abbrev S161x256x2048 : Shape := ⟨3, ![161, 256, 2048]⟩
abbrev S1x32x2048x4096 : Shape := ⟨4, ![1, 32, 2048, 4096]⟩
abbrev S32x2048x4096 : Shape := ⟨3, ![32, 2048, 4096]⟩
abbrev S161x1 : Shape := ⟨2, ![161, 1]⟩
abbrev S161x2048x4096 : Shape := ⟨3, ![161, 2048, 4096]⟩
abbrev S161x256x4096 : Shape := ⟨3, ![161, 256, 4096]⟩
abbrev S1x32x4096 : Shape := ⟨3, ![1, 32, 4096]⟩
abbrev S32x4096 : Shape := ⟨2, ![32, 4096]⟩
abbrev S161x4096 : Shape := ⟨2, ![161, 4096]⟩
abbrev S161x1x4096 : Shape := ⟨3, ![161, 1, 4096]⟩
abbrev S_ : Shape := ⟨0, ![]⟩
abbrev S161x1x1 : Shape := ⟨3, ![161, 1, 1]⟩

abbrev nBuf : Space → Nat
  | .hbm => 58
  | .vmem => 0
  | .smem => 0
  | _ => 0

abbrev bufTy : (tb : Table) → Fin (tcTables nBuf tb) → BufTy
  | .hbm, ⟨0, _⟩ => ⟨S161, .i32⟩
  | .hbm, ⟨1, _⟩ => ⟨S161, .i32⟩
  | .hbm, ⟨2, _⟩ => ⟨S41216x2048, .f32⟩
  | .hbm, ⟨3, _⟩ => ⟨S2x32x2048x4096, .f32⟩
  | .hbm, ⟨4, _⟩ => ⟨S2x32x4096, .f32⟩
  | .hbm, ⟨5, _⟩ => ⟨S161x256x2048, .f32⟩
  | .hbm, ⟨6, _⟩ => ⟨S1x32x2048x4096, .f32⟩
  | .hbm, ⟨7, _⟩ => ⟨S32x2048x4096, .f32⟩
  | .hbm, ⟨8, _⟩ => ⟨S161x1, .i32⟩
  | .hbm, ⟨9, _⟩ => ⟨S161x2048x4096, .f32⟩
  | .hbm, ⟨10, _⟩ => ⟨S161x256x4096, .f32⟩
  | .hbm, ⟨11, _⟩ => ⟨S1x32x4096, .f32⟩
  | .hbm, ⟨12, _⟩ => ⟨S32x4096, .f32⟩
  | .hbm, ⟨13, _⟩ => ⟨S161x1, .i32⟩
  | .hbm, ⟨14, _⟩ => ⟨S161x4096, .f32⟩
  | .hbm, ⟨15, _⟩ => ⟨S161x1x4096, .f32⟩
  | .hbm, ⟨16, _⟩ => ⟨S161x256x4096, .f32⟩
  | .hbm, ⟨17, _⟩ => ⟨S161x256x4096, .f32⟩
  | .hbm, ⟨18, _⟩ => ⟨S161x256x2048, .f32⟩
  | .hbm, ⟨19, _⟩ => ⟨S_, .f32⟩
  | .hbm, ⟨20, _⟩ => ⟨S161x256x2048, .f32⟩
  | .hbm, ⟨21, _⟩ => ⟨S161x256x2048, .f32⟩
  | .hbm, ⟨22, _⟩ => ⟨S161x256x2048, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S161x256x2048, .f32⟩
  | .hbm, ⟨27, _⟩ => ⟨S161x256x2048, .f32⟩
  | .hbm, ⟨28, _⟩ => ⟨S_, .f32⟩
  | .hbm, ⟨29, _⟩ => ⟨S161x256x2048, .f32⟩
  | .hbm, ⟨30, _⟩ => ⟨S161x256x2048, .f32⟩
  | .hbm, ⟨31, _⟩ => ⟨S_, .f32⟩
  | .hbm, ⟨32, _⟩ => ⟨S161x256x2048, .f32⟩
  | .hbm, ⟨33, _⟩ => ⟨S161x256x2048, .f32⟩
  | .hbm, ⟨34, _⟩ => ⟨S161x256x2048, .f32⟩
  | .hbm, ⟨35, _⟩ => ⟨S_, .f32⟩
  | .hbm, ⟨36, _⟩ => ⟨S161x256x2048, .f32⟩
  | .hbm, ⟨37, _⟩ => ⟨S161x256x2048, .f32⟩
  | .hbm, ⟨38, _⟩ => ⟨S161x256x2048, .f32⟩
  | .hbm, ⟨39, _⟩ => ⟨S161x256x2048, .f32⟩
  | .hbm, ⟨40, _⟩ => ⟨S_, .f32⟩
  | .hbm, ⟨41, _⟩ => ⟨S161x256x2048, .f32⟩
  | .hbm, ⟨42, _⟩ => ⟨S161x256x2048, .f32⟩
  | .hbm, ⟨43, _⟩ => ⟨S_, .f32⟩
  | .hbm, ⟨44, _⟩ => ⟨S161x256x2048, .f32⟩
  | .hbm, ⟨45, _⟩ => ⟨S161x256x2048, .f32⟩
  | .hbm, ⟨46, _⟩ => ⟨S161x256x2048, .f32⟩
  | .hbm, ⟨47, _⟩ => ⟨S_, .i32⟩
  | .hbm, ⟨48, _⟩ => ⟨S161, .i32⟩
  | .hbm, ⟨49, _⟩ => ⟨S161, .i1⟩
  | .hbm, ⟨50, _⟩ => ⟨S161x1x1, .i1⟩
  | .hbm, ⟨51, _⟩ => ⟨S_, .f32⟩
  | .hbm, ⟨52, _⟩ => ⟨S_, .f32⟩
  | .hbm, ⟨53, _⟩ => ⟨S161x256x2048, .i1⟩
  | .hbm, ⟨54, _⟩ => ⟨S161x256x2048, .f32⟩
  | .hbm, ⟨55, _⟩ => ⟨S161x256x2048, .f32⟩
  | .hbm, ⟨56, _⟩ => ⟨S161x256x2048, .bf16⟩
  | .hbm, ⟨57, _⟩ => ⟨S41216x2048, .bf16⟩
  | _, _ => ⟨S161, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_cst_1 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩

abbrev nD : Nat := 1
abbrev τ : Topo := Topo.v7x

variable {F : FTy → Type} [FloatOps F]
-- ==== Kernel5.lean ====
abbrev S161 : Shape := ⟨1, ![161]⟩
abbrev S41216x2048 : Shape := ⟨2, ![41216, 2048]⟩
abbrev S2x32x2048x2048 : Shape := ⟨4, ![2, 32, 2048, 2048]⟩
abbrev S2x32x2048 : Shape := ⟨3, ![2, 32, 2048]⟩
abbrev S2x32x1x2048 : Shape := ⟨4, ![2, 32, 1, 2048]⟩
abbrev S256x2048 : Shape := ⟨2, ![256, 2048]⟩
abbrev S1x1x2048x1024 : Shape := ⟨4, ![1, 1, 2048, 1024]⟩
abbrev S1 : Shape := ⟨1, ![1]⟩
abbrev S1x1x1x1024 : Shape := ⟨4, ![1, 1, 1, 1024]⟩
abbrev S256x1024 : Shape := ⟨2, ![256, 1024]⟩
abbrev S2048x1024 : Shape := ⟨2, ![2048, 1024]⟩
abbrev S1x1024 : Shape := ⟨2, ![1, 1024]⟩

abbrev nBuf : Space → Nat
  | .hbm => 5
  | .vmem => 9
  | .smem => 2
  | _ => 0

abbrev bufTy : (tb : Table) → Fin (tcTables nBuf tb) → BufTy
  | .hbm, ⟨0, _⟩ => ⟨S41216x2048, .bf16⟩
  | .hbm, ⟨1, _⟩ => ⟨S2x32x2048x2048, .f32⟩
  | .hbm, ⟨2, _⟩ => ⟨S2x32x2048, .f32⟩
  | .hbm, ⟨3, _⟩ => ⟨S2x32x1x2048, .f32⟩
  | .hbm, ⟨4, _⟩ => ⟨S41216x2048, .f32⟩
  | .local _ .vmem, ⟨0, _⟩ => ⟨S256x2048, .bf16⟩
  | .local _ .vmem, ⟨1, _⟩ => ⟨S256x2048, .bf16⟩
  | .local _ .vmem, ⟨2, _⟩ => ⟨S1x1x2048x1024, .f32⟩
  | .local _ .vmem, ⟨3, _⟩ => ⟨S1x1x2048x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S256x1024, .f32⟩
  | .local _ .vmem, ⟨7, _⟩ => ⟨S256x1024, .f32⟩
  | .local _ .vmem, ⟨8, _⟩ => ⟨S2048x1024, .bf16⟩
  | .local _ .smem, ⟨0, _⟩ => ⟨S161, .i32⟩
  | .local _ .smem, ⟨1, _⟩ => ⟨S161, .i32⟩
  | _, _ => ⟨S41216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 161], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
def k0_off3 (i : grid0.Coords) : Fin 1 → Nat :=
  let arg1 : BitVec 32 := BitVec.ofNat 32 (i 1).val
  let v11 : Index := Scalar.indexCast arg1
  ![v11.toNat]
def k0_off4 (i : grid0.Coords) : Fin 1 → Nat :=
  let arg1 : BitVec 32 := BitVec.ofNat 32 (i 1).val
  let v16 : Index := Scalar.indexCast arg1
  ![v16.toNat]
def k0_cond2 (v12 : BitVec 32) : BitVec 1 :=
  let c0_i32_2 : BitVec 32 := 0#32
  let v13 : BitVec 1 := Scalar.cmpi .sgt v12 c0_i32_2
  let v14 : BitVec 32 := Scalar.extui v13
  let c0_i32_3 : BitVec 32 := 0#32
  let v15 : BitVec 1 := Scalar.cmpi .ne v14 c0_i32_3
  v15

def k0_cond3 (v17 : BitVec 32) : BitVec 1 :=
  let c0_i32_4 : BitVec 32 := 0#32
  let v18 : BitVec 1 := Scalar.cmpi .eq v17 c0_i32_4
  let v19 : BitVec 32 := Scalar.extui v18
  let c0_i32_5 : BitVec 32 := 0#32
  let v20 : BitVec 1 := Scalar.cmpi .ne v19 c0_i32_5
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S161.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S161) ![v0.toNat] S1.size (k0_off1_inb i)) numel1_S1
  let c1_i32 : BitVec 32 := 1#32
  let c0_i32 : BitVec 32 := 0#32
  let c0_i32_0 : BitVec 32 := 0#32
  ![c1_i32.toNat, v1.toNat, c0_i32.toNat, arg0.toNat]

def cc0_transform_2 (k0_off1_inb : ∀ i : grid0.Coords, ∀ a, (k0_off1 i) a + S1.size a ≤ S161.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S161) ![v0.toNat] S1.size (k0_off1_inb i)) numel1_S1
  let c1_i32 : BitVec 32 := 1#32
  let c0_i32 : BitVec 32 := 0#32
  let c0_i32_0 : BitVec 32 := 0#32
  ![c1_i32.toNat, v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S161 : Shape := ⟨1, ![161]⟩
abbrev S41216x2048 : Shape := ⟨2, ![41216, 2048]⟩
abbrev S2x32x2048x2048 : Shape := ⟨4, ![2, 32, 2048, 2048]⟩
abbrev S2x32x2048 : Shape := ⟨3, ![2, 32, 2048]⟩
abbrev S161x256x2048 : Shape := ⟨3, ![161, 256, 2048]⟩
abbrev S1x32x2048x2048 : Shape := ⟨4, ![1, 32, 2048, 2048]⟩
abbrev S32x2048x2048 : Shape := ⟨3, ![32, 2048, 2048]⟩
abbrev S161x1 : Shape := ⟨2, ![161, 1]⟩
abbrev S161x2048x2048 : Shape := ⟨3, ![161, 2048, 2048]⟩
abbrev S1x32x2048 : Shape := ⟨3, ![1, 32, 2048]⟩
abbrev S32x2048 : Shape := ⟨2, ![32, 2048]⟩
abbrev S161x2048 : Shape := ⟨2, ![161, 2048]⟩
abbrev S161x1x2048 : Shape := ⟨3, ![161, 1, 2048]⟩
abbrev S_ : Shape := ⟨0, ![]⟩
abbrev S161x1x1 : Shape := ⟨3, ![161, 1, 1]⟩

abbrev nBuf : Space → Nat
  | .hbm => 29
  | .vmem => 0
  | .smem => 0
  | _ => 0

abbrev bufTy : (tb : Table) → Fin (tcTables nBuf tb) → BufTy
  | .hbm, ⟨0, _⟩ => ⟨S161, .i32⟩
  | .hbm, ⟨1, _⟩ => ⟨S161, .i32⟩
  | .hbm, ⟨2, _⟩ => ⟨S41216x2048, .bf16⟩
  | .hbm, ⟨3, _⟩ => ⟨S2x32x2048x2048, .f32⟩
  | .hbm, ⟨4, _⟩ => ⟨S2x32x2048, .f32⟩
  | .hbm, ⟨5, _⟩ => ⟨S41216x2048, .f32⟩
  | .hbm, ⟨6, _⟩ => ⟨S161x256x2048, .f32⟩
  | .hbm, ⟨7, _⟩ => ⟨S1x32x2048x2048, .f32⟩
  | .hbm, ⟨8, _⟩ => ⟨S32x2048x2048, .f32⟩
  | .hbm, ⟨9, _⟩ => ⟨S161x1, .i32⟩
  | .hbm, ⟨10, _⟩ => ⟨S161x2048x2048, .f32⟩
  | .hbm, ⟨11, _⟩ => ⟨S161x256x2048, .f32⟩
  | .hbm, ⟨12, _⟩ => ⟨S1x32x2048, .f32⟩
  | .hbm, ⟨13, _⟩ => ⟨S32x2048, .f32⟩
  | .hbm, ⟨14, _⟩ => ⟨S161x1, .i32⟩
  | .hbm, ⟨15, _⟩ => ⟨S161x2048, .f32⟩
  | .hbm, ⟨16, _⟩ => ⟨S161x1x2048, .f32⟩
  | .hbm, ⟨17, _⟩ => ⟨S161x256x2048, .f32⟩
  | .hbm, ⟨18, _⟩ => ⟨S161x256x2048, .f32⟩
  | .hbm, ⟨19, _⟩ => ⟨S_, .i32⟩
  | .hbm, ⟨20, _⟩ => ⟨S161, .i32⟩
  | .hbm, ⟨21, _⟩ => ⟨S161, .i1⟩
  | .hbm, ⟨22, _⟩ => ⟨S161x1x1, .i1⟩
  | .hbm, ⟨23, _⟩ => ⟨S_, .f32⟩
  | .hbm, ⟨24, _⟩ => ⟨S_, .f32⟩
  | .hbm, ⟨25, _⟩ => ⟨S161x256x2048, .i1⟩
  | .hbm, ⟨26, _⟩ => ⟨S161x256x2048, .f32⟩
  | .hbm, ⟨27, _⟩ => ⟨S161x256x2048, .f32⟩
  | .hbm, ⟨28, _⟩ => ⟨S41216x2048, .f32⟩
  | _, _ => ⟨S161, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Kernel6.lean ====
abbrev S2x4096x2048 : Shape := ⟨3, ![2, 4096, 2048]⟩
abbrev S2x1x2048 : Shape := ⟨3, ![2, 1, 2048]⟩
abbrev S2x2048x7424 : Shape := ⟨3, ![2, 2048, 7424]⟩
abbrev S2x4096x7424 : Shape := ⟨3, ![2, 4096, 7424]⟩
abbrev S1x1024x2048 : Shape := ⟨3, ![1, 1024, 2048]⟩
abbrev S1x1x2048 : Shape := ⟨3, ![1, 1, 2048]⟩
abbrev S1x2048x256 : Shape := ⟨3, ![1, 2048, 256]⟩
abbrev S1x1024x256 : Shape := ⟨3, ![1, 1024, 256]⟩
abbrev S1024x2048 : Shape := ⟨2, ![1024, 2048]⟩
abbrev S1x2048 : Shape := ⟨2, ![1, 2048]⟩
abbrev S2048x256 : Shape := ⟨2, ![2048, 256]⟩
abbrev S1024x256 : Shape := ⟨2, ![1024, 256]⟩

abbrev nBuf : Space → Nat
  | .hbm => 5
  | .vmem => 11
  | .smem => 0
  | _ => 0

abbrev bufTy : (tb : Table) → Fin (tcTables nBuf tb) → BufTy
  | .hbm, ⟨0, _⟩ => ⟨S2x4096x2048, .f32⟩
  | .hbm, ⟨1, _⟩ => ⟨S2x1x2048, .f32⟩
  | .hbm, ⟨2, _⟩ => ⟨S2x1x2048, .f32⟩
  | .hbm, ⟨3, _⟩ => ⟨S2x2048x7424, .bf16⟩
  | .hbm, ⟨4, _⟩ => ⟨S2x4096x7424, .f32⟩
  | .local _ .vmem, ⟨0, _⟩ => ⟨S1x1024x2048, .f32⟩
  | .local _ .vmem, ⟨1, _⟩ => ⟨S1x1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048x256, .bf16⟩
  | .local _ .vmem, ⟨7, _⟩ => ⟨S1x2048x256, .bf16⟩
  | .local _ .vmem, ⟨8, _⟩ => ⟨S1x1024x256, .f32⟩
  | .local _ .vmem, ⟨9, _⟩ => ⟨S1x1024x256, .f32⟩
  | .local _ .vmem, ⟨10, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 29], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference6Ideal.lean ====
abbrev S2x4096x2048 : Shape := ⟨3, ![2, 4096, 2048]⟩
abbrev S2x1x2048 : Shape := ⟨3, ![2, 1, 2048]⟩
abbrev S2x2048x7424 : Shape := ⟨3, ![2, 2048, 7424]⟩
abbrev S_ : Shape := ⟨0, ![]⟩
abbrev S1x2048x7424 : Shape := ⟨3, ![1, 2048, 7424]⟩
abbrev S2048x7424 : Shape := ⟨2, ![2048, 7424]⟩
abbrev S2x4096x7424 : Shape := ⟨3, ![2, 4096, 7424]⟩

abbrev nBuf : Space → Nat
  | .hbm => 15
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x1x2048, .f32⟩
  | .hbm, ⟨2, _⟩ => ⟨S2x1x2048, .f32⟩
  | .hbm, ⟨3, _⟩ => ⟨S2x2048x7424, .bf16⟩
  | .hbm, ⟨4, _⟩ => ⟨S_, .f32⟩
  | .hbm, ⟨5, _⟩ => ⟨S2x1x2048, .f32⟩
  | .hbm, ⟨6, _⟩ => ⟨S2x1x2048, .f32⟩
  | .hbm, ⟨7, _⟩ => ⟨S2x4096x2048, .f32⟩
  | .hbm, ⟨8, _⟩ => ⟨S2x4096x2048, .f32⟩
  | .hbm, ⟨9, _⟩ => ⟨S2x4096x2048, .f32⟩
  | .hbm, ⟨10, _⟩ => ⟨S2x4096x2048, .f32⟩
  | .hbm, ⟨11, _⟩ => ⟨S1x2048x7424, .bf16⟩
  | .hbm, ⟨12, _⟩ => ⟨S2048x7424, .bf16⟩
  | .hbm, ⟨13, _⟩ => ⟨S2048x7424, .f32⟩
  | .hbm, ⟨14, _⟩ => ⟨S2x4096x7424, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel7.lean ====
abbrev S2x4096x2048 : Shape := ⟨3, ![2, 4096, 2048]⟩
abbrev S2x1x2048 : Shape := ⟨3, ![2, 1, 2048]⟩
abbrev S2x2048x7424 : Shape := ⟨3, ![2, 2048, 7424]⟩
abbrev S2x4096x7424 : Shape := ⟨3, ![2, 4096, 7424]⟩
abbrev S1x1024x2048 : Shape := ⟨3, ![1, 1024, 2048]⟩
abbrev S1x1x2048 : Shape := ⟨3, ![1, 1, 2048]⟩
abbrev S1x2048x256 : Shape := ⟨3, ![1, 2048, 256]⟩
abbrev S1x1024x256 : Shape := ⟨3, ![1, 1024, 256]⟩
abbrev S1024x2048 : Shape := ⟨2, ![1024, 2048]⟩
abbrev S1x2048 : Shape := ⟨2, ![1, 2048]⟩
abbrev S2048x256 : Shape := ⟨2, ![2048, 256]⟩
abbrev S1024x256 : Shape := ⟨2, ![1024, 256]⟩

abbrev nBuf : Space → Nat
  | .hbm => 5
  | .vmem => 11
  | .smem => 0
  | _ => 0

abbrev bufTy : (tb : Table) → Fin (tcTables nBuf tb) → BufTy
  | .hbm, ⟨0, _⟩ => ⟨S2x4096x2048, .f32⟩
  | .hbm, ⟨1, _⟩ => ⟨S2x1x2048, .f32⟩
  | .hbm, ⟨2, _⟩ => ⟨S2x1x2048, .f32⟩
  | .hbm, ⟨3, _⟩ => ⟨S2x2048x7424, .bf16⟩
  | .hbm, ⟨4, _⟩ => ⟨S2x4096x7424, .f32⟩
  | .local _ .vmem, ⟨0, _⟩ => ⟨S1x1024x2048, .f32⟩
  | .local _ .vmem, ⟨1, _⟩ => ⟨S1x1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048x256, .bf16⟩
  | .local _ .vmem, ⟨7, _⟩ => ⟨S1x2048x256, .bf16⟩
  | .local _ .vmem, ⟨8, _⟩ => ⟨S1x1024x256, .f32⟩
  | .local _ .vmem, ⟨9, _⟩ => ⟨S1x1024x256, .f32⟩
  | .local _ .vmem, ⟨10, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 29], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference7Ideal.lean ====
abbrev S2x4096x2048 : Shape := ⟨3, ![2, 4096, 2048]⟩
abbrev S2x1x2048 : Shape := ⟨3, ![2, 1, 2048]⟩
abbrev S2x2048x7424 : Shape := ⟨3, ![2, 2048, 7424]⟩
abbrev S_ : Shape := ⟨0, ![]⟩
abbrev S1x2048x7424 : Shape := ⟨3, ![1, 2048, 7424]⟩
abbrev S2048x7424 : Shape := ⟨2, ![2048, 7424]⟩
abbrev S2x4096x7424 : Shape := ⟨3, ![2, 4096, 7424]⟩

abbrev nBuf : Space → Nat
  | .hbm => 15
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x1x2048, .f32⟩
  | .hbm, ⟨2, _⟩ => ⟨S2x1x2048, .f32⟩
  | .hbm, ⟨3, _⟩ => ⟨S2x2048x7424, .bf16⟩
  | .hbm, ⟨4, _⟩ => ⟨S_, .f32⟩
  | .hbm, ⟨5, _⟩ => ⟨S2x1x2048, .f32⟩
  | .hbm, ⟨6, _⟩ => ⟨S2x1x2048, .f32⟩
  | .hbm, ⟨7, _⟩ => ⟨S2x4096x2048, .f32⟩
  | .hbm, ⟨8, _⟩ => ⟨S2x4096x2048, .f32⟩
  | .hbm, ⟨9, _⟩ => ⟨S2x4096x2048, .f32⟩
  | .hbm, ⟨10, _⟩ => ⟨S2x4096x2048, .f32⟩
  | .hbm, ⟨11, _⟩ => ⟨S1x2048x7424, .bf16⟩
  | .hbm, ⟨12, _⟩ => ⟨S2048x7424, .bf16⟩
  | .hbm, ⟨13, _⟩ => ⟨S2048x7424, .f32⟩
  | .hbm, ⟨14, _⟩ => ⟨S2x4096x7424, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel8.lean ====
abbrev S2x4096x768 : Shape := ⟨3, ![2, 4096, 768]⟩
abbrev S2x4096x640 : Shape := ⟨3, ![2, 4096, 640]⟩
abbrev S2x2048x2048 : Shape := ⟨3, ![2, 2048, 2048]⟩
abbrev S2x4096x2048 : Shape := ⟨3, ![2, 4096, 2048]⟩
abbrev S2x1x2048 : Shape := ⟨3, ![2, 1, 2048]⟩
abbrev S2x2048x32 : Shape := ⟨3, ![2, 2048, 32]⟩
abbrev S2x1x32 : Shape := ⟨3, ![2, 1, 32]⟩
abbrev S2x4096x32 : Shape := ⟨3, ![2, 4096, 32]⟩
abbrev S1x256x768 : Shape := ⟨3, ![1, 256, 768]⟩
abbrev S1x256x640 : Shape := ⟨3, ![1, 256, 640]⟩
abbrev S1x2048x2048 : Shape := ⟨3, ![1, 2048, 2048]⟩
abbrev S1x256x2048 : Shape := ⟨3, ![1, 256, 2048]⟩
abbrev S1x1x2048 : Shape := ⟨3, ![1, 1, 2048]⟩
abbrev S1x2048x32 : Shape := ⟨3, ![1, 2048, 32]⟩
abbrev S1x1x32 : Shape := ⟨3, ![1, 1, 32]⟩
abbrev S1x256x32 : Shape := ⟨3, ![1, 256, 32]⟩
abbrev S256x768 : Shape := ⟨2, ![256, 768]⟩
abbrev S1x768x2048 : Shape := ⟨3, ![1, 768, 2048]⟩
abbrev S768x2048 : Shape := ⟨2, ![768, 2048]⟩
abbrev S256x2048 : Shape := ⟨2, ![256, 2048]⟩
abbrev S256x640 : Shape := ⟨2, ![256, 640]⟩
abbrev S1x640x2048 : Shape := ⟨3, ![1, 640, 2048]⟩
abbrev S640x2048 : Shape := ⟨2, ![640, 2048]⟩
abbrev S1x2048 : Shape := ⟨2, ![1, 2048]⟩
abbrev S256 : Shape := ⟨1, ![256]⟩
abbrev S256x1 : Shape := ⟨2, ![256, 1]⟩
abbrev S2048x32 : Shape := ⟨2, ![2048, 32]⟩
abbrev S256x32 : Shape := ⟨2, ![256, 32]⟩
abbrev S1x32 : Shape := ⟨2, ![1, 32]⟩

abbrev nBuf : Space → Nat
  | .hbm => 15
  | .vmem => 25
  | .smem => 0
  | _ => 0

abbrev bufTy : (tb : Table) → Fin (tcTables nBuf tb) → BufTy
  | .hbm, ⟨0, _⟩ => ⟨S2x4096x768, .bf16⟩
  | .hbm, ⟨1, _⟩ => ⟨S2x4096x640, .bf16⟩
  | .hbm, ⟨2, _⟩ => ⟨S2x4096x640, .bf16⟩
  | .hbm, ⟨3, _⟩ => ⟨S2x2048x2048, .bf16⟩
  | .hbm, ⟨4, _⟩ => ⟨S2x4096x2048, .f32⟩
  | .hbm, ⟨5, _⟩ => ⟨S2x1x2048, .f32⟩
  | .hbm, ⟨6, _⟩ => ⟨S2x1x2048, .f32⟩
  | .hbm, ⟨7, _⟩ => ⟨S2x1x2048, .f32⟩
  | .hbm, ⟨8, _⟩ => ⟨S2x1x2048, .f32⟩
  | .hbm, ⟨9, _⟩ => ⟨S2x1x2048, .f32⟩
  | .hbm, ⟨10, _⟩ => ⟨S2x2048x32, .f32⟩
  | .hbm, ⟨11, _⟩ => ⟨S2x1x32, .f32⟩
  | .hbm, ⟨12, _⟩ => ⟨S2x4096x2048, .f32⟩
  | .hbm, ⟨13, _⟩ => ⟨S2x4096x2048, .f32⟩
  | .hbm, ⟨14, _⟩ => ⟨S2x4096x32, .f32⟩
  | .local _ .vmem, ⟨0, _⟩ => ⟨S1x256x768, .bf16⟩
  | .local _ .vmem, ⟨1, _⟩ => ⟨S1x256x768, .bf16⟩
  | .local _ .vmem, ⟨2, _⟩ => ⟨S1x256x640, .bf16⟩
  | .local _ .vmem, ⟨3, _⟩ => ⟨S1x256x640, .bf16⟩
  | .local _ .vmem, ⟨4, _⟩ => ⟨S1x256x640, .bf16⟩
  | .local _ .vmem, ⟨5, _⟩ => ⟨S1x256x640, .bf16⟩
  | .local _ .vmem, ⟨6, _⟩ => ⟨S1x2048x2048, .bf16⟩
  | .local _ .vmem, ⟨7, _⟩ => ⟨S1x256x2048, .f32⟩
  | .local _ .vmem, ⟨8, _⟩ => ⟨S1x256x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x1x2048, .f32⟩
  | .local _ .vmem, ⟨15, _⟩ => ⟨S1x1x2048, .f32⟩
  | .local _ .vmem, ⟨16, _⟩ => ⟨S1x1x2048, .f32⟩
  | .local _ .vmem, ⟨17, _⟩ => ⟨S1x2048x32, .f32⟩
  | .local _ .vmem, ⟨18, _⟩ => ⟨S1x1x32, .f32⟩
  | .local _ .vmem, ⟨19, _⟩ => ⟨S1x256x2048, .f32⟩
  | .local _ .vmem, ⟨20, _⟩ => ⟨S1x256x2048, .f32⟩
  | .local _ .vmem, ⟨21, _⟩ => ⟨S1x256x2048, .f32⟩
  | .local _ .vmem, ⟨22, _⟩ => ⟨S1x256x2048, .f32⟩
  | .local _ .vmem, ⟨23, _⟩ => ⟨S1x256x32, .f32⟩
  | .local _ .vmem, ⟨24, _⟩ => ⟨S1x256x32, .f32⟩
  | _, _ => ⟨S2x4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x2048x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x32 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference8Ideal.lean ====
abbrev S2x4096x768 : Shape := ⟨3, ![2, 4096, 768]⟩
abbrev S2x4096x640 : Shape := ⟨3, ![2, 4096, 640]⟩
abbrev S2x2048x2048 : Shape := ⟨3, ![2, 2048, 2048]⟩
abbrev S2x4096x2048 : Shape := ⟨3, ![2, 4096, 2048]⟩
abbrev S2x1x2048 : Shape := ⟨3, ![2, 1, 2048]⟩
abbrev S2x2048x32 : Shape := ⟨3, ![2, 2048, 32]⟩
abbrev S2x1x32 : Shape := ⟨3, ![2, 1, 32]⟩
abbrev S1x2048x2048 : Shape := ⟨3, ![1, 2048, 2048]⟩
abbrev S2048x2048 : Shape := ⟨2, ![2048, 2048]⟩
abbrev S_ : Shape := ⟨0, ![]⟩
abbrev S1x1x2048 : Shape := ⟨3, ![1, 1, 2048]⟩
abbrev S1x2048 : Shape := ⟨2, ![1, 2048]⟩
abbrev S2x4096 : Shape := ⟨2, ![2, 4096]⟩
abbrev S2x4096x1 : Shape := ⟨3, ![2, 4096, 1]⟩
abbrev S1x2048x32 : Shape := ⟨3, ![1, 2048, 32]⟩
abbrev S2048x32 : Shape := ⟨2, ![2048, 32]⟩
abbrev S2x4096x32 : Shape := ⟨3, ![2, 4096, 32]⟩
abbrev S1x1x32 : Shape := ⟨3, ![1, 1, 32]⟩
abbrev S1x32 : Shape := ⟨2, ![1, 32]⟩

abbrev nBuf : Space → Nat
  | .hbm => 77
  | .vmem => 0
  | .smem => 0
  | _ => 0

abbrev bufTy : (tb : Table) → Fin (tcTables nBuf tb) → BufTy
  | .hbm, ⟨0, _⟩ => ⟨S2x4096x768, .bf16⟩
  | .hbm, ⟨1, _⟩ => ⟨S2x4096x640, .bf16⟩
  | .hbm, ⟨2, _⟩ => ⟨S2x4096x640, .bf16⟩
  | .hbm, ⟨3, _⟩ => ⟨S2x2048x2048, .bf16⟩
  | .hbm, ⟨4, _⟩ => ⟨S2x4096x2048, .f32⟩
  | .hbm, ⟨5, _⟩ => ⟨S2x1x2048, .f32⟩
  | .hbm, ⟨6, _⟩ => ⟨S2x1x2048, .f32⟩
  | .hbm, ⟨7, _⟩ => ⟨S2x1x2048, .f32⟩
  | .hbm, ⟨8, _⟩ => ⟨S2x1x2048, .f32⟩
  | .hbm, ⟨9, _⟩ => ⟨S2x1x2048, .f32⟩
  | .hbm, ⟨10, _⟩ => ⟨S2x2048x32, .f32⟩
  | .hbm, ⟨11, _⟩ => ⟨S2x1x32, .f32⟩
  | .hbm, ⟨12, _⟩ => ⟨S2x4096x768, .f32⟩
  | .hbm, ⟨13, _⟩ => ⟨S2x4096x640, .f32⟩
  | .hbm, ⟨14, _⟩ => ⟨S2x4096x640, .f32⟩
  | .hbm, ⟨15, _⟩ => ⟨S2x4096x2048, .f32⟩
  | .hbm, ⟨16, _⟩ => ⟨S1x2048x2048, .bf16⟩
  | .hbm, ⟨17, _⟩ => ⟨S2048x2048, .bf16⟩
  | .hbm, ⟨18, _⟩ => ⟨S2048x2048, .f32⟩
  | .hbm, ⟨19, _⟩ => ⟨S2x4096x2048, .f32⟩
  | .hbm, ⟨20, _⟩ => ⟨S_, .f32⟩
  | .hbm, ⟨21, _⟩ => ⟨S2x4096x2048, .f32⟩
  | .hbm, ⟨22, _⟩ => ⟨S2x4096x2048, .f32⟩
  | .hbm, ⟨23, _⟩ => ⟨S_, .f32⟩
  | .hbm, ⟨24, _⟩ => ⟨S2x1x2048, .f32⟩
  | .hbm, ⟨25, _⟩ => ⟨S2x1x2048, .f32⟩
  | .hbm, ⟨26, _⟩ => ⟨S2x4096x2048, .f32⟩
  | .hbm, ⟨27, _⟩ => ⟨S2x4096x2048, .f32⟩
  | .hbm, ⟨28, _⟩ => ⟨S2x4096x2048, .f32⟩
  | .hbm, ⟨29, _⟩ => ⟨S1x1x2048, .f32⟩
  | .hbm, ⟨30, _⟩ => ⟨S1x2048, .f32⟩
  | .hbm, ⟨31, _⟩ => ⟨S1x1x2048, .f32⟩
  | .hbm, ⟨32, _⟩ => ⟨S1x2048, .f32⟩
  | .hbm, ⟨33, _⟩ => ⟨S_, .f32⟩
  | .hbm, ⟨34, _⟩ => ⟨S2x4096, .f32⟩
  | .hbm, ⟨35, _⟩ => ⟨S2x4096x1, .f32⟩
  | .hbm, ⟨36, _⟩ => ⟨S_, .f32⟩
  | .hbm, ⟨37, _⟩ => ⟨S2x4096x1, .f32⟩
  | .hbm, ⟨38, _⟩ => ⟨S2x4096x1, .f32⟩
  | .hbm, ⟨39, _⟩ => ⟨S2x4096x2048, .f32⟩
  | .hbm, ⟨40, _⟩ => ⟨S2x4096x2048, .f32⟩
  | .hbm, ⟨41, _⟩ => ⟨S2x4096x2048, .f32⟩
  | .hbm, ⟨42, _⟩ => ⟨S_, .f32⟩
  | .hbm, ⟨43, _⟩ => ⟨S2x4096, .f32⟩
  | .hbm, ⟨44, _⟩ => ⟨S2x4096x1, .f32⟩
  | .hbm, ⟨45, _⟩ => ⟨S_, .f32⟩
  | .hbm, ⟨46, _⟩ => ⟨S2x4096x1, .f32⟩
  | .hbm, ⟨47, _⟩ => ⟨S2x4096x1, .f32⟩
  | .hbm, ⟨48, _⟩ => ⟨S2x4096x2048, .f32⟩
  | .hbm, ⟨49, _⟩ => ⟨S2x4096x2048, .f32⟩
  | .hbm, ⟨50, _⟩ => ⟨S_, .f32⟩
  | .hbm, ⟨51, _⟩ => ⟨S2x4096x1, .f32⟩
  | .hbm, ⟨52, _⟩ => ⟨S2x4096x1, .f32⟩
  | .hbm, ⟨53, _⟩ => ⟨S2x4096x1, .f32⟩
  | .hbm, ⟨54, _⟩ => ⟨S2x4096x2048, .f32⟩
  | .hbm, ⟨55, _⟩ => ⟨S2x4096x2048, .f32⟩
  | .hbm, ⟨56, _⟩ => ⟨S1x1x2048, .f32⟩
  | .hbm, ⟨57, _⟩ => ⟨S2x4096x2048, .f32⟩
  | .hbm, ⟨58, _⟩ => ⟨S2x4096x2048, .f32⟩
  | .hbm, ⟨59, _⟩ => ⟨S1x1x2048, .f32⟩
  | .hbm, ⟨60, _⟩ => ⟨S2x4096x2048, .f32⟩
  | .hbm, ⟨61, _⟩ => ⟨S2x4096x2048, .f32⟩
  | .hbm, ⟨62, _⟩ => ⟨S_, .f32⟩
  | .hbm, ⟨63, _⟩ => ⟨S2x1x2048, .f32⟩
  | .hbm, ⟨64, _⟩ => ⟨S2x1x2048, .f32⟩
  | .hbm, ⟨65, _⟩ => ⟨S2x4096x2048, .f32⟩
  | .hbm, ⟨66, _⟩ => ⟨S2x4096x2048, .f32⟩
  | .hbm, ⟨67, _⟩ => ⟨S2x4096x2048, .f32⟩
  | .hbm, ⟨68, _⟩ => ⟨S2x4096x2048, .f32⟩
  | .hbm, ⟨69, _⟩ => ⟨S1x2048x32, .f32⟩
  | .hbm, ⟨70, _⟩ => ⟨S2048x32, .f32⟩
  | .hbm, ⟨71, _⟩ => ⟨S2x4096x32, .f32⟩
  | .hbm, ⟨72, _⟩ => ⟨S1x1x32, .f32⟩
  | .hbm, ⟨73, _⟩ => ⟨S1x32, .f32⟩
  | .hbm, ⟨74, _⟩ => ⟨S1x1x32, .f32⟩
  | .hbm, ⟨75, _⟩ => ⟨S2x4096x32, .f32⟩
  | .hbm, ⟨76, _⟩ => ⟨S2x4096x32, .f32⟩
  | _, _ => ⟨S2x4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_6 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩

abbrev nD : Nat := 1
abbrev τ : Topo := Topo.v7x

variable {F : FTy → Type} [FloatOps F]
-- ==== Kernel9.lean ====
abbrev S2x4096x768 : Shape := ⟨3, ![2, 4096, 768]⟩
abbrev S2x4096x640 : Shape := ⟨3, ![2, 4096, 640]⟩
abbrev S2x2048x2048 : Shape := ⟨3, ![2, 2048, 2048]⟩
abbrev S2x4096x2048 : Shape := ⟨3, ![2, 4096, 2048]⟩
abbrev S2x1x2048 : Shape := ⟨3, ![2, 1, 2048]⟩
abbrev S2x2048x32 : Shape := ⟨3, ![2, 2048, 32]⟩
abbrev S2x1x32 : Shape := ⟨3, ![2, 1, 32]⟩
abbrev S2x4096x32 : Shape := ⟨3, ![2, 4096, 32]⟩
abbrev S1x256x768 : Shape := ⟨3, ![1, 256, 768]⟩
abbrev S1x256x640 : Shape := ⟨3, ![1, 256, 640]⟩
abbrev S1x2048x2048 : Shape := ⟨3, ![1, 2048, 2048]⟩
abbrev S1x256x2048 : Shape := ⟨3, ![1, 256, 2048]⟩
abbrev S1x1x2048 : Shape := ⟨3, ![1, 1, 2048]⟩
abbrev S1x2048x32 : Shape := ⟨3, ![1, 2048, 32]⟩
abbrev S1x1x32 : Shape := ⟨3, ![1, 1, 32]⟩
abbrev S1x256x32 : Shape := ⟨3, ![1, 256, 32]⟩
abbrev S256x768 : Shape := ⟨2, ![256, 768]⟩
abbrev S1x768x2048 : Shape := ⟨3, ![1, 768, 2048]⟩
abbrev S768x2048 : Shape := ⟨2, ![768, 2048]⟩
abbrev S256x2048 : Shape := ⟨2, ![256, 2048]⟩
abbrev S256x640 : Shape := ⟨2, ![256, 640]⟩
abbrev S1x640x2048 : Shape := ⟨3, ![1, 640, 2048]⟩
abbrev S640x2048 : Shape := ⟨2, ![640, 2048]⟩
abbrev S1x2048 : Shape := ⟨2, ![1, 2048]⟩
abbrev S256 : Shape := ⟨1, ![256]⟩
abbrev S256x1 : Shape := ⟨2, ![256, 1]⟩
abbrev S2048x32 : Shape := ⟨2, ![2048, 32]⟩
abbrev S256x32 : Shape := ⟨2, ![256, 32]⟩
abbrev S1x32 : Shape := ⟨2, ![1, 32]⟩

abbrev nBuf : Space → Nat
  | .hbm => 15
  | .vmem => 25
  | .smem => 0
  | _ => 0

abbrev bufTy : (tb : Table) → Fin (tcTables nBuf tb) → BufTy
  | .hbm, ⟨0, _⟩ => ⟨S2x4096x768, .bf16⟩
  | .hbm, ⟨1, _⟩ => ⟨S2x4096x640, .bf16⟩
  | .hbm, ⟨2, _⟩ => ⟨S2x4096x640, .bf16⟩
  | .hbm, ⟨3, _⟩ => ⟨S2x2048x2048, .bf16⟩
  | .hbm, ⟨4, _⟩ => ⟨S2x4096x2048, .f32⟩
  | .hbm, ⟨5, _⟩ => ⟨S2x1x2048, .f32⟩
  | .hbm, ⟨6, _⟩ => ⟨S2x1x2048, .f32⟩
  | .hbm, ⟨7, _⟩ => ⟨S2x1x2048, .f32⟩
  | .hbm, ⟨8, _⟩ => ⟨S2x1x2048, .f32⟩
  | .hbm, ⟨9, _⟩ => ⟨S2x1x2048, .f32⟩
  | .hbm, ⟨10, _⟩ => ⟨S2x2048x32, .f32⟩
  | .hbm, ⟨11, _⟩ => ⟨S2x1x32, .f32⟩
  | .hbm, ⟨12, _⟩ => ⟨S2x4096x2048, .f32⟩
  | .hbm, ⟨13, _⟩ => ⟨S2x4096x2048, .f32⟩
  | .hbm, ⟨14, _⟩ => ⟨S2x4096x32, .f32⟩
  | .local _ .vmem, ⟨0, _⟩ => ⟨S1x256x768, .bf16⟩
  | .local _ .vmem, ⟨1, _⟩ => ⟨S1x256x768, .bf16⟩
  | .local _ .vmem, ⟨2, _⟩ => ⟨S1x256x640, .bf16⟩
  | .local _ .vmem, ⟨3, _⟩ => ⟨S1x256x640, .bf16⟩
  | .local _ .vmem, ⟨4, _⟩ => ⟨S1x256x640, .bf16⟩
  | .local _ .vmem, ⟨5, _⟩ => ⟨S1x256x640, .bf16⟩
  | .local _ .vmem, ⟨6, _⟩ => ⟨S1x2048x2048, .bf16⟩
  | .local _ .vmem, ⟨7, _⟩ => ⟨S1x256x2048, .f32⟩
  | .local _ .vmem, ⟨8, _⟩ => ⟨S1x256x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x1x2048, .f32⟩
  | .local _ .vmem, ⟨15, _⟩ => ⟨S1x1x2048, .f32⟩
  | .local _ .vmem, ⟨16, _⟩ => ⟨S1x1x2048, .f32⟩
  | .local _ .vmem, ⟨17, _⟩ => ⟨S1x2048x32, .f32⟩
  | .local _ .vmem, ⟨18, _⟩ => ⟨S1x1x32, .f32⟩
  | .local _ .vmem, ⟨19, _⟩ => ⟨S1x256x2048, .f32⟩
  | .local _ .vmem, ⟨20, _⟩ => ⟨S1x256x2048, .f32⟩
  | .local _ .vmem, ⟨21, _⟩ => ⟨S1x256x2048, .f32⟩
  | .local _ .vmem, ⟨22, _⟩ => ⟨S1x256x2048, .f32⟩
  | .local _ .vmem, ⟨23, _⟩ => ⟨S1x256x32, .f32⟩
  | .local _ .vmem, ⟨24, _⟩ => ⟨S1x256x32, .f32⟩
  | _, _ => ⟨S2x4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x2048x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x32 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference9Ideal.lean ====
abbrev S2x4096x768 : Shape := ⟨3, ![2, 4096, 768]⟩
abbrev S2x4096x640 : Shape := ⟨3, ![2, 4096, 640]⟩
abbrev S2x2048x2048 : Shape := ⟨3, ![2, 2048, 2048]⟩
abbrev S2x4096x2048 : Shape := ⟨3, ![2, 4096, 2048]⟩
abbrev S2x1x2048 : Shape := ⟨3, ![2, 1, 2048]⟩
abbrev S2x2048x32 : Shape := ⟨3, ![2, 2048, 32]⟩
abbrev S2x1x32 : Shape := ⟨3, ![2, 1, 32]⟩
abbrev S1x2048x2048 : Shape := ⟨3, ![1, 2048, 2048]⟩
abbrev S2048x2048 : Shape := ⟨2, ![2048, 2048]⟩
abbrev S_ : Shape := ⟨0, ![]⟩
abbrev S1x1x2048 : Shape := ⟨3, ![1, 1, 2048]⟩
abbrev S1x2048 : Shape := ⟨2, ![1, 2048]⟩
abbrev S2x4096 : Shape := ⟨2, ![2, 4096]⟩
abbrev S2x4096x1 : Shape := ⟨3, ![2, 4096, 1]⟩
abbrev S1x2048x32 : Shape := ⟨3, ![1, 2048, 32]⟩
abbrev S2048x32 : Shape := ⟨2, ![2048, 32]⟩
abbrev S2x4096x32 : Shape := ⟨3, ![2, 4096, 32]⟩
abbrev S1x1x32 : Shape := ⟨3, ![1, 1, 32]⟩
abbrev S1x32 : Shape := ⟨2, ![1, 32]⟩

abbrev nBuf : Space → Nat
  | .hbm => 77
  | .vmem => 0
  | .smem => 0
  | _ => 0

abbrev bufTy : (tb : Table) → Fin (tcTables nBuf tb) → BufTy
  | .hbm, ⟨0, _⟩ => ⟨S2x4096x768, .bf16⟩
  | .hbm, ⟨1, _⟩ => ⟨S2x4096x640, .bf16⟩
  | .hbm, ⟨2, _⟩ => ⟨S2x4096x640, .bf16⟩
  | .hbm, ⟨3, _⟩ => ⟨S2x2048x2048, .bf16⟩
  | .hbm, ⟨4, _⟩ => ⟨S2x4096x2048, .f32⟩
  | .hbm, ⟨5, _⟩ => ⟨S2x1x2048, .f32⟩
  | .hbm, ⟨6, _⟩ => ⟨S2x1x2048, .f32⟩
  | .hbm, ⟨7, _⟩ => ⟨S2x1x2048, .f32⟩
  | .hbm, ⟨8, _⟩ => ⟨S2x1x2048, .f32⟩
  | .hbm, ⟨9, _⟩ => ⟨S2x1x2048, .f32⟩
  | .hbm, ⟨10, _⟩ => ⟨S2x2048x32, .f32⟩
  | .hbm, ⟨11, _⟩ => ⟨S2x1x32, .f32⟩
  | .hbm, ⟨12, _⟩ => ⟨S2x4096x768, .f32⟩
  | .hbm, ⟨13, _⟩ => ⟨S2x4096x640, .f32⟩
  | .hbm, ⟨14, _⟩ => ⟨S2x4096x640, .f32⟩
  | .hbm, ⟨15, _⟩ => ⟨S2x4096x2048, .f32⟩
  | .hbm, ⟨16, _⟩ => ⟨S1x2048x2048, .bf16⟩
  | .hbm, ⟨17, _⟩ => ⟨S2048x2048, .bf16⟩
  | .hbm, ⟨18, _⟩ => ⟨S2048x2048, .f32⟩
  | .hbm, ⟨19, _⟩ => ⟨S2x4096x2048, .f32⟩
  | .hbm, ⟨20, _⟩ => ⟨S_, .f32⟩
  | .hbm, ⟨21, _⟩ => ⟨S2x4096x2048, .f32⟩
  | .hbm, ⟨22, _⟩ => ⟨S2x4096x2048, .f32⟩
  | .hbm, ⟨23, _⟩ => ⟨S_, .f32⟩
  | .hbm, ⟨24, _⟩ => ⟨S2x1x2048, .f32⟩
  | .hbm, ⟨25, _⟩ => ⟨S2x1x2048, .f32⟩
  | .hbm, ⟨26, _⟩ => ⟨S2x4096x2048, .f32⟩
  | .hbm, ⟨27, _⟩ => ⟨S2x4096x2048, .f32⟩
  | .hbm, ⟨28, _⟩ => ⟨S2x4096x2048, .f32⟩
  | .hbm, ⟨29, _⟩ => ⟨S1x1x2048, .f32⟩
  | .hbm, ⟨30, _⟩ => ⟨S1x2048, .f32⟩
  | .hbm, ⟨31, _⟩ => ⟨S1x1x2048, .f32⟩
  | .hbm, ⟨32, _⟩ => ⟨S1x2048, .f32⟩
  | .hbm, ⟨33, _⟩ => ⟨S_, .f32⟩
  | .hbm, ⟨34, _⟩ => ⟨S2x4096, .f32⟩
  | .hbm, ⟨35, _⟩ => ⟨S2x4096x1, .f32⟩
  | .hbm, ⟨36, _⟩ => ⟨S_, .f32⟩
  | .hbm, ⟨37, _⟩ => ⟨S2x4096x1, .f32⟩
  | .hbm, ⟨38, _⟩ => ⟨S2x4096x1, .f32⟩
  | .hbm, ⟨39, _⟩ => ⟨S2x4096x2048, .f32⟩
  | .hbm, ⟨40, _⟩ => ⟨S2x4096x2048, .f32⟩
  | .hbm, ⟨41, _⟩ => ⟨S2x4096x2048, .f32⟩
  | .hbm, ⟨42, _⟩ => ⟨S_, .f32⟩
  | .hbm, ⟨43, _⟩ => ⟨S2x4096, .f32⟩
  | .hbm, ⟨44, _⟩ => ⟨S2x4096x1, .f32⟩
  | .hbm, ⟨45, _⟩ => ⟨S_, .f32⟩
  | .hbm, ⟨46, _⟩ => ⟨S2x4096x1, .f32⟩
  | .hbm, ⟨47, _⟩ => ⟨S2x4096x1, .f32⟩
  | .hbm, ⟨48, _⟩ => ⟨S2x4096x2048, .f32⟩
  | .hbm, ⟨49, _⟩ => ⟨S2x4096x2048, .f32⟩
  | .hbm, ⟨50, _⟩ => ⟨S_, .f32⟩
  | .hbm, ⟨51, _⟩ => ⟨S2x4096x1, .f32⟩
  | .hbm, ⟨52, _⟩ => ⟨S2x4096x1, .f32⟩
  | .hbm, ⟨53, _⟩ => ⟨S2x4096x1, .f32⟩
  | .hbm, ⟨54, _⟩ => ⟨S2x4096x2048, .f32⟩
  | .hbm, ⟨55, _⟩ => ⟨S2x4096x2048, .f32⟩
  | .hbm, ⟨56, _⟩ => ⟨S1x1x2048, .f32⟩
  | .hbm, ⟨57, _⟩ => ⟨S2x4096x2048, .f32⟩
  | .hbm, ⟨58, _⟩ => ⟨S2x4096x2048, .f32⟩
  | .hbm, ⟨59, _⟩ => ⟨S1x1x2048, .f32⟩
  | .hbm, ⟨60, _⟩ => ⟨S2x4096x2048, .f32⟩
  | .hbm, ⟨61, _⟩ => ⟨S2x4096x2048, .f32⟩
  | .hbm, ⟨62, _⟩ => ⟨S_, .f32⟩
  | .hbm, ⟨63, _⟩ => ⟨S2x1x2048, .f32⟩
  | .hbm, ⟨64, _⟩ => ⟨S2x1x2048, .f32⟩
  | .hbm, ⟨65, _⟩ => ⟨S2x4096x2048, .f32⟩
  | .hbm, ⟨66, _⟩ => ⟨S2x4096x2048, .f32⟩
  | .hbm, ⟨67, _⟩ => ⟨S2x4096x2048, .f32⟩
  | .hbm, ⟨68, _⟩ => ⟨S2x4096x2048, .f32⟩
  | .hbm, ⟨69, _⟩ => ⟨S1x2048x32, .f32⟩
  | .hbm, ⟨70, _⟩ => ⟨S2048x32, .f32⟩
  | .hbm, ⟨71, _⟩ => ⟨S2x4096x32, .f32⟩
  | .hbm, ⟨72, _⟩ => ⟨S1x1x32, .f32⟩
  | .hbm, ⟨73, _⟩ => ⟨S1x32, .f32⟩
  | .hbm, ⟨74, _⟩ => ⟨S1x1x32, .f32⟩
  | .hbm, ⟨75, _⟩ => ⟨S2x4096x32, .f32⟩
  | .hbm, ⟨76, _⟩ => ⟨S2x4096x32, .f32⟩
  | _, _ => ⟨S2x4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_6 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩

abbrev nD : Nat := 1
abbrev τ : Topo := Topo.v7x

variable {F : FTy → Type} [FloatOps F]
-- ==== Kernel10.lean ====
abbrev S2x4096x768 : Shape := ⟨3, ![2, 4096, 768]⟩
abbrev S2x4x64 : Shape := ⟨3, ![2, 4, 64]⟩
abbrev S2x1x768 : Shape := ⟨3, ![2, 1, 768]⟩
abbrev S1x4x64 : Shape := ⟨3, ![1, 4, 64]⟩
abbrev S1x1x768 : Shape := ⟨3, ![1, 1, 768]⟩
abbrev S1x512x768 : Shape := ⟨3, ![1, 512, 768]⟩
abbrev S1x4096x768 : Shape := ⟨3, ![1, 4096, 768]⟩
abbrev S4x64 : Shape := ⟨2, ![4, 64]⟩
abbrev S1x64 : Shape := ⟨2, ![1, 64]⟩
abbrev S1 : Shape := ⟨1, ![1]⟩
abbrev S1x1 : Shape := ⟨2, ![1, 1]⟩
abbrev S1x128 : Shape := ⟨2, ![1, 128]⟩
abbrev S512x1 : Shape := ⟨2, ![512, 1]⟩
abbrev S512x128 : Shape := ⟨2, ![512, 128]⟩
abbrev S1x512x128 : Shape := ⟨3, ![1, 512, 128]⟩
abbrev S512x512 : Shape := ⟨2, ![512, 512]⟩
abbrev S512 : Shape := ⟨1, ![512]⟩
abbrev S1x512 : Shape := ⟨2, ![1, 512]⟩
abbrev S1x1x128 : Shape := ⟨3, ![1, 1, 128]⟩

abbrev nBuf : Space → Nat
  | .hbm => 6
  | .vmem => 8
  | .smem => 0
  | _ => 0

abbrev bufTy : (tb : Table) → Fin (tcTables nBuf tb) → BufTy
  | .hbm, ⟨0, _⟩ => ⟨S2x4096x768, .bf16⟩
  | .hbm, ⟨1, _⟩ => ⟨S2x4096x768, .bf16⟩
  | .hbm, ⟨2, _⟩ => ⟨S2x4096x768, .bf16⟩
  | .hbm, ⟨3, _⟩ => ⟨S2x4x64, .f32⟩
  | .hbm, ⟨4, _⟩ => ⟨S2x1x768, .f32⟩
  | .hbm, ⟨5, _⟩ => ⟨S2x4096x768, .bf16⟩
  | .local _ .vmem, ⟨0, _⟩ => ⟨S1x4x64, .f32⟩
  | .local _ .vmem, ⟨1, _⟩ => ⟨S1x1x768, .f32⟩
  | .local _ .vmem, ⟨2, _⟩ => ⟨S1x512x768, .bf16⟩
  | .local _ .vmem, ⟨3, _⟩ => ⟨S1x512x768, .bf16⟩
  | .local _ .vmem, ⟨4, _⟩ => ⟨S1x4096x768, .bf16⟩
  | .local _ .vmem, ⟨5, _⟩ => ⟨S1x4096x768, .bf16⟩
  | .local _ .vmem, ⟨6, _⟩ => ⟨S1x512x768, .bf16⟩
  | .local _ .vmem, ⟨7, _⟩ => ⟨S1x512x768, .bf16⟩
  | _, _ => ⟨S2x4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![2, 8], ![false, false]⟩

@[reducible] def k0_t1_loop (i : grid0.Coords) : Scf.Loop 32 :=
  let c0_i32 : BitVec 32 := 0#32
  let arg1 : BitVec 32 := BitVec.ofNat 32 (i 1).val
  let v23 : BitVec 32 := Scalar.subi arg1 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_7 : BitVec 32 := 1#32
  ⟨c0_i32, v27, c1_i32_7⟩
def k0_mult1 (i : grid0.Coords) (k0_t1 : Fin (k0_t1_loop i).trips) : BitVec 32 :=
  let c0_i32 : BitVec 32 := 0#32
  let c1_i32_7 : BitVec 32 := 1#32
  let arg8 : BitVec 32 := Scf.iv c0_i32 c1_i32_7 k0_t1
  let c512_i32_184 : BitVec 32 := 512#32
  let v608 : BitVec 32 := Scalar.muli arg8 c512_i32_184
  v608
def k0_off1 (i : grid0.Coords) (k0_t1 : Fin (k0_t1_loop i).trips) : Fin 3 → Nat :=
  let c0_189 : Index := 0#32
  let c0_i32 : BitVec 32 := 0#32
  let c1_i32_7 : BitVec 32 := 1#32
  let arg8 : BitVec 32 := Scf.iv c0_i32 c1_i32_7 k0_t1
  let c512_i32_184 : BitVec 32 := 512#32
  let v608 : BitVec 32 := Scalar.muli arg8 c512_i32_184
  let v609 : BitVec 32 := v608
  let v613 : Index := Scalar.indexCast v609
  let c0_190 : Index := 0#32
  ![0, v613.toNat, 0]
def k0_off2 (i : grid0.Coords) (k0_t1 : Fin (k0_t1_loop i).trips) : Fin 3 → Nat :=
  let c0_207 : Index := 0#32
  let c0_i32 : BitVec 32 := 0#32
  let c1_i32_7 : BitVec 32 := 1#32
  let arg8 : BitVec 32 := Scf.iv c0_i32 c1_i32_7 k0_t1
  let c512_i32_184 : BitVec 32 := 512#32
  let v608 : BitVec 32 := Scalar.muli arg8 c512_i32_184
  let v609 : BitVec 32 := v608
  let v668 : Index := Scalar.indexCast v609
  let c128_208 : Index := 128#32
  ![0, v668.toNat, 128]
def k0_off3 (i : grid0.Coords) (k0_t1 : Fin (k0_t1_loop i).trips) : Fin 3 → Nat :=
  let c0_225 : Index := 0#32
  let c0_i32 : BitVec 32 := 0#32
  let c1_i32_7 : BitVec 32 := 1#32
  let arg8 : BitVec 32 := Scf.iv c0_i32 c1_i32_7 k0_t1
  let c512_i32_184 : BitVec 32 := 512#32
  let v608 : BitVec 32 := Scalar.muli arg8 c512_i32_184
  let v609 : BitVec 32 := v608
  let v723 : Index := Scalar.indexCast v609
  let c256_226 : Index := 256#32
  ![0, v723.toNat, 256]
def k0_off4 (i : grid0.Coords) (k0_t1 : Fin (k0_t1_loop i).trips) : Fin 3 → Nat :=
  let c0_243 : Index := 0#32
  let c0_i32 : BitVec 32 := 0#32
  let c1_i32_7 : BitVec 32 := 1#32
  let arg8 : BitVec 32 := Scf.iv c0_i32 c1_i32_7 k0_t1
  let c512_i32_184 : BitVec 32 := 512#32
  let v608 : BitVec 32 := Scalar.muli arg8 c512_i32_184
  let v609 : BitVec 32 := v608
  let v778 : Index := Scalar.indexCast v609
  let c384_244 : Index := 384#32
  ![0, v778.toNat, 384]
def k0_off5 (i : grid0.Coords) (k0_t1 : Fin (k0_t1_loop i).trips) : Fin 3 → Nat :=
  let c0_261 : Index := 0#32
  let c0_i32 : BitVec 32 := 0#32
  let c1_i32_7 : BitVec 32 := 1#32
  let arg8 : BitVec 32 := Scf.iv c0_i32 c1_i32_7 k0_t1
  let c512_i32_184 : BitVec 32 := 512#32
  let v608 : BitVec 32 := Scalar.muli arg8 c512_i32_184
  let v609 : BitVec 32 := v608
  let v833 : Index := Scalar.indexCast v609
  let c512_262 : Index := 512#32
  ![0, v833.toNat, 512]
def k0_off6 (i : grid0.Coords) (k0_t1 : Fin (k0_t1_loop i).trips) : Fin 3 → Nat :=
  let c0_279 : Index := 0#32
  let c0_i32 : BitVec 32 := 0#32
  let c1_i32_7 : BitVec 32 := 1#32
  let arg8 : BitVec 32 := Scf.iv c0_i32 c1_i32_7 k0_t1
  let c512_i32_184 : BitVec 32 := 512#32
  let v608 : BitVec 32 := Scalar.muli arg8 c512_i32_184
  let v609 : BitVec 32 := v608
  let v888 : Index := Scalar.indexCast v609
  let c640_280 : Index := 640#32
  ![0, v888.toNat, 640]
@[reducible] def k0_t2_loop (i : grid0.Coords) : Scf.Loop 32 :=
  let c0_i32 : BitVec 32 := 0#32
  let arg1 : BitVec 32 := BitVec.ofNat 32 (i 1).val
  let v23 : BitVec 32 := Scalar.subi arg1 c0_i32
  let c1_i32 : BitVec 32 := 1#32
  let v25 : BitVec 32 := Scalar.divsi v23 c1_i32
  let v26 : BitVec 32 := Scalar.muli v25 c1_i32
  let v27 : BitVec 32 := Scalar.addi c0_i32 v26
  let v24 : BitVec 32 := Scalar.addi c0_i32 v23
  let c1_i32_8 : BitVec 32 := 1#32
  ⟨v27, v24, c1_i32_8⟩
def k0_mult2 (i : grid0.Coords) (k0_t2 : Fin (k0_t2_loop i).trips) : BitVec 32 :=
  let c0_i32 : BitVec 32 := 0#32
  let arg1 : BitVec 32 := BitVec.ofNat 32 (i 1).val
  let v23 : BitVec 32 := Scalar.subi arg1 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_8 : BitVec 32 := 1#32
  let arg8 : BitVec 32 := Scf.iv v27 c1_i32_8 k0_t2
  let c512_i32_184 : BitVec 32 := 512#32
  let v608 : BitVec 32 := Scalar.muli arg8 c512_i32_184
  v608
def k0_off7 (i : grid0.Coords) (k0_t2 : Fin (k0_t2_loop i).trips) : Fin 3 → Nat :=
  let c0_189 : Index := 0#32
  let c0_i32 : BitVec 32 := 0#32
  let arg1 : BitVec 32 := BitVec.ofNat 32 (i 1).val
  let v23 : BitVec 32 := Scalar.subi arg1 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_8 : BitVec 32 := 1#32
  let arg8 : BitVec 32 := Scf.iv v27 c1_i32_8 k0_t2
  let c512_i32_184 : BitVec 32 := 512#32
  let v608 : BitVec 32 := Scalar.muli arg8 c512_i32_184
  let v609 : BitVec 32 := v608
  let v613 : Index := Scalar.indexCast v609
  let c0_190 : Index := 0#32
  ![0, v613.toNat, 0]
def k0_off8 (i : grid0.Coords) (k0_t2 : Fin (k0_t2_loop i).trips) : Fin 3 → Nat :=
  let c0_207 : Index := 0#32
  let c0_i32 : BitVec 32 := 0#32
  let arg1 : BitVec 32 := BitVec.ofNat 32 (i 1).val
  let v23 : BitVec 32 := Scalar.subi arg1 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_8 : BitVec 32 := 1#32
  let arg8 : BitVec 32 := Scf.iv v27 c1_i32_8 k0_t2
  let c512_i32_184 : BitVec 32 := 512#32
  let v608 : BitVec 32 := Scalar.muli arg8 c512_i32_184
  let v609 : BitVec 32 := v608
  let v668 : Index := Scalar.indexCast v609
  let c128_208 : Index := 128#32
  ![0, v668.toNat, 128]
def k0_off9 (i : grid0.Coords) (k0_t2 : Fin (k0_t2_loop i).trips) : Fin 3 → Nat :=
  let c0_225 : Index := 0#32
  let c0_i32 : BitVec 32 := 0#32
  let arg1 : BitVec 32 := BitVec.ofNat 32 (i 1).val
  let v23 : BitVec 32 := Scalar.subi arg1 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_8 : BitVec 32 := 1#32
  let arg8 : BitVec 32 := Scf.iv v27 c1_i32_8 k0_t2
  let c512_i32_184 : BitVec 32 := 512#32
  let v608 : BitVec 32 := Scalar.muli arg8 c512_i32_184
  let v609 : BitVec 32 := v608
  let v723 : Index := Scalar.indexCast v609
  let c256_226 : Index := 256#32
  ![0, v723.toNat, 256]
def k0_off10 (i : grid0.Coords) (k0_t2 : Fin (k0_t2_loop i).trips) : Fin 3 → Nat :=
  let c0_243 : Index := 0#32
  let c0_i32 : BitVec 32 := 0#32
  let arg1 : BitVec 32 := BitVec.ofNat 32 (i 1).val
  let v23 : BitVec 32 := Scalar.subi arg1 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_8 : BitVec 32 := 1#32
  let arg8 : BitVec 32 := Scf.iv v27 c1_i32_8 k0_t2
  let c512_i32_184 : BitVec 32 := 512#32
  let v608 : BitVec 32 := Scalar.muli arg8 c512_i32_184
  let v609 : BitVec 32 := v608
  let v778 : Index := Scalar.indexCast v609
  let c384_244 : Index := 384#32
  ![0, v778.toNat, 384]
def k0_off11 (i : grid0.Coords) (k0_t2 : Fin (k0_t2_loop i).trips) : Fin 3 → Nat :=
  let c0_261 : Index := 0#32
  let c0_i32 : BitVec 32 := 0#32
  let arg1 : BitVec 32 := BitVec.ofNat 32 (i 1).val
  let v23 : BitVec 32 := Scalar.subi arg1 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_8 : BitVec 32 := 1#32
  let arg8 : BitVec 32 := Scf.iv v27 c1_i32_8 k0_t2
  let c512_i32_184 : BitVec 32 := 512#32
  let v608 : BitVec 32 := Scalar.muli arg8 c512_i32_184
  let v609 : BitVec 32 := v608
  let v833 : Index := Scalar.indexCast v609
  let c512_262 : Index := 512#32
  ![0, v833.toNat, 512]
def k0_off12 (i : grid0.Coords) (k0_t2 : Fin (k0_t2_loop i).trips) : Fin 3 → Nat :=
  let c0_279 : Index := 0#32
  let c0_i32 : BitVec 32 := 0#32
  let arg1 : BitVec 32 := BitVec.ofNat 32 (i 1).val
  let v23 : BitVec 32 := Scalar.subi arg1 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_8 : BitVec 32 := 1#32
  let arg8 : BitVec 32 := Scf.iv v27 c1_i32_8 k0_t2
  let c512_i32_184 : BitVec 32 := 512#32
  let v608 : BitVec 32 := Scalar.muli arg8 c512_i32_184
  let v609 : BitVec 32 := v608
  let v888 : Index := Scalar.indexCast v609
  let c640_280 : Index := 640#32
  ![0, v888.toNat, 640]
def k0_mult3 (i : grid0.Coords) : BitVec 32 :=
  let arg1 : BitVec 32 := BitVec.ofNat 32 (i 1).val
  let c512_i32 : BitVec 32 := 512#32
  let v30 : BitVec 32 := Scalar.muli arg1 c512_i32
  v30
def k0_off13 (i : grid0.Coords) : Fin 3 → Nat :=
  let c0_13 : Index := 0#32
  let arg1 : BitVec 32 := BitVec.ofNat 32 (i 1).val
  let c512_i32 : BitVec 32 := 512#32
  let v30 : BitVec 32 := Scalar.muli arg1 c512_i32
  let v31 : BitVec 32 := v30
  let v35 : Index := Scalar.indexCast v31
  let c0_14 : Index := 0#32
  ![0, v35.toNat, 0]
def k0_off14 (i : grid0.Coords) : Fin 3 → Nat :=
  let c0_32 : Index := 0#32
  let arg1 : BitVec 32 := BitVec.ofNat 32 (i 1).val
  let c512_i32 : BitVec 32 := 512#32
  let v30 : BitVec 32 := Scalar.muli arg1 c512_i32
  let v31 : BitVec 32 := v30
  let v104 : Index := Scalar.indexCast v31
  let c128_33 : Index := 128#32
  ![0, v104.toNat, 128]
def k0_off15 (i : grid0.Coords) : Fin 3 → Nat :=
  let c0_51 : Index := 0#32
  let arg1 : BitVec 32 := BitVec.ofNat 32 (i 1).val
  let c512_i32 : BitVec 32 := 512#32
  let v30 : BitVec 32 := Scalar.muli arg1 c512_i32
  let v31 : BitVec 32 := v30
  let v173 : Index := Scalar.indexCast v31
  let c256_52 : Index := 256#32
  ![0, v173.toNat, 256]
def k0_off16 (i : grid0.Coords) : Fin 3 → Nat :=
  let c0_70 : Index := 0#32
  let arg1 : BitVec 32 := BitVec.ofNat 32 (i 1).val
  let c512_i32 : BitVec 32 := 512#32
  let v30 : BitVec 32 := Scalar.muli arg1 c512_i32
  let v31 : BitVec 32 := v30
  let v242 : Index := Scalar.indexCast v31
  let c384_71 : Index := 384#32
  ![0, v242.toNat, 384]
def k0_off17 (i : grid0.Coords) : Fin 3 → Nat :=
  let c0_89 : Index := 0#32
  let arg1 : BitVec 32 := BitVec.ofNat 32 (i 1).val
  let c512_i32 : BitVec 32 := 512#32
  let v30 : BitVec 32 := Scalar.muli arg1 c512_i32
  let v31 : BitVec 32 := v30
  let v311 : Index := Scalar.indexCast v31
  let c512_90 : Index := 512#32
  ![0, v311.toNat, 512]
def k0_off18 (i : grid0.Coords) : Fin 3 → Nat :=
  let c0_108 : Index := 0#32
  let arg1 : BitVec 32 := BitVec.ofNat 32 (i 1).val
  let c512_i32 : BitVec 32 := 512#32
  let v30 : BitVec 32 := Scalar.muli arg1 c512_i32
  let v31 : BitVec 32 := v30
  let v380 : Index := Scalar.indexCast v31
  let c640_109 : Index := 640#32
  ![0, v380.toNat, 640]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4096x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x4096x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S1x512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel10Ideal.lean ====
variable {F : FTy → Type} [FloatOps F] [Named F]
def κ : String → Option EReal := fun
  | "mask" => some ⊥
  | _ => none
-- ==== Reference10Ideal.lean ====
abbrev S2x4096x768 : Shape := ⟨3, ![2, 4096, 768]⟩
abbrev S2x4x64 : Shape := ⟨3, ![2, 4, 64]⟩
abbrev S2x1x768 : Shape := ⟨3, ![2, 1, 768]⟩
abbrev S2x4096x6x2x64 : Shape := ⟨5, ![2, 4096, 6, 2, 64]⟩
abbrev S2x4096x6x128 : Shape := ⟨4, ![2, 4096, 6, 128]⟩
abbrev S1x4x64 : Shape := ⟨3, ![1, 4, 64]⟩
abbrev S4x64 : Shape := ⟨2, ![4, 64]⟩
abbrev S1x64 : Shape := ⟨2, ![1, 64]⟩
abbrev S64 : Shape := ⟨1, ![64]⟩
abbrev S_ : Shape := ⟨0, ![]⟩
abbrev S4096 : Shape := ⟨1, ![4096]⟩
abbrev S2x6x2x4096x4096 : Shape := ⟨5, ![2, 6, 2, 4096, 4096]⟩
abbrev S1x4096 : Shape := ⟨2, ![1, 4096]⟩
abbrev S4096x1 : Shape := ⟨2, ![4096, 1]⟩
abbrev S4096x4096 : Shape := ⟨2, ![4096, 4096]⟩
abbrev S2x6x2x4096 : Shape := ⟨4, ![2, 6, 2, 4096]⟩
abbrev S2x6x2x4096x1 : Shape := ⟨5, ![2, 6, 2, 4096, 1]⟩
abbrev S2x6x1x4096x4096 : Shape := ⟨5, ![2, 6, 1, 4096, 4096]⟩
abbrev S2x6x4096x4096 : Shape := ⟨4, ![2, 6, 4096, 4096]⟩
abbrev S2x6x128x4096 : Shape := ⟨4, ![2, 6, 128, 4096]⟩
abbrev S2x4096x6 : Shape := ⟨3, ![2, 4096, 6]⟩
abbrev S2x4096x6x1 : Shape := ⟨4, ![2, 4096, 6, 1]⟩
abbrev S1x1x768 : Shape := ⟨3, ![1, 1, 768]⟩
abbrev S1x768 : Shape := ⟨2, ![1, 768]⟩
abbrev S6x128 : Shape := ⟨2, ![6, 128]⟩
abbrev S1x1x6x128 : Shape := ⟨4, ![1, 1, 6, 128]⟩

abbrev nBuf : Space → Nat
  | .hbm => 94
  | .vmem => 0
  | .smem => 0
  | _ => 0

abbrev bufTy : (tb : Table) → Fin (tcTables nBuf tb) → BufTy
  | .hbm, ⟨0, _⟩ => ⟨S2x4096x768, .bf16⟩
  | .hbm, ⟨1, _⟩ => ⟨S2x4096x768, .bf16⟩
  | .hbm, ⟨2, _⟩ => ⟨S2x4096x768, .bf16⟩
  | .hbm, ⟨3, _⟩ => ⟨S2x4x64, .f32⟩
  | .hbm, ⟨4, _⟩ => ⟨S2x1x768, .f32⟩
  | .hbm, ⟨5, _⟩ => ⟨S2x4096x768, .f32⟩
  | .hbm, ⟨6, _⟩ => ⟨S2x4096x6x2x64, .f32⟩
  | .hbm, ⟨7, _⟩ => ⟨S2x4096x768, .f32⟩
  | .hbm, ⟨8, _⟩ => ⟨S2x4096x6x2x64, .f32⟩
  | .hbm, ⟨9, _⟩ => ⟨S2x4096x768, .f32⟩
  | .hbm, ⟨10, _⟩ => ⟨S2x4096x6x128, .f32⟩
  | .hbm, ⟨11, _⟩ => ⟨S1x4x64, .f32⟩
  | .hbm, ⟨12, _⟩ => ⟨S4x64, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1x64, .f32⟩
  | .hbm, ⟨22, _⟩ => ⟨S64, .f32⟩
  | .hbm, ⟨23, _⟩ => ⟨S1x64, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S4096, .i32⟩
  | .hbm, ⟨33, _⟩ => ⟨S2x6x2x4096x4096, .f32⟩
  | .hbm, ⟨34, _⟩ => ⟨S_, .f32⟩
  | .hbm, ⟨35, _⟩ => ⟨S2x6x2x4096x4096, .f32⟩
  | .hbm, ⟨36, _⟩ => ⟨S2x6x2x4096x4096, .f32⟩
  | .hbm, ⟨37, _⟩ => ⟨S1x4096, .i32⟩
  | .hbm, ⟨38, _⟩ => ⟨S4096x1, .i32⟩
  | .hbm, ⟨39, _⟩ => ⟨S4096x4096, .i32⟩
  | .hbm, ⟨40, _⟩ => ⟨S4096x4096, .i32⟩
  | .hbm, ⟨41, _⟩ => ⟨S4096x4096, .i1⟩
  | .hbm, ⟨42, _⟩ => ⟨S_, .f32⟩
  | .hbm, ⟨43, _⟩ => ⟨S_, .f32⟩
  | .hbm, ⟨44, _⟩ => ⟨S2x6x2x4096x4096, .i1⟩
  | .hbm, ⟨45, _⟩ => ⟨S2x6x2x4096x4096, .f32⟩
  | .hbm, ⟨46, _⟩ => ⟨S2x6x2x4096x4096, .f32⟩
  | .hbm, ⟨47, _⟩ => ⟨S_, .f32⟩
  | .hbm, ⟨48, _⟩ => ⟨S2x6x2x4096, .f32⟩
  | .hbm, ⟨49, _⟩ => ⟨S_, .f32⟩
  | .hbm, ⟨50, _⟩ => ⟨S2x6x2x4096, .f32⟩
  | .hbm, ⟨51, _⟩ => ⟨S2x6x2x4096, .f32⟩
  | .hbm, ⟨52, _⟩ => ⟨S2x6x2x4096x1, .f32⟩
  | .hbm, ⟨53, _⟩ => ⟨S2x6x2x4096x4096, .f32⟩
  | .hbm, ⟨54, _⟩ => ⟨S2x6x2x4096x4096, .f32⟩
  | .hbm, ⟨55, _⟩ => ⟨S2x6x2x4096x4096, .f32⟩
  | .hbm, ⟨56, _⟩ => ⟨S_, .f32⟩
  | .hbm, ⟨57, _⟩ => ⟨S2x6x2x4096, .f32⟩
  | .hbm, ⟨58, _⟩ => ⟨S2x6x2x4096x1, .f32⟩
  | .hbm, ⟨59, _⟩ => ⟨S2x6x2x4096x4096, .f32⟩
  | .hbm, ⟨60, _⟩ => ⟨S2x6x2x4096x4096, .f32⟩
  | .hbm, ⟨61, _⟩ => ⟨S2x6x1x4096x4096, .f32⟩
  | .hbm, ⟨62, _⟩ => ⟨S2x6x4096x4096, .f32⟩
  | .hbm, ⟨63, _⟩ => ⟨S2x6x1x4096x4096, .f32⟩
  | .hbm, ⟨64, _⟩ => ⟨S2x6x4096x4096, .f32⟩
  | .hbm, ⟨65, _⟩ => ⟨S2x6x4096x4096, .f32⟩
  | .hbm, ⟨66, _⟩ => ⟨S2x6x4096x4096, .f32⟩
  | .hbm, ⟨67, _⟩ => ⟨S2x6x4096x4096, .f32⟩
  | .hbm, ⟨68, _⟩ => ⟨S2x6x128x4096, .f32⟩
  | .hbm, ⟨69, _⟩ => ⟨S2x4096x6x128, .f32⟩
  | .hbm, ⟨70, _⟩ => ⟨S2x4096x6x128, .f32⟩
  | .hbm, ⟨71, _⟩ => ⟨S_, .f32⟩
  | .hbm, ⟨72, _⟩ => ⟨S2x4096x6, .f32⟩
  | .hbm, ⟨73, _⟩ => ⟨S2x4096x6x1, .f32⟩
  | .hbm, ⟨74, _⟩ => ⟨S_, .f32⟩
  | .hbm, ⟨75, _⟩ => ⟨S2x4096x6x1, .f32⟩
  | .hbm, ⟨76, _⟩ => ⟨S2x4096x6x1, .f32⟩
  | .hbm, ⟨77, _⟩ => ⟨S_, .f32⟩
  | .hbm, ⟨78, _⟩ => ⟨S2x4096x6x1, .f32⟩
  | .hbm, ⟨79, _⟩ => ⟨S2x4096x6x1, .f32⟩
  | .hbm, ⟨80, _⟩ => ⟨S2x4096x6x1, .f32⟩
  | .hbm, ⟨81, _⟩ => ⟨S2x4096x6x128, .f32⟩
  | .hbm, ⟨82, _⟩ => ⟨S2x4096x6x128, .f32⟩
  | .hbm, ⟨83, _⟩ => ⟨S1x1x768, .f32⟩
  | .hbm, ⟨84, _⟩ => ⟨S1x768, .f32⟩
  | .hbm, ⟨85, _⟩ => ⟨S6x128, .f32⟩
  | .hbm, ⟨86, _⟩ => ⟨S1x1x6x128, .f32⟩
  | .hbm, ⟨87, _⟩ => ⟨S2x4096x6x128, .f32⟩
  | .hbm, ⟨88, _⟩ => ⟨S2x4096x6x128, .f32⟩
  | .hbm, ⟨89, _⟩ => ⟨S_, .f32⟩
  | .hbm, ⟨90, _⟩ => ⟨S2x4096x6x128, .f32⟩
  | .hbm, ⟨91, _⟩ => ⟨S2x4096x6x128, .f32⟩
  | .hbm, ⟨92, _⟩ => ⟨S2x4096x6x128, .bf16⟩
  | .hbm, ⟨93, _⟩ => ⟨S2x4096x768, .bf16⟩
  | _, _ => ⟨S2x4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_7 : Ref sig .tc := ⟨.hbm, 71, rfl⟩
abbrev main_v55 : Ref sig .tc := ⟨.hbm, 72, rfl⟩
abbrev main_v56 : Ref sig .tc := ⟨.hbm, 73, rfl⟩
abbrev main_cst_8 : Ref sig .tc := ⟨.hbm, 74, rfl⟩
abbrev main_v57 : Ref sig .tc := ⟨.hbm, 75, rfl⟩
abbrev main_v58 : Ref sig .tc := ⟨.hbm, 76, rfl⟩
abbrev main_cst_9 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_10 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩

abbrev nD : Nat := 1
abbrev τ : Topo := Topo.v7x

variable {F : FTy → Type} [FloatOps F]
-- ==== Proof.StickMath.lean ====
/- The arithmetic of the stick-breaking attention on extended reals, free of any program: the
   softplus and the log-sigmoid, the tail sum of a chunk computed through a triangular matrix and
   through a running sum, and one chunk's step of the recurrence over the chunks. -/
module

public import Idealize.ShloMosaic.PureOps.Ideal
public import Idealize.ShloMosaic.PureOps.Ideal.Laws
public import Mathlib.Data.EReal.Operations
public import Mathlib.Algebra.BigOperators.Intervals

@[expose] public section

noncomputable section

namespace Cert.Stick

open Idealize.ShloMosaic Finset

/-- `softplus z = max z 0 + log (1 + exp (-|z|))`, as the kernel computes it. -/
def sp (z : EReal) : EReal := max z 0 + Ideal.log (1 + Ideal.exp (0 - max z (-z)))

theorem sp_top : sp ⊤ = ⊤ := by
  have h : max (⊤ : EReal) (-⊤) = ⊤ := by simp
  have h1 : (0 : EReal) - ⊤ = ⊥ := by simp
  have h2 : Ideal.log (1 + Ideal.exp ⊥) = ((0 : ℝ) : EReal) := by
    show Ideal.log (1 + 0) = _
    rw [add_zero]
    show (if (1:ℝ) ≤ 0 then (⊥ : EReal) else ((Real.log 1 : ℝ) : EReal)) = _
    rw [if_neg (by norm_num), Real.log_one]
  unfold sp
  rw [h, h1, h2]
  simp

theorem sp_bot : sp ⊥ = ((0 : ℝ) : EReal) := by
  have h : max (⊥ : EReal) (-⊥) = ⊤ := by simp
  have h1 : (0 : EReal) - ⊤ = ⊥ := by simp
  have h2 : Ideal.log (1 + Ideal.exp ⊥) = ((0 : ℝ) : EReal) := by
    show Ideal.log (1 + 0) = _
    rw [add_zero]
    show (if (1:ℝ) ≤ 0 then (⊥ : EReal) else ((Real.log 1 : ℝ) : EReal)) = _
    rw [if_neg (by norm_num), Real.log_one]
  unfold sp
  rw [h, h1, h2]
  simp

/-- The real softplus. -/
def spR (r : ℝ) : ℝ := max r 0 + Real.log (1 + Real.exp (-max r (-r)))

theorem log_one_add_exp (a : ℝ) : Ideal.log (1 + Ideal.exp (a : EReal)) = ((Real.log (1 + Real.exp a) : ℝ) : EReal) := by
  have h : (1 + Ideal.exp (a : EReal)) = ((1 + Real.exp a : ℝ) : EReal) := by
    show (1 + ((Real.exp a : ℝ) : EReal)) = _
    push_cast; rfl
  rw [h]
  show (if (1 + Real.exp a : ℝ) ≤ 0 then (⊥ : EReal) else _) = _
  rw [if_neg (by have := Real.exp_pos a; linarith)]

theorem coe_max' (a b : ℝ) : max (a : EReal) (b : EReal) = ((max a b : ℝ) : EReal) := by
  rcases le_total a b with h | h
  · rw [max_eq_right h, max_eq_right (by exact_mod_cast h)]
  · rw [max_eq_left h, max_eq_left (by exact_mod_cast h)]

theorem sp_coe (r : ℝ) : sp (r : EReal) = ((spR r : ℝ) : EReal) := by
  have h0 : max (r : EReal) 0 = ((max r 0 : ℝ) : EReal) := by exact_mod_cast coe_max' r 0
  have h1 : max (r : EReal) (-(r : EReal)) = ((max r (-r) : ℝ) : EReal) := by exact_mod_cast coe_max' r (-r)
  have h2 : (0 : EReal) - ((max r (-r) : ℝ) : EReal) = ((-max r (-r) : ℝ) : EReal) := by
    rw [zero_sub]; exact (EReal.coe_neg _).symm
  unfold sp spR
  rw [h0, h1, h2, log_one_add_exp]
  push_cast; rfl

theorem spR_neg (r : ℝ) : -spR (-r) = r - spR r := by
  unfold spR
  rw [neg_neg, max_comm (-r) r]
  rcases le_total r 0 with h | h
  · rw [max_eq_right h, max_eq_left (by linarith : (0:ℝ) ≤ -r)]; ring
  · rw [max_eq_left h, max_eq_right (by linarith : -r ≤ (0:ℝ))]; ring

/-- The host's softplus of `x`. -/
def spH (x : EReal) : EReal := max x 0 + Ideal.log1p (Ideal.exp (-max (x - 0) (-(x - 0))))

theorem spH_eq (x : EReal) : spH x = sp x := by
  unfold spH sp Ideal.log1p
  rw [sub_zero, zero_sub]

/-- The log-sigmoid of `z` is `z - softplus z`, off `⊤`. -/
theorem neg_sp_neg (z : EReal) (h : z ≠ ⊤) : -sp (-z) = z - sp z := by
  induction z with
  | bot => rw [EReal.neg_bot, sp_top, sp_bot]; simp
  | top => exact absurd rfl h
  | coe r =>
    rw [← EReal.coe_neg, sp_coe, sp_coe, ← EReal.coe_neg, spR_neg]
    exact EReal.coe_sub _ _

theorem neg_sp_ne_top (z : EReal) : -sp z ≠ ⊤ := by
  induction z with
  | bot => rw [sp_bot]; simp
  | top => rw [sp_top]; simp
  | coe r => rw [sp_coe, ← EReal.coe_neg]; exact EReal.coe_ne_top _

theorem neg_sp_coe (z : EReal) (h : z ≠ ⊤) : ∃ r : ℝ, -sp z = (r : EReal) := by
  induction z with
  | bot => exact ⟨-0, by rw [sp_bot]; rfl⟩
  | top => exact absurd rfl h
  | coe r => exact ⟨-spR r, by rw [sp_coe]; exact (EReal.coe_neg _).symm⟩

/-- A number other than `⊤` plus what is left of it after its own subtraction is itself. -/
theorem add_sub_self (x : EReal) (h : x ≠ ⊤) : x + (x - x) = x := by
  induction x with
  | bot => simp
  | top => exact absurd rfl h
  | coe r => rw [← EReal.coe_sub, ← EReal.coe_add]; congr 1; ring

section Row

-- The logits of one query row, its position, its keys' values in one column.
variable (z : ℕ → EReal) (t : ℕ) (v : ℕ → EReal)

/-- `log (1 - β_s)`, `0` at and after the query. -/
def lm (s : ℕ) : EReal := if s < t then -sp (z s) else 0

theorem lm_ne_top (s : ℕ) : lm z t s ≠ ⊤ := by
  unfold lm; split
  · exact neg_sp_ne_top _
  · exact EReal.zero_ne_top

/-- The sum of `lm` over the keys from `a` to the end of the row. -/
def suf (a : ℕ) : EReal := ∑ j ∈ Ico a 4096, lm z t j

/-- The logarithm of the weight of key `s`. -/
def logA (s : ℕ) : EReal := if s < t then z s - sp (z s) + suf z t (s + 1) else ⊥

/-- The weighted sum of the values of the keys from `a` on. -/
def wsum (a : ℕ) : EReal := ∑ s ∈ Ico a 4096, Ideal.exp (logA z t s) * v s

theorem suf_zero (a : ℕ) (h : t ≤ a) : suf z t a = 0 :=
  Finset.sum_eq_zero fun j hj => if_neg (by rw [Finset.mem_Ico] at hj; omega)

theorem wsum_zero (a : ℕ) (h : t ≤ a) : wsum z t v a = 0 :=
  Finset.sum_eq_zero fun j hj => by
    unfold logA
    rw [if_neg (by rw [Finset.mem_Ico] at hj; omega)]
    exact zero_mul _

theorem sum_Ico_split (f : ℕ → EReal) (c : ℕ) (hc : c < 32) :
    ∑ j ∈ Ico (128 * c) 4096, f j = ∑ j ∈ Ico (128 * (c + 1)) 4096, f j + ∑ k ∈ range 128, f (128 * c + k) := by
  rw [← Finset.sum_Ico_consecutive f (show 128 * c ≤ 128 * (c + 1) by omega) (show 128 * (c + 1) ≤ 4096 by omega), add_comm]
  congr 1
  rw [Finset.sum_Ico_eq_sum_range]
  congr 1
  congr 1; omega

/-- The running sum after chunk `c`. -/
theorem suf_step (c : ℕ) (hc : c < 32) :
    suf z t (128 * c) = suf z t (128 * (c + 1)) + ∑ k ∈ range 128, lm z t (128 * c + k) :=
  sum_Ico_split _ c hc

/-- The tail sum of a key within its chunk through the triangular matrix, in two parts, and the running sum. -/
theorem tail_eq (c s : ℕ) (hc : c < 32) (hs : s < 128) :
    (∑ k ∈ range 128, lm z t (128 * c + k) * (if s < k then 1 else 0)
      + ∑ k ∈ range 128, (lm z t (128 * c + k) - lm z t (128 * c + k)) * (if s < k then 1 else 0))
      + suf z t (128 * (c + 1)) = suf z t (128 * c + s + 1) := by
  rw [← Finset.sum_add_distrib]
  unfold suf
  rw [← Finset.sum_Ico_consecutive (lm z t) (show 128 * c + s + 1 ≤ 128 * (c + 1) by omega) (show 128 * (c + 1) ≤ 4096 by omega)]
  congr 1
  have e1 : ∀ k ∈ range 128, lm z t (128 * c + k) * (if s < k then (1 : EReal) else 0)
      + (lm z t (128 * c + k) - lm z t (128 * c + k)) * (if s < k then (1 : EReal) else 0)
      = if s < k then lm z t (128 * c + k) else 0 := by
    intro k _
    split
    · rw [mul_one, mul_one, add_sub_self _ (lm_ne_top z t _)]
    · rw [mul_zero, mul_zero, add_zero]
  rw [Finset.sum_congr rfl e1, ← Finset.sum_filter]
  refine Finset.sum_bij (fun k _ => 128 * c + k) ?_ ?_ ?_ ?_
  · intro k hk
    rw [Finset.mem_filter, Finset.mem_range] at hk
    rw [Finset.mem_Ico]; omega
  · intro a _ b _ h; omega
  · intro b hb
    rw [Finset.mem_Ico] at hb
    refine ⟨b - 128 * c, ?_, by omega⟩
    rw [Finset.mem_filter, Finset.mem_range]; omega
  · intro k _; rfl

/-- The weighted sum after chunk `c`, in the kernel's own form. -/
theorem wsum_step (c : ℕ) (hc : c < 32) :
    wsum z t v (128 * c) = wsum z t v (128 * (c + 1)) + ∑ s ∈ range 128,
      Ideal.exp (if 128 * c + s < t then z (128 * c + s) - sp (z (128 * c + s))
        + (∑ k ∈ range 128, lm z t (128 * c + k) * (if s < k then 1 else 0)
          + ∑ k ∈ range 128, (lm z t (128 * c + k) - lm z t (128 * c + k)) * (if s < k then 1 else 0))
        + suf z t (128 * (c + 1)) else ⊥) * v (128 * c + s) := by
  unfold wsum
  rw [sum_Ico_split _ c hc]
  congr 1
  refine Finset.sum_congr rfl fun s hs => ?_
  rw [add_assoc, tail_eq z t c s hc (by simpa using hs)]
  rfl

/-- The reference's form of the logarithm of the weight: the sum from the key on, less the key's own term. -/
theorem logA_ref (s : ℕ) (hs : s < 4096) :
    (if s < t then -sp (-z s) + (∑ j ∈ Ico s 4096, lm z t j - lm z t s) else ⊥) = logA z t s := by
  unfold logA
  by_cases h : s < t
  · rw [if_pos h, if_pos h]
    have e : ∑ j ∈ Ico s 4096, lm z t j = lm z t s + suf z t (s + 1) := Finset.sum_eq_sum_Ico_succ_bot hs _
    by_cases hz : z s = ⊤
    · have hl : lm z t s = ⊥ := by unfold lm; rw [if_pos h, hz, sp_top]; rfl
      rw [e, hl, hz, sp_top, EReal.bot_add]
      have : (⊤ : EReal) - ⊤ = ⊥ := by decide
      rw [this, EReal.bot_add]
      simp
    · obtain ⟨r, hr⟩ := neg_sp_coe (z s) hz
      have hl : lm z t s = (r : EReal) := by unfold lm; rw [if_pos h, hr]
      rw [e, hl, neg_sp_neg _ hz, add_comm (r : EReal), EReal.add_sub_cancel_right]
  · rw [if_neg h, if_neg h]

end Row

end Cert.Stick

end
-- ==== Proof.StickChunk.lean ====
/- One chunk of the stick-breaking kernel's loop, read at an index. -/
module

public import proofs.«01_k».proof.Proof.Gen.KernelIdeal.Value
public import proofs.«01_k».proof.Proof.StickMath
public import Idealize.ShloMosaic.Lib.Pipeline.ValueKit

@[expose] public section

set_option maxRecDepth 16384

noncomputable section

open Idealize.ShloMosaic Idealize.ShloMosaic.TcCoe Idealize.SL.Sem

namespace Cert.Stick

open Cert.KernelIdeal Cert.KernelIdeal.Gen

/-- What the loop carries: a running sum and an accumulator for each of five heads. -/
abbrev C10 := FVec Ideal S512x1 FTy.f32 × FVec Ideal S512x128 FTy.f32 × FVec Ideal S512x1 FTy.f32 × FVec Ideal S512x128 FTy.f32 × FVec Ideal S512x1 FTy.f32 × FVec Ideal S512x128 FTy.f32 × FVec Ideal S512x1 FTy.f32 × FVec Ideal S512x128 FTy.f32 × FVec Ideal S512x1 FTy.f32 × FVec Ideal S512x128 FTy.f32

/-- The running sum and the accumulator of head `h` among the ten values the loop carries. -/
def head (h : Fin 5) (s : C10) : FVec Ideal S512x1 FTy.f32 × FVec Ideal S512x128 FTy.f32 :=
  match h with
  | 0 => (s.1, s.2.1)
  | 1 => (s.2.2.1, s.2.2.2.1)
  | 2 => (s.2.2.2.2.1, s.2.2.2.2.2.1)
  | 3 => (s.2.2.2.2.2.2.1, s.2.2.2.2.2.2.2.1)
  | 4 => (s.2.2.2.2.2.2.2.2.1, s.2.2.2.2.2.2.2.2.2)

/-- Which keys of the chunk at key `o` stand before the query of each row. -/
def mask (o : BitVec 32) (row : IVec S512x1 32) : IVec S512x128 1 :=
  cmpi .slt (broadcastTo S512x128 (addi (broadcast S1x128 o) (iota .tc S1x128 32 [1] iota_S1x128_d1_w32)) broadcasts_S1x128_S512x128)
    (broadcastTo S512x128 row broadcasts_S512x1_S512x128)

/-- The logarithm of `1 - β`, `0` where the mask does not hold. -/
def lmB (b : IVec S512x128 1) (sp : FVec Ideal S512x128 .f32) : FVec Ideal S512x128 .f32 :=
  select b (subf (broadcast S512x128 (FloatOps.ofBits (F := Ideal) .f32 0#32)) sp) (broadcast S512x128 (FloatOps.ofBits (F := Ideal) .f32 0#32))

/-- One chunk of one head: the running sum and the accumulator after it, from those before it. -/
def chunk (mat : FVec Ideal S128x128 .bf16) (b : IVec S512x128 1) (q : FVec Ideal S1x512x128 .bf16) (k v : FVec Ideal S1x128x128 .bf16)
    (s : FVec Ideal S512x1 FTy.f32 × FVec Ideal S512x128 FTy.f32) : FVec Ideal S512x1 FTy.f32 × FVec Ideal S512x128 FTy.f32 :=
  let l := lmB b (k0_pay5 q k)
  let hi : FVec Ideal S512x128 .f32 := extf .f32 (truncf .bf16 l bitsLt_bf16_f32) bitsLt_bf16_f32
  (k0_pay9 s.1 l,
   k0_pay8 mat s.1 s.2 b (k0_pay3 v) (k0_pay4 q k) (k0_pay5 q k)
    (concatenate S1024x128 0 [⟨S512x128, hi⟩, ⟨S512x128, subf l hi⟩] Cert.KernelIdeal.Gen.concatenates_S512x128_S512x128_S1024x128_d0))

/-- The logit of query row `r` and key `j` of the chunk. -/
def zz (q : FVec Ideal S1x512x128 .bf16) (k : FVec Ideal S1x128x128 .bf16) (r : Fin 512) (j : Fin 128) : EReal :=
  (∑ x : Fin 128, (q (ix3 0 r x) : EReal) * k (ix3 0 j x)) * Ideal.ofBits FTy.f32 1035273459#32

/-- The kernel's mask constant is minus infinity. -/
theorem mask_named : (Named.named (F := Ideal) κ "mask" (φ := .f32) 4048155338#32 : EReal) = (⊥ : EReal) := rfl

/-- A scalar selection is an `if`. -/
theorem sel (c : BitVec 1) (a b : EReal) : Scalar.select c a b = if c = 1 then a else b := rfl

/-- One chunk at an index: from the suffix sums at the chunk's end to those at its beginning. -/
theorem chunk_at (zN vN : ℕ → EReal) (t cc : ℕ) (hcc : cc < 32) (mat : FVec Ideal S128x128 .bf16) (b : IVec S512x128 1)
    (q : FVec Ideal S1x512x128 .bf16) (k v : FVec Ideal S1x128x128 .bf16)
    (s : FVec Ideal S512x1 FTy.f32 × FVec Ideal S512x128 FTy.f32) (r : Fin 512) (d : Fin 128)
    (hb : ∀ j : Fin 128, b (ix2 r j) = 1 ↔ 128 * cc + j.val < t)
    (hz : ∀ j : Fin 128, zz q k r j = zN (128 * cc + j.val))
    (hv : ∀ j : Fin 128, (v (ix3 0 j d) : EReal) = vN (128 * cc + j.val))
    (hm : ∀ x j : Fin 128, (mat (ix2 x j) : EReal) = if j.val < x.val then 1 else 0)
    (h1 : (s.1 (ix2 r 0) : EReal) = suf zN t (128 * (cc + 1)))
    (h2 : (s.2 (ix2 r d) : EReal) = wsum zN t vN (128 * (cc + 1))) :
    ((chunk mat b q k v s).1 (ix2 r 0) : EReal) = suf zN t (128 * cc)
    ∧ ((chunk mat b q k v s).2 (ix2 r d) : EReal) = wsum zN t vN (128 * cc) := by
  have hl : ∀ j : Fin 128, Scalar.select (b (ix2 r j)) (0 - sp (zz q k r j)) 0 = lm zN t (128 * cc + j.val) := by
    intro j
    rw [sel]
    unfold lm
    rw [hz, zero_sub]
    exact if_congr (hb j) rfl rfl
  have hl2 : ∀ j x : Fin 128, Scalar.select (b (ix2 r j)) ((0 - sp (zz q k r j)) * mat (ix2 j x)) 0
      = lm zN t (128 * cc + j.val) * (if x.val < j.val then 1 else 0) := by
    intro j x
    rw [← hl, ← hm, sel, sel, ite_mul, zero_mul]
  constructor
  · unfold chunk lmB
    pointwise [k0_pay9, k0_pay5, k0_pay4]
    rw [suf_step zN t cc hcc, h1, Finset.sum_range]
    congr 1
    exact Finset.sum_congr rfl fun j _ => hl j
  · unfold chunk lmB
    pointwise [k0_pay8, k0_pay5, k0_pay4, k0_pay3]
    rw [wsum_step zN t vN cc hcc, h2, Finset.sum_range]
    congr 1
    refine Finset.sum_congr rfl fun j _ => ?_
    rw [hv j, mask_named]
    congr 2
    show Scalar.select (b (ix2 r j)) ((zz q k r j - sp (zz q k r j)) +
        (∑ x : Fin 128, Scalar.select (b (ix2 r x)) ((0 - sp (zz q k r x)) * mat (ix2 x j)) 0
          + ∑ x : Fin 128, (Scalar.select (b (ix2 r x)) (0 - sp (zz q k r x)) 0 - Scalar.select (b (ix2 r x)) (0 - sp (zz q k r x)) 0) * mat (ix2 x j))
        + s.1 (ix2 r 0)) ⊥ = _
    simp only [hl2, hl]
    simp only [hm]
    rw [sel, h1, hz, Finset.sum_range, Finset.sum_range]
    exact if_congr (hb j) rfl rfl

/-- A number below `2^31` read signed from 32 bits is itself. -/
theorem toInt_small (a : ℕ) (ha : a < 2^31) : (BitVec.ofNat 32 a).toInt = a := by
  rw [BitVec.toInt_ofNat', Int.bmod_def]
  omega

/-- The signed comparison of two numbers below `2^31` is their own. -/
theorem slt_iff (a t : ℕ) (ha : a < 2^31) (ht : t < 2^31) : IntOp.cmpi .slt (BitVec.ofNat 32 a) (BitVec.ofNat 32 t) = 1 ↔ a < t := by
  show BitVec.ofBool (BitVec.slt (BitVec.ofNat 32 a) (BitVec.ofNat 32 t)) = 1 ↔ _
  have e : BitVec.slt (BitVec.ofNat 32 a) (BitVec.ofNat 32 t) = decide (a < t) := by
    rw [BitVec.slt_eq_decide, toInt_small a ha, toInt_small t ht]
    simp
  rw [e]
  by_cases h : a < t <;> simp [h]

/-- The mask at an index. -/
theorem mask_at (o : BitVec 32) (row : IVec S512x1 32) (r : Fin 512) (j : Fin 128) (a t : ℕ) (ha : a + 128 < 2^31) (ht : t < 2^31)
    (ho : o = BitVec.ofNat 32 a) (hr : row (ix2 r 0) = BitVec.ofNat 32 t) : mask o row (ix2 r j) = 1 ↔ a + j.val < t := by
  unfold mask
  pointwise
  rw [ho, hr]
  have hj := j.isLt
  have e : IntOp.addi (BitVec.ofNat 32 a) (BitVec.ofNat 32 j.val) = BitVec.ofNat 32 (a + j.val) := (BitVec.ofNat_add _ _).symm
  rw [e]
  exact slt_iff _ _ (by omega) ht
/-- The triangular matrix at an index. -/
theorem mat_at (x j : Fin 128) : ((k0_pay291 (F := Ideal)) (ix2 x j) : EReal) = if j.val < x.val then 1 else 0 := by
  pointwise [k0_pay291]
  have hx := x.isLt
  have hj := j.isLt
  rw [sel]
  exact if_congr (slt_iff j.val x.val (by omega) (by omega)) rfl rfl
/-- The query position of a row. -/
theorem row_at (i : grid0.Coords) (r : Fin 512) : k0_pay290 i (ix2 r 0) = BitVec.ofNat 32 (512 * (i 1).val + r.val) := by
  pointwise [k0_pay290]
  rw [BitVec.ofNat_add, BitVec.ofNat_mul, BitVec.mul_comm]
  rfl
/-- The running sum starts at `0`. -/
theorem zero1_at (r : Fin 512) : (k0_pay292 (F := Ideal) (ix2 r 0) : EReal) = 0 := by
  pointwise [k0_pay292]
/-- The accumulator starts at `0`. -/
theorem zero2_at (r : Fin 512) (d : Fin 128) : (k0_pay293 (F := Ideal) (ix2 r d) : EReal) = 0 := by
  pointwise [k0_pay293]

end Cert.Stick

end
-- ==== Proof.StickLoop.lean ====
/- The stick-breaking kernel's loops, read at an index: the induction over the chunks from the last down. -/
module

public import proofs.«01_k».proof.Proof.StickChunk
public import proofs.«01_k».proof.Proof.Gen.KernelIdeal.Value

@[expose] public section

set_option maxRecDepth 16384

noncomputable section

open Idealize.ShloMosaic Idealize.ShloMosaic.TcCoe Idealize.SL.Sem

namespace Cert.Stick

open Cert.KernelIdeal Cert.KernelIdeal.Gen

variable (𝒱 : Variants) (c : Dev nD) (bd : Option 𝒱.V)
  (i : grid0.Coords) (arg2 : Memref sig Kind.tc Space.vmem S1x512x640 EltTy.bf16) (harg2 : arg2.IsWhole)
  (arg3 : Memref sig Kind.tc Space.vmem S1x4096x640 EltTy.bf16) (harg3 : arg3.IsWhole)
  (arg4 : Memref sig Kind.tc Space.vmem S1x4096x640 EltTy.bf16) (harg4 : arg4.IsWhole)
  (arg5 : Memref sig Kind.tc Space.vmem S1x512x640 EltTy.bf16) (harg5 : arg5.IsWhole) (v18 : BitVec 32)
  (v22 : IVec S512x1 32) (v29 : FVec Ideal S128x128 FTy.bf16) (v30 : FVec Ideal S512x1 FTy.f32) (v31 : FVec Ideal S512x128 FTy.f32)
  (c4_i32 v32 v37 v39 : BitVec 32) (X_arg2 : BufTy.Contents (Elt Ideal) arg2.view.ty)
  (X_arg3 : BufTy.Contents (Elt Ideal) arg3.view.ty) (X_arg4 : BufTy.Contents (Elt Ideal) arg4.view.ty)

/-- offset of chunk u -/
def offv (v18 : BitVec 32) (k : ℕ) (u : BitVec 32) : BitVec 32 :=
  Scalar.muli (Scalar.subi (Scalar.subi (Scalar.subi v18 1#32) (Scalar.muli 4#32 (Scf.iv 0#32 1#32 k))) u) 128#32

def koff (h : Fin 5) (i : grid0.Coords) (k : Fin (k0_t1_loop i).trips) (u : Fin 4) : Fin 3 → ℕ :=
  match h with
  | 0 => k0_off1 i k (BitVec.ofNat 32 u.val)
  | 1 => k0_off2 i k (BitVec.ofNat 32 u.val)
  | 2 => k0_off3 i k (BitVec.ofNat 32 u.val)
  | 3 => k0_off4 i k (BitVec.ofNat 32 u.val)
  | 4 => k0_off5 i k (BitVec.ofNat 32 u.val)

theorem koff_eq : ∀ (h : Fin 5) (i : grid0.Coords) (k : Fin (k0_t1_loop i).trips) (u : Fin 4),
    koff h i k u = ![0, 128 * (4 * ((i 1).val + 1) - 1 - 4 * k.val - u.val), 128 * h.val] := by decide +kernel

theorem koff_le : ∀ (h : Fin 5) (i : grid0.Coords) (k : Fin (k0_t1_loop i).trips) (u : Fin 4) (a : Fin 3),
    koff h i k u a + S1x128x128.size a ≤ S1x4096x640.size a := by decide +kernel

theorem qoff_le : ∀ (h : Fin 5) (a : Fin 3),
    (![0, 0, 128 * h.val] : Fin 3 → ℕ) a + S1x512x128.size a ≤ S1x512x640.size a := by decide +kernel

def qLoad (h : Fin 5) : FVec Ideal S1x512x128 .bf16 :=
  View.readAt (Elt Ideal) arg2.view (Rect.unit (s := S1x512x640) ![0,0,128*h.val] S1x512x128.size (qoff_le h)).toLoadRect X_arg2

def kLoad (arg3 : Memref sig Kind.tc Space.vmem S1x4096x640 EltTy.bf16) (X : BufTy.Contents (Elt Ideal) arg3.view.ty)
   (h : Fin 5)  (k : Fin (k0_t1_loop i).trips) (u : Fin 4) : FVec Ideal S1x128x128 .bf16 :=
  View.readAt (Elt Ideal) arg3.view (Rect.unit (s := S1x4096x640) (koff h i k u) S1x128x128.size (koff_le h i k u)).toLoadRect X

def ch (h : Fin 5)  (k : Fin (k0_t1_loop i).trips) (u : Fin 4) :=
  chunk v29 (mask (offv v18 k.val (BitVec.ofNat 32 u.val)) v22) (qLoad arg2 X_arg2 h) (kLoad i arg3 X_arg3 h k u) (kLoad i arg4 X_arg4 h k u)

theorem trip_head (k : Fin (k0_t1_loop i).trips) (acc : C10) (h : Fin 5) :
  head h (tripR_k0_t1 (F := Ideal) 𝒱 c bd i arg2 harg2 arg3 harg3 arg4 harg4 arg5 harg5 v18 v22 v29 v30 v31 c4_i32 v32 v37 v39 X_arg2 X_arg3 X_arg4 k acc)
  = let C := ch i arg2 arg3 arg4 v18 v22 v29 X_arg2 X_arg3 X_arg4 h k
    C 3 (C 2 (C 1 (C 0 (head h acc)))) := by
  unfold tripR_k0_t1 trip_k0_t1
  match h with
  | 0 => rfl
  | 1 => rfl
  | 2 => rfl
  | 3 => rfl
  | 4 => rfl

theorem offv_eq : ∀ (i : grid0.Coords) (k : Fin (k0_t1_loop i).trips) (u : Fin 4),
    offv (BitVec.ofNat 32 (4 * ((i 1).val + 1))) k.val (BitVec.ofNat 32 u.val)
      = BitVec.ofNat 32 (128 * (4 * ((i 1).val + 1) - 1 - 4 * k.val - u.val)) := by decide +kernel

theorem trips1 : ∀ i : grid0.Coords, (k0_t1_loop i).trips = (i 1).val + 1 := by decide +kernel
theorem trips2 : ∀ i : grid0.Coords, (k0_t2_loop i).trips = 0 := by decide +kernel
theorem i1_lt : ∀ i : grid0.Coords, (i 1).val < 8 := by decide +kernel
theorem v18_eq : ∀ i : grid0.Coords, kernelRun0_A.sl.v18 i = BitVec.ofNat 32 (4 * ((i 1).val + 1)) := by decide +kernel

theorem qLoad_at (x0 : FVec Ideal S1x512x640 .bf16) (h : Fin 5) (r : Fin 512) (x : Fin 128) :
    qLoad arg2 (harg2.unread x0) h (ix3 0 r x) = x0 (ix3 0 r ⟨128 * h.val + x.val, by omega⟩) := by
  unfold qLoad
  rw [View.readAt_eq_ld, harg2.read_unread]
  refine View.ld_unit_apply_of _ _ _ _ _ _ fun a => ?_
  match a with
  | ⟨0, _⟩ => rfl
  | ⟨1, _⟩ => exact (Nat.zero_add _).symm
  | ⟨2, _⟩ => rfl

/-- The logits of query row `r` of head `h`, by the key's position. -/
def zN (x0 : FVec Ideal S1x512x640 .bf16) (x1 : FVec Ideal S1x4096x640 .bf16) (h : Fin 5) (r : Fin 512) (s : ℕ) : EReal :=
  if hs : s < 4096 then
    (∑ x : Fin 128, (x0 (ix3 0 r ⟨128 * h.val + x.val, by omega⟩) : EReal) * x1 (ix3 0 ⟨s, hs⟩ ⟨128 * h.val + x.val, by omega⟩))
      * Ideal.ofBits FTy.f32 1035273459#32
  else 0

/-- Column `d` of head `h`'s values, by the key's position. -/
def vN (x2 : FVec Ideal S1x4096x640 .bf16) (h : Fin 5) (d : Fin 128) (s : ℕ) : EReal :=
  if hs : s < 4096 then x2 (ix3 0 ⟨s, hs⟩ ⟨128 * h.val + d.val, by omega⟩) else 0

theorem kLoad_at (x1 : FVec Ideal S1x4096x640 .bf16) (h : Fin 5) (k : Fin (k0_t1_loop i).trips) (u : Fin 4) (j x : Fin 128)
    (s : ℕ) (hs : s < 4096) (es : s = 128 * (4 * ((i 1).val + 1) - 1 - 4 * k.val - u.val) + j.val) :
    kLoad i arg3 (harg3.unread x1) h k u (ix3 0 j x) = x1 (ix3 0 ⟨s, hs⟩ ⟨128 * h.val + x.val, by omega⟩) := by
  unfold kLoad
  rw [View.readAt_eq_ld, harg3.read_unread]
  refine View.ld_unit_apply_of _ _ _ _ _ _ fun a => ?_
  have e := koff_eq h i k u
  match a with
  | ⟨0, _⟩ => exact (congrArg (· + 0) (congrFun e 0)).symm
  | ⟨1, _⟩ => exact es.trans (congrArg (· + j.val) (congrFun e 1)).symm
  | ⟨2, _⟩ => exact (congrArg (· + x.val) (congrFun e 2)).symm

/-- One chunk of the loop at an index. -/
theorem ch_at (x0 : FVec Ideal S1x512x640 .bf16) (x1 x2 : FVec Ideal S1x4096x640 .bf16) (h : Fin 5)
    (k : Fin (k0_t1_loop i).trips) (u : Fin 4) (r : Fin 512) (d : Fin 128)
    (h18 : v18 = BitVec.ofNat 32 (4 * ((i 1).val + 1)))
    (h22 : ∀ r : Fin 512, v22 (ix2 r 0) = BitVec.ofNat 32 (512 * (i 1).val + r.val))
    (h29 : ∀ x j : Fin 128, (v29 (ix2 x j) : EReal) = if j.val < x.val then 1 else 0)
    (s : FVec Ideal S512x1 FTy.f32 × FVec Ideal S512x128 FTy.f32) (cc : ℕ)
    (hcc : cc = 4 * ((i 1).val + 1) - 1 - 4 * k.val - u.val)
    (h1 : (s.1 (ix2 r 0) : EReal) = suf (zN x0 x1 h r) (512 * (i 1).val + r.val) (128 * (cc + 1)))
    (h2 : (s.2 (ix2 r d) : EReal) = wsum (zN x0 x1 h r) (512 * (i 1).val + r.val) (vN x2 h d) (128 * (cc + 1))) :
    ((ch i arg2 arg3 arg4 v18 v22 v29 (harg2.unread x0) (harg3.unread x1) (harg4.unread x2) h k u s).1 (ix2 r 0) : EReal)
      = suf (zN x0 x1 h r) (512 * (i 1).val + r.val) (128 * cc)
    ∧ ((ch i arg2 arg3 arg4 v18 v22 v29 (harg2.unread x0) (harg3.unread x1) (harg4.unread x2) h k u s).2 (ix2 r d) : EReal)
      = wsum (zN x0 x1 h r) (512 * (i 1).val + r.val) (vN x2 h d) (128 * cc) := by
  have hi := i1_lt i
  have hr := r.isLt
  unfold ch
  refine chunk_at _ _ _ cc (by omega) _ _ _ _ _ s r d (fun j => ?_) (fun j => ?_) (fun j => ?_) h29 h1 h2
  · have hj := j.isLt
    refine mask_at _ _ r j (128 * cc) _ (by omega) (by omega) ?_ (h22 r)
    rw [h18, offv_eq, hcc]
  · have hj := j.isLt
    have hs : 128 * cc + j.val < 4096 := by omega
    unfold zz zN
    rw [dif_pos hs]
    congr 1
    refine Finset.sum_congr rfl fun x _ => ?_
    rw [qLoad_at arg2 harg2 x0 h r x, kLoad_at i arg3 harg3 x1 h k u j x _ hs (by rw [hcc])]
  · have hj := j.isLt
    have hs : 128 * cc + j.val < 4096 := by omega
    unfold vN
    rw [dif_pos hs]
    exact kLoad_at i arg4 harg4 x2 h k u j d _ hs (by rw [hcc])

/-- The loop at an index, after `n` trips. -/
theorem loop_at (x0 : FVec Ideal S1x512x640 .bf16) (x1 x2 : FVec Ideal S1x4096x640 .bf16) (h : Fin 5)
    (r : Fin 512) (d : Fin 128) (init : C10)
    (h18 : v18 = BitVec.ofNat 32 (4 * ((i 1).val + 1)))
    (h22 : ∀ r : Fin 512, v22 (ix2 r 0) = BitVec.ofNat 32 (512 * (i 1).val + r.val))
    (h29 : ∀ x j : Fin 128, (v29 (ix2 x j) : EReal) = if j.val < x.val then 1 else 0)
    (h1 : ((head h init).1 (ix2 r 0) : EReal) = 0) (h2 : ((head h init).2 (ix2 r d) : EReal) = 0) (n : ℕ)
    (hn : n ≤ (k0_t1_loop i).trips) :
    ((head h (st_k0_t1 (F := Ideal) 𝒱 c bd i arg2 harg2 arg3 harg3 arg4 harg4 arg5 harg5 v18 v22 v29 v30 v31 c4_i32 v32 v37 v39
        (harg2.unread x0) (harg3.unread x1) (harg4.unread x2) init n)).1 (ix2 r 0) : EReal)
      = suf (zN x0 x1 h r) (512 * (i 1).val + r.val) (128 * (4 * ((i 1).val + 1) - 4 * n))
    ∧ ((head h (st_k0_t1 (F := Ideal) 𝒱 c bd i arg2 harg2 arg3 harg3 arg4 harg4 arg5 harg5 v18 v22 v29 v30 v31 c4_i32 v32 v37 v39
        (harg2.unread x0) (harg3.unread x1) (harg4.unread x2) init n)).2 (ix2 r d) : EReal)
      = wsum (zN x0 x1 h r) (512 * (i 1).val + r.val) (vN x2 h d) (128 * (4 * ((i 1).val + 1) - 4 * n)) := by
  have hi := i1_lt i
  have hr := r.isLt
  have ht := trips1 i
  induction n with
  | zero =>
    rw [st_k0_t1_zero, h1, h2, suf_zero _ _ _ (by omega), wsum_zero _ _ _ _ (by omega)]
    exact ⟨rfl, rfl⟩
  | succ n ih =>
    have hlt : n < (k0_t1_loop i).trips := hn
    obtain ⟨a1, a2⟩ := ih (by omega)
    have e := st_k0_t1_succ (F := Ideal) 𝒱 c bd i arg2 harg2 arg3 harg3 arg4 harg4 arg5 harg5 v18 v22 v29 v30 v31 c4_i32 v32 v37 v39
      (harg2.unread x0) (harg3.unread x1) (harg4.unread x2) init ⟨n, hlt⟩
    have e0 : ∀ u : ℕ, u < 4 → 4 * ((i 1).val + 1) - 1 - 4 * n - u + 1 = 4 * ((i 1).val + 1) - 4 * n - u := by omega
    rw [show n + 1 = (⟨n, hlt⟩ : Fin (k0_t1_loop i).trips).val + 1 from rfl, e, trip_head]
    dsimp only
    obtain ⟨b1, b2⟩ := ch_at i arg2 harg2 arg3 harg3 arg4 harg4 v18 v22 v29 x0 x1 x2 h ⟨n, hlt⟩ 0 r d h18 h22 h29 _
      (4 * ((i 1).val + 1) - 4 * n - 1) (by simp; omega)
      (a1.trans (congrArg _ (by omega))) (a2.trans (congrArg _ (by omega)))
    obtain ⟨c1, c2⟩ := ch_at i arg2 harg2 arg3 harg3 arg4 harg4 v18 v22 v29 x0 x1 x2 h ⟨n, hlt⟩ 1 r d h18 h22 h29 _
      (4 * ((i 1).val + 1) - 4 * n - 2) (by simp; omega)
      (b1.trans (congrArg _ (by omega))) (b2.trans (congrArg _ (by omega)))
    obtain ⟨d1, d2⟩ := ch_at i arg2 harg2 arg3 harg3 arg4 harg4 v18 v22 v29 x0 x1 x2 h ⟨n, hlt⟩ 2 r d h18 h22 h29 _
      (4 * ((i 1).val + 1) - 4 * n - 3) (by simp; omega)
      (c1.trans (congrArg _ (by omega))) (c2.trans (congrArg _ (by omega)))
    obtain ⟨f1, f2⟩ := ch_at i arg2 harg2 arg3 harg3 arg4 harg4 v18 v22 v29 x0 x1 x2 h ⟨n, hlt⟩ 3 r d h18 h22 h29 _
      (4 * ((i 1).val + 1) - 4 * n - 4) (by simp; omega)
      (d1.trans (congrArg _ (by omega))) (d2.trans (congrArg _ (by omega)))
    exact ⟨f1.trans (congrArg _ (by omega)), f2.trans (congrArg _ (by omega))⟩

/-- The loop over the chunks left over has no trip. -/
theorem st2_eq (v53 : BitVec 32) (init : C10) :
    st_k0_t2 (F := Ideal) 𝒱 c bd i arg2 harg2 arg3 harg3 arg4 harg4 arg5 harg5 v18 v22 v29 v30 v31 c4_i32 v32 v37 v39 v53
      X_arg2 X_arg3 X_arg4 init (Scf.trips (k0_t2_loop i).lb (k0_t2_loop i).ub (k0_t2_loop i).st) = init := by
  rw [show Scf.trips (k0_t2_loop i).lb (k0_t2_loop i).ub (k0_t2_loop i).st = 0 from trips2 i, st_k0_t2_zero]

/-- Every head's running sum starts at `0`. -/
theorem init1 (h : Fin 5) (r : Fin 512) : ((head h ((k0_pay292 (F := Ideal), k0_pay293 (F := Ideal), k0_pay292 (F := Ideal),
    k0_pay293 (F := Ideal), k0_pay292 (F := Ideal), k0_pay293 (F := Ideal), k0_pay292 (F := Ideal), k0_pay293 (F := Ideal),
    k0_pay292 (F := Ideal), k0_pay293 (F := Ideal)) : C10)).1 (ix2 r 0) : EReal) = 0 := by
  match h with
  | 0 => exact zero1_at r
  | 1 => exact zero1_at r
  | 2 => exact zero1_at r
  | 3 => exact zero1_at r
  | 4 => exact zero1_at r

/-- Every head's accumulator starts at `0`. -/
theorem init2 (h : Fin 5) (r : Fin 512) (d : Fin 128) : ((head h ((k0_pay292 (F := Ideal), k0_pay293 (F := Ideal), k0_pay292 (F := Ideal),
    k0_pay293 (F := Ideal), k0_pay292 (F := Ideal), k0_pay293 (F := Ideal), k0_pay292 (F := Ideal), k0_pay293 (F := Ideal),
    k0_pay292 (F := Ideal), k0_pay293 (F := Ideal)) : C10)).2 (ix2 r d) : EReal) = 0 := by
  match h with
  | 0 => exact zero2_at r d
  | 1 => exact zero2_at r d
  | 2 => exact zero2_at r d
  | 3 => exact zero2_at r d
  | 4 => exact zero2_at r d

/-- What the body stores for query `r`, head `h`, column `d` of a grid point: the weighted sum of all the keys' values. -/
theorem out_at (x0 : FVec Ideal S1x512x640 .bf16) (x1 x2 : FVec Ideal S1x4096x640 .bf16) (h : Fin 5) (r : Fin 512) (d : Fin 128) :
    (out0_A_3 (F := Ideal) c i arg2 harg2 arg3 harg3 arg4 harg4 arg5 harg5 x0 x1 x2 (ix3 0 r ⟨128 * h.val + d.val, by omega⟩) : EReal)
      = wsum (zN x0 x1 h r) (512 * (i 1).val + r.val) (vN x2 h d) 0 := by
  unfold out0_A_3
  rw [View.read_writes_eq_canon _ _ _ (cover0_A_3 (F := Ideal) c i arg2 harg2 arg3 harg3 arg4 harg4 arg5 harg5 x0 x1 x2)]
  unfold kernelRun0_A
  dsimp only
  have L := fun (h : Fin 5) (d : Fin 128) => loop_at Variants.none c none i arg2 harg2 arg3 harg3 arg4 harg4 arg5 harg5
    (kernelRun0_A.sl.v18 i) (k0_pay290 i) (k0_pay291 (F := Ideal)) (k0_pay292 (F := Ideal)) (k0_pay293 (F := Ideal)) 4#32
    (kernelRun0_A.sl.v32 i) (kernelRun0_A.sl.v37 i) 1#32 x0 x1 x2 h r d
    (k0_pay292, k0_pay293, k0_pay292, k0_pay293, k0_pay292, k0_pay293, k0_pay292, k0_pay293, k0_pay292, k0_pay293)
    (v18_eq i) (row_at i) mat_at (init1 h r) (init2 h r d) ((i 1).val + 1) (trips1 i).ge
  have ez : 128 * (4 * ((i 1).val + 1) - 4 * ((i 1).val + 1)) = 0 := by omega
  have et : Scf.trips (k0_t1_loop i).lb (k0_t1_loop i).ub (k0_t1_loop i).st = (i 1).val + 1 := trips1 i
  simp only [ez] at L
  canon_tiles x g
  all_goals
    obtain rfl : r = x 1 := Fin.ext (by simpa [ix3] using g1)
  case piece0 =>
    obtain rfl : h = 4 := Fin.ext (by have := d.isLt; simp [ix3] at g2; omega)
    obtain rfl : d = x 2 := Fin.ext (by simp [ix3] at g2; omega)
    unfold kernelRun0_A.sl.r
    rw [st2_eq, et]
    dsimp only
    pointwise [k0_pay1, k0_pay302]
    exact (L 4 (x 2)).2
  case piece1 =>
    obtain rfl : h = 3 := Fin.ext (by have := d.isLt; simp [ix3] at g2; omega)
    obtain rfl : d = x 2 := Fin.ext (by simp [ix3] at g2; omega)
    rw [st2_eq, et]
    dsimp only
    pointwise [k0_pay301]
    exact (L 3 (x 2)).2
  case piece2 =>
    obtain rfl : h = 2 := Fin.ext (by have := d.isLt; simp [ix3] at g2; omega)
    obtain rfl : d = x 2 := Fin.ext (by simp [ix3] at g2; omega)
    rw [st2_eq, et]
    dsimp only
    pointwise [k0_pay300]
    exact (L 2 (x 2)).2
  case piece3 =>
    obtain rfl : h = 1 := Fin.ext (by have := d.isLt; simp [ix3] at g2; omega)
    obtain rfl : d = x 2 := Fin.ext (by simp [ix3] at g2; omega)
    rw [st2_eq, et]
    dsimp only
    pointwise [k0_pay299]
    exact (L 1 (x 2)).2
  case piece4 =>
    obtain rfl : h = 0 := Fin.ext (by have := d.isLt; simp [ix3] at g2; omega)
    obtain rfl : d = x 2 := Fin.ext (by simp [ix3] at g2; omega)
    rw [st2_eq, et]
    dsimp only
    pointwise [k0_pay298]
    exact (L 0 (x 2)).2

end Cert.Stick

end
-- ==== Proof.StickRef.lean ====
/- The stick-breaking reference read at an index: its logits, its mask, its reversed running sum, its result. -/
module

public import proofs.«01_k».proof.Proof.Gen.ReferenceIdeal.Read
public import proofs.«01_k».proof.Proof.StickChunk

@[expose] public section

set_option maxRecDepth 16384

noncomputable section

open Idealize.ShloMosaic Idealize.ShloMosaic.TcCoe Idealize.SL.Sem

namespace Cert.Stick.Ref

open Cert.ReferenceIdeal Cert.ReferenceIdeal.Gen Cert.ReferenceIdeal.Read

/-- A fold of additions is the start plus the sum of the terms. -/
theorem foldl_add {α : Type} (g : α → EReal) (l : List α) (a : EReal) :
    l.foldl (fun r k => r + g k) a = a + (l.map g).sum := by
  induction l generalizing a with
  | nil => simp
  | cons x l ih => rw [List.foldl_cons, ih, List.map_cons, List.sum_cons, add_assoc]

/-- A window of one row of 4096 is its last coordinate. -/
def winEquiv : (⟨4, ![1, 1, 1, 4096]⟩ : Shape).Idx ≃ Fin 4096 where
  toFun w := w 3
  invFun k := fun a => match a with
    | ⟨0, _⟩ => (0 : Fin 1)
    | ⟨1, _⟩ => (0 : Fin 1)
    | ⟨2, _⟩ => (0 : Fin 1)
    | ⟨3, _⟩ => k
  left_inv w := by
    funext a
    match a with
    | ⟨0, _⟩ => exact (Subsingleton.elim (α := Fin 1) _ _)
    | ⟨1, _⟩ => exact (Subsingleton.elim (α := Fin 1) _ _)
    | ⟨2, _⟩ => exact (Subsingleton.elim (α := Fin 1) _ _)
    | ⟨3, _⟩ => rfl
  right_inv k := rfl

/-- The reversed running sum along the keys, at an index: the sum from the key on. -/
theorem cumsum_at (x : FVec Ideal S2x5x4096x4096 .f32) (init : FVec Ideal S_ .f32) (hR) (hS)
    (h0 : (init (Shape.Idx.first hS) : EReal) = 0) (b : Fin 2) (h : Fin 5) (t s : Fin 4096) (f : ℕ → EReal)
    (hf : ∀ j : Fin 4096, (x (ix4 b h t j) : EReal) = f j.val) :
    (Host.reduceWindowAdd ![1, 1, 1, 4096] ![1, 1, 1, 1] ![0, 0, 0, 0] ![0, 0, 0, 4095] x init hR hS (ix4 b h t s) : EReal)
      = ∑ j ∈ Finset.Ico s.val 4096, f j := by
  unfold Host.reduceWindowAdd
  rw [Ideal.hostReduceWindowAdd_def]
  unfold Ideal.hostReduceWindowAdd Host.reduceWindow
  dsimp only
  rw [h0, foldl_add, zero_add, ← Fin.sum_univ_def]
  refine Eq.trans (b := ∑ k : Fin 4096, if s.val + k.val < 4096 then f (s.val + k.val) else 0)
    (Fintype.sum_equiv ((Shape.rowMajor ⟨4, ![1, 1, 1, 4096]⟩).symm.trans winEquiv) _ _ fun n => ?_) ?_
  · have w0 : (Shape.rowMajor ⟨4, ![1, 1, 1, 4096]⟩).symm n 0 = (0 : Fin 1) := Subsingleton.elim (α := Fin 1) _ _
    have w1 : (Shape.rowMajor ⟨4, ![1, 1, 1, 4096]⟩).symm n 1 = (0 : Fin 1) := Subsingleton.elim (α := Fin 1) _ _
    have w2 : (Shape.rowMajor ⟨4, ![1, 1, 1, 4096]⟩).symm n 2 = (0 : Fin 1) := Subsingleton.elim (α := Fin 1) _ _
    have v0 : ((Shape.rowMajor ⟨4, ![1, 1, 1, 4096]⟩).symm n 0).val = 0 := congrArg Fin.val w0
    have v1 : ((Shape.rowMajor ⟨4, ![1, 1, 1, 4096]⟩).symm n 1).val = 0 := congrArg Fin.val w1
    have v2 : ((Shape.rowMajor ⟨4, ![1, 1, 1, 4096]⟩).symm n 2).val = 0 := congrArg Fin.val w2
    have v3 : ((Shape.rowMajor ⟨4, ![1, 1, 1, 4096]⟩).symm n 3).val
      = (((Shape.rowMajor ⟨4, ![1, 1, 1, 4096]⟩).symm.trans winEquiv) n).val := rfl
    generalize ((Shape.rowMajor ⟨4, ![1, 1, 1, 4096]⟩).symm.trans winEquiv) n = k at v3 ⊢
    by_cases hk : s.val + k.val < 4096
    · rw [if_pos hk, dif_pos]
      · refine Eq.trans (congrArg x (funext fun a => ?_)) (hf ⟨s.val + k.val, hk⟩)
        match a with
        | ⟨0, _⟩ => exact Fin.ext (show b.val * 1 + ((Shape.rowMajor ⟨4, ![1, 1, 1, 4096]⟩).symm n 0).val - 0 = b.val by omega)
        | ⟨1, _⟩ => exact Fin.ext (show h.val * 1 + ((Shape.rowMajor ⟨4, ![1, 1, 1, 4096]⟩).symm n 1).val - 0 = h.val by omega)
        | ⟨2, _⟩ => exact Fin.ext (show t.val * 1 + ((Shape.rowMajor ⟨4, ![1, 1, 1, 4096]⟩).symm n 2).val - 0 = t.val by omega)
        | ⟨3, _⟩ => exact Fin.ext (show s.val * 1 + ((Shape.rowMajor ⟨4, ![1, 1, 1, 4096]⟩).symm n 3).val - 0 = s.val + k.val by omega)
      · intro a
        refine ⟨by fin_cases a <;> exact Nat.zero_le _, ?_⟩
        match a with
        | ⟨0, _⟩ => show b.val * 1 + ((Shape.rowMajor ⟨4, ![1, 1, 1, 4096]⟩).symm n 0).val - 0 < 2; omega
        | ⟨1, _⟩ => show h.val * 1 + ((Shape.rowMajor ⟨4, ![1, 1, 1, 4096]⟩).symm n 1).val - 0 < 5; omega
        | ⟨2, _⟩ => show t.val * 1 + ((Shape.rowMajor ⟨4, ![1, 1, 1, 4096]⟩).symm n 2).val - 0 < 4096; omega
        | ⟨3, _⟩ => show s.val * 1 + ((Shape.rowMajor ⟨4, ![1, 1, 1, 4096]⟩).symm n 3).val - 0 < 4096; omega
    · rw [if_neg hk, dif_neg]
      intro hin
      have h3 : s.val * 1 + ((Shape.rowMajor ⟨4, ![1, 1, 1, 4096]⟩).symm n 3).val - 0 < 4096 := (hin 3).2
      omega
  · rw [← Finset.sum_range (fun k => if s.val + k < 4096 then f (s.val + k) else 0), ← Finset.sum_filter,
      Finset.sum_Ico_eq_sum_range]
    refine Finset.sum_congr ?_ fun _ _ => rfl
    ext k
    rw [Finset.mem_filter, Finset.mem_range, Finset.mem_range]
    omega

/-- The logit of query `t` and key `s` of head `h`, batch row `b`. -/
def zA (X0 X1 : FVec Ideal S2x4096x640 .bf16) (b : Fin 2) (h : Fin 5) (t : Fin 4096) (s : ℕ) : EReal :=
  if hs : s < 4096 then
    (∑ x : Fin 128, (X0 (ix3 b t ⟨128 * h.val + x.val, by omega⟩) : EReal) * X1 (ix3 b ⟨s, hs⟩ ⟨128 * h.val + x.val, by omega⟩))
      * Ideal.ofBits FTy.f32 1035273459#32
  else 0

/-- Column `d` of head `h`'s values. -/
def vA (X2 : FVec Ideal S2x4096x640 .bf16) (b : Fin 2) (h : Fin 5) (d : Fin 128) (s : ℕ) : EReal :=
  if hs : s < 4096 then X2 (ix3 b ⟨s, hs⟩ ⟨128 * h.val + d.val, by omega⟩) else 0

/-- The reference's logits at an index. -/
theorem z_at (X0 X1 : FVec Ideal S2x4096x640 .bf16) (b : Fin 2) (h : Fin 5) (t s : Fin 4096) :
    (val_main_v9 (F := Ideal) X0 X1 (ix4 b h t s) : EReal) = zA X0 X1 b h t s.val := by
  unfold zA
  rw [dif_pos s.isLt]
  pointwise [val_main_v9, val_main_v8, val_main_cst, val_main_v7, val_main_v3, val_main_v1, val_main_v2, val_main_v0]
  simp only [Nat.mul_comm h.val 128]

/-- The reference's mask at an index. -/
theorem before_at (t s : Fin 4096) : val_main_v14 (F := Ideal) (ix2 t s) = 1 ↔ s.val < t.val := by
  pointwise [val_main_v14, val_main_v13, val_main_v12, val_main_v11, val_main_v10, val_main_v6]
  exact slt_iff _ _ (by omega) (by omega)

/-- The host's softplus is the kernel's. -/
theorem softplus_host (x : EReal) : max x 0 + Ideal.log1p (Ideal.exp (-max x (-x))) = sp x := by
  rw [← spH_eq]
  unfold spH
  rw [sub_zero]

/-- The reference's `log (1 - β)` at an index. -/
theorem lm_at (X0 X1 : FVec Ideal S2x4096x640 .bf16) (b : Fin 2) (h : Fin 5) (t s : Fin 4096) :
    (val_main_v17 (F := Ideal) X0 X1 (ix4 b h t s) : EReal) = lm (zA X0 X1 b h t) t.val s.val := by
  pointwise [val_main_v17, val_main_call1_v2, val_main_call1_v1, val_main_call1_v0, val_main_cst_0, val_main_v16, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0, val_main_v15, id]
  rw [z_at, neg_neg, if_neg (fun h => h rfl)]
  show (if _ then -(max (zA X0 X1 b h t s.val) 0 + Ideal.log1p (Ideal.exp (-max (zA X0 X1 b h t s.val) (-zA X0 X1 b h t s.val)))) else 0) = _
  rw [softplus_host]
  exact if_congr (before_at t s) rfl rfl

/-- The reference's running sum at an index. -/
theorem cum_at (X0 X1 : FVec Ideal S2x4096x640 .bf16) (b : Fin 2) (h : Fin 5) (t s : Fin 4096) :
    (val_main_v18 (F := Ideal) X0 X1 (ix4 b h t s) : EReal) = ∑ j ∈ Finset.Ico s.val 4096, lm (zA X0 X1 b h t) t.val j := by
  unfold val_main_v18
  exact cumsum_at _ _ _ _ (by pointwise [val_main_call2_v0, val_main_call2_cst]) b h t s _ (lm_at X0 X1 b h t)

/-- The reference's logarithm of a weight at an index. -/
theorem logA_at (X0 X1 : FVec Ideal S2x4096x640 .bf16) (b : Fin 2) (h : Fin 5) (t s : Fin 4096) :
    (val_main_v22 (F := Ideal) X0 X1 (ix4 b h t s) : EReal) = logA (zA X0 X1 b h t) t.val s.val := by
  rw [← logA_ref _ _ _ s.isLt]
  pointwise [val_main_v22, val_main_call4_v2, val_main_call4_v1, val_main_call4_v0, val_main_cst_1, val_main_v21, val_main_v20, val_main_call3_v1, val_main_call3_call0_v11, val_main_call3_call0_v10, val_main_call3_call0_v9, val_main_call3_call0_v8, val_main_call3_call0_v7, val_main_call3_call0_v6, val_main_call3_call0_v5, val_main_call3_call0_v4, val_main_call3_call0_v3, val_main_call3_call0_v2, val_main_call3_call0_v1, val_main_call3_call0_v0, val_main_call3_call0_cst, val_main_call3_v0, val_main_v19, id]
  rw [z_at, if_neg (fun h => h rfl), cum_at, lm_at]
  show (if _ then -(max (-zA X0 X1 b h t s.val) 0 + Ideal.log1p (Ideal.exp (-max (-zA X0 X1 b h t s.val) (- -zA X0 X1 b h t s.val)))) + _ else _) = _
  rw [softplus_host]
  refine if_congr (before_at t s) rfl ?_
  show Ideal.ieee 8 23 4286578688#32 = ⊥
  unfold Ideal.ieee
  simp

/-- The reference's result at an index. -/
theorem out_ref_at (X0 X1 X2 : FVec Ideal S2x4096x640 .bf16) (b : Fin 2) (h : Fin 5) (t : Fin 4096) (d : Fin 128) :
    (val_main_v27 (F := Ideal) X0 X1 X2 (ix3 b t ⟨128 * h.val + d.val, by omega⟩) : EReal) = wsum (zA X0 X1 b h t) t.val (vA X2 b h d) 0 := by
  pointwise [val_main_v27, val_main_v26, val_main_v25, val_main_v24, val_main_v23, val_main_v5, val_main_v4]
  unfold wsum
  rw [Nat.Ico_zero_eq_range, Finset.sum_range]
  refine Finset.sum_congr rfl fun s _ => ?_
  unfold vA
  rw [logA_at, mul_comm, dif_pos s.isLt]
  simp only [Nat.mul_comm h.val 128]

end Cert.Stick.Ref

end
-- ==== Proof.Stick.lean ====
/- The stick-breaking kernel's result array is the reference's: the blocks of the grid, put together. -/
module

public import proofs.«01_k».proof.Proof.StickLoop
public import proofs.«01_k».proof.Proof.StickRef

@[expose] public section

set_option maxRecDepth 16384

noncomputable section

open Idealize.ShloMosaic Idealize.ShloMosaic.TcCoe Idealize.SL.Sem
open Idealize.ShloMosaic.Pipeline (Dat)

namespace Cert.Stick

open Cert.KernelIdeal Cert.KernelIdeal.Gen

variable (m : (ℓ : Loc nD τ sig) → Buf (Elt Ideal) ℓ)

/-- The windows' index maps. -/
theorem idx : ∀ t : Fin cfg0.N, win0_0.index t = ![(grid0.coords t 0).val, (grid0.coords t 1).val, 0]
    ∧ win0_1.index t = ![(grid0.coords t 0).val, 0, 0] ∧ win0_2.index t = ![(grid0.coords t 0).val, 0, 0]
    ∧ win0_3.index t = ![(grid0.coords t 0).val, (grid0.coords t 1).val, 0]
    ∧ (grid0.coords t 0).val < 2 ∧ (grid0.coords t 1).val < 8 :=
  (by decide +kernel : ∀ t : Fin grid0.N, _)

/-- The queries' block at an index. -/
theorem blk0_at (c : Dev nD) (t : Fin cfg0.N) (b : Fin 2) (hb : b.val = (grid0.coords t 0).val) (r : Fin 512) (x : Fin 640)
    (p : Fin 4096) (hp : p.val = 512 * (grid0.coords t 1).val + r.val) :
    (iblk m c 0 t : FVec Ideal S1x512x640 .bf16) (ix3 0 r x) = (m (c.tc.loc main_arg0) : FVec Ideal S2x4096x640 .bf16) (ix3 b p x) := by
  blk_ext [iblk, V, idx t]

/-- The keys' block at an index. -/
theorem blk1_at (c : Dev nD) (t : Fin cfg0.N) (b : Fin 2) (hb : b.val = (grid0.coords t 0).val) (s : Fin 4096) (x : Fin 640) :
    (iblk m c 1 t : FVec Ideal S1x4096x640 .bf16) (ix3 0 s x) = (m (c.tc.loc main_arg1) : FVec Ideal S2x4096x640 .bf16) (ix3 b s x) := by
  blk_ext [iblk, V, idx t]

/-- The values' block at an index. -/
theorem blk2_at (c : Dev nD) (t : Fin cfg0.N) (b : Fin 2) (hb : b.val = (grid0.coords t 0).val) (s : Fin 4096) (x : Fin 640) :
    (iblk m c 2 t : FVec Ideal S1x4096x640 .bf16) (ix3 0 s x) = (m (c.tc.loc main_arg2) : FVec Ideal S2x4096x640 .bf16) (ix3 b s x) := by
  blk_ext [iblk, V, idx t]

/-- What the body leaves at block index `y` of point `t` is the reference's result where `y` sits. -/
theorem point (c : Dev nD) (t : Fin cfg0.N) (y : S1x512x640.Idx) (j : S2x4096x640.Idx) (hj0 : (j 0 : ℕ) = (grid0.coords t 0).val)
    (hj1 : (j 1 : ℕ) = 512 * (grid0.coords t 1).val + (y 1).val) (hj2 : (j 2 : ℕ) = y 2) :
    (out0_A_3 (F := Ideal) c (grid0.coords t) (ms0_0 t) (hs0_0 t) (ms0_1 t) (hs0_1 t) (ms0_2 t) (hs0_2 t) (ms0_3 t) (hs0_3 t)
      (iblk m c 0 t) (iblk m c 1 t) (iblk m c 2 t) y : EReal)
    = Cert.ReferenceIdeal.Read.val_main_v27 (F := Ideal) (m (c.tc.loc main_arg0)) (m (c.tc.loc main_arg1))
        (m (c.tc.loc main_arg2)) j := by
  obtain ⟨-, -, -, -, hb, hi⟩ := idx t
  have h2 : (y 2).val < 640 := (y 2).isLt
  have h1 : (y 1).val < 512 := (y 1).isLt
  have h0 : (y 0).val < 1 := (y 0).isLt
  let h : Fin 5 := ⟨(y 2).val / 128, by omega⟩
  let d : Fin 128 := ⟨(y 2).val % 128, by omega⟩
  let r : Fin 512 := ⟨(y 1).val, h1⟩
  let b : Fin 2 := ⟨(grid0.coords t 0).val, hb⟩
  let p : Fin 4096 := ⟨512 * (grid0.coords t 1).val + (y 1).val, by omega⟩
  have ed : 128 * ((y 2).val / 128) + (y 2).val % 128 = (y 2).val := by omega
  have ey : y = ix3 0 r ⟨128 * h.val + d.val, by omega⟩ := funext fun a => match a with
    | ⟨0, _⟩ => Fin.ext (show (y 0).val = 0 by omega)
    | ⟨1, _⟩ => rfl
    | ⟨2, _⟩ => Fin.ext ed.symm
  have ej : j = ix3 b p ⟨128 * h.val + d.val, by omega⟩ := funext fun a => match a with
    | ⟨0, _⟩ => Fin.ext hj0
    | ⟨1, _⟩ => Fin.ext hj1
    | ⟨2, _⟩ => Fin.ext (hj2.trans ed.symm)
  rw [ej, Ref.out_ref_at]
  refine (congrArg _ ey).trans ((out_at c (grid0.coords t) (ms0_0 t) (hs0_0 t) (ms0_1 t) (hs0_1 t) (ms0_2 t) (hs0_2 t) (ms0_3 t) (hs0_3 t)
      (iblk m c 0 t) (iblk m c 1 t) (iblk m c 2 t) h r d).trans ?_)
  have ez : zN (iblk m c 0 t) (iblk m c 1 t) h r
      = Ref.zA (m (c.tc.loc main_arg0)) (m (c.tc.loc main_arg1)) b h p := by
    funext s
    unfold zN Ref.zA
    by_cases hs : s < 4096
    · rw [dif_pos hs, dif_pos hs]
      congr 1
      refine Finset.sum_congr rfl fun x _ => ?_
      rw [blk0_at m c t b rfl r _ p rfl, blk1_at m c t b rfl ⟨s, hs⟩ _]
    · rw [dif_neg hs, dif_neg hs]
  have ev : vN (iblk m c 2 t) h d = Ref.vA (m (c.tc.loc main_arg2)) b h d := by
    funext s
    unfold vN Ref.vA
    by_cases hs : s < 4096
    · rw [dif_pos hs, dif_pos hs]
      exact blk2_at m c t b rfl ⟨s, hs⟩ _
    · rw [dif_neg hs, dif_neg hs]
  rw [ez, ev]

/-- The result array after the run is the reference's result of the arguments. -/
theorem final (c : Dev nD) : (dats m 0 c).arrAt 3 cfg0.N
    = Cert.ReferenceIdeal.Read.val_main_v27 (F := Ideal) (m (c.tc.loc main_arg0)) (m (c.tc.loc main_arg1))
        (m (c.tc.loc main_arg2)) := by
  refine (dats m 0 c).arrAt_eq_of_covers 3 _ (by decide +kernel) fun t hf y => ?_
  blk_simp
  rw [after0_3]
  unfold outsAt0
  refine point m c t y _ ?_ ?_ ?_
  all_goals (blk_simp [idx t] <;> try omega)

end Cert.Stick

end
-- ==== Proof.StickClaims.lean ====
/- The five claims about the stick-breaking attention: the three frames, the named mask, and that the kernel and the
   reference leave the same array. -/
module

public import proofs.«01_k».proof.Defs
public import proofs.«01_k».proof.Proof.Stick
public import proofs.«01_k».proof.Proof.Gen.Kernel
public import proofs.«01_k».proof.Proof.Gen.Kernel.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init
public import Idealize.ShloMosaic.Lib.Quiescent

@[expose] public section

noncomputable section

namespace Cert.StickClaims

open Idealize.ShloMosaic Idealize.SL.Sem

/-- The kernel on machine numbers runs to its end, keeps its arguments and leaves every counter at zero. -/
theorem frame_p : Cert.quiescent_Kernel := fun m ρ _ => Cert.Kernel.Gen.frame m ρ

/-- The kernel on ideal numbers runs to its end, keeps its arguments and leaves every counter at zero. -/
theorem frame_pi : Cert.quiescent_KernelIdeal := fun m ρ _ => Cert.KernelIdeal.Gen.frame m ρ

/-- The reference on ideal numbers runs to its end, keeps its arguments and leaves every counter at zero. -/
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The one constant given a name, the mask, stands for the bottom element in the ideal kernel. -/
theorem preserves : Cert.preserves_Kernel_KernelIdeal :=
  IdealRules.named_const.statement Cert.KernelIdeal.κ "mask" .f32 0xF149F2CA#32 ⊥ rfl

/-- On equal queries, keys and values, the kernel and the reference leave the same array. -/
theorem algebraic : Cert.algebraic_KernelIdeal_ReferenceIdeal := by
  intro m ρ m' ρ' _ hag
  refine ⟨fun c => Cert.ReferenceIdeal.Read.val_main_v27
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.Stick.final m c), (h c).2⟩) (Cert.KernelIdeal.Value.run_blocks m ρ)
  · refine (θ_run Cert.ReferenceIdeal.defs _ _).mono (fun r h c => ⟨(h c).1.trans ?_, (h c).2⟩)
      (Cert.ReferenceIdeal.Value.run (F := Ideal) m' ρ')
    refine (Cert.ReferenceIdeal.Read.val_main_v27_eq m' c).trans ?_
    obtain ⟨h0, h1, h2⟩ := hag c
    rw [h0, h1, h2]

end Cert.StickClaims

end
-- ==== Proof.Kernel2IdealRuns.lean ====
module

public import proofs.«01_k».proof.Proof.Gen.Kernel2Ideal
public import proofs.«01_k».proof.Proof.Gen.Kernel2Ideal.Launch
public import proofs.«01_k».proof.Proof.Gen.Kernel2Ideal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 0 (operand 2 (%arg2)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 0 (fun _ => rfl) (by decide)) (P := 1) (by decide) t).mpr (Nat.mod_one _) : ∀ t : Fin grid0.N, Pipeline.Window.fetchOf grid0 false cc0_transform_0 t = true)
/-- Window 5 (result 0 (%1)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 1 (by decide) (by decide) (Pipeline.Window.sep_of_coord cc0_transform_5 1 0 (fun _ => rfl) (by decide)) (P := 1) (m := 0) (by decide) rfl t).mpr (Nat.mod_one _) : ∀ t : Fin grid0.N, Pipeline.Window.flushOf grid0 true cc0_transform_5 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_expert_gate_up (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes an argument: the region finds it as launched. -/
theorem V_arg (c : Dev nD) (b : Ref sig .tc) (hb : b ∈ [main_arg0, main_arg1, main_arg2, main_arg3, main_arg4]) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    simp only [List.mem_cons, List.not_mem_nil, or_false] at hb
    rcases hb with rfl | rfl | rfl | rfl | rfl
    all_goals
      repeat' apply And.intro
      all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    . -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S161 .i32 := Memref.whole main_arg0
abbrev htbM0_0 : tbM0_0.IsWhole := Memref.isWhole_whole _
abbrev tbM0_1 : Memref sig .tc .smem S161 .i32 := Memref.whole main_arg1
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body , table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same of input window 1. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The same of input window 2. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The same of input window 3. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- The same of input window 4. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel2Ideal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (by decide : main_arg0 ∈ Pipeline.restRefs sig spec0)).trans (V_arg m c main_arg0 (by simp)),
      ((h c).2 main_arg1 (by decide : main_arg1 ∈ Pipeline.restRefs sig spec0)).trans (V_arg m c main_arg1 (by simp)),
      ((h c).1 0).trans (((dats 0 c).arrAt_in 0 rfl _).trans ((hA c 0).trans (V_arg m c main_arg2 (by simp)))),
      ((h c).1 2).trans (((dats 0 c).arrAt_in 2 rfl _).trans ((hA c 2).trans (V_arg m c main_arg3 (by simp)))),
      ((h c).2 main_arg4 (by decide : main_arg4 ∈ Pipeline.restRefs sig spec0)).trans (V_arg m c main_arg4 (by simp))⟩) h

/-! ## The body's branch conditions -/

/-- A word of the expert table: the entry the body loads at offsets `o` from contents `xt`. -/
abbrev teW (c : Dev nD) (o : Fin 1 → ℕ) (ho : ∀ a, o a + S1.size a ≤ S161.size a) (xt : TbBuf0 (F := F) c tbM0_0) : BitVec 32 :=
  tbM0_0.view.readAt (Elt F) (Rect.unit (s := S161) o S1.size ho).toLoadRect xt (Shape.Idx.first (numel1_S1.symm ▸ Nat.one_pos))
/-- A word of the row-count table. -/
abbrev tvW (c : Dev nD) (o : Fin 1 → ℕ) (ho : ∀ a, o a + S1.size a ≤ S161.size a) (xt : TbBuf0 (F := F) c tbM0_1) : BitVec 32 :=
  tbM0_1.view.readAt (Elt F) (Rect.unit (s := S161) o S1.size ho).toLoadRect xt (Shape.Idx.first (numel1_S1.symm ▸ Nat.one_pos))

/-- The first branch is taken: the tile is the first of its column block, or its expert is not the one of the tile before. -/
abbrev cond0_0 (c : Dev nD) (i : grid0.Coords) (xt : TbBuf0 (F := F) c tbM0_0) : Prop :=
  (Scalar.cmpi .ne (Scalar.extui (Scalar.ori (Scalar.cmpi .eq (BitVec.ofNat 32 (i 1).val) 0#32) (Scalar.cmpi .ne (teW c (k0_off1 i) (k0_off1_inb i) xt) (teW c (k0_off2 i) (k0_off2_inb i) xt)))) 0#32) = 1#1
/-- The second branch is taken: the tile holds rows. -/
abbrev cond0_1 (c : Dev nD) (i : grid0.Coords) (xt : TbBuf0 (F := F) c tbM0_1) : Prop := k0_cond2 (tvW c (k0_off3 i) (k0_off3_inb i) xt) = 1#1
/-- The third branch is taken: the tile holds no row. -/
abbrev cond0_2 (c : Dev nD) (i : grid0.Coords) (xt : TbBuf0 (F := F) c tbM0_1) : Prop := k0_cond3 (tvW c (k0_off4 i) (k0_off4_inb i) xt) = 1#1

/-- At a first tile the first branch is taken, whatever the table holds. -/
theorem cond0_first (c : Dev nD) (i : grid0.Coords) (xt : TbBuf0 (F := F) c tbM0_0) (h : (i 1).val = 0) : cond0_0 c i xt := by
  unfold cond0_0
  rw [h]
  generalize Scalar.cmpi CmpIPredicate.ne (teW c (k0_off1 i) (k0_off1_inb i) xt) (teW c (k0_off2 i) (k0_off2_inb i) xt) = b
  clear xt
  revert b
  decide

/-! ## Where the windows are idle -/

/-- Window 0 is never idle (an input). -/
theorem liveAt0_0 (hO : Ok m) : ∀ t : Fin (cfgM m hO).N, (cfgM m hO).idle 0 (grid0.coords t) = false := fun _ => rfl
/-- Window 1 is never idle (an input). -/
theorem liveAt0_1 (hO : Ok m) : ∀ t : Fin (cfgM m hO).N, (cfgM m hO).idle 1 (grid0.coords t) = false := fun _ => rfl
/-- Window 2 is never idle (an input). -/
theorem liveAt0_2 (hO : Ok m) : ∀ t : Fin (cfgM m hO).N, (cfgM m hO).idle 2 (grid0.coords t) = false := fun _ => rfl
/-- Window 3 is never idle (an input). -/
theorem liveAt0_3 (hO : Ok m) : ∀ t : Fin (cfgM m hO).N, (cfgM m hO).idle 3 (grid0.coords t) = false := fun _ => rfl
/-- Window 4 is never idle (an input). -/
theorem liveAt0_4 (hO : Ok m) : ∀ t : Fin (cfgM m hO).N, (cfgM m hO).idle 4 (grid0.coords t) = false := fun _ => rfl
/-- A word of the row-count table's contents, read at the body's offsets, is the word the body loads there. -/
theorem atD_tv (o : Fin 1 → ℕ) (ho : ∀ a, o a + S1.size a ≤ S161.size a) : (tbl m).atD 1 o = tvW 0 o ho (tbl m 1) :=
  (dif_pos (show ∀ a : Fin 1, o a + 1 ≤ S161.size a from fun a => by have := ho a; fin_cases a; exact this)).trans
    (congrArg (tbl m 1) (funext fun a => Fin.ext (by fin_cases a; rfl)))
/-- Every tile's row count selects exactly one of the two branches that store the output block. -/
abbrev Live : Prop := ∀ i : grid0.Coords, (cond0_1 0 i (tbl m 1) ∨ cond0_2 0 i (tbl m 1)) ∧ ¬(cond0_1 0 i (tbl m 1) ∧ cond0_2 0 i (tbl m 1))
/-- Under `Live` the output window is never idle. -/
theorem liveAt0_5 (hO : Ok m) (hL : Live m) (t : Fin (cfgM m hO).N) : (cfgM m hO).idle 5 (grid0.coords t) = false := by
  have h := (hL (grid0.coords t)).1
  show (!(k0_cond2 ((tbl m).atD 1 (k0_off3 (grid0.coords t))) == 1#1) && !(k0_cond3 ((tbl m).atD 1 (k0_off4 (grid0.coords t))) == 1#1)) = false
  rw [atD_tv m _ (k0_off3_inb _), atD_tv m _ (k0_off4_inb _)]
  rcases h with h | h
  · rw [show (k0_cond2 (tvW 0 (k0_off3 (grid0.coords t)) (k0_off3_inb (grid0.coords t)) (tbl m 1)) == 1#1) = true from beq_iff_eq.mpr h]; rfl
  · rw [show (k0_cond3 (tvW 0 (k0_off4 (grid0.coords t)) (k0_off4_inb (grid0.coords t)) (tbl m 1)) == 1#1) = true from beq_iff_eq.mpr h]; exact Bool.and_false _

/-! ## The kernel body on any staging memrefs: a subtype the run finds -/

/-- One staging buffer of output window 5, through which its contents are stated (`View.read_writes_of_cover`: the
    choice does not matter). -/
abbrev VO0_5 : View sig .tc .vmem S256x1024 .bf16 := (Memref.whole cc0_stg5_0 : Memref sig .tc .vmem S256x1024 .bf16).view
/-- Each window's current staging memref at point `t`, spelled as the pipeline passes it (`bodyAt0`), and its wholeness. -/
abbrev ms0_0 (hO : Ok m) (t : Fin (cfgM m hO).N) : Memref sig .tc .vmem S256x2048 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x2048x1024 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x2048x1024 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x1x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S256x1024 .bf16 := spec0_5.stage ((cfgM m hO).slots t 5)
abbrev hs0_5 (hO : Ok m) (t : Fin (cfgM m hO).N) : (ms0_5 m hO t).IsWhole := hstage0_5 (((cfgM m hO).slots t 5).cast nbuf0_5)
/-- The scratch operands: whole scoped buffers of the kernel's own, passed beside the windows. -/
abbrev scM0_0 : Memref sig .tc .vmem S2048x1024 .bf16 := Memref.whole cc0_scratch0
abbrev scM0_1 : Memref sig .tc .vmem S2048x1024 .bf16 := Memref.whole cc0_scratch1
/-- The scratch `arg10` the kernel carries between points, as a view: what it holds is stated through it. -/
abbrev VS0_0 : View sig .tc .vmem S2048x1024 .bf16 := scM0_0.view
/-- The scratch `arg11` the kernel carries between points, as a view: what it holds is stated through it. -/
abbrev VS0_1 : View sig .tc .vmem S2048x1024 .bf16 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

-- A grid point, the buffers of its blocks and scratches, and what the blocks and the two tables hold.
variable (c : Dev nD) (i : grid0.Coords) (arg4 : Memref sig .tc .vmem S256x2048 .f32) (harg4 : arg4.IsWhole) (arg5 : Memref sig .tc .vmem S1x1x2048x1024 .f32) (harg5 : arg5.IsWhole) (arg6 : Memref sig .tc .vmem S1x1x2048x1024 .f32) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S256x1024 .bf16) (harg9 : arg9.IsWhole) (arg10 : Memref sig .tc .vmem S2048x1024 .bf16) (harg10 : arg10.IsWhole) (arg11 : Memref sig .tc .vmem S2048x1024 .bf16) (harg11 : arg11.IsWhole)
  (x0 : Vec F S256x2048 .f32) (x1 : Vec F S1x1x2048x1024 .f32) (x2 : Vec F S1x1x2048x1024 .f32) (x3 : Vec F S1x1x1x1024 .f32) (x4 : Vec F S1x1x1x1024 .f32) (xt0 : TbBuf0 (F := F) c tbM0_0) (xt1 : TbBuf0 (F := F) c tbM0_1)

set_option maxHeartbeats 1000000 in
/-- The pieces the body leaves in the output's staging buffer and in the two scratches, with the proof that the body, run on whole staging buffers and the two tables, ends with them written and everything else as it was: the expert is new and the tile holds rows. -/
noncomputable def kernelRun0_A (hc0 : cond0_0 c i xt0) (hc1 : cond0_1 c i xt1) (hc2 : ¬cond0_2 c i xt1) :
    Σ' (L5 : List (View.Piece (Elt F) S256x1024 .bf16)), Σ' (LS0 : List (View.Piece (Elt F) S2048x1024 .bf16)), { LS1 : List (View.Piece (Elt F) S2048x1024 .bf16) //
      ∀ (E : Set ℕ) (K : PUnit → sProp 𝕄),
        iprop(owns c.tc arg4 fullShare x0 ∗ owns c.tc arg5 fullShare x1 ∗ owns c.tc arg6 fullShare x2 ∗ owns c.tc arg7 fullShare x3 ∗ owns c.tc arg8 fullShare x4 ∗ (∃ d, owns c.tc arg9 fullShare d) ∗ (∃ d, owns c.tc arg10 fullShare d) ∗ (∃ d, owns c.tc arg11 fullShare d) ∗ tbPt0 c tbM0_0 xt0 ∗ tbPt0 c tbM0_1 xt1
            ∗ (iprop(owns c.tc arg4 fullShare x0 ∗ owns c.tc arg5 fullShare x1 ∗ owns c.tc arg6 fullShare x2 ∗ owns c.tc arg7 fullShare x3 ∗ owns c.tc arg8 fullShare x4 ∗ (∃ f, arg9.view.loc c.tc ↦[arg9.view.set]{fullShare} arg9.view.writes (Elt F) f L5) ∗ (∃ f, arg10.view.loc c.tc ↦[arg10.view.set]{fullShare} arg10.view.writes (Elt F) f LS0) ∗ (∃ f, arg11.view.loc c.tc ↦[arg11.view.set]{fullShare} arg11.view.writes (Elt F) f LS1) ∗ tbPt0 c tbM0_0 xt0 ∗ tbPt0 c tbM0_1 xt1) -∗ K ⟨⟩))
          ⊢ wp frame (wpE (defs₀ (F := F)) Variants.none c none) E (cc0_expert_gate_up i tbM0_0 htbM0_0 tbM0_1 htbM0_1 arg4 harg4 arg5 harg5 arg6 harg6 arg7 harg7 arg8 harg8 arg9 harg9 arg10 harg10 arg11 harg11) K } := by
  refine ⟨?_, ?_, ?_, fun E K => ?run⟩
  case run =>
    simp only [cc0_expert_gate_up_eq_skeleton]; unfold cc0_expert_gate_up_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, HT0, HT1, Hk⟩
    obtain rfl := harg4.eq_unread hf0; obtain rfl := harg5.eq_unread hf1; obtain rfl := harg6.eq_unread hf2; obtain rfl := harg7.eq_unread hf3; obtain rfl := harg8.eq_unread hf4
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]; · iexists _; iexact H5
    isplitl [HS0]; · iexists _; iexact HS0
    isplitl [HS1]; · iexists _; iexact HS1
    isplitl [HT0]; · iexact HT0
    iexact HT1

set_option maxHeartbeats 1000000 in
/-- The same pieces where the expert is new and the tile holds no row. -/
noncomputable def kernelRun0_B (hc0 : cond0_0 c i xt0) (hc1 : ¬cond0_1 c i xt1) (hc2 : cond0_2 c i xt1) :
    Σ' (L5 : List (View.Piece (Elt F) S256x1024 .bf16)), Σ' (LS0 : List (View.Piece (Elt F) S2048x1024 .bf16)), { LS1 : List (View.Piece (Elt F) S2048x1024 .bf16) //
      ∀ (E : Set ℕ) (K : PUnit → sProp 𝕄),
        iprop(owns c.tc arg4 fullShare x0 ∗ owns c.tc arg5 fullShare x1 ∗ owns c.tc arg6 fullShare x2 ∗ owns c.tc arg7 fullShare x3 ∗ owns c.tc arg8 fullShare x4 ∗ (∃ d, owns c.tc arg9 fullShare d) ∗ (∃ d, owns c.tc arg10 fullShare d) ∗ (∃ d, owns c.tc arg11 fullShare d) ∗ tbPt0 c tbM0_0 xt0 ∗ tbPt0 c tbM0_1 xt1
            ∗ (iprop(owns c.tc arg4 fullShare x0 ∗ owns c.tc arg5 fullShare x1 ∗ owns c.tc arg6 fullShare x2 ∗ owns c.tc arg7 fullShare x3 ∗ owns c.tc arg8 fullShare x4 ∗ (∃ f, arg9.view.loc c.tc ↦[arg9.view.set]{fullShare} arg9.view.writes (Elt F) f L5) ∗ (∃ f, arg10.view.loc c.tc ↦[arg10.view.set]{fullShare} arg10.view.writes (Elt F) f LS0) ∗ (∃ f, arg11.view.loc c.tc ↦[arg11.view.set]{fullShare} arg11.view.writes (Elt F) f LS1) ∗ tbPt0 c tbM0_0 xt0 ∗ tbPt0 c tbM0_1 xt1) -∗ K ⟨⟩))
          ⊢ wp frame (wpE (defs₀ (F := F)) Variants.none c none) E (cc0_expert_gate_up i tbM0_0 htbM0_0 tbM0_1 htbM0_1 arg4 harg4 arg5 harg5 arg6 harg6 arg7 harg7 arg8 harg8 arg9 harg9 arg10 harg10 arg11 harg11) K } := by
  refine ⟨?_, ?_, ?_, fun E K => ?run⟩
  case run =>
    simp only [cc0_expert_gate_up_eq_skeleton]; unfold cc0_expert_gate_up_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, HT0, HT1, Hk⟩
    obtain rfl := harg4.eq_unread hf0; obtain rfl := harg5.eq_unread hf1; obtain rfl := harg6.eq_unread hf2; obtain rfl := harg7.eq_unread hf3; obtain rfl := harg8.eq_unread hf4
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]; · iexists _; iexact H5
    isplitl [HS0]; · iexists _; iexact HS0
    isplitl [HS1]; · iexists _; iexact HS1
    isplitl [HT0]; · iexact HT0
    iexact HT1

set_option maxHeartbeats 1000000 in
/-- The pieces the body leaves in the output's staging buffer, with the proof that the body, run on whole staging buffers and the two tables, ends with them written and everything else as it was: the expert is the one before and the tile holds rows. -/
noncomputable def kernelRun0_C (xs0 : Vec F S2048x1024 .bf16) (xs1 : Vec F S2048x1024 .bf16) (hc0 : ¬cond0_0 c i xt0) (hc1 : cond0_1 c i xt1) (hc2 : ¬cond0_2 c i xt1) :
    { L5 : List (View.Piece (Elt F) S256x1024 .bf16) //
      ∀ (E : Set ℕ) (K : PUnit → sProp 𝕄),
        iprop(owns c.tc arg4 fullShare x0 ∗ owns c.tc arg5 fullShare x1 ∗ owns c.tc arg6 fullShare x2 ∗ owns c.tc arg7 fullShare x3 ∗ owns c.tc arg8 fullShare x4 ∗ (∃ d, owns c.tc arg9 fullShare d) ∗ owns c.tc arg10 fullShare xs0 ∗ owns c.tc arg11 fullShare xs1 ∗ tbPt0 c tbM0_0 xt0 ∗ tbPt0 c tbM0_1 xt1
            ∗ (iprop(owns c.tc arg4 fullShare x0 ∗ owns c.tc arg5 fullShare x1 ∗ owns c.tc arg6 fullShare x2 ∗ owns c.tc arg7 fullShare x3 ∗ owns c.tc arg8 fullShare x4 ∗ (∃ f, arg9.view.loc c.tc ↦[arg9.view.set]{fullShare} arg9.view.writes (Elt F) f L5) ∗ owns c.tc arg10 fullShare xs0 ∗ owns c.tc arg11 fullShare xs1 ∗ tbPt0 c tbM0_0 xt0 ∗ tbPt0 c tbM0_1 xt1) -∗ K ⟨⟩))
          ⊢ wp frame (wpE (defs₀ (F := F)) Variants.none c none) E (cc0_expert_gate_up i tbM0_0 htbM0_0 tbM0_1 htbM0_1 arg4 harg4 arg5 harg5 arg6 harg6 arg7 harg7 arg8 harg8 arg9 harg9 arg10 harg10 arg11 harg11) K } := by
  refine ⟨?_, fun E K => ?run⟩
  case run =>
    simp only [cc0_expert_gate_up_eq_skeleton]; unfold cc0_expert_gate_up_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, HT0, HT1, Hk⟩
    obtain rfl := harg4.eq_unread hf0; obtain rfl := harg5.eq_unread hf1; obtain rfl := harg6.eq_unread hf2; obtain rfl := harg7.eq_unread hf3; obtain rfl := harg8.eq_unread hf4; obtain rfl := harg10.eq_unread hfs0; obtain rfl := harg11.eq_unread hfs1
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]; · iexists _; iexact H5
    isplitl [HS0]
    · iexists _; isplitr; · ipureintro; exact harg10.read_unread _
      iexact HS0
    isplitl [HS1]
    · iexists _; isplitr; · ipureintro; exact harg11.read_unread _
      iexact HS1
    isplitl [HT0]; · iexact HT0
    iexact HT1

set_option maxHeartbeats 1000000 in
/-- The same pieces where the expert is the one before and the tile holds no row. -/
noncomputable def kernelRun0_D (xs0 : Vec F S2048x1024 .bf16) (xs1 : Vec F S2048x1024 .bf16) (hc0 : ¬cond0_0 c i xt0) (hc1 : ¬cond0_1 c i xt1) (hc2 : cond0_2 c i xt1) :
    { L5 : List (View.Piece (Elt F) S256x1024 .bf16) //
      ∀ (E : Set ℕ) (K : PUnit → sProp 𝕄),
        iprop(owns c.tc arg4 fullShare x0 ∗ owns c.tc arg5 fullShare x1 ∗ owns c.tc arg6 fullShare x2 ∗ owns c.tc arg7 fullShare x3 ∗ owns c.tc arg8 fullShare x4 ∗ (∃ d, owns c.tc arg9 fullShare d) ∗ owns c.tc arg10 fullShare xs0 ∗ owns c.tc arg11 fullShare xs1 ∗ tbPt0 c tbM0_0 xt0 ∗ tbPt0 c tbM0_1 xt1
            ∗ (iprop(owns c.tc arg4 fullShare x0 ∗ owns c.tc arg5 fullShare x1 ∗ owns c.tc arg6 fullShare x2 ∗ owns c.tc arg7 fullShare x3 ∗ owns c.tc arg8 fullShare x4 ∗ (∃ f, arg9.view.loc c.tc ↦[arg9.view.set]{fullShare} arg9.view.writes (Elt F) f L5) ∗ owns c.tc arg10 fullShare xs0 ∗ owns c.tc arg11 fullShare xs1 ∗ tbPt0 c tbM0_0 xt0 ∗ tbPt0 c tbM0_1 xt1) -∗ K ⟨⟩))
          ⊢ wp frame (wpE (defs₀ (F := F)) Variants.none c none) E (cc0_expert_gate_up i tbM0_0 htbM0_0 tbM0_1 htbM0_1 arg4 harg4 arg5 harg5 arg6 harg6 arg7 harg7 arg8 harg8 arg9 harg9 arg10 harg10 arg11 harg11) K } := by
  refine ⟨?_, fun E K => ?run⟩
  case run =>
    simp only [cc0_expert_gate_up_eq_skeleton]; unfold cc0_expert_gate_up_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, HT0, HT1, Hk⟩
    obtain rfl := harg4.eq_unread hf0; obtain rfl := harg5.eq_unread hf1; obtain rfl := harg6.eq_unread hf2; obtain rfl := harg7.eq_unread hf3; obtain rfl := harg8.eq_unread hf4; obtain rfl := harg10.eq_unread hfs0; obtain rfl := harg11.eq_unread hfs1
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]; · iexists _; iexact H5
    isplitl [HS0]
    · iexists _; isplitr; · ipureintro; exact harg10.read_unread _
      iexact HS0
    isplitl [HS1]
    · iexists _; isplitr; · ipureintro; exact harg11.read_unread _
      iexact HS1
    isplitl [HT0]; · iexact HT0
    iexact HT1

end Cert.Kernel2Ideal.Gen

end
-- ==== Proof.Kernel2IdealFrame.lean ====
module

public import proofs.«01_k».proof.Proof.Kernel2IdealRuns
public import Idealize.ShloMosaic.Lib.Claim
public import Idealize.ShloMosaic.Lib.Pipeline.ValueKit.Acc

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- A grid point, the buffers of its blocks and scratches, and what the blocks and the two tables hold.
variable (c : Dev nD) (i : grid0.Coords) (arg4 : Memref sig .tc .vmem S256x2048 .f32) (harg4 : arg4.IsWhole) (arg5 : Memref sig .tc .vmem S1x1x2048x1024 .f32) (harg5 : arg5.IsWhole) (arg6 : Memref sig .tc .vmem S1x1x2048x1024 .f32) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S256x1024 .bf16) (harg9 : arg9.IsWhole) (arg10 : Memref sig .tc .vmem S2048x1024 .bf16) (harg10 : arg10.IsWhole) (arg11 : Memref sig .tc .vmem S2048x1024 .bf16) (harg11 : arg11.IsWhole)
  (x0 : Vec F S256x2048 .f32) (x1 : Vec F S1x1x2048x1024 .f32) (x2 : Vec F S1x1x2048x1024 .f32) (x3 : Vec F S1x1x1x1024 .f32) (x4 : Vec F S1x1x1x1024 .f32) (xt0 : TbBuf0 (F := F) c tbM0_0) (xt1 : TbBuf0 (F := F) c tbM0_1)

/-- Case A: the stored pieces cover the output block. -/
theorem cover0_A (hc0 : cond0_0 c i xt0) (hc1 : cond0_1 c i xt1) (hc2 : ¬cond0_2 c i xt1) (y : S256x1024.Idx) :
    ∃ pc ∈ (kernelRun0_A c i arg4 harg4 arg5 harg5 arg6 harg6 arg7 harg7 arg8 harg8 arg9 harg9 arg10 harg10 arg11 harg11 x0 x1 x2 x3 x4 xt0 xt1 hc0 hc1 hc2).1, y ∈ pc.1.set :=
  View.cover_of_tiledL _ S256x1024.size (by sl_kernel_rfl) y

/-- Case A: the output block ends at the gated product with the freshly converted expert matrices. -/
theorem val0_A (hc0 : cond0_0 c i xt0) (hc1 : cond0_1 c i xt1) (hc2 : ¬cond0_2 c i xt1) (f) :
    arg9.view.read (Elt F) (arg9.view.writes (Elt F) f (kernelRun0_A c i arg4 harg4 arg5 harg5 arg6 harg6 arg7 harg7 arg8 harg8 arg9 harg9 arg10 harg10 arg11 harg11 x0 x1 x2 x3 x4 xt0 xt1 hc0 hc1 hc2).1) = k0_pay3 x0 (k0_pay1 x1) x3 (k0_pay2 x2) x4 := by
  rw [View.read_writes_eq_canon _ _ _ (cover0_A _ _ _ _ _ _ _ _ _ _ _ _ _ _ _ _ _ _ _ _ _ _ _ _ _ _ _ _)]
  unfold kernelRun0_A kernelRun0_A.sl.v23 kernelRun0_A.sl.v31 kernelRun0_A.sl.HS0_1 kernelRun0_A.sl.HS1_1
  simp (disch := decide) only [View.canon_cons_unit_lit', View.ld_unit_lit', View.readCov_unit_lit', View.readCov_cons_unit_lit', View.readAt_eq_ld, Memref.IsWhole.read_unread]

/-- Case A: the stored pieces cover the gate scratch. -/
theorem scover0_A (hc0 : cond0_0 c i xt0) (hc1 : cond0_1 c i xt1) (hc2 : ¬cond0_2 c i xt1) (y : S2048x1024.Idx) :
    ∃ pc ∈ (kernelRun0_A c i arg4 harg4 arg5 harg5 arg6 harg6 arg7 harg7 arg8 harg8 arg9 harg9 arg10 harg10 arg11 harg11 x0 x1 x2 x3 x4 xt0 xt1 hc0 hc1 hc2).2.1, y ∈ pc.1.set :=
  View.cover_of_tiledL _ S2048x1024.size (by sl_kernel_rfl) y

/-- Case A: the gate scratch ends at the converted expert matrix. -/
theorem sval0_A (hc0 : cond0_0 c i xt0) (hc1 : cond0_1 c i xt1) (hc2 : ¬cond0_2 c i xt1) (f) :
    arg10.view.read (Elt F) (arg10.view.writes (Elt F) f (kernelRun0_A c i arg4 harg4 arg5 harg5 arg6 harg6 arg7 harg7 arg8 harg8 arg9 harg9 arg10 harg10 arg11 harg11 x0 x1 x2 x3 x4 xt0 xt1 hc0 hc1 hc2).2.1) = k0_pay1 x1 := by
  rw [View.read_writes_eq_canon _ _ _ (scover0_A _ _ _ _ _ _ _ _ _ _ _ _ _ _ _ _ _ _ _ _ _ _ _ _ _ _ _ _)]
  unfold kernelRun0_A kernelRun0_A.sl.HS0_1
  simp (disch := decide) only [View.canon_cons_unit_lit', View.ld_unit_lit', View.readCov_unit_lit', View.readCov_cons_unit_lit', View.readAt_eq_ld, Memref.IsWhole.read_unread]

/-- Case A: the stored pieces cover the up scratch. -/
theorem scover1_A (hc0 : cond0_0 c i xt0) (hc1 : cond0_1 c i xt1) (hc2 : ¬cond0_2 c i xt1) (y : S2048x1024.Idx) :
    ∃ pc ∈ (kernelRun0_A c i arg4 harg4 arg5 harg5 arg6 harg6 arg7 harg7 arg8 harg8 arg9 harg9 arg10 harg10 arg11 harg11 x0 x1 x2 x3 x4 xt0 xt1 hc0 hc1 hc2).2.2.1, y ∈ pc.1.set :=
  View.cover_of_tiledL _ S2048x1024.size (by sl_kernel_rfl) y

/-- Case A: the up scratch ends at the converted expert matrix. -/
theorem sval1_A (hc0 : cond0_0 c i xt0) (hc1 : cond0_1 c i xt1) (hc2 : ¬cond0_2 c i xt1) (f) :
    arg11.view.read (Elt F) (arg11.view.writes (Elt F) f (kernelRun0_A c i arg4 harg4 arg5 harg5 arg6 harg6 arg7 harg7 arg8 harg8 arg9 harg9 arg10 harg10 arg11 harg11 x0 x1 x2 x3 x4 xt0 xt1 hc0 hc1 hc2).2.2.1) = k0_pay2 x2 := by
  rw [View.read_writes_eq_canon _ _ _ (scover1_A _ _ _ _ _ _ _ _ _ _ _ _ _ _ _ _ _ _ _ _ _ _ _ _ _ _ _ _)]
  unfold kernelRun0_A kernelRun0_A.sl.HS1_1
  simp (disch := decide) only [View.canon_cons_unit_lit', View.ld_unit_lit', View.readCov_unit_lit', View.readCov_cons_unit_lit', View.readAt_eq_ld, Memref.IsWhole.read_unread]

/-- Case B: the stored pieces cover the output block. -/
theorem cover0_B (hc0 : cond0_0 c i xt0) (hc1 : ¬cond0_1 c i xt1) (hc2 : cond0_2 c i xt1) (y : S256x1024.Idx) :
    ∃ pc ∈ (kernelRun0_B c i arg4 harg4 arg5 harg5 arg6 harg6 arg7 harg7 arg8 harg8 arg9 harg9 arg10 harg10 arg11 harg11 x0 x1 x2 x3 x4 xt0 xt1 hc0 hc1 hc2).1, y ∈ pc.1.set :=
  View.cover_of_tiledL _ S256x1024.size (by sl_kernel_rfl) y

/-- Case B: the output block ends at zero. -/
theorem val0_B (hc0 : cond0_0 c i xt0) (hc1 : ¬cond0_1 c i xt1) (hc2 : cond0_2 c i xt1) (f) :
    arg9.view.read (Elt F) (arg9.view.writes (Elt F) f (kernelRun0_B c i arg4 harg4 arg5 harg5 arg6 harg6 arg7 harg7 arg8 harg8 arg9 harg9 arg10 harg10 arg11 harg11 x0 x1 x2 x3 x4 xt0 xt1 hc0 hc1 hc2).1) = k0_pay4 := by
  rw [View.read_writes_eq_canon _ _ _ (cover0_B _ _ _ _ _ _ _ _ _ _ _ _ _ _ _ _ _ _ _ _ _ _ _ _ _ _ _ _)]
  unfold kernelRun0_B
  simp (disch := decide) only [View.canon_cons_unit_lit', View.ld_unit_lit', View.readCov_unit_lit', View.readCov_cons_unit_lit', View.readAt_eq_ld, Memref.IsWhole.read_unread]

/-- Case B: the stored pieces cover the gate scratch. -/
theorem scover0_B (hc0 : cond0_0 c i xt0) (hc1 : ¬cond0_1 c i xt1) (hc2 : cond0_2 c i xt1) (y : S2048x1024.Idx) :
    ∃ pc ∈ (kernelRun0_B c i arg4 harg4 arg5 harg5 arg6 harg6 arg7 harg7 arg8 harg8 arg9 harg9 arg10 harg10 arg11 harg11 x0 x1 x2 x3 x4 xt0 xt1 hc0 hc1 hc2).2.1, y ∈ pc.1.set :=
  View.cover_of_tiledL _ S2048x1024.size (by sl_kernel_rfl) y

/-- Case B: the gate scratch ends at the converted expert matrix. -/
theorem sval0_B (hc0 : cond0_0 c i xt0) (hc1 : ¬cond0_1 c i xt1) (hc2 : cond0_2 c i xt1) (f) :
    arg10.view.read (Elt F) (arg10.view.writes (Elt F) f (kernelRun0_B c i arg4 harg4 arg5 harg5 arg6 harg6 arg7 harg7 arg8 harg8 arg9 harg9 arg10 harg10 arg11 harg11 x0 x1 x2 x3 x4 xt0 xt1 hc0 hc1 hc2).2.1) = k0_pay1 x1 := by
  rw [View.read_writes_eq_canon _ _ _ (scover0_B _ _ _ _ _ _ _ _ _ _ _ _ _ _ _ _ _ _ _ _ _ _ _ _ _ _ _ _)]
  unfold kernelRun0_B
  simp (disch := decide) only [View.canon_cons_unit_lit', View.ld_unit_lit', View.readCov_unit_lit', View.readCov_cons_unit_lit', View.readAt_eq_ld, Memref.IsWhole.read_unread]

/-- Case B: the stored pieces cover the up scratch. -/
theorem scover1_B (hc0 : cond0_0 c i xt0) (hc1 : ¬cond0_1 c i xt1) (hc2 : cond0_2 c i xt1) (y : S2048x1024.Idx) :
    ∃ pc ∈ (kernelRun0_B c i arg4 harg4 arg5 harg5 arg6 harg6 arg7 harg7 arg8 harg8 arg9 harg9 arg10 harg10 arg11 harg11 x0 x1 x2 x3 x4 xt0 xt1 hc0 hc1 hc2).2.2.1, y ∈ pc.1.set :=
  View.cover_of_tiledL _ S2048x1024.size (by sl_kernel_rfl) y

/-- Case B: the up scratch ends at the converted expert matrix. -/
theorem sval1_B (hc0 : cond0_0 c i xt0) (hc1 : ¬cond0_1 c i xt1) (hc2 : cond0_2 c i xt1) (f) :
    arg11.view.read (Elt F) (arg11.view.writes (Elt F) f (kernelRun0_B c i arg4 harg4 arg5 harg5 arg6 harg6 arg7 harg7 arg8 harg8 arg9 harg9 arg10 harg10 arg11 harg11 x0 x1 x2 x3 x4 xt0 xt1 hc0 hc1 hc2).2.2.1) = k0_pay2 x2 := by
  rw [View.read_writes_eq_canon _ _ _ (scover1_B _ _ _ _ _ _ _ _ _ _ _ _ _ _ _ _ _ _ _ _ _ _ _ _ _ _ _ _)]
  unfold kernelRun0_B
  simp (disch := decide) only [View.canon_cons_unit_lit', View.ld_unit_lit', View.readCov_unit_lit', View.readCov_cons_unit_lit', View.readAt_eq_ld, Memref.IsWhole.read_unread]

/-- Case C: the stored pieces cover the output block. -/
theorem cover0_C (xs0 : Vec F S2048x1024 .bf16) (xs1 : Vec F S2048x1024 .bf16) (hc0 : ¬cond0_0 c i xt0) (hc1 : cond0_1 c i xt1) (hc2 : ¬cond0_2 c i xt1) (y : S256x1024.Idx) :
    ∃ pc ∈ (kernelRun0_C c i arg4 harg4 arg5 harg5 arg6 harg6 arg7 harg7 arg8 harg8 arg9 harg9 arg10 harg10 arg11 harg11 x0 x1 x2 x3 x4 xt0 xt1 xs0 xs1 hc0 hc1 hc2).1, y ∈ pc.1.set :=
  View.cover_of_tiledL _ S256x1024.size (by sl_kernel_rfl) y

/-- Case C: the output block ends at the gated product with the matrices the scratches hold. -/
theorem val0_C (xs0 : Vec F S2048x1024 .bf16) (xs1 : Vec F S2048x1024 .bf16) (hc0 : ¬cond0_0 c i xt0) (hc1 : cond0_1 c i xt1) (hc2 : ¬cond0_2 c i xt1) (f) :
    arg9.view.read (Elt F) (arg9.view.writes (Elt F) f (kernelRun0_C c i arg4 harg4 arg5 harg5 arg6 harg6 arg7 harg7 arg8 harg8 arg9 harg9 arg10 harg10 arg11 harg11 x0 x1 x2 x3 x4 xt0 xt1 xs0 xs1 hc0 hc1 hc2).1) = k0_pay3 x0 xs0 x3 xs1 x4 := by
  rw [View.read_writes_eq_canon _ _ _ (cover0_C _ _ _ _ _ _ _ _ _ _ _ _ _ _ _ _ _ _ _ _ _ _ _ _ _ _ _ _ _ _)]
  unfold kernelRun0_C
  simp (disch := decide) only [View.canon_cons_unit_lit', View.ld_unit_lit', View.readCov_unit_lit', View.readCov_cons_unit_lit', View.readAt_eq_ld, Memref.IsWhole.read_unread]

/-- Case D: the stored pieces cover the output block. -/
theorem cover0_D (xs0 : Vec F S2048x1024 .bf16) (xs1 : Vec F S2048x1024 .bf16) (hc0 : ¬cond0_0 c i xt0) (hc1 : ¬cond0_1 c i xt1) (hc2 : cond0_2 c i xt1) (y : S256x1024.Idx) :
    ∃ pc ∈ (kernelRun0_D c i arg4 harg4 arg5 harg5 arg6 harg6 arg7 harg7 arg8 harg8 arg9 harg9 arg10 harg10 arg11 harg11 x0 x1 x2 x3 x4 xt0 xt1 xs0 xs1 hc0 hc1 hc2).1, y ∈ pc.1.set :=
  View.cover_of_tiledL _ S256x1024.size (by sl_kernel_rfl) y

/-- Case D: the output block ends at zero. -/
theorem val0_D (xs0 : Vec F S2048x1024 .bf16) (xs1 : Vec F S2048x1024 .bf16) (hc0 : ¬cond0_0 c i xt0) (hc1 : ¬cond0_1 c i xt1) (hc2 : cond0_2 c i xt1) (f) :
    arg9.view.read (Elt F) (arg9.view.writes (Elt F) f (kernelRun0_D c i arg4 harg4 arg5 harg5 arg6 harg6 arg7 harg7 arg8 harg8 arg9 harg9 arg10 harg10 arg11 harg11 x0 x1 x2 x3 x4 xt0 xt1 xs0 xs1 hc0 hc1 hc2).1) = k0_pay4 := by
  rw [View.read_writes_eq_canon _ _ _ (cover0_D _ _ _ _ _ _ _ _ _ _ _ _ _ _ _ _ _ _ _ _ _ _ _ _ _ _ _ _ _ _)]
  unfold kernelRun0_D
  simp (disch := decide) only [View.canon_cons_unit_lit', View.ld_unit_lit', View.readCov_unit_lit', View.readCov_cons_unit_lit', View.readAt_eq_ld, Memref.IsWhole.read_unread]

/-- The grid's coordinates at a point: the column block, -/
theorem coords_0 (t : Fin grid0.N) : (grid0.coords t 0).val = t.val / 161 := by
  have e : (grid0.coords t 0).val = t.val / 161 % 2 := Pipeline.Grid.coords_val t 0 (by decide) rfl
  have ht : t.val < 322 := Nat.lt_of_lt_of_eq t.isLt N_0
  omega
/-- and the tile. -/
theorem coords_1 (t : Fin grid0.N) : (grid0.coords t 1).val = t.val % 161 := by
  have e : (grid0.coords t 1).val = t.val / 1 % 161 := Pipeline.Grid.coords_val t 1 (by decide) rfl
  rw [e, Nat.div_one]

/-! ## What the scratch and the output block hold after each point -/

/-- The gate scratch after the point at position `n`: the converted expert matrix of the last point at or before it at which the first branch is taken. -/
def scrAt (hO : Ok m) (c : Dev nD) : (n : ℕ) → n < (cfgM m hO).N → Vec F S2048x1024 .bf16
  | 0, hn => k0_pay1 (iblk m hO c 1 ⟨0, hn⟩)
  | n + 1, hn =>
    haveI := Classical.propDecidable (cond0_0 c (grid0.coords ⟨n + 1, hn⟩) (tbl m 0))
    if cond0_0 c (grid0.coords ⟨n + 1, hn⟩) (tbl m 0) then k0_pay1 (iblk m hO c 1 ⟨n + 1, hn⟩) else scrAt hO c n (Nat.lt_of_succ_lt hn)

/-- Where the first branch is taken the gate scratch ends at the point's converted expert matrix. -/
theorem scrAt_new (hO : Ok m) (c : Dev nD) (t : Fin (cfgM m hO).N) (h : cond0_0 c (grid0.coords t) (tbl m 0)) :
    scrAt m hO c t.val t.isLt = k0_pay1 (iblk m hO c 1 t) := by
  obtain ⟨n, hn⟩ := t
  cases n with
  | zero => rfl
  | succ n => exact if_pos h

/-- Elsewhere it keeps what the point before left. -/
theorem scrAt_old (hO : Ok m) (c : Dev nD) (t : Fin (cfgM m hO).N) (hz : t.val ≠ 0) (h : ¬cond0_0 c (grid0.coords t) (tbl m 0)) :
    scrAt m hO c t.val t.isLt = scrAt m hO c (t.val - 1) (Nat.lt_of_le_of_lt (Nat.sub_le _ _) t.isLt) := by
  obtain ⟨n, hn⟩ := t
  cases n with
  | zero => exact absurd rfl hz
  | succ n => exact if_neg h

/-- The up scratch after the point at position `n`: the converted expert matrix of the last point at or before it at which the first branch is taken. -/
def scuAt (hO : Ok m) (c : Dev nD) : (n : ℕ) → n < (cfgM m hO).N → Vec F S2048x1024 .bf16
  | 0, hn => k0_pay2 (iblk m hO c 2 ⟨0, hn⟩)
  | n + 1, hn =>
    haveI := Classical.propDecidable (cond0_0 c (grid0.coords ⟨n + 1, hn⟩) (tbl m 0))
    if cond0_0 c (grid0.coords ⟨n + 1, hn⟩) (tbl m 0) then k0_pay2 (iblk m hO c 2 ⟨n + 1, hn⟩) else scuAt hO c n (Nat.lt_of_succ_lt hn)

/-- Where the first branch is taken the up scratch ends at the point's converted expert matrix. -/
theorem scuAt_new (hO : Ok m) (c : Dev nD) (t : Fin (cfgM m hO).N) (h : cond0_0 c (grid0.coords t) (tbl m 0)) :
    scuAt m hO c t.val t.isLt = k0_pay2 (iblk m hO c 2 t) := by
  obtain ⟨n, hn⟩ := t
  cases n with
  | zero => rfl
  | succ n => exact if_pos h

/-- Elsewhere it keeps what the point before left. -/
theorem scuAt_old (hO : Ok m) (c : Dev nD) (t : Fin (cfgM m hO).N) (hz : t.val ≠ 0) (h : ¬cond0_0 c (grid0.coords t) (tbl m 0)) :
    scuAt m hO c t.val t.isLt = scuAt m hO c (t.val - 1) (Nat.lt_of_le_of_lt (Nat.sub_le _ _) t.isLt) := by
  obtain ⟨n, hn⟩ := t
  cases n with
  | zero => exact absurd rfl hz
  | succ n => exact if_neg h

/-- The output block after point `t`: the gated product with the scratches' matrices where the tile holds rows, zero elsewhere. -/
def outAt (hO : Ok m) (c : Dev nD) (t : Fin (cfgM m hO).N) : Vec F S256x1024 .bf16 :=
  haveI := Classical.propDecidable (cond0_1 c (grid0.coords t) (tbl m 1))
  if cond0_1 c (grid0.coords t) (tbl m 1) then k0_pay3 (iblk m hO c 0 t) (scrAt m hO c t.val t.isLt) (iblk m hO c 3 t) (scuAt m hO c t.val t.isLt) (iblk m hO c 4 t) else k0_pay4

/-- The region invariant before position `n`: at first every scratch at anything; afterwards the scratches at what the point before left. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns c.tc scM0_0 fullShare (scrAt m hO c n hn) ∗ owns c.tc scM0_1 fullShare (scuAt m hO c n hn)) ∗ (∃ r, prngReg c r)) ∗ Pipeline.ΦT pre0 (tbl m) c)

/-- Before the first point: every scratch at anything. -/
theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n`: the scratches at that point's contents. -/
theorem PhiS_succ (hO : Ok m) (c : Dev nD) (n : ℕ) (hn : n < (cfgM m hO).N) :
    PhiS m hO c (n + 1) hn = iprop(iprop(iprop(owns c.tc scM0_0 fullShare (scrAt m hO c n hn) ∗ owns c.tc scM0_1 fullShare (scuAt m hO c n hn)) ∗ (∃ r, prngReg c r)) ∗ Pipeline.ΦT pre0 (tbl m) c) := rfl

/-- Before a point that is not the first: the scratches at what the point before left. -/
theorem PhiS_pos (hO : Ok m) (c : Dev nD) (n : ℕ) (h : n ≤ (cfgM m hO).N) (hz : n ≠ 0) :
    PhiS m hO c n h = iprop(iprop(iprop(owns c.tc scM0_0 fullShare (scrAt m hO c (n - 1) (by omega)) ∗ owns c.tc scM0_1 fullShare (scuAt m hO c (n - 1) (by omega))) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outAt`; the invariant the class's
     and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO c t
  Φ t := PhiS m hO c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = outAt m hO c t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

/-- What the body is called with at point `t` , -/
def bodyPre (hO : Ok m) (c : Dev nD) (t : Fin (cfgM m hO).N) : sProp 𝕄 :=
  iprop((dats m hO 0 c).Φ t.castSucc ∗ (dats m hO 0 c).owesAt () t.castSucc
    ∗ (∃ d, owns c.tc (ms0_0 m hO t) fullShare ((dats m hO 0 c).before 0 t d))
    ∗ (∃ d, owns c.tc (ms0_1 m hO t) fullShare ((dats m hO 0 c).before 1 t d))
    ∗ (∃ d, owns c.tc (ms0_2 m hO t) fullShare ((dats m hO 0 c).before 2 t d))
    ∗ (∃ d, owns c.tc (ms0_3 m hO t) fullShare ((dats m hO 0 c).before 3 t d))
    ∗ (∃ d, owns c.tc (ms0_4 m hO t) fullShare ((dats m hO 0 c).before 4 t d))
    ∗ (∃ d, owns c.tc (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t)

set_option maxHeartbeats 6400000 in
/-- The body at any point: by cases on the three branches, the run of the case applies to the blocks the pipeline hands it and the scratch the point before left. -/
theorem sound_body (hO : Ok m) (hL : Live m) (c : Dev nD) (t : Fin (cfgM m hO).N) :
    bodyPre m hO c t ⊢ wp frame (wpE (defs₀ (F := F)) Variants.none c none) Set.univ (bodyAt0 (adm m hO) t) (fun _ => bodyPost m hO c t) := by
  have hl : (cond0_1 c (grid0.coords t) (tbl m 1) ∨ cond0_2 c (grid0.coords t) (tbl m 1)) ∧ ¬(cond0_1 c (grid0.coords t) (tbl m 1) ∧ cond0_2 c (grid0.coords t) (tbl m 1)) := by
    obtain rfl : c = 0 := Subsingleton.elim _ _
    exact hL (grid0.coords t)
  have hfirst : t.val = 0 → cond0_0 c (grid0.coords t) (tbl m 0) := fun hz => cond0_first c _ _ (by
    rw [coords_1 t, hz])
  unfold bodyPre bodyPost bodyAt0
  simp only [before0_0, before0_1, before0_2, before0_3, before0_4]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  rw [show (dats m hO 0 c).leavesExact 0 t = owns c.tc (ms0_0 m hO t) fullShare ((dats m hO 0 c).after 0 t) from by
      unfold Dat.leavesExact; rw [liveAt0_0 m hO t]; try rfl, after0_0]
  rw [show (dats m hO 0 c).leavesExact 1 t = owns c.tc (ms0_1 m hO t) fullShare ((dats m hO 0 c).after 1 t) from by
      unfold Dat.leavesExact; rw [liveAt0_1 m hO t]; try rfl, after0_1]
  rw [show (dats m hO 0 c).leavesExact 2 t = owns c.tc (ms0_2 m hO t) fullShare ((dats m hO 0 c).after 2 t) from by
      unfold Dat.leavesExact; rw [liveAt0_2 m hO t]; try rfl, after0_2]
  rw [show (dats m hO 0 c).leavesExact 3 t = owns c.tc (ms0_3 m hO t) fullShare ((dats m hO 0 c).after 3 t) from by
      unfold Dat.leavesExact; rw [liveAt0_3 m hO t]; try rfl, after0_3]
  rw [show (dats m hO 0 c).leavesExact 4 t = owns c.tc (ms0_4 m hO t) fullShare ((dats m hO 0 c).after 4 t) from by
      unfold Dat.leavesExact; rw [liveAt0_4 m hO t]; try rfl, after0_4]
  rw [show (dats m hO 0 c).leavesExact 5 t = owns c.tc (ms0_5 m hO t) fullShare ((dats m hO 0 c).after 5 t) from by
      unfold Dat.leavesExact; rw [liveAt0_5 m hO hL t]; try rfl, after0_5]
  by_cases h0 : cond0_0 c (grid0.coords t) (tbl m 0)
  · by_cases h1 : cond0_1 c (grid0.coords t) (tbl m 1)
    case' pos =>
      have h2 : ¬cond0_2 c (grid0.coords t) (tbl m 1) := fun h => hl.2 ⟨h1, h⟩
    case' neg =>
      have h2 : cond0_2 c (grid0.coords t) (tbl m 1) := hl.1.resolve_left h1
    all_goals
      by_cases hz : t.val = 0
      case' pos => rw [PhiS_castSucc m hO c t, PhiS_zero m hO c _ _ hz, PhiT0_eq, PhiA0_eq]
      case' neg => rw [PhiS_castSucc m hO c t, PhiS_pos m hO c _ _ hz, PhiT0_eq]
      all_goals
        rw [scrAt_new m hO c t h0, scuAt_new m hO c t h0]
        iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩⟩
        first
          | (iapply ((kernelRun0_A c (grid0.coords t) _ _ _ _ _ _ _ _ _ _ _ _ _ _ _ _ (iblk m hO c 0 t) (iblk m hO c 1 t) (iblk m hO c 2 t) (iblk m hO c 3 t) (iblk m hO c 4 t) (tbl m 0) (tbl m 1) h0 h1 h2).2.2.2 Set.univ _))
          | (iapply ((kernelRun0_B c (grid0.coords t) _ _ _ _ _ _ _ _ _ _ _ _ _ _ _ _ (iblk m hO c 0 t) (iblk m hO c 1 t) (iblk m hO c 2 t) (iblk m hO c 3 t) (iblk m hO c 4 t) (tbl m 0) (tbl m 1) h0 h1 h2).2.2.2 Set.univ _))
        isplitl [H0]; · iexact H0
        isplitl [H1]; · iexact H1
        isplitl [H2]; · iexact H2
        isplitl [H3]; · iexact H3
        isplitl [H4]; · iexact H4
        isplitl [H5]; · iexists _; iexact H5
        isplitl [HS0]; · first | iexact HS0 | (iexists _; iexact HS0)
        isplitl [HS1]; · first | iexact HS1 | (iexists _; iexact HS1)
        isplitl [HT0]; · iexact HT0
        isplitl [HT1]; · iexact HT1
        iintro ⟨H0, H1, H2, H3, H4, ⟨%e5, H5⟩, ⟨%es0, HS0⟩, ⟨%es1, HS1⟩, HT0, HT1⟩
        isplitl [HS0 HS1 Hg HT0 HT1]
        · isplitl [HS0 HS1 Hg]
          · isplitl [HS0 HS1]
            · isplitl [HS0]
              · unfold owns; iexists _; isplitr
                swap; · iexact HS0
                ipureintro; first | (have _ : cond0_1 c (grid0.coords t) (tbl m 1) := h1; exact sval0_A ..) | exact sval0_B ..
              unfold owns; iexists _; isplitr
              swap; · iexact HS1
              ipureintro; first | (have _ : cond0_1 c (grid0.coords t) (tbl m 1) := h1; exact sval1_A ..) | exact sval1_B ..
            iexact Hg
          isplitl [HT0]; · iexact HT0
          iexact HT1
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; first | (have _ : cond0_1 c (grid0.coords t) (tbl m 1) := h1; exact (val0_A ..).trans (Eq.symm ((if_pos h1).trans (by rw [scrAt_new m hO c t h0, scuAt_new m hO c t h0])))) | exact (val0_B ..).trans (Eq.symm (if_neg h1))
  · have hz : t.val ≠ 0 := fun hz => h0 (hfirst hz)
    by_cases h1 : cond0_1 c (grid0.coords t) (tbl m 1)
    case' pos =>
      have h2 : ¬cond0_2 c (grid0.coords t) (tbl m 1) := fun h => hl.2 ⟨h1, h⟩
    case' neg =>
      have h2 : cond0_2 c (grid0.coords t) (tbl m 1) := hl.1.resolve_left h1
    all_goals
      rw [PhiS_castSucc m hO c t, PhiS_pos m hO c _ _ hz, PhiT0_eq]
      rw [scrAt_old m hO c t hz h0, scuAt_old m hO c t hz h0]
      iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩⟩
      first
        | (iapply ((kernelRun0_C c (grid0.coords t) _ _ _ _ _ _ _ _ _ _ _ _ _ _ _ _ (iblk m hO c 0 t) (iblk m hO c 1 t) (iblk m hO c 2 t) (iblk m hO c 3 t) (iblk m hO c 4 t) (tbl m 0) (tbl m 1) _ _ h0 h1 h2).2 Set.univ _))
        | (iapply ((kernelRun0_D c (grid0.coords t) _ _ _ _ _ _ _ _ _ _ _ _ _ _ _ _ (iblk m hO c 0 t) (iblk m hO c 1 t) (iblk m hO c 2 t) (iblk m hO c 3 t) (iblk m hO c 4 t) (tbl m 0) (tbl m 1) _ _ h0 h1 h2).2 Set.univ _))
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HT0]; · iexact HT0
      isplitl [HT1]; · iexact HT1
      iintro ⟨H0, H1, H2, H3, H4, ⟨%e5, H5⟩, HS0, HS1, HT0, HT1⟩
      isplitl [HS0 HS1 Hg HT0 HT1]
      · isplitl [HS0 HS1 Hg]
        · isplitl [HS0 HS1]
          · isplitl [HS0]
            · iexact HS0
            iexact HS1
          iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; first | (have _ : cond0_1 c (grid0.coords t) (tbl m 1) := h1; exact (val0_C ..).trans (Eq.symm ((if_pos h1).trans (by rw [scrAt_old m hO c t hz h0, scuAt_old m hO c t hz h0])))) | exact (val0_D ..).trans (Eq.symm (if_neg h1))

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated . -/
theorem body_obligation (hO : Ok m) (hL : Live m) (c : Dev nD) : BodyObligation (dats (F := F) m hO 0 c) (defs₀ (F := F)) Variants.none () Set.univ := fun t => by
  rw [bigSep_W0, bigSep_W0, defs₀_row m hO]
  exact triple_restated (sound_body m hO hL c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1⟩, Hg⟩, -⟩
  isplitl [HS0 HS1]
  · isplitl [HS0]
    · iexists _; iexact HS0
    iexists _; iexact HS1
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 322 := N_0; omega)

/-! ## The run and the frame -/

-- `θ_run_frameP_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hL : Live m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO hL c).loose) (hq := fun _ _ _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it . -/
theorem run_main (hO : Ok m) (hL : Live m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO hL)

/-- `frame` without the counters: the argument arrays end unchanged. -/
theorem unchanged (hO : Ok m) (hL : Live m) : θ_run defs (onTc (τ := τ) (main (F := F))) ⟨m, fun _ => 0, ρ⟩ (fun r => ∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)) :=
  frame_of m ρ hO (dats m hO) (A_eq m hO) (run_main m ρ hO hL)

/-- The frame: from any memory with zero counters, under the two conditions on the tables, every weakly fair execution terminates with the argument arrays unchanged and every counter at zero. -/
theorem frame (hO : Ok m) (hL : Live m) : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4))
      ∧ r.2.sem = fun _ => 0) :=
  θ_run_and (unchanged m ρ hO hL) ((θ_run defs _ _).mono (fun _ h => h.2) (run_main_quiescent m ρ hO hL))

end Cert.Kernel2Ideal.Gen

end
-- ==== Proof.Kernel2IdealWords.lean ====
/- The words of the two tables under the gate and up projection's precondition: the pipeline's side condition, the branches the
   body takes, and the block indices the expert words give. -/
module

public import proofs.«01_k».proof.Proof.Kernel2IdealFrame
public import proofs.«01_k».proof.Pre_tiles_named
public import proofs.«01_k».proof.Proof.Gen.Pre_tiles_named
public import Idealize.ShloMosaic.Lib.StableHlo.Predicate
public import Idealize.ShloMosaic.Lib.ValueIdx

@[expose] public section

set_option maxRecDepth 16384

noncomputable section

namespace Cert.Kernel2Ideal.Gen

open Idealize.ShloMosaic Idealize.ShloMosaic.TcCoe Idealize.SL.Sem

variable {F : FTy → Type} [FloatOps F]
variable (m : (ℓ : Loc nD τ sig) → Buf (Elt F) ℓ)

/-- The expert table the launch memory holds. -/
abbrev te : IVec S161 32 := m (((0 : Dev nD) : Thread nD τ).loc main_arg0)
/-- The row-count table the launch memory holds. -/
abbrev tv : IVec S161 32 := m (((0 : Dev nD) : Thread nD τ).loc main_arg1)

/-- Every expert word names one of the 32 experts, and no row-count word is negative. -/
def Words : Prop := (∀ x, (te m x).toNat ≤ 31) ∧ ∀ x, 0 ≤ (tv m x).toInt

theorem tbl_0 : tbl m 0 = te m := V_arg m 0 main_arg0 (by simp)
theorem tbl_1 : tbl m 1 = tv m := V_arg m 0 main_arg1 (by simp)

/-- The precondition's bit at one tile. -/
theorem words_bit (a b : BitVec 32)
    (h : IntOp.andi (IntOp.andi (IntOp.cmpi .sge a 0#32) (IntOp.cmpi .sle a 31#32)) (IntOp.cmpi .sge b 0#32) = 1#1) :
    a.toNat ≤ 31 ∧ 0 ≤ b.toInt := by
  have key : ∀ p q r : Bool, IntOp.andi (IntOp.andi (BitVec.ofBool p) (BitVec.ofBool q)) (BitVec.ofBool r) = 1#1 → p = true ∧ q = true ∧ r = true := by decide
  obtain ⟨h1, h2, h3⟩ := key _ _ _ h
  simp only [BitVec.sle, decide_eq_true_eq] at h1 h2 h3
  have e0 : (0#32 : BitVec 32).toInt = 0 := by decide
  have e31 : (31#32 : BitVec 32).toInt = 31 := by decide
  rw [e0] at h1 h3
  rw [e31] at h2
  refine ⟨?_, h3⟩
  rw [BitVec.toInt_eq_toNat_cond] at h1 h2
  have := a.isLt
  split at h1 <;> omega

/-- The precondition gives the words' bounds. -/
theorem words_of (x2 x3 x4)
    (h : Cert.Pre_tiles_named.fn (F := F) (te m) (tv m) x2 x3 x4 = fun _ => 1#1) : Words m :=
  ⟨fun x => (words_bit (te m x) (tv m x) (congrFun h x)).1, fun x => (words_bit (te m x) (tv m x) (congrFun h x)).2⟩

/-- The tile of a grid point, as an index of the tables. -/
abbrev tile (i : grid0.Coords) : S161.Idx := fun a => match a with | ⟨0, _⟩ => ⟨(i 1).val, (i 1).isLt⟩

/-- The word loaded at a literal offset is the table's entry there. -/
theorem teW_eq (c : Dev nD) (o : Fin 1 → ℕ) (ho : ∀ a, o a + S1.size a ≤ S161.size a) (x : IVec S161 32) (k : S161.Idx) (hk : (k 0).val = o 0) :
    teW (F := F) c o ho x = x k :=
  congrArg x (funext fun a => Fin.ext (by fin_cases a; exact hk.symm))
theorem tvW_eq (c : Dev nD) (o : Fin 1 → ℕ) (ho : ∀ a, o a + S1.size a ≤ S161.size a) (x : IVec S161 32) (k : S161.Idx) (hk : (k 0).val = o 0) :
    tvW (F := F) c o ho x = x k :=
  congrArg x (funext fun a => Fin.ext (by fin_cases a; exact hk.symm))

/-- The up half's column block lies two blocks after the gate half's. -/
theorem up_block (i : grid0.Coords) : (BitVec.ofNat 32 (i 0).val + 2#32).toNat = (i 0).val + 2 := by
  have h : (i 0).val < 2 := (i 0).isLt
  have h1 : (BitVec.ofNat 32 (i 0).val).toNat = (i 0).val := by rw [BitVec.toNat_ofNat, Nat.mod_eq_of_lt (by omega)]
  rw [BitVec.toNat_add, h1]
  exact Nat.mod_eq_of_lt (show (i 0).val + 2 < 2 ^ 32 by omega)

/-- The expert word of the window maps is the table's entry at the tile: the gate half's matrix, -/
theorem ix_1 (i : grid0.Coords) : cc0_transform_1 k0_off1_inb numel1_S1 (tbl m) i = ![0, (te m (tile i)).toNat, 0, (i 0).val] := by
  have h : cc0_transform_1 k0_off1_inb numel1_S1 (tbl m) i = ![0, (teW (F := F) 0 (k0_off1 i) (k0_off1_inb i) (tbl m 0)).toNat, 0, (BitVec.ofNat 32 (i 0).val).toNat] := rfl
  rw [h, show teW 0 (k0_off1 i) (k0_off1_inb i) (tbl m 0) = te m (tile i) from (teW_eq (F := F) 0 _ _ _ (tile i) (by rw [k0_off1_eq]; rfl)).trans (congrFun (tbl_0 m) _), BitVec.toNat_ofNat, Nat.mod_eq_of_lt (by have : (i 0).val < 2 := (i 0).isLt; omega)]
/-- the up half's matrix, -/
theorem ix_2 (i : grid0.Coords) : cc0_transform_2 k0_off1_inb numel1_S1 (tbl m) i = ![0, (te m (tile i)).toNat, 0, (i 0).val + 2] := by
  have h : cc0_transform_2 k0_off1_inb numel1_S1 (tbl m) i = ![0, (teW (F := F) 0 (k0_off1 i) (k0_off1_inb i) (tbl m 0)).toNat, 0, (BitVec.ofNat 32 (i 0).val + 2#32).toNat] := rfl
  rw [h, show teW 0 (k0_off1 i) (k0_off1_inb i) (tbl m 0) = te m (tile i) from (teW_eq (F := F) 0 _ _ _ (tile i) (by rw [k0_off1_eq]; rfl)).trans (congrFun (tbl_0 m) _), up_block i]
/-- and the two biases. -/
theorem ix_3 (i : grid0.Coords) : cc0_transform_3 k0_off1_inb numel1_S1 (tbl m) i = ![0, (te m (tile i)).toNat, 0, (i 0).val] := ix_1 m i
theorem ix_4 (i : grid0.Coords) : cc0_transform_4 k0_off1_inb numel1_S1 (tbl m) i = ![0, (te m (tile i)).toNat, 0, (i 0).val + 2] := ix_2 m i

/-- The words' bounds give the pipeline's side condition. -/
theorem ok_of_words (h : Words m) : Ok m := by
  refine ⟨fun i => ⟨fun a => ?_, Or.inl rfl⟩, fun i => ⟨fun a => ?_, Or.inl rfl⟩, fun i => ⟨fun a => ?_, Or.inl rfl⟩, fun i => ⟨fun a => ?_, Or.inl rfl⟩⟩
  · rw [ix_1 m i]
    have h0 : (i 0).val < 2 := (i 0).isLt
    have h1 := h.1 (tile i)
    fin_cases a
    · show (0 + 1) * 1 ≤ 2; omega
    · show ((te m (tile i)).toNat + 1) * 1 ≤ 32; omega
    · show (0 + 1) * 2048 ≤ 2048; omega
    · show ((i 0).val + 1) * 1024 ≤ 4096; omega
  · rw [ix_2 m i]
    have h0 : (i 0).val < 2 := (i 0).isLt
    have h1 := h.1 (tile i)
    fin_cases a
    · show (0 + 1) * 1 ≤ 2; omega
    · show ((te m (tile i)).toNat + 1) * 1 ≤ 32; omega
    · show (0 + 1) * 2048 ≤ 2048; omega
    · show ((i 0).val + 2 + 1) * 1024 ≤ 4096; omega
  · rw [ix_3 m i]
    have h0 : (i 0).val < 2 := (i 0).isLt
    have h1 := h.1 (tile i)
    fin_cases a
    · show (0 + 1) * 1 ≤ 2; omega
    · show ((te m (tile i)).toNat + 1) * 1 ≤ 32; omega
    · show (0 + 1) * 1 ≤ 1; omega
    · show ((i 0).val + 1) * 1024 ≤ 4096; omega
  · rw [ix_4 m i]
    have h0 : (i 0).val < 2 := (i 0).isLt
    have h1 := h.1 (tile i)
    fin_cases a
    · show (0 + 1) * 1 ≤ 2; omega
    · show ((te m (tile i)).toNat + 1) * 1 ≤ 32; omega
    · show (0 + 1) * 1 ≤ 1; omega
    · show ((i 0).val + 2 + 1) * 1024 ≤ 4096; omega

/-- A one-bit word widened and compared with zero is the word. -/
theorem bit_ne (b : BitVec 1) : (Scalar.cmpi .ne ((Scalar.extui b : BitVec 32)) 0#32 = 1#1) ↔ b = 1#1 := by
  revert b; decide

/-- The second branch is taken exactly where the tile's row count is positive, -/
theorem cond0_1_iff (i : grid0.Coords) : cond0_1 0 i (tbl m 1) ↔ 0 < (tv m (tile i)).toInt := by
  unfold cond0_1
  rw [show tvW 0 (k0_off3 i) (k0_off3_inb i) (tbl m 1) = tv m (tile i) from (tvW_eq (F := F) 0 _ _ _ (tile i) (by rw [k0_off3_eq]; rfl)).trans (congrFun (tbl_1 m) _)]
  refine (bit_ne _).trans ?_
  show BitVec.ofBool (BitVec.slt 0#32 (tv m (tile i))) = 1#1 ↔ _
  rw [StableHlo.Predicate.ofBool_eq_one_iff]
  simp [BitVec.slt]

/-- the third exactly where it is zero. -/
theorem cond0_2_iff (i : grid0.Coords) : cond0_2 0 i (tbl m 1) ↔ (tv m (tile i)).toInt = 0 := by
  unfold cond0_2
  rw [show tvW 0 (k0_off4 i) (k0_off4_inb i) (tbl m 1) = tv m (tile i) from (tvW_eq (F := F) 0 _ _ _ (tile i) (by rw [k0_off4_eq]; rfl)).trans (congrFun (tbl_1 m) _)]
  refine (bit_ne _).trans ?_
  show BitVec.ofBool (tv m (tile i) == 0#32) = 1#1 ↔ _
  rw [StableHlo.Predicate.ofBool_eq_one_iff, beq_iff_eq]
  exact ⟨fun h => by rw [h]; rfl, fun h => BitVec.eq_of_toInt_eq (h.trans rfl)⟩

/-- Exactly one of the two branches that store the output block is taken. -/
theorem live_of_words (h : Words m) : Live m := fun i => by
  rw [cond0_1_iff, cond0_2_iff]
  have := h.2 (tile i)
  constructor <;> omega

/-- The offset of the tile before. -/
theorem k0_off2_at : ∀ i : Fin 161, (![(Scalar.indexCast (Scalar.maxsi (Scalar.subi (BitVec.ofNat 32 i.val) 1#32) 0#32) : Index).toNat] : Fin 1 → ℕ) 0 = i.val - 1 := by
  decide +kernel

/-- Where the first branch is not taken the tile is not the first of its column block, and its expert is the one of the tile before. -/
theorem not_cond0_0 (i : grid0.Coords) (h : ¬cond0_0 0 i (tbl m 0)) (k : S161.Idx) (hk : (k 0).val = (i 1).val - 1) :
    (i 1).val ≠ 0 ∧ te m (tile i) = te m k := by
  have h0 : (i 1).val ≠ 0 := fun h' => h (cond0_first 0 i _ h')
  refine ⟨h0, ?_⟩
  unfold cond0_0 at h
  rw [show teW 0 (k0_off1 i) (k0_off1_inb i) (tbl m 0) = te m (tile i) from (teW_eq (F := F) 0 _ _ _ (tile i) (by rw [k0_off1_eq]; rfl)).trans (congrFun (tbl_0 m) _),
    show teW 0 (k0_off2 i) (k0_off2_inb i) (tbl m 0) = te m k from (teW_eq (F := F) 0 _ _ _ k (hk.trans (k0_off2_at (i 1)).symm)).trans (congrFun (tbl_0 m) _), bit_ne] at h
  by_contra hne
  apply h
  have : Scalar.cmpi CmpIPredicate.ne (te m (tile i)) (te m k) = 1#1 := by
    show BitVec.ofBool (te m (tile i) != te m k) = 1#1
    rw [StableHlo.Predicate.ofBool_eq_one_iff]
    simpa using hne
  rw [this]
  generalize Scalar.cmpi CmpIPredicate.eq (BitVec.ofNat 32 (i 1).val) 0#32 = b
  revert b; decide

end Cert.Kernel2Ideal.Gen

end
-- ==== Proof.MoeGather.lean ====
/- The gather that takes, for each tile, the leading entry of an array that the tile's word names, read at an index. -/
module

public import Idealize.ShloMosaic.Lib.Pointwise
public import Idealize.ShloMosaic.Lib.StableHlo.Predicate

@[expose] public section

noncomputable section

namespace Cert.Moe

open Idealize.ShloMosaic

variable {α : Type}

/-- The dimension numbers of the gather of matrices, one per tile. -/
abbrev leadDims3 (N n A B : Nat) (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- The dimension numbers of the gather of rows, one per tile. -/
abbrev leadDims2 (N n A : Nat) (wf : GatherDims.WF ⟨2, ![N, A]⟩ ⟨2, ![n, 1]⟩ ⟨2, ![n, A]⟩ [1] [0] [] [0] [] 1 ![1, A]) :
    GatherDims ⟨2, ![N, A]⟩ ⟨2, ![n, 1]⟩ ⟨2, ![n, A]⟩ where
  offsetDims := [1]
  collapsedSliceDims := [0]
  operandBatchingDims := []
  startIndicesBatchingDims := []
  startIndexMap := [0]
  indexVectorDim := 1
  sliceSizes := ![1, A]
  wf := wf

/-- The row of the start indices that a tile reads. -/
abbrev ixT {n : Nat} (p : Fin n) : (⟨2, ![n, 1]⟩ : Shape).Idx := fun a => match a with | ⟨0, _⟩ => p | ⟨1, _⟩ => (0 : Fin 1)

/-- The gather of matrices at an index: the matrix the tile's word names, clamped into the array. -/
theorem gather_lead3 {N n A B w : Nat} (hN : 0 < N) (wf) (x : (⟨3, ![N, A, B]⟩ : Shape).Idx → α) (idx : IVec ⟨2, ![n, 1]⟩ w)
    (t : Fin n) (a : Fin A) (b : Fin B) :
    Host.gather (leadDims3 N n A B wf) x idx (ix3 t a b) = x (ix3 ⟨min (idx (ixT t)).toInt.toNat (N - 1), by omega⟩ a b) := by
  unfold Host.gather
  congr 1
  funext e
  refine Fin.ext ?_
  show (leadDims3 N n A B wf).start (ix3 t a b) idx e + (leadDims3 N n A B wf).batchCoord (ix3 t a b) e + (leadDims3 N n A B wf).offCoord (ix3 t a b) e = _
  rw [GatherDims.batchCoord_eq_zero _ _ _ List.not_mem_nil]
  have he : e = 0 ∨ e = 1 ∨ e = 2 := by
    match e with
    | ⟨0, _⟩ => exact Or.inl rfl
    | ⟨1, _⟩ => exact Or.inr (Or.inl rfl)
    | ⟨2, _⟩ => exact Or.inr (Or.inr rfl)
  rcases he with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (leadDims3 N n A B wf).startIndexMap from List.mem_singleton.mpr rfl)]
    have hsi : (leadDims3 N n A B wf).siIdx (ix3 t a b) ⟨List.idxOf (0 : Fin 3) (leadDims3 N n A B wf).startIndexMap,
        List.idxOf_lt_length_iff.2 (List.mem_singleton.mpr rfl)⟩ = ixT t := by
      funext b; refine Fin.ext ?_
      match b with
      | ⟨0, _⟩ => rfl
      | ⟨1, _⟩ => rfl
    exact congrArg (fun v => min (idx v).toInt.toNat (N - 1)) hsi
  · unfold GatherDims.start GatherDims.offCoord
    rw [dif_neg (show (1 : Fin 3) ∉ (leadDims3 N n A B wf).startIndexMap from fun h => absurd (List.mem_singleton.mp h) (fun h => absurd (congrArg Fin.val h) (by simp))),
      dif_pos (show (1 : Fin 3) ∈ (leadDims3 N n A B wf).sKept from (GatherDims.mem_sKept _ _).mpr ⟨fun h => absurd (List.mem_singleton.mp h) (fun h => absurd (congrArg Fin.val h) (by simp)), List.not_mem_nil⟩)]
    simp only [Nat.zero_add]
    rfl
  · unfold GatherDims.start GatherDims.offCoord
    rw [dif_neg (show (2 : Fin 3) ∉ (leadDims3 N n A B wf).startIndexMap from fun h => absurd (List.mem_singleton.mp h) (fun h => absurd (congrArg Fin.val h) (by simp))),
      dif_pos (show (2 : Fin 3) ∈ (leadDims3 N n A B wf).sKept from (GatherDims.mem_sKept _ _).mpr ⟨fun h => absurd (List.mem_singleton.mp h) (fun h => absurd (congrArg Fin.val h) (by simp)), List.not_mem_nil⟩)]
    simp only [Nat.zero_add]
    rfl

/-- The gather of rows at an index: the row the tile's word names, clamped into the array. -/
theorem gather_lead2 {N n A w : Nat} (hN : 0 < N) (wf) (x : (⟨2, ![N, A]⟩ : Shape).Idx → α) (idx : IVec ⟨2, ![n, 1]⟩ w)
    (t : Fin n) (a : Fin A) :
    Host.gather (leadDims2 N n A wf) x idx (ix2 t a) = x (ix2 ⟨min (idx (ixT t)).toInt.toNat (N - 1), by omega⟩ a) := by
  unfold Host.gather
  congr 1
  funext e
  refine Fin.ext ?_
  show (leadDims2 N n A wf).start (ix2 t a) idx e + (leadDims2 N n A wf).batchCoord (ix2 t a) e + (leadDims2 N n A wf).offCoord (ix2 t a) e = _
  rw [GatherDims.batchCoord_eq_zero _ _ _ List.not_mem_nil]
  have he : e = 0 ∨ e = 1 := by
    match e with
    | ⟨0, _⟩ => exact Or.inl rfl
    | ⟨1, _⟩ => exact Or.inr rfl
  rcases he with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (leadDims2 N n A wf).startIndexMap from List.mem_singleton.mpr rfl)]
    have hsi : (leadDims2 N n A wf).siIdx (ix2 t a) ⟨List.idxOf (0 : Fin 2) (leadDims2 N n A wf).startIndexMap,
        List.idxOf_lt_length_iff.2 (List.mem_singleton.mpr rfl)⟩ = ixT t := by
      funext b; refine Fin.ext ?_
      match b with
      | ⟨0, _⟩ => rfl
      | ⟨1, _⟩ => rfl
    exact congrArg (fun v => min (idx v).toInt.toNat (N - 1)) hsi
  · unfold GatherDims.start GatherDims.offCoord
    rw [dif_neg (show (1 : Fin 2) ∉ (leadDims2 N n A wf).startIndexMap from fun h => absurd (List.mem_singleton.mp h) (fun h => absurd (congrArg Fin.val h) (by simp))),
      dif_pos (show (1 : Fin 2) ∈ (leadDims2 N n A wf).sKept from (GatherDims.mem_sKept _ _).mpr ⟨fun h => absurd (List.mem_singleton.mp h) (fun h => absurd (congrArg Fin.val h) (by simp)), List.not_mem_nil⟩)]
    simp only [Nat.zero_add]
    rfl

end Cert.Moe

end
-- ==== Proof.GateUpRef.lean ====
/- The gate and up reference read at an index: the gated unit of the gate half and the up half of the row's product with
   its tile's expert matrix plus that expert's bias where the tile holds rows, zero elsewhere. -/
module

public import proofs.«01_k».proof.Proof.Gen.Reference2Ideal.Read
public import proofs.«01_k».proof.Proof.MoeGather

@[expose] public section

set_option maxRecDepth 16384

noncomputable section

open Idealize.ShloMosaic Idealize.ShloMosaic.TcCoe Idealize.SL.Sem

namespace Cert.GateUp

open Cert.Reference2Ideal Cert.Reference2Ideal.Gen Cert.Reference2Ideal.Read

/-- The expert a word names, kept inside the array. -/
def ex (v : BitVec 32) : Fin 32 := ⟨min v.toInt.toNat 31, by omega⟩

/-- The tile of a row. -/
def tileOf (p : Fin 41216) : Fin 161 := ⟨p.val / 256, by omega⟩

/-- The gated unit of a gate value and an up value: the gate value kept at most 7, the up value kept between -7 and 7, and
    the up value plus one times the gate value times the logistic function of 1.702 times the gate value. -/
def glu (a b : Ideal .f32) : Ideal .f32 :=
  FloatOps.mulf
    (FloatOps.mulf
      (FloatOps.addf
        (FloatOps.minimumf (FloatOps.ofBits .f32 0x40E00000#32) (FloatOps.maximumf (FloatOps.ofBits .f32 0xC0E00000#32) b))
        (FloatOps.ofBits .f32 0x3F800000#32))
      (FloatOps.minimumf a (FloatOps.ofBits .f32 0x40E00000#32)))
    (FloatOps.logistic
      (FloatOps.mulf (FloatOps.ofBits .f32 0x3FD9DB23#32) (FloatOps.minimumf a (FloatOps.ofBits .f32 0x40E00000#32))))

/-- The column of the gate half. -/
def gateCol (n : Fin 2048) : Fin 4096 := ⟨n.val, by omega⟩

/-- The column of the up half. -/
def upCol (n : Fin 2048) : Fin 4096 := ⟨2048 + n.val, by omega⟩

/-- A row's product with its tile's expert matrix plus the expert's bias, at a column of the two halves. -/
def lin (x0 : IVec ⟨1, ![161]⟩ 32) (x2 : FVec Ideal ⟨2, ![41216, 2048]⟩ .f32) (x3 : FVec Ideal ⟨4, ![2, 32, 2048, 4096]⟩ .f32)
    (x4 : FVec Ideal ⟨3, ![2, 32, 4096]⟩ .f32) (p : Fin 41216) (n : Fin 4096) : EReal :=
  (∑ k : Fin 2048, (x2 (ix2 p k) : EReal) * (x3 (ix4 0 (ex (x0 (ix1 (tileOf p)))) k n) : EReal)) + (x4 (ix3 0 (ex (x0 (ix1 (tileOf p)))) n) : EReal)

/-- The result at a row and a column. -/
def val (x0 x1 : IVec ⟨1, ![161]⟩ 32) (x2 : FVec Ideal ⟨2, ![41216, 2048]⟩ .f32) (x3 : FVec Ideal ⟨4, ![2, 32, 2048, 4096]⟩ .f32)
    (x4 : FVec Ideal ⟨3, ![2, 32, 4096]⟩ .f32) (p : Fin 41216) (n : Fin 2048) : EReal :=
  if 0 < (x1 (ix1 (tileOf p))).toInt then glu (lin x0 x2 x3 x4 p (gateCol n)) (lin x0 x2 x3 x4 p (upCol n)) else 0

variable (x0 x1 : IVec S161 32) (x2 : FVec Ideal S41216x2048 .f32) (x3 : FVec Ideal S2x32x2048x4096 .f32) (x4 : FVec Ideal S2x32x4096 .f32)

/-- The gathered matrices at an index. -/
theorem v4_at (t : Fin 161) (k : Fin 2048) (n : Fin 4096) : val_main_v4 (F := Ideal) x0 x3 (ix3 t k n) = x3 (ix4 0 (ex (x0 (ix1 t))) k n) := by
  refine (Cert.Moe.gather_lead3 (N := 32) (n := 161) (A := 2048) (B := 4096) (by decide)
    gather_S32x2048x4096_S161x1_S161x2048x4096_12_0_n_n_0_1_120484096.wf (val_main_v2 (F := Ideal) x3) (val_main_v3 (F := Ideal) x0) t k n).trans ?_
  rw [val_main_v2_apply, val_main_v1_apply]
  have e : val_main_v3 (F := Ideal) x0 (Cert.Moe.ixT t) = x0 (ix1 t) :=
    (val_main_v3_apply (F := Ideal) x0 _).trans (congrArg x0 (funext fun a => match a with | ⟨0, _⟩ => rfl))
  refine congrArg x3 (funext fun a => Fin.ext ?_)
  have hv : min (val_main_v3 (F := Ideal) x0 (Cert.Moe.ixT t)).toInt.toNat (32 - 1) = (ex (x0 (ix1 t))).val := by rw [e]; rfl
  have hx := (ex (x0 (ix1 t))).isLt
  have hk := k.isLt
  have hn := n.isLt
  match a with
  | ⟨0, _⟩ => rfl
  | ⟨1, _⟩ =>
    show (((min (val_main_v3 (F := Ideal) x0 (Cert.Moe.ixT t)).toInt.toNat (32 - 1)) * 2048 + k.val) * 4096 + n.val) / 8388608 % 32 = (ex (x0 (ix1 t))).val
    rw [hv]; omega
  | ⟨2, _⟩ =>
    show (((min (val_main_v3 (F := Ideal) x0 (Cert.Moe.ixT t)).toInt.toNat (32 - 1)) * 2048 + k.val) * 4096 + n.val) / 4096 % 2048 = k.val
    rw [hv]; omega
  | ⟨3, _⟩ =>
    show (((min (val_main_v3 (F := Ideal) x0 (Cert.Moe.ixT t)).toInt.toNat (32 - 1)) * 2048 + k.val) * 4096 + n.val) % 4096 = n.val
    rw [hv]; omega

/-- The gathered biases at an index. -/
theorem v9_at (t : Fin 161) (n : Fin 4096) : val_main_v9 (F := Ideal) x0 x4 (ix2 t n) = x4 (ix3 0 (ex (x0 (ix1 t))) n) := by
  refine (Cert.Moe.gather_lead2 (N := 32) (n := 161) (A := 4096) (by decide)
    gather_S32x4096_S161x1_S161x4096_1_0_n_n_0_1_14096.wf (val_main_v7 (F := Ideal) x4) (val_main_v8 (F := Ideal) x0) t n).trans ?_
  rw [val_main_v7_apply, val_main_v6_apply]
  have e : val_main_v8 (F := Ideal) x0 (Cert.Moe.ixT t) = x0 (ix1 t) :=
    (val_main_v8_apply (F := Ideal) x0 _).trans (congrArg x0 (funext fun a => match a with | ⟨0, _⟩ => rfl))
  refine congrArg x4 (funext fun a => Fin.ext ?_)
  have hv : min (val_main_v8 (F := Ideal) x0 (Cert.Moe.ixT t)).toInt.toNat (32 - 1) = (ex (x0 (ix1 t))).val := by rw [e]; rfl
  have hx := (ex (x0 (ix1 t))).isLt
  have hn := n.isLt
  match a with
  | ⟨0, _⟩ => rfl
  | ⟨1, _⟩ =>
    show ((min (val_main_v8 (F := Ideal) x0 (Cert.Moe.ixT t)).toInt.toNat (32 - 1)) * 4096 + n.val) / 4096 % 32 = (ex (x0 (ix1 t))).val
    rw [hv]; omega
  | ⟨2, _⟩ =>
    show ((min (val_main_v8 (F := Ideal) x0 (Cert.Moe.ixT t)).toInt.toNat (32 - 1)) * 4096 + n.val) % 4096 = n.val
    rw [hv]; omega

/-- The mask at a tile. -/
theorem v31_at (i : S161.Idx) : val_main_v31 (F := Ideal) x1 i = (1 : BitVec 1) ↔ 0 < (x1 i).toInt := by
  rw [val_main_v31_apply, val_main_v30_apply, val_main_c_apply]
  show BitVec.ofBool (BitVec.slt 0#32 (x1 i)) = 1#1 ↔ _
  rw [BitVec.slt_eq_decide]
  by_cases h : 0 < (x1 i).toInt
  · simp [h]
  · simp [h]

/-- The product plus the bias at an index. -/
theorem v12_at (p : Fin 41216) (n : Fin 4096) :
    (val_main_v12 (F := Ideal) x0 x2 x3 x4 (ix3 (tileOf p) ⟨p.val % 256, by omega⟩ n) : EReal) = lin x0 x2 x3 x4 p n := by
  have hp := p.isLt
  rw [val_main_v12_apply, val_main_v5_apply, val_main_v11_apply, val_main_v10_apply]
  refine congrArg₂ (fun a b : EReal => a + b) (Finset.sum_congr rfl fun k _ => congrArg₂ (fun a b : EReal => a * b) ?_ ?_) ?_
  · rw [val_main_v0_apply]
    have hk := k.isLt
    refine congrArg x2 (funext fun a => Fin.ext (match a with
      | ⟨0, _⟩ => show ((p.val / 256 * 256 + p.val % 256) * 2048 + k.val) / 2048 = p.val by omega
      | ⟨1, _⟩ => show ((p.val / 256 * 256 + p.val % 256) * 2048 + k.val) % 2048 = k.val by omega))
  · refine Eq.trans (congrArg _ (funext fun a => ?_)) (v4_at x0 x3 (tileOf p) k n)
    match a with
    | ⟨0, _⟩ => rfl
    | ⟨1, _⟩ => rfl
    | ⟨2, _⟩ => rfl
  · refine Eq.trans (congrArg _ (funext fun a => ?_)) (v9_at x0 x4 (tileOf p) n)
    match a with
    | ⟨0, _⟩ => rfl
    | ⟨1, _⟩ => rfl

/-- The gated unit at an index, of the two halves there. -/
theorem v29_at (i : S161x256x2048.Idx) : val_main_v29 (F := Ideal) x0 x2 x3 x4 i
    = glu (val_main_v12 (F := Ideal) x0 x2 x3 x4 (idx_main_v13 i)) (val_main_v12 (F := Ideal) x0 x2 x3 x4 (idx_main_v16 i)) := by
  simp only [val_main_v29_apply, val_main_v28_apply, val_main_v27_apply, val_main_cst_5_apply, val_main_v26_apply, val_main_v25_apply,
    val_main_cst_4_apply, val_main_v24_apply, val_main_v23_apply, val_main_v22_apply, val_main_v21_apply, val_main_cst_3_apply,
    val_main_v20_apply, val_main_v19_apply, val_main_v18_apply, val_main_cst_2_apply, val_main_v17_apply, val_main_call0_v4_apply,
    val_main_call0_v3_apply, val_main_cst_1_apply, val_main_call0_v2_apply, val_main_call0_v1_apply, val_main_call0_v0_apply,
    val_main_cst_0_apply, val_main_v16_apply, val_main_v15_apply, val_main_v14_apply, val_main_cst_apply, val_main_v13_apply]
  refine congrArg _ ?_
  generalize (FloatOps.mulf (FloatOps.ofBits .f32 0x3FD9DB23#32) (FloatOps.minimumf (val_main_v12 (F := Ideal) x0 x2 x3 x4 (idx_main_v13 i))
    (FloatOps.ofBits .f32 0x40E00000#32)) : Ideal .f32) = z
  rw [show (FloatOps.ofBits .f32 0x3F800000#32 : Ideal .f32) = (1 : EReal) from Ideal.ofBits_one_f32]
  rfl

/-- The reference at an index. -/
theorem ref_at (p : Fin 41216) (n : Fin 2048) :
    (val_main_v35 (F := Ideal) x0 x1 x2 x3 x4 (ix2 p n) : EReal) = val x0 x1 x2 x3 x4 p n := by
  have hp := p.isLt
  have hn := n.isLt
  have ei : idx_main_v35 (ix2 p n) = ix3 (tileOf p) ⟨p.val % 256, by omega⟩ n := funext fun a => Fin.ext (match a with
    | ⟨0, _⟩ => show (p.val * 2048 + n.val) / 524288 = p.val / 256 by omega
    | ⟨1, _⟩ => show (p.val * 2048 + n.val) / 2048 % 256 = p.val % 256 by omega
    | ⟨2, _⟩ => show (p.val * 2048 + n.val) % 2048 = n.val by omega)
  rw [val_main_v35_apply, ei, val_main_v34_apply]
  show (val_main_v33 (F := Ideal) x0 x1 x2 x3 x4 (ix3 (tileOf p) ⟨p.val % 256, by omega⟩ n) : EReal) = _
  rw [val_main_v33_apply, val_main_call1_v1_apply, val_main_v32_apply]
  have em : idx_main_v32 (idx_main_call1_v1 (ix3 (tileOf p) ⟨p.val % 256, by omega⟩ n)) = ix1 (tileOf p) :=
    funext fun a => match a with | ⟨0, _⟩ => rfl
  rw [em]
  unfold val Scalar.select
  by_cases h : 0 < (x1 (ix1 (tileOf p))).toInt
  · rw [if_pos h, if_pos ((v31_at x1 _).mpr h), v29_at]
    refine congrArg₂ glu ?_ ?_
    · refine Eq.trans (congrArg _ (funext fun a => ?_)) (v12_at x0 x2 x3 x4 p (gateCol n))
      match a with
      | ⟨0, _⟩ => rfl
      | ⟨1, _⟩ => rfl
      | ⟨2, _⟩ => rfl
    · refine Eq.trans (congrArg _ (funext fun a => ?_)) (v12_at x0 x2 x3 x4 p (upCol n))
      match a with
      | ⟨0, _⟩ => rfl
      | ⟨1, _⟩ => rfl
      | ⟨2, _⟩ => rfl
  · rw [if_neg h, if_neg (fun h' => h ((v31_at x1 _).mp h')), val_main_call1_v2_apply, val_main_call1_v0_apply, val_main_cst_6_apply]
    exact Ideal.ofBits_zero_f32

end Cert.GateUp

end
-- ==== Proof.GateUp.lean ====
/- The gate and up projection's result array is the reference's: the blocks of the grid, put together. -/
module

public import proofs.«01_k».proof.Proof.Kernel2IdealWords
public import proofs.«01_k».proof.Proof.GateUpRef
public import Idealize.ShloMosaic.Lib.Pipeline.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GateUp

open Cert.Kernel2Ideal Cert.Kernel2Ideal.Gen

variable (m : (ℓ : Loc nD τ sig) → Buf (Elt Ideal) ℓ)

/-- The windows' block indices: the tile's rows, -/
theorem index_0 (hO : Ok m) (t : Fin (cfgM m hO).N) : ((cfgM m hO).win 0).index t = ![(grid0.coords t 1).val, 0] := by
  show cc0_transform_0 (grid0.coords t) = _
  have h : (grid0.coords t 1).val < 161 := (grid0.coords t 1).isLt
  have h' : cc0_transform_0 (grid0.coords t) = ![(BitVec.ofNat 32 (grid0.coords t 1).val).toNat, 0] := rfl
  rw [h', BitVec.toNat_ofNat, Nat.mod_eq_of_lt (by omega)]

/-- the tile's expert and the column block, for the gate half of the matrix -/
theorem index_1 (hO : Ok m) (t : Fin (cfgM m hO).N) :
    ((cfgM m hO).win 1).index t = ![0, (te m (tile (grid0.coords t))).toNat, 0, (grid0.coords t 0).val] := ix_1 m _

/-- for its up half, two blocks further, -/
theorem index_2 (hO : Ok m) (t : Fin (cfgM m hO).N) :
    ((cfgM m hO).win 2).index t = ![0, (te m (tile (grid0.coords t))).toNat, 0, (grid0.coords t 0).val + 2] := ix_2 m _

/-- and for the bias's gate half -/
theorem index_3 (hO : Ok m) (t : Fin (cfgM m hO).N) :
    ((cfgM m hO).win 3).index t = ![0, (te m (tile (grid0.coords t))).toNat, 0, (grid0.coords t 0).val] := ix_3 m _

/-- and up half, -/
theorem index_4 (hO : Ok m) (t : Fin (cfgM m hO).N) :
    ((cfgM m hO).win 4).index t = ![0, (te m (tile (grid0.coords t))).toNat, 0, (grid0.coords t 0).val + 2] := ix_4 m _

/-- the tile and the column block for the result. -/
theorem index_5 (hO : Ok m) (t : Fin (cfgM m hO).N) :
    ((cfgM m hO).win 5).index t = ![(grid0.coords t 1).val, (grid0.coords t 0).val] := by
  show cc0_transform_5 (grid0.coords t) = _
  have h : (grid0.coords t 1).val < 161 := (grid0.coords t 1).isLt
  have h0 : (grid0.coords t 0).val < 2 := (grid0.coords t 0).isLt
  have h' : cc0_transform_5 (grid0.coords t) = ![(BitVec.ofNat 32 (grid0.coords t 1).val).toNat, (BitVec.ofNat 32 (grid0.coords t 0).val).toNat] := rfl
  rw [h', BitVec.toNat_ofNat, BitVec.toNat_ofNat, Nat.mod_eq_of_lt (by omega), Nat.mod_eq_of_lt (by omega)]

/-- The rows' block at an index. -/
theorem blk0_at (hO : Ok m) (t : Fin (cfgM m hO).N) (r : Fin 256) (k : Fin 2048) (p : Fin 41216)
    (hp : p.val = 256 * (grid0.coords t 1).val + r.val) :
    (iblk m hO 0 0 t : FVec Ideal S256x2048 .f32) (ix2 r k) = (m (((0 : Dev nD) : Thread nD τ).loc main_arg2) : FVec Ideal S41216x2048 .f32) (ix2 p k) := by
  blk_ext [iblk, V, index_0 m hO t]

/-- The gate half's block of the expert matrix at an index. -/
theorem blk1_at (hO : Ok m) (t : Fin (cfgM m hO).N) (k : Fin 2048) (q : Fin 1024) (e : Fin 32) (he : e.val = (te m (tile (grid0.coords t))).toNat)
    (n : Fin 4096) (hn : n.val = 1024 * (grid0.coords t 0).val + q.val) :
    (iblk m hO 0 1 t : FVec Ideal S1x1x2048x1024 .f32) (ix4 0 0 k q) = (m (((0 : Dev nD) : Thread nD τ).loc main_arg3) : FVec Ideal S2x32x2048x4096 .f32) (ix4 0 e k n) := by
  blk_ext [iblk, V, index_1 m hO t]

/-- The up half's block of the expert matrix at an index. -/
theorem blk2_at (hO : Ok m) (t : Fin (cfgM m hO).N) (k : Fin 2048) (q : Fin 1024) (e : Fin 32) (he : e.val = (te m (tile (grid0.coords t))).toNat)
    (n : Fin 4096) (hn : n.val = 2048 + 1024 * (grid0.coords t 0).val + q.val) :
    (iblk m hO 0 2 t : FVec Ideal S1x1x2048x1024 .f32) (ix4 0 0 k q) = (m (((0 : Dev nD) : Thread nD τ).loc main_arg3) : FVec Ideal S2x32x2048x4096 .f32) (ix4 0 e k n) := by
  blk_ext [iblk, V, index_2 m hO t]

/-- The bias's array at the region's entry is the bias with an axis of one put in. -/
theorem V_main_v0 (c : Dev nD) : (V m c main_v0 : FVec Ideal S2x32x1x4096 .f32)
    = shapeCast _ (m ((c : Thread nD τ).loc main_arg4) : FVec Ideal S2x32x4096 .f32) shapeCasts_S2x32x4096_S2x32x1x4096 := by
  entry_read
  rfl

/-- The gate half's block of the bias at an index. -/
theorem blk3_at (hO : Ok m) (t : Fin (cfgM m hO).N) (q : Fin 1024) (e : Fin 32) (he : e.val = (te m (tile (grid0.coords t))).toNat)
    (n : Fin 4096) (hn : n.val = 1024 * (grid0.coords t 0).val + q.val) :
    (iblk m hO 0 3 t : FVec Ideal S1x1x1x1024 .f32) (ix4 0 0 0 q) = (m (((0 : Dev nD) : Thread nD τ).loc main_arg4) : FVec Ideal S2x32x4096 .f32) (ix3 0 e n) := by
  have h : (iblk m hO 0 3 t : FVec Ideal S1x1x1x1024 .f32) (ix4 0 0 0 q) = (V m 0 main_v0 : FVec Ideal S2x32x1x4096 .f32) (ix4 0 e 0 n) := by
    blk_ext [iblk, index_3 m hO t]
  rw [h, V_main_v0]
  exact shapeCast_apply _ shapeCasts_S2x32x4096_S2x32x1x4096 (ix4 0 e 0 n) (ix3 0 e n)
    (by rewrite [Shape.rowMajor_val_three, Shape.rowMajor_val_four]; show (0 * 32 + e.val) * 4096 + n.val = ((0 * 32 + e.val) * 1 + 0) * 4096 + n.val; omega)

/-- The up half's block of the bias at an index. -/
theorem blk4_at (hO : Ok m) (t : Fin (cfgM m hO).N) (q : Fin 1024) (e : Fin 32) (he : e.val = (te m (tile (grid0.coords t))).toNat)
    (n : Fin 4096) (hn : n.val = 2048 + 1024 * (grid0.coords t 0).val + q.val) :
    (iblk m hO 0 4 t : FVec Ideal S1x1x1x1024 .f32) (ix4 0 0 0 q) = (m (((0 : Dev nD) : Thread nD τ).loc main_arg4) : FVec Ideal S2x32x4096 .f32) (ix3 0 e n) := by
  have h : (iblk m hO 0 4 t : FVec Ideal S1x1x1x1024 .f32) (ix4 0 0 0 q) = (V m 0 main_v0 : FVec Ideal S2x32x1x4096 .f32) (ix4 0 e 0 n) := by
    blk_ext [iblk, index_4 m hO t]
  rw [h, V_main_v0]
  exact shapeCast_apply _ shapeCasts_S2x32x4096_S2x32x1x4096 (ix4 0 e 0 n) (ix3 0 e n)
    (by rewrite [Shape.rowMajor_val_three, Shape.rowMajor_val_four]; show (0 * 32 + e.val) * 4096 + n.val = ((0 * 32 + e.val) * 1 + 0) * 4096 + n.val; omega)

/-- The matrices the two scratch buffers take, at an index: the conversion leaves every entry as it is. -/
theorem pay1_at (v : FVec Ideal S1x1x2048x1024 .f32) (k : Fin 2048) (q : Fin 1024) :
    (k0_pay1 (F := Ideal) v (ix2 k q) : EReal) = v (ix4 0 0 k q) := by
  pointwise [k0_pay1]

@[inherit_doc pay1_at]
theorem pay2_at (v : FVec Ideal S1x1x2048x1024 .f32) (k : Fin 2048) (q : Fin 1024) :
    (k0_pay2 (F := Ideal) v (ix2 k q) : EReal) = v (ix4 0 0 k q) := by
  pointwise [k0_pay2]

/-- The product with a half of the matrix plus that half of the bias. -/
def half (x : FVec Ideal S256x2048 .f32) (w : FVec Ideal S2048x1024 .bf16) (b : FVec Ideal S1x1x1x1024 .f32) : FVec Ideal S256x1024 .f32 :=
  addf (matmul dot_S256x2048_S2048x1024_S256x1024_1_0_0_1_n_n none (truncf .bf16 x bitsLt_bf16_f32) w (constant S256x1024 .f32 0x00000000#32))
    (broadcastTo S256x1024 (shapeCast S1x1024 b shapeCasts_S1x1x1x1024_S1x1024) broadcasts_S1x1024_S256x1024)

/-- The product plus the bias, at an index. -/
theorem half_at (x : FVec Ideal S256x2048 .f32) (w : FVec Ideal S2048x1024 .bf16) (b : FVec Ideal S1x1x1x1024 .f32) (r : Fin 256) (q : Fin 1024) :
    (half x w b (ix2 r q) : EReal) = (∑ k : Fin 2048, (x (ix2 r k) : EReal) * (w (ix2 k q) : EReal)) + (b (ix4 0 0 0 q) : EReal) := by
  pointwise [half]

/-- The block the body writes where the tile holds rows, at an index: the gated unit of the two halves. -/
theorem pay3_at (x : FVec Ideal S256x2048 .f32) (wg wu : FVec Ideal S2048x1024 .bf16) (bg bu : FVec Ideal S1x1x1x1024 .f32) (i : S256x1024.Idx) :
    (k0_pay3 (F := Ideal) x wg bg wu bu i : EReal) = glu (half x wg bg i) (half x wu bu i) := rfl

/-- The zero block, at an index. -/
theorem pay4_at (r : Fin 256) (q : Fin 1024) : (k0_pay4 (F := Ideal) (ix2 r q) : EReal) = 0 := by
  pointwise [k0_pay4]

/-- Two points of one expert and one column block read the same gate half. -/
theorem blk1_congr (hW : Words m) (hO : Ok m) (t t' : Fin (cfgM m hO).N) (h0 : (grid0.coords t 0).val = (grid0.coords t' 0).val)
    (he : te m (tile (grid0.coords t)) = te m (tile (grid0.coords t'))) :
    (iblk m hO 0 1 t : FVec Ideal S1x1x2048x1024 .f32) = (iblk m hO 0 1 t' : FVec Ideal S1x1x2048x1024 .f32) := by
  refine funext fun (y : S1x1x2048x1024.Idx) => ?_
  obtain ⟨k, q, rfl⟩ : ∃ (k : Fin 2048) (q : Fin 1024), y = ix4 0 0 k q :=
    ⟨y 2, y 3, funext fun a => match a with
      | ⟨0, _⟩ => Subsingleton.elim (α := Fin 1) _ _
      | ⟨1, _⟩ => Subsingleton.elim (α := Fin 1) _ _
      | ⟨2, _⟩ => rfl
      | ⟨3, _⟩ => rfl⟩
  have h2 : (grid0.coords t 0).val < 2 := (grid0.coords t 0).isLt
  have hw := hW.1 (tile (grid0.coords t))
  rw [blk1_at m hO t k q ⟨_, Nat.lt_succ_of_le hw⟩ rfl ⟨1024 * (grid0.coords t 0).val + q.val, by omega⟩ rfl,
    blk1_at m hO t' k q ⟨_, Nat.lt_succ_of_le hw⟩ (by rw [← he]) ⟨1024 * (grid0.coords t 0).val + q.val, by omega⟩ (by rw [← h0])]

/-- Two points of one expert and one column block read the same up half. -/
theorem blk2_congr (hW : Words m) (hO : Ok m) (t t' : Fin (cfgM m hO).N) (h0 : (grid0.coords t 0).val = (grid0.coords t' 0).val)
    (he : te m (tile (grid0.coords t)) = te m (tile (grid0.coords t'))) :
    (iblk m hO 0 2 t : FVec Ideal S1x1x2048x1024 .f32) = (iblk m hO 0 2 t' : FVec Ideal S1x1x2048x1024 .f32) := by
  refine funext fun (y : S1x1x2048x1024.Idx) => ?_
  obtain ⟨k, q, rfl⟩ : ∃ (k : Fin 2048) (q : Fin 1024), y = ix4 0 0 k q :=
    ⟨y 2, y 3, funext fun a => match a with
      | ⟨0, _⟩ => Subsingleton.elim (α := Fin 1) _ _
      | ⟨1, _⟩ => Subsingleton.elim (α := Fin 1) _ _
      | ⟨2, _⟩ => rfl
      | ⟨3, _⟩ => rfl⟩
  have h2 : (grid0.coords t 0).val < 2 := (grid0.coords t 0).isLt
  have hw := hW.1 (tile (grid0.coords t))
  rw [blk2_at m hO t k q ⟨_, Nat.lt_succ_of_le hw⟩ rfl ⟨2048 + 1024 * (grid0.coords t 0).val + q.val, by omega⟩ rfl,
    blk2_at m hO t' k q ⟨_, Nat.lt_succ_of_le hw⟩ (by rw [← he]) ⟨2048 + 1024 * (grid0.coords t 0).val + q.val, by omega⟩ (by rw [← h0])]

/-- After every point the gate scratch holds the gate half of the point's own expert matrix. -/
theorem scr_at (hW : Words m) (hO : Ok m) (n : ℕ) (hn : n < (cfgM m hO).N) :
    scrAt m hO 0 n hn = k0_pay1 (iblk m hO 0 1 ⟨n, hn⟩) := by
  induction n with
  | zero => rfl
  | succ n ih =>
    have hN : n + 1 < 322 := Nat.lt_of_lt_of_eq hn N_0
    have hn' : n < (cfgM m hO).N := Nat.lt_of_succ_lt hn
    by_cases h : cond0_0 0 (grid0.coords ⟨n + 1, hn⟩) (tbl m 0)
    · exact scrAt_new m hO 0 ⟨n + 1, hn⟩ h
    · have e1 := coords_1 ⟨n + 1, hn⟩
      have e0 := coords_0 ⟨n + 1, hn⟩
      have f1 := coords_1 ⟨n, hn'⟩
      have f0 := coords_0 ⟨n, hn'⟩
      have hz : (grid0.coords ⟨n + 1, hn⟩ 1).val ≠ 0 := fun h' => h (cond0_first 0 _ _ h')
      dsimp only at e1 e0 f1 f0
      obtain ⟨-, he⟩ := not_cond0_0 m _ h (tile (grid0.coords ⟨n, hn'⟩)) (by
        show (grid0.coords ⟨n, hn'⟩ 1).val = (grid0.coords ⟨n + 1, hn⟩ 1).val - 1
        omega)
      rw [scrAt_old m hO 0 ⟨n + 1, hn⟩ (Nat.succ_ne_zero n) h]
      refine (ih hn').trans (congrArg k0_pay1 (blk1_congr m hW hO _ _ ?_ he.symm))
      omega

/-- After every point the up scratch holds the up half of the point's own expert matrix. -/
theorem scu_at (hW : Words m) (hO : Ok m) (n : ℕ) (hn : n < (cfgM m hO).N) :
    scuAt m hO 0 n hn = k0_pay2 (iblk m hO 0 2 ⟨n, hn⟩) := by
  induction n with
  | zero => rfl
  | succ n ih =>
    have hN : n + 1 < 322 := Nat.lt_of_lt_of_eq hn N_0
    have hn' : n < (cfgM m hO).N := Nat.lt_of_succ_lt hn
    by_cases h : cond0_0 0 (grid0.coords ⟨n + 1, hn⟩) (tbl m 0)
    · exact scuAt_new m hO 0 ⟨n + 1, hn⟩ h
    · have e1 := coords_1 ⟨n + 1, hn⟩
      have e0 := coords_0 ⟨n + 1, hn⟩
      have f1 := coords_1 ⟨n, hn'⟩
      have f0 := coords_0 ⟨n, hn'⟩
      have hz : (grid0.coords ⟨n + 1, hn⟩ 1).val ≠ 0 := fun h' => h (cond0_first 0 _ _ h')
      dsimp only at e1 e0 f1 f0
      obtain ⟨-, he⟩ := not_cond0_0 m _ h (tile (grid0.coords ⟨n, hn'⟩)) (by
        show (grid0.coords ⟨n, hn'⟩ 1).val = (grid0.coords ⟨n + 1, hn⟩ 1).val - 1
        omega)
      rw [scuAt_old m hO 0 ⟨n + 1, hn⟩ (Nat.succ_ne_zero n) h]
      refine (ih hn').trans (congrArg k0_pay2 (blk2_congr m hW hO _ _ ?_ he.symm))
      omega

/-- The words read as in the reference: an expert word of the table names the same expert there. -/
theorem ex_eq (hW : Words m) (x : S161.Idx) : (ex (te m x)).val = (te m x).toNat := by
  have h := hW.1 x
  have e : (te m x).toInt = ((te m x).toNat : ℤ) := BitVec.toInt_eq_toNat_of_lt (by omega)
  show min (te m x).toInt.toNat 31 = _
  rw [e, Int.toNat_natCast]
  omega

/-- What the body leaves at block index `y` of point `t` is the reference's result where `y` sits. -/
theorem point (hW : Words m) (hO : Ok m) (t : Fin (cfgM m hO).N) (y : S256x1024.Idx) (j : S41216x2048.Idx)
    (hj0 : (j 0 : ℕ) = 256 * (grid0.coords t 1).val + (y 0).val) (hj1 : (j 1 : ℕ) = 1024 * (grid0.coords t 0).val + (y 1).val) :
    (outAt m hO 0 t y : EReal)
    = Cert.Reference2Ideal.Read.val_main_v35 (F := Ideal) (te m) (tv m) (m (((0 : Dev nD) : Thread nD τ).loc main_arg2))
        (m (((0 : Dev nD) : Thread nD τ).loc main_arg3)) (m (((0 : Dev nD) : Thread nD τ).loc main_arg4)) j := by
  obtain ⟨r, q, rfl⟩ : ∃ (r : Fin 256) (q : Fin 1024), y = ix2 r q :=
    ⟨y 0, y 1, funext fun a => match a with | ⟨0, _⟩ => rfl | ⟨1, _⟩ => rfl⟩
  obtain ⟨p, n, rfl⟩ : ∃ (p : Fin 41216) (n : Fin 2048), j = ix2 p n :=
    ⟨j 0, j 1, funext fun a => match a with | ⟨0, _⟩ => rfl | ⟨1, _⟩ => rfl⟩
  replace hj0 : p.val = 256 * (grid0.coords t 1).val + r.val := hj0
  replace hj1 : n.val = 1024 * (grid0.coords t 0).val + q.val := hj1
  have hr := r.isLt
  have et : ix1 (tileOf p) = tile (grid0.coords t) := funext fun a => match a with
    | ⟨0, _⟩ => Fin.ext (show p.val / 256 = (grid0.coords t 1).val by omega)
  refine Eq.trans ?_ (ref_at (te m) (tv m) (m (((0 : Dev nD) : Thread nD τ).loc main_arg2))
        (m (((0 : Dev nD) : Thread nD τ).loc main_arg3)) (m (((0 : Dev nD) : Thread nD τ).loc main_arg4)) p n).symm
  unfold val lin outAt
  rw [et]
  by_cases h : cond0_1 0 (grid0.coords t) (tbl m 1)
  · rw [if_pos h, if_pos ((cond0_1_iff m _).mp h), scr_at m hW hO, scu_at m hW hO]
    refine (pay3_at _ _ _ _ _ (ix2 r q)).trans (congrArg₂ glu ?_ ?_)
    · refine (half_at _ _ _ r q).trans ?_
      refine congrArg₂ (fun a b : EReal => a + b) (Finset.sum_congr rfl fun k _ => congrArg₂ (fun a b : EReal => a * b) ?_ ?_) ?_
      · exact blk0_at m hO t r k p hj0
      · exact (pay1_at _ k q).trans (blk1_at m hO t k q _ (ex_eq m hW _) (gateCol n) hj1)
      · exact blk3_at m hO t q _ (ex_eq m hW _) (gateCol n) hj1
    · have hu : (upCol n).val = 2048 + 1024 * (grid0.coords t 0).val + q.val := by show 2048 + n.val = _; omega
      refine (half_at _ _ _ r q).trans ?_
      refine congrArg₂ (fun a b : EReal => a + b) (Finset.sum_congr rfl fun k _ => congrArg₂ (fun a b : EReal => a * b) ?_ ?_) ?_
      · exact blk0_at m hO t r k p hj0
      · exact (pay2_at _ k q).trans (blk2_at m hO t k q _ (ex_eq m hW _) (upCol n) hu)
      · exact blk4_at m hO t q _ (ex_eq m hW _) (upCol n) hu
  · rw [if_neg h, if_neg (fun h' => h ((cond0_1_iff m _).mpr h'))]
    exact pay4_at r q

/-- The written blocks cover the result array: one per tile and column block. -/
theorem covers (hO : Ok m) : ((cfgM m hO).win 5).Covers := by
  refine ⟨fun a => match a with | ⟨0, _⟩ => (show 0 < 256 by decide) | ⟨1, _⟩ => (show 0 < 1024 by decide), fun β => ?_⟩
  have b0 : (β (0 : Fin 2)).val < 161 := Nat.lt_of_lt_of_eq (β (0 : Fin 2)).isLt (show (41216 + 256 - 1) / 256 = 161 by norm_num)
  have b1 : (β (1 : Fin 2)).val < 2 := Nat.lt_of_lt_of_eq (β (1 : Fin 2)).isLt (show (2048 + 1024 - 1) / 1024 = 2 by norm_num)
  have hN : (β (1 : Fin 2)).val * 161 + (β (0 : Fin 2)).val < (cfgM m hO).N := by
    have h : (cfgM m hO).N = 322 := N_0
    omega
  refine ⟨⟨_, hN⟩, flush0_5 (adm m hO) _, fun a => ⟨?_, Or.inl rfl⟩⟩
  have e0 := coords_0 ⟨_, hN⟩
  have e1 := coords_1 ⟨_, hN⟩
  dsimp only at e0 e1
  refine (congrFun (index_5 m hO ⟨_, hN⟩) a).trans ?_
  match a with
  | ⟨0, _⟩ => show (grid0.coords ⟨_, hN⟩ 1).val = (β (0 : Fin 2)).val; omega
  | ⟨1, _⟩ => show (grid0.coords ⟨_, hN⟩ 0).val = (β (1 : Fin 2)).val; omega

/-- The result array after the run is the reference's result of the arguments. -/
theorem final (hW : Words m) (hO : Ok m) : (dats m hO 0 0).arrAt 5 (cfgM m hO).N
    = Cert.Reference2Ideal.Read.val_main_v35 (F := Ideal) (te m) (tv m) (m (((0 : Dev nD) : Thread nD τ).loc main_arg2))
        (m (((0 : Dev nD) : Thread nD τ).loc main_arg3)) (m (((0 : Dev nD) : Thread nD τ).loc main_arg4)) := by
  refine (dats m hO 0 0).arrAt_eq_of_covers 5 _ (covers m hO) fun t hf y => ?_
  blk_simp
  rw [after0_5]
  refine point m hW hO t y _ ?_ ?_
  all_goals (blk_simp [index_5 m hO t] <;> try omega)

end Cert.GateUp

end
-- ==== Proof.Kernel3IdealRuns.lean ====
module

public import proofs.«01_k».proof.Proof.Gen.Kernel3Ideal
public import proofs.«01_k».proof.Proof.Gen.Kernel3Ideal.Launch
public import proofs.«01_k».proof.Proof.Gen.Kernel3Ideal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 0 (operand 2 (%arg2)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 0 (fun _ => rfl) (by decide)) (P := 1) (by decide) t).mpr (Nat.mod_one _) : ∀ t : Fin grid0.N, Pipeline.Window.fetchOf grid0 false cc0_transform_0 t = true)
/-- Window 3 (result 0 (%1)) is written back at every point, at any contents of the tables (its index map reads none). -/
theorem flush0_3 (a : (pcfg0 (F := F)).Adm) : ∀ t : Fin (cfg0 a).N, ((cfg0 a).win 3).flush t = true :=
  (fun t => (Pipeline.Window.flushOf_reads cc0_transform_3 reads0_3 hreads0_3 1 (by decide) (by decide) (Pipeline.Window.sep_of_coord cc0_transform_3 1 0 (fun _ => rfl) (by decide)) (P := 1) (m := 0) (by decide) rfl t).mpr (Nat.mod_one _) : ∀ t : Fin grid0.N, Pipeline.Window.flushOf grid0 true cc0_transform_3 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_expert_down (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole cc0_scratch0) (Memref.isWhole_whole _)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes an argument: the region finds it as launched. -/
theorem V_arg (c : Dev nD) (b : Ref sig .tc) (hb : b ∈ [main_arg0, main_arg1, main_arg2, main_arg3, main_arg4]) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    simp only [List.mem_cons, List.not_mem_nil, or_false] at hb
    rcases hb with rfl | rfl | rfl | rfl | rfl
    all_goals
      repeat' apply And.intro
      all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    . -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S161 .i32 := Memref.whole main_arg0
abbrev htbM0_0 : tbM0_0.IsWhole := Memref.isWhole_whole _
abbrev tbM0_1 : Memref sig .tc .smem S161 .i32 := Memref.whole main_arg1
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body , table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same of input window 1. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The same of input window 2. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel3Ideal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (by decide : main_arg0 ∈ Pipeline.restRefs sig spec0)).trans (V_arg m c main_arg0 (by simp)),
      ((h c).2 main_arg1 (by decide : main_arg1 ∈ Pipeline.restRefs sig spec0)).trans (V_arg m c main_arg1 (by simp)),
      ((h c).1 0).trans (((dats 0 c).arrAt_in 0 rfl _).trans ((hA c 0).trans (V_arg m c main_arg2 (by simp)))),
      ((h c).1 1).trans (((dats 0 c).arrAt_in 1 rfl _).trans ((hA c 1).trans (V_arg m c main_arg3 (by simp)))),
      ((h c).2 main_arg4 (by decide : main_arg4 ∈ Pipeline.restRefs sig spec0)).trans (V_arg m c main_arg4 (by simp))⟩) h

/-! ## The body's branch conditions -/

/-- A word of the expert table: the entry the body loads at offsets `o` from contents `xt`. -/
abbrev teW (c : Dev nD) (o : Fin 1 → ℕ) (ho : ∀ a, o a + S1.size a ≤ S161.size a) (xt : TbBuf0 (F := F) c tbM0_0) : BitVec 32 :=
  tbM0_0.view.readAt (Elt F) (Rect.unit (s := S161) o S1.size ho).toLoadRect xt (Shape.Idx.first (numel1_S1.symm ▸ Nat.one_pos))
/-- A word of the row-count table. -/
abbrev tvW (c : Dev nD) (o : Fin 1 → ℕ) (ho : ∀ a, o a + S1.size a ≤ S161.size a) (xt : TbBuf0 (F := F) c tbM0_1) : BitVec 32 :=
  tbM0_1.view.readAt (Elt F) (Rect.unit (s := S161) o S1.size ho).toLoadRect xt (Shape.Idx.first (numel1_S1.symm ▸ Nat.one_pos))

/-- The first branch is taken: the tile is the first of its column block, or its expert is not the one of the tile before. -/
abbrev cond0_0 (c : Dev nD) (i : grid0.Coords) (xt : TbBuf0 (F := F) c tbM0_0) : Prop :=
  (Scalar.cmpi .ne (Scalar.extui (Scalar.ori (Scalar.cmpi .eq (BitVec.ofNat 32 (i 1).val) 0#32) (Scalar.cmpi .ne (teW c (k0_off1 i) (k0_off1_inb i) xt) (teW c (k0_off2 i) (k0_off2_inb i) xt)))) 0#32) = 1#1
/-- The second branch is taken: the tile holds rows. -/
abbrev cond0_1 (c : Dev nD) (i : grid0.Coords) (xt : TbBuf0 (F := F) c tbM0_1) : Prop := k0_cond2 (tvW c (k0_off3 i) (k0_off3_inb i) xt) = 1#1
/-- The third branch is taken: the tile holds no row. -/
abbrev cond0_2 (c : Dev nD) (i : grid0.Coords) (xt : TbBuf0 (F := F) c tbM0_1) : Prop := k0_cond3 (tvW c (k0_off4 i) (k0_off4_inb i) xt) = 1#1

/-- At a first tile the first branch is taken, whatever the table holds. -/
theorem cond0_first (c : Dev nD) (i : grid0.Coords) (xt : TbBuf0 (F := F) c tbM0_0) (h : (i 1).val = 0) : cond0_0 c i xt := by
  unfold cond0_0
  rw [h]
  generalize Scalar.cmpi CmpIPredicate.ne (teW c (k0_off1 i) (k0_off1_inb i) xt) (teW c (k0_off2 i) (k0_off2_inb i) xt) = b
  clear xt
  revert b
  decide

/-! ## Where the windows are idle -/

/-- Window 0 is never idle (an input). -/
theorem liveAt0_0 (hO : Ok m) : ∀ t : Fin (cfgM m hO).N, (cfgM m hO).idle 0 (grid0.coords t) = false := fun _ => rfl
/-- Window 1 is never idle (an input). -/
theorem liveAt0_1 (hO : Ok m) : ∀ t : Fin (cfgM m hO).N, (cfgM m hO).idle 1 (grid0.coords t) = false := fun _ => rfl
/-- Window 2 is never idle (an input). -/
theorem liveAt0_2 (hO : Ok m) : ∀ t : Fin (cfgM m hO).N, (cfgM m hO).idle 2 (grid0.coords t) = false := fun _ => rfl
/-- A word of the row-count table's contents, read at the body's offsets, is the word the body loads there. -/
theorem atD_tv (o : Fin 1 → ℕ) (ho : ∀ a, o a + S1.size a ≤ S161.size a) : (tbl m).atD 1 o = tvW 0 o ho (tbl m 1) :=
  (dif_pos (show ∀ a : Fin 1, o a + 1 ≤ S161.size a from fun a => by have := ho a; fin_cases a; exact this)).trans
    (congrArg (tbl m 1) (funext fun a => Fin.ext (by fin_cases a; rfl)))
/-- Every tile's row count selects exactly one of the two branches that store the output block. -/
abbrev Live : Prop := ∀ i : grid0.Coords, (cond0_1 0 i (tbl m 1) ∨ cond0_2 0 i (tbl m 1)) ∧ ¬(cond0_1 0 i (tbl m 1) ∧ cond0_2 0 i (tbl m 1))
/-- Under `Live` the output window is never idle. -/
theorem liveAt0_3 (hO : Ok m) (hL : Live m) (t : Fin (cfgM m hO).N) : (cfgM m hO).idle 3 (grid0.coords t) = false := by
  have h := (hL (grid0.coords t)).1
  show (!(k0_cond2 ((tbl m).atD 1 (k0_off3 (grid0.coords t))) == 1#1) && !(k0_cond3 ((tbl m).atD 1 (k0_off4 (grid0.coords t))) == 1#1)) = false
  rw [atD_tv m _ (k0_off3_inb _), atD_tv m _ (k0_off4_inb _)]
  rcases h with h | h
  · rw [show (k0_cond2 (tvW 0 (k0_off3 (grid0.coords t)) (k0_off3_inb (grid0.coords t)) (tbl m 1)) == 1#1) = true from beq_iff_eq.mpr h]; rfl
  · rw [show (k0_cond3 (tvW 0 (k0_off4 (grid0.coords t)) (k0_off4_inb (grid0.coords t)) (tbl m 1)) == 1#1) = true from beq_iff_eq.mpr h]; exact Bool.and_false _

/-! ## The kernel body on any staging memrefs: a subtype the run finds -/

/-- One staging buffer of output window 3, through which its contents are stated (`View.read_writes_of_cover`: the
    choice does not matter). -/
abbrev VO0_3 : View sig .tc .vmem S256x1024 .f32 := (Memref.whole cc0_stg3_0 : Memref sig .tc .vmem S256x1024 .f32).view
/-- Each window's current staging memref at point `t`, spelled as the pipeline passes it (`bodyAt0`), and its wholeness. -/
abbrev ms0_0 (hO : Ok m) (t : Fin (cfgM m hO).N) : Memref sig .tc .vmem S256x2048 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x2048x1024 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1x1024 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S256x1024 .f32 := spec0_3.stage ((cfgM m hO).slots t 3)
abbrev hs0_3 (hO : Ok m) (t : Fin (cfgM m hO).N) : (ms0_3 m hO t).IsWhole := hstage0_3 (((cfgM m hO).slots t 3).cast nbuf0_3)
/-- The scratch operands: whole scoped buffers of the kernel's own, passed beside the windows. -/
abbrev scM0_0 : Memref sig .tc .vmem S2048x1024 .bf16 := Memref.whole cc0_scratch0
/-- The scratch `arg8` the kernel carries between points, as a view: what it holds is stated through it. -/
abbrev VS0_0 : View sig .tc .vmem S2048x1024 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

-- A grid point, the buffers of its blocks and scratches, and what the blocks and the two tables hold.
variable (c : Dev nD) (i : grid0.Coords) (arg4 : Memref sig .tc .vmem S256x2048 .bf16) (harg4 : arg4.IsWhole) (arg5 : Memref sig .tc .vmem S1x1x2048x1024 .f32) (harg5 : arg5.IsWhole) (arg6 : Memref sig .tc .vmem S1x1x1x1024 .f32) (harg6 : arg6.IsWhole) (arg7 : Memref sig .tc .vmem S256x1024 .f32) (harg7 : arg7.IsWhole) (arg8 : Memref sig .tc .vmem S2048x1024 .bf16) (harg8 : arg8.IsWhole)
  (x0 : Vec F S256x2048 .bf16) (x1 : Vec F S1x1x2048x1024 .f32) (x2 : Vec F S1x1x1x1024 .f32) (xt0 : TbBuf0 (F := F) c tbM0_0) (xt1 : TbBuf0 (F := F) c tbM0_1)

set_option maxHeartbeats 1000000 in
/-- The pieces the body leaves in the output's staging buffer and in the scratch, with the proof that the body, run on whole staging buffers and the two tables, ends with them written and everything else as it was: the expert is new and the tile holds rows. -/
noncomputable def kernelRun0_A (hc0 : cond0_0 c i xt0) (hc1 : cond0_1 c i xt1) (hc2 : ¬cond0_2 c i xt1) :
    Σ' (L3 : List (View.Piece (Elt F) S256x1024 .f32)), { LS0 : List (View.Piece (Elt F) S2048x1024 .bf16) //
      ∀ (E : Set ℕ) (K : PUnit → sProp 𝕄),
        iprop(owns c.tc arg4 fullShare x0 ∗ owns c.tc arg5 fullShare x1 ∗ owns c.tc arg6 fullShare x2 ∗ (∃ d, owns c.tc arg7 fullShare d) ∗ (∃ d, owns c.tc arg8 fullShare d) ∗ tbPt0 c tbM0_0 xt0 ∗ tbPt0 c tbM0_1 xt1
            ∗ (iprop(owns c.tc arg4 fullShare x0 ∗ owns c.tc arg5 fullShare x1 ∗ owns c.tc arg6 fullShare x2 ∗ (∃ f, arg7.view.loc c.tc ↦[arg7.view.set]{fullShare} arg7.view.writes (Elt F) f L3) ∗ (∃ f, arg8.view.loc c.tc ↦[arg8.view.set]{fullShare} arg8.view.writes (Elt F) f LS0) ∗ tbPt0 c tbM0_0 xt0 ∗ tbPt0 c tbM0_1 xt1) -∗ K ⟨⟩))
          ⊢ wp frame (wpE (defs₀ (F := F)) Variants.none c none) E (cc0_expert_down i tbM0_0 htbM0_0 tbM0_1 htbM0_1 arg4 harg4 arg5 harg5 arg6 harg6 arg7 harg7 arg8 harg8) K } := by
  refine ⟨?_, ?_, fun E K => ?run⟩
  case run =>
    simp only [cc0_expert_down_eq_skeleton]; unfold cc0_expert_down_skel
    unfold owns
    iintro ⟨⟨%f0, %hf0, H0⟩, ⟨%f1, %hf1, H1⟩, ⟨%f2, %hf2, H2⟩, ⟨%d3, %f3, -, H3⟩, ⟨%ds0, %fs0, -, HS0⟩, HT0, HT1, Hk⟩
    obtain rfl := harg4.eq_unread hf0; obtain rfl := harg5.eq_unread hf1; obtain rfl := harg6.eq_unread hf2
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HS0]; · iexists _; iexact HS0
    isplitl [HT0]; · iexact HT0
    iexact HT1

set_option maxHeartbeats 1000000 in
/-- The same pieces where the expert is new and the tile holds no row. -/
noncomputable def kernelRun0_B (hc0 : cond0_0 c i xt0) (hc1 : ¬cond0_1 c i xt1) (hc2 : cond0_2 c i xt1) :
    Σ' (L3 : List (View.Piece (Elt F) S256x1024 .f32)), { LS0 : List (View.Piece (Elt F) S2048x1024 .bf16) //
      ∀ (E : Set ℕ) (K : PUnit → sProp 𝕄),
        iprop(owns c.tc arg4 fullShare x0 ∗ owns c.tc arg5 fullShare x1 ∗ owns c.tc arg6 fullShare x2 ∗ (∃ d, owns c.tc arg7 fullShare d) ∗ (∃ d, owns c.tc arg8 fullShare d) ∗ tbPt0 c tbM0_0 xt0 ∗ tbPt0 c tbM0_1 xt1
            ∗ (iprop(owns c.tc arg4 fullShare x0 ∗ owns c.tc arg5 fullShare x1 ∗ owns c.tc arg6 fullShare x2 ∗ (∃ f, arg7.view.loc c.tc ↦[arg7.view.set]{fullShare} arg7.view.writes (Elt F) f L3) ∗ (∃ f, arg8.view.loc c.tc ↦[arg8.view.set]{fullShare} arg8.view.writes (Elt F) f LS0) ∗ tbPt0 c tbM0_0 xt0 ∗ tbPt0 c tbM0_1 xt1) -∗ K ⟨⟩))
          ⊢ wp frame (wpE (defs₀ (F := F)) Variants.none c none) E (cc0_expert_down i tbM0_0 htbM0_0 tbM0_1 htbM0_1 arg4 harg4 arg5 harg5 arg6 harg6 arg7 harg7 arg8 harg8) K } := by
  refine ⟨?_, ?_, fun E K => ?run⟩
  case run =>
    simp only [cc0_expert_down_eq_skeleton]; unfold cc0_expert_down_skel
    unfold owns
    iintro ⟨⟨%f0, %hf0, H0⟩, ⟨%f1, %hf1, H1⟩, ⟨%f2, %hf2, H2⟩, ⟨%d3, %f3, -, H3⟩, ⟨%ds0, %fs0, -, HS0⟩, HT0, HT1, Hk⟩
    obtain rfl := harg4.eq_unread hf0; obtain rfl := harg5.eq_unread hf1; obtain rfl := harg6.eq_unread hf2
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HS0]; · iexists _; iexact HS0
    isplitl [HT0]; · iexact HT0
    iexact HT1

set_option maxHeartbeats 1000000 in
/-- The pieces the body leaves in the output's staging buffer, with the proof that the body, run on whole staging buffers and the two tables, ends with them written and everything else as it was: the expert is the one before and the tile holds rows. -/
noncomputable def kernelRun0_C (xs0 : Vec F S2048x1024 .bf16) (hc0 : ¬cond0_0 c i xt0) (hc1 : cond0_1 c i xt1) (hc2 : ¬cond0_2 c i xt1) :
    { L3 : List (View.Piece (Elt F) S256x1024 .f32) //
      ∀ (E : Set ℕ) (K : PUnit → sProp 𝕄),
        iprop(owns c.tc arg4 fullShare x0 ∗ owns c.tc arg5 fullShare x1 ∗ owns c.tc arg6 fullShare x2 ∗ (∃ d, owns c.tc arg7 fullShare d) ∗ owns c.tc arg8 fullShare xs0 ∗ tbPt0 c tbM0_0 xt0 ∗ tbPt0 c tbM0_1 xt1
            ∗ (iprop(owns c.tc arg4 fullShare x0 ∗ owns c.tc arg5 fullShare x1 ∗ owns c.tc arg6 fullShare x2 ∗ (∃ f, arg7.view.loc c.tc ↦[arg7.view.set]{fullShare} arg7.view.writes (Elt F) f L3) ∗ owns c.tc arg8 fullShare xs0 ∗ tbPt0 c tbM0_0 xt0 ∗ tbPt0 c tbM0_1 xt1) -∗ K ⟨⟩))
          ⊢ wp frame (wpE (defs₀ (F := F)) Variants.none c none) E (cc0_expert_down i tbM0_0 htbM0_0 tbM0_1 htbM0_1 arg4 harg4 arg5 harg5 arg6 harg6 arg7 harg7 arg8 harg8) K } := by
  refine ⟨?_, fun E K => ?run⟩
  case run =>
    simp only [cc0_expert_down_eq_skeleton]; unfold cc0_expert_down_skel
    unfold owns
    iintro ⟨⟨%f0, %hf0, H0⟩, ⟨%f1, %hf1, H1⟩, ⟨%f2, %hf2, H2⟩, ⟨%d3, %f3, -, H3⟩, ⟨%fs0, %hfs0, HS0⟩, HT0, HT1, Hk⟩
    obtain rfl := harg4.eq_unread hf0; obtain rfl := harg5.eq_unread hf1; obtain rfl := harg6.eq_unread hf2; obtain rfl := harg8.eq_unread hfs0
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HS0]
    · iexists _; isplitr; · ipureintro; exact harg8.read_unread _
      iexact HS0
    isplitl [HT0]; · iexact HT0
    iexact HT1

set_option maxHeartbeats 1000000 in
/-- The same pieces where the expert is the one before and the tile holds no row. -/
noncomputable def kernelRun0_D (xs0 : Vec F S2048x1024 .bf16) (hc0 : ¬cond0_0 c i xt0) (hc1 : ¬cond0_1 c i xt1) (hc2 : cond0_2 c i xt1) :
    { L3 : List (View.Piece (Elt F) S256x1024 .f32) //
      ∀ (E : Set ℕ) (K : PUnit → sProp 𝕄),
        iprop(owns c.tc arg4 fullShare x0 ∗ owns c.tc arg5 fullShare x1 ∗ owns c.tc arg6 fullShare x2 ∗ (∃ d, owns c.tc arg7 fullShare d) ∗ owns c.tc arg8 fullShare xs0 ∗ tbPt0 c tbM0_0 xt0 ∗ tbPt0 c tbM0_1 xt1
            ∗ (iprop(owns c.tc arg4 fullShare x0 ∗ owns c.tc arg5 fullShare x1 ∗ owns c.tc arg6 fullShare x2 ∗ (∃ f, arg7.view.loc c.tc ↦[arg7.view.set]{fullShare} arg7.view.writes (Elt F) f L3) ∗ owns c.tc arg8 fullShare xs0 ∗ tbPt0 c tbM0_0 xt0 ∗ tbPt0 c tbM0_1 xt1) -∗ K ⟨⟩))
          ⊢ wp frame (wpE (defs₀ (F := F)) Variants.none c none) E (cc0_expert_down i tbM0_0 htbM0_0 tbM0_1 htbM0_1 arg4 harg4 arg5 harg5 arg6 harg6 arg7 harg7 arg8 harg8) K } := by
  refine ⟨?_, fun E K => ?run⟩
  case run =>
    simp only [cc0_expert_down_eq_skeleton]; unfold cc0_expert_down_skel
    unfold owns
    iintro ⟨⟨%f0, %hf0, H0⟩, ⟨%f1, %hf1, H1⟩, ⟨%f2, %hf2, H2⟩, ⟨%d3, %f3, -, H3⟩, ⟨%fs0, %hfs0, HS0⟩, HT0, HT1, Hk⟩
    obtain rfl := harg4.eq_unread hf0; obtain rfl := harg5.eq_unread hf1; obtain rfl := harg6.eq_unread hf2; obtain rfl := harg8.eq_unread hfs0
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HS0]
    · iexists _; isplitr; · ipureintro; exact harg8.read_unread _
      iexact HS0
    isplitl [HT0]; · iexact HT0
    iexact HT1

end Cert.Kernel3Ideal.Gen

end
-- ==== Proof.Kernel3IdealFrame.lean ====
module

public import proofs.«01_k».proof.Proof.Kernel3IdealRuns
public import Idealize.ShloMosaic.Lib.Claim
public import Idealize.ShloMosaic.Lib.Pipeline.ValueKit.Acc

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- A grid point, the buffers of its blocks and scratches, and what the blocks and the two tables hold.
variable (c : Dev nD) (i : grid0.Coords) (arg4 : Memref sig .tc .vmem S256x2048 .bf16) (harg4 : arg4.IsWhole) (arg5 : Memref sig .tc .vmem S1x1x2048x1024 .f32) (harg5 : arg5.IsWhole) (arg6 : Memref sig .tc .vmem S1x1x1x1024 .f32) (harg6 : arg6.IsWhole) (arg7 : Memref sig .tc .vmem S256x1024 .f32) (harg7 : arg7.IsWhole) (arg8 : Memref sig .tc .vmem S2048x1024 .bf16) (harg8 : arg8.IsWhole)
  (x0 : Vec F S256x2048 .bf16) (x1 : Vec F S1x1x2048x1024 .f32) (x2 : Vec F S1x1x1x1024 .f32) (xt0 : TbBuf0 (F := F) c tbM0_0) (xt1 : TbBuf0 (F := F) c tbM0_1)

/-- Case A: the stored pieces cover the output block. -/
theorem cover0_A (hc0 : cond0_0 c i xt0) (hc1 : cond0_1 c i xt1) (hc2 : ¬cond0_2 c i xt1) (y : S256x1024.Idx) :
    ∃ pc ∈ (kernelRun0_A c i arg4 harg4 arg5 harg5 arg6 harg6 arg7 harg7 arg8 harg8 x0 x1 x2 xt0 xt1 hc0 hc1 hc2).1, y ∈ pc.1.set :=
  View.cover_of_tiledL _ S256x1024.size (by sl_kernel_rfl) y

/-- Case A: the output block ends at the product with the freshly converted expert matrix plus the bias. -/
theorem val0_A (hc0 : cond0_0 c i xt0) (hc1 : cond0_1 c i xt1) (hc2 : ¬cond0_2 c i xt1) (f) :
    arg7.view.read (Elt F) (arg7.view.writes (Elt F) f (kernelRun0_A c i arg4 harg4 arg5 harg5 arg6 harg6 arg7 harg7 arg8 harg8 x0 x1 x2 xt0 xt1 hc0 hc1 hc2).1) = k0_pay2 x0 (k0_pay1 x1) x2 := by
  rw [View.read_writes_eq_canon _ _ _ (cover0_A _ _ _ _ _ _ _ _ _ _ _ _ _ _ _ _ _ _ _ _)]
  unfold kernelRun0_A kernelRun0_A.sl.v22 kernelRun0_A.sl.HS0_1
  simp (disch := decide) only [View.canon_cons_unit_lit', View.ld_unit_lit', View.readCov_unit_lit', View.readCov_cons_unit_lit', View.readAt_eq_ld, Memref.IsWhole.read_unread]

/-- Case A: the stored pieces cover the scratch. -/
theorem scover0_A (hc0 : cond0_0 c i xt0) (hc1 : cond0_1 c i xt1) (hc2 : ¬cond0_2 c i xt1) (y : S2048x1024.Idx) :
    ∃ pc ∈ (kernelRun0_A c i arg4 harg4 arg5 harg5 arg6 harg6 arg7 harg7 arg8 harg8 x0 x1 x2 xt0 xt1 hc0 hc1 hc2).2.1, y ∈ pc.1.set :=
  View.cover_of_tiledL _ S2048x1024.size (by sl_kernel_rfl) y

/-- Case A: the scratch ends at the converted expert matrix. -/
theorem sval0_A (hc0 : cond0_0 c i xt0) (hc1 : cond0_1 c i xt1) (hc2 : ¬cond0_2 c i xt1) (f) :
    arg8.view.read (Elt F) (arg8.view.writes (Elt F) f (kernelRun0_A c i arg4 harg4 arg5 harg5 arg6 harg6 arg7 harg7 arg8 harg8 x0 x1 x2 xt0 xt1 hc0 hc1 hc2).2.1) = k0_pay1 x1 := by
  rw [View.read_writes_eq_canon _ _ _ (scover0_A _ _ _ _ _ _ _ _ _ _ _ _ _ _ _ _ _ _ _ _)]
  unfold kernelRun0_A kernelRun0_A.sl.HS0_1
  simp (disch := decide) only [View.canon_cons_unit_lit', View.ld_unit_lit', View.readCov_unit_lit', View.readCov_cons_unit_lit', View.readAt_eq_ld, Memref.IsWhole.read_unread]

/-- Case B: the stored pieces cover the output block. -/
theorem cover0_B (hc0 : cond0_0 c i xt0) (hc1 : ¬cond0_1 c i xt1) (hc2 : cond0_2 c i xt1) (y : S256x1024.Idx) :
    ∃ pc ∈ (kernelRun0_B c i arg4 harg4 arg5 harg5 arg6 harg6 arg7 harg7 arg8 harg8 x0 x1 x2 xt0 xt1 hc0 hc1 hc2).1, y ∈ pc.1.set :=
  View.cover_of_tiledL _ S256x1024.size (by sl_kernel_rfl) y

/-- Case B: the output block ends at zero. -/
theorem val0_B (hc0 : cond0_0 c i xt0) (hc1 : ¬cond0_1 c i xt1) (hc2 : cond0_2 c i xt1) (f) :
    arg7.view.read (Elt F) (arg7.view.writes (Elt F) f (kernelRun0_B c i arg4 harg4 arg5 harg5 arg6 harg6 arg7 harg7 arg8 harg8 x0 x1 x2 xt0 xt1 hc0 hc1 hc2).1) = k0_pay3 := by
  rw [View.read_writes_eq_canon _ _ _ (cover0_B _ _ _ _ _ _ _ _ _ _ _ _ _ _ _ _ _ _ _ _)]
  unfold kernelRun0_B
  simp (disch := decide) only [View.canon_cons_unit_lit', View.ld_unit_lit', View.readCov_unit_lit', View.readCov_cons_unit_lit', View.readAt_eq_ld, Memref.IsWhole.read_unread]

/-- Case B: the stored pieces cover the scratch. -/
theorem scover0_B (hc0 : cond0_0 c i xt0) (hc1 : ¬cond0_1 c i xt1) (hc2 : cond0_2 c i xt1) (y : S2048x1024.Idx) :
    ∃ pc ∈ (kernelRun0_B c i arg4 harg4 arg5 harg5 arg6 harg6 arg7 harg7 arg8 harg8 x0 x1 x2 xt0 xt1 hc0 hc1 hc2).2.1, y ∈ pc.1.set :=
  View.cover_of_tiledL _ S2048x1024.size (by sl_kernel_rfl) y

/-- Case B: the scratch ends at the converted expert matrix. -/
theorem sval0_B (hc0 : cond0_0 c i xt0) (hc1 : ¬cond0_1 c i xt1) (hc2 : cond0_2 c i xt1) (f) :
    arg8.view.read (Elt F) (arg8.view.writes (Elt F) f (kernelRun0_B c i arg4 harg4 arg5 harg5 arg6 harg6 arg7 harg7 arg8 harg8 x0 x1 x2 xt0 xt1 hc0 hc1 hc2).2.1) = k0_pay1 x1 := by
  rw [View.read_writes_eq_canon _ _ _ (scover0_B _ _ _ _ _ _ _ _ _ _ _ _ _ _ _ _ _ _ _ _)]
  unfold kernelRun0_B
  simp (disch := decide) only [View.canon_cons_unit_lit', View.ld_unit_lit', View.readCov_unit_lit', View.readCov_cons_unit_lit', View.readAt_eq_ld, Memref.IsWhole.read_unread]

/-- Case C: the stored pieces cover the output block. -/
theorem cover0_C (xs0 : Vec F S2048x1024 .bf16) (hc0 : ¬cond0_0 c i xt0) (hc1 : cond0_1 c i xt1) (hc2 : ¬cond0_2 c i xt1) (y : S256x1024.Idx) :
    ∃ pc ∈ (kernelRun0_C c i arg4 harg4 arg5 harg5 arg6 harg6 arg7 harg7 arg8 harg8 x0 x1 x2 xt0 xt1 xs0 hc0 hc1 hc2).1, y ∈ pc.1.set :=
  View.cover_of_tiledL _ S256x1024.size (by sl_kernel_rfl) y

/-- Case C: the output block ends at the product with the matrix the scratch holds plus the bias. -/
theorem val0_C (xs0 : Vec F S2048x1024 .bf16) (hc0 : ¬cond0_0 c i xt0) (hc1 : cond0_1 c i xt1) (hc2 : ¬cond0_2 c i xt1) (f) :
    arg7.view.read (Elt F) (arg7.view.writes (Elt F) f (kernelRun0_C c i arg4 harg4 arg5 harg5 arg6 harg6 arg7 harg7 arg8 harg8 x0 x1 x2 xt0 xt1 xs0 hc0 hc1 hc2).1) = k0_pay2 x0 xs0 x2 := by
  rw [View.read_writes_eq_canon _ _ _ (cover0_C _ _ _ _ _ _ _ _ _ _ _ _ _ _ _ _ _ _ _ _ _)]
  unfold kernelRun0_C
  simp (disch := decide) only [View.canon_cons_unit_lit', View.ld_unit_lit', View.readCov_unit_lit', View.readCov_cons_unit_lit', View.readAt_eq_ld, Memref.IsWhole.read_unread]

/-- Case D: the stored pieces cover the output block. -/
theorem cover0_D (xs0 : Vec F S2048x1024 .bf16) (hc0 : ¬cond0_0 c i xt0) (hc1 : ¬cond0_1 c i xt1) (hc2 : cond0_2 c i xt1) (y : S256x1024.Idx) :
    ∃ pc ∈ (kernelRun0_D c i arg4 harg4 arg5 harg5 arg6 harg6 arg7 harg7 arg8 harg8 x0 x1 x2 xt0 xt1 xs0 hc0 hc1 hc2).1, y ∈ pc.1.set :=
  View.cover_of_tiledL _ S256x1024.size (by sl_kernel_rfl) y

/-- Case D: the output block ends at zero. -/
theorem val0_D (xs0 : Vec F S2048x1024 .bf16) (hc0 : ¬cond0_0 c i xt0) (hc1 : ¬cond0_1 c i xt1) (hc2 : cond0_2 c i xt1) (f) :
    arg7.view.read (Elt F) (arg7.view.writes (Elt F) f (kernelRun0_D c i arg4 harg4 arg5 harg5 arg6 harg6 arg7 harg7 arg8 harg8 x0 x1 x2 xt0 xt1 xs0 hc0 hc1 hc2).1) = k0_pay3 := by
  rw [View.read_writes_eq_canon _ _ _ (cover0_D _ _ _ _ _ _ _ _ _ _ _ _ _ _ _ _ _ _ _ _ _)]
  unfold kernelRun0_D
  simp (disch := decide) only [View.canon_cons_unit_lit', View.ld_unit_lit', View.readCov_unit_lit', View.readCov_cons_unit_lit', View.readAt_eq_ld, Memref.IsWhole.read_unread]

/-- The grid's coordinates at a point: the column block, -/
theorem coords_0 (t : Fin grid0.N) : (grid0.coords t 0).val = t.val / 161 := by
  have e : (grid0.coords t 0).val = t.val / 161 % 2 := Pipeline.Grid.coords_val t 0 (by decide) rfl
  have ht : t.val < 322 := Nat.lt_of_lt_of_eq t.isLt N_0
  omega
/-- and the tile. -/
theorem coords_1 (t : Fin grid0.N) : (grid0.coords t 1).val = t.val % 161 := by
  have e : (grid0.coords t 1).val = t.val / 1 % 161 := Pipeline.Grid.coords_val t 1 (by decide) rfl
  rw [e, Nat.div_one]

/-! ## What the scratch and the output block hold after each point -/

/-- The scratch after the point at position `n`: the converted expert matrix of the last point at or before it at which the first branch is taken. -/
def scrAt (hO : Ok m) (c : Dev nD) : (n : ℕ) → n < (cfgM m hO).N → Vec F S2048x1024 .bf16
  | 0, hn => k0_pay1 (iblk m hO c 1 ⟨0, hn⟩)
  | n + 1, hn =>
    haveI := Classical.propDecidable (cond0_0 c (grid0.coords ⟨n + 1, hn⟩) (tbl m 0))
    if cond0_0 c (grid0.coords ⟨n + 1, hn⟩) (tbl m 0) then k0_pay1 (iblk m hO c 1 ⟨n + 1, hn⟩) else scrAt hO c n (Nat.lt_of_succ_lt hn)

/-- Where the first branch is taken the scratch ends at the point's converted expert matrix. -/
theorem scrAt_new (hO : Ok m) (c : Dev nD) (t : Fin (cfgM m hO).N) (h : cond0_0 c (grid0.coords t) (tbl m 0)) :
    scrAt m hO c t.val t.isLt = k0_pay1 (iblk m hO c 1 t) := by
  obtain ⟨n, hn⟩ := t
  cases n with
  | zero => rfl
  | succ n => exact if_pos h

/-- Elsewhere it keeps what the point before left. -/
theorem scrAt_old (hO : Ok m) (c : Dev nD) (t : Fin (cfgM m hO).N) (hz : t.val ≠ 0) (h : ¬cond0_0 c (grid0.coords t) (tbl m 0)) :
    scrAt m hO c t.val t.isLt = scrAt m hO c (t.val - 1) (Nat.lt_of_le_of_lt (Nat.sub_le _ _) t.isLt) := by
  obtain ⟨n, hn⟩ := t
  cases n with
  | zero => exact absurd rfl hz
  | succ n => exact if_neg h

/-- The output block after point `t`: the product with the scratch's matrix plus the bias where the tile holds rows, zero elsewhere. -/
def outAt (hO : Ok m) (c : Dev nD) (t : Fin (cfgM m hO).N) : Vec F S256x1024 .f32 :=
  haveI := Classical.propDecidable (cond0_1 c (grid0.coords t) (tbl m 1))
  if cond0_1 c (grid0.coords t) (tbl m 1) then k0_pay2 (iblk m hO c 0 t) (scrAt m hO c t.val t.isLt) (iblk m hO c 2 t) else k0_pay3

/-- The region invariant before position `n`: at first every scratch at anything; afterwards the scratch at what the point before left. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns c.tc scM0_0 fullShare (scrAt m hO c n hn)) ∗ (∃ r, prngReg c r)) ∗ Pipeline.ΦT pre0 (tbl m) c)

/-- Before the first point: every scratch at anything. -/
theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n`: the scratch at that point's contents. -/
theorem PhiS_succ (hO : Ok m) (c : Dev nD) (n : ℕ) (hn : n < (cfgM m hO).N) :
    PhiS m hO c (n + 1) hn = iprop(iprop(iprop(owns c.tc scM0_0 fullShare (scrAt m hO c n hn)) ∗ (∃ r, prngReg c r)) ∗ Pipeline.ΦT pre0 (tbl m) c) := rfl

/-- Before a point that is not the first: the scratch at what the point before left. -/
theorem PhiS_pos (hO : Ok m) (c : Dev nD) (n : ℕ) (h : n ≤ (cfgM m hO).N) (hz : n ≠ 0) :
    PhiS m hO c n h = iprop(iprop(iprop(owns c.tc scM0_0 fullShare (scrAt m hO c (n - 1) (by omega))) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outAt`; the invariant the class's
     and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outAt m hO c t
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = outAt m hO c t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-! ## The body obligation, at a generic point -/

/-- What the body is called with at point `t` , -/
def bodyPre (hO : Ok m) (c : Dev nD) (t : Fin (cfgM m hO).N) : sProp 𝕄 :=
  iprop((dats m hO 0 c).Φ t.castSucc ∗ (dats m hO 0 c).owesAt () t.castSucc
    ∗ (∃ d, owns c.tc (ms0_0 m hO t) fullShare ((dats m hO 0 c).before 0 t d))
    ∗ (∃ d, owns c.tc (ms0_1 m hO t) fullShare ((dats m hO 0 c).before 1 t d))
    ∗ (∃ d, owns c.tc (ms0_2 m hO t) fullShare ((dats m hO 0 c).before 2 t d))
    ∗ (∃ d, owns c.tc (ms0_3 m hO t) fullShare ((dats m hO 0 c).before 3 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t)

set_option maxHeartbeats 6400000 in
/-- The body at any point: by cases on the three branches, the run of the case applies to the blocks the pipeline hands it and the scratch the point before left. -/
theorem sound_body (hO : Ok m) (hL : Live m) (c : Dev nD) (t : Fin (cfgM m hO).N) :
    bodyPre m hO c t ⊢ wp frame (wpE (defs₀ (F := F)) Variants.none c none) Set.univ (bodyAt0 (adm m hO) t) (fun _ => bodyPost m hO c t) := by
  have hl : (cond0_1 c (grid0.coords t) (tbl m 1) ∨ cond0_2 c (grid0.coords t) (tbl m 1)) ∧ ¬(cond0_1 c (grid0.coords t) (tbl m 1) ∧ cond0_2 c (grid0.coords t) (tbl m 1)) := by
    obtain rfl : c = 0 := Subsingleton.elim _ _
    exact hL (grid0.coords t)
  have hfirst : t.val = 0 → cond0_0 c (grid0.coords t) (tbl m 0) := fun hz => cond0_first c _ _ (by
    rw [coords_1 t, hz])
  unfold bodyPre bodyPost bodyAt0
  simp only [before0_0, before0_1, before0_2]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  rw [show (dats m hO 0 c).leavesExact 0 t = owns c.tc (ms0_0 m hO t) fullShare ((dats m hO 0 c).after 0 t) from by
      unfold Dat.leavesExact; rw [liveAt0_0 m hO t]; try rfl, after0_0]
  rw [show (dats m hO 0 c).leavesExact 1 t = owns c.tc (ms0_1 m hO t) fullShare ((dats m hO 0 c).after 1 t) from by
      unfold Dat.leavesExact; rw [liveAt0_1 m hO t]; try rfl, after0_1]
  rw [show (dats m hO 0 c).leavesExact 2 t = owns c.tc (ms0_2 m hO t) fullShare ((dats m hO 0 c).after 2 t) from by
      unfold Dat.leavesExact; rw [liveAt0_2 m hO t]; try rfl, after0_2]
  rw [show (dats m hO 0 c).leavesExact 3 t = owns c.tc (ms0_3 m hO t) fullShare ((dats m hO 0 c).after 3 t) from by
      unfold Dat.leavesExact; rw [liveAt0_3 m hO hL t]; try rfl, after0_3]
  by_cases h0 : cond0_0 c (grid0.coords t) (tbl m 0)
  · by_cases h1 : cond0_1 c (grid0.coords t) (tbl m 1)
    case' pos =>
      have h2 : ¬cond0_2 c (grid0.coords t) (tbl m 1) := fun h => hl.2 ⟨h1, h⟩
    case' neg =>
      have h2 : cond0_2 c (grid0.coords t) (tbl m 1) := hl.1.resolve_left h1
    all_goals
      by_cases hz : t.val = 0
      case' pos => rw [PhiS_castSucc m hO c t, PhiS_zero m hO c _ _ hz, PhiT0_eq, PhiA0_eq]
      case' neg => rw [PhiS_castSucc m hO c t, PhiS_pos m hO c _ _ hz, PhiT0_eq]
      all_goals
        rw [scrAt_new m hO c t h0]
        iintro ⟨⟨⟨HS0, Hg⟩, ⟨HT0, HT1⟩⟩, Ho, ⟨%d0, H0⟩, ⟨%d1, H1⟩, ⟨%d2, H2⟩, ⟨%d3, H3⟩⟩
        first
          | (iapply ((kernelRun0_A c (grid0.coords t) _ _ _ _ _ _ _ _ _ _ (iblk m hO c 0 t) (iblk m hO c 1 t) (iblk m hO c 2 t) (tbl m 0) (tbl m 1) h0 h1 h2).2.2 Set.univ _))
          | (iapply ((kernelRun0_B c (grid0.coords t) _ _ _ _ _ _ _ _ _ _ (iblk m hO c 0 t) (iblk m hO c 1 t) (iblk m hO c 2 t) (tbl m 0) (tbl m 1) h0 h1 h2).2.2 Set.univ _))
        isplitl [H0]; · iexact H0
        isplitl [H1]; · iexact H1
        isplitl [H2]; · iexact H2
        isplitl [H3]; · iexists _; iexact H3
        isplitl [HS0]; · first | iexact HS0 | (iexists _; iexact HS0)
        isplitl [HT0]; · iexact HT0
        isplitl [HT1]; · iexact HT1
        iintro ⟨H0, H1, H2, ⟨%e3, H3⟩, ⟨%es0, HS0⟩, HT0, HT1⟩
        isplitl [HS0 Hg HT0 HT1]
        · isplitl [HS0 Hg]
          · isplitl [HS0]
            · unfold owns; iexists _; isplitr
              swap; · iexact HS0
              ipureintro; first | (have _ : cond0_1 c (grid0.coords t) (tbl m 1) := h1; exact sval0_A ..) | exact sval0_B ..
            iexact Hg
          isplitl [HT0]; · iexact HT0
          iexact HT1
        isplitl [Ho]; · iexact Ho
        isplitl [H0]; · iexact H0
        isplitl [H1]; · iexact H1
        isplitl [H2]; · iexact H2
        unfold owns; iexists _; isplitr
        swap; · iexact H3
        ipureintro; first | (have _ : cond0_1 c (grid0.coords t) (tbl m 1) := h1; exact (val0_A ..).trans (Eq.symm ((if_pos h1).trans (by rw [scrAt_new m hO c t h0])))) | exact (val0_B ..).trans (Eq.symm (if_neg h1))
  · have hz : t.val ≠ 0 := fun hz => h0 (hfirst hz)
    by_cases h1 : cond0_1 c (grid0.coords t) (tbl m 1)
    case' pos =>
      have h2 : ¬cond0_2 c (grid0.coords t) (tbl m 1) := fun h => hl.2 ⟨h1, h⟩
    case' neg =>
      have h2 : cond0_2 c (grid0.coords t) (tbl m 1) := hl.1.resolve_left h1
    all_goals
      rw [PhiS_castSucc m hO c t, PhiS_pos m hO c _ _ hz, PhiT0_eq]
      rw [scrAt_old m hO c t hz h0]
      iintro ⟨⟨⟨HS0, Hg⟩, ⟨HT0, HT1⟩⟩, Ho, ⟨%d0, H0⟩, ⟨%d1, H1⟩, ⟨%d2, H2⟩, ⟨%d3, H3⟩⟩
      first
        | (iapply ((kernelRun0_C c (grid0.coords t) _ _ _ _ _ _ _ _ _ _ (iblk m hO c 0 t) (iblk m hO c 1 t) (iblk m hO c 2 t) (tbl m 0) (tbl m 1) _ h0 h1 h2).2 Set.univ _))
        | (iapply ((kernelRun0_D c (grid0.coords t) _ _ _ _ _ _ _ _ _ _ (iblk m hO c 0 t) (iblk m hO c 1 t) (iblk m hO c 2 t) (tbl m 0) (tbl m 1) _ h0 h1 h2).2 Set.univ _))
      isplitl [H0]; · iexact H0
      isplitl [H1]; · iexact H1
      isplitl [H2]; · iexact H2
      isplitl [H3]; · iexists _; iexact H3
      isplitl [HS0]; · iexact HS0
      isplitl [HT0]; · iexact HT0
      isplitl [HT1]; · iexact HT1
      iintro ⟨H0, H1, H2, ⟨%e3, H3⟩, HS0, HT0, HT1⟩
      isplitl [HS0 Hg HT0 HT1]
      · isplitl [HS0 Hg]
        · isplitl [HS0]
          · iexact HS0
          iexact Hg
        isplitl [HT0]; · iexact HT0
        iexact HT1
      isplitl [Ho]; · iexact Ho
      isplitl [H0]; · iexact H0
      isplitl [H1]; · iexact H1
      isplitl [H2]; · iexact H2
      unfold owns; iexists _; isplitr
      swap; · iexact H3
      ipureintro; first | (have _ : cond0_1 c (grid0.coords t) (tbl m 1) := h1; exact (val0_C ..).trans (Eq.symm ((if_pos h1).trans (by rw [scrAt_old m hO c t hz h0])))) | exact (val0_D ..).trans (Eq.symm (if_neg h1))

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated . -/
theorem body_obligation (hO : Ok m) (hL : Live m) (c : Dev nD) : BodyObligation (dats (F := F) m hO 0 c) (defs₀ (F := F)) Variants.none () Set.univ := fun t => by
  rw [bigSep_W0, bigSep_W0, defs₀_row m hO]
  exact triple_restated (sound_body m hO hL c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨HS0, Hg⟩, -⟩
  isplitl [HS0]
  · iexists _; iexact HS0
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 322 := N_0; omega)

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hL : Live m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO hL c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it . -/
theorem run_main (hO : Ok m) (hL : Live m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO hL)

/-- `frame` without the counters: the argument arrays end unchanged. -/
theorem unchanged (hO : Ok m) (hL : Live m) : θ_run defs (onTc (τ := τ) (main (F := F))) ⟨m, fun _ => 0, ρ⟩ (fun r => ∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)) :=
  frame_of m ρ hO (dats m hO) (A_eq m hO) (run_main m ρ hO hL)

/-- The frame: from any memory with zero counters, under the two conditions on the tables, every weakly fair execution terminates with the argument arrays unchanged and every counter at zero. -/
theorem frame (hO : Ok m) (hL : Live m) : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4))
      ∧ r.2.sem = fun _ => 0) :=
  θ_run_and (unchanged m ρ hO hL) ((θ_run defs _ _).mono (fun _ h => h.2) (run_main_quiescent m ρ hO hL))

end Cert.Kernel3Ideal.Gen

end
-- ==== Proof.Kernel3IdealWords.lean ====
/- The words of the two tables under the down projection's precondition: the pipeline's side condition, the branches the
   body takes, and the block indices the expert words give. -/
module

public import proofs.«01_k».proof.Proof.Kernel3IdealFrame
public import proofs.«01_k».proof.Pre_tiles_named_down
public import proofs.«01_k».proof.Proof.Gen.Pre_tiles_named_down
public import Idealize.ShloMosaic.Lib.StableHlo.Predicate
public import Idealize.ShloMosaic.Lib.ValueIdx

@[expose] public section

set_option maxRecDepth 16384

noncomputable section

namespace Cert.Kernel3Ideal.Gen

open Idealize.ShloMosaic Idealize.ShloMosaic.TcCoe Idealize.SL.Sem

variable {F : FTy → Type} [FloatOps F]
variable (m : (ℓ : Loc nD τ sig) → Buf (Elt F) ℓ)

/-- The expert table the launch memory holds. -/
abbrev te : IVec S161 32 := m (((0 : Dev nD) : Thread nD τ).loc main_arg0)
/-- The row-count table the launch memory holds. -/
abbrev tv : IVec S161 32 := m (((0 : Dev nD) : Thread nD τ).loc main_arg1)

/-- Every expert word names one of the 32 experts, and no row-count word is negative. -/
def Words : Prop := (∀ x, (te m x).toNat ≤ 31) ∧ ∀ x, 0 ≤ (tv m x).toInt

theorem tbl_0 : tbl m 0 = te m := V_arg m 0 main_arg0 (by simp)
theorem tbl_1 : tbl m 1 = tv m := V_arg m 0 main_arg1 (by simp)

/-- The precondition's bit at one tile. -/
theorem words_bit (a b : BitVec 32)
    (h : IntOp.andi (IntOp.andi (IntOp.cmpi .sge a 0#32) (IntOp.cmpi .sle a 31#32)) (IntOp.cmpi .sge b 0#32) = 1#1) :
    a.toNat ≤ 31 ∧ 0 ≤ b.toInt := by
  have key : ∀ p q r : Bool, IntOp.andi (IntOp.andi (BitVec.ofBool p) (BitVec.ofBool q)) (BitVec.ofBool r) = 1#1 → p = true ∧ q = true ∧ r = true := by decide
  obtain ⟨h1, h2, h3⟩ := key _ _ _ h
  simp only [BitVec.sle, decide_eq_true_eq] at h1 h2 h3
  have e0 : (0#32 : BitVec 32).toInt = 0 := by decide
  have e31 : (31#32 : BitVec 32).toInt = 31 := by decide
  rw [e0] at h1 h3
  rw [e31] at h2
  refine ⟨?_, h3⟩
  rw [BitVec.toInt_eq_toNat_cond] at h1 h2
  have := a.isLt
  split at h1 <;> omega

/-- The precondition gives the words' bounds. -/
theorem words_of (x2 x3 x4)
    (h : Cert.Pre_tiles_named_down.fn (F := F) (te m) (tv m) x2 x3 x4 = fun _ => 1#1) : Words m :=
  ⟨fun x => (words_bit (te m x) (tv m x) (congrFun h x)).1, fun x => (words_bit (te m x) (tv m x) (congrFun h x)).2⟩

/-- The tile of a grid point, as an index of the tables. -/
abbrev tile (i : grid0.Coords) : S161.Idx := fun a => match a with | ⟨0, _⟩ => ⟨(i 1).val, (i 1).isLt⟩

/-- The word loaded at a literal offset is the table's entry there. -/
theorem teW_eq (c : Dev nD) (o : Fin 1 → ℕ) (ho : ∀ a, o a + S1.size a ≤ S161.size a) (x : IVec S161 32) (k : S161.Idx) (hk : (k 0).val = o 0) :
    teW (F := F) c o ho x = x k :=
  congrArg x (funext fun a => Fin.ext (by fin_cases a; exact hk.symm))
theorem tvW_eq (c : Dev nD) (o : Fin 1 → ℕ) (ho : ∀ a, o a + S1.size a ≤ S161.size a) (x : IVec S161 32) (k : S161.Idx) (hk : (k 0).val = o 0) :
    tvW (F := F) c o ho x = x k :=
  congrArg x (funext fun a => Fin.ext (by fin_cases a; exact hk.symm))

/-- The expert word of the window maps is the table's entry at the tile. -/
theorem ix_1 (i : grid0.Coords) : cc0_transform_1 k0_off1_inb numel1_S1 (tbl m) i = ![0, (te m (tile i)).toNat, 0, (i 0).val] := by
  have h : cc0_transform_1 k0_off1_inb numel1_S1 (tbl m) i = ![0, (teW (F := F) 0 (k0_off1 i) (k0_off1_inb i) (tbl m 0)).toNat, 0, (BitVec.ofNat 32 (i 0).val).toNat] := rfl
  rw [h, show teW 0 (k0_off1 i) (k0_off1_inb i) (tbl m 0) = te m (tile i) from (teW_eq (F := F) 0 _ _ _ (tile i) (by rw [k0_off1_eq]; rfl)).trans (congrFun (tbl_0 m) _), BitVec.toNat_ofNat, Nat.mod_eq_of_lt (by have : (i 0).val < 2 := (i 0).isLt; omega)]
theorem ix_2 (i : grid0.Coords) : cc0_transform_2 k0_off1_inb numel1_S1 (tbl m) i = ![0, (te m (tile i)).toNat, 0, (i 0).val] := ix_1 m i

/-- The words' bounds give the pipeline's side condition. -/
theorem ok_of_words (h : Words m) : Ok m := by
  refine ⟨fun i => ⟨fun a => ?_, Or.inl rfl⟩, fun i => ⟨fun a => ?_, Or.inl rfl⟩⟩
  · rw [ix_1 m i]
    have h0 : (i 0).val < 2 := (i 0).isLt
    have h1 := h.1 (tile i)
    fin_cases a
    · show (0 + 1) * 1 ≤ 2; omega
    · show ((te m (tile i)).toNat + 1) * 1 ≤ 32; omega
    · show (0 + 1) * 2048 ≤ 2048; omega
    · show ((i 0).val + 1) * 1024 ≤ 2048; omega
  · rw [ix_2 m i]
    have h0 : (i 0).val < 2 := (i 0).isLt
    have h1 := h.1 (tile i)
    fin_cases a
    · show (0 + 1) * 1 ≤ 2; omega
    · show ((te m (tile i)).toNat + 1) * 1 ≤ 32; omega
    · show (0 + 1) * 1 ≤ 1; omega
    · show ((i 0).val + 1) * 1024 ≤ 2048; omega

/-- A one-bit word widened and compared with zero is the word. -/
theorem bit_ne (b : BitVec 1) : (Scalar.cmpi .ne ((Scalar.extui b : BitVec 32)) 0#32 = 1#1) ↔ b = 1#1 := by
  revert b; decide

/-- The second branch is taken exactly where the tile's row count is positive, -/
theorem cond0_1_iff (i : grid0.Coords) : cond0_1 0 i (tbl m 1) ↔ 0 < (tv m (tile i)).toInt := by
  unfold cond0_1
  rw [show tvW 0 (k0_off3 i) (k0_off3_inb i) (tbl m 1) = tv m (tile i) from (tvW_eq (F := F) 0 _ _ _ (tile i) (by rw [k0_off3_eq]; rfl)).trans (congrFun (tbl_1 m) _)]
  refine (bit_ne _).trans ?_
  show BitVec.ofBool (BitVec.slt 0#32 (tv m (tile i))) = 1#1 ↔ _
  rw [StableHlo.Predicate.ofBool_eq_one_iff]
  simp [BitVec.slt]

/-- the third exactly where it is zero. -/
theorem cond0_2_iff (i : grid0.Coords) : cond0_2 0 i (tbl m 1) ↔ (tv m (tile i)).toInt = 0 := by
  unfold cond0_2
  rw [show tvW 0 (k0_off4 i) (k0_off4_inb i) (tbl m 1) = tv m (tile i) from (tvW_eq (F := F) 0 _ _ _ (tile i) (by rw [k0_off4_eq]; rfl)).trans (congrFun (tbl_1 m) _)]
  refine (bit_ne _).trans ?_
  show BitVec.ofBool (tv m (tile i) == 0#32) = 1#1 ↔ _
  rw [StableHlo.Predicate.ofBool_eq_one_iff, beq_iff_eq]
  exact ⟨fun h => by rw [h]; rfl, fun h => BitVec.eq_of_toInt_eq (h.trans rfl)⟩

/-- Exactly one of the two branches that store the output block is taken. -/
theorem live_of_words (h : Words m) : Live m := fun i => by
  rw [cond0_1_iff, cond0_2_iff]
  have := h.2 (tile i)
  constructor <;> omega

/-- The offset of the tile before. -/
theorem k0_off2_at : ∀ i : Fin 161, (![(Scalar.indexCast (Scalar.maxsi (Scalar.subi (BitVec.ofNat 32 i.val) 1#32) 0#32) : Index).toNat] : Fin 1 → ℕ) 0 = i.val - 1 := by
  decide +kernel

/-- Where the first branch is not taken the tile is not the first of its column block, and its expert is the one of the tile before. -/
theorem not_cond0_0 (i : grid0.Coords) (h : ¬cond0_0 0 i (tbl m 0)) (k : S161.Idx) (hk : (k 0).val = (i 1).val - 1) :
    (i 1).val ≠ 0 ∧ te m (tile i) = te m k := by
  have h0 : (i 1).val ≠ 0 := fun h' => h (cond0_first 0 i _ h')
  refine ⟨h0, ?_⟩
  unfold cond0_0 at h
  rw [show teW 0 (k0_off1 i) (k0_off1_inb i) (tbl m 0) = te m (tile i) from (teW_eq (F := F) 0 _ _ _ (tile i) (by rw [k0_off1_eq]; rfl)).trans (congrFun (tbl_0 m) _),
    show teW 0 (k0_off2 i) (k0_off2_inb i) (tbl m 0) = te m k from (teW_eq (F := F) 0 _ _ _ k (hk.trans (k0_off2_at (i 1)).symm)).trans (congrFun (tbl_0 m) _), bit_ne] at h
  by_contra hne
  apply h
  have : Scalar.cmpi CmpIPredicate.ne (te m (tile i)) (te m k) = 1#1 := by
    show BitVec.ofBool (te m (tile i) != te m k) = 1#1
    rw [StableHlo.Predicate.ofBool_eq_one_iff]
    simpa using hne
  rw [this]
  generalize Scalar.cmpi CmpIPredicate.eq (BitVec.ofNat 32 (i 1).val) 0#32 = b
  revert b; decide

end Cert.Kernel3Ideal.Gen

end
-- ==== Proof.DownRef.lean ====
/- The down reference read at an index: the product of the row with its tile's expert matrix plus that expert's bias
   where the tile holds rows, zero elsewhere. -/
module

public import proofs.«01_k».proof.Proof.Gen.Reference3Ideal.Read
public import proofs.«01_k».proof.Proof.MoeGather

@[expose] public section

set_option maxRecDepth 16384

noncomputable section

open Idealize.ShloMosaic Idealize.ShloMosaic.TcCoe Idealize.SL.Sem

namespace Cert.Down

open Cert.Reference3Ideal Cert.Reference3Ideal.Gen Cert.Reference3Ideal.Read

/-- The expert a word names, kept inside the array. -/
def ex (v : BitVec 32) : Fin 32 := ⟨min v.toInt.toNat 31, by omega⟩

/-- The tile of a row. -/
def tileOf (p : Fin 41216) : Fin 161 := ⟨p.val / 256, by omega⟩

/-- The result at a row and a column. -/
def val (x0 x1 : IVec ⟨1, ![161]⟩ 32) (x2 : FVec Ideal ⟨2, ![41216, 2048]⟩ .bf16) (x3 : FVec Ideal ⟨4, ![2, 32, 2048, 2048]⟩ .f32)
    (x4 : FVec Ideal ⟨3, ![2, 32, 2048]⟩ .f32) (p : Fin 41216) (n : Fin 2048) : EReal :=
  if 0 < (x1 (ix1 (tileOf p))).toInt then
    (∑ k : Fin 2048, (x2 (ix2 p k) : EReal) * (x3 (ix4 0 (ex (x0 (ix1 (tileOf p)))) k n) : EReal)) + (x4 (ix3 0 (ex (x0 (ix1 (tileOf p)))) n) : EReal)
  else 0

variable (x0 x1 : IVec S161 32) (x2 : FVec Ideal S41216x2048 .bf16) (x3 : FVec Ideal S2x32x2048x2048 .f32) (x4 : FVec Ideal S2x32x2048 .f32)

/-- The gathered matrices at an index. -/
theorem v5_at (t : Fin 161) (k n : Fin 2048) : val_main_v5 (F := Ideal) x0 x3 (ix3 t k n) = x3 (ix4 0 (ex (x0 (ix1 t))) k n) := by
  refine (Cert.Moe.gather_lead3 (N := 32) (n := 161) (A := 2048) (B := 2048) (by decide)
    gather_S32x2048x2048_S161x1_S161x2048x2048_12_0_n_n_0_1_120482048.wf (val_main_v3 (F := Ideal) x3) (val_main_v4 (F := Ideal) x0) t k n).trans ?_
  rw [val_main_v3_apply, val_main_v2_apply]
  have e : val_main_v4 (F := Ideal) x0 (Cert.Moe.ixT t) = x0 (ix1 t) :=
    (val_main_v4_apply (F := Ideal) x0 _).trans (congrArg x0 (funext fun a => match a with | ⟨0, _⟩ => rfl))
  refine congrArg x3 (funext fun a => Fin.ext ?_)
  have hv : min (val_main_v4 (F := Ideal) x0 (Cert.Moe.ixT t)).toInt.toNat (32 - 1) = (ex (x0 (ix1 t))).val := by rw [e]; rfl
  have hx := (ex (x0 (ix1 t))).isLt
  have hk := k.isLt
  have hn := n.isLt
  match a with
  | ⟨0, _⟩ => rfl
  | ⟨1, _⟩ =>
    show (((min (val_main_v4 (F := Ideal) x0 (Cert.Moe.ixT t)).toInt.toNat (32 - 1)) * 2048 + k.val) * 2048 + n.val) / 4194304 % 32 = (ex (x0 (ix1 t))).val
    rw [hv]; omega
  | ⟨2, _⟩ =>
    show (((min (val_main_v4 (F := Ideal) x0 (Cert.Moe.ixT t)).toInt.toNat (32 - 1)) * 2048 + k.val) * 2048 + n.val) / 2048 % 2048 = k.val
    rw [hv]; omega
  | ⟨3, _⟩ =>
    show (((min (val_main_v4 (F := Ideal) x0 (Cert.Moe.ixT t)).toInt.toNat (32 - 1)) * 2048 + k.val) * 2048 + n.val) % 2048 = n.val
    rw [hv]; omega

/-- The gathered biases at an index. -/
theorem v10_at (t : Fin 161) (n : Fin 2048) : val_main_v10 (F := Ideal) x0 x4 (ix2 t n) = x4 (ix3 0 (ex (x0 (ix1 t))) n) := by
  refine (Cert.Moe.gather_lead2 (N := 32) (n := 161) (A := 2048) (by decide)
    gather_S32x2048_S161x1_S161x2048_1_0_n_n_0_1_12048.wf (val_main_v8 (F := Ideal) x4) (val_main_v9 (F := Ideal) x0) t n).trans ?_
  rw [val_main_v8_apply, val_main_v7_apply]
  have e : val_main_v9 (F := Ideal) x0 (Cert.Moe.ixT t) = x0 (ix1 t) :=
    (val_main_v9_apply (F := Ideal) x0 _).trans (congrArg x0 (funext fun a => match a with | ⟨0, _⟩ => rfl))
  refine congrArg x4 (funext fun a => Fin.ext ?_)
  have hv : min (val_main_v9 (F := Ideal) x0 (Cert.Moe.ixT t)).toInt.toNat (32 - 1) = (ex (x0 (ix1 t))).val := by rw [e]; rfl
  have hx := (ex (x0 (ix1 t))).isLt
  have hn := n.isLt
  match a with
  | ⟨0, _⟩ => rfl
  | ⟨1, _⟩ =>
    show ((min (val_main_v9 (F := Ideal) x0 (Cert.Moe.ixT t)).toInt.toNat (32 - 1)) * 2048 + n.val) / 2048 % 32 = (ex (x0 (ix1 t))).val
    rw [hv]; omega
  | ⟨2, _⟩ =>
    show ((min (val_main_v9 (F := Ideal) x0 (Cert.Moe.ixT t)).toInt.toNat (32 - 1)) * 2048 + n.val) % 2048 = n.val
    rw [hv]; omega

/-- The mask at a tile. -/
theorem v15_at (i : S161.Idx) : val_main_v15 (F := Ideal) x1 i = (1 : BitVec 1) ↔ 0 < (x1 i).toInt := by
  rw [val_main_v15_apply, val_main_v14_apply, val_main_c_apply]
  show BitVec.ofBool (BitVec.slt 0#32 (x1 i)) = 1#1 ↔ _
  rw [BitVec.slt_eq_decide]
  by_cases h : 0 < (x1 i).toInt
  · simp [h]
  · simp [h]

/-- The reference at an index. -/
theorem ref_at (p : Fin 41216) (n : Fin 2048) :
    (val_main_v18 (F := Ideal) x0 x1 x2 x3 x4 (ix2 p n) : EReal) = val x0 x1 x2 x3 x4 p n := by
  have hp := p.isLt
  have hn := n.isLt
  have ei : idx_main_v18 (ix2 p n) = ix3 (tileOf p) ⟨p.val % 256, by omega⟩ n := funext fun a => Fin.ext (match a with
    | ⟨0, _⟩ => show (p.val * 2048 + n.val) / 524288 = p.val / 256 by omega
    | ⟨1, _⟩ => show (p.val * 2048 + n.val) / 2048 % 256 = p.val % 256 by omega
    | ⟨2, _⟩ => show (p.val * 2048 + n.val) % 2048 = n.val by omega)
  rw [val_main_v18_apply, ei, val_main_v17_apply, val_main_call0_v1_apply, val_main_v16_apply]
  have em : idx_main_v16 (idx_main_call0_v1 (ix3 (tileOf p) ⟨p.val % 256, by omega⟩ n)) = ix1 (tileOf p) :=
    funext fun a => match a with | ⟨0, _⟩ => rfl
  rw [em]
  unfold val Scalar.select
  by_cases h : 0 < (x1 (ix1 (tileOf p))).toInt
  · rw [if_pos h, if_pos ((v15_at x1 _).mpr h), val_main_v13_apply, val_main_v6_apply, val_main_v12_apply, val_main_v11_apply]
    refine congrArg₂ (fun a b : EReal => a + b) (Finset.sum_congr rfl fun k _ => congrArg₂ (fun a b : EReal => a * b) ?_ ?_) ?_
    · rw [val_main_v1_apply, val_main_v0_apply]
      have hk := k.isLt
      refine congrArg x2 (funext fun a => Fin.ext (match a with
        | ⟨0, _⟩ => show ((p.val / 256 * 256 + p.val % 256) * 2048 + k.val) / 2048 = p.val by omega
        | ⟨1, _⟩ => show ((p.val / 256 * 256 + p.val % 256) * 2048 + k.val) % 2048 = k.val by omega))
    · refine Eq.trans (congrArg _ (funext fun a => ?_)) (v5_at x0 x3 (tileOf p) k n)
      match a with
      | ⟨0, _⟩ => rfl
      | ⟨1, _⟩ => rfl
      | ⟨2, _⟩ => rfl
    · refine Eq.trans (congrArg _ (funext fun a => ?_)) (v10_at x0 x4 (tileOf p) n)
      match a with
      | ⟨0, _⟩ => rfl
      | ⟨1, _⟩ => rfl
  · rw [if_neg h, if_neg (fun h' => h ((v15_at x1 _).mp h')), val_main_call0_v2_apply, val_main_call0_v0_apply, val_main_cst_apply]
    exact Ideal.ofBits_zero_f32

end Cert.Down

end
-- ==== Proof.Down.lean ====
/- The down projection's result array is the reference's: the blocks of the grid, put together. -/
module

public import proofs.«01_k».proof.Proof.Kernel3IdealWords
public import proofs.«01_k».proof.Proof.DownRef
public import Idealize.ShloMosaic.Lib.Pipeline.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Down

open Cert.Kernel3Ideal Cert.Kernel3Ideal.Gen

variable (m : (ℓ : Loc nD τ sig) → Buf (Elt Ideal) ℓ)

/-- The windows' block indices: the tile's rows, -/
theorem index_0 (hO : Ok m) (t : Fin (cfgM m hO).N) : ((cfgM m hO).win 0).index t = ![(grid0.coords t 1).val, 0] := by
  show cc0_transform_0 (grid0.coords t) = _
  have h : (grid0.coords t 1).val < 161 := (grid0.coords t 1).isLt
  have h' : cc0_transform_0 (grid0.coords t) = ![(BitVec.ofNat 32 (grid0.coords t 1).val).toNat, 0] := rfl
  rw [h', BitVec.toNat_ofNat, Nat.mod_eq_of_lt (by omega)]

/-- the tile's expert and the column block, for the matrix -/
theorem index_1 (hO : Ok m) (t : Fin (cfgM m hO).N) :
    ((cfgM m hO).win 1).index t = ![0, (te m (tile (grid0.coords t))).toNat, 0, (grid0.coords t 0).val] := ix_1 m _

/-- and for the bias, -/
theorem index_2 (hO : Ok m) (t : Fin (cfgM m hO).N) :
    ((cfgM m hO).win 2).index t = ![0, (te m (tile (grid0.coords t))).toNat, 0, (grid0.coords t 0).val] := ix_2 m _

/-- the tile and the column block for the result. -/
theorem index_3 (hO : Ok m) (t : Fin (cfgM m hO).N) :
    ((cfgM m hO).win 3).index t = ![(grid0.coords t 1).val, (grid0.coords t 0).val] := by
  show cc0_transform_3 (grid0.coords t) = _
  have h : (grid0.coords t 1).val < 161 := (grid0.coords t 1).isLt
  have h0 : (grid0.coords t 0).val < 2 := (grid0.coords t 0).isLt
  have h' : cc0_transform_3 (grid0.coords t) = ![(BitVec.ofNat 32 (grid0.coords t 1).val).toNat, (BitVec.ofNat 32 (grid0.coords t 0).val).toNat] := rfl
  rw [h', BitVec.toNat_ofNat, BitVec.toNat_ofNat, Nat.mod_eq_of_lt (by omega), Nat.mod_eq_of_lt (by omega)]

/-- The rows' block at an index. -/
theorem blk0_at (hO : Ok m) (t : Fin (cfgM m hO).N) (r : Fin 256) (k : Fin 2048) (p : Fin 41216)
    (hp : p.val = 256 * (grid0.coords t 1).val + r.val) :
    (iblk m hO 0 0 t : FVec Ideal S256x2048 .bf16) (ix2 r k) = (m (((0 : Dev nD) : Thread nD τ).loc main_arg2) : FVec Ideal S41216x2048 .bf16) (ix2 p k) := by
  blk_ext [iblk, V, index_0 m hO t]

/-- The expert matrix's block at an index. -/
theorem blk1_at (hO : Ok m) (t : Fin (cfgM m hO).N) (k : Fin 2048) (q : Fin 1024) (e : Fin 32) (he : e.val = (te m (tile (grid0.coords t))).toNat)
    (n : Fin 2048) (hn : n.val = 1024 * (grid0.coords t 0).val + q.val) :
    (iblk m hO 0 1 t : FVec Ideal S1x1x2048x1024 .f32) (ix4 0 0 k q) = (m (((0 : Dev nD) : Thread nD τ).loc main_arg3) : FVec Ideal S2x32x2048x2048 .f32) (ix4 0 e k n) := by
  blk_ext [iblk, V, index_1 m hO t]

/-- The bias's array at the region's entry is the bias with an axis of one put in. -/
theorem V_main_v0 (c : Dev nD) : (V m c main_v0 : FVec Ideal S2x32x1x2048 .f32)
    = shapeCast _ (m ((c : Thread nD τ).loc main_arg4) : FVec Ideal S2x32x2048 .f32) shapeCasts_S2x32x2048_S2x32x1x2048 := by
  entry_read
  rfl

/-- The bias's block at an index. -/
theorem blk2_at (hO : Ok m) (t : Fin (cfgM m hO).N) (q : Fin 1024) (e : Fin 32) (he : e.val = (te m (tile (grid0.coords t))).toNat)
    (n : Fin 2048) (hn : n.val = 1024 * (grid0.coords t 0).val + q.val) :
    (iblk m hO 0 2 t : FVec Ideal S1x1x1x1024 .f32) (ix4 0 0 0 q) = (m (((0 : Dev nD) : Thread nD τ).loc main_arg4) : FVec Ideal S2x32x2048 .f32) (ix3 0 e n) := by
  have h : (iblk m hO 0 2 t : FVec Ideal S1x1x1x1024 .f32) (ix4 0 0 0 q) = (V m 0 main_v0 : FVec Ideal S2x32x1x2048 .f32) (ix4 0 e 0 n) := by
    blk_ext [iblk, index_2 m hO t]
  rw [h, V_main_v0]
  exact shapeCast_apply _ shapeCasts_S2x32x2048_S2x32x1x2048 (ix4 0 e 0 n) (ix3 0 e n)
    (by rewrite [Shape.rowMajor_val_three, Shape.rowMajor_val_four]; show (0 * 32 + e.val) * 2048 + n.val = ((0 * 32 + e.val) * 1 + 0) * 2048 + n.val; omega)

/-- The matrix the scratch takes, at an index: the conversion leaves every entry as it is. -/
theorem pay1_at (v : FVec Ideal S1x1x2048x1024 .f32) (k : Fin 2048) (q : Fin 1024) :
    (k0_pay1 (F := Ideal) v (ix2 k q) : EReal) = v (ix4 0 0 k q) := by
  pointwise [k0_pay1]

/-- The product with the matrix plus the bias, at an index. -/
theorem pay2_at (x : FVec Ideal S256x2048 .bf16) (w : FVec Ideal S2048x1024 .bf16) (b : FVec Ideal S1x1x1x1024 .f32) (r : Fin 256) (q : Fin 1024) :
    (k0_pay2 (F := Ideal) x w b (ix2 r q) : EReal) = (∑ k : Fin 2048, (x (ix2 r k) : EReal) * (w (ix2 k q) : EReal)) + (b (ix4 0 0 0 q) : EReal) := by
  pointwise [k0_pay2]

/-- The zero block, at an index. -/
theorem pay3_at (r : Fin 256) (q : Fin 1024) : (k0_pay3 (F := Ideal) (ix2 r q) : EReal) = 0 := by
  pointwise [k0_pay3]

/-- Two points of one expert and one column block read the same matrix. -/
theorem blk1_congr (hW : Words m) (hO : Ok m) (t t' : Fin (cfgM m hO).N) (h0 : (grid0.coords t 0).val = (grid0.coords t' 0).val)
    (he : te m (tile (grid0.coords t)) = te m (tile (grid0.coords t'))) :
    (iblk m hO 0 1 t : FVec Ideal S1x1x2048x1024 .f32) = (iblk m hO 0 1 t' : FVec Ideal S1x1x2048x1024 .f32) := by
  refine funext fun (y : S1x1x2048x1024.Idx) => ?_
  obtain ⟨k, q, rfl⟩ : ∃ (k : Fin 2048) (q : Fin 1024), y = ix4 0 0 k q :=
    ⟨y 2, y 3, funext fun a => match a with
      | ⟨0, _⟩ => Subsingleton.elim (α := Fin 1) _ _
      | ⟨1, _⟩ => Subsingleton.elim (α := Fin 1) _ _
      | ⟨2, _⟩ => rfl
      | ⟨3, _⟩ => rfl⟩
  have h2 : (grid0.coords t 0).val < 2 := (grid0.coords t 0).isLt
  have hw := hW.1 (tile (grid0.coords t))
  rw [blk1_at m hO t k q ⟨_, Nat.lt_succ_of_le hw⟩ rfl ⟨1024 * (grid0.coords t 0).val + q.val, by omega⟩ rfl,
    blk1_at m hO t' k q ⟨_, Nat.lt_succ_of_le hw⟩ (by rw [← he]) ⟨1024 * (grid0.coords t 0).val + q.val, by omega⟩ (by rw [← h0])]

/-- After every point the scratch holds the point's own expert matrix. -/
theorem scr_at (hW : Words m) (hO : Ok m) (n : ℕ) (hn : n < (cfgM m hO).N) :
    scrAt m hO 0 n hn = k0_pay1 (iblk m hO 0 1 ⟨n, hn⟩) := by
  induction n with
  | zero => rfl
  | succ n ih =>
    have hN : n + 1 < 322 := Nat.lt_of_lt_of_eq hn N_0
    have hn' : n < (cfgM m hO).N := Nat.lt_of_succ_lt hn
    by_cases h : cond0_0 0 (grid0.coords ⟨n + 1, hn⟩) (tbl m 0)
    · exact scrAt_new m hO 0 ⟨n + 1, hn⟩ h
    · have e1 := coords_1 ⟨n + 1, hn⟩
      have e0 := coords_0 ⟨n + 1, hn⟩
      have f1 := coords_1 ⟨n, hn'⟩
      have f0 := coords_0 ⟨n, hn'⟩
      have hz : (grid0.coords ⟨n + 1, hn⟩ 1).val ≠ 0 := fun h' => h (cond0_first 0 _ _ h')
      dsimp only at e1 e0 f1 f0
      obtain ⟨-, he⟩ := not_cond0_0 m _ h (tile (grid0.coords ⟨n, hn'⟩)) (by
        show (grid0.coords ⟨n, hn'⟩ 1).val = (grid0.coords ⟨n + 1, hn⟩ 1).val - 1
        omega)
      rw [scrAt_old m hO 0 ⟨n + 1, hn⟩ (Nat.succ_ne_zero n) h]
      refine (ih hn').trans (congrArg k0_pay1 (blk1_congr m hW hO _ _ ?_ he.symm))
      omega

/-- The words read as in the reference: an expert word of the table names the same expert there. -/
theorem ex_eq (hW : Words m) (x : S161.Idx) : (ex (te m x)).val = (te m x).toNat := by
  have h := hW.1 x
  have e : (te m x).toInt = ((te m x).toNat : ℤ) := BitVec.toInt_eq_toNat_of_lt (by omega)
  show min (te m x).toInt.toNat 31 = _
  rw [e, Int.toNat_natCast]
  omega

/-- What the body leaves at block index `y` of point `t` is the reference's result where `y` sits. -/
theorem point (hW : Words m) (hO : Ok m) (t : Fin (cfgM m hO).N) (y : S256x1024.Idx) (j : S41216x2048.Idx)
    (hj0 : (j 0 : ℕ) = 256 * (grid0.coords t 1).val + (y 0).val) (hj1 : (j 1 : ℕ) = 1024 * (grid0.coords t 0).val + (y 1).val) :
    (outAt m hO 0 t y : EReal)
    = Cert.Reference3Ideal.Read.val_main_v18 (F := Ideal) (te m) (tv m) (m (((0 : Dev nD) : Thread nD τ).loc main_arg2))
        (m (((0 : Dev nD) : Thread nD τ).loc main_arg3)) (m (((0 : Dev nD) : Thread nD τ).loc main_arg4)) j := by
  obtain ⟨r, q, rfl⟩ : ∃ (r : Fin 256) (q : Fin 1024), y = ix2 r q :=
    ⟨y 0, y 1, funext fun a => match a with | ⟨0, _⟩ => rfl | ⟨1, _⟩ => rfl⟩
  obtain ⟨p, n, rfl⟩ : ∃ (p : Fin 41216) (n : Fin 2048), j = ix2 p n :=
    ⟨j 0, j 1, funext fun a => match a with | ⟨0, _⟩ => rfl | ⟨1, _⟩ => rfl⟩
  replace hj0 : p.val = 256 * (grid0.coords t 1).val + r.val := hj0
  replace hj1 : n.val = 1024 * (grid0.coords t 0).val + q.val := hj1
  have hr := r.isLt
  have et : ix1 (tileOf p) = tile (grid0.coords t) := funext fun a => match a with
    | ⟨0, _⟩ => Fin.ext (show p.val / 256 = (grid0.coords t 1).val by omega)
  refine Eq.trans ?_ (ref_at (te m) (tv m) (m (((0 : Dev nD) : Thread nD τ).loc main_arg2))
        (m (((0 : Dev nD) : Thread nD τ).loc main_arg3)) (m (((0 : Dev nD) : Thread nD τ).loc main_arg4)) p n).symm
  unfold val outAt
  rw [et]
  by_cases h : cond0_1 0 (grid0.coords t) (tbl m 1)
  · rw [if_pos h, if_pos ((cond0_1_iff m _).mp h), scr_at m hW hO]
    refine (pay2_at _ _ _ r q).trans ?_
    refine congrArg₂ (fun a b : EReal => a + b) (Finset.sum_congr rfl fun k _ => congrArg₂ (fun a b : EReal => a * b) ?_ ?_) ?_
    · exact blk0_at m hO t r k p hj0
    · exact (pay1_at _ k q).trans (blk1_at m hO t k q _ (ex_eq m hW _) n hj1)
    · exact blk2_at m hO t q _ (ex_eq m hW _) n hj1
  · rw [if_neg h, if_neg (fun h' => h ((cond0_1_iff m _).mpr h'))]
    exact pay3_at r q

/-- The written blocks cover the result array: one per tile and column block. -/
theorem covers (hO : Ok m) : ((cfgM m hO).win 3).Covers := by
  refine ⟨fun a => match a with | ⟨0, _⟩ => (show 0 < 256 by decide) | ⟨1, _⟩ => (show 0 < 1024 by decide), fun β => ?_⟩
  have b0 : (β (0 : Fin 2)).val < 161 := Nat.lt_of_lt_of_eq (β (0 : Fin 2)).isLt (show (41216 + 256 - 1) / 256 = 161 by norm_num)
  have b1 : (β (1 : Fin 2)).val < 2 := Nat.lt_of_lt_of_eq (β (1 : Fin 2)).isLt (show (2048 + 1024 - 1) / 1024 = 2 by norm_num)
  have hN : (β (1 : Fin 2)).val * 161 + (β (0 : Fin 2)).val < (cfgM m hO).N := by
    have h : (cfgM m hO).N = 322 := N_0
    omega
  refine ⟨⟨_, hN⟩, flush0_3 (adm m hO) _, fun a => ⟨?_, Or.inl rfl⟩⟩
  have e0 := coords_0 ⟨_, hN⟩
  have e1 := coords_1 ⟨_, hN⟩
  dsimp only at e0 e1
  refine (congrFun (index_3 m hO ⟨_, hN⟩) a).trans ?_
  match a with
  | ⟨0, _⟩ => show (grid0.coords ⟨_, hN⟩ 1).val = (β (0 : Fin 2)).val; omega
  | ⟨1, _⟩ => show (grid0.coords ⟨_, hN⟩ 0).val = (β (1 : Fin 2)).val; omega

/-- The result array after the run is the reference's result of the arguments. -/
theorem final (hW : Words m) (hO : Ok m) : (dats m hO 0 0).arrAt 3 (cfgM m hO).N
    = Cert.Reference3Ideal.Read.val_main_v18 (F := Ideal) (te m) (tv m) (m (((0 : Dev nD) : Thread nD τ).loc main_arg2))
        (m (((0 : Dev nD) : Thread nD τ).loc main_arg3)) (m (((0 : Dev nD) : Thread nD τ).loc main_arg4)) := by
  refine (dats m hO 0 0).arrAt_eq_of_covers 3 _ (covers m hO) fun t hf y => ?_
  blk_simp
  rw [after0_3]
  refine point m hW hO t y _ ?_ ?_
  all_goals (blk_simp [index_3 m hO t] <;> try omega)

end Cert.Down

end
-- ==== Proof.Kernel4IdealRuns.lean ====
module

public import proofs.«01_k».proof.Proof.Gen.Kernel4Ideal
public import proofs.«01_k».proof.Proof.Gen.Kernel4Ideal.Launch
public import proofs.«01_k».proof.Proof.Gen.Kernel4Ideal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 0 (operand 2 (%arg2)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 0 (fun _ => rfl) (by decide)) (P := 1) (by decide) t).mpr (Nat.mod_one _) : ∀ t : Fin grid0.N, Pipeline.Window.fetchOf grid0 false cc0_transform_0 t = true)
/-- Window 5 (result 0 (%1)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 1 (by decide) (by decide) (Pipeline.Window.sep_of_coord cc0_transform_5 1 0 (fun _ => rfl) (by decide)) (P := 1) (m := 0) (by decide) rfl t).mpr (Nat.mod_one _) : ∀ t : Fin grid0.N, Pipeline.Window.flushOf grid0 true cc0_transform_5 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_expert_gate_up (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes an argument: the region finds it as launched. -/
theorem V_arg (c : Dev nD) (b : Ref sig .tc) (hb : b ∈ [main_arg0, main_arg1, main_arg2, main_arg3, main_arg4]) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    simp only [List.mem_cons, List.not_mem_nil, or_false] at hb
    rcases hb with rfl | rfl | rfl | rfl | rfl
    all_goals
      repeat' apply And.intro
      all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    . -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S161 .i32 := Memref.whole main_arg0
abbrev htbM0_0 : tbM0_0.IsWhole := Memref.isWhole_whole _
abbrev tbM0_1 : Memref sig .tc .smem S161 .i32 := Memref.whole main_arg1
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body , table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same of input window 1. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The same of input window 2. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The same of input window 3. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- The same of input window 4. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel4Ideal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (by decide : main_arg0 ∈ Pipeline.restRefs sig spec0)).trans (V_arg m c main_arg0 (by simp)),
      ((h c).2 main_arg1 (by decide : main_arg1 ∈ Pipeline.restRefs sig spec0)).trans (V_arg m c main_arg1 (by simp)),
      ((h c).1 0).trans (((dats 0 c).arrAt_in 0 rfl _).trans ((hA c 0).trans (V_arg m c main_arg2 (by simp)))),
      ((h c).1 2).trans (((dats 0 c).arrAt_in 2 rfl _).trans ((hA c 2).trans (V_arg m c main_arg3 (by simp)))),
      ((h c).2 main_arg4 (by decide : main_arg4 ∈ Pipeline.restRefs sig spec0)).trans (V_arg m c main_arg4 (by simp))⟩) h

/-! ## The body's branch conditions -/

/-- A word of the expert table: the entry the body loads at offsets `o` from contents `xt`. -/
abbrev teW (c : Dev nD) (o : Fin 1 → ℕ) (ho : ∀ a, o a + S1.size a ≤ S161.size a) (xt : TbBuf0 (F := F) c tbM0_0) : BitVec 32 :=
  tbM0_0.view.readAt (Elt F) (Rect.unit (s := S161) o S1.size ho).toLoadRect xt (Shape.Idx.first (numel1_S1.symm ▸ Nat.one_pos))
/-- A word of the row-count table. -/
abbrev tvW (c : Dev nD) (o : Fin 1 → ℕ) (ho : ∀ a, o a + S1.size a ≤ S161.size a) (xt : TbBuf0 (F := F) c tbM0_1) : BitVec 32 :=
  tbM0_1.view.readAt (Elt F) (Rect.unit (s := S161) o S1.size ho).toLoadRect xt (Shape.Idx.first (numel1_S1.symm ▸ Nat.one_pos))

/-- The first branch is taken: the tile is the first of its column block, or its expert is not the one of the tile before. -/
abbrev cond0_0 (c : Dev nD) (i : grid0.Coords) (xt : TbBuf0 (F := F) c tbM0_0) : Prop :=
  (Scalar.cmpi .ne (Scalar.extui (Scalar.ori (Scalar.cmpi .eq (BitVec.ofNat 32 (i 1).val) 0#32) (Scalar.cmpi .ne (teW c (k0_off1 i) (k0_off1_inb i) xt) (teW c (k0_off2 i) (k0_off2_inb i) xt)))) 0#32) = 1#1
/-- The second branch is taken: the tile holds rows. -/
abbrev cond0_1 (c : Dev nD) (i : grid0.Coords) (xt : TbBuf0 (F := F) c tbM0_1) : Prop := k0_cond2 (tvW c (k0_off3 i) (k0_off3_inb i) xt) = 1#1
/-- The third branch is taken: the tile holds no row. -/
abbrev cond0_2 (c : Dev nD) (i : grid0.Coords) (xt : TbBuf0 (F := F) c tbM0_1) : Prop := k0_cond3 (tvW c (k0_off4 i) (k0_off4_inb i) xt) = 1#1

/-- At a first tile the first branch is taken, whatever the table holds. -/
theorem cond0_first (c : Dev nD) (i : grid0.Coords) (xt : TbBuf0 (F := F) c tbM0_0) (h : (i 1).val = 0) : cond0_0 c i xt := by
  unfold cond0_0
  rw [h]
  generalize Scalar.cmpi CmpIPredicate.ne (teW c (k0_off1 i) (k0_off1_inb i) xt) (teW c (k0_off2 i) (k0_off2_inb i) xt) = b
  clear xt
  revert b
  decide

/-! ## Where the windows are idle -/

/-- Window 0 is never idle (an input). -/
theorem liveAt0_0 (hO : Ok m) : ∀ t : Fin (cfgM m hO).N, (cfgM m hO).idle 0 (grid0.coords t) = false := fun _ => rfl
/-- Window 1 is never idle (an input). -/
theorem liveAt0_1 (hO : Ok m) : ∀ t : Fin (cfgM m hO).N, (cfgM m hO).idle 1 (grid0.coords t) = false := fun _ => rfl
/-- Window 2 is never idle (an input). -/
theorem liveAt0_2 (hO : Ok m) : ∀ t : Fin (cfgM m hO).N, (cfgM m hO).idle 2 (grid0.coords t) = false := fun _ => rfl
/-- Window 3 is never idle (an input). -/
theorem liveAt0_3 (hO : Ok m) : ∀ t : Fin (cfgM m hO).N, (cfgM m hO).idle 3 (grid0.coords t) = false := fun _ => rfl
/-- Window 4 is never idle (an input). -/
theorem liveAt0_4 (hO : Ok m) : ∀ t : Fin (cfgM m hO).N, (cfgM m hO).idle 4 (grid0.coords t) = false := fun _ => rfl
/-- A word of the row-count table's contents, read at the body's offsets, is the word the body loads there. -/
theorem atD_tv (o : Fin 1 → ℕ) (ho : ∀ a, o a + S1.size a ≤ S161.size a) : (tbl m).atD 1 o = tvW 0 o ho (tbl m 1) :=
  (dif_pos (show ∀ a : Fin 1, o a + 1 ≤ S161.size a from fun a => by have := ho a; fin_cases a; exact this)).trans
    (congrArg (tbl m 1) (funext fun a => Fin.ext (by fin_cases a; rfl)))
/-- Every tile's row count selects exactly one of the two branches that store the output block. -/
abbrev Live : Prop := ∀ i : grid0.Coords, (cond0_1 0 i (tbl m 1) ∨ cond0_2 0 i (tbl m 1)) ∧ ¬(cond0_1 0 i (tbl m 1) ∧ cond0_2 0 i (tbl m 1))
/-- Under `Live` the output window is never idle. -/
theorem liveAt0_5 (hO : Ok m) (hL : Live m) (t : Fin (cfgM m hO).N) : (cfgM m hO).idle 5 (grid0.coords t) = false := by
  have h := (hL (grid0.coords t)).1
  show (!(k0_cond2 ((tbl m).atD 1 (k0_off3 (grid0.coords t))) == 1#1) && !(k0_cond3 ((tbl m).atD 1 (k0_off4 (grid0.coords t))) == 1#1)) = false
  rw [atD_tv m _ (k0_off3_inb _), atD_tv m _ (k0_off4_inb _)]
  rcases h with h | h
  · rw [show (k0_cond2 (tvW 0 (k0_off3 (grid0.coords t)) (k0_off3_inb (grid0.coords t)) (tbl m 1)) == 1#1) = true from beq_iff_eq.mpr h]; rfl
  · rw [show (k0_cond3 (tvW 0 (k0_off4 (grid0.coords t)) (k0_off4_inb (grid0.coords t)) (tbl m 1)) == 1#1) = true from beq_iff_eq.mpr h]; exact Bool.and_false _

/-! ## The kernel body on any staging memrefs: a subtype the run finds -/

/-- One staging buffer of output window 5, through which its contents are stated (`View.read_writes_of_cover`: the
    choice does not matter). -/
abbrev VO0_5 : View sig .tc .vmem S256x1024 .bf16 := (Memref.whole cc0_stg5_0 : Memref sig .tc .vmem S256x1024 .bf16).view
/-- Each window's current staging memref at point `t`, spelled as the pipeline passes it (`bodyAt0`), and its wholeness. -/
abbrev ms0_0 (hO : Ok m) (t : Fin (cfgM m hO).N) : Memref sig .tc .vmem S256x2048 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x2048x1024 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x2048x1024 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x1x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S256x1024 .bf16 := spec0_5.stage ((cfgM m hO).slots t 5)
abbrev hs0_5 (hO : Ok m) (t : Fin (cfgM m hO).N) : (ms0_5 m hO t).IsWhole := hstage0_5 (((cfgM m hO).slots t 5).cast nbuf0_5)
/-- The scratch operands: whole scoped buffers of the kernel's own, passed beside the windows. -/
abbrev scM0_0 : Memref sig .tc .vmem S2048x1024 .bf16 := Memref.whole cc0_scratch0
abbrev scM0_1 : Memref sig .tc .vmem S2048x1024 .bf16 := Memref.whole cc0_scratch1
/-- The scratch `arg10` the kernel carries between points, as a view: what it holds is stated through it. -/
abbrev VS0_0 : View sig .tc .vmem S2048x1024 .bf16 := scM0_0.view
/-- The scratch `arg11` the kernel carries between points, as a view: what it holds is stated through it. -/
abbrev VS0_1 : View sig .tc .vmem S2048x1024 .bf16 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

-- A grid point, the buffers of its blocks and scratches, and what the blocks and the two tables hold.
variable (c : Dev nD) (i : grid0.Coords) (arg4 : Memref sig .tc .vmem S256x2048 .f32) (harg4 : arg4.IsWhole) (arg5 : Memref sig .tc .vmem S1x1x2048x1024 .f32) (harg5 : arg5.IsWhole) (arg6 : Memref sig .tc .vmem S1x1x2048x1024 .f32) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S256x1024 .bf16) (harg9 : arg9.IsWhole) (arg10 : Memref sig .tc .vmem S2048x1024 .bf16) (harg10 : arg10.IsWhole) (arg11 : Memref sig .tc .vmem S2048x1024 .bf16) (harg11 : arg11.IsWhole)
  (x0 : Vec F S256x2048 .f32) (x1 : Vec F S1x1x2048x1024 .f32) (x2 : Vec F S1x1x2048x1024 .f32) (x3 : Vec F S1x1x1x1024 .f32) (x4 : Vec F S1x1x1x1024 .f32) (xt0 : TbBuf0 (F := F) c tbM0_0) (xt1 : TbBuf0 (F := F) c tbM0_1)

set_option maxHeartbeats 1000000 in
/-- The pieces the body leaves in the output's staging buffer and in the two scratches, with the proof that the body, run on whole staging buffers and the two tables, ends with them written and everything else as it was: the expert is new and the tile holds rows. -/
noncomputable def kernelRun0_A (hc0 : cond0_0 c i xt0) (hc1 : cond0_1 c i xt1) (hc2 : ¬cond0_2 c i xt1) :
    Σ' (L5 : List (View.Piece (Elt F) S256x1024 .bf16)), Σ' (LS0 : List (View.Piece (Elt F) S2048x1024 .bf16)), { LS1 : List (View.Piece (Elt F) S2048x1024 .bf16) //
      ∀ (E : Set ℕ) (K : PUnit → sProp 𝕄),
        iprop(owns c.tc arg4 fullShare x0 ∗ owns c.tc arg5 fullShare x1 ∗ owns c.tc arg6 fullShare x2 ∗ owns c.tc arg7 fullShare x3 ∗ owns c.tc arg8 fullShare x4 ∗ (∃ d, owns c.tc arg9 fullShare d) ∗ (∃ d, owns c.tc arg10 fullShare d) ∗ (∃ d, owns c.tc arg11 fullShare d) ∗ tbPt0 c tbM0_0 xt0 ∗ tbPt0 c tbM0_1 xt1
            ∗ (iprop(owns c.tc arg4 fullShare x0 ∗ owns c.tc arg5 fullShare x1 ∗ owns c.tc arg6 fullShare x2 ∗ owns c.tc arg7 fullShare x3 ∗ owns c.tc arg8 fullShare x4 ∗ (∃ f, arg9.view.loc c.tc ↦[arg9.view.set]{fullShare} arg9.view.writes (Elt F) f L5) ∗ (∃ f, arg10.view.loc c.tc ↦[arg10.view.set]{fullShare} arg10.view.writes (Elt F) f LS0) ∗ (∃ f, arg11.view.loc c.tc ↦[arg11.view.set]{fullShare} arg11.view.writes (Elt F) f LS1) ∗ tbPt0 c tbM0_0 xt0 ∗ tbPt0 c tbM0_1 xt1) -∗ K ⟨⟩))
          ⊢ wp frame (wpE (defs₀ (F := F)) Variants.none c none) E (cc0_expert_gate_up i tbM0_0 htbM0_0 tbM0_1 htbM0_1 arg4 harg4 arg5 harg5 arg6 harg6 arg7 harg7 arg8 harg8 arg9 harg9 arg10 harg10 arg11 harg11) K } := by
  refine ⟨?_, ?_, ?_, fun E K => ?run⟩
  case run =>
    simp only [cc0_expert_gate_up_eq_skeleton]; unfold cc0_expert_gate_up_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, HT0, HT1, Hk⟩
    obtain rfl := harg4.eq_unread hf0; obtain rfl := harg5.eq_unread hf1; obtain rfl := harg6.eq_unread hf2; obtain rfl := harg7.eq_unread hf3; obtain rfl := harg8.eq_unread hf4
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]; · iexists _; iexact H5
    isplitl [HS0]; · iexists _; iexact HS0
    isplitl [HS1]; · iexists _; iexact HS1
    isplitl [HT0]; · iexact HT0
    iexact HT1

set_option maxHeartbeats 1000000 in
/-- The same pieces where the expert is new and the tile holds no row. -/
noncomputable def kernelRun0_B (hc0 : cond0_0 c i xt0) (hc1 : ¬cond0_1 c i xt1) (hc2 : cond0_2 c i xt1) :
    Σ' (L5 : List (View.Piece (Elt F) S256x1024 .bf16)), Σ' (LS0 : List (View.Piece (Elt F) S2048x1024 .bf16)), { LS1 : List (View.Piece (Elt F) S2048x1024 .bf16) //
      ∀ (E : Set ℕ) (K : PUnit → sProp 𝕄),
        iprop(owns c.tc arg4 fullShare x0 ∗ owns c.tc arg5 fullShare x1 ∗ owns c.tc arg6 fullShare x2 ∗ owns c.tc arg7 fullShare x3 ∗ owns c.tc arg8 fullShare x4 ∗ (∃ d, owns c.tc arg9 fullShare d) ∗ (∃ d, owns c.tc arg10 fullShare d) ∗ (∃ d, owns c.tc arg11 fullShare d) ∗ tbPt0 c tbM0_0 xt0 ∗ tbPt0 c tbM0_1 xt1
            ∗ (iprop(owns c.tc arg4 fullShare x0 ∗ owns c.tc arg5 fullShare x1 ∗ owns c.tc arg6 fullShare x2 ∗ owns c.tc arg7 fullShare x3 ∗ owns c.tc arg8 fullShare x4 ∗ (∃ f, arg9.view.loc c.tc ↦[arg9.view.set]{fullShare} arg9.view.writes (Elt F) f L5) ∗ (∃ f, arg10.view.loc c.tc ↦[arg10.view.set]{fullShare} arg10.view.writes (Elt F) f LS0) ∗ (∃ f, arg11.view.loc c.tc ↦[arg11.view.set]{fullShare} arg11.view.writes (Elt F) f LS1) ∗ tbPt0 c tbM0_0 xt0 ∗ tbPt0 c tbM0_1 xt1) -∗ K ⟨⟩))
          ⊢ wp frame (wpE (defs₀ (F := F)) Variants.none c none) E (cc0_expert_gate_up i tbM0_0 htbM0_0 tbM0_1 htbM0_1 arg4 harg4 arg5 harg5 arg6 harg6 arg7 harg7 arg8 harg8 arg9 harg9 arg10 harg10 arg11 harg11) K } := by
  refine ⟨?_, ?_, ?_, fun E K => ?run⟩
  case run =>
    simp only [cc0_expert_gate_up_eq_skeleton]; unfold cc0_expert_gate_up_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, HT0, HT1, Hk⟩
    obtain rfl := harg4.eq_unread hf0; obtain rfl := harg5.eq_unread hf1; obtain rfl := harg6.eq_unread hf2; obtain rfl := harg7.eq_unread hf3; obtain rfl := harg8.eq_unread hf4
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]; · iexists _; iexact H5
    isplitl [HS0]; · iexists _; iexact HS0
    isplitl [HS1]; · iexists _; iexact HS1
    isplitl [HT0]; · iexact HT0
    iexact HT1

set_option maxHeartbeats 1000000 in
/-- The pieces the body leaves in the output's staging buffer, with the proof that the body, run on whole staging buffers and the two tables, ends with them written and everything else as it was: the expert is the one before and the tile holds rows. -/
noncomputable def kernelRun0_C (xs0 : Vec F S2048x1024 .bf16) (xs1 : Vec F S2048x1024 .bf16) (hc0 : ¬cond0_0 c i xt0) (hc1 : cond0_1 c i xt1) (hc2 : ¬cond0_2 c i xt1) :
    { L5 : List (View.Piece (Elt F) S256x1024 .bf16) //
      ∀ (E : Set ℕ) (K : PUnit → sProp 𝕄),
        iprop(owns c.tc arg4 fullShare x0 ∗ owns c.tc arg5 fullShare x1 ∗ owns c.tc arg6 fullShare x2 ∗ owns c.tc arg7 fullShare x3 ∗ owns c.tc arg8 fullShare x4 ∗ (∃ d, owns c.tc arg9 fullShare d) ∗ owns c.tc arg10 fullShare xs0 ∗ owns c.tc arg11 fullShare xs1 ∗ tbPt0 c tbM0_0 xt0 ∗ tbPt0 c tbM0_1 xt1
            ∗ (iprop(owns c.tc arg4 fullShare x0 ∗ owns c.tc arg5 fullShare x1 ∗ owns c.tc arg6 fullShare x2 ∗ owns c.tc arg7 fullShare x3 ∗ owns c.tc arg8 fullShare x4 ∗ (∃ f, arg9.view.loc c.tc ↦[arg9.view.set]{fullShare} arg9.view.writes (Elt F) f L5) ∗ owns c.tc arg10 fullShare xs0 ∗ owns c.tc arg11 fullShare xs1 ∗ tbPt0 c tbM0_0 xt0 ∗ tbPt0 c tbM0_1 xt1) -∗ K ⟨⟩))
          ⊢ wp frame (wpE (defs₀ (F := F)) Variants.none c none) E (cc0_expert_gate_up i tbM0_0 htbM0_0 tbM0_1 htbM0_1 arg4 harg4 arg5 harg5 arg6 harg6 arg7 harg7 arg8 harg8 arg9 harg9 arg10 harg10 arg11 harg11) K } := by
  refine ⟨?_, fun E K => ?run⟩
  case run =>
    simp only [cc0_expert_gate_up_eq_skeleton]; unfold cc0_expert_gate_up_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, HT0, HT1, Hk⟩
    obtain rfl := harg4.eq_unread hf0; obtain rfl := harg5.eq_unread hf1; obtain rfl := harg6.eq_unread hf2; obtain rfl := harg7.eq_unread hf3; obtain rfl := harg8.eq_unread hf4; obtain rfl := harg10.eq_unread hfs0; obtain rfl := harg11.eq_unread hfs1
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]; · iexists _; iexact H5
    isplitl [HS0]
    · iexists _; isplitr; · ipureintro; exact harg10.read_unread _
      iexact HS0
    isplitl [HS1]
    · iexists _; isplitr; · ipureintro; exact harg11.read_unread _
      iexact HS1
    isplitl [HT0]; · iexact HT0
    iexact HT1

set_option maxHeartbeats 1000000 in
/-- The same pieces where the expert is the one before and the tile holds no row. -/
noncomputable def kernelRun0_D (xs0 : Vec F S2048x1024 .bf16) (xs1 : Vec F S2048x1024 .bf16) (hc0 : ¬cond0_0 c i xt0) (hc1 : ¬cond0_1 c i xt1) (hc2 : cond0_2 c i xt1) :
    { L5 : List (View.Piece (Elt F) S256x1024 .bf16) //
      ∀ (E : Set ℕ) (K : PUnit → sProp 𝕄),
        iprop(owns c.tc arg4 fullShare x0 ∗ owns c.tc arg5 fullShare x1 ∗ owns c.tc arg6 fullShare x2 ∗ owns c.tc arg7 fullShare x3 ∗ owns c.tc arg8 fullShare x4 ∗ (∃ d, owns c.tc arg9 fullShare d) ∗ owns c.tc arg10 fullShare xs0 ∗ owns c.tc arg11 fullShare xs1 ∗ tbPt0 c tbM0_0 xt0 ∗ tbPt0 c tbM0_1 xt1
            ∗ (iprop(owns c.tc arg4 fullShare x0 ∗ owns c.tc arg5 fullShare x1 ∗ owns c.tc arg6 fullShare x2 ∗ owns c.tc arg7 fullShare x3 ∗ owns c.tc arg8 fullShare x4 ∗ (∃ f, arg9.view.loc c.tc ↦[arg9.view.set]{fullShare} arg9.view.writes (Elt F) f L5) ∗ owns c.tc arg10 fullShare xs0 ∗ owns c.tc arg11 fullShare xs1 ∗ tbPt0 c tbM0_0 xt0 ∗ tbPt0 c tbM0_1 xt1) -∗ K ⟨⟩))
          ⊢ wp frame (wpE (defs₀ (F := F)) Variants.none c none) E (cc0_expert_gate_up i tbM0_0 htbM0_0 tbM0_1 htbM0_1 arg4 harg4 arg5 harg5 arg6 harg6 arg7 harg7 arg8 harg8 arg9 harg9 arg10 harg10 arg11 harg11) K } := by
  refine ⟨?_, fun E K => ?run⟩
  case run =>
    simp only [cc0_expert_gate_up_eq_skeleton]; unfold cc0_expert_gate_up_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, HT0, HT1, Hk⟩
    obtain rfl := harg4.eq_unread hf0; obtain rfl := harg5.eq_unread hf1; obtain rfl := harg6.eq_unread hf2; obtain rfl := harg7.eq_unread hf3; obtain rfl := harg8.eq_unread hf4; obtain rfl := harg10.eq_unread hfs0; obtain rfl := harg11.eq_unread hfs1
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]; · iexists _; iexact H5
    isplitl [HS0]
    · iexists _; isplitr; · ipureintro; exact harg10.read_unread _
      iexact HS0
    isplitl [HS1]
    · iexists _; isplitr; · ipureintro; exact harg11.read_unread _
      iexact HS1
    isplitl [HT0]; · iexact HT0
    iexact HT1

end Cert.Kernel4Ideal.Gen

end
-- ==== Proof.Kernel4IdealFrame.lean ====
module

public import proofs.«01_k».proof.Proof.Kernel4IdealRuns
public import Idealize.ShloMosaic.Lib.Claim
public import Idealize.ShloMosaic.Lib.Pipeline.ValueKit.Acc

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- A grid point, the buffers of its blocks and scratches, and what the blocks and the two tables hold.
variable (c : Dev nD) (i : grid0.Coords) (arg4 : Memref sig .tc .vmem S256x2048 .f32) (harg4 : arg4.IsWhole) (arg5 : Memref sig .tc .vmem S1x1x2048x1024 .f32) (harg5 : arg5.IsWhole) (arg6 : Memref sig .tc .vmem S1x1x2048x1024 .f32) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S256x1024 .bf16) (harg9 : arg9.IsWhole) (arg10 : Memref sig .tc .vmem S2048x1024 .bf16) (harg10 : arg10.IsWhole) (arg11 : Memref sig .tc .vmem S2048x1024 .bf16) (harg11 : arg11.IsWhole)
  (x0 : Vec F S256x2048 .f32) (x1 : Vec F S1x1x2048x1024 .f32) (x2 : Vec F S1x1x2048x1024 .f32) (x3 : Vec F S1x1x1x1024 .f32) (x4 : Vec F S1x1x1x1024 .f32) (xt0 : TbBuf0 (F := F) c tbM0_0) (xt1 : TbBuf0 (F := F) c tbM0_1)

/-- Case A: the stored pieces cover the output block. -/
theorem cover0_A (hc0 : cond0_0 c i xt0) (hc1 : cond0_1 c i xt1) (hc2 : ¬cond0_2 c i xt1) (y : S256x1024.Idx) :
    ∃ pc ∈ (kernelRun0_A c i arg4 harg4 arg5 harg5 arg6 harg6 arg7 harg7 arg8 harg8 arg9 harg9 arg10 harg10 arg11 harg11 x0 x1 x2 x3 x4 xt0 xt1 hc0 hc1 hc2).1, y ∈ pc.1.set :=
  View.cover_of_tiledL _ S256x1024.size (by sl_kernel_rfl) y

/-- Case A: the output block ends at the gated product with the freshly converted expert matrices. -/
theorem val0_A (hc0 : cond0_0 c i xt0) (hc1 : cond0_1 c i xt1) (hc2 : ¬cond0_2 c i xt1) (f) :
    arg9.view.read (Elt F) (arg9.view.writes (Elt F) f (kernelRun0_A c i arg4 harg4 arg5 harg5 arg6 harg6 arg7 harg7 arg8 harg8 arg9 harg9 arg10 harg10 arg11 harg11 x0 x1 x2 x3 x4 xt0 xt1 hc0 hc1 hc2).1) = k0_pay3 x0 (k0_pay1 x1) x3 (k0_pay2 x2) x4 := by
  rw [View.read_writes_eq_canon _ _ _ (cover0_A _ _ _ _ _ _ _ _ _ _ _ _ _ _ _ _ _ _ _ _ _ _ _ _ _ _ _ _)]
  unfold kernelRun0_A kernelRun0_A.sl.v23 kernelRun0_A.sl.v31 kernelRun0_A.sl.HS0_1 kernelRun0_A.sl.HS1_1
  simp (disch := decide) only [View.canon_cons_unit_lit', View.ld_unit_lit', View.readCov_unit_lit', View.readCov_cons_unit_lit', View.readAt_eq_ld, Memref.IsWhole.read_unread]

/-- Case A: the stored pieces cover the gate scratch. -/
theorem scover0_A (hc0 : cond0_0 c i xt0) (hc1 : cond0_1 c i xt1) (hc2 : ¬cond0_2 c i xt1) (y : S2048x1024.Idx) :
    ∃ pc ∈ (kernelRun0_A c i arg4 harg4 arg5 harg5 arg6 harg6 arg7 harg7 arg8 harg8 arg9 harg9 arg10 harg10 arg11 harg11 x0 x1 x2 x3 x4 xt0 xt1 hc0 hc1 hc2).2.1, y ∈ pc.1.set :=
  View.cover_of_tiledL _ S2048x1024.size (by sl_kernel_rfl) y

/-- Case A: the gate scratch ends at the converted expert matrix. -/
theorem sval0_A (hc0 : cond0_0 c i xt0) (hc1 : cond0_1 c i xt1) (hc2 : ¬cond0_2 c i xt1) (f) :
    arg10.view.read (Elt F) (arg10.view.writes (Elt F) f (kernelRun0_A c i arg4 harg4 arg5 harg5 arg6 harg6 arg7 harg7 arg8 harg8 arg9 harg9 arg10 harg10 arg11 harg11 x0 x1 x2 x3 x4 xt0 xt1 hc0 hc1 hc2).2.1) = k0_pay1 x1 := by
  rw [View.read_writes_eq_canon _ _ _ (scover0_A _ _ _ _ _ _ _ _ _ _ _ _ _ _ _ _ _ _ _ _ _ _ _ _ _ _ _ _)]
  unfold kernelRun0_A kernelRun0_A.sl.HS0_1
  simp (disch := decide) only [View.canon_cons_unit_lit', View.ld_unit_lit', View.readCov_unit_lit', View.readCov_cons_unit_lit', View.readAt_eq_ld, Memref.IsWhole.read_unread]

/-- Case A: the stored pieces cover the up scratch. -/
theorem scover1_A (hc0 : cond0_0 c i xt0) (hc1 : cond0_1 c i xt1) (hc2 : ¬cond0_2 c i xt1) (y : S2048x1024.Idx) :
    ∃ pc ∈ (kernelRun0_A c i arg4 harg4 arg5 harg5 arg6 harg6 arg7 harg7 arg8 harg8 arg9 harg9 arg10 harg10 arg11 harg11 x0 x1 x2 x3 x4 xt0 xt1 hc0 hc1 hc2).2.2.1, y ∈ pc.1.set :=
  View.cover_of_tiledL _ S2048x1024.size (by sl_kernel_rfl) y

/-- Case A: the up scratch ends at the converted expert matrix. -/
theorem sval1_A (hc0 : cond0_0 c i xt0) (hc1 : cond0_1 c i xt1) (hc2 : ¬cond0_2 c i xt1) (f) :
    arg11.view.read (Elt F) (arg11.view.writes (Elt F) f (kernelRun0_A c i arg4 harg4 arg5 harg5 arg6 harg6 arg7 harg7 arg8 harg8 arg9 harg9 arg10 harg10 arg11 harg11 x0 x1 x2 x3 x4 xt0 xt1 hc0 hc1 hc2).2.2.1) = k0_pay2 x2 := by
  rw [View.read_writes_eq_canon _ _ _ (scover1_A _ _ _ _ _ _ _ _ _ _ _ _ _ _ _ _ _ _ _ _ _ _ _ _ _ _ _ _)]
  unfold kernelRun0_A kernelRun0_A.sl.HS1_1
  simp (disch := decide) only [View.canon_cons_unit_lit', View.ld_unit_lit', View.readCov_unit_lit', View.readCov_cons_unit_lit', View.readAt_eq_ld, Memref.IsWhole.read_unread]

/-- Case B: the stored pieces cover the output block. -/
theorem cover0_B (hc0 : cond0_0 c i xt0) (hc1 : ¬cond0_1 c i xt1) (hc2 : cond0_2 c i xt1) (y : S256x1024.Idx) :
    ∃ pc ∈ (kernelRun0_B c i arg4 harg4 arg5 harg5 arg6 harg6 arg7 harg7 arg8 harg8 arg9 harg9 arg10 harg10 arg11 harg11 x0 x1 x2 x3 x4 xt0 xt1 hc0 hc1 hc2).1, y ∈ pc.1.set :=
  View.cover_of_tiledL _ S256x1024.size (by sl_kernel_rfl) y

/-- Case B: the output block ends at zero. -/
theorem val0_B (hc0 : cond0_0 c i xt0) (hc1 : ¬cond0_1 c i xt1) (hc2 : cond0_2 c i xt1) (f) :
    arg9.view.read (Elt F) (arg9.view.writes (Elt F) f (kernelRun0_B c i arg4 harg4 arg5 harg5 arg6 harg6 arg7 harg7 arg8 harg8 arg9 harg9 arg10 harg10 arg11 harg11 x0 x1 x2 x3 x4 xt0 xt1 hc0 hc1 hc2).1) = k0_pay4 := by
  rw [View.read_writes_eq_canon _ _ _ (cover0_B _ _ _ _ _ _ _ _ _ _ _ _ _ _ _ _ _ _ _ _ _ _ _ _ _ _ _ _)]
  unfold kernelRun0_B
  simp (disch := decide) only [View.canon_cons_unit_lit', View.ld_unit_lit', View.readCov_unit_lit', View.readCov_cons_unit_lit', View.readAt_eq_ld, Memref.IsWhole.read_unread]

/-- Case B: the stored pieces cover the gate scratch. -/
theorem scover0_B (hc0 : cond0_0 c i xt0) (hc1 : ¬cond0_1 c i xt1) (hc2 : cond0_2 c i xt1) (y : S2048x1024.Idx) :
    ∃ pc ∈ (kernelRun0_B c i arg4 harg4 arg5 harg5 arg6 harg6 arg7 harg7 arg8 harg8 arg9 harg9 arg10 harg10 arg11 harg11 x0 x1 x2 x3 x4 xt0 xt1 hc0 hc1 hc2).2.1, y ∈ pc.1.set :=
  View.cover_of_tiledL _ S2048x1024.size (by sl_kernel_rfl) y

/-- Case B: the gate scratch ends at the converted expert matrix. -/
theorem sval0_B (hc0 : cond0_0 c i xt0) (hc1 : ¬cond0_1 c i xt1) (hc2 : cond0_2 c i xt1) (f) :
    arg10.view.read (Elt F) (arg10.view.writes (Elt F) f (kernelRun0_B c i arg4 harg4 arg5 harg5 arg6 harg6 arg7 harg7 arg8 harg8 arg9 harg9 arg10 harg10 arg11 harg11 x0 x1 x2 x3 x4 xt0 xt1 hc0 hc1 hc2).2.1) = k0_pay1 x1 := by
  rw [View.read_writes_eq_canon _ _ _ (scover0_B _ _ _ _ _ _ _ _ _ _ _ _ _ _ _ _ _ _ _ _ _ _ _ _ _ _ _ _)]
  unfold kernelRun0_B
  simp (disch := decide) only [View.canon_cons_unit_lit', View.ld_unit_lit', View.readCov_unit_lit', View.readCov_cons_unit_lit', View.readAt_eq_ld, Memref.IsWhole.read_unread]

/-- Case B: the stored pieces cover the up scratch. -/
theorem scover1_B (hc0 : cond0_0 c i xt0) (hc1 : ¬cond0_1 c i xt1) (hc2 : cond0_2 c i xt1) (y : S2048x1024.Idx) :
    ∃ pc ∈ (kernelRun0_B c i arg4 harg4 arg5 harg5 arg6 harg6 arg7 harg7 arg8 harg8 arg9 harg9 arg10 harg10 arg11 harg11 x0 x1 x2 x3 x4 xt0 xt1 hc0 hc1 hc2).2.2.1, y ∈ pc.1.set :=
  View.cover_of_tiledL _ S2048x1024.size (by sl_kernel_rfl) y

/-- Case B: the up scratch ends at the converted expert matrix. -/
theorem sval1_B (hc0 : cond0_0 c i xt0) (hc1 : ¬cond0_1 c i xt1) (hc2 : cond0_2 c i xt1) (f) :
    arg11.view.read (Elt F) (arg11.view.writes (Elt F) f (kernelRun0_B c i arg4 harg4 arg5 harg5 arg6 harg6 arg7 harg7 arg8 harg8 arg9 harg9 arg10 harg10 arg11 harg11 x0 x1 x2 x3 x4 xt0 xt1 hc0 hc1 hc2).2.2.1) = k0_pay2 x2 := by
  rw [View.read_writes_eq_canon _ _ _ (scover1_B _ _ _ _ _ _ _ _ _ _ _ _ _ _ _ _ _ _ _ _ _ _ _ _ _ _ _ _)]
  unfold kernelRun0_B
  simp (disch := decide) only [View.canon_cons_unit_lit', View.ld_unit_lit', View.readCov_unit_lit', View.readCov_cons_unit_lit', View.readAt_eq_ld, Memref.IsWhole.read_unread]

/-- Case C: the stored pieces cover the output block. -/
theorem cover0_C (xs0 : Vec F S2048x1024 .bf16) (xs1 : Vec F S2048x1024 .bf16) (hc0 : ¬cond0_0 c i xt0) (hc1 : cond0_1 c i xt1) (hc2 : ¬cond0_2 c i xt1) (y : S256x1024.Idx) :
    ∃ pc ∈ (kernelRun0_C c i arg4 harg4 arg5 harg5 arg6 harg6 arg7 harg7 arg8 harg8 arg9 harg9 arg10 harg10 arg11 harg11 x0 x1 x2 x3 x4 xt0 xt1 xs0 xs1 hc0 hc1 hc2).1, y ∈ pc.1.set :=
  View.cover_of_tiledL _ S256x1024.size (by sl_kernel_rfl) y

/-- Case C: the output block ends at the gated product with the matrices the scratches hold. -/
theorem val0_C (xs0 : Vec F S2048x1024 .bf16) (xs1 : Vec F S2048x1024 .bf16) (hc0 : ¬cond0_0 c i xt0) (hc1 : cond0_1 c i xt1) (hc2 : ¬cond0_2 c i xt1) (f) :
    arg9.view.read (Elt F) (arg9.view.writes (Elt F) f (kernelRun0_C c i arg4 harg4 arg5 harg5 arg6 harg6 arg7 harg7 arg8 harg8 arg9 harg9 arg10 harg10 arg11 harg11 x0 x1 x2 x3 x4 xt0 xt1 xs0 xs1 hc0 hc1 hc2).1) = k0_pay3 x0 xs0 x3 xs1 x4 := by
  rw [View.read_writes_eq_canon _ _ _ (cover0_C _ _ _ _ _ _ _ _ _ _ _ _ _ _ _ _ _ _ _ _ _ _ _ _ _ _ _ _ _ _)]
  unfold kernelRun0_C
  simp (disch := decide) only [View.canon_cons_unit_lit', View.ld_unit_lit', View.readCov_unit_lit', View.readCov_cons_unit_lit', View.readAt_eq_ld, Memref.IsWhole.read_unread]

/-- Case D: the stored pieces cover the output block. -/
theorem cover0_D (xs0 : Vec F S2048x1024 .bf16) (xs1 : Vec F S2048x1024 .bf16) (hc0 : ¬cond0_0 c i xt0) (hc1 : ¬cond0_1 c i xt1) (hc2 : cond0_2 c i xt1) (y : S256x1024.Idx) :
    ∃ pc ∈ (kernelRun0_D c i arg4 harg4 arg5 harg5 arg6 harg6 arg7 harg7 arg8 harg8 arg9 harg9 arg10 harg10 arg11 harg11 x0 x1 x2 x3 x4 xt0 xt1 xs0 xs1 hc0 hc1 hc2).1, y ∈ pc.1.set :=
  View.cover_of_tiledL _ S256x1024.size (by sl_kernel_rfl) y

/-- Case D: the output block ends at zero. -/
theorem val0_D (xs0 : Vec F S2048x1024 .bf16) (xs1 : Vec F S2048x1024 .bf16) (hc0 : ¬cond0_0 c i xt0) (hc1 : ¬cond0_1 c i xt1) (hc2 : cond0_2 c i xt1) (f) :
    arg9.view.read (Elt F) (arg9.view.writes (Elt F) f (kernelRun0_D c i arg4 harg4 arg5 harg5 arg6 harg6 arg7 harg7 arg8 harg8 arg9 harg9 arg10 harg10 arg11 harg11 x0 x1 x2 x3 x4 xt0 xt1 xs0 xs1 hc0 hc1 hc2).1) = k0_pay4 := by
  rw [View.read_writes_eq_canon _ _ _ (cover0_D _ _ _ _ _ _ _ _ _ _ _ _ _ _ _ _ _ _ _ _ _ _ _ _ _ _ _ _ _ _)]
  unfold kernelRun0_D
  simp (disch := decide) only [View.canon_cons_unit_lit', View.ld_unit_lit', View.readCov_unit_lit', View.readCov_cons_unit_lit', View.readAt_eq_ld, Memref.IsWhole.read_unread]

/-- The grid's coordinates at a point: the column block, -/
theorem coords_0 (t : Fin grid0.N) : (grid0.coords t 0).val = t.val / 161 := by
  have e : (grid0.coords t 0).val = t.val / 161 % 2 := Pipeline.Grid.coords_val t 0 (by decide) rfl
  have ht : t.val < 322 := Nat.lt_of_lt_of_eq t.isLt N_0
  omega
/-- and the tile. -/
theorem coords_1 (t : Fin grid0.N) : (grid0.coords t 1).val = t.val % 161 := by
  have e : (grid0.coords t 1).val = t.val / 1 % 161 := Pipeline.Grid.coords_val t 1 (by decide) rfl
  rw [e, Nat.div_one]

/-! ## What the scratch and the output block hold after each point -/

/-- The gate scratch after the point at position `n`: the converted expert matrix of the last point at or before it at which the first branch is taken. -/
def scrAt (hO : Ok m) (c : Dev nD) : (n : ℕ) → n < (cfgM m hO).N → Vec F S2048x1024 .bf16
  | 0, hn => k0_pay1 (iblk m hO c 1 ⟨0, hn⟩)
  | n + 1, hn =>
    haveI := Classical.propDecidable (cond0_0 c (grid0.coords ⟨n + 1, hn⟩) (tbl m 0))
    if cond0_0 c (grid0.coords ⟨n + 1, hn⟩) (tbl m 0) then k0_pay1 (iblk m hO c 1 ⟨n + 1, hn⟩) else scrAt hO c n (Nat.lt_of_succ_lt hn)

/-- Where the first branch is taken the gate scratch ends at the point's converted expert matrix. -/
theorem scrAt_new (hO : Ok m) (c : Dev nD) (t : Fin (cfgM m hO).N) (h : cond0_0 c (grid0.coords t) (tbl m 0)) :
    scrAt m hO c t.val t.isLt = k0_pay1 (iblk m hO c 1 t) := by
  obtain ⟨n, hn⟩ := t
  cases n with
  | zero => rfl
  | succ n => exact if_pos h

/-- Elsewhere it keeps what the point before left. -/
theorem scrAt_old (hO : Ok m) (c : Dev nD) (t : Fin (cfgM m hO).N) (hz : t.val ≠ 0) (h : ¬cond0_0 c (grid0.coords t) (tbl m 0)) :
    scrAt m hO c t.val t.isLt = scrAt m hO c (t.val - 1) (Nat.lt_of_le_of_lt (Nat.sub_le _ _) t.isLt) := by
  obtain ⟨n, hn⟩ := t
  cases n with
  | zero => exact absurd rfl hz
  | succ n => exact if_neg h

/-- The up scratch after the point at position `n`: the converted expert matrix of the last point at or before it at which the first branch is taken. -/
def scuAt (hO : Ok m) (c : Dev nD) : (n : ℕ) → n < (cfgM m hO).N → Vec F S2048x1024 .bf16
  | 0, hn => k0_pay2 (iblk m hO c 2 ⟨0, hn⟩)
  | n + 1, hn =>
    haveI := Classical.propDecidable (cond0_0 c (grid0.coords ⟨n + 1, hn⟩) (tbl m 0))
    if cond0_0 c (grid0.coords ⟨n + 1, hn⟩) (tbl m 0) then k0_pay2 (iblk m hO c 2 ⟨n + 1, hn⟩) else scuAt hO c n (Nat.lt_of_succ_lt hn)

/-- Where the first branch is taken the up scratch ends at the point's converted expert matrix. -/
theorem scuAt_new (hO : Ok m) (c : Dev nD) (t : Fin (cfgM m hO).N) (h : cond0_0 c (grid0.coords t) (tbl m 0)) :
    scuAt m hO c t.val t.isLt = k0_pay2 (iblk m hO c 2 t) := by
  obtain ⟨n, hn⟩ := t
  cases n with
  | zero => rfl
  | succ n => exact if_pos h

/-- Elsewhere it keeps what the point before left. -/
theorem scuAt_old (hO : Ok m) (c : Dev nD) (t : Fin (cfgM m hO).N) (hz : t.val ≠ 0) (h : ¬cond0_0 c (grid0.coords t) (tbl m 0)) :
    scuAt m hO c t.val t.isLt = scuAt m hO c (t.val - 1) (Nat.lt_of_le_of_lt (Nat.sub_le _ _) t.isLt) := by
  obtain ⟨n, hn⟩ := t
  cases n with
  | zero => exact absurd rfl hz
  | succ n => exact if_neg h

/-- The output block after point `t`: the gated product with the scratches' matrices where the tile holds rows, zero elsewhere. -/
def outAt (hO : Ok m) (c : Dev nD) (t : Fin (cfgM m hO).N) : Vec F S256x1024 .bf16 :=
  haveI := Classical.propDecidable (cond0_1 c (grid0.coords t) (tbl m 1))
  if cond0_1 c (grid0.coords t) (tbl m 1) then k0_pay3 (iblk m hO c 0 t) (scrAt m hO c t.val t.isLt) (iblk m hO c 3 t) (scuAt m hO c t.val t.isLt) (iblk m hO c 4 t) else k0_pay4

/-- The region invariant before position `n`: at first every scratch at anything; afterwards the scratches at what the point before left. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns c.tc scM0_0 fullShare (scrAt m hO c n hn) ∗ owns c.tc scM0_1 fullShare (scuAt m hO c n hn)) ∗ (∃ r, prngReg c r)) ∗ Pipeline.ΦT pre0 (tbl m) c)

/-- Before the first point: every scratch at anything. -/
theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n`: the scratches at that point's contents. -/
theorem PhiS_succ (hO : Ok m) (c : Dev nD) (n : ℕ) (hn : n < (cfgM m hO).N) :
    PhiS m hO c (n + 1) hn = iprop(iprop(iprop(owns c.tc scM0_0 fullShare (scrAt m hO c n hn) ∗ owns c.tc scM0_1 fullShare (scuAt m hO c n hn)) ∗ (∃ r, prngReg c r)) ∗ Pipeline.ΦT pre0 (tbl m) c) := rfl

/-- Before a point that is not the first: the scratches at what the point before left. -/
theorem PhiS_pos (hO : Ok m) (c : Dev nD) (n : ℕ) (h : n ≤ (cfgM m hO).N) (hz : n ≠ 0) :
    PhiS m hO c n h = iprop(iprop(iprop(owns c.tc scM0_0 fullShare (scrAt m hO c (n - 1) (by omega)) ∗ owns c.tc scM0_1 fullShare (scuAt m hO c (n - 1) (by omega))) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outAt`; the invariant the class's
     and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO c t
  Φ t := PhiS m hO c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = outAt m hO c t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

/-- What the body is called with at point `t` , -/
def bodyPre (hO : Ok m) (c : Dev nD) (t : Fin (cfgM m hO).N) : sProp 𝕄 :=
  iprop((dats m hO 0 c).Φ t.castSucc ∗ (dats m hO 0 c).owesAt () t.castSucc
    ∗ (∃ d, owns c.tc (ms0_0 m hO t) fullShare ((dats m hO 0 c).before 0 t d))
    ∗ (∃ d, owns c.tc (ms0_1 m hO t) fullShare ((dats m hO 0 c).before 1 t d))
    ∗ (∃ d, owns c.tc (ms0_2 m hO t) fullShare ((dats m hO 0 c).before 2 t d))
    ∗ (∃ d, owns c.tc (ms0_3 m hO t) fullShare ((dats m hO 0 c).before 3 t d))
    ∗ (∃ d, owns c.tc (ms0_4 m hO t) fullShare ((dats m hO 0 c).before 4 t d))
    ∗ (∃ d, owns c.tc (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t)

set_option maxHeartbeats 6400000 in
/-- The body at any point: by cases on the three branches, the run of the case applies to the blocks the pipeline hands it and the scratch the point before left. -/
theorem sound_body (hO : Ok m) (hL : Live m) (c : Dev nD) (t : Fin (cfgM m hO).N) :
    bodyPre m hO c t ⊢ wp frame (wpE (defs₀ (F := F)) Variants.none c none) Set.univ (bodyAt0 (adm m hO) t) (fun _ => bodyPost m hO c t) := by
  have hl : (cond0_1 c (grid0.coords t) (tbl m 1) ∨ cond0_2 c (grid0.coords t) (tbl m 1)) ∧ ¬(cond0_1 c (grid0.coords t) (tbl m 1) ∧ cond0_2 c (grid0.coords t) (tbl m 1)) := by
    obtain rfl : c = 0 := Subsingleton.elim _ _
    exact hL (grid0.coords t)
  have hfirst : t.val = 0 → cond0_0 c (grid0.coords t) (tbl m 0) := fun hz => cond0_first c _ _ (by
    rw [coords_1 t, hz])
  unfold bodyPre bodyPost bodyAt0
  simp only [before0_0, before0_1, before0_2, before0_3, before0_4]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  rw [show (dats m hO 0 c).leavesExact 0 t = owns c.tc (ms0_0 m hO t) fullShare ((dats m hO 0 c).after 0 t) from by
      unfold Dat.leavesExact; rw [liveAt0_0 m hO t]; try rfl, after0_0]
  rw [show (dats m hO 0 c).leavesExact 1 t = owns c.tc (ms0_1 m hO t) fullShare ((dats m hO 0 c).after 1 t) from by
      unfold Dat.leavesExact; rw [liveAt0_1 m hO t]; try rfl, after0_1]
  rw [show (dats m hO 0 c).leavesExact 2 t = owns c.tc (ms0_2 m hO t) fullShare ((dats m hO 0 c).after 2 t) from by
      unfold Dat.leavesExact; rw [liveAt0_2 m hO t]; try rfl, after0_2]
  rw [show (dats m hO 0 c).leavesExact 3 t = owns c.tc (ms0_3 m hO t) fullShare ((dats m hO 0 c).after 3 t) from by
      unfold Dat.leavesExact; rw [liveAt0_3 m hO t]; try rfl, after0_3]
  rw [show (dats m hO 0 c).leavesExact 4 t = owns c.tc (ms0_4 m hO t) fullShare ((dats m hO 0 c).after 4 t) from by
      unfold Dat.leavesExact; rw [liveAt0_4 m hO t]; try rfl, after0_4]
  rw [show (dats m hO 0 c).leavesExact 5 t = owns c.tc (ms0_5 m hO t) fullShare ((dats m hO 0 c).after 5 t) from by
      unfold Dat.leavesExact; rw [liveAt0_5 m hO hL t]; try rfl, after0_5]
  by_cases h0 : cond0_0 c (grid0.coords t) (tbl m 0)
  · by_cases h1 : cond0_1 c (grid0.coords t) (tbl m 1)
    case' pos =>
      have h2 : ¬cond0_2 c (grid0.coords t) (tbl m 1) := fun h => hl.2 ⟨h1, h⟩
    case' neg =>
      have h2 : cond0_2 c (grid0.coords t) (tbl m 1) := hl.1.resolve_left h1
    all_goals
      by_cases hz : t.val = 0
      case' pos => rw [PhiS_castSucc m hO c t, PhiS_zero m hO c _ _ hz, PhiT0_eq, PhiA0_eq]
      case' neg => rw [PhiS_castSucc m hO c t, PhiS_pos m hO c _ _ hz, PhiT0_eq]
      all_goals
        rw [scrAt_new m hO c t h0, scuAt_new m hO c t h0]
        iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩⟩
        first
          | (iapply ((kernelRun0_A c (grid0.coords t) _ _ _ _ _ _ _ _ _ _ _ _ _ _ _ _ (iblk m hO c 0 t) (iblk m hO c 1 t) (iblk m hO c 2 t) (iblk m hO c 3 t) (iblk m hO c 4 t) (tbl m 0) (tbl m 1) h0 h1 h2).2.2.2 Set.univ _))
          | (iapply ((kernelRun0_B c (grid0.coords t) _ _ _ _ _ _ _ _ _ _ _ _ _ _ _ _ (iblk m hO c 0 t) (iblk m hO c 1 t) (iblk m hO c 2 t) (iblk m hO c 3 t) (iblk m hO c 4 t) (tbl m 0) (tbl m 1) h0 h1 h2).2.2.2 Set.univ _))
        isplitl [H0]; · iexact H0
        isplitl [H1]; · iexact H1
        isplitl [H2]; · iexact H2
        isplitl [H3]; · iexact H3
        isplitl [H4]; · iexact H4
        isplitl [H5]; · iexists _; iexact H5
        isplitl [HS0]; · first | iexact HS0 | (iexists _; iexact HS0)
        isplitl [HS1]; · first | iexact HS1 | (iexists _; iexact HS1)
        isplitl [HT0]; · iexact HT0
        isplitl [HT1]; · iexact HT1
        iintro ⟨H0, H1, H2, H3, H4, ⟨%e5, H5⟩, ⟨%es0, HS0⟩, ⟨%es1, HS1⟩, HT0, HT1⟩
        isplitl [HS0 HS1 Hg HT0 HT1]
        · isplitl [HS0 HS1 Hg]
          · isplitl [HS0 HS1]
            · isplitl [HS0]
              · unfold owns; iexists _; isplitr
                swap; · iexact HS0
                ipureintro; first | (have _ : cond0_1 c (grid0.coords t) (tbl m 1) := h1; exact sval0_A ..) | exact sval0_B ..
              unfold owns; iexists _; isplitr
              swap; · iexact HS1
              ipureintro; first | (have _ : cond0_1 c (grid0.coords t) (tbl m 1) := h1; exact sval1_A ..) | exact sval1_B ..
            iexact Hg
          isplitl [HT0]; · iexact HT0
          iexact HT1
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; first | (have _ : cond0_1 c (grid0.coords t) (tbl m 1) := h1; exact (val0_A ..).trans (Eq.symm ((if_pos h1).trans (by rw [scrAt_new m hO c t h0, scuAt_new m hO c t h0])))) | exact (val0_B ..).trans (Eq.symm (if_neg h1))
  · have hz : t.val ≠ 0 := fun hz => h0 (hfirst hz)
    by_cases h1 : cond0_1 c (grid0.coords t) (tbl m 1)
    case' pos =>
      have h2 : ¬cond0_2 c (grid0.coords t) (tbl m 1) := fun h => hl.2 ⟨h1, h⟩
    case' neg =>
      have h2 : cond0_2 c (grid0.coords t) (tbl m 1) := hl.1.resolve_left h1
    all_goals
      rw [PhiS_castSucc m hO c t, PhiS_pos m hO c _ _ hz, PhiT0_eq]
      rw [scrAt_old m hO c t hz h0, scuAt_old m hO c t hz h0]
      iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩⟩
      first
        | (iapply ((kernelRun0_C c (grid0.coords t) _ _ _ _ _ _ _ _ _ _ _ _ _ _ _ _ (iblk m hO c 0 t) (iblk m hO c 1 t) (iblk m hO c 2 t) (iblk m hO c 3 t) (iblk m hO c 4 t) (tbl m 0) (tbl m 1) _ _ h0 h1 h2).2 Set.univ _))
        | (iapply ((kernelRun0_D c (grid0.coords t) _ _ _ _ _ _ _ _ _ _ _ _ _ _ _ _ (iblk m hO c 0 t) (iblk m hO c 1 t) (iblk m hO c 2 t) (iblk m hO c 3 t) (iblk m hO c 4 t) (tbl m 0) (tbl m 1) _ _ h0 h1 h2).2 Set.univ _))
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HT0]; · iexact HT0
      isplitl [HT1]; · iexact HT1
      iintro ⟨H0, H1, H2, H3, H4, ⟨%e5, H5⟩, HS0, HS1, HT0, HT1⟩
      isplitl [HS0 HS1 Hg HT0 HT1]
      · isplitl [HS0 HS1 Hg]
        · isplitl [HS0 HS1]
          · isplitl [HS0]
            · iexact HS0
            iexact HS1
          iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; first | (have _ : cond0_1 c (grid0.coords t) (tbl m 1) := h1; exact (val0_C ..).trans (Eq.symm ((if_pos h1).trans (by rw [scrAt_old m hO c t hz h0, scuAt_old m hO c t hz h0])))) | exact (val0_D ..).trans (Eq.symm (if_neg h1))

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated . -/
theorem body_obligation (hO : Ok m) (hL : Live m) (c : Dev nD) : BodyObligation (dats (F := F) m hO 0 c) (defs₀ (F := F)) Variants.none () Set.univ := fun t => by
  rw [bigSep_W0, bigSep_W0, defs₀_row m hO]
  exact triple_restated (sound_body m hO hL c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1⟩, Hg⟩, -⟩
  isplitl [HS0 HS1]
  · isplitl [HS0]
    · iexists _; iexact HS0
    iexists _; iexact HS1
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 322 := N_0; omega)

/-! ## The run and the frame -/

-- `θ_run_frameP_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hL : Live m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO hL c).loose) (hq := fun _ _ _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it . -/
theorem run_main (hO : Ok m) (hL : Live m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO hL)

/-- `frame` without the counters: the argument arrays end unchanged. -/
theorem unchanged (hO : Ok m) (hL : Live m) : θ_run defs (onTc (τ := τ) (main (F := F))) ⟨m, fun _ => 0, ρ⟩ (fun r => ∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)) :=
  frame_of m ρ hO (dats m hO) (A_eq m hO) (run_main m ρ hO hL)

/-- The frame: from any memory with zero counters, under the two conditions on the tables, every weakly fair execution terminates with the argument arrays unchanged and every counter at zero. -/
theorem frame (hO : Ok m) (hL : Live m) : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4))
      ∧ r.2.sem = fun _ => 0) :=
  θ_run_and (unchanged m ρ hO hL) ((θ_run defs _ _).mono (fun _ h => h.2) (run_main_quiescent m ρ hO hL))

end Cert.Kernel4Ideal.Gen

end
-- ==== Proof.Kernel4IdealWords.lean ====
/- The words of the two tables under the precondition of the second layer's gate and up projection: the pipeline's side condition, the branches the
   body takes, and the block indices the expert words give. -/
module

public import proofs.«01_k».proof.Proof.Kernel4IdealFrame
public import proofs.«01_k».proof.Pre_tiles_named
public import proofs.«01_k».proof.Proof.Gen.Pre_tiles_named
public import Idealize.ShloMosaic.Lib.StableHlo.Predicate
public import Idealize.ShloMosaic.Lib.ValueIdx

@[expose] public section

set_option maxRecDepth 16384

noncomputable section

namespace Cert.Kernel4Ideal.Gen

open Idealize.ShloMosaic Idealize.ShloMosaic.TcCoe Idealize.SL.Sem

variable {F : FTy → Type} [FloatOps F]
variable (m : (ℓ : Loc nD τ sig) → Buf (Elt F) ℓ)

/-- The expert table the launch memory holds. -/
abbrev te : IVec S161 32 := m (((0 : Dev nD) : Thread nD τ).loc main_arg0)
/-- The row-count table the launch memory holds. -/
abbrev tv : IVec S161 32 := m (((0 : Dev nD) : Thread nD τ).loc main_arg1)

/-- Every expert word names one of the 32 experts, and no row-count word is negative. -/
def Words : Prop := (∀ x, (te m x).toNat ≤ 31) ∧ ∀ x, 0 ≤ (tv m x).toInt

theorem tbl_0 : tbl m 0 = te m := V_arg m 0 main_arg0 (by simp)
theorem tbl_1 : tbl m 1 = tv m := V_arg m 0 main_arg1 (by simp)

/-- The precondition's bit at one tile. -/
theorem words_bit (a b : BitVec 32)
    (h : IntOp.andi (IntOp.andi (IntOp.cmpi .sge a 0#32) (IntOp.cmpi .sle a 31#32)) (IntOp.cmpi .sge b 0#32) = 1#1) :
    a.toNat ≤ 31 ∧ 0 ≤ b.toInt := by
  have key : ∀ p q r : Bool, IntOp.andi (IntOp.andi (BitVec.ofBool p) (BitVec.ofBool q)) (BitVec.ofBool r) = 1#1 → p = true ∧ q = true ∧ r = true := by decide
  obtain ⟨h1, h2, h3⟩ := key _ _ _ h
  simp only [BitVec.sle, decide_eq_true_eq] at h1 h2 h3
  have e0 : (0#32 : BitVec 32).toInt = 0 := by decide
  have e31 : (31#32 : BitVec 32).toInt = 31 := by decide
  rw [e0] at h1 h3
  rw [e31] at h2
  refine ⟨?_, h3⟩
  rw [BitVec.toInt_eq_toNat_cond] at h1 h2
  have := a.isLt
  split at h1 <;> omega

/-- The precondition gives the words' bounds. -/
theorem words_of (x2 x3 x4)
    (h : Cert.Pre_tiles_named.fn (F := F) (te m) (tv m) x2 x3 x4 = fun _ => 1#1) : Words m :=
  ⟨fun x => (words_bit (te m x) (tv m x) (congrFun h x)).1, fun x => (words_bit (te m x) (tv m x) (congrFun h x)).2⟩

/-- The tile of a grid point, as an index of the tables. -/
abbrev tile (i : grid0.Coords) : S161.Idx := fun a => match a with | ⟨0, _⟩ => ⟨(i 1).val, (i 1).isLt⟩

/-- The word loaded at a literal offset is the table's entry there. -/
theorem teW_eq (c : Dev nD) (o : Fin 1 → ℕ) (ho : ∀ a, o a + S1.size a ≤ S161.size a) (x : IVec S161 32) (k : S161.Idx) (hk : (k 0).val = o 0) :
    teW (F := F) c o ho x = x k :=
  congrArg x (funext fun a => Fin.ext (by fin_cases a; exact hk.symm))
theorem tvW_eq (c : Dev nD) (o : Fin 1 → ℕ) (ho : ∀ a, o a + S1.size a ≤ S161.size a) (x : IVec S161 32) (k : S161.Idx) (hk : (k 0).val = o 0) :
    tvW (F := F) c o ho x = x k :=
  congrArg x (funext fun a => Fin.ext (by fin_cases a; exact hk.symm))

/-- The up half's column block lies two blocks after the gate half's. -/
theorem up_block (i : grid0.Coords) : (BitVec.ofNat 32 (i 0).val + 2#32).toNat = (i 0).val + 2 := by
  have h : (i 0).val < 2 := (i 0).isLt
  have h1 : (BitVec.ofNat 32 (i 0).val).toNat = (i 0).val := by rw [BitVec.toNat_ofNat, Nat.mod_eq_of_lt (by omega)]
  rw [BitVec.toNat_add, h1]
  exact Nat.mod_eq_of_lt (show (i 0).val + 2 < 2 ^ 32 by omega)

/-- The expert word of the window maps is the table's entry at the tile: the gate half's matrix, -/
theorem ix_1 (i : grid0.Coords) : cc0_transform_1 k0_off1_inb numel1_S1 (tbl m) i = ![1, (te m (tile i)).toNat, 0, (i 0).val] := by
  have h : cc0_transform_1 k0_off1_inb numel1_S1 (tbl m) i = ![1, (teW (F := F) 0 (k0_off1 i) (k0_off1_inb i) (tbl m 0)).toNat, 0, (BitVec.ofNat 32 (i 0).val).toNat] := rfl
  rw [h, show teW 0 (k0_off1 i) (k0_off1_inb i) (tbl m 0) = te m (tile i) from (teW_eq (F := F) 0 _ _ _ (tile i) (by rw [k0_off1_eq]; rfl)).trans (congrFun (tbl_0 m) _), BitVec.toNat_ofNat, Nat.mod_eq_of_lt (by have : (i 0).val < 2 := (i 0).isLt; omega)]
/-- the up half's matrix, -/
theorem ix_2 (i : grid0.Coords) : cc0_transform_2 k0_off1_inb numel1_S1 (tbl m) i = ![1, (te m (tile i)).toNat, 0, (i 0).val + 2] := by
  have h : cc0_transform_2 k0_off1_inb numel1_S1 (tbl m) i = ![1, (teW (F := F) 0 (k0_off1 i) (k0_off1_inb i) (tbl m 0)).toNat, 0, (BitVec.ofNat 32 (i 0).val + 2#32).toNat] := rfl
  rw [h, show teW 0 (k0_off1 i) (k0_off1_inb i) (tbl m 0) = te m (tile i) from (teW_eq (F := F) 0 _ _ _ (tile i) (by rw [k0_off1_eq]; rfl)).trans (congrFun (tbl_0 m) _), up_block i]
/-- and the two biases. -/
theorem ix_3 (i : grid0.Coords) : cc0_transform_3 k0_off1_inb numel1_S1 (tbl m) i = ![1, (te m (tile i)).toNat, 0, (i 0).val] := ix_1 m i
theorem ix_4 (i : grid0.Coords) : cc0_transform_4 k0_off1_inb numel1_S1 (tbl m) i = ![1, (te m (tile i)).toNat, 0, (i 0).val + 2] := ix_2 m i

/-- The words' bounds give the pipeline's side condition. -/
theorem ok_of_words (h : Words m) : Ok m := by
  refine ⟨fun i => ⟨fun a => ?_, Or.inl rfl⟩, fun i => ⟨fun a => ?_, Or.inl rfl⟩, fun i => ⟨fun a => ?_, Or.inl rfl⟩, fun i => ⟨fun a => ?_, Or.inl rfl⟩⟩
  · rw [ix_1 m i]
    have h0 : (i 0).val < 2 := (i 0).isLt
    have h1 := h.1 (tile i)
    fin_cases a
    · show (1 + 1) * 1 ≤ 2; omega
    · show ((te m (tile i)).toNat + 1) * 1 ≤ 32; omega
    · show (0 + 1) * 2048 ≤ 2048; omega
    · show ((i 0).val + 1) * 1024 ≤ 4096; omega
  · rw [ix_2 m i]
    have h0 : (i 0).val < 2 := (i 0).isLt
    have h1 := h.1 (tile i)
    fin_cases a
    · show (1 + 1) * 1 ≤ 2; omega
    · show ((te m (tile i)).toNat + 1) * 1 ≤ 32; omega
    · show (0 + 1) * 2048 ≤ 2048; omega
    · show ((i 0).val + 2 + 1) * 1024 ≤ 4096; omega
  · rw [ix_3 m i]
    have h0 : (i 0).val < 2 := (i 0).isLt
    have h1 := h.1 (tile i)
    fin_cases a
    · show (1 + 1) * 1 ≤ 2; omega
    · show ((te m (tile i)).toNat + 1) * 1 ≤ 32; omega
    · show (0 + 1) * 1 ≤ 1; omega
    · show ((i 0).val + 1) * 1024 ≤ 4096; omega
  · rw [ix_4 m i]
    have h0 : (i 0).val < 2 := (i 0).isLt
    have h1 := h.1 (tile i)
    fin_cases a
    · show (1 + 1) * 1 ≤ 2; omega
    · show ((te m (tile i)).toNat + 1) * 1 ≤ 32; omega
    · show (0 + 1) * 1 ≤ 1; omega
    · show ((i 0).val + 2 + 1) * 1024 ≤ 4096; omega

/-- A one-bit word widened and compared with zero is the word. -/
theorem bit_ne (b : BitVec 1) : (Scalar.cmpi .ne ((Scalar.extui b : BitVec 32)) 0#32 = 1#1) ↔ b = 1#1 := by
  revert b; decide

/-- The second branch is taken exactly where the tile's row count is positive, -/
theorem cond0_1_iff (i : grid0.Coords) : cond0_1 0 i (tbl m 1) ↔ 0 < (tv m (tile i)).toInt := by
  unfold cond0_1
  rw [show tvW 0 (k0_off3 i) (k0_off3_inb i) (tbl m 1) = tv m (tile i) from (tvW_eq (F := F) 0 _ _ _ (tile i) (by rw [k0_off3_eq]; rfl)).trans (congrFun (tbl_1 m) _)]
  refine (bit_ne _).trans ?_
  show BitVec.ofBool (BitVec.slt 0#32 (tv m (tile i))) = 1#1 ↔ _
  rw [StableHlo.Predicate.ofBool_eq_one_iff]
  simp [BitVec.slt]

/-- the third exactly where it is zero. -/
theorem cond0_2_iff (i : grid0.Coords) : cond0_2 0 i (tbl m 1) ↔ (tv m (tile i)).toInt = 0 := by
  unfold cond0_2
  rw [show tvW 0 (k0_off4 i) (k0_off4_inb i) (tbl m 1) = tv m (tile i) from (tvW_eq (F := F) 0 _ _ _ (tile i) (by rw [k0_off4_eq]; rfl)).trans (congrFun (tbl_1 m) _)]
  refine (bit_ne _).trans ?_
  show BitVec.ofBool (tv m (tile i) == 0#32) = 1#1 ↔ _
  rw [StableHlo.Predicate.ofBool_eq_one_iff, beq_iff_eq]
  exact ⟨fun h => by rw [h]; rfl, fun h => BitVec.eq_of_toInt_eq (h.trans rfl)⟩

/-- Exactly one of the two branches that store the output block is taken. -/
theorem live_of_words (h : Words m) : Live m := fun i => by
  rw [cond0_1_iff, cond0_2_iff]
  have := h.2 (tile i)
  constructor <;> omega

/-- The offset of the tile before. -/
theorem k0_off2_at : ∀ i : Fin 161, (![(Scalar.indexCast (Scalar.maxsi (Scalar.subi (BitVec.ofNat 32 i.val) 1#32) 0#32) : Index).toNat] : Fin 1 → ℕ) 0 = i.val - 1 := by
  decide +kernel

/-- Where the first branch is not taken the tile is not the first of its column block, and its expert is the one of the tile before. -/
theorem not_cond0_0 (i : grid0.Coords) (h : ¬cond0_0 0 i (tbl m 0)) (k : S161.Idx) (hk : (k 0).val = (i 1).val - 1) :
    (i 1).val ≠ 0 ∧ te m (tile i) = te m k := by
  have h0 : (i 1).val ≠ 0 := fun h' => h (cond0_first 0 i _ h')
  refine ⟨h0, ?_⟩
  unfold cond0_0 at h
  rw [show teW 0 (k0_off1 i) (k0_off1_inb i) (tbl m 0) = te m (tile i) from (teW_eq (F := F) 0 _ _ _ (tile i) (by rw [k0_off1_eq]; rfl)).trans (congrFun (tbl_0 m) _),
    show teW 0 (k0_off2 i) (k0_off2_inb i) (tbl m 0) = te m k from (teW_eq (F := F) 0 _ _ _ k (hk.trans (k0_off2_at (i 1)).symm)).trans (congrFun (tbl_0 m) _), bit_ne] at h
  by_contra hne
  apply h
  have : Scalar.cmpi CmpIPredicate.ne (te m (tile i)) (te m k) = 1#1 := by
    show BitVec.ofBool (te m (tile i) != te m k) = 1#1
    rw [StableHlo.Predicate.ofBool_eq_one_iff]
    simpa using hne
  rw [this]
  generalize Scalar.cmpi CmpIPredicate.eq (BitVec.ofNat 32 (i 1).val) 0#32 = b
  revert b; decide

end Cert.Kernel4Ideal.Gen

end
-- ==== Proof.GateUpRef1.lean ====
/- The gate and up reference of the second layer read at an index: the gated unit of the gate half and the up half of the row's product with
   its tile's expert matrix plus that expert's bias where the tile holds rows, zero elsewhere. -/
module

public import proofs.«01_k».proof.Proof.Gen.Reference4Ideal.Read
public import proofs.«01_k».proof.Proof.GateUpRef

@[expose] public section

set_option maxRecDepth 16384

noncomputable section

open Idealize.ShloMosaic Idealize.ShloMosaic.TcCoe Idealize.SL.Sem

namespace Cert.GateUp1

open Cert.GateUp (ex tileOf glu gateCol upCol)
open Cert.Reference4Ideal Cert.Reference4Ideal.Gen Cert.Reference4Ideal.Read

/-- A row's product with its tile's expert matrix plus the expert's bias, at a column of the two halves. -/
def lin (x0 : IVec ⟨1, ![161]⟩ 32) (x2 : FVec Ideal ⟨2, ![41216, 2048]⟩ .f32) (x3 : FVec Ideal ⟨4, ![2, 32, 2048, 4096]⟩ .f32)
    (x4 : FVec Ideal ⟨3, ![2, 32, 4096]⟩ .f32) (p : Fin 41216) (n : Fin 4096) : EReal :=
  (∑ k : Fin 2048, (x2 (ix2 p k) : EReal) * (x3 (ix4 1 (ex (x0 (ix1 (tileOf p)))) k n) : EReal)) + (x4 (ix3 1 (ex (x0 (ix1 (tileOf p)))) n) : EReal)

/-- The result at a row and a column. -/
def val (x0 x1 : IVec ⟨1, ![161]⟩ 32) (x2 : FVec Ideal ⟨2, ![41216, 2048]⟩ .f32) (x3 : FVec Ideal ⟨4, ![2, 32, 2048, 4096]⟩ .f32)
    (x4 : FVec Ideal ⟨3, ![2, 32, 4096]⟩ .f32) (p : Fin 41216) (n : Fin 2048) : EReal :=
  if 0 < (x1 (ix1 (tileOf p))).toInt then glu (lin x0 x2 x3 x4 p (gateCol n)) (lin x0 x2 x3 x4 p (upCol n)) else 0

variable (x0 x1 : IVec S161 32) (x2 : FVec Ideal S41216x2048 .f32) (x3 : FVec Ideal S2x32x2048x4096 .f32) (x4 : FVec Ideal S2x32x4096 .f32)

/-- The gathered matrices at an index. -/
theorem v4_at (t : Fin 161) (k : Fin 2048) (n : Fin 4096) : val_main_v4 (F := Ideal) x0 x3 (ix3 t k n) = x3 (ix4 1 (ex (x0 (ix1 t))) k n) := by
  refine (Cert.Moe.gather_lead3 (N := 32) (n := 161) (A := 2048) (B := 4096) (by decide)
    gather_S32x2048x4096_S161x1_S161x2048x4096_12_0_n_n_0_1_120484096.wf (val_main_v2 (F := Ideal) x3) (val_main_v3 (F := Ideal) x0) t k n).trans ?_
  rw [val_main_v2_apply, val_main_v1_apply]
  have e : val_main_v3 (F := Ideal) x0 (Cert.Moe.ixT t) = x0 (ix1 t) :=
    (val_main_v3_apply (F := Ideal) x0 _).trans (congrArg x0 (funext fun a => match a with | ⟨0, _⟩ => rfl))
  refine congrArg x3 (funext fun a => Fin.ext ?_)
  have hv : min (val_main_v3 (F := Ideal) x0 (Cert.Moe.ixT t)).toInt.toNat (32 - 1) = (ex (x0 (ix1 t))).val := by rw [e]; rfl
  have hx := (ex (x0 (ix1 t))).isLt
  have hk := k.isLt
  have hn := n.isLt
  match a with
  | ⟨0, _⟩ => rfl
  | ⟨1, _⟩ =>
    show (((min (val_main_v3 (F := Ideal) x0 (Cert.Moe.ixT t)).toInt.toNat (32 - 1)) * 2048 + k.val) * 4096 + n.val) / 8388608 % 32 = (ex (x0 (ix1 t))).val
    rw [hv]; omega
  | ⟨2, _⟩ =>
    show (((min (val_main_v3 (F := Ideal) x0 (Cert.Moe.ixT t)).toInt.toNat (32 - 1)) * 2048 + k.val) * 4096 + n.val) / 4096 % 2048 = k.val
    rw [hv]; omega
  | ⟨3, _⟩ =>
    show (((min (val_main_v3 (F := Ideal) x0 (Cert.Moe.ixT t)).toInt.toNat (32 - 1)) * 2048 + k.val) * 4096 + n.val) % 4096 = n.val
    rw [hv]; omega

/-- The gathered biases at an index. -/
theorem v9_at (t : Fin 161) (n : Fin 4096) : val_main_v9 (F := Ideal) x0 x4 (ix2 t n) = x4 (ix3 1 (ex (x0 (ix1 t))) n) := by
  refine (Cert.Moe.gather_lead2 (N := 32) (n := 161) (A := 4096) (by decide)
    gather_S32x4096_S161x1_S161x4096_1_0_n_n_0_1_14096.wf (val_main_v7 (F := Ideal) x4) (val_main_v8 (F := Ideal) x0) t n).trans ?_
  rw [val_main_v7_apply, val_main_v6_apply]
  have e : val_main_v8 (F := Ideal) x0 (Cert.Moe.ixT t) = x0 (ix1 t) :=
    (val_main_v8_apply (F := Ideal) x0 _).trans (congrArg x0 (funext fun a => match a with | ⟨0, _⟩ => rfl))
  refine congrArg x4 (funext fun a => Fin.ext ?_)
  have hv : min (val_main_v8 (F := Ideal) x0 (Cert.Moe.ixT t)).toInt.toNat (32 - 1) = (ex (x0 (ix1 t))).val := by rw [e]; rfl
  have hx := (ex (x0 (ix1 t))).isLt
  have hn := n.isLt
  match a with
  | ⟨0, _⟩ => rfl
  | ⟨1, _⟩ =>
    show ((min (val_main_v8 (F := Ideal) x0 (Cert.Moe.ixT t)).toInt.toNat (32 - 1)) * 4096 + n.val) / 4096 % 32 = (ex (x0 (ix1 t))).val
    rw [hv]; omega
  | ⟨2, _⟩ =>
    show ((min (val_main_v8 (F := Ideal) x0 (Cert.Moe.ixT t)).toInt.toNat (32 - 1)) * 4096 + n.val) % 4096 = n.val
    rw [hv]; omega

/-- The mask at a tile. -/
theorem v31_at (i : S161.Idx) : val_main_v31 (F := Ideal) x1 i = (1 : BitVec 1) ↔ 0 < (x1 i).toInt := by
  rw [val_main_v31_apply, val_main_v30_apply, val_main_c_apply]
  show BitVec.ofBool (BitVec.slt 0#32 (x1 i)) = 1#1 ↔ _
  rw [BitVec.slt_eq_decide]
  by_cases h : 0 < (x1 i).toInt
  · simp [h]
  · simp [h]

/-- The product plus the bias at an index. -/
theorem v12_at (p : Fin 41216) (n : Fin 4096) :
    (val_main_v12 (F := Ideal) x0 x2 x3 x4 (ix3 (tileOf p) ⟨p.val % 256, by omega⟩ n) : EReal) = lin x0 x2 x3 x4 p n := by
  have hp := p.isLt
  rw [val_main_v12_apply, val_main_v5_apply, val_main_v11_apply, val_main_v10_apply]
  refine congrArg₂ (fun a b : EReal => a + b) (Finset.sum_congr rfl fun k _ => congrArg₂ (fun a b : EReal => a * b) ?_ ?_) ?_
  · rw [val_main_v0_apply]
    have hk := k.isLt
    refine congrArg x2 (funext fun a => Fin.ext (match a with
      | ⟨0, _⟩ => show ((p.val / 256 * 256 + p.val % 256) * 2048 + k.val) / 2048 = p.val by omega
      | ⟨1, _⟩ => show ((p.val / 256 * 256 + p.val % 256) * 2048 + k.val) % 2048 = k.val by omega))
  · refine Eq.trans (congrArg _ (funext fun a => ?_)) (v4_at x0 x3 (tileOf p) k n)
    match a with
    | ⟨0, _⟩ => rfl
    | ⟨1, _⟩ => rfl
    | ⟨2, _⟩ => rfl
  · refine Eq.trans (congrArg _ (funext fun a => ?_)) (v9_at x0 x4 (tileOf p) n)
    match a with
    | ⟨0, _⟩ => rfl
    | ⟨1, _⟩ => rfl

/-- The gated unit at an index, of the two halves there. -/
theorem v29_at (i : S161x256x2048.Idx) : val_main_v29 (F := Ideal) x0 x2 x3 x4 i
    = glu (val_main_v12 (F := Ideal) x0 x2 x3 x4 (idx_main_v13 i)) (val_main_v12 (F := Ideal) x0 x2 x3 x4 (idx_main_v16 i)) := by
  simp only [val_main_v29_apply, val_main_v28_apply, val_main_v27_apply, val_main_cst_5_apply, val_main_v26_apply, val_main_v25_apply,
    val_main_cst_4_apply, val_main_v24_apply, val_main_v23_apply, val_main_v22_apply, val_main_v21_apply, val_main_cst_3_apply,
    val_main_v20_apply, val_main_v19_apply, val_main_v18_apply, val_main_cst_2_apply, val_main_v17_apply, val_main_call0_v4_apply,
    val_main_call0_v3_apply, val_main_cst_1_apply, val_main_call0_v2_apply, val_main_call0_v1_apply, val_main_call0_v0_apply,
    val_main_cst_0_apply, val_main_v16_apply, val_main_v15_apply, val_main_v14_apply, val_main_cst_apply, val_main_v13_apply]
  refine congrArg _ ?_
  generalize (FloatOps.mulf (FloatOps.ofBits .f32 0x3FD9DB23#32) (FloatOps.minimumf (val_main_v12 (F := Ideal) x0 x2 x3 x4 (idx_main_v13 i))
    (FloatOps.ofBits .f32 0x40E00000#32)) : Ideal .f32) = z
  rw [show (FloatOps.ofBits .f32 0x3F800000#32 : Ideal .f32) = (1 : EReal) from Ideal.ofBits_one_f32]
  rfl

/-- The reference at an index. -/
theorem ref_at (p : Fin 41216) (n : Fin 2048) :
    (val_main_v35 (F := Ideal) x0 x1 x2 x3 x4 (ix2 p n) : EReal) = val x0 x1 x2 x3 x4 p n := by
  have hp := p.isLt
  have hn := n.isLt
  have ei : idx_main_v35 (ix2 p n) = ix3 (tileOf p) ⟨p.val % 256, by omega⟩ n := funext fun a => Fin.ext (match a with
    | ⟨0, _⟩ => show (p.val * 2048 + n.val) / 524288 = p.val / 256 by omega
    | ⟨1, _⟩ => show (p.val * 2048 + n.val) / 2048 % 256 = p.val % 256 by omega
    | ⟨2, _⟩ => show (p.val * 2048 + n.val) % 2048 = n.val by omega)
  rw [val_main_v35_apply, ei, val_main_v34_apply]
  show (val_main_v33 (F := Ideal) x0 x1 x2 x3 x4 (ix3 (tileOf p) ⟨p.val % 256, by omega⟩ n) : EReal) = _
  rw [val_main_v33_apply, val_main_call1_v1_apply, val_main_v32_apply]
  have em : idx_main_v32 (idx_main_call1_v1 (ix3 (tileOf p) ⟨p.val % 256, by omega⟩ n)) = ix1 (tileOf p) :=
    funext fun a => match a with | ⟨0, _⟩ => rfl
  rw [em]
  unfold val Scalar.select
  by_cases h : 0 < (x1 (ix1 (tileOf p))).toInt
  · rw [if_pos h, if_pos ((v31_at x1 _).mpr h), v29_at]
    refine congrArg₂ glu ?_ ?_
    · refine Eq.trans (congrArg _ (funext fun a => ?_)) (v12_at x0 x2 x3 x4 p (gateCol n))
      match a with
      | ⟨0, _⟩ => rfl
      | ⟨1, _⟩ => rfl
      | ⟨2, _⟩ => rfl
    · refine Eq.trans (congrArg _ (funext fun a => ?_)) (v12_at x0 x2 x3 x4 p (upCol n))
      match a with
      | ⟨0, _⟩ => rfl
      | ⟨1, _⟩ => rfl
      | ⟨2, _⟩ => rfl
  · rw [if_neg h, if_neg (fun h' => h ((v31_at x1 _).mp h')), val_main_call1_v2_apply, val_main_call1_v0_apply, val_main_cst_6_apply]
    exact Ideal.ofBits_zero_f32

end Cert.GateUp1

end
-- ==== Proof.GateUp1.lean ====
/- The gate and up projection's result array in the second layer is the reference's: the blocks of the grid, put together. -/
module

public import proofs.«01_k».proof.Proof.Kernel4IdealWords
public import proofs.«01_k».proof.Proof.GateUpRef1
public import Idealize.ShloMosaic.Lib.Pipeline.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GateUp1

open Cert.GateUp (ex tileOf glu gateCol upCol)
open Cert.Kernel4Ideal Cert.Kernel4Ideal.Gen

variable (m : (ℓ : Loc nD τ sig) → Buf (Elt Ideal) ℓ)

/-- The windows' block indices: the tile's rows, -/
theorem index_0 (hO : Ok m) (t : Fin (cfgM m hO).N) : ((cfgM m hO).win 0).index t = ![(grid0.coords t 1).val, 0] := by
  show cc0_transform_0 (grid0.coords t) = _
  have h : (grid0.coords t 1).val < 161 := (grid0.coords t 1).isLt
  have h' : cc0_transform_0 (grid0.coords t) = ![(BitVec.ofNat 32 (grid0.coords t 1).val).toNat, 0] := rfl
  rw [h', BitVec.toNat_ofNat, Nat.mod_eq_of_lt (by omega)]

/-- the tile's expert and the column block, for the gate half of the matrix -/
theorem index_1 (hO : Ok m) (t : Fin (cfgM m hO).N) :
    ((cfgM m hO).win 1).index t = ![1, (te m (tile (grid0.coords t))).toNat, 0, (grid0.coords t 0).val] := ix_1 m _

/-- for its up half, two blocks further, -/
theorem index_2 (hO : Ok m) (t : Fin (cfgM m hO).N) :
    ((cfgM m hO).win 2).index t = ![1, (te m (tile (grid0.coords t))).toNat, 0, (grid0.coords t 0).val + 2] := ix_2 m _

/-- and for the bias's gate half -/
theorem index_3 (hO : Ok m) (t : Fin (cfgM m hO).N) :
    ((cfgM m hO).win 3).index t = ![1, (te m (tile (grid0.coords t))).toNat, 0, (grid0.coords t 0).val] := ix_3 m _

/-- and up half, -/
theorem index_4 (hO : Ok m) (t : Fin (cfgM m hO).N) :
    ((cfgM m hO).win 4).index t = ![1, (te m (tile (grid0.coords t))).toNat, 0, (grid0.coords t 0).val + 2] := ix_4 m _

/-- the tile and the column block for the result. -/
theorem index_5 (hO : Ok m) (t : Fin (cfgM m hO).N) :
    ((cfgM m hO).win 5).index t = ![(grid0.coords t 1).val, (grid0.coords t 0).val] := by
  show cc0_transform_5 (grid0.coords t) = _
  have h : (grid0.coords t 1).val < 161 := (grid0.coords t 1).isLt
  have h0 : (grid0.coords t 0).val < 2 := (grid0.coords t 0).isLt
  have h' : cc0_transform_5 (grid0.coords t) = ![(BitVec.ofNat 32 (grid0.coords t 1).val).toNat, (BitVec.ofNat 32 (grid0.coords t 0).val).toNat] := rfl
  rw [h', BitVec.toNat_ofNat, BitVec.toNat_ofNat, Nat.mod_eq_of_lt (by omega), Nat.mod_eq_of_lt (by omega)]

/-- The rows' block at an index. -/
theorem blk0_at (hO : Ok m) (t : Fin (cfgM m hO).N) (r : Fin 256) (k : Fin 2048) (p : Fin 41216)
    (hp : p.val = 256 * (grid0.coords t 1).val + r.val) :
    (iblk m hO 0 0 t : FVec Ideal S256x2048 .f32) (ix2 r k) = (m (((0 : Dev nD) : Thread nD τ).loc main_arg2) : FVec Ideal S41216x2048 .f32) (ix2 p k) := by
  blk_ext [iblk, V, index_0 m hO t]

/-- The gate half's block of the expert matrix at an index. -/
theorem blk1_at (hO : Ok m) (t : Fin (cfgM m hO).N) (k : Fin 2048) (q : Fin 1024) (e : Fin 32) (he : e.val = (te m (tile (grid0.coords t))).toNat)
    (n : Fin 4096) (hn : n.val = 1024 * (grid0.coords t 0).val + q.val) :
    (iblk m hO 0 1 t : FVec Ideal S1x1x2048x1024 .f32) (ix4 0 0 k q) = (m (((0 : Dev nD) : Thread nD τ).loc main_arg3) : FVec Ideal S2x32x2048x4096 .f32) (ix4 1 e k n) := by
  blk_ext [iblk, V, index_1 m hO t]

/-- The up half's block of the expert matrix at an index. -/
theorem blk2_at (hO : Ok m) (t : Fin (cfgM m hO).N) (k : Fin 2048) (q : Fin 1024) (e : Fin 32) (he : e.val = (te m (tile (grid0.coords t))).toNat)
    (n : Fin 4096) (hn : n.val = 2048 + 1024 * (grid0.coords t 0).val + q.val) :
    (iblk m hO 0 2 t : FVec Ideal S1x1x2048x1024 .f32) (ix4 0 0 k q) = (m (((0 : Dev nD) : Thread nD τ).loc main_arg3) : FVec Ideal S2x32x2048x4096 .f32) (ix4 1 e k n) := by
  blk_ext [iblk, V, index_2 m hO t]

/-- The bias's array at the region's entry is the bias with an axis of one put in. -/
theorem V_main_v0 (c : Dev nD) : (V m c main_v0 : FVec Ideal S2x32x1x4096 .f32)
    = shapeCast _ (m ((c : Thread nD τ).loc main_arg4) : FVec Ideal S2x32x4096 .f32) shapeCasts_S2x32x4096_S2x32x1x4096 := by
  entry_read
  rfl

/-- The gate half's block of the bias at an index. -/
theorem blk3_at (hO : Ok m) (t : Fin (cfgM m hO).N) (q : Fin 1024) (e : Fin 32) (he : e.val = (te m (tile (grid0.coords t))).toNat)
    (n : Fin 4096) (hn : n.val = 1024 * (grid0.coords t 0).val + q.val) :
    (iblk m hO 0 3 t : FVec Ideal S1x1x1x1024 .f32) (ix4 0 0 0 q) = (m (((0 : Dev nD) : Thread nD τ).loc main_arg4) : FVec Ideal S2x32x4096 .f32) (ix3 1 e n) := by
  have h : (iblk m hO 0 3 t : FVec Ideal S1x1x1x1024 .f32) (ix4 0 0 0 q) = (V m 0 main_v0 : FVec Ideal S2x32x1x4096 .f32) (ix4 1 e 0 n) := by
    blk_ext [iblk, index_3 m hO t]
  rw [h, V_main_v0]
  exact shapeCast_apply _ shapeCasts_S2x32x4096_S2x32x1x4096 (ix4 1 e 0 n) (ix3 1 e n)
    (by rewrite [Shape.rowMajor_val_three, Shape.rowMajor_val_four]; show (1 * 32 + e.val) * 4096 + n.val = ((1 * 32 + e.val) * 1 + 0) * 4096 + n.val; omega)

/-- The up half's block of the bias at an index. -/
theorem blk4_at (hO : Ok m) (t : Fin (cfgM m hO).N) (q : Fin 1024) (e : Fin 32) (he : e.val = (te m (tile (grid0.coords t))).toNat)
    (n : Fin 4096) (hn : n.val = 2048 + 1024 * (grid0.coords t 0).val + q.val) :
    (iblk m hO 0 4 t : FVec Ideal S1x1x1x1024 .f32) (ix4 0 0 0 q) = (m (((0 : Dev nD) : Thread nD τ).loc main_arg4) : FVec Ideal S2x32x4096 .f32) (ix3 1 e n) := by
  have h : (iblk m hO 0 4 t : FVec Ideal S1x1x1x1024 .f32) (ix4 0 0 0 q) = (V m 0 main_v0 : FVec Ideal S2x32x1x4096 .f32) (ix4 1 e 0 n) := by
    blk_ext [iblk, index_4 m hO t]
  rw [h, V_main_v0]
  exact shapeCast_apply _ shapeCasts_S2x32x4096_S2x32x1x4096 (ix4 1 e 0 n) (ix3 1 e n)
    (by rewrite [Shape.rowMajor_val_three, Shape.rowMajor_val_four]; show (1 * 32 + e.val) * 4096 + n.val = ((1 * 32 + e.val) * 1 + 0) * 4096 + n.val; omega)

/-- The matrices the two scratch buffers take, at an index: the conversion leaves every entry as it is. -/
theorem pay1_at (v : FVec Ideal S1x1x2048x1024 .f32) (k : Fin 2048) (q : Fin 1024) :
    (k0_pay1 (F := Ideal) v (ix2 k q) : EReal) = v (ix4 0 0 k q) := by
  pointwise [k0_pay1]

@[inherit_doc pay1_at]
theorem pay2_at (v : FVec Ideal S1x1x2048x1024 .f32) (k : Fin 2048) (q : Fin 1024) :
    (k0_pay2 (F := Ideal) v (ix2 k q) : EReal) = v (ix4 0 0 k q) := by
  pointwise [k0_pay2]

/-- The product with a half of the matrix plus that half of the bias. -/
def half (x : FVec Ideal S256x2048 .f32) (w : FVec Ideal S2048x1024 .bf16) (b : FVec Ideal S1x1x1x1024 .f32) : FVec Ideal S256x1024 .f32 :=
  addf (matmul dot_S256x2048_S2048x1024_S256x1024_1_0_0_1_n_n none (truncf .bf16 x bitsLt_bf16_f32) w (constant S256x1024 .f32 0x00000000#32))
    (broadcastTo S256x1024 (shapeCast S1x1024 b shapeCasts_S1x1x1x1024_S1x1024) broadcasts_S1x1024_S256x1024)

/-- The product plus the bias, at an index. -/
theorem half_at (x : FVec Ideal S256x2048 .f32) (w : FVec Ideal S2048x1024 .bf16) (b : FVec Ideal S1x1x1x1024 .f32) (r : Fin 256) (q : Fin 1024) :
    (half x w b (ix2 r q) : EReal) = (∑ k : Fin 2048, (x (ix2 r k) : EReal) * (w (ix2 k q) : EReal)) + (b (ix4 0 0 0 q) : EReal) := by
  pointwise [half]

/-- The block the body writes where the tile holds rows, at an index: the gated unit of the two halves. -/
theorem pay3_at (x : FVec Ideal S256x2048 .f32) (wg wu : FVec Ideal S2048x1024 .bf16) (bg bu : FVec Ideal S1x1x1x1024 .f32) (i : S256x1024.Idx) :
    (k0_pay3 (F := Ideal) x wg bg wu bu i : EReal) = glu (half x wg bg i) (half x wu bu i) := rfl

/-- The zero block, at an index. -/
theorem pay4_at (r : Fin 256) (q : Fin 1024) : (k0_pay4 (F := Ideal) (ix2 r q) : EReal) = 0 := by
  pointwise [k0_pay4]

/-- Two points of one expert and one column block read the same gate half. -/
theorem blk1_congr (hW : Words m) (hO : Ok m) (t t' : Fin (cfgM m hO).N) (h0 : (grid0.coords t 0).val = (grid0.coords t' 0).val)
    (he : te m (tile (grid0.coords t)) = te m (tile (grid0.coords t'))) :
    (iblk m hO 0 1 t : FVec Ideal S1x1x2048x1024 .f32) = (iblk m hO 0 1 t' : FVec Ideal S1x1x2048x1024 .f32) := by
  refine funext fun (y : S1x1x2048x1024.Idx) => ?_
  obtain ⟨k, q, rfl⟩ : ∃ (k : Fin 2048) (q : Fin 1024), y = ix4 0 0 k q :=
    ⟨y 2, y 3, funext fun a => match a with
      | ⟨0, _⟩ => Subsingleton.elim (α := Fin 1) _ _
      | ⟨1, _⟩ => Subsingleton.elim (α := Fin 1) _ _
      | ⟨2, _⟩ => rfl
      | ⟨3, _⟩ => rfl⟩
  have h2 : (grid0.coords t 0).val < 2 := (grid0.coords t 0).isLt
  have hw := hW.1 (tile (grid0.coords t))
  rw [blk1_at m hO t k q ⟨_, Nat.lt_succ_of_le hw⟩ rfl ⟨1024 * (grid0.coords t 0).val + q.val, by omega⟩ rfl,
    blk1_at m hO t' k q ⟨_, Nat.lt_succ_of_le hw⟩ (by rw [← he]) ⟨1024 * (grid0.coords t 0).val + q.val, by omega⟩ (by rw [← h0])]

/-- Two points of one expert and one column block read the same up half. -/
theorem blk2_congr (hW : Words m) (hO : Ok m) (t t' : Fin (cfgM m hO).N) (h0 : (grid0.coords t 0).val = (grid0.coords t' 0).val)
    (he : te m (tile (grid0.coords t)) = te m (tile (grid0.coords t'))) :
    (iblk m hO 0 2 t : FVec Ideal S1x1x2048x1024 .f32) = (iblk m hO 0 2 t' : FVec Ideal S1x1x2048x1024 .f32) := by
  refine funext fun (y : S1x1x2048x1024.Idx) => ?_
  obtain ⟨k, q, rfl⟩ : ∃ (k : Fin 2048) (q : Fin 1024), y = ix4 0 0 k q :=
    ⟨y 2, y 3, funext fun a => match a with
      | ⟨0, _⟩ => Subsingleton.elim (α := Fin 1) _ _
      | ⟨1, _⟩ => Subsingleton.elim (α := Fin 1) _ _
      | ⟨2, _⟩ => rfl
      | ⟨3, _⟩ => rfl⟩
  have h2 : (grid0.coords t 0).val < 2 := (grid0.coords t 0).isLt
  have hw := hW.1 (tile (grid0.coords t))
  rw [blk2_at m hO t k q ⟨_, Nat.lt_succ_of_le hw⟩ rfl ⟨2048 + 1024 * (grid0.coords t 0).val + q.val, by omega⟩ rfl,
    blk2_at m hO t' k q ⟨_, Nat.lt_succ_of_le hw⟩ (by rw [← he]) ⟨2048 + 1024 * (grid0.coords t 0).val + q.val, by omega⟩ (by rw [← h0])]

/-- After every point the gate scratch holds the gate half of the point's own expert matrix. -/
theorem scr_at (hW : Words m) (hO : Ok m) (n : ℕ) (hn : n < (cfgM m hO).N) :
    scrAt m hO 0 n hn = k0_pay1 (iblk m hO 0 1 ⟨n, hn⟩) := by
  induction n with
  | zero => rfl
  | succ n ih =>
    have hN : n + 1 < 322 := Nat.lt_of_lt_of_eq hn N_0
    have hn' : n < (cfgM m hO).N := Nat.lt_of_succ_lt hn
    by_cases h : cond0_0 0 (grid0.coords ⟨n + 1, hn⟩) (tbl m 0)
    · exact scrAt_new m hO 0 ⟨n + 1, hn⟩ h
    · have e1 := coords_1 ⟨n + 1, hn⟩
      have e0 := coords_0 ⟨n + 1, hn⟩
      have f1 := coords_1 ⟨n, hn'⟩
      have f0 := coords_0 ⟨n, hn'⟩
      have hz : (grid0.coords ⟨n + 1, hn⟩ 1).val ≠ 0 := fun h' => h (cond0_first 0 _ _ h')
      dsimp only at e1 e0 f1 f0
      obtain ⟨-, he⟩ := not_cond0_0 m _ h (tile (grid0.coords ⟨n, hn'⟩)) (by
        show (grid0.coords ⟨n, hn'⟩ 1).val = (grid0.coords ⟨n + 1, hn⟩ 1).val - 1
        omega)
      rw [scrAt_old m hO 0 ⟨n + 1, hn⟩ (Nat.succ_ne_zero n) h]
      refine (ih hn').trans (congrArg k0_pay1 (blk1_congr m hW hO _ _ ?_ he.symm))
      omega

/-- After every point the up scratch holds the up half of the point's own expert matrix. -/
theorem scu_at (hW : Words m) (hO : Ok m) (n : ℕ) (hn : n < (cfgM m hO).N) :
    scuAt m hO 0 n hn = k0_pay2 (iblk m hO 0 2 ⟨n, hn⟩) := by
  induction n with
  | zero => rfl
  | succ n ih =>
    have hN : n + 1 < 322 := Nat.lt_of_lt_of_eq hn N_0
    have hn' : n < (cfgM m hO).N := Nat.lt_of_succ_lt hn
    by_cases h : cond0_0 0 (grid0.coords ⟨n + 1, hn⟩) (tbl m 0)
    · exact scuAt_new m hO 0 ⟨n + 1, hn⟩ h
    · have e1 := coords_1 ⟨n + 1, hn⟩
      have e0 := coords_0 ⟨n + 1, hn⟩
      have f1 := coords_1 ⟨n, hn'⟩
      have f0 := coords_0 ⟨n, hn'⟩
      have hz : (grid0.coords ⟨n + 1, hn⟩ 1).val ≠ 0 := fun h' => h (cond0_first 0 _ _ h')
      dsimp only at e1 e0 f1 f0
      obtain ⟨-, he⟩ := not_cond0_0 m _ h (tile (grid0.coords ⟨n, hn'⟩)) (by
        show (grid0.coords ⟨n, hn'⟩ 1).val = (grid0.coords ⟨n + 1, hn⟩ 1).val - 1
        omega)
      rw [scuAt_old m hO 0 ⟨n + 1, hn⟩ (Nat.succ_ne_zero n) h]
      refine (ih hn').trans (congrArg k0_pay2 (blk2_congr m hW hO _ _ ?_ he.symm))
      omega

/-- The words read as in the reference: an expert word of the table names the same expert there. -/
theorem ex_eq (hW : Words m) (x : S161.Idx) : (ex (te m x)).val = (te m x).toNat := by
  have h := hW.1 x
  have e : (te m x).toInt = ((te m x).toNat : ℤ) := BitVec.toInt_eq_toNat_of_lt (by omega)
  show min (te m x).toInt.toNat 31 = _
  rw [e, Int.toNat_natCast]
  omega

/-- What the body leaves at block index `y` of point `t` is the reference's result where `y` sits. -/
theorem point (hW : Words m) (hO : Ok m) (t : Fin (cfgM m hO).N) (y : S256x1024.Idx) (j : S41216x2048.Idx)
    (hj0 : (j 0 : ℕ) = 256 * (grid0.coords t 1).val + (y 0).val) (hj1 : (j 1 : ℕ) = 1024 * (grid0.coords t 0).val + (y 1).val) :
    (outAt m hO 0 t y : EReal)
    = Cert.Reference4Ideal.Read.val_main_v35 (F := Ideal) (te m) (tv m) (m (((0 : Dev nD) : Thread nD τ).loc main_arg2))
        (m (((0 : Dev nD) : Thread nD τ).loc main_arg3)) (m (((0 : Dev nD) : Thread nD τ).loc main_arg4)) j := by
  obtain ⟨r, q, rfl⟩ : ∃ (r : Fin 256) (q : Fin 1024), y = ix2 r q :=
    ⟨y 0, y 1, funext fun a => match a with | ⟨0, _⟩ => rfl | ⟨1, _⟩ => rfl⟩
  obtain ⟨p, n, rfl⟩ : ∃ (p : Fin 41216) (n : Fin 2048), j = ix2 p n :=
    ⟨j 0, j 1, funext fun a => match a with | ⟨0, _⟩ => rfl | ⟨1, _⟩ => rfl⟩
  replace hj0 : p.val = 256 * (grid0.coords t 1).val + r.val := hj0
  replace hj1 : n.val = 1024 * (grid0.coords t 0).val + q.val := hj1
  have hr := r.isLt
  have et : ix1 (tileOf p) = tile (grid0.coords t) := funext fun a => match a with
    | ⟨0, _⟩ => Fin.ext (show p.val / 256 = (grid0.coords t 1).val by omega)
  refine Eq.trans ?_ (ref_at (te m) (tv m) (m (((0 : Dev nD) : Thread nD τ).loc main_arg2))
        (m (((0 : Dev nD) : Thread nD τ).loc main_arg3)) (m (((0 : Dev nD) : Thread nD τ).loc main_arg4)) p n).symm
  unfold val lin outAt
  rw [et]
  by_cases h : cond0_1 0 (grid0.coords t) (tbl m 1)
  · rw [if_pos h, if_pos ((cond0_1_iff m _).mp h), scr_at m hW hO, scu_at m hW hO]
    refine (pay3_at _ _ _ _ _ (ix2 r q)).trans (congrArg₂ glu ?_ ?_)
    · refine (half_at _ _ _ r q).trans ?_
      refine congrArg₂ (fun a b : EReal => a + b) (Finset.sum_congr rfl fun k _ => congrArg₂ (fun a b : EReal => a * b) ?_ ?_) ?_
      · exact blk0_at m hO t r k p hj0
      · exact (pay1_at _ k q).trans (blk1_at m hO t k q _ (ex_eq m hW _) (gateCol n) hj1)
      · exact blk3_at m hO t q _ (ex_eq m hW _) (gateCol n) hj1
    · have hu : (upCol n).val = 2048 + 1024 * (grid0.coords t 0).val + q.val := by show 2048 + n.val = _; omega
      refine (half_at _ _ _ r q).trans ?_
      refine congrArg₂ (fun a b : EReal => a + b) (Finset.sum_congr rfl fun k _ => congrArg₂ (fun a b : EReal => a * b) ?_ ?_) ?_
      · exact blk0_at m hO t r k p hj0
      · exact (pay2_at _ k q).trans (blk2_at m hO t k q _ (ex_eq m hW _) (upCol n) hu)
      · exact blk4_at m hO t q _ (ex_eq m hW _) (upCol n) hu
  · rw [if_neg h, if_neg (fun h' => h ((cond0_1_iff m _).mpr h'))]
    exact pay4_at r q

/-- The written blocks cover the result array: one per tile and column block. -/
theorem covers (hO : Ok m) : ((cfgM m hO).win 5).Covers := by
  refine ⟨fun a => match a with | ⟨0, _⟩ => (show 0 < 256 by decide) | ⟨1, _⟩ => (show 0 < 1024 by decide), fun β => ?_⟩
  have b0 : (β (0 : Fin 2)).val < 161 := Nat.lt_of_lt_of_eq (β (0 : Fin 2)).isLt (show (41216 + 256 - 1) / 256 = 161 by norm_num)
  have b1 : (β (1 : Fin 2)).val < 2 := Nat.lt_of_lt_of_eq (β (1 : Fin 2)).isLt (show (2048 + 1024 - 1) / 1024 = 2 by norm_num)
  have hN : (β (1 : Fin 2)).val * 161 + (β (0 : Fin 2)).val < (cfgM m hO).N := by
    have h : (cfgM m hO).N = 322 := N_0
    omega
  refine ⟨⟨_, hN⟩, flush0_5 (adm m hO) _, fun a => ⟨?_, Or.inl rfl⟩⟩
  have e0 := coords_0 ⟨_, hN⟩
  have e1 := coords_1 ⟨_, hN⟩
  dsimp only at e0 e1
  refine (congrFun (index_5 m hO ⟨_, hN⟩) a).trans ?_
  match a with
  | ⟨0, _⟩ => show (grid0.coords ⟨_, hN⟩ 1).val = (β (0 : Fin 2)).val; omega
  | ⟨1, _⟩ => show (grid0.coords ⟨_, hN⟩ 0).val = (β (1 : Fin 2)).val; omega

/-- The result array after the run is the reference's result of the arguments. -/
theorem final (hW : Words m) (hO : Ok m) : (dats m hO 0 0).arrAt 5 (cfgM m hO).N
    = Cert.Reference4Ideal.Read.val_main_v35 (F := Ideal) (te m) (tv m) (m (((0 : Dev nD) : Thread nD τ).loc main_arg2))
        (m (((0 : Dev nD) : Thread nD τ).loc main_arg3)) (m (((0 : Dev nD) : Thread nD τ).loc main_arg4)) := by
  refine (dats m hO 0 0).arrAt_eq_of_covers 5 _ (covers m hO) fun t hf y => ?_
  blk_simp
  rw [after0_5]
  refine point m hW hO t y _ ?_ ?_
  all_goals (blk_simp [index_5 m hO t] <;> try omega)

end Cert.GateUp1

end
-- ==== Proof.Kernel5IdealRuns.lean ====
module

public import proofs.«01_k».proof.Proof.Gen.Kernel5Ideal
public import proofs.«01_k».proof.Proof.Gen.Kernel5Ideal.Launch
public import proofs.«01_k».proof.Proof.Gen.Kernel5Ideal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 0 (operand 2 (%arg2)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 0 (fun _ => rfl) (by decide)) (P := 1) (by decide) t).mpr (Nat.mod_one _) : ∀ t : Fin grid0.N, Pipeline.Window.fetchOf grid0 false cc0_transform_0 t = true)
/-- Window 3 (result 0 (%1)) is written back at every point, at any contents of the tables (its index map reads none). -/
theorem flush0_3 (a : (pcfg0 (F := F)).Adm) : ∀ t : Fin (cfg0 a).N, ((cfg0 a).win 3).flush t = true :=
  (fun t => (Pipeline.Window.flushOf_reads cc0_transform_3 reads0_3 hreads0_3 1 (by decide) (by decide) (Pipeline.Window.sep_of_coord cc0_transform_3 1 0 (fun _ => rfl) (by decide)) (P := 1) (m := 0) (by decide) rfl t).mpr (Nat.mod_one _) : ∀ t : Fin grid0.N, Pipeline.Window.flushOf grid0 true cc0_transform_3 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_expert_down (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole cc0_scratch0) (Memref.isWhole_whole _)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes an argument: the region finds it as launched. -/
theorem V_arg (c : Dev nD) (b : Ref sig .tc) (hb : b ∈ [main_arg0, main_arg1, main_arg2, main_arg3, main_arg4]) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    simp only [List.mem_cons, List.not_mem_nil, or_false] at hb
    rcases hb with rfl | rfl | rfl | rfl | rfl
    all_goals
      repeat' apply And.intro
      all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    . -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S161 .i32 := Memref.whole main_arg0
abbrev htbM0_0 : tbM0_0.IsWhole := Memref.isWhole_whole _
abbrev tbM0_1 : Memref sig .tc .smem S161 .i32 := Memref.whole main_arg1
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body , table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same of input window 1. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The same of input window 2. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel5Ideal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (by decide : main_arg0 ∈ Pipeline.restRefs sig spec0)).trans (V_arg m c main_arg0 (by simp)),
      ((h c).2 main_arg1 (by decide : main_arg1 ∈ Pipeline.restRefs sig spec0)).trans (V_arg m c main_arg1 (by simp)),
      ((h c).1 0).trans (((dats 0 c).arrAt_in 0 rfl _).trans ((hA c 0).trans (V_arg m c main_arg2 (by simp)))),
      ((h c).1 1).trans (((dats 0 c).arrAt_in 1 rfl _).trans ((hA c 1).trans (V_arg m c main_arg3 (by simp)))),
      ((h c).2 main_arg4 (by decide : main_arg4 ∈ Pipeline.restRefs sig spec0)).trans (V_arg m c main_arg4 (by simp))⟩) h

/-! ## The body's branch conditions -/

/-- A word of the expert table: the entry the body loads at offsets `o` from contents `xt`. -/
abbrev teW (c : Dev nD) (o : Fin 1 → ℕ) (ho : ∀ a, o a + S1.size a ≤ S161.size a) (xt : TbBuf0 (F := F) c tbM0_0) : BitVec 32 :=
  tbM0_0.view.readAt (Elt F) (Rect.unit (s := S161) o S1.size ho).toLoadRect xt (Shape.Idx.first (numel1_S1.symm ▸ Nat.one_pos))
/-- A word of the row-count table. -/
abbrev tvW (c : Dev nD) (o : Fin 1 → ℕ) (ho : ∀ a, o a + S1.size a ≤ S161.size a) (xt : TbBuf0 (F := F) c tbM0_1) : BitVec 32 :=
  tbM0_1.view.readAt (Elt F) (Rect.unit (s := S161) o S1.size ho).toLoadRect xt (Shape.Idx.first (numel1_S1.symm ▸ Nat.one_pos))

/-- The first branch is taken: the tile is the first of its column block, or its expert is not the one of the tile before. -/
abbrev cond0_0 (c : Dev nD) (i : grid0.Coords) (xt : TbBuf0 (F := F) c tbM0_0) : Prop :=
  (Scalar.cmpi .ne (Scalar.extui (Scalar.ori (Scalar.cmpi .eq (BitVec.ofNat 32 (i 1).val) 0#32) (Scalar.cmpi .ne (teW c (k0_off1 i) (k0_off1_inb i) xt) (teW c (k0_off2 i) (k0_off2_inb i) xt)))) 0#32) = 1#1
/-- The second branch is taken: the tile holds rows. -/
abbrev cond0_1 (c : Dev nD) (i : grid0.Coords) (xt : TbBuf0 (F := F) c tbM0_1) : Prop := k0_cond2 (tvW c (k0_off3 i) (k0_off3_inb i) xt) = 1#1
/-- The third branch is taken: the tile holds no row. -/
abbrev cond0_2 (c : Dev nD) (i : grid0.Coords) (xt : TbBuf0 (F := F) c tbM0_1) : Prop := k0_cond3 (tvW c (k0_off4 i) (k0_off4_inb i) xt) = 1#1

/-- At a first tile the first branch is taken, whatever the table holds. -/
theorem cond0_first (c : Dev nD) (i : grid0.Coords) (xt : TbBuf0 (F := F) c tbM0_0) (h : (i 1).val = 0) : cond0_0 c i xt := by
  unfold cond0_0
  rw [h]
  generalize Scalar.cmpi CmpIPredicate.ne (teW c (k0_off1 i) (k0_off1_inb i) xt) (teW c (k0_off2 i) (k0_off2_inb i) xt) = b
  clear xt
  revert b
  decide

/-! ## Where the windows are idle -/

/-- Window 0 is never idle (an input). -/
theorem liveAt0_0 (hO : Ok m) : ∀ t : Fin (cfgM m hO).N, (cfgM m hO).idle 0 (grid0.coords t) = false := fun _ => rfl
/-- Window 1 is never idle (an input). -/
theorem liveAt0_1 (hO : Ok m) : ∀ t : Fin (cfgM m hO).N, (cfgM m hO).idle 1 (grid0.coords t) = false := fun _ => rfl
/-- Window 2 is never idle (an input). -/
theorem liveAt0_2 (hO : Ok m) : ∀ t : Fin (cfgM m hO).N, (cfgM m hO).idle 2 (grid0.coords t) = false := fun _ => rfl
/-- A word of the row-count table's contents, read at the body's offsets, is the word the body loads there. -/
theorem atD_tv (o : Fin 1 → ℕ) (ho : ∀ a, o a + S1.size a ≤ S161.size a) : (tbl m).atD 1 o = tvW 0 o ho (tbl m 1) :=
  (dif_pos (show ∀ a : Fin 1, o a + 1 ≤ S161.size a from fun a => by have := ho a; fin_cases a; exact this)).trans
    (congrArg (tbl m 1) (funext fun a => Fin.ext (by fin_cases a; rfl)))
/-- Every tile's row count selects exactly one of the two branches that store the output block. -/
abbrev Live : Prop := ∀ i : grid0.Coords, (cond0_1 0 i (tbl m 1) ∨ cond0_2 0 i (tbl m 1)) ∧ ¬(cond0_1 0 i (tbl m 1) ∧ cond0_2 0 i (tbl m 1))
/-- Under `Live` the output window is never idle. -/
theorem liveAt0_3 (hO : Ok m) (hL : Live m) (t : Fin (cfgM m hO).N) : (cfgM m hO).idle 3 (grid0.coords t) = false := by
  have h := (hL (grid0.coords t)).1
  show (!(k0_cond2 ((tbl m).atD 1 (k0_off3 (grid0.coords t))) == 1#1) && !(k0_cond3 ((tbl m).atD 1 (k0_off4 (grid0.coords t))) == 1#1)) = false
  rw [atD_tv m _ (k0_off3_inb _), atD_tv m _ (k0_off4_inb _)]
  rcases h with h | h
  · rw [show (k0_cond2 (tvW 0 (k0_off3 (grid0.coords t)) (k0_off3_inb (grid0.coords t)) (tbl m 1)) == 1#1) = true from beq_iff_eq.mpr h]; rfl
  · rw [show (k0_cond3 (tvW 0 (k0_off4 (grid0.coords t)) (k0_off4_inb (grid0.coords t)) (tbl m 1)) == 1#1) = true from beq_iff_eq.mpr h]; exact Bool.and_false _

/-! ## The kernel body on any staging memrefs: a subtype the run finds -/

/-- One staging buffer of output window 3, through which its contents are stated (`View.read_writes_of_cover`: the
    choice does not matter). -/
abbrev VO0_3 : View sig .tc .vmem S256x1024 .f32 := (Memref.whole cc0_stg3_0 : Memref sig .tc .vmem S256x1024 .f32).view
/-- Each window's current staging memref at point `t`, spelled as the pipeline passes it (`bodyAt0`), and its wholeness. -/
abbrev ms0_0 (hO : Ok m) (t : Fin (cfgM m hO).N) : Memref sig .tc .vmem S256x2048 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x2048x1024 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1x1024 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S256x1024 .f32 := spec0_3.stage ((cfgM m hO).slots t 3)
abbrev hs0_3 (hO : Ok m) (t : Fin (cfgM m hO).N) : (ms0_3 m hO t).IsWhole := hstage0_3 (((cfgM m hO).slots t 3).cast nbuf0_3)
/-- The scratch operands: whole scoped buffers of the kernel's own, passed beside the windows. -/
abbrev scM0_0 : Memref sig .tc .vmem S2048x1024 .bf16 := Memref.whole cc0_scratch0
/-- The scratch `arg8` the kernel carries between points, as a view: what it holds is stated through it. -/
abbrev VS0_0 : View sig .tc .vmem S2048x1024 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

-- A grid point, the buffers of its blocks and scratches, and what the blocks and the two tables hold.
variable (c : Dev nD) (i : grid0.Coords) (arg4 : Memref sig .tc .vmem S256x2048 .bf16) (harg4 : arg4.IsWhole) (arg5 : Memref sig .tc .vmem S1x1x2048x1024 .f32) (harg5 : arg5.IsWhole) (arg6 : Memref sig .tc .vmem S1x1x1x1024 .f32) (harg6 : arg6.IsWhole) (arg7 : Memref sig .tc .vmem S256x1024 .f32) (harg7 : arg7.IsWhole) (arg8 : Memref sig .tc .vmem S2048x1024 .bf16) (harg8 : arg8.IsWhole)
  (x0 : Vec F S256x2048 .bf16) (x1 : Vec F S1x1x2048x1024 .f32) (x2 : Vec F S1x1x1x1024 .f32) (xt0 : TbBuf0 (F := F) c tbM0_0) (xt1 : TbBuf0 (F := F) c tbM0_1)

set_option maxHeartbeats 1000000 in
/-- The pieces the body leaves in the output's staging buffer and in the scratch, with the proof that the body, run on whole staging buffers and the two tables, ends with them written and everything else as it was: the expert is new and the tile holds rows. -/
noncomputable def kernelRun0_A (hc0 : cond0_0 c i xt0) (hc1 : cond0_1 c i xt1) (hc2 : ¬cond0_2 c i xt1) :
    Σ' (L3 : List (View.Piece (Elt F) S256x1024 .f32)), { LS0 : List (View.Piece (Elt F) S2048x1024 .bf16) //
      ∀ (E : Set ℕ) (K : PUnit → sProp 𝕄),
        iprop(owns c.tc arg4 fullShare x0 ∗ owns c.tc arg5 fullShare x1 ∗ owns c.tc arg6 fullShare x2 ∗ (∃ d, owns c.tc arg7 fullShare d) ∗ (∃ d, owns c.tc arg8 fullShare d) ∗ tbPt0 c tbM0_0 xt0 ∗ tbPt0 c tbM0_1 xt1
            ∗ (iprop(owns c.tc arg4 fullShare x0 ∗ owns c.tc arg5 fullShare x1 ∗ owns c.tc arg6 fullShare x2 ∗ (∃ f, arg7.view.loc c.tc ↦[arg7.view.set]{fullShare} arg7.view.writes (Elt F) f L3) ∗ (∃ f, arg8.view.loc c.tc ↦[arg8.view.set]{fullShare} arg8.view.writes (Elt F) f LS0) ∗ tbPt0 c tbM0_0 xt0 ∗ tbPt0 c tbM0_1 xt1) -∗ K ⟨⟩))
          ⊢ wp frame (wpE (defs₀ (F := F)) Variants.none c none) E (cc0_expert_down i tbM0_0 htbM0_0 tbM0_1 htbM0_1 arg4 harg4 arg5 harg5 arg6 harg6 arg7 harg7 arg8 harg8) K } := by
  refine ⟨?_, ?_, fun E K => ?run⟩
  case run =>
    simp only [cc0_expert_down_eq_skeleton]; unfold cc0_expert_down_skel
    unfold owns
    iintro ⟨⟨%f0, %hf0, H0⟩, ⟨%f1, %hf1, H1⟩, ⟨%f2, %hf2, H2⟩, ⟨%d3, %f3, -, H3⟩, ⟨%ds0, %fs0, -, HS0⟩, HT0, HT1, Hk⟩
    obtain rfl := harg4.eq_unread hf0; obtain rfl := harg5.eq_unread hf1; obtain rfl := harg6.eq_unread hf2
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HS0]; · iexists _; iexact HS0
    isplitl [HT0]; · iexact HT0
    iexact HT1

set_option maxHeartbeats 1000000 in
/-- The same pieces where the expert is new and the tile holds no row. -/
noncomputable def kernelRun0_B (hc0 : cond0_0 c i xt0) (hc1 : ¬cond0_1 c i xt1) (hc2 : cond0_2 c i xt1) :
    Σ' (L3 : List (View.Piece (Elt F) S256x1024 .f32)), { LS0 : List (View.Piece (Elt F) S2048x1024 .bf16) //
      ∀ (E : Set ℕ) (K : PUnit → sProp 𝕄),
        iprop(owns c.tc arg4 fullShare x0 ∗ owns c.tc arg5 fullShare x1 ∗ owns c.tc arg6 fullShare x2 ∗ (∃ d, owns c.tc arg7 fullShare d) ∗ (∃ d, owns c.tc arg8 fullShare d) ∗ tbPt0 c tbM0_0 xt0 ∗ tbPt0 c tbM0_1 xt1
            ∗ (iprop(owns c.tc arg4 fullShare x0 ∗ owns c.tc arg5 fullShare x1 ∗ owns c.tc arg6 fullShare x2 ∗ (∃ f, arg7.view.loc c.tc ↦[arg7.view.set]{fullShare} arg7.view.writes (Elt F) f L3) ∗ (∃ f, arg8.view.loc c.tc ↦[arg8.view.set]{fullShare} arg8.view.writes (Elt F) f LS0) ∗ tbPt0 c tbM0_0 xt0 ∗ tbPt0 c tbM0_1 xt1) -∗ K ⟨⟩))
          ⊢ wp frame (wpE (defs₀ (F := F)) Variants.none c none) E (cc0_expert_down i tbM0_0 htbM0_0 tbM0_1 htbM0_1 arg4 harg4 arg5 harg5 arg6 harg6 arg7 harg7 arg8 harg8) K } := by
  refine ⟨?_, ?_, fun E K => ?run⟩
  case run =>
    simp only [cc0_expert_down_eq_skeleton]; unfold cc0_expert_down_skel
    unfold owns
    iintro ⟨⟨%f0, %hf0, H0⟩, ⟨%f1, %hf1, H1⟩, ⟨%f2, %hf2, H2⟩, ⟨%d3, %f3, -, H3⟩, ⟨%ds0, %fs0, -, HS0⟩, HT0, HT1, Hk⟩
    obtain rfl := harg4.eq_unread hf0; obtain rfl := harg5.eq_unread hf1; obtain rfl := harg6.eq_unread hf2
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HS0]; · iexists _; iexact HS0
    isplitl [HT0]; · iexact HT0
    iexact HT1

set_option maxHeartbeats 1000000 in
/-- The pieces the body leaves in the output's staging buffer, with the proof that the body, run on whole staging buffers and the two tables, ends with them written and everything else as it was: the expert is the one before and the tile holds rows. -/
noncomputable def kernelRun0_C (xs0 : Vec F S2048x1024 .bf16) (hc0 : ¬cond0_0 c i xt0) (hc1 : cond0_1 c i xt1) (hc2 : ¬cond0_2 c i xt1) :
    { L3 : List (View.Piece (Elt F) S256x1024 .f32) //
      ∀ (E : Set ℕ) (K : PUnit → sProp 𝕄),
        iprop(owns c.tc arg4 fullShare x0 ∗ owns c.tc arg5 fullShare x1 ∗ owns c.tc arg6 fullShare x2 ∗ (∃ d, owns c.tc arg7 fullShare d) ∗ owns c.tc arg8 fullShare xs0 ∗ tbPt0 c tbM0_0 xt0 ∗ tbPt0 c tbM0_1 xt1
            ∗ (iprop(owns c.tc arg4 fullShare x0 ∗ owns c.tc arg5 fullShare x1 ∗ owns c.tc arg6 fullShare x2 ∗ (∃ f, arg7.view.loc c.tc ↦[arg7.view.set]{fullShare} arg7.view.writes (Elt F) f L3) ∗ owns c.tc arg8 fullShare xs0 ∗ tbPt0 c tbM0_0 xt0 ∗ tbPt0 c tbM0_1 xt1) -∗ K ⟨⟩))
          ⊢ wp frame (wpE (defs₀ (F := F)) Variants.none c none) E (cc0_expert_down i tbM0_0 htbM0_0 tbM0_1 htbM0_1 arg4 harg4 arg5 harg5 arg6 harg6 arg7 harg7 arg8 harg8) K } := by
  refine ⟨?_, fun E K => ?run⟩
  case run =>
    simp only [cc0_expert_down_eq_skeleton]; unfold cc0_expert_down_skel
    unfold owns
    iintro ⟨⟨%f0, %hf0, H0⟩, ⟨%f1, %hf1, H1⟩, ⟨%f2, %hf2, H2⟩, ⟨%d3, %f3, -, H3⟩, ⟨%fs0, %hfs0, HS0⟩, HT0, HT1, Hk⟩
    obtain rfl := harg4.eq_unread hf0; obtain rfl := harg5.eq_unread hf1; obtain rfl := harg6.eq_unread hf2; obtain rfl := harg8.eq_unread hfs0
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HS0]
    · iexists _; isplitr; · ipureintro; exact harg8.read_unread _
      iexact HS0
    isplitl [HT0]; · iexact HT0
    iexact HT1

set_option maxHeartbeats 1000000 in
/-- The same pieces where the expert is the one before and the tile holds no row. -/
noncomputable def kernelRun0_D (xs0 : Vec F S2048x1024 .bf16) (hc0 : ¬cond0_0 c i xt0) (hc1 : ¬cond0_1 c i xt1) (hc2 : cond0_2 c i xt1) :
    { L3 : List (View.Piece (Elt F) S256x1024 .f32) //
      ∀ (E : Set ℕ) (K : PUnit → sProp 𝕄),
        iprop(owns c.tc arg4 fullShare x0 ∗ owns c.tc arg5 fullShare x1 ∗ owns c.tc arg6 fullShare x2 ∗ (∃ d, owns c.tc arg7 fullShare d) ∗ owns c.tc arg8 fullShare xs0 ∗ tbPt0 c tbM0_0 xt0 ∗ tbPt0 c tbM0_1 xt1
            ∗ (iprop(owns c.tc arg4 fullShare x0 ∗ owns c.tc arg5 fullShare x1 ∗ owns c.tc arg6 fullShare x2 ∗ (∃ f, arg7.view.loc c.tc ↦[arg7.view.set]{fullShare} arg7.view.writes (Elt F) f L3) ∗ owns c.tc arg8 fullShare xs0 ∗ tbPt0 c tbM0_0 xt0 ∗ tbPt0 c tbM0_1 xt1) -∗ K ⟨⟩))
          ⊢ wp frame (wpE (defs₀ (F := F)) Variants.none c none) E (cc0_expert_down i tbM0_0 htbM0_0 tbM0_1 htbM0_1 arg4 harg4 arg5 harg5 arg6 harg6 arg7 harg7 arg8 harg8) K } := by
  refine ⟨?_, fun E K => ?run⟩
  case run =>
    simp only [cc0_expert_down_eq_skeleton]; unfold cc0_expert_down_skel
    unfold owns
    iintro ⟨⟨%f0, %hf0, H0⟩, ⟨%f1, %hf1, H1⟩, ⟨%f2, %hf2, H2⟩, ⟨%d3, %f3, -, H3⟩, ⟨%fs0, %hfs0, HS0⟩, HT0, HT1, Hk⟩
    obtain rfl := harg4.eq_unread hf0; obtain rfl := harg5.eq_unread hf1; obtain rfl := harg6.eq_unread hf2; obtain rfl := harg8.eq_unread hfs0
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HS0]
    · iexists _; isplitr; · ipureintro; exact harg8.read_unread _
      iexact HS0
    isplitl [HT0]; · iexact HT0
    iexact HT1

end Cert.Kernel5Ideal.Gen

end
-- ==== Proof.Kernel5IdealFrame.lean ====
module

public import proofs.«01_k».proof.Proof.Kernel5IdealRuns
public import Idealize.ShloMosaic.Lib.Claim
public import Idealize.ShloMosaic.Lib.Pipeline.ValueKit.Acc

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- A grid point, the buffers of its blocks and scratches, and what the blocks and the two tables hold.
variable (c : Dev nD) (i : grid0.Coords) (arg4 : Memref sig .tc .vmem S256x2048 .bf16) (harg4 : arg4.IsWhole) (arg5 : Memref sig .tc .vmem S1x1x2048x1024 .f32) (harg5 : arg5.IsWhole) (arg6 : Memref sig .tc .vmem S1x1x1x1024 .f32) (harg6 : arg6.IsWhole) (arg7 : Memref sig .tc .vmem S256x1024 .f32) (harg7 : arg7.IsWhole) (arg8 : Memref sig .tc .vmem S2048x1024 .bf16) (harg8 : arg8.IsWhole)
  (x0 : Vec F S256x2048 .bf16) (x1 : Vec F S1x1x2048x1024 .f32) (x2 : Vec F S1x1x1x1024 .f32) (xt0 : TbBuf0 (F := F) c tbM0_0) (xt1 : TbBuf0 (F := F) c tbM0_1)

/-- Case A: the stored pieces cover the output block. -/
theorem cover0_A (hc0 : cond0_0 c i xt0) (hc1 : cond0_1 c i xt1) (hc2 : ¬cond0_2 c i xt1) (y : S256x1024.Idx) :
    ∃ pc ∈ (kernelRun0_A c i arg4 harg4 arg5 harg5 arg6 harg6 arg7 harg7 arg8 harg8 x0 x1 x2 xt0 xt1 hc0 hc1 hc2).1, y ∈ pc.1.set :=
  View.cover_of_tiledL _ S256x1024.size (by sl_kernel_rfl) y

/-- Case A: the output block ends at the product with the freshly converted expert matrix plus the bias. -/
theorem val0_A (hc0 : cond0_0 c i xt0) (hc1 : cond0_1 c i xt1) (hc2 : ¬cond0_2 c i xt1) (f) :
    arg7.view.read (Elt F) (arg7.view.writes (Elt F) f (kernelRun0_A c i arg4 harg4 arg5 harg5 arg6 harg6 arg7 harg7 arg8 harg8 x0 x1 x2 xt0 xt1 hc0 hc1 hc2).1) = k0_pay2 x0 (k0_pay1 x1) x2 := by
  rw [View.read_writes_eq_canon _ _ _ (cover0_A _ _ _ _ _ _ _ _ _ _ _ _ _ _ _ _ _ _ _ _)]
  unfold kernelRun0_A kernelRun0_A.sl.v22 kernelRun0_A.sl.HS0_1
  simp (disch := decide) only [View.canon_cons_unit_lit', View.ld_unit_lit', View.readCov_unit_lit', View.readCov_cons_unit_lit', View.readAt_eq_ld, Memref.IsWhole.read_unread]

/-- Case A: the stored pieces cover the scratch. -/
theorem scover0_A (hc0 : cond0_0 c i xt0) (hc1 : cond0_1 c i xt1) (hc2 : ¬cond0_2 c i xt1) (y : S2048x1024.Idx) :
    ∃ pc ∈ (kernelRun0_A c i arg4 harg4 arg5 harg5 arg6 harg6 arg7 harg7 arg8 harg8 x0 x1 x2 xt0 xt1 hc0 hc1 hc2).2.1, y ∈ pc.1.set :=
  View.cover_of_tiledL _ S2048x1024.size (by sl_kernel_rfl) y

/-- Case A: the scratch ends at the converted expert matrix. -/
theorem sval0_A (hc0 : cond0_0 c i xt0) (hc1 : cond0_1 c i xt1) (hc2 : ¬cond0_2 c i xt1) (f) :
    arg8.view.read (Elt F) (arg8.view.writes (Elt F) f (kernelRun0_A c i arg4 harg4 arg5 harg5 arg6 harg6 arg7 harg7 arg8 harg8 x0 x1 x2 xt0 xt1 hc0 hc1 hc2).2.1) = k0_pay1 x1 := by
  rw [View.read_writes_eq_canon _ _ _ (scover0_A _ _ _ _ _ _ _ _ _ _ _ _ _ _ _ _ _ _ _ _)]
  unfold kernelRun0_A kernelRun0_A.sl.HS0_1
  simp (disch := decide) only [View.canon_cons_unit_lit', View.ld_unit_lit', View.readCov_unit_lit', View.readCov_cons_unit_lit', View.readAt_eq_ld, Memref.IsWhole.read_unread]

/-- Case B: the stored pieces cover the output block. -/
theorem cover0_B (hc0 : cond0_0 c i xt0) (hc1 : ¬cond0_1 c i xt1) (hc2 : cond0_2 c i xt1) (y : S256x1024.Idx) :
    ∃ pc ∈ (kernelRun0_B c i arg4 harg4 arg5 harg5 arg6 harg6 arg7 harg7 arg8 harg8 x0 x1 x2 xt0 xt1 hc0 hc1 hc2).1, y ∈ pc.1.set :=
  View.cover_of_tiledL _ S256x1024.size (by sl_kernel_rfl) y

/-- Case B: the output block ends at zero. -/
theorem val0_B (hc0 : cond0_0 c i xt0) (hc1 : ¬cond0_1 c i xt1) (hc2 : cond0_2 c i xt1) (f) :
    arg7.view.read (Elt F) (arg7.view.writes (Elt F) f (kernelRun0_B c i arg4 harg4 arg5 harg5 arg6 harg6 arg7 harg7 arg8 harg8 x0 x1 x2 xt0 xt1 hc0 hc1 hc2).1) = k0_pay3 := by
  rw [View.read_writes_eq_canon _ _ _ (cover0_B _ _ _ _ _ _ _ _ _ _ _ _ _ _ _ _ _ _ _ _)]
  unfold kernelRun0_B
  simp (disch := decide) only [View.canon_cons_unit_lit', View.ld_unit_lit', View.readCov_unit_lit', View.readCov_cons_unit_lit', View.readAt_eq_ld, Memref.IsWhole.read_unread]

/-- Case B: the stored pieces cover the scratch. -/
theorem scover0_B (hc0 : cond0_0 c i xt0) (hc1 : ¬cond0_1 c i xt1) (hc2 : cond0_2 c i xt1) (y : S2048x1024.Idx) :
    ∃ pc ∈ (kernelRun0_B c i arg4 harg4 arg5 harg5 arg6 harg6 arg7 harg7 arg8 harg8 x0 x1 x2 xt0 xt1 hc0 hc1 hc2).2.1, y ∈ pc.1.set :=
  View.cover_of_tiledL _ S2048x1024.size (by sl_kernel_rfl) y

/-- Case B: the scratch ends at the converted expert matrix. -/
theorem sval0_B (hc0 : cond0_0 c i xt0) (hc1 : ¬cond0_1 c i xt1) (hc2 : cond0_2 c i xt1) (f) :
    arg8.view.read (Elt F) (arg8.view.writes (Elt F) f (kernelRun0_B c i arg4 harg4 arg5 harg5 arg6 harg6 arg7 harg7 arg8 harg8 x0 x1 x2 xt0 xt1 hc0 hc1 hc2).2.1) = k0_pay1 x1 := by
  rw [View.read_writes_eq_canon _ _ _ (scover0_B _ _ _ _ _ _ _ _ _ _ _ _ _ _ _ _ _ _ _ _)]
  unfold kernelRun0_B
  simp (disch := decide) only [View.canon_cons_unit_lit', View.ld_unit_lit', View.readCov_unit_lit', View.readCov_cons_unit_lit', View.readAt_eq_ld, Memref.IsWhole.read_unread]

/-- Case C: the stored pieces cover the output block. -/
theorem cover0_C (xs0 : Vec F S2048x1024 .bf16) (hc0 : ¬cond0_0 c i xt0) (hc1 : cond0_1 c i xt1) (hc2 : ¬cond0_2 c i xt1) (y : S256x1024.Idx) :
    ∃ pc ∈ (kernelRun0_C c i arg4 harg4 arg5 harg5 arg6 harg6 arg7 harg7 arg8 harg8 x0 x1 x2 xt0 xt1 xs0 hc0 hc1 hc2).1, y ∈ pc.1.set :=
  View.cover_of_tiledL _ S256x1024.size (by sl_kernel_rfl) y

/-- Case C: the output block ends at the product with the matrix the scratch holds plus the bias. -/
theorem val0_C (xs0 : Vec F S2048x1024 .bf16) (hc0 : ¬cond0_0 c i xt0) (hc1 : cond0_1 c i xt1) (hc2 : ¬cond0_2 c i xt1) (f) :
    arg7.view.read (Elt F) (arg7.view.writes (Elt F) f (kernelRun0_C c i arg4 harg4 arg5 harg5 arg6 harg6 arg7 harg7 arg8 harg8 x0 x1 x2 xt0 xt1 xs0 hc0 hc1 hc2).1) = k0_pay2 x0 xs0 x2 := by
  rw [View.read_writes_eq_canon _ _ _ (cover0_C _ _ _ _ _ _ _ _ _ _ _ _ _ _ _ _ _ _ _ _ _)]
  unfold kernelRun0_C
  simp (disch := decide) only [View.canon_cons_unit_lit', View.ld_unit_lit', View.readCov_unit_lit', View.readCov_cons_unit_lit', View.readAt_eq_ld, Memref.IsWhole.read_unread]

/-- Case D: the stored pieces cover the output block. -/
theorem cover0_D (xs0 : Vec F S2048x1024 .bf16) (hc0 : ¬cond0_0 c i xt0) (hc1 : ¬cond0_1 c i xt1) (hc2 : cond0_2 c i xt1) (y : S256x1024.Idx) :
    ∃ pc ∈ (kernelRun0_D c i arg4 harg4 arg5 harg5 arg6 harg6 arg7 harg7 arg8 harg8 x0 x1 x2 xt0 xt1 xs0 hc0 hc1 hc2).1, y ∈ pc.1.set :=
  View.cover_of_tiledL _ S256x1024.size (by sl_kernel_rfl) y

/-- Case D: the output block ends at zero. -/
theorem val0_D (xs0 : Vec F S2048x1024 .bf16) (hc0 : ¬cond0_0 c i xt0) (hc1 : ¬cond0_1 c i xt1) (hc2 : cond0_2 c i xt1) (f) :
    arg7.view.read (Elt F) (arg7.view.writes (Elt F) f (kernelRun0_D c i arg4 harg4 arg5 harg5 arg6 harg6 arg7 harg7 arg8 harg8 x0 x1 x2 xt0 xt1 xs0 hc0 hc1 hc2).1) = k0_pay3 := by
  rw [View.read_writes_eq_canon _ _ _ (cover0_D _ _ _ _ _ _ _ _ _ _ _ _ _ _ _ _ _ _ _ _ _)]
  unfold kernelRun0_D
  simp (disch := decide) only [View.canon_cons_unit_lit', View.ld_unit_lit', View.readCov_unit_lit', View.readCov_cons_unit_lit', View.readAt_eq_ld, Memref.IsWhole.read_unread]

/-- The grid's coordinates at a point: the column block, -/
theorem coords_0 (t : Fin grid0.N) : (grid0.coords t 0).val = t.val / 161 := by
  have e : (grid0.coords t 0).val = t.val / 161 % 2 := Pipeline.Grid.coords_val t 0 (by decide) rfl
  have ht : t.val < 322 := Nat.lt_of_lt_of_eq t.isLt N_0
  omega
/-- and the tile. -/
theorem coords_1 (t : Fin grid0.N) : (grid0.coords t 1).val = t.val % 161 := by
  have e : (grid0.coords t 1).val = t.val / 1 % 161 := Pipeline.Grid.coords_val t 1 (by decide) rfl
  rw [e, Nat.div_one]

/-! ## What the scratch and the output block hold after each point -/

/-- The scratch after the point at position `n`: the converted expert matrix of the last point at or before it at which the first branch is taken. -/
def scrAt (hO : Ok m) (c : Dev nD) : (n : ℕ) → n < (cfgM m hO).N → Vec F S2048x1024 .bf16
  | 0, hn => k0_pay1 (iblk m hO c 1 ⟨0, hn⟩)
  | n + 1, hn =>
    haveI := Classical.propDecidable (cond0_0 c (grid0.coords ⟨n + 1, hn⟩) (tbl m 0))
    if cond0_0 c (grid0.coords ⟨n + 1, hn⟩) (tbl m 0) then k0_pay1 (iblk m hO c 1 ⟨n + 1, hn⟩) else scrAt hO c n (Nat.lt_of_succ_lt hn)

/-- Where the first branch is taken the scratch ends at the point's converted expert matrix. -/
theorem scrAt_new (hO : Ok m) (c : Dev nD) (t : Fin (cfgM m hO).N) (h : cond0_0 c (grid0.coords t) (tbl m 0)) :
    scrAt m hO c t.val t.isLt = k0_pay1 (iblk m hO c 1 t) := by
  obtain ⟨n, hn⟩ := t
  cases n with
  | zero => rfl
  | succ n => exact if_pos h

/-- Elsewhere it keeps what the point before left. -/
theorem scrAt_old (hO : Ok m) (c : Dev nD) (t : Fin (cfgM m hO).N) (hz : t.val ≠ 0) (h : ¬cond0_0 c (grid0.coords t) (tbl m 0)) :
    scrAt m hO c t.val t.isLt = scrAt m hO c (t.val - 1) (Nat.lt_of_le_of_lt (Nat.sub_le _ _) t.isLt) := by
  obtain ⟨n, hn⟩ := t
  cases n with
  | zero => exact absurd rfl hz
  | succ n => exact if_neg h

/-- The output block after point `t`: the product with the scratch's matrix plus the bias where the tile holds rows, zero elsewhere. -/
def outAt (hO : Ok m) (c : Dev nD) (t : Fin (cfgM m hO).N) : Vec F S256x1024 .f32 :=
  haveI := Classical.propDecidable (cond0_1 c (grid0.coords t) (tbl m 1))
  if cond0_1 c (grid0.coords t) (tbl m 1) then k0_pay2 (iblk m hO c 0 t) (scrAt m hO c t.val t.isLt) (iblk m hO c 2 t) else k0_pay3

/-- The region invariant before position `n`: at first every scratch at anything; afterwards the scratch at what the point before left. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns c.tc scM0_0 fullShare (scrAt m hO c n hn)) ∗ (∃ r, prngReg c r)) ∗ Pipeline.ΦT pre0 (tbl m) c)

/-- Before the first point: every scratch at anything. -/
theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n`: the scratch at that point's contents. -/
theorem PhiS_succ (hO : Ok m) (c : Dev nD) (n : ℕ) (hn : n < (cfgM m hO).N) :
    PhiS m hO c (n + 1) hn = iprop(iprop(iprop(owns c.tc scM0_0 fullShare (scrAt m hO c n hn)) ∗ (∃ r, prngReg c r)) ∗ Pipeline.ΦT pre0 (tbl m) c) := rfl

/-- Before a point that is not the first: the scratch at what the point before left. -/
theorem PhiS_pos (hO : Ok m) (c : Dev nD) (n : ℕ) (h : n ≤ (cfgM m hO).N) (hz : n ≠ 0) :
    PhiS m hO c n h = iprop(iprop(iprop(owns c.tc scM0_0 fullShare (scrAt m hO c (n - 1) (by omega))) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outAt`; the invariant the class's
     and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outAt m hO c t
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = outAt m hO c t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-! ## The body obligation, at a generic point -/

/-- What the body is called with at point `t` , -/
def bodyPre (hO : Ok m) (c : Dev nD) (t : Fin (cfgM m hO).N) : sProp 𝕄 :=
  iprop((dats m hO 0 c).Φ t.castSucc ∗ (dats m hO 0 c).owesAt () t.castSucc
    ∗ (∃ d, owns c.tc (ms0_0 m hO t) fullShare ((dats m hO 0 c).before 0 t d))
    ∗ (∃ d, owns c.tc (ms0_1 m hO t) fullShare ((dats m hO 0 c).before 1 t d))
    ∗ (∃ d, owns c.tc (ms0_2 m hO t) fullShare ((dats m hO 0 c).before 2 t d))
    ∗ (∃ d, owns c.tc (ms0_3 m hO t) fullShare ((dats m hO 0 c).before 3 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t)

set_option maxHeartbeats 6400000 in
/-- The body at any point: by cases on the three branches, the run of the case applies to the blocks the pipeline hands it and the scratch the point before left. -/
theorem sound_body (hO : Ok m) (hL : Live m) (c : Dev nD) (t : Fin (cfgM m hO).N) :
    bodyPre m hO c t ⊢ wp frame (wpE (defs₀ (F := F)) Variants.none c none) Set.univ (bodyAt0 (adm m hO) t) (fun _ => bodyPost m hO c t) := by
  have hl : (cond0_1 c (grid0.coords t) (tbl m 1) ∨ cond0_2 c (grid0.coords t) (tbl m 1)) ∧ ¬(cond0_1 c (grid0.coords t) (tbl m 1) ∧ cond0_2 c (grid0.coords t) (tbl m 1)) := by
    obtain rfl : c = 0 := Subsingleton.elim _ _
    exact hL (grid0.coords t)
  have hfirst : t.val = 0 → cond0_0 c (grid0.coords t) (tbl m 0) := fun hz => cond0_first c _ _ (by
    rw [coords_1 t, hz])
  unfold bodyPre bodyPost bodyAt0
  simp only [before0_0, before0_1, before0_2]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  rw [show (dats m hO 0 c).leavesExact 0 t = owns c.tc (ms0_0 m hO t) fullShare ((dats m hO 0 c).after 0 t) from by
      unfold Dat.leavesExact; rw [liveAt0_0 m hO t]; try rfl, after0_0]
  rw [show (dats m hO 0 c).leavesExact 1 t = owns c.tc (ms0_1 m hO t) fullShare ((dats m hO 0 c).after 1 t) from by
      unfold Dat.leavesExact; rw [liveAt0_1 m hO t]; try rfl, after0_1]
  rw [show (dats m hO 0 c).leavesExact 2 t = owns c.tc (ms0_2 m hO t) fullShare ((dats m hO 0 c).after 2 t) from by
      unfold Dat.leavesExact; rw [liveAt0_2 m hO t]; try rfl, after0_2]
  rw [show (dats m hO 0 c).leavesExact 3 t = owns c.tc (ms0_3 m hO t) fullShare ((dats m hO 0 c).after 3 t) from by
      unfold Dat.leavesExact; rw [liveAt0_3 m hO hL t]; try rfl, after0_3]
  by_cases h0 : cond0_0 c (grid0.coords t) (tbl m 0)
  · by_cases h1 : cond0_1 c (grid0.coords t) (tbl m 1)
    case' pos =>
      have h2 : ¬cond0_2 c (grid0.coords t) (tbl m 1) := fun h => hl.2 ⟨h1, h⟩
    case' neg =>
      have h2 : cond0_2 c (grid0.coords t) (tbl m 1) := hl.1.resolve_left h1
    all_goals
      by_cases hz : t.val = 0
      case' pos => rw [PhiS_castSucc m hO c t, PhiS_zero m hO c _ _ hz, PhiT0_eq, PhiA0_eq]
      case' neg => rw [PhiS_castSucc m hO c t, PhiS_pos m hO c _ _ hz, PhiT0_eq]
      all_goals
        rw [scrAt_new m hO c t h0]
        iintro ⟨⟨⟨HS0, Hg⟩, ⟨HT0, HT1⟩⟩, Ho, ⟨%d0, H0⟩, ⟨%d1, H1⟩, ⟨%d2, H2⟩, ⟨%d3, H3⟩⟩
        first
          | (iapply ((kernelRun0_A c (grid0.coords t) _ _ _ _ _ _ _ _ _ _ (iblk m hO c 0 t) (iblk m hO c 1 t) (iblk m hO c 2 t) (tbl m 0) (tbl m 1) h0 h1 h2).2.2 Set.univ _))
          | (iapply ((kernelRun0_B c (grid0.coords t) _ _ _ _ _ _ _ _ _ _ (iblk m hO c 0 t) (iblk m hO c 1 t) (iblk m hO c 2 t) (tbl m 0) (tbl m 1) h0 h1 h2).2.2 Set.univ _))
        isplitl [H0]; · iexact H0
        isplitl [H1]; · iexact H1
        isplitl [H2]; · iexact H2
        isplitl [H3]; · iexists _; iexact H3
        isplitl [HS0]; · first | iexact HS0 | (iexists _; iexact HS0)
        isplitl [HT0]; · iexact HT0
        isplitl [HT1]; · iexact HT1
        iintro ⟨H0, H1, H2, ⟨%e3, H3⟩, ⟨%es0, HS0⟩, HT0, HT1⟩
        isplitl [HS0 Hg HT0 HT1]
        · isplitl [HS0 Hg]
          · isplitl [HS0]
            · unfold owns; iexists _; isplitr
              swap; · iexact HS0
              ipureintro; first | (have _ : cond0_1 c (grid0.coords t) (tbl m 1) := h1; exact sval0_A ..) | exact sval0_B ..
            iexact Hg
          isplitl [HT0]; · iexact HT0
          iexact HT1
        isplitl [Ho]; · iexact Ho
        isplitl [H0]; · iexact H0
        isplitl [H1]; · iexact H1
        isplitl [H2]; · iexact H2
        unfold owns; iexists _; isplitr
        swap; · iexact H3
        ipureintro; first | (have _ : cond0_1 c (grid0.coords t) (tbl m 1) := h1; exact (val0_A ..).trans (Eq.symm ((if_pos h1).trans (by rw [scrAt_new m hO c t h0])))) | exact (val0_B ..).trans (Eq.symm (if_neg h1))
  · have hz : t.val ≠ 0 := fun hz => h0 (hfirst hz)
    by_cases h1 : cond0_1 c (grid0.coords t) (tbl m 1)
    case' pos =>
      have h2 : ¬cond0_2 c (grid0.coords t) (tbl m 1) := fun h => hl.2 ⟨h1, h⟩
    case' neg =>
      have h2 : cond0_2 c (grid0.coords t) (tbl m 1) := hl.1.resolve_left h1
    all_goals
      rw [PhiS_castSucc m hO c t, PhiS_pos m hO c _ _ hz, PhiT0_eq]
      rw [scrAt_old m hO c t hz h0]
      iintro ⟨⟨⟨HS0, Hg⟩, ⟨HT0, HT1⟩⟩, Ho, ⟨%d0, H0⟩, ⟨%d1, H1⟩, ⟨%d2, H2⟩, ⟨%d3, H3⟩⟩
      first
        | (iapply ((kernelRun0_C c (grid0.coords t) _ _ _ _ _ _ _ _ _ _ (iblk m hO c 0 t) (iblk m hO c 1 t) (iblk m hO c 2 t) (tbl m 0) (tbl m 1) _ h0 h1 h2).2 Set.univ _))
        | (iapply ((kernelRun0_D c (grid0.coords t) _ _ _ _ _ _ _ _ _ _ (iblk m hO c 0 t) (iblk m hO c 1 t) (iblk m hO c 2 t) (tbl m 0) (tbl m 1) _ h0 h1 h2).2 Set.univ _))
      isplitl [H0]; · iexact H0
      isplitl [H1]; · iexact H1
      isplitl [H2]; · iexact H2
      isplitl [H3]; · iexists _; iexact H3
      isplitl [HS0]; · iexact HS0
      isplitl [HT0]; · iexact HT0
      isplitl [HT1]; · iexact HT1
      iintro ⟨H0, H1, H2, ⟨%e3, H3⟩, HS0, HT0, HT1⟩
      isplitl [HS0 Hg HT0 HT1]
      · isplitl [HS0 Hg]
        · isplitl [HS0]
          · iexact HS0
          iexact Hg
        isplitl [HT0]; · iexact HT0
        iexact HT1
      isplitl [Ho]; · iexact Ho
      isplitl [H0]; · iexact H0
      isplitl [H1]; · iexact H1
      isplitl [H2]; · iexact H2
      unfold owns; iexists _; isplitr
      swap; · iexact H3
      ipureintro; first | (have _ : cond0_1 c (grid0.coords t) (tbl m 1) := h1; exact (val0_C ..).trans (Eq.symm ((if_pos h1).trans (by rw [scrAt_old m hO c t hz h0])))) | exact (val0_D ..).trans (Eq.symm (if_neg h1))

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated . -/
theorem body_obligation (hO : Ok m) (hL : Live m) (c : Dev nD) : BodyObligation (dats (F := F) m hO 0 c) (defs₀ (F := F)) Variants.none () Set.univ := fun t => by
  rw [bigSep_W0, bigSep_W0, defs₀_row m hO]
  exact triple_restated (sound_body m hO hL c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨HS0, Hg⟩, -⟩
  isplitl [HS0]
  · iexists _; iexact HS0
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 322 := N_0; omega)

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hL : Live m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO hL c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it . -/
theorem run_main (hO : Ok m) (hL : Live m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO hL)

/-- `frame` without the counters: the argument arrays end unchanged. -/
theorem unchanged (hO : Ok m) (hL : Live m) : θ_run defs (onTc (τ := τ) (main (F := F))) ⟨m, fun _ => 0, ρ⟩ (fun r => ∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)) :=
  frame_of m ρ hO (dats m hO) (A_eq m hO) (run_main m ρ hO hL)

/-- The frame: from any memory with zero counters, under the two conditions on the tables, every weakly fair execution terminates with the argument arrays unchanged and every counter at zero. -/
theorem frame (hO : Ok m) (hL : Live m) : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4))
      ∧ r.2.sem = fun _ => 0) :=
  θ_run_and (unchanged m ρ hO hL) ((θ_run defs _ _).mono (fun _ h => h.2) (run_main_quiescent m ρ hO hL))

end Cert.Kernel5Ideal.Gen

end
-- ==== Proof.Kernel5IdealWords.lean ====
/- The words of the two tables under the precondition of the second layer's down projection: the pipeline's side condition, the branches the
   body takes, and the block indices the expert words give. -/
module

public import proofs.«01_k».proof.Proof.Kernel5IdealFrame
public import proofs.«01_k».proof.Pre_tiles_named_down
public import proofs.«01_k».proof.Proof.Gen.Pre_tiles_named_down
public import Idealize.ShloMosaic.Lib.StableHlo.Predicate
public import Idealize.ShloMosaic.Lib.ValueIdx

@[expose] public section

set_option maxRecDepth 16384

noncomputable section

namespace Cert.Kernel5Ideal.Gen

open Idealize.ShloMosaic Idealize.ShloMosaic.TcCoe Idealize.SL.Sem

variable {F : FTy → Type} [FloatOps F]
variable (m : (ℓ : Loc nD τ sig) → Buf (Elt F) ℓ)

/-- The expert table the launch memory holds. -/
abbrev te : IVec S161 32 := m (((0 : Dev nD) : Thread nD τ).loc main_arg0)
/-- The row-count table the launch memory holds. -/
abbrev tv : IVec S161 32 := m (((0 : Dev nD) : Thread nD τ).loc main_arg1)

/-- Every expert word names one of the 32 experts, and no row-count word is negative. -/
def Words : Prop := (∀ x, (te m x).toNat ≤ 31) ∧ ∀ x, 0 ≤ (tv m x).toInt

theorem tbl_0 : tbl m 0 = te m := V_arg m 0 main_arg0 (by simp)
theorem tbl_1 : tbl m 1 = tv m := V_arg m 0 main_arg1 (by simp)

/-- The precondition's bit at one tile. -/
theorem words_bit (a b : BitVec 32)
    (h : IntOp.andi (IntOp.andi (IntOp.cmpi .sge a 0#32) (IntOp.cmpi .sle a 31#32)) (IntOp.cmpi .sge b 0#32) = 1#1) :
    a.toNat ≤ 31 ∧ 0 ≤ b.toInt := by
  have key : ∀ p q r : Bool, IntOp.andi (IntOp.andi (BitVec.ofBool p) (BitVec.ofBool q)) (BitVec.ofBool r) = 1#1 → p = true ∧ q = true ∧ r = true := by decide
  obtain ⟨h1, h2, h3⟩ := key _ _ _ h
  simp only [BitVec.sle, decide_eq_true_eq] at h1 h2 h3
  have e0 : (0#32 : BitVec 32).toInt = 0 := by decide
  have e31 : (31#32 : BitVec 32).toInt = 31 := by decide
  rw [e0] at h1 h3
  rw [e31] at h2
  refine ⟨?_, h3⟩
  rw [BitVec.toInt_eq_toNat_cond] at h1 h2
  have := a.isLt
  split at h1 <;> omega

/-- The precondition gives the words' bounds. -/
theorem words_of (x2 x3 x4)
    (h : Cert.Pre_tiles_named_down.fn (F := F) (te m) (tv m) x2 x3 x4 = fun _ => 1#1) : Words m :=
  ⟨fun x => (words_bit (te m x) (tv m x) (congrFun h x)).1, fun x => (words_bit (te m x) (tv m x) (congrFun h x)).2⟩

/-- The tile of a grid point, as an index of the tables. -/
abbrev tile (i : grid0.Coords) : S161.Idx := fun a => match a with | ⟨0, _⟩ => ⟨(i 1).val, (i 1).isLt⟩

/-- The word loaded at a literal offset is the table's entry there. -/
theorem teW_eq (c : Dev nD) (o : Fin 1 → ℕ) (ho : ∀ a, o a + S1.size a ≤ S161.size a) (x : IVec S161 32) (k : S161.Idx) (hk : (k 0).val = o 0) :
    teW (F := F) c o ho x = x k :=
  congrArg x (funext fun a => Fin.ext (by fin_cases a; exact hk.symm))
theorem tvW_eq (c : Dev nD) (o : Fin 1 → ℕ) (ho : ∀ a, o a + S1.size a ≤ S161.size a) (x : IVec S161 32) (k : S161.Idx) (hk : (k 0).val = o 0) :
    tvW (F := F) c o ho x = x k :=
  congrArg x (funext fun a => Fin.ext (by fin_cases a; exact hk.symm))

/-- The expert word of the window maps is the table's entry at the tile. -/
theorem ix_1 (i : grid0.Coords) : cc0_transform_1 k0_off1_inb numel1_S1 (tbl m) i = ![1, (te m (tile i)).toNat, 0, (i 0).val] := by
  have h : cc0_transform_1 k0_off1_inb numel1_S1 (tbl m) i = ![1, (teW (F := F) 0 (k0_off1 i) (k0_off1_inb i) (tbl m 0)).toNat, 0, (BitVec.ofNat 32 (i 0).val).toNat] := rfl
  rw [h, show teW 0 (k0_off1 i) (k0_off1_inb i) (tbl m 0) = te m (tile i) from (teW_eq (F := F) 0 _ _ _ (tile i) (by rw [k0_off1_eq]; rfl)).trans (congrFun (tbl_0 m) _), BitVec.toNat_ofNat, Nat.mod_eq_of_lt (by have : (i 0).val < 2 := (i 0).isLt; omega)]
theorem ix_2 (i : grid0.Coords) : cc0_transform_2 k0_off1_inb numel1_S1 (tbl m) i = ![1, (te m (tile i)).toNat, 0, (i 0).val] := ix_1 m i

/-- The words' bounds give the pipeline's side condition. -/
theorem ok_of_words (h : Words m) : Ok m := by
  refine ⟨fun i => ⟨fun a => ?_, Or.inl rfl⟩, fun i => ⟨fun a => ?_, Or.inl rfl⟩⟩
  · rw [ix_1 m i]
    have h0 : (i 0).val < 2 := (i 0).isLt
    have h1 := h.1 (tile i)
    fin_cases a
    · show (1 + 1) * 1 ≤ 2; omega
    · show ((te m (tile i)).toNat + 1) * 1 ≤ 32; omega
    · show (0 + 1) * 2048 ≤ 2048; omega
    · show ((i 0).val + 1) * 1024 ≤ 2048; omega
  · rw [ix_2 m i]
    have h0 : (i 0).val < 2 := (i 0).isLt
    have h1 := h.1 (tile i)
    fin_cases a
    · show (1 + 1) * 1 ≤ 2; omega
    · show ((te m (tile i)).toNat + 1) * 1 ≤ 32; omega
    · show (0 + 1) * 1 ≤ 1; omega
    · show ((i 0).val + 1) * 1024 ≤ 2048; omega

/-- A one-bit word widened and compared with zero is the word. -/
theorem bit_ne (b : BitVec 1) : (Scalar.cmpi .ne ((Scalar.extui b : BitVec 32)) 0#32 = 1#1) ↔ b = 1#1 := by
  revert b; decide

/-- The second branch is taken exactly where the tile's row count is positive, -/
theorem cond0_1_iff (i : grid0.Coords) : cond0_1 0 i (tbl m 1) ↔ 0 < (tv m (tile i)).toInt := by
  unfold cond0_1
  rw [show tvW 0 (k0_off3 i) (k0_off3_inb i) (tbl m 1) = tv m (tile i) from (tvW_eq (F := F) 0 _ _ _ (tile i) (by rw [k0_off3_eq]; rfl)).trans (congrFun (tbl_1 m) _)]
  refine (bit_ne _).trans ?_
  show BitVec.ofBool (BitVec.slt 0#32 (tv m (tile i))) = 1#1 ↔ _
  rw [StableHlo.Predicate.ofBool_eq_one_iff]
  simp [BitVec.slt]

/-- the third exactly where it is zero. -/
theorem cond0_2_iff (i : grid0.Coords) : cond0_2 0 i (tbl m 1) ↔ (tv m (tile i)).toInt = 0 := by
  unfold cond0_2
  rw [show tvW 0 (k0_off4 i) (k0_off4_inb i) (tbl m 1) = tv m (tile i) from (tvW_eq (F := F) 0 _ _ _ (tile i) (by rw [k0_off4_eq]; rfl)).trans (congrFun (tbl_1 m) _)]
  refine (bit_ne _).trans ?_
  show BitVec.ofBool (tv m (tile i) == 0#32) = 1#1 ↔ _
  rw [StableHlo.Predicate.ofBool_eq_one_iff, beq_iff_eq]
  exact ⟨fun h => by rw [h]; rfl, fun h => BitVec.eq_of_toInt_eq (h.trans rfl)⟩

/-- Exactly one of the two branches that store the output block is taken. -/
theorem live_of_words (h : Words m) : Live m := fun i => by
  rw [cond0_1_iff, cond0_2_iff]
  have := h.2 (tile i)
  constructor <;> omega

/-- The offset of the tile before. -/
theorem k0_off2_at : ∀ i : Fin 161, (![(Scalar.indexCast (Scalar.maxsi (Scalar.subi (BitVec.ofNat 32 i.val) 1#32) 0#32) : Index).toNat] : Fin 1 → ℕ) 0 = i.val - 1 := by
  decide +kernel

/-- Where the first branch is not taken the tile is not the first of its column block, and its expert is the one of the tile before. -/
theorem not_cond0_0 (i : grid0.Coords) (h : ¬cond0_0 0 i (tbl m 0)) (k : S161.Idx) (hk : (k 0).val = (i 1).val - 1) :
    (i 1).val ≠ 0 ∧ te m (tile i) = te m k := by
  have h0 : (i 1).val ≠ 0 := fun h' => h (cond0_first 0 i _ h')
  refine ⟨h0, ?_⟩
  unfold cond0_0 at h
  rw [show teW 0 (k0_off1 i) (k0_off1_inb i) (tbl m 0) = te m (tile i) from (teW_eq (F := F) 0 _ _ _ (tile i) (by rw [k0_off1_eq]; rfl)).trans (congrFun (tbl_0 m) _),
    show teW 0 (k0_off2 i) (k0_off2_inb i) (tbl m 0) = te m k from (teW_eq (F := F) 0 _ _ _ k (hk.trans (k0_off2_at (i 1)).symm)).trans (congrFun (tbl_0 m) _), bit_ne] at h
  by_contra hne
  apply h
  have : Scalar.cmpi CmpIPredicate.ne (te m (tile i)) (te m k) = 1#1 := by
    show BitVec.ofBool (te m (tile i) != te m k) = 1#1
    rw [StableHlo.Predicate.ofBool_eq_one_iff]
    simpa using hne
  rw [this]
  generalize Scalar.cmpi CmpIPredicate.eq (BitVec.ofNat 32 (i 1).val) 0#32 = b
  revert b; decide

end Cert.Kernel5Ideal.Gen

end
-- ==== Proof.DownRef1.lean ====
/- The down reference of the second layer read at an index: the product of the row with its tile's expert matrix plus that expert's bias
   where the tile holds rows, zero elsewhere. -/
module

public import proofs.«01_k».proof.Proof.Gen.Reference5Ideal.Read
public import proofs.«01_k».proof.Proof.DownRef

@[expose] public section

set_option maxRecDepth 16384

noncomputable section

open Idealize.ShloMosaic Idealize.ShloMosaic.TcCoe Idealize.SL.Sem

namespace Cert.Down1

open Cert.Down (ex tileOf)
open Cert.Reference5Ideal Cert.Reference5Ideal.Gen Cert.Reference5Ideal.Read

/-- The result at a row and a column. -/
def val (x0 x1 : IVec ⟨1, ![161]⟩ 32) (x2 : FVec Ideal ⟨2, ![41216, 2048]⟩ .bf16) (x3 : FVec Ideal ⟨4, ![2, 32, 2048, 2048]⟩ .f32)
    (x4 : FVec Ideal ⟨3, ![2, 32, 2048]⟩ .f32) (p : Fin 41216) (n : Fin 2048) : EReal :=
  if 0 < (x1 (ix1 (tileOf p))).toInt then
    (∑ k : Fin 2048, (x2 (ix2 p k) : EReal) * (x3 (ix4 1 (ex (x0 (ix1 (tileOf p)))) k n) : EReal)) + (x4 (ix3 1 (ex (x0 (ix1 (tileOf p)))) n) : EReal)
  else 0

variable (x0 x1 : IVec S161 32) (x2 : FVec Ideal S41216x2048 .bf16) (x3 : FVec Ideal S2x32x2048x2048 .f32) (x4 : FVec Ideal S2x32x2048 .f32)

/-- The gathered matrices at an index. -/
theorem v5_at (t : Fin 161) (k n : Fin 2048) : val_main_v5 (F := Ideal) x0 x3 (ix3 t k n) = x3 (ix4 1 (ex (x0 (ix1 t))) k n) := by
  refine (Cert.Moe.gather_lead3 (N := 32) (n := 161) (A := 2048) (B := 2048) (by decide)
    gather_S32x2048x2048_S161x1_S161x2048x2048_12_0_n_n_0_1_120482048.wf (val_main_v3 (F := Ideal) x3) (val_main_v4 (F := Ideal) x0) t k n).trans ?_
  rw [val_main_v3_apply, val_main_v2_apply]
  have e : val_main_v4 (F := Ideal) x0 (Cert.Moe.ixT t) = x0 (ix1 t) :=
    (val_main_v4_apply (F := Ideal) x0 _).trans (congrArg x0 (funext fun a => match a with | ⟨0, _⟩ => rfl))
  refine congrArg x3 (funext fun a => Fin.ext ?_)
  have hv : min (val_main_v4 (F := Ideal) x0 (Cert.Moe.ixT t)).toInt.toNat (32 - 1) = (ex (x0 (ix1 t))).val := by rw [e]; rfl
  have hx := (ex (x0 (ix1 t))).isLt
  have hk := k.isLt
  have hn := n.isLt
  match a with
  | ⟨0, _⟩ => rfl
  | ⟨1, _⟩ =>
    show (((min (val_main_v4 (F := Ideal) x0 (Cert.Moe.ixT t)).toInt.toNat (32 - 1)) * 2048 + k.val) * 2048 + n.val) / 4194304 % 32 = (ex (x0 (ix1 t))).val
    rw [hv]; omega
  | ⟨2, _⟩ =>
    show (((min (val_main_v4 (F := Ideal) x0 (Cert.Moe.ixT t)).toInt.toNat (32 - 1)) * 2048 + k.val) * 2048 + n.val) / 2048 % 2048 = k.val
    rw [hv]; omega
  | ⟨3, _⟩ =>
    show (((min (val_main_v4 (F := Ideal) x0 (Cert.Moe.ixT t)).toInt.toNat (32 - 1)) * 2048 + k.val) * 2048 + n.val) % 2048 = n.val
    rw [hv]; omega

/-- The gathered biases at an index. -/
theorem v10_at (t : Fin 161) (n : Fin 2048) : val_main_v10 (F := Ideal) x0 x4 (ix2 t n) = x4 (ix3 1 (ex (x0 (ix1 t))) n) := by
  refine (Cert.Moe.gather_lead2 (N := 32) (n := 161) (A := 2048) (by decide)
    gather_S32x2048_S161x1_S161x2048_1_0_n_n_0_1_12048.wf (val_main_v8 (F := Ideal) x4) (val_main_v9 (F := Ideal) x0) t n).trans ?_
  rw [val_main_v8_apply, val_main_v7_apply]
  have e : val_main_v9 (F := Ideal) x0 (Cert.Moe.ixT t) = x0 (ix1 t) :=
    (val_main_v9_apply (F := Ideal) x0 _).trans (congrArg x0 (funext fun a => match a with | ⟨0, _⟩ => rfl))
  refine congrArg x4 (funext fun a => Fin.ext ?_)
  have hv : min (val_main_v9 (F := Ideal) x0 (Cert.Moe.ixT t)).toInt.toNat (32 - 1) = (ex (x0 (ix1 t))).val := by rw [e]; rfl
  have hx := (ex (x0 (ix1 t))).isLt
  have hn := n.isLt
  match a with
  | ⟨0, _⟩ => rfl
  | ⟨1, _⟩ =>
    show ((min (val_main_v9 (F := Ideal) x0 (Cert.Moe.ixT t)).toInt.toNat (32 - 1)) * 2048 + n.val) / 2048 % 32 = (ex (x0 (ix1 t))).val
    rw [hv]; omega
  | ⟨2, _⟩ =>
    show ((min (val_main_v9 (F := Ideal) x0 (Cert.Moe.ixT t)).toInt.toNat (32 - 1)) * 2048 + n.val) % 2048 = n.val
    rw [hv]; omega

/-- The mask at a tile. -/
theorem v15_at (i : S161.Idx) : val_main_v15 (F := Ideal) x1 i = (1 : BitVec 1) ↔ 0 < (x1 i).toInt := by
  rw [val_main_v15_apply, val_main_v14_apply, val_main_c_apply]
  show BitVec.ofBool (BitVec.slt 0#32 (x1 i)) = 1#1 ↔ _
  rw [BitVec.slt_eq_decide]
  by_cases h : 0 < (x1 i).toInt
  · simp [h]
  · simp [h]

/-- The reference at an index. -/
theorem ref_at (p : Fin 41216) (n : Fin 2048) :
    (val_main_v18 (F := Ideal) x0 x1 x2 x3 x4 (ix2 p n) : EReal) = val x0 x1 x2 x3 x4 p n := by
  have hp := p.isLt
  have hn := n.isLt
  have ei : idx_main_v18 (ix2 p n) = ix3 (tileOf p) ⟨p.val % 256, by omega⟩ n := funext fun a => Fin.ext (match a with
    | ⟨0, _⟩ => show (p.val * 2048 + n.val) / 524288 = p.val / 256 by omega
    | ⟨1, _⟩ => show (p.val * 2048 + n.val) / 2048 % 256 = p.val % 256 by omega
    | ⟨2, _⟩ => show (p.val * 2048 + n.val) % 2048 = n.val by omega)
  rw [val_main_v18_apply, ei, val_main_v17_apply, val_main_call0_v1_apply, val_main_v16_apply]
  have em : idx_main_v16 (idx_main_call0_v1 (ix3 (tileOf p) ⟨p.val % 256, by omega⟩ n)) = ix1 (tileOf p) :=
    funext fun a => match a with | ⟨0, _⟩ => rfl
  rw [em]
  unfold val Scalar.select
  by_cases h : 0 < (x1 (ix1 (tileOf p))).toInt
  · rw [if_pos h, if_pos ((v15_at x1 _).mpr h), val_main_v13_apply, val_main_v6_apply, val_main_v12_apply, val_main_v11_apply]
    refine congrArg₂ (fun a b : EReal => a + b) (Finset.sum_congr rfl fun k _ => congrArg₂ (fun a b : EReal => a * b) ?_ ?_) ?_
    · rw [val_main_v1_apply, val_main_v0_apply]
      have hk := k.isLt
      refine congrArg x2 (funext fun a => Fin.ext (match a with
        | ⟨0, _⟩ => show ((p.val / 256 * 256 + p.val % 256) * 2048 + k.val) / 2048 = p.val by omega
        | ⟨1, _⟩ => show ((p.val / 256 * 256 + p.val % 256) * 2048 + k.val) % 2048 = k.val by omega))
    · refine Eq.trans (congrArg _ (funext fun a => ?_)) (v5_at x0 x3 (tileOf p) k n)
      match a with
      | ⟨0, _⟩ => rfl
      | ⟨1, _⟩ => rfl
      | ⟨2, _⟩ => rfl
    · refine Eq.trans (congrArg _ (funext fun a => ?_)) (v10_at x0 x4 (tileOf p) n)
      match a with
      | ⟨0, _⟩ => rfl
      | ⟨1, _⟩ => rfl
  · rw [if_neg h, if_neg (fun h' => h ((v15_at x1 _).mp h')), val_main_call0_v2_apply, val_main_call0_v0_apply, val_main_cst_apply]
    exact Ideal.ofBits_zero_f32

end Cert.Down1

end
-- ==== Proof.Down1.lean ====
/- The down projection's result array in the second layer is the reference's: the blocks of the grid, put together. -/
module

public import proofs.«01_k».proof.Proof.Kernel5IdealWords
public import proofs.«01_k».proof.Proof.DownRef1
public import Idealize.ShloMosaic.Lib.Pipeline.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Down1

open Cert.Down (ex tileOf)
open Cert.Kernel5Ideal Cert.Kernel5Ideal.Gen

variable (m : (ℓ : Loc nD τ sig) → Buf (Elt Ideal) ℓ)

/-- The windows' block indices: the tile's rows, -/
theorem index_0 (hO : Ok m) (t : Fin (cfgM m hO).N) : ((cfgM m hO).win 0).index t = ![(grid0.coords t 1).val, 0] := by
  show cc0_transform_0 (grid0.coords t) = _
  have h : (grid0.coords t 1).val < 161 := (grid0.coords t 1).isLt
  have h' : cc0_transform_0 (grid0.coords t) = ![(BitVec.ofNat 32 (grid0.coords t 1).val).toNat, 0] := rfl
  rw [h', BitVec.toNat_ofNat, Nat.mod_eq_of_lt (by omega)]

/-- the tile's expert and the column block, for the matrix -/
theorem index_1 (hO : Ok m) (t : Fin (cfgM m hO).N) :
    ((cfgM m hO).win 1).index t = ![1, (te m (tile (grid0.coords t))).toNat, 0, (grid0.coords t 0).val] := ix_1 m _

/-- and for the bias, -/
theorem index_2 (hO : Ok m) (t : Fin (cfgM m hO).N) :
    ((cfgM m hO).win 2).index t = ![1, (te m (tile (grid0.coords t))).toNat, 0, (grid0.coords t 0).val] := ix_2 m _

/-- the tile and the column block for the result. -/
theorem index_3 (hO : Ok m) (t : Fin (cfgM m hO).N) :
    ((cfgM m hO).win 3).index t = ![(grid0.coords t 1).val, (grid0.coords t 0).val] := by
  show cc0_transform_3 (grid0.coords t) = _
  have h : (grid0.coords t 1).val < 161 := (grid0.coords t 1).isLt
  have h0 : (grid0.coords t 0).val < 2 := (grid0.coords t 0).isLt
  have h' : cc0_transform_3 (grid0.coords t) = ![(BitVec.ofNat 32 (grid0.coords t 1).val).toNat, (BitVec.ofNat 32 (grid0.coords t 0).val).toNat] := rfl
  rw [h', BitVec.toNat_ofNat, BitVec.toNat_ofNat, Nat.mod_eq_of_lt (by omega), Nat.mod_eq_of_lt (by omega)]

/-- The rows' block at an index. -/
theorem blk0_at (hO : Ok m) (t : Fin (cfgM m hO).N) (r : Fin 256) (k : Fin 2048) (p : Fin 41216)
    (hp : p.val = 256 * (grid0.coords t 1).val + r.val) :
    (iblk m hO 0 0 t : FVec Ideal S256x2048 .bf16) (ix2 r k) = (m (((0 : Dev nD) : Thread nD τ).loc main_arg2) : FVec Ideal S41216x2048 .bf16) (ix2 p k) := by
  blk_ext [iblk, V, index_0 m hO t]

/-- The expert matrix's block at an index. -/
theorem blk1_at (hO : Ok m) (t : Fin (cfgM m hO).N) (k : Fin 2048) (q : Fin 1024) (e : Fin 32) (he : e.val = (te m (tile (grid0.coords t))).toNat)
    (n : Fin 2048) (hn : n.val = 1024 * (grid0.coords t 0).val + q.val) :
    (iblk m hO 0 1 t : FVec Ideal S1x1x2048x1024 .f32) (ix4 0 0 k q) = (m (((0 : Dev nD) : Thread nD τ).loc main_arg3) : FVec Ideal S2x32x2048x2048 .f32) (ix4 1 e k n) := by
  blk_ext [iblk, V, index_1 m hO t]

/-- The bias's array at the region's entry is the bias with an axis of one put in. -/
theorem V_main_v0 (c : Dev nD) : (V m c main_v0 : FVec Ideal S2x32x1x2048 .f32)
    = shapeCast _ (m ((c : Thread nD τ).loc main_arg4) : FVec Ideal S2x32x2048 .f32) shapeCasts_S2x32x2048_S2x32x1x2048 := by
  entry_read
  rfl

/-- The bias's block at an index. -/
theorem blk2_at (hO : Ok m) (t : Fin (cfgM m hO).N) (q : Fin 1024) (e : Fin 32) (he : e.val = (te m (tile (grid0.coords t))).toNat)
    (n : Fin 2048) (hn : n.val = 1024 * (grid0.coords t 0).val + q.val) :
    (iblk m hO 0 2 t : FVec Ideal S1x1x1x1024 .f32) (ix4 0 0 0 q) = (m (((0 : Dev nD) : Thread nD τ).loc main_arg4) : FVec Ideal S2x32x2048 .f32) (ix3 1 e n) := by
  have h : (iblk m hO 0 2 t : FVec Ideal S1x1x1x1024 .f32) (ix4 0 0 0 q) = (V m 0 main_v0 : FVec Ideal S2x32x1x2048 .f32) (ix4 1 e 0 n) := by
    blk_ext [iblk, index_2 m hO t]
  rw [h, V_main_v0]
  exact shapeCast_apply _ shapeCasts_S2x32x2048_S2x32x1x2048 (ix4 1 e 0 n) (ix3 1 e n)
    (by rewrite [Shape.rowMajor_val_three, Shape.rowMajor_val_four]; show (1 * 32 + e.val) * 2048 + n.val = ((1 * 32 + e.val) * 1 + 0) * 2048 + n.val; omega)

/-- The matrix the scratch takes, at an index: the conversion leaves every entry as it is. -/
theorem pay1_at (v : FVec Ideal S1x1x2048x1024 .f32) (k : Fin 2048) (q : Fin 1024) :
    (k0_pay1 (F := Ideal) v (ix2 k q) : EReal) = v (ix4 0 0 k q) := by
  pointwise [k0_pay1]

/-- The product with the matrix plus the bias, at an index. -/
theorem pay2_at (x : FVec Ideal S256x2048 .bf16) (w : FVec Ideal S2048x1024 .bf16) (b : FVec Ideal S1x1x1x1024 .f32) (r : Fin 256) (q : Fin 1024) :
    (k0_pay2 (F := Ideal) x w b (ix2 r q) : EReal) = (∑ k : Fin 2048, (x (ix2 r k) : EReal) * (w (ix2 k q) : EReal)) + (b (ix4 0 0 0 q) : EReal) := by
  pointwise [k0_pay2]

/-- The zero block, at an index. -/
theorem pay3_at (r : Fin 256) (q : Fin 1024) : (k0_pay3 (F := Ideal) (ix2 r q) : EReal) = 0 := by
  pointwise [k0_pay3]

/-- Two points of one expert and one column block read the same matrix. -/
theorem blk1_congr (hW : Words m) (hO : Ok m) (t t' : Fin (cfgM m hO).N) (h0 : (grid0.coords t 0).val = (grid0.coords t' 0).val)
    (he : te m (tile (grid0.coords t)) = te m (tile (grid0.coords t'))) :
    (iblk m hO 0 1 t : FVec Ideal S1x1x2048x1024 .f32) = (iblk m hO 0 1 t' : FVec Ideal S1x1x2048x1024 .f32) := by
  refine funext fun (y : S1x1x2048x1024.Idx) => ?_
  obtain ⟨k, q, rfl⟩ : ∃ (k : Fin 2048) (q : Fin 1024), y = ix4 0 0 k q :=
    ⟨y 2, y 3, funext fun a => match a with
      | ⟨0, _⟩ => Subsingleton.elim (α := Fin 1) _ _
      | ⟨1, _⟩ => Subsingleton.elim (α := Fin 1) _ _
      | ⟨2, _⟩ => rfl
      | ⟨3, _⟩ => rfl⟩
  have h2 : (grid0.coords t 0).val < 2 := (grid0.coords t 0).isLt
  have hw := hW.1 (tile (grid0.coords t))
  rw [blk1_at m hO t k q ⟨_, Nat.lt_succ_of_le hw⟩ rfl ⟨1024 * (grid0.coords t 0).val + q.val, by omega⟩ rfl,
    blk1_at m hO t' k q ⟨_, Nat.lt_succ_of_le hw⟩ (by rw [← he]) ⟨1024 * (grid0.coords t 0).val + q.val, by omega⟩ (by rw [← h0])]

/-- After every point the scratch holds the point's own expert matrix. -/
theorem scr_at (hW : Words m) (hO : Ok m) (n : ℕ) (hn : n < (cfgM m hO).N) :
    scrAt m hO 0 n hn = k0_pay1 (iblk m hO 0 1 ⟨n, hn⟩) := by
  induction n with
  | zero => rfl
  | succ n ih =>
    have hN : n + 1 < 322 := Nat.lt_of_lt_of_eq hn N_0
    have hn' : n < (cfgM m hO).N := Nat.lt_of_succ_lt hn
    by_cases h : cond0_0 0 (grid0.coords ⟨n + 1, hn⟩) (tbl m 0)
    · exact scrAt_new m hO 0 ⟨n + 1, hn⟩ h
    · have e1 := coords_1 ⟨n + 1, hn⟩
      have e0 := coords_0 ⟨n + 1, hn⟩
      have f1 := coords_1 ⟨n, hn'⟩
      have f0 := coords_0 ⟨n, hn'⟩
      have hz : (grid0.coords ⟨n + 1, hn⟩ 1).val ≠ 0 := fun h' => h (cond0_first 0 _ _ h')
      dsimp only at e1 e0 f1 f0
      obtain ⟨-, he⟩ := not_cond0_0 m _ h (tile (grid0.coords ⟨n, hn'⟩)) (by
        show (grid0.coords ⟨n, hn'⟩ 1).val = (grid0.coords ⟨n + 1, hn⟩ 1).val - 1
        omega)
      rw [scrAt_old m hO 0 ⟨n + 1, hn⟩ (Nat.succ_ne_zero n) h]
      refine (ih hn').trans (congrArg k0_pay1 (blk1_congr m hW hO _ _ ?_ he.symm))
      omega

/-- The words read as in the reference: an expert word of the table names the same expert there. -/
theorem ex_eq (hW : Words m) (x : S161.Idx) : (ex (te m x)).val = (te m x).toNat := by
  have h := hW.1 x
  have e : (te m x).toInt = ((te m x).toNat : ℤ) := BitVec.toInt_eq_toNat_of_lt (by omega)
  show min (te m x).toInt.toNat 31 = _
  rw [e, Int.toNat_natCast]
  omega

/-- What the body leaves at block index `y` of point `t` is the reference's result where `y` sits. -/
theorem point (hW : Words m) (hO : Ok m) (t : Fin (cfgM m hO).N) (y : S256x1024.Idx) (j : S41216x2048.Idx)
    (hj0 : (j 0 : ℕ) = 256 * (grid0.coords t 1).val + (y 0).val) (hj1 : (j 1 : ℕ) = 1024 * (grid0.coords t 0).val + (y 1).val) :
    (outAt m hO 0 t y : EReal)
    = Cert.Reference5Ideal.Read.val_main_v18 (F := Ideal) (te m) (tv m) (m (((0 : Dev nD) : Thread nD τ).loc main_arg2))
        (m (((0 : Dev nD) : Thread nD τ).loc main_arg3)) (m (((0 : Dev nD) : Thread nD τ).loc main_arg4)) j := by
  obtain ⟨r, q, rfl⟩ : ∃ (r : Fin 256) (q : Fin 1024), y = ix2 r q :=
    ⟨y 0, y 1, funext fun a => match a with | ⟨0, _⟩ => rfl | ⟨1, _⟩ => rfl⟩
  obtain ⟨p, n, rfl⟩ : ∃ (p : Fin 41216) (n : Fin 2048), j = ix2 p n :=
    ⟨j 0, j 1, funext fun a => match a with | ⟨0, _⟩ => rfl | ⟨1, _⟩ => rfl⟩
  replace hj0 : p.val = 256 * (grid0.coords t 1).val + r.val := hj0
  replace hj1 : n.val = 1024 * (grid0.coords t 0).val + q.val := hj1
  have hr := r.isLt
  have et : ix1 (tileOf p) = tile (grid0.coords t) := funext fun a => match a with
    | ⟨0, _⟩ => Fin.ext (show p.val / 256 = (grid0.coords t 1).val by omega)
  refine Eq.trans ?_ (ref_at (te m) (tv m) (m (((0 : Dev nD) : Thread nD τ).loc main_arg2))
        (m (((0 : Dev nD) : Thread nD τ).loc main_arg3)) (m (((0 : Dev nD) : Thread nD τ).loc main_arg4)) p n).symm
  unfold val outAt
  rw [et]
  by_cases h : cond0_1 0 (grid0.coords t) (tbl m 1)
  · rw [if_pos h, if_pos ((cond0_1_iff m _).mp h), scr_at m hW hO]
    refine (pay2_at _ _ _ r q).trans ?_
    refine congrArg₂ (fun a b : EReal => a + b) (Finset.sum_congr rfl fun k _ => congrArg₂ (fun a b : EReal => a * b) ?_ ?_) ?_
    · exact blk0_at m hO t r k p hj0
    · exact (pay1_at _ k q).trans (blk1_at m hO t k q _ (ex_eq m hW _) n hj1)
    · exact blk2_at m hO t q _ (ex_eq m hW _) n hj1
  · rw [if_neg h, if_neg (fun h' => h ((cond0_1_iff m _).mpr h'))]
    exact pay3_at r q

/-- The written blocks cover the result array: one per tile and column block. -/
theorem covers (hO : Ok m) : ((cfgM m hO).win 3).Covers := by
  refine ⟨fun a => match a with | ⟨0, _⟩ => (show 0 < 256 by decide) | ⟨1, _⟩ => (show 0 < 1024 by decide), fun β => ?_⟩
  have b0 : (β (0 : Fin 2)).val < 161 := Nat.lt_of_lt_of_eq (β (0 : Fin 2)).isLt (show (41216 + 256 - 1) / 256 = 161 by norm_num)
  have b1 : (β (1 : Fin 2)).val < 2 := Nat.lt_of_lt_of_eq (β (1 : Fin 2)).isLt (show (2048 + 1024 - 1) / 1024 = 2 by norm_num)
  have hN : (β (1 : Fin 2)).val * 161 + (β (0 : Fin 2)).val < (cfgM m hO).N := by
    have h : (cfgM m hO).N = 322 := N_0
    omega
  refine ⟨⟨_, hN⟩, flush0_3 (adm m hO) _, fun a => ⟨?_, Or.inl rfl⟩⟩
  have e0 := coords_0 ⟨_, hN⟩
  have e1 := coords_1 ⟨_, hN⟩
  dsimp only at e0 e1
  refine (congrFun (index_3 m hO ⟨_, hN⟩) a).trans ?_
  match a with
  | ⟨0, _⟩ => show (grid0.coords ⟨_, hN⟩ 1).val = (β (0 : Fin 2)).val; omega
  | ⟨1, _⟩ => show (grid0.coords ⟨_, hN⟩ 0).val = (β (1 : Fin 2)).val; omega

/-- The result array after the run is the reference's result of the arguments. -/
theorem final (hW : Words m) (hO : Ok m) : (dats m hO 0 0).arrAt 3 (cfgM m hO).N
    = Cert.Reference5Ideal.Read.val_main_v18 (F := Ideal) (te m) (tv m) (m (((0 : Dev nD) : Thread nD τ).loc main_arg2))
        (m (((0 : Dev nD) : Thread nD τ).loc main_arg3)) (m (((0 : Dev nD) : Thread nD τ).loc main_arg4)) := by
  refine (dats m hO 0 0).arrAt_eq_of_covers 3 _ (covers m hO) fun t hf y => ?_
  blk_simp
  rw [after0_3]
  refine point m hW hO t y _ ?_ ?_
  all_goals (blk_simp [index_3 m hO t] <;> try omega)

end Cert.Down1

end
-- ==== Proof.MoeClaims.lean ====
/- The five claims about each of the experts' projections, gate and up and down, of the first and the second layer: the three frames, the idealized
   kernel, and that the kernel and the reference leave the same array. -/
module

public import proofs.«01_k».proof.Defs
public import proofs.«01_k».proof.Proof.GateUp
public import proofs.«01_k».proof.Proof.Down
public import proofs.«01_k».proof.Proof.GateUp1
public import proofs.«01_k».proof.Proof.Down1
public import proofs.«01_k».proof.Proof.Gen.Pre_tiles_named
public import proofs.«01_k».proof.Proof.Gen.Pre_tiles_named_down
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Reference5Ideal
public import proofs.«01_k».proof.Proof.Gen.Reference5Ideal.Run
public import proofs.«01_k».proof.Proof.Gen.Reference5Ideal.Read
public import Idealize.ShloMosaic.Adequacy
public import Idealize.ShloMosaic.Init
public import Idealize.ShloMosaic.Lib.Quiescent

@[expose] public section

set_option maxRecDepth 100000

noncomputable section

namespace Cert.MoeClaims

open Idealize.ShloMosaic Idealize.ShloMosaic.TcCoe Idealize.SL.Sem

/-- A property of the runs of one program is one of the runs of an equal program. -/
theorem run_of_eq {nD : ℕ} {τ : Topo} {sig : RefSig} {Val : EltTy → Type} {Λ : Labels} {d d' : Defs nD τ sig Val Λ} (hd : d = d')
    {p p' : (c : Thread nD τ) → Prog (TpuEff nD τ sig Val Λ c.2) PUnit} (hp : p = p') {s} {Q : _ → Prop} (h : θ_run d' p' s Q) : θ_run d p s Q := by
  subst hd hp
  exact h

variable {F : FTy → Type} [FloatOps F]

/-- The gate and up kernel and its ideal kernel have the same bodies, -/
theorem bodies2 : @Cert.Kernel2.defs₀ F _ _ = @Cert.Kernel2Ideal.defs₀ F _ _ := by
  unfold Cert.Kernel2.defs₀ Cert.Kernel2Ideal.defs₀
  refine congrArg Defs.onTc (funext fun l => funext fun x => ?_)
  match l, x with
  | ⟨0, _⟩, (t, s) => rfl

/-- and the same programs: no operation was replaced. -/
theorem defs2 : @Cert.Kernel2.defs F _ _ = @Cert.Kernel2Ideal.defs F _ _ := congrArg (Pipeline.defs _) bodies2

/-- The down kernel and its ideal kernel have the same bodies, -/
theorem bodies3 : @Cert.Kernel3.defs₀ F _ _ = @Cert.Kernel3Ideal.defs₀ F _ _ := by
  unfold Cert.Kernel3.defs₀ Cert.Kernel3Ideal.defs₀
  refine congrArg Defs.onTc (funext fun l => funext fun x => ?_)
  match l, x with
  | ⟨0, _⟩, (t, s) => rfl

/-- and the same programs: no operation was replaced. -/
theorem defs3 : @Cert.Kernel3.defs F _ _ = @Cert.Kernel3Ideal.defs F _ _ := congrArg (Pipeline.defs _) bodies3

/-- The second layer's gate and up kernel and its ideal kernel have the same bodies, -/
theorem bodies4 : @Cert.Kernel4.defs₀ F _ _ = @Cert.Kernel4Ideal.defs₀ F _ _ := by
  unfold Cert.Kernel4.defs₀ Cert.Kernel4Ideal.defs₀
  refine congrArg Defs.onTc (funext fun l => funext fun x => ?_)
  match l, x with
  | ⟨0, _⟩, (t, s) => rfl

/-- and the same programs: no operation was replaced. -/
theorem defs4 : @Cert.Kernel4.defs F _ _ = @Cert.Kernel4Ideal.defs F _ _ := congrArg (Pipeline.defs _) bodies4

/-- The second layer's down kernel and its ideal kernel have the same bodies, -/
theorem bodies5 : @Cert.Kernel5.defs₀ F _ _ = @Cert.Kernel5Ideal.defs₀ F _ _ := by
  unfold Cert.Kernel5.defs₀ Cert.Kernel5Ideal.defs₀
  refine congrArg Defs.onTc (funext fun l => funext fun x => ?_)
  match l, x with
  | ⟨0, _⟩, (t, s) => rfl

/-- and the same programs: no operation was replaced. -/
theorem defs5 : @Cert.Kernel5.defs F _ _ = @Cert.Kernel5Ideal.defs F _ _ := congrArg (Pipeline.defs _) bodies5

/-- The gate and up kernel on machine numbers, under the tables' bounds, runs to its end, keeps its arguments and leaves every counter at zero. -/
theorem frame_p2 : Cert.quiescent_Kernel2 := fun m ρ h =>
  have hW := Cert.Kernel2Ideal.Gen.words_of (F := Bits) m _ _ _ (h 0)
  run_of_eq defs2 rfl
    (Cert.Kernel2Ideal.Gen.frame (F := Bits) m ρ (Cert.Kernel2Ideal.Gen.ok_of_words m hW) (Cert.Kernel2Ideal.Gen.live_of_words m hW))

/-- The gate and up kernel on ideal numbers, under the tables' bounds, runs to its end, keeps its arguments and leaves every counter at zero. -/
theorem frame_pi2 : Cert.quiescent_Kernel2Ideal := fun m ρ h =>
  have hW := Cert.Kernel2Ideal.Gen.words_of m _ _ _ (h 0)
  Cert.Kernel2Ideal.Gen.frame m ρ (Cert.Kernel2Ideal.Gen.ok_of_words m hW) (Cert.Kernel2Ideal.Gen.live_of_words m hW)

/-- The gate and up reference on ideal numbers runs to its end, keeps its arguments and leaves every counter at zero. -/
theorem frame_ri2 : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- No constant of the gate and up kernel was given a name. -/
theorem preserves2 : Cert.preserves_Kernel2_Kernel2Ideal := trivial

/-- On equal tables, rows, expert matrices and biases within the tables' bounds, the gate and up kernel and reference leave the same array. -/
theorem algebraic2 : Cert.algebraic_Kernel2Ideal_Reference2Ideal := by
  intro m ρ m' ρ' hpre hag
  have hW := Cert.Kernel2Ideal.Gen.words_of m _ _ _ (hpre 0)
  have hO := Cert.Kernel2Ideal.Gen.ok_of_words m hW
  have hL := Cert.Kernel2Ideal.Gen.live_of_words m hW
  refine ⟨fun c => Cert.Reference2Ideal.Read.val_main_v35 (F := Ideal)
      (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4)), ?_, ?_⟩
  · refine (θ_run Cert.Kernel2Ideal.defs _ _).mono (fun r h c => ⟨?_, h.2 c⟩)
      (θ_run_and (Cert.Kernel2Ideal.Gen.run_main m ρ hO hL) (Cert.Kernel2Ideal.Gen.unchanged m ρ hO hL))
    obtain rfl : c = 0 := Subsingleton.elim _ _
    exact ((h.1 0).1 5).trans (Cert.GateUp.final m hW hO)
  · refine (θ_run Cert.Reference2Ideal.defs _ _).mono (fun r h c => ⟨(h c).1.trans ?_, (h c).2⟩)
      (Cert.Reference2Ideal.Value.run (F := Ideal) m' ρ')
    refine (Cert.Reference2Ideal.Read.val_main_v35_eq _ _).trans ?_
    obtain ⟨h0, h1, h2, h3, h4⟩ := hag c
    rw [h0, h1, h2, h3, h4]

/-- The down kernel on machine numbers, under the tables' bounds, runs to its end, keeps its arguments and leaves every counter at zero. -/
theorem frame_p3 : Cert.quiescent_Kernel3 := fun m ρ h =>
  have hW := Cert.Kernel3Ideal.Gen.words_of (F := Bits) m _ _ _ (h 0)
  run_of_eq defs3 rfl
    (Cert.Kernel3Ideal.Gen.frame (F := Bits) m ρ (Cert.Kernel3Ideal.Gen.ok_of_words m hW) (Cert.Kernel3Ideal.Gen.live_of_words m hW))

/-- The down kernel on ideal numbers, under the tables' bounds, runs to its end, keeps its arguments and leaves every counter at zero. -/
theorem frame_pi3 : Cert.quiescent_Kernel3Ideal := fun m ρ h =>
  have hW := Cert.Kernel3Ideal.Gen.words_of m _ _ _ (h 0)
  Cert.Kernel3Ideal.Gen.frame m ρ (Cert.Kernel3Ideal.Gen.ok_of_words m hW) (Cert.Kernel3Ideal.Gen.live_of_words m hW)

/-- The down reference on ideal numbers runs to its end, keeps its arguments and leaves every counter at zero. -/
theorem frame_ri3 : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- No constant of the down kernel was given a name. -/
theorem preserves3 : Cert.preserves_Kernel3_Kernel3Ideal := trivial

/-- On equal tables, rows, expert matrices and biases within the tables' bounds, the down kernel and reference leave the same array. -/
theorem algebraic3 : Cert.algebraic_Kernel3Ideal_Reference3Ideal := by
  intro m ρ m' ρ' hpre hag
  have hW := Cert.Kernel3Ideal.Gen.words_of m _ _ _ (hpre 0)
  have hO := Cert.Kernel3Ideal.Gen.ok_of_words m hW
  have hL := Cert.Kernel3Ideal.Gen.live_of_words m hW
  refine ⟨fun c => Cert.Reference3Ideal.Read.val_main_v18 (F := Ideal)
      (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4)), ?_, ?_⟩
  · refine (θ_run Cert.Kernel3Ideal.defs _ _).mono (fun r h c => ⟨?_, h.2 c⟩)
      (θ_run_and (Cert.Kernel3Ideal.Gen.run_main m ρ hO hL) (Cert.Kernel3Ideal.Gen.unchanged m ρ hO hL))
    obtain rfl : c = 0 := Subsingleton.elim _ _
    exact ((h.1 0).1 3).trans (Cert.Down.final m hW hO)
  · refine (θ_run Cert.Reference3Ideal.defs _ _).mono (fun r h c => ⟨(h c).1.trans ?_, (h c).2⟩)
      (Cert.Reference3Ideal.Value.run (F := Ideal) m' ρ')
    refine (Cert.Reference3Ideal.Read.val_main_v18_eq _ _ _ _ _).trans ?_
    obtain ⟨h0, h1, h2, h3, h4⟩ := hag c
    rw [h0, h1, h2, h3, h4]

/-- The second layer's gate and up kernel on machine numbers, under the tables' bounds, runs to its end, keeps its arguments and leaves every counter at zero. -/
theorem frame_p4 : Cert.quiescent_Kernel4 := fun m ρ h =>
  have hW := Cert.Kernel4Ideal.Gen.words_of (F := Bits) m _ _ _ (h 0)
  run_of_eq defs4 rfl
    (Cert.Kernel4Ideal.Gen.frame (F := Bits) m ρ (Cert.Kernel4Ideal.Gen.ok_of_words m hW) (Cert.Kernel4Ideal.Gen.live_of_words m hW))

/-- The second layer's gate and up kernel on ideal numbers, under the tables' bounds, runs to its end, keeps its arguments and leaves every counter at zero. -/
theorem frame_pi4 : Cert.quiescent_Kernel4Ideal := fun m ρ h =>
  have hW := Cert.Kernel4Ideal.Gen.words_of m _ _ _ (h 0)
  Cert.Kernel4Ideal.Gen.frame m ρ (Cert.Kernel4Ideal.Gen.ok_of_words m hW) (Cert.Kernel4Ideal.Gen.live_of_words m hW)

/-- The second layer's gate and up reference on ideal numbers runs to its end, keeps its arguments and leaves every counter at zero. -/
theorem frame_ri4 : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- No constant of the second layer's gate and up kernel was given a name. -/
theorem preserves4 : Cert.preserves_Kernel4_Kernel4Ideal := trivial

/-- On equal tables, rows, expert matrices and biases within the tables' bounds, the second layer's gate and up kernel and reference leave the same array. -/
theorem algebraic4 : Cert.algebraic_Kernel4Ideal_Reference4Ideal := by
  intro m ρ m' ρ' hpre hag
  have hW := Cert.Kernel4Ideal.Gen.words_of m _ _ _ (hpre 0)
  have hO := Cert.Kernel4Ideal.Gen.ok_of_words m hW
  have hL := Cert.Kernel4Ideal.Gen.live_of_words m hW
  refine ⟨fun c => Cert.Reference4Ideal.Read.val_main_v35 (F := Ideal)
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3))
      (m ((c.tc : Thread Cert.Kernel4Ideal.nD Cert.Kernel4Ideal.τ).loc Cert.Kernel4Ideal.main_arg4)), ?_, ?_⟩
  · refine (θ_run Cert.Kernel4Ideal.defs _ _).mono (fun r h c => ⟨?_, h.2 c⟩)
      (θ_run_and (Cert.Kernel4Ideal.Gen.run_main m ρ hO hL) (Cert.Kernel4Ideal.Gen.unchanged m ρ hO hL))
    obtain rfl : c = 0 := Subsingleton.elim _ _
    exact ((h.1 0).1 5).trans (Cert.GateUp1.final m hW hO)
  · refine (θ_run Cert.Reference4Ideal.defs _ _).mono (fun r h c => ⟨(h c).1.trans ?_, (h c).2⟩)
      (Cert.Reference4Ideal.Value.run (F := Ideal) m' ρ')
    refine (Cert.Reference4Ideal.Read.val_main_v35_eq _ _).trans ?_
    obtain ⟨h0, h1, h2, h3, h4⟩ := hag c
    rw [h0, h1, h2, h3, h4]

/-- The second layer's down kernel on machine numbers, under the tables' bounds, runs to its end, keeps its arguments and leaves every counter at zero. -/
theorem frame_p5 : Cert.quiescent_Kernel5 := fun m ρ h =>
  have hW := Cert.Kernel5Ideal.Gen.words_of (F := Bits) m _ _ _ (h 0)
  run_of_eq defs5 rfl
    (Cert.Kernel5Ideal.Gen.frame (F := Bits) m ρ (Cert.Kernel5Ideal.Gen.ok_of_words m hW) (Cert.Kernel5Ideal.Gen.live_of_words m hW))

/-- The second layer's down kernel on ideal numbers, under the tables' bounds, runs to its end, keeps its arguments and leaves every counter at zero. -/
theorem frame_pi5 : Cert.quiescent_Kernel5Ideal := fun m ρ h =>
  have hW := Cert.Kernel5Ideal.Gen.words_of m _ _ _ (h 0)
  Cert.Kernel5Ideal.Gen.frame m ρ (Cert.Kernel5Ideal.Gen.ok_of_words m hW) (Cert.Kernel5Ideal.Gen.live_of_words m hW)

/-- The second layer's down reference on ideal numbers runs to its end, keeps its arguments and leaves every counter at zero. -/
theorem frame_ri5 : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- No constant of the second layer's down kernel was given a name. -/
theorem preserves5 : Cert.preserves_Kernel5_Kernel5Ideal := trivial

/-- On equal tables, rows, expert matrices and biases within the tables' bounds, the second layer's down kernel and reference leave the same array. -/
theorem algebraic5 : Cert.algebraic_Kernel5Ideal_Reference5Ideal := by
  intro m ρ m' ρ' hpre hag
  have hW := Cert.Kernel5Ideal.Gen.words_of m _ _ _ (hpre 0)
  have hO := Cert.Kernel5Ideal.Gen.ok_of_words m hW
  have hL := Cert.Kernel5Ideal.Gen.live_of_words m hW
  refine ⟨fun c => Cert.Reference5Ideal.Read.val_main_v18 (F := Ideal)
      (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2))
      (m ((c.tc : Thread Cert.Kernel5Ideal.nD Cert.Kernel5Ideal.τ).loc Cert.Kernel5Ideal.main_arg3))
      (m ((c.tc : Thread Cert.Kernel5Ideal.nD Cert.Kernel5Ideal.τ).loc Cert.Kernel5Ideal.main_arg4)), ?_, ?_⟩
  · refine (θ_run Cert.Kernel5Ideal.defs _ _).mono (fun r h c => ⟨?_, h.2 c⟩)
      (θ_run_and (Cert.Kernel5Ideal.Gen.run_main m ρ hO hL) (Cert.Kernel5Ideal.Gen.unchanged m ρ hO hL))
    obtain rfl : c = 0 := Subsingleton.elim _ _
    exact ((h.1 0).1 3).trans (Cert.Down1.final m hW hO)
  · refine (θ_run Cert.Reference5Ideal.defs _ _).mono (fun r h c => ⟨(h c).1.trans ?_, (h c).2⟩)
      (Cert.Reference5Ideal.Value.run (F := Ideal) m' ρ')
    refine (Cert.Reference5Ideal.Read.val_main_v18_eq _ _ _ _ _).trans ?_
    obtain ⟨h0, h1, h2, h3, h4⟩ := hag c
    rw [h0, h1, h2, h3, h4]

end Cert.MoeClaims

end
-- ==== Proof.Proj.lean ====
/- The combined projection of layer 0: the kernel's result array is the reference's. -/
module

public import proofs.«01_k».proof.Proof.Gen.Kernel6Ideal.Value
public import proofs.«01_k».proof.Proof.Gen.Reference6Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proj

open Cert.Kernel6Ideal Cert.Kernel6Ideal.Gen

/-- The modulated row at an index: the entry times one plus the scale, plus the shift. -/
def row (x : FVec Ideal ⟨3, ![2, 4096, 2048]⟩ .f32) (sc sh : FVec Ideal ⟨3, ![2, 1, 2048]⟩ .f32) (b : Fin 2) (p : Fin 4096) (k : Fin 2048) : EReal :=
  (x (ix3 b p k) : EReal) * (1 + (sc (ix3 b 0 k) : EReal)) + (sh (ix3 b 0 k) : EReal)

/-- The reference at an index: the product of the modulated row with the column of layer 0's matrix. -/
theorem ref_at (x : FVec Ideal ⟨3, ![2, 4096, 2048]⟩ .f32) (sc sh : FVec Ideal ⟨3, ![2, 1, 2048]⟩ .f32) (w : FVec Ideal ⟨3, ![2, 2048, 7424]⟩ .bf16)
    (b : Fin 2) (p : Fin 4096) (n : Fin 7424) :
    (Cert.Reference6Ideal.Read.val_main_v9 (F := Ideal) x sc sh w (ix3 b p n) : EReal)
      = ∑ k : Fin 2048, row x sc sh b p k * (w (ix3 0 k n) : EReal) := by
  have hn := n.isLt
  rw [Cert.Reference6Ideal.Read.val_main_v9_apply]
  refine Finset.sum_congr rfl fun k _ => congrArg₂ (fun a b : EReal => a * b) ?_ ?_
  · rw [Cert.Reference6Ideal.Read.val_main_v5_apply, Cert.Reference6Ideal.Read.val_main_v3_apply, Cert.Reference6Ideal.Read.val_main_v4_apply,
      Cert.Reference6Ideal.Read.val_main_v2_apply, Cert.Reference6Ideal.Read.val_main_v1_apply, Cert.Reference6Ideal.Read.val_main_v0_apply,
      Cert.Reference6Ideal.Read.val_main_cst_apply,
      show (FloatOps.ofBits .f32 0x3F800000#32 : Ideal .f32) = (1 : EReal) from Ideal.ofBits_one_f32]
    unfold row
    have e1 : (Cert.Reference6Ideal.Read.lidx_main_v9 (ix3 b p n) k) = ix3 b p k := funext fun a => match a with
      | ⟨0, _⟩ => rfl
      | ⟨1, _⟩ => rfl
      | ⟨2, _⟩ => rfl
    have e2 : Cert.Reference6Ideal.Read.idx_main_v2 (ix3 b p k) = ix3 b 0 k := funext fun a => match a with
      | ⟨0, _⟩ => rfl
      | ⟨1, _⟩ => rfl
      | ⟨2, _⟩ => rfl
    have e3 : Cert.Reference6Ideal.Read.idx_main_v4 (ix3 b p k) = ix3 b 0 k := funext fun a => match a with
      | ⟨0, _⟩ => rfl
      | ⟨1, _⟩ => rfl
      | ⟨2, _⟩ => rfl
    rw [e1, e2, e3]
    rfl
  · rw [Cert.Reference6Ideal.Read.val_main_v8_apply, Cert.Reference6Ideal.Read.val_main_v7_apply, Cert.Reference6Ideal.Read.val_main_v6_apply]
    have hk := k.isLt
    refine congrArg w (funext fun a => Fin.ext (match a with
      | ⟨0, _⟩ => rfl
      | ⟨1, _⟩ => show (k.val * 7424 + n.val) / 7424 % 2048 = k.val by omega
      | ⟨2, _⟩ => show (k.val * 7424 + n.val) % 7424 = n.val by omega))

variable (m : (ℓ : Loc nD τ sig) → Buf (Elt Ideal) ℓ)

/-- The windows' index maps. -/
theorem idx : ∀ t : Fin cfg0.N, win0_0.index t = ![t.val / 116, t.val / 29 % 4, 0]
    ∧ win0_1.index t = ![t.val / 116, 0, 0] ∧ win0_2.index t = ![t.val / 116, 0, 0]
    ∧ win0_3.index t = ![0, 0, t.val % 29] ∧ win0_4.index t = ![t.val / 116, t.val / 29 % 4, t.val % 29] :=
  (by decide +kernel : ∀ t : Fin grid0.N, _)

/-- The rows' block at an index. -/
theorem blk0_at (c : Dev nD) (t : Fin cfg0.N) (r : Fin 1024) (k : Fin 2048) (b : Fin 2) (hb : b.val = t.val / 116)
    (p : Fin 4096) (hp : p.val = 1024 * (t.val / 29 % 4) + r.val) :
    (iblk m c 0 t : FVec Ideal S1x1024x2048 .f32) (ix3 0 r k) = (m (c.tc.loc main_arg0) : FVec Ideal S2x4096x2048 .f32) (ix3 b p k) := by
  blk_ext [iblk, V, idx t]

/-- The scale's block at an index. -/
theorem blk1_at (c : Dev nD) (t : Fin cfg0.N) (k : Fin 2048) (b : Fin 2) (hb : b.val = t.val / 116) :
    (iblk m c 1 t : FVec Ideal S1x1x2048 .f32) (ix3 0 0 k) = (m (c.tc.loc main_arg1) : FVec Ideal S2x1x2048 .f32) (ix3 b 0 k) := by
  blk_ext [iblk, V, idx t]

/-- The shift's block at an index. -/
theorem blk2_at (c : Dev nD) (t : Fin cfg0.N) (k : Fin 2048) (b : Fin 2) (hb : b.val = t.val / 116) :
    (iblk m c 2 t : FVec Ideal S1x1x2048 .f32) (ix3 0 0 k) = (m (c.tc.loc main_arg2) : FVec Ideal S2x1x2048 .f32) (ix3 b 0 k) := by
  blk_ext [iblk, V, idx t]

/-- The matrix's block at an index. -/
theorem blk3_at (c : Dev nD) (t : Fin cfg0.N) (k : Fin 2048) (q : Fin 256) (n : Fin 7424) (hn : n.val = 256 * (t.val % 29) + q.val) :
    (iblk m c 3 t : FVec Ideal S1x2048x256 .bf16) (ix3 0 k q) = (m (c.tc.loc main_arg3) : FVec Ideal S2x2048x7424 .bf16) (ix3 0 k n) := by
  blk_ext [iblk, V, idx t]

/-- The rows the scratch takes, at an index. -/
theorem pay1_at (x : FVec Ideal S1x1024x2048 .f32) (sc sh : FVec Ideal S1x1x2048 .f32) (r : Fin 1024) (k : Fin 2048) :
    (k0_pay1 (F := Ideal) x sc sh (ix2 r k) : EReal)
      = (x (ix3 0 r k) : EReal) * (1 + (sc (ix3 0 0 k) : EReal)) + (sh (ix3 0 0 k) : EReal) := by
  rw [show (1 : EReal) = (FloatOps.ofBits .f32 0x3F800000#32 : Ideal .f32) from Ideal.ofBits_one_f32.symm]
  pointwise [k0_pay1]

/-- The product, at an index. -/
theorem pay2_at (h : FVec Ideal S1024x2048 .bf16) (w : FVec Ideal S1x2048x256 .bf16) (r : Fin 1024) (q : Fin 256) :
    (k0_pay2 (F := Ideal) h w (ix3 0 r q) : EReal) = ∑ k : Fin 2048, (h (ix2 r k) : EReal) * (w (ix3 0 k q) : EReal) := by
  pointwise [k0_pay2]

/-- A point that starts a row block leaves the modulated rows in the scratch and their product in the result's block. -/
theorem outs_A (c : Dev nD) (t : Fin cfg0.N) (h : t.val % 29 = 0) :
    outsAt0 m c t.val t.isLt = (k0_pay2 (k0_pay1 (iblk m c 0 t) (iblk m c 1 t) (iblk m c 2 t)) (iblk m c 3 t),
      k0_pay1 (iblk m c 0 t) (iblk m c 1 t) (iblk m c 2 t)) := by
  rw [outsAt0_A m c t h]
  frame_out

/-- Any other point leaves the scratch as it was and its product in the result's block. -/
theorem outs_B (c : Dev nD) (t : Fin cfg0.N) (h : ¬t.val % 29 = 0) :
    outsAt0 m c t.val t.isLt = (k0_pay2 (outsAt0 m c (t.val - 1) (Nat.lt_of_le_of_lt (Nat.sub_le _ _) t.isLt)).2 (iblk m c 3 t),
      (outsAt0 m c (t.val - 1) (Nat.lt_of_le_of_lt (Nat.sub_le _ _) t.isLt)).2) := by
  rw [outsAt0_B m c t h]
  refine Prod.ext ?_ ?_
  · frame_out
    exact congrArg (fun s => k0_pay2 s (iblk m c 3 t)) ((Memref.isWhole_whole cc0_scratch0).read_unread _)
  · rfl

/-- After every point the scratch holds the modulated rows of the point's own row block. -/
theorem scr_at (c : Dev nD) (n : ℕ) (hn : n < cfg0.N) (r : Fin 1024) (k : Fin 2048) (b : Fin 2) (hb : b.val = n / 116)
    (p : Fin 4096) (hp : p.val = 1024 * (n / 29 % 4) + r.val) :
    ((outsAt0 m c n hn).2 (ix2 r k) : EReal)
      = row (m (c.tc.loc main_arg0)) (m (c.tc.loc main_arg1)) (m (c.tc.loc main_arg2)) b p k := by
  induction n with
  | zero =>
    rw [outs_A m c ⟨0, hn⟩ (Nat.zero_mod _)]
    refine (pay1_at _ _ _ r k).trans ?_
    rw [blk0_at m c ⟨0, hn⟩ r k b hb p hp, blk1_at m c ⟨0, hn⟩ k b hb, blk2_at m c ⟨0, hn⟩ k b hb]
    rfl
  | succ n ih =>
    by_cases h : (n + 1) % 29 = 0
    · rw [outs_A m c ⟨n + 1, hn⟩ h]
      refine (pay1_at _ _ _ r k).trans ?_
      rw [blk0_at m c ⟨n + 1, hn⟩ r k b hb p hp, blk1_at m c ⟨n + 1, hn⟩ k b hb, blk2_at m c ⟨n + 1, hn⟩ k b hb]
      rfl
    · rw [outs_B m c ⟨n + 1, hn⟩ h]
      exact ih (Nat.lt_of_succ_lt hn) (by omega) (by omega)

/-- What the body leaves at block index `y` of point `t` is the reference's result where `y` sits. -/
theorem point (c : Dev nD) (t : Fin cfg0.N) (y : S1x1024x256.Idx) (j : S2x4096x7424.Idx) (hj0 : (j 0 : ℕ) = t.val / 116)
    (hj1 : (j 1 : ℕ) = 1024 * (t.val / 29 % 4) + (y 1).val) (hj2 : (j 2 : ℕ) = 256 * (t.val % 29) + (y 2).val) :
    ((outsAt0 m c t.val t.isLt).1 y : EReal)
    = Cert.Reference6Ideal.Read.val_main_v9 (F := Ideal) (m (c.tc.loc main_arg0)) (m (c.tc.loc main_arg1))
        (m (c.tc.loc main_arg2)) (m (c.tc.loc main_arg3)) j := by
  obtain ⟨r, q, rfl⟩ : ∃ (r : Fin 1024) (q : Fin 256), y = ix3 0 r q :=
    ⟨y 1, y 2, funext fun a => match a with
      | ⟨0, _⟩ => Subsingleton.elim (α := Fin 1) _ _
      | ⟨1, _⟩ => rfl
      | ⟨2, _⟩ => rfl⟩
  obtain ⟨b, p, n, rfl⟩ : ∃ (b : Fin 2) (p : Fin 4096) (n : Fin 7424), j = ix3 b p n :=
    ⟨j 0, j 1, j 2, funext fun a => match a with | ⟨0, _⟩ => rfl | ⟨1, _⟩ => rfl | ⟨2, _⟩ => rfl⟩
  replace hj0 : b.val = t.val / 116 := hj0
  replace hj1 : p.val = 1024 * (t.val / 29 % 4) + r.val := hj1
  replace hj2 : n.val = 256 * (t.val % 29) + q.val := hj2
  refine Eq.trans ?_ (ref_at _ _ _ _ b p n).symm
  have hs : ∀ k : Fin 2048, ((outsAt0 m c t.val t.isLt).2 (ix2 r k) : EReal) = _ := fun k => scr_at m c t.val t.isLt r k b hj0 p hj1
  have e : (outsAt0 m c t.val t.isLt).1 = k0_pay2 (outsAt0 m c t.val t.isLt).2 (iblk m c 3 t) := by
    by_cases h : t.val % 29 = 0
    · rw [outs_A m c t h]
    · rw [outs_B m c t h]
  rw [e]
  refine (pay2_at _ _ r q).trans (Finset.sum_congr rfl fun k _ => congrArg₂ (fun a b : EReal => a * b) (hs k) ?_)
  exact blk3_at m c t k q n hj2

/-- The result array after the run is the reference's result of the arguments. -/
theorem final (c : Dev nD) : (dats m 0 c).arrAt 4 cfg0.N
    = Cert.Reference6Ideal.Read.val_main_v9 (F := Ideal) (m (c.tc.loc main_arg0)) (m (c.tc.loc main_arg1))
        (m (c.tc.loc main_arg2)) (m (c.tc.loc main_arg3)) := by
  refine (dats m 0 c).arrAt_eq_of_covers 4 _ (by decide +kernel) fun t hf y => ?_
  blk_simp
  rw [after0_4]
  refine point m c t y _ ?_ ?_ ?_
  all_goals (blk_simp [idx t] <;> try omega)

end Cert.Proj

end
-- ==== Proof.Proj1.lean ====
/- The combined projection of layer 1: the kernel's result array is the reference's. -/
module

public import proofs.«01_k».proof.Proof.Gen.Kernel7Ideal.Value
public import proofs.«01_k».proof.Proof.Gen.Reference7Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proj1

open Cert.Kernel7Ideal Cert.Kernel7Ideal.Gen

/-- The modulated row at an index: the entry times one plus the scale, plus the shift. -/
def row (x : FVec Ideal ⟨3, ![2, 4096, 2048]⟩ .f32) (sc sh : FVec Ideal ⟨3, ![2, 1, 2048]⟩ .f32) (b : Fin 2) (p : Fin 4096) (k : Fin 2048) : EReal :=
  (x (ix3 b p k) : EReal) * (1 + (sc (ix3 b 0 k) : EReal)) + (sh (ix3 b 0 k) : EReal)

/-- The reference at an index: the product of the modulated row with the column of layer 1's matrix. -/
theorem ref_at (x : FVec Ideal ⟨3, ![2, 4096, 2048]⟩ .f32) (sc sh : FVec Ideal ⟨3, ![2, 1, 2048]⟩ .f32) (w : FVec Ideal ⟨3, ![2, 2048, 7424]⟩ .bf16)
    (b : Fin 2) (p : Fin 4096) (n : Fin 7424) :
    (Cert.Reference7Ideal.Read.val_main_v9 (F := Ideal) x sc sh w (ix3 b p n) : EReal)
      = ∑ k : Fin 2048, row x sc sh b p k * (w (ix3 1 k n) : EReal) := by
  have hn := n.isLt
  rw [Cert.Reference7Ideal.Read.val_main_v9_apply]
  refine Finset.sum_congr rfl fun k _ => congrArg₂ (fun a b : EReal => a * b) ?_ ?_
  · rw [Cert.Reference7Ideal.Read.val_main_v5_apply, Cert.Reference7Ideal.Read.val_main_v3_apply, Cert.Reference7Ideal.Read.val_main_v4_apply,
      Cert.Reference7Ideal.Read.val_main_v2_apply, Cert.Reference7Ideal.Read.val_main_v1_apply, Cert.Reference7Ideal.Read.val_main_v0_apply,
      Cert.Reference7Ideal.Read.val_main_cst_apply,
      show (FloatOps.ofBits .f32 0x3F800000#32 : Ideal .f32) = (1 : EReal) from Ideal.ofBits_one_f32]
    unfold row
    have e1 : (Cert.Reference7Ideal.Read.lidx_main_v9 (ix3 b p n) k) = ix3 b p k := funext fun a => match a with
      | ⟨0, _⟩ => rfl
      | ⟨1, _⟩ => rfl
      | ⟨2, _⟩ => rfl
    have e2 : Cert.Reference7Ideal.Read.idx_main_v2 (ix3 b p k) = ix3 b 0 k := funext fun a => match a with
      | ⟨0, _⟩ => rfl
      | ⟨1, _⟩ => rfl
      | ⟨2, _⟩ => rfl
    have e3 : Cert.Reference7Ideal.Read.idx_main_v4 (ix3 b p k) = ix3 b 0 k := funext fun a => match a with
      | ⟨0, _⟩ => rfl
      | ⟨1, _⟩ => rfl
      | ⟨2, _⟩ => rfl
    rw [e1, e2, e3]
    rfl
  · rw [Cert.Reference7Ideal.Read.val_main_v8_apply, Cert.Reference7Ideal.Read.val_main_v7_apply, Cert.Reference7Ideal.Read.val_main_v6_apply]
    have hk := k.isLt
    refine congrArg w (funext fun a => Fin.ext (match a with
      | ⟨0, _⟩ => rfl
      | ⟨1, _⟩ => show (k.val * 7424 + n.val) / 7424 % 2048 = k.val by omega
      | ⟨2, _⟩ => show (k.val * 7424 + n.val) % 7424 = n.val by omega))

variable (m : (ℓ : Loc nD τ sig) → Buf (Elt Ideal) ℓ)

/-- The windows' index maps. -/
theorem idx : ∀ t : Fin cfg0.N, win0_0.index t = ![t.val / 116, t.val / 29 % 4, 0]
    ∧ win0_1.index t = ![t.val / 116, 0, 0] ∧ win0_2.index t = ![t.val / 116, 0, 0]
    ∧ win0_3.index t = ![1, 0, t.val % 29] ∧ win0_4.index t = ![t.val / 116, t.val / 29 % 4, t.val % 29] :=
  (by decide +kernel : ∀ t : Fin grid0.N, _)

/-- The rows' block at an index. -/
theorem blk0_at (c : Dev nD) (t : Fin cfg0.N) (r : Fin 1024) (k : Fin 2048) (b : Fin 2) (hb : b.val = t.val / 116)
    (p : Fin 4096) (hp : p.val = 1024 * (t.val / 29 % 4) + r.val) :
    (iblk m c 0 t : FVec Ideal S1x1024x2048 .f32) (ix3 0 r k) = (m (c.tc.loc main_arg0) : FVec Ideal S2x4096x2048 .f32) (ix3 b p k) := by
  blk_ext [iblk, V, idx t]

/-- The scale's block at an index. -/
theorem blk1_at (c : Dev nD) (t : Fin cfg0.N) (k : Fin 2048) (b : Fin 2) (hb : b.val = t.val / 116) :
    (iblk m c 1 t : FVec Ideal S1x1x2048 .f32) (ix3 0 0 k) = (m (c.tc.loc main_arg1) : FVec Ideal S2x1x2048 .f32) (ix3 b 0 k) := by
  blk_ext [iblk, V, idx t]

/-- The shift's block at an index. -/
theorem blk2_at (c : Dev nD) (t : Fin cfg0.N) (k : Fin 2048) (b : Fin 2) (hb : b.val = t.val / 116) :
    (iblk m c 2 t : FVec Ideal S1x1x2048 .f32) (ix3 0 0 k) = (m (c.tc.loc main_arg2) : FVec Ideal S2x1x2048 .f32) (ix3 b 0 k) := by
  blk_ext [iblk, V, idx t]

/-- The matrix's block at an index. -/
theorem blk3_at (c : Dev nD) (t : Fin cfg0.N) (k : Fin 2048) (q : Fin 256) (n : Fin 7424) (hn : n.val = 256 * (t.val % 29) + q.val) :
    (iblk m c 3 t : FVec Ideal S1x2048x256 .bf16) (ix3 0 k q) = (m (c.tc.loc main_arg3) : FVec Ideal S2x2048x7424 .bf16) (ix3 1 k n) := by
  blk_ext [iblk, V, idx t]

/-- The rows the scratch takes, at an index. -/
theorem pay1_at (x : FVec Ideal S1x1024x2048 .f32) (sc sh : FVec Ideal S1x1x2048 .f32) (r : Fin 1024) (k : Fin 2048) :
    (k0_pay1 (F := Ideal) x sc sh (ix2 r k) : EReal)
      = (x (ix3 0 r k) : EReal) * (1 + (sc (ix3 0 0 k) : EReal)) + (sh (ix3 0 0 k) : EReal) := by
  rw [show (1 : EReal) = (FloatOps.ofBits .f32 0x3F800000#32 : Ideal .f32) from Ideal.ofBits_one_f32.symm]
  pointwise [k0_pay1]

/-- The product, at an index. -/
theorem pay2_at (h : FVec Ideal S1024x2048 .bf16) (w : FVec Ideal S1x2048x256 .bf16) (r : Fin 1024) (q : Fin 256) :
    (k0_pay2 (F := Ideal) h w (ix3 0 r q) : EReal) = ∑ k : Fin 2048, (h (ix2 r k) : EReal) * (w (ix3 0 k q) : EReal) := by
  pointwise [k0_pay2]

/-- A point that starts a row block leaves the modulated rows in the scratch and their product in the result's block. -/
theorem outs_A (c : Dev nD) (t : Fin cfg0.N) (h : t.val % 29 = 0) :
    outsAt0 m c t.val t.isLt = (k0_pay2 (k0_pay1 (iblk m c 0 t) (iblk m c 1 t) (iblk m c 2 t)) (iblk m c 3 t),
      k0_pay1 (iblk m c 0 t) (iblk m c 1 t) (iblk m c 2 t)) := by
  rw [outsAt0_A m c t h]
  frame_out

/-- Any other point leaves the scratch as it was and its product in the result's block. -/
theorem outs_B (c : Dev nD) (t : Fin cfg0.N) (h : ¬t.val % 29 = 0) :
    outsAt0 m c t.val t.isLt = (k0_pay2 (outsAt0 m c (t.val - 1) (Nat.lt_of_le_of_lt (Nat.sub_le _ _) t.isLt)).2 (iblk m c 3 t),
      (outsAt0 m c (t.val - 1) (Nat.lt_of_le_of_lt (Nat.sub_le _ _) t.isLt)).2) := by
  rw [outsAt0_B m c t h]
  refine Prod.ext ?_ ?_
  · frame_out
    exact congrArg (fun s => k0_pay2 s (iblk m c 3 t)) ((Memref.isWhole_whole cc0_scratch0).read_unread _)
  · rfl

/-- After every point the scratch holds the modulated rows of the point's own row block. -/
theorem scr_at (c : Dev nD) (n : ℕ) (hn : n < cfg0.N) (r : Fin 1024) (k : Fin 2048) (b : Fin 2) (hb : b.val = n / 116)
    (p : Fin 4096) (hp : p.val = 1024 * (n / 29 % 4) + r.val) :
    ((outsAt0 m c n hn).2 (ix2 r k) : EReal)
      = row (m (c.tc.loc main_arg0)) (m (c.tc.loc main_arg1)) (m (c.tc.loc main_arg2)) b p k := by
  induction n with
  | zero =>
    rw [outs_A m c ⟨0, hn⟩ (Nat.zero_mod _)]
    refine (pay1_at _ _ _ r k).trans ?_
    rw [blk0_at m c ⟨0, hn⟩ r k b hb p hp, blk1_at m c ⟨0, hn⟩ k b hb, blk2_at m c ⟨0, hn⟩ k b hb]
    rfl
  | succ n ih =>
    by_cases h : (n + 1) % 29 = 0
    · rw [outs_A m c ⟨n + 1, hn⟩ h]
      refine (pay1_at _ _ _ r k).trans ?_
      rw [blk0_at m c ⟨n + 1, hn⟩ r k b hb p hp, blk1_at m c ⟨n + 1, hn⟩ k b hb, blk2_at m c ⟨n + 1, hn⟩ k b hb]
      rfl
    · rw [outs_B m c ⟨n + 1, hn⟩ h]
      exact ih (Nat.lt_of_succ_lt hn) (by omega) (by omega)

/-- What the body leaves at block index `y` of point `t` is the reference's result where `y` sits. -/
theorem point (c : Dev nD) (t : Fin cfg0.N) (y : S1x1024x256.Idx) (j : S2x4096x7424.Idx) (hj0 : (j 0 : ℕ) = t.val / 116)
    (hj1 : (j 1 : ℕ) = 1024 * (t.val / 29 % 4) + (y 1).val) (hj2 : (j 2 : ℕ) = 256 * (t.val % 29) + (y 2).val) :
    ((outsAt0 m c t.val t.isLt).1 y : EReal)
    = Cert.Reference7Ideal.Read.val_main_v9 (F := Ideal) (m (c.tc.loc main_arg0)) (m (c.tc.loc main_arg1))
        (m (c.tc.loc main_arg2)) (m (c.tc.loc main_arg3)) j := by
  obtain ⟨r, q, rfl⟩ : ∃ (r : Fin 1024) (q : Fin 256), y = ix3 0 r q :=
    ⟨y 1, y 2, funext fun a => match a with
      | ⟨0, _⟩ => Subsingleton.elim (α := Fin 1) _ _
      | ⟨1, _⟩ => rfl
      | ⟨2, _⟩ => rfl⟩
  obtain ⟨b, p, n, rfl⟩ : ∃ (b : Fin 2) (p : Fin 4096) (n : Fin 7424), j = ix3 b p n :=
    ⟨j 0, j 1, j 2, funext fun a => match a with | ⟨0, _⟩ => rfl | ⟨1, _⟩ => rfl | ⟨2, _⟩ => rfl⟩
  replace hj0 : b.val = t.val / 116 := hj0
  replace hj1 : p.val = 1024 * (t.val / 29 % 4) + r.val := hj1
  replace hj2 : n.val = 256 * (t.val % 29) + q.val := hj2
  refine Eq.trans ?_ (ref_at _ _ _ _ b p n).symm
  have hs : ∀ k : Fin 2048, ((outsAt0 m c t.val t.isLt).2 (ix2 r k) : EReal) = _ := fun k => scr_at m c t.val t.isLt r k b hj0 p hj1
  have e : (outsAt0 m c t.val t.isLt).1 = k0_pay2 (outsAt0 m c t.val t.isLt).2 (iblk m c 3 t) := by
    by_cases h : t.val % 29 = 0
    · rw [outs_A m c t h]
    · rw [outs_B m c t h]
  rw [e]
  refine (pay2_at _ _ r q).trans (Finset.sum_congr rfl fun k _ => congrArg₂ (fun a b : EReal => a * b) (hs k) ?_)
  exact blk3_at m c t k q n hj2

/-- The result array after the run is the reference's result of the arguments. -/
theorem final (c : Dev nD) : (dats m 0 c).arrAt 4 cfg0.N
    = Cert.Reference7Ideal.Read.val_main_v9 (F := Ideal) (m (c.tc.loc main_arg0)) (m (c.tc.loc main_arg1))
        (m (c.tc.loc main_arg2)) (m (c.tc.loc main_arg3)) := by
  refine (dats m 0 c).arrAt_eq_of_covers 4 _ (by decide +kernel) fun t hf y => ?_
  blk_simp
  rw [after0_4]
  refine point m c t y _ ?_ ?_ ?_
  all_goals (blk_simp [idx t] <;> try omega)

end Cert.Proj1

end
-- ==== Proof.ProjClaims.lean ====
/- The ten claims about the combined projection of the two layers: for each layer the three frames, that nothing is replaced,
   and that the kernel and the reference leave the same array. -/
module

public import proofs.«01_k».proof.Defs
public import proofs.«01_k».proof.Proof.Proj
public import proofs.«01_k».proof.Proof.Proj1
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import Idealize.ShloMosaic.Adequacy
public import Idealize.ShloMosaic.Init
public import Idealize.ShloMosaic.Lib.Quiescent

@[expose] public section

noncomputable section

namespace Cert.ProjClaims

open Idealize.ShloMosaic Idealize.SL.Sem

/-- The projection kernel of layer 0 on machine numbers runs to its end, keeps its arguments and leaves every counter at zero. -/
theorem frame_p6 : Cert.quiescent_Kernel6 := fun m ρ _ => Cert.Kernel6.Gen.frame m ρ

/-- The projection kernel of layer 0 on ideal numbers runs to its end, keeps its arguments and leaves every counter at zero. -/
theorem frame_pi6 : Cert.quiescent_Kernel6Ideal := fun m ρ _ => Cert.Kernel6Ideal.Gen.frame m ρ

/-- The projection reference of layer 0 on ideal numbers runs to its end, keeps its arguments and leaves every counter at zero. -/
theorem frame_ri6 : Cert.quiescent_Reference6Ideal := fun m ρ _ =>
  (θ_run Cert.Reference6Ideal.defs _ _).mono
    (fun r h => ⟨fun c => (h c).2, Idealize.ShloMosaic.sem_eq_zero_of_no_sems (by decide) r.2⟩)
    (Cert.Reference6Ideal.Value.run (F := Ideal) m ρ)

/-- Nothing of the projection kernel of layer 0 is replaced in its ideal counterpart. -/
theorem preserves6 : Cert.preserves_Kernel6_Kernel6Ideal := trivial

/-- On equal rows, scales, shifts and matrices, the projection kernel and the reference of layer 0 leave the same array. -/
theorem algebraic6 : Cert.algebraic_Kernel6Ideal_Reference6Ideal := by
  intro m ρ m' ρ' _ hag
  refine ⟨fun c => Cert.Reference6Ideal.Read.val_main_v9
      (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1))
      (m ((c.tc : Thread Cert.Kernel6Ideal.nD Cert.Kernel6Ideal.τ).loc Cert.Kernel6Ideal.main_arg2))
      (m ((c.tc : Thread Cert.Kernel6Ideal.nD Cert.Kernel6Ideal.τ).loc Cert.Kernel6Ideal.main_arg3)), ?_, ?_⟩
  · exact (θ_run Cert.Kernel6Ideal.defs _ _).mono
      (fun r h c => ⟨(h c).1.trans (Cert.Proj.final m c), (h c).2⟩) (Cert.Kernel6Ideal.Value.run_blocks m ρ)
  · refine (θ_run Cert.Reference6Ideal.defs _ _).mono (fun r h c => ⟨(h c).1.trans ?_, (h c).2⟩)
      (Cert.Reference6Ideal.Value.run (F := Ideal) m' ρ')
    obtain ⟨h0, h1, h2, h3⟩ := hag c
    rw [Cert.Reference6Ideal.Read.val_main_v9_eq, h0, h1, h2, h3]

/-- The projection kernel of layer 1 on machine numbers runs to its end, keeps its arguments and leaves every counter at zero. -/
theorem frame_p7 : Cert.quiescent_Kernel7 := fun m ρ _ => Cert.Kernel7.Gen.frame m ρ

/-- The projection kernel of layer 1 on ideal numbers runs to its end, keeps its arguments and leaves every counter at zero. -/
theorem frame_pi7 : Cert.quiescent_Kernel7Ideal := fun m ρ _ => Cert.Kernel7Ideal.Gen.frame m ρ

/-- The projection reference of layer 1 on ideal numbers runs to its end, keeps its arguments and leaves every counter at zero. -/
theorem frame_ri7 : Cert.quiescent_Reference7Ideal := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)

/-- Nothing of the projection kernel of layer 1 is replaced in its ideal counterpart. -/
theorem preserves7 : Cert.preserves_Kernel7_Kernel7Ideal := trivial

/-- On equal rows, scales, shifts and matrices, the projection kernel and the reference of layer 1 leave the same array. -/
theorem algebraic7 : Cert.algebraic_Kernel7Ideal_Reference7Ideal := by
  intro m ρ m' ρ' _ hag
  refine ⟨fun c => Cert.Reference7Ideal.Read.val_main_v9
      (m ((c.tc : Thread Cert.Kernel7Ideal.nD Cert.Kernel7Ideal.τ).loc Cert.Kernel7Ideal.main_arg0))
      (m ((c.tc : Thread Cert.Kernel7Ideal.nD Cert.Kernel7Ideal.τ).loc Cert.Kernel7Ideal.main_arg1))
      (m ((c.tc : Thread Cert.Kernel7Ideal.nD Cert.Kernel7Ideal.τ).loc Cert.Kernel7Ideal.main_arg2))
      (m ((c.tc : Thread Cert.Kernel7Ideal.nD Cert.Kernel7Ideal.τ).loc Cert.Kernel7Ideal.main_arg3)), ?_, ?_⟩
  · exact (θ_run Cert.Kernel7Ideal.defs _ _).mono
      (fun r h c => ⟨(h c).1.trans (Cert.Proj1.final m c), (h c).2⟩) (Cert.Kernel7Ideal.Value.run_blocks m ρ)
  · refine (θ_run Cert.Reference7Ideal.defs _ _).mono (fun r h c => ⟨(h c).1.trans ?_, (h c).2⟩)
      (Cert.Reference7Ideal.Value.run (F := Ideal) m' ρ')
    obtain ⟨h0, h1, h2, h3⟩ := hag c
    rw [Cert.Reference7Ideal.Read.val_main_v9_eq, h0, h1, h2, h3]

end Cert.ProjClaims

end
-- ==== Proof.OutMath.lean ====
/- The output projection's arithmetic on the extended reals: the normalized row, what stays a real number, and a sum over
   the concatenated heads cut into its three parts. -/
module

public import Idealize.ShloMosaic.Lib.Pipeline.ValueKit
public import Idealize.ShloMosaic.Lib.Pointwise

@[expose] public section

noncomputable section

open Idealize.ShloMosaic

namespace Cert.OutMath

/-- The mean of a row of 2048 entries. -/
def mean (z : Fin 2048 → EReal) : EReal := Ideal.div (∑ j, z j) (Ideal.ofBits .f32 0x45000000#32)

/-- The normalized row at an index, times the gain plus the bias. -/
def norm (z lg lb : Fin 2048 → EReal) (k : Fin 2048) : EReal :=
  (z k - mean z) * Ideal.rsqrt (mean (fun j => (z j - mean z) * (z j - mean z)) + Ideal.ofBits .f32 0x3727C5AC#32) * lg k + lb k

/-- The residual row at an index: the scaled entry plus the gated attention. -/
def res (x g o : Fin 2048 → EReal) (k : Fin 2048) : EReal :=
  Ideal.ofBits .f32 0x3FB504F3#32 * x k + (1 + g k) * o k

/-- An extended real that is a real number. -/
def IsR (x : EReal) : Prop := ∃ r : ℝ, x = (r : EReal)

/-- One is a real number. -/
theorem IsR.one : IsR 1 := ⟨1, rfl⟩

/-- The sum of two real numbers is one. -/
theorem IsR.add {x y : EReal} (hx : IsR x) (hy : IsR y) : IsR (x + y) := by
  obtain ⟨a, rfl⟩ := hx
  obtain ⟨b, rfl⟩ := hy
  exact ⟨a + b, (EReal.coe_add a b).symm⟩

/-- The difference of two real numbers is one. -/
theorem IsR.sub {x y : EReal} (hx : IsR x) (hy : IsR y) : IsR (x - y) := by
  obtain ⟨a, rfl⟩ := hx
  obtain ⟨b, rfl⟩ := hy
  exact ⟨a - b, (EReal.coe_sub a b).symm⟩

/-- The product of two real numbers is one. -/
theorem IsR.mul {x y : EReal} (hx : IsR x) (hy : IsR y) : IsR (x * y) := by
  obtain ⟨a, rfl⟩ := hx
  obtain ⟨b, rfl⟩ := hy
  exact ⟨a * b, (EReal.coe_mul a b).symm⟩

/-- A sum of real numbers is the real sum. -/
theorem sum_coe {n : ℕ} (f : Fin n → ℝ) : ∑ k, (f k : EReal) = ((∑ k, f k : ℝ) : EReal) := by
  induction n with
  | zero => simp
  | succ n ih => rw [Fin.sum_univ_succ, Fin.sum_univ_succ, ih, EReal.coe_add]

/-- A sum of real numbers is a real number. -/
theorem IsR.sum {n : ℕ} {f : Fin n → EReal} (h : ∀ k, IsR (f k)) : IsR (∑ k, f k) := by
  choose g hg using h
  exact ⟨∑ k, g k, by rw [← sum_coe]; exact Finset.sum_congr rfl fun k _ => hg k⟩

/-- A real number less itself is zero. -/
theorem IsR.sub_self {x : EReal} (hx : IsR x) : x - x = 0 := by
  obtain ⟨a, rfl⟩ := hx
  rw [← EReal.coe_sub, _root_.sub_self, EReal.coe_zero]

/-- An extended real whose magnitude lies below infinity is a real number. -/
theorem IsR.of_abs {x : EReal} (h : max x (-x) < ⊤) : IsR x := by
  induction x with
  | bot => simp at h
  | top => simp at h
  | coe r => exact ⟨r, rfl⟩

/-- The bits the precondition compares with are infinity. -/
theorem inf_eq : Ideal.ofBits .f32 0x7F800000#32 = (⊤ : EReal) := by
  simp [Ideal.ofBits, Ideal.ieee]

/-- An array whose magnitudes all compare below infinity holds real numbers. -/
theorem IsR.of_lt {s : Shape} (x : FVec Ideal s .f32) (h : (⟨0, ![]⟩ : Shape).BroadcastsInDim s (![] : Fin 0 → Fin s.rank))
    (e : (cmpf .olt (Host.absf x) (broadcastInDim s ![] h (constant (⟨0, ![]⟩ : Shape) .f32 0x7F800000#32)) : IVec s 1) = fun _ => 1#1)
    (i : s.Idx) : IsR (x i) := by
  have e' := congrFun e i
  simp only [cmpf, Host.absf, broadcastInDim, constant] at e'
  replace e' : BitVec.ofBool (decide (max (x i : EReal) (-(x i : EReal)) < Ideal.ofBits .f32 0x7F800000#32)) = 1#1 := e'
  rw [inf_eq] at e'
  refine IsR.of_abs ?_
  by_contra hn
  rw [decide_eq_false hn] at e'
  exact absurd e' (by decide)

/-- The row's length as the programs write it. -/
theorem n_eq : Ideal.ofBits .f32 0x45000000#32 = ((2048 : ℝ) : EReal) := by
  simp [Ideal.ofBits, Ideal.ieee, -EReal.coe_mul]; norm_num

/-- The residual's factor is a real number. -/
theorem alpha_isR : IsR (Ideal.ofBits .f32 0x3FB504F3#32) := by
  refine ⟨11863283 * 2 ^ (-23 : ℤ), ?_⟩
  simp [Ideal.ofBits, Ideal.ieee, -EReal.coe_mul]

/-- The variance's offset is a positive real number. -/
theorem eps_eq : ∃ e : ℝ, 0 < e ∧ Ideal.ofBits .f32 0x3727C5AC#32 = (e : EReal) := by
  refine ⟨10995116 * 2 ^ (-40 : ℤ), by positivity, ?_⟩
  simp [Ideal.ofBits, Ideal.ieee, -EReal.coe_mul]

/-- The mean of a row of real numbers is the real mean. -/
theorem mean_coe (f : Fin 2048 → ℝ) : mean (fun k => (f k : EReal)) = (((∑ k, f k) * (2048 : ℝ)⁻¹ : ℝ) : EReal) := by
  unfold mean Ideal.div
  rw [n_eq, sum_coe, if_neg (by norm_num [← EReal.coe_zero, EReal.coe_eq_coe_iff]), ← EReal.coe_inv, ← EReal.coe_mul]

/-- The normalized row of real numbers, with real gain and bias, is a row of real numbers. -/
theorem norm_isR {z lg lb : Fin 2048 → EReal} (hz : ∀ k, IsR (z k)) (hg : ∀ k, IsR (lg k)) (hb : ∀ k, IsR (lb k)) (k : Fin 2048) :
    IsR (norm z lg lb k) := by
  choose f hf using hz
  obtain rfl : z = fun k => (f k : EReal) := funext hf
  obtain ⟨e, he, hE⟩ := eps_eq
  unfold norm
  rw [mean_coe, hE]
  refine ((((IsR.sub ⟨_, rfl⟩ ⟨_, rfl⟩).mul ?_).mul (hg k)).add (hb k))
  rw [show (fun j => ((f j : EReal) - (((∑ k, f k) * (2048 : ℝ)⁻¹ : ℝ) : EReal)) * ((f j : EReal) - (((∑ k, f k) * (2048 : ℝ)⁻¹ : ℝ) : EReal)))
      = fun j => (((f j - (∑ k, f k) * (2048 : ℝ)⁻¹) * (f j - (∑ k, f k) * (2048 : ℝ)⁻¹) : ℝ) : EReal) from
    funext fun j => by rw [← EReal.coe_sub, ← EReal.coe_mul], mean_coe, ← EReal.coe_add, Ideal.rsqrt_coe]
  have hp : 0 < (∑ j, (f j - (∑ k, f k) * (2048 : ℝ)⁻¹) * (f j - (∑ k, f k) * (2048 : ℝ)⁻¹)) * (2048 : ℝ)⁻¹ + e :=
    add_pos_of_nonneg_of_pos (mul_nonneg (Finset.sum_nonneg fun j _ => mul_self_nonneg _) (by norm_num)) he
  rw [if_neg (not_lt.mpr hp.le), if_neg hp.ne']
  exact ⟨_, rfl⟩

/-- A sum over 2048 is the sum over its first 768, next 640 and last 640. -/
theorem sum_cut (f : Fin 2048 → EReal) : ∑ k, f k
    = (∑ k : Fin 768, f ⟨k.val, by omega⟩ + ∑ k : Fin 640, f ⟨768 + k.val, by omega⟩) + ∑ k : Fin 640, f ⟨1408 + k.val, by omega⟩ := by
  refine (Fin.sum_univ_add (a := 1408) (b := 640) f).trans (congrArg₂ (fun a b : EReal => a + b) ?_ rfl)
  exact Fin.sum_univ_add (a := 768) (b := 640) fun k : Fin 1408 => f (Fin.castAdd 640 k)

end Cert.OutMath

end
-- ==== Proof.Out.lean ====
/- The output projection of layer 0: the kernel's three result arrays are the reference's. -/
module

public import proofs.«01_k».proof.Proof.OutMath
public import proofs.«01_k».proof.Proof.Gen.Kernel8Ideal.Value
public import proofs.«01_k».proof.Proof.Gen.Reference8Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Out

open Cert.OutMath

section reference

open Cert.Reference8Ideal.Read

-- The reference's arguments and an index.
variable (x0 : FVec Ideal ⟨3, ![2, 4096, 768]⟩ .bf16) (x1 x2 : FVec Ideal ⟨3, ![2, 4096, 640]⟩ .bf16) (x3 : FVec Ideal ⟨3, ![2, 2048, 2048]⟩ .bf16)
  (x4 : FVec Ideal ⟨3, ![2, 4096, 2048]⟩ .f32) (x5 x6 x7 x8 x9 : FVec Ideal ⟨3, ![2, 1, 2048]⟩ .f32) (x10 : FVec Ideal ⟨3, ![2, 2048, 32]⟩ .f32)
  (x11 : FVec Ideal ⟨3, ![2, 1, 32]⟩ .f32) (b : Fin 2) (p : Fin 4096)

/-- The attention's row at an index: the three heads' products with their parts of layer 0's matrix, added. -/
def att (k : Fin 2048) : EReal :=
  (∑ j : Fin 768, (x0 (ix3 b p j) : EReal) * (x3 (ix3 0 ⟨j.val, by omega⟩ k) : EReal)
    + ∑ j : Fin 640, (x1 (ix3 b p j) : EReal) * (x3 (ix3 0 ⟨768 + j.val, by omega⟩ k) : EReal))
    + ∑ j : Fin 640, (x2 (ix3 b p j) : EReal) * (x3 (ix3 0 ⟨1408 + j.val, by omega⟩ k) : EReal)

/-- The residual row at an index. -/
def rrow (k : Fin 2048) : EReal :=
  res (fun k => x4 (ix3 b p k)) (fun k => x5 (ix3 b 0 k)) (att x0 x1 x2 x3 b p) k

/-- The normalized row at an index. -/
def nrow (k : Fin 2048) : EReal :=
  norm (rrow x0 x1 x2 x3 x4 x5 b p) (fun k => x6 (ix3 0 0 k)) (fun k => x7 (ix3 0 0 k)) k

/-- The modulated row at an index. -/
def hrow (k : Fin 2048) : EReal :=
  nrow x0 x1 x2 x3 x4 x5 x6 x7 b p k * (1 + (x8 (ix3 b 0 k) : EReal)) + (x9 (ix3 b 0 k) : EReal)

/-- The reference's product of the concatenated heads is the sum of the three heads' products. -/
theorem v7_at (k : Fin 2048) : (val_main_v7 (F := Ideal) x0 x1 x2 x3 (ix3 b p k) : EReal) = att x0 x1 x2 x3 b p k := by
  pointwise [val_main_v7, val_main_v6, val_main_v5, val_main_v4, val_main_v3, val_main_v2, val_main_v1, val_main_v0]
  refine (sum_cut _).trans ?_
  unfold att
  refine congrArg₂ (fun a b : EReal => a + b) (congrArg₂ (fun a b : EReal => a + b) ?_ ?_) ?_
  · refine Finset.sum_congr rfl fun j _ => congrArg₂ (fun a b : EReal => a * b) ?_ rfl
    exact dif_pos j.isLt
  · refine Finset.sum_congr rfl fun j _ => congrArg₂ (fun a b : EReal => a * b) ?_ rfl
    have hj := j.isLt
    refine (dif_neg (show ¬768 + j.val < 768 by omega)).trans ((dif_pos (show 768 + j.val - 768 < 640 by omega)).trans ?_)
    exact congrArg (fun q : Fin 640 => (x1 (ix3 b p q) : EReal)) (Fin.ext (show 768 + j.val - 768 = j.val by omega))
  · refine Finset.sum_congr rfl fun j _ => congrArg₂ (fun a b : EReal => a * b) ?_ rfl
    have hj := j.isLt
    refine (dif_neg (show ¬1408 + j.val < 768 by omega)).trans ((dif_neg (show ¬1408 + j.val - 768 < 640 by omega)).trans ?_)
    exact congrArg (fun q : Fin 640 => (x2 (ix3 b p q) : EReal)) (Fin.ext (show 1408 + j.val - 768 - 640 = j.val by omega))

/-- The reference's residual at an index. -/
theorem v14_at (k : Fin 2048) : (val_main_v14 (F := Ideal) x0 x1 x2 x3 x4 x5 (ix3 b p k) : EReal) = rrow x0 x1 x2 x3 x4 x5 b p k := by
  unfold rrow res
  rw [← v7_at]
  pointwise [val_main_v14, val_main_v13, val_main_v12, val_main_v11, val_main_v10, val_main_v9, val_main_v8, val_main_cst, val_main_cst_0]

/-- The reference's first result at an index. -/
theorem v42_at (k : Fin 2048) : (val_main_v42 (F := Ideal) x0 x1 x2 x3 x4 x5 x6 x7 (ix3 b p k) : EReal)
    = nrow x0 x1 x2 x3 x4 x5 x6 x7 b p k := by
  unfold nrow
  rw [show rrow x0 x1 x2 x3 x4 x5 b p = fun k => (val_main_v14 (F := Ideal) x0 x1 x2 x3 x4 x5 (ix3 b p k) : EReal) from
    funext fun k => (v14_at x0 x1 x2 x3 x4 x5 b p k).symm]
  unfold Cert.OutMath.norm mean
  pointwise [val_main_v42, val_main_v41, val_main_v40, val_main_v39, val_main_v38, val_main_v37, val_main_v36, val_main_v35, val_main_v34,
    val_main_v33, val_main_v32, val_main_v31, val_main_v30, val_main_v29, val_main_v28, val_main_v27, val_main_v26, val_main_v25, val_main_v24,
    val_main_v23, val_main_v22, val_main_v21, val_main_v20, val_main_v19, val_main_v18, val_main_v17, val_main_v16, val_main_v15, val_main_cst_1,
    val_main_cst_2, val_main_cst_3, val_main_cst_4, val_main_cst_5]

/-- The reference's second result at an index. -/
theorem v48_at (k : Fin 2048) : (val_main_v48 (F := Ideal) x0 x1 x2 x3 x4 x5 x6 x7 x8 x9 (ix3 b p k) : EReal)
    = hrow x0 x1 x2 x3 x4 x5 x6 x7 x8 x9 b p k := by
  unfold hrow
  rw [← v42_at]
  pointwise [val_main_v48, val_main_v47, val_main_v46, val_main_v45, val_main_v44, val_main_v43, val_main_cst_6]

/-- The reference's third result at an index. -/
theorem v56_at (e : Fin 32) : (val_main_v56 (F := Ideal) x0 x1 x2 x3 x4 x5 x6 x7 x8 x9 x10 x11 (ix3 b p e) : EReal)
    = ∑ k : Fin 2048, hrow x0 x1 x2 x3 x4 x5 x6 x7 x8 x9 b p k * (x10 (ix3 0 k e) : EReal) + (x11 (ix3 0 0 e) : EReal) := by
  rw [show hrow x0 x1 x2 x3 x4 x5 x6 x7 x8 x9 b p
      = fun k => (val_main_v48 (F := Ideal) x0 x1 x2 x3 x4 x5 x6 x7 x8 x9 (ix3 b p k) : EReal) from
    funext fun k => (v48_at x0 x1 x2 x3 x4 x5 x6 x7 x8 x9 b p k).symm]
  pointwise [val_main_v56, val_main_v55, val_main_v54, val_main_v53, val_main_v52, val_main_v51, val_main_v50, val_main_v49]

/-- On real arguments the modulated row is a row of real numbers. -/
theorem hrow_isR (h0 : ∀ i, IsR (x0 i)) (h1 : ∀ i, IsR (x1 i)) (h2 : ∀ i, IsR (x2 i)) (h3 : ∀ i, IsR (x3 i)) (h4 : ∀ i, IsR (x4 i))
    (h5 : ∀ i, IsR (x5 i)) (h6 : ∀ i, IsR (x6 i)) (h7 : ∀ i, IsR (x7 i)) (h8 : ∀ i, IsR (x8 i)) (h9 : ∀ i, IsR (x9 i)) (k : Fin 2048) :
    IsR (hrow x0 x1 x2 x3 x4 x5 x6 x7 x8 x9 b p k) := by
  have ha : ∀ k, IsR (att x0 x1 x2 x3 b p k) := fun k =>
    (((IsR.sum fun j => (h0 _).mul (h3 _)).add (IsR.sum fun j => (h1 _).mul (h3 _))).add (IsR.sum fun j => (h2 _).mul (h3 _)))
  have hr : ∀ k, IsR (rrow x0 x1 x2 x3 x4 x5 b p k) := fun k => (alpha_isR.mul (h4 _)).add ((IsR.one.add (h5 _)).mul (ha k))
  exact ((norm_isR hr (fun _ => h6 _) (fun _ => h7 _) k).mul (IsR.one.add (h8 _))).add (h9 _)

end reference

open Cert.Kernel8Ideal Cert.Kernel8Ideal.Gen

/-- The residual block at an index. -/
theorem pay3_at (oa : FVec Ideal S1x256x768 .bf16) (wa : FVec Ideal S1x768x2048 .bf16) (ob : FVec Ideal S1x256x640 .bf16)
    (wb : FVec Ideal S1x640x2048 .bf16) (oc : FVec Ideal S1x256x640 .bf16) (wc : FVec Ideal S1x640x2048 .bf16) (x : FVec Ideal S1x256x2048 .f32)
    (g : FVec Ideal S1x1x2048 .f32) (r : Fin 256) (k : Fin 2048) :
    (k0_pay3 (F := Ideal) oa wa ob wb oc wc x g (ix2 r k) : EReal)
      = res (fun k => x (ix3 0 r k)) (fun k => g (ix3 0 0 k)) (fun k =>
        (∑ j : Fin 768, (oa (ix3 0 r j) : EReal) * (wa (ix3 0 j k) : EReal) + ∑ j : Fin 640, (ob (ix3 0 r j) : EReal) * (wb (ix3 0 j k) : EReal))
          + ∑ j : Fin 640, (oc (ix3 0 r j) : EReal) * (wc (ix3 0 j k) : EReal)) k := by
  unfold res
  pointwise [k0_pay3]

/-- The normalized block at an index. -/
theorem pay4_at (z : FVec Ideal S256x2048 .f32) (lg lb : FVec Ideal S1x1x2048 .f32) (r : Fin 256) (k : Fin 2048) :
    (k0_pay4 (F := Ideal) z lg lb (ix2 r k) : EReal)
      = norm (fun k => z (ix2 r k)) (fun k => lg (ix3 0 0 k)) (fun k => lb (ix3 0 0 k)) k := by
  unfold Cert.OutMath.norm mean
  pointwise [k0_pay4]

/-- The first result's block at an index. -/
theorem pay5_at (z : FVec Ideal S256x2048 .f32) (lg lb : FVec Ideal S1x1x2048 .f32) (r : Fin 256) (k : Fin 2048) :
    (k0_pay5 (F := Ideal) z lg lb (ix3 0 r k) : EReal)
      = norm (fun k => z (ix2 r k)) (fun k => lg (ix3 0 0 k)) (fun k => lb (ix3 0 0 k)) k := by
  rw [← pay4_at]
  pointwise [k0_pay5]

/-- The modulated block at an index. -/
theorem pay6_at (z : FVec Ideal S256x2048 .f32) (lg lb sc sh : FVec Ideal S1x1x2048 .f32) (r : Fin 256) (k : Fin 2048) :
    (k0_pay6 (F := Ideal) z lg lb sc sh (ix2 r k) : EReal)
      = norm (fun k => z (ix2 r k)) (fun k => lg (ix3 0 0 k)) (fun k => lb (ix3 0 0 k)) k * (1 + (sc (ix3 0 0 k) : EReal)) + (sh (ix3 0 0 k) : EReal) := by
  rw [← pay4_at]
  pointwise [k0_pay6]

/-- The second result's block at an index. -/
theorem pay1_at (h : FVec Ideal S256x2048 .f32) (r : Fin 256) (k : Fin 2048) :
    (k0_pay1 (F := Ideal) h (ix3 0 r k) : EReal) = h (ix2 r k) := by
  pointwise [k0_pay1]

/-- The third result's block at an index, where the modulated row and the router's column are real: the low parts vanish. -/
theorem pay2_at (h : FVec Ideal S256x2048 .f32) (w : FVec Ideal S1x2048x32 .f32) (b : FVec Ideal S1x1x32 .f32) (r : Fin 256) (e : Fin 32)
    (hh : ∀ k, IsR (h (ix2 r k))) (hw : ∀ k, IsR (w (ix3 0 k e))) :
    (k0_pay2 (F := Ideal) h w b (ix3 0 r e) : EReal)
      = ∑ k : Fin 2048, (h (ix2 r k) : EReal) * (w (ix3 0 k e) : EReal) + (b (ix3 0 0 e) : EReal) := by
  have e1 : ∑ k : Fin 2048, (h (ix2 r k) : EReal) * ((w (ix3 0 k e) : EReal) - (w (ix3 0 k e) : EReal)) = 0 :=
    Finset.sum_eq_zero fun k _ => by rw [(hw k).sub_self, mul_zero]
  have e2 : ∑ k : Fin 2048, ((h (ix2 r k) : EReal) - (h (ix2 r k) : EReal)) * (w (ix3 0 k e) : EReal) = 0 :=
    Finset.sum_eq_zero fun k _ => by rw [(hh k).sub_self, zero_mul]
  have e3 : (k0_pay2 (F := Ideal) h w b (ix3 0 r e) : EReal)
      = ((∑ k : Fin 2048, (h (ix2 r k) : EReal) * (w (ix3 0 k e) : EReal)
          + ∑ k : Fin 2048, (h (ix2 r k) : EReal) * ((w (ix3 0 k e) : EReal) - (w (ix3 0 k e) : EReal)))
          + ∑ k : Fin 2048, ((h (ix2 r k) : EReal) - (h (ix2 r k) : EReal)) * (w (ix3 0 k e) : EReal)) + (b (ix3 0 0 e) : EReal) := by
    pointwise [k0_pay2]
  rw [e3, e1, e2, add_zero, add_zero]

-- The memory the run starts from.
variable (m : (ℓ : Loc nD τ sig) → Buf (Elt Ideal) ℓ)

/-- The windows' index maps. -/
theorem idx : ∀ t : Fin cfg0.N, win0_0.index t = ![t.val / 16, t.val % 16, 0]
    ∧ win0_1.index t = ![t.val / 16, t.val % 16, 0] ∧ win0_2.index t = ![t.val / 16, t.val % 16, 0]
    ∧ win0_3.index t = ![0, 0, 0] ∧ win0_4.index t = ![t.val / 16, t.val % 16, 0]
    ∧ win0_5.index t = ![t.val / 16, 0, 0] ∧ win0_6.index t = ![0, 0, 0] ∧ win0_7.index t = ![0, 0, 0]
    ∧ win0_8.index t = ![t.val / 16, 0, 0] ∧ win0_9.index t = ![t.val / 16, 0, 0]
    ∧ win0_10.index t = ![0, 0, 0] ∧ win0_11.index t = ![0, 0, 0]
    ∧ win0_12.index t = ![t.val / 16, t.val % 16, 0] ∧ win0_13.index t = ![t.val / 16, t.val % 16, 0]
    ∧ win0_14.index t = ![t.val / 16, t.val % 16, 0] :=
  (by decide +kernel : ∀ t : Fin grid0.N, _)

/-- The first heads' block at an index. -/
theorem blk0_at (c : Dev nD) (t : Fin cfg0.N) (r : Fin 256) (k : Fin 768) (b : Fin 2) (hb : b.val = t.val / 16)
    (p : Fin 4096) (hp : p.val = 256 * (t.val % 16) + r.val) :
    (iblk m c 0 t : FVec Ideal S1x256x768 .bf16) (ix3 0 r k) = (m (c.tc.loc main_arg0) : FVec Ideal S2x4096x768 .bf16) (ix3 b p k) := by
  blk_ext [iblk, V, idx t]

/-- The second heads' block at an index. -/
theorem blk1_at (c : Dev nD) (t : Fin cfg0.N) (r : Fin 256) (k : Fin 640) (b : Fin 2) (hb : b.val = t.val / 16)
    (p : Fin 4096) (hp : p.val = 256 * (t.val % 16) + r.val) :
    (iblk m c 1 t : FVec Ideal S1x256x640 .bf16) (ix3 0 r k) = (m (c.tc.loc main_arg1) : FVec Ideal S2x4096x640 .bf16) (ix3 b p k) := by
  blk_ext [iblk, V, idx t]

/-- The third heads' block at an index. -/
theorem blk2_at (c : Dev nD) (t : Fin cfg0.N) (r : Fin 256) (k : Fin 640) (b : Fin 2) (hb : b.val = t.val / 16)
    (p : Fin 4096) (hp : p.val = 256 * (t.val % 16) + r.val) :
    (iblk m c 2 t : FVec Ideal S1x256x640 .bf16) (ix3 0 r k) = (m (c.tc.loc main_arg2) : FVec Ideal S2x4096x640 .bf16) (ix3 b p k) := by
  blk_ext [iblk, V, idx t]

/-- The matrix's block at an index. -/
theorem blk3_at (c : Dev nD) (t : Fin cfg0.N) (j k : Fin 2048) :
    (iblk m c 3 t : FVec Ideal S1x2048x2048 .bf16) (ix3 0 j k) = (m (c.tc.loc main_arg3) : FVec Ideal S2x2048x2048 .bf16) (ix3 0 j k) := by
  blk_ext [iblk, V, idx t]

/-- The residual stream's block at an index. -/
theorem blk4_at (c : Dev nD) (t : Fin cfg0.N) (r : Fin 256) (k : Fin 2048) (b : Fin 2) (hb : b.val = t.val / 16)
    (p : Fin 4096) (hp : p.val = 256 * (t.val % 16) + r.val) :
    (iblk m c 4 t : FVec Ideal S1x256x2048 .f32) (ix3 0 r k) = (m (c.tc.loc main_arg4) : FVec Ideal S2x4096x2048 .f32) (ix3 b p k) := by
  blk_ext [iblk, V, idx t]

/-- The gate's block at an index. -/
theorem blk5_at (c : Dev nD) (t : Fin cfg0.N) (k : Fin 2048) (b : Fin 2) (hb : b.val = t.val / 16) :
    (iblk m c 5 t : FVec Ideal S1x1x2048 .f32) (ix3 0 0 k) = (m (c.tc.loc main_arg5) : FVec Ideal S2x1x2048 .f32) (ix3 b 0 k) := by
  blk_ext [iblk, V, idx t]

/-- The gain's block at an index. -/
theorem blk6_at (c : Dev nD) (t : Fin cfg0.N) (k : Fin 2048) :
    (iblk m c 6 t : FVec Ideal S1x1x2048 .f32) (ix3 0 0 k) = (m (c.tc.loc main_arg6) : FVec Ideal S2x1x2048 .f32) (ix3 0 0 k) := by
  blk_ext [iblk, V, idx t]

/-- The bias's block at an index. -/
theorem blk7_at (c : Dev nD) (t : Fin cfg0.N) (k : Fin 2048) :
    (iblk m c 7 t : FVec Ideal S1x1x2048 .f32) (ix3 0 0 k) = (m (c.tc.loc main_arg7) : FVec Ideal S2x1x2048 .f32) (ix3 0 0 k) := by
  blk_ext [iblk, V, idx t]

/-- The scale's block at an index. -/
theorem blk8_at (c : Dev nD) (t : Fin cfg0.N) (k : Fin 2048) (b : Fin 2) (hb : b.val = t.val / 16) :
    (iblk m c 8 t : FVec Ideal S1x1x2048 .f32) (ix3 0 0 k) = (m (c.tc.loc main_arg8) : FVec Ideal S2x1x2048 .f32) (ix3 b 0 k) := by
  blk_ext [iblk, V, idx t]

/-- The shift's block at an index. -/
theorem blk9_at (c : Dev nD) (t : Fin cfg0.N) (k : Fin 2048) (b : Fin 2) (hb : b.val = t.val / 16) :
    (iblk m c 9 t : FVec Ideal S1x1x2048 .f32) (ix3 0 0 k) = (m (c.tc.loc main_arg9) : FVec Ideal S2x1x2048 .f32) (ix3 b 0 k) := by
  blk_ext [iblk, V, idx t]

/-- The router's block at an index. -/
theorem blk10_at (c : Dev nD) (t : Fin cfg0.N) (k : Fin 2048) (e : Fin 32) :
    (iblk m c 10 t : FVec Ideal S1x2048x32 .f32) (ix3 0 k e) = (m (c.tc.loc main_arg10) : FVec Ideal S2x2048x32 .f32) (ix3 0 k e) := by
  blk_ext [iblk, V, idx t]

/-- The router's bias block at an index. -/
theorem blk11_at (c : Dev nD) (t : Fin cfg0.N) (e : Fin 32) :
    (iblk m c 11 t : FVec Ideal S1x1x32 .f32) (ix3 0 0 e) = (m (c.tc.loc main_arg11) : FVec Ideal S2x1x32 .f32) (ix3 0 0 e) := by
  blk_ext [iblk, V, idx t]

/-- The residual block's arithmetic takes the matrix in its three parts of rows. -/
theorem pay7_at (x0 : Vec Ideal S1x256x768 .bf16) (x1 x2 : Vec Ideal S1x256x640 .bf16) (x3 : Vec Ideal S1x2048x2048 .bf16) (x4 : Vec Ideal S1x256x2048 .f32)
    (x5 x6 x7 x8 x9 : Vec Ideal S1x1x2048 .f32) (x10 : Vec Ideal S1x2048x32 .f32) (x11 : Vec Ideal S1x1x32 .f32)
    (r : Fin 256) (k : Fin 2048) :
    (k0_pay7 (F := Ideal) x0 x1 x2 x3 x4 x5 x6 x7 x8 x9 x10 x11 (ix2 r k) : EReal)
      = res (fun k => x4 (ix3 0 r k)) (fun k => x5 (ix3 0 0 k)) (fun k =>
        (∑ j : Fin 768, (x0 (ix3 0 r j) : EReal) * (x3 (ix3 0 ⟨j.val, by omega⟩ k) : EReal)
          + ∑ j : Fin 640, (x1 (ix3 0 r j) : EReal) * (x3 (ix3 0 ⟨768 + j.val, by omega⟩ k) : EReal))
          + ∑ j : Fin 640, (x2 (ix3 0 r j) : EReal) * (x3 (ix3 0 ⟨1408 + j.val, by omega⟩ k) : EReal)) k := by
  unfold k0_pay7
  refine (pay3_at _ _ _ _ _ _ _ _ r k).trans ?_
  pointwise

/-- The modulated block at an index, by the residual block. -/
theorem pay8_at (x0 : Vec Ideal S1x256x768 .bf16) (x1 x2 : Vec Ideal S1x256x640 .bf16) (x3 : Vec Ideal S1x2048x2048 .bf16) (x4 : Vec Ideal S1x256x2048 .f32)
    (x5 x6 x7 x8 x9 : Vec Ideal S1x1x2048 .f32) (x10 : Vec Ideal S1x2048x32 .f32) (x11 : Vec Ideal S1x1x32 .f32)
    (r : Fin 256) (k : Fin 2048) :
    (k0_pay8 (F := Ideal) x0 x1 x2 x3 x4 x5 x6 x7 x8 x9 x10 x11 (ix2 r k) : EReal)
      = norm (fun k => k0_pay7 (F := Ideal) x0 x1 x2 x3 x4 x5 x6 x7 x8 x9 x10 x11 (ix2 r k))
        (fun k => x6 (ix3 0 0 k)) (fun k => x7 (ix3 0 0 k)) k * (1 + (x8 (ix3 0 0 k) : EReal)) + (x9 (ix3 0 0 k) : EReal) := by
  unfold k0_pay8
  refine (pay6_at _ _ _ _ _ r k).trans ?_
  pointwise

/-- The residual block of point `t` is the residual row. -/
theorem z_at (c : Dev nD) (t : Fin cfg0.N) (r : Fin 256) (k : Fin 2048) (b : Fin 2) (hb : b.val = t.val / 16)
    (p : Fin 4096) (hp : p.val = 256 * (t.val % 16) + r.val) :
    (k0_pay7 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (ix2 r k) : EReal)
      = rrow (m (c.tc.loc main_arg0)) (m (c.tc.loc main_arg1)) (m (c.tc.loc main_arg2))
        (m (c.tc.loc main_arg3)) (m (c.tc.loc main_arg4)) (m (c.tc.loc main_arg5)) b p k := by
  refine (pay7_at _ _ _ _ _ _ _ _ _ _ _ _ r k).trans ?_
  unfold rrow res att
  beta_reduce
  rw [blk4_at m c t r k b hb p hp, blk5_at m c t k b hb]
  refine congrArg₂ (fun a b : EReal => a + b) rfl (congrArg₂ (fun a b : EReal => a * b) rfl ?_)
  refine congrArg₂ (fun a b : EReal => a + b) (congrArg₂ (fun a b : EReal => a + b) ?_ ?_) ?_
  · exact Finset.sum_congr rfl fun j _ => congrArg₂ (fun a b : EReal => a * b) (blk0_at m c t r j b hb p hp) (blk3_at m c t _ k)
  · exact Finset.sum_congr rfl fun j _ => congrArg₂ (fun a b : EReal => a * b) (blk1_at m c t r j b hb p hp) (blk3_at m c t _ k)
  · exact Finset.sum_congr rfl fun j _ => congrArg₂ (fun a b : EReal => a * b) (blk2_at m c t r j b hb p hp) (blk3_at m c t _ k)

/-- The modulated block of point `t` is the modulated row. -/
theorem h_at (c : Dev nD) (t : Fin cfg0.N) (r : Fin 256) (k : Fin 2048) (b : Fin 2) (hb : b.val = t.val / 16)
    (p : Fin 4096) (hp : p.val = 256 * (t.val % 16) + r.val) :
    (k0_pay8 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (ix2 r k) : EReal)
      = hrow (m (c.tc.loc main_arg0)) (m (c.tc.loc main_arg1)) (m (c.tc.loc main_arg2))
        (m (c.tc.loc main_arg3)) (m (c.tc.loc main_arg4)) (m (c.tc.loc main_arg5))
        (m (c.tc.loc main_arg6)) (m (c.tc.loc main_arg7)) (m (c.tc.loc main_arg8))
        (m (c.tc.loc main_arg9)) b p k := by
  refine (pay8_at _ _ _ _ _ _ _ _ _ _ _ _ r k).trans ?_
  unfold hrow nrow
  beta_reduce
  rw [blk8_at m c t k b hb, blk9_at m c t k b hb]
  simp only [blk6_at m c t, blk7_at m c t, fun k => z_at m c t r k b hb p hp]

/-- What the body leaves in the first result's block at `y` of point `t` is the reference's first result where `y` sits. -/
theorem point12 (c : Dev nD) (t : Fin cfg0.N) (y : S1x256x2048.Idx) (j : S2x4096x2048.Idx) (hj0 : (j 0 : ℕ) = t.val / 16)
    (hj1 : (j 1 : ℕ) = 256 * (t.val % 16) + (y 1).val) (hj2 : (j 2 : ℕ) = (y 2).val) :
    (k0_pay5 (k0_pay7 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t))
      (iblk m c 6 t) (iblk m c 7 t) y : EReal)
    = Cert.Reference8Ideal.Read.val_main_v42 (F := Ideal) (m (c.tc.loc main_arg0)) (m (c.tc.loc main_arg1)) (m (c.tc.loc main_arg2))
        (m (c.tc.loc main_arg3)) (m (c.tc.loc main_arg4)) (m (c.tc.loc main_arg5))
        (m (c.tc.loc main_arg6)) (m (c.tc.loc main_arg7)) j := by
  obtain ⟨r, k, rfl⟩ : ∃ (r : Fin 256) (k : Fin 2048), y = ix3 0 r k :=
    ⟨y 1, y 2, funext fun a => match a with
      | ⟨0, _⟩ => Subsingleton.elim (α := Fin 1) _ _
      | ⟨1, _⟩ => rfl
      | ⟨2, _⟩ => rfl⟩
  obtain ⟨b, p, n, rfl⟩ : ∃ (b : Fin 2) (p : Fin 4096) (n : Fin 2048), j = ix3 b p n :=
    ⟨j 0, j 1, j 2, funext fun a => match a with | ⟨0, _⟩ => rfl | ⟨1, _⟩ => rfl | ⟨2, _⟩ => rfl⟩
  replace hj0 : b.val = t.val / 16 := hj0
  replace hj1 : p.val = 256 * (t.val % 16) + r.val := hj1
  obtain rfl : n = k := Fin.ext hj2
  refine Eq.trans ?_ (v42_at _ _ _ _ _ _ _ _ b p n).symm
  refine (pay5_at _ _ _ r n).trans ?_
  unfold nrow
  simp only [blk6_at m c t, blk7_at m c t, fun k => z_at m c t r k b hj0 p hj1]

/-- What the body leaves in the second result's block at `y` of point `t` is the reference's second result where `y` sits. -/
theorem point13 (c : Dev nD) (t : Fin cfg0.N) (y : S1x256x2048.Idx) (j : S2x4096x2048.Idx) (hj0 : (j 0 : ℕ) = t.val / 16)
    (hj1 : (j 1 : ℕ) = 256 * (t.val % 16) + (y 1).val) (hj2 : (j 2 : ℕ) = (y 2).val) :
    (k0_pay1 (k0_pay8 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t)) y : EReal)
    = Cert.Reference8Ideal.Read.val_main_v48 (F := Ideal) (m (c.tc.loc main_arg0)) (m (c.tc.loc main_arg1)) (m (c.tc.loc main_arg2))
        (m (c.tc.loc main_arg3)) (m (c.tc.loc main_arg4)) (m (c.tc.loc main_arg5))
        (m (c.tc.loc main_arg6)) (m (c.tc.loc main_arg7)) (m (c.tc.loc main_arg8))
        (m (c.tc.loc main_arg9)) j := by
  obtain ⟨r, k, rfl⟩ : ∃ (r : Fin 256) (k : Fin 2048), y = ix3 0 r k :=
    ⟨y 1, y 2, funext fun a => match a with
      | ⟨0, _⟩ => Subsingleton.elim (α := Fin 1) _ _
      | ⟨1, _⟩ => rfl
      | ⟨2, _⟩ => rfl⟩
  obtain ⟨b, p, n, rfl⟩ : ∃ (b : Fin 2) (p : Fin 4096) (n : Fin 2048), j = ix3 b p n :=
    ⟨j 0, j 1, j 2, funext fun a => match a with | ⟨0, _⟩ => rfl | ⟨1, _⟩ => rfl | ⟨2, _⟩ => rfl⟩
  replace hj0 : b.val = t.val / 16 := hj0
  replace hj1 : p.val = 256 * (t.val % 16) + r.val := hj1
  obtain rfl : n = k := Fin.ext hj2
  refine Eq.trans ?_ (v48_at _ _ _ _ _ _ _ _ _ _ b p n).symm
  exact (pay1_at _ r n).trans (h_at m c t r n b hj0 p hj1)

/-- What the body leaves in the third result's block at `y` of point `t` is, on real arguments, the reference's third result
    where `y` sits. -/
theorem point14 (c : Dev nD)
    (f0 : ∀ i, IsR ((m (c.tc.loc main_arg0) : FVec Ideal S2x4096x768 .bf16) i))
    (f1 : ∀ i, IsR ((m (c.tc.loc main_arg1) : FVec Ideal S2x4096x640 .bf16) i))
    (f2 : ∀ i, IsR ((m (c.tc.loc main_arg2) : FVec Ideal S2x4096x640 .bf16) i))
    (f3 : ∀ i, IsR ((m (c.tc.loc main_arg3) : FVec Ideal S2x2048x2048 .bf16) i))
    (f4 : ∀ i, IsR ((m (c.tc.loc main_arg4) : FVec Ideal S2x4096x2048 .f32) i))
    (f5 : ∀ i, IsR ((m (c.tc.loc main_arg5) : FVec Ideal S2x1x2048 .f32) i))
    (f6 : ∀ i, IsR ((m (c.tc.loc main_arg6) : FVec Ideal S2x1x2048 .f32) i))
    (f7 : ∀ i, IsR ((m (c.tc.loc main_arg7) : FVec Ideal S2x1x2048 .f32) i))
    (f8 : ∀ i, IsR ((m (c.tc.loc main_arg8) : FVec Ideal S2x1x2048 .f32) i))
    (f9 : ∀ i, IsR ((m (c.tc.loc main_arg9) : FVec Ideal S2x1x2048 .f32) i))
    (f10 : ∀ i, IsR ((m (c.tc.loc main_arg10) : FVec Ideal S2x2048x32 .f32) i))
    (t : Fin cfg0.N) (y : S1x256x32.Idx) (j : S2x4096x32.Idx) (hj0 : (j 0 : ℕ) = t.val / 16)
    (hj1 : (j 1 : ℕ) = 256 * (t.val % 16) + (y 1).val) (hj2 : (j 2 : ℕ) = (y 2).val) :
    (k0_pay2 (k0_pay8 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t))
      (iblk m c 10 t) (iblk m c 11 t) y : EReal)
    = Cert.Reference8Ideal.Read.val_main_v56 (F := Ideal) (m (c.tc.loc main_arg0)) (m (c.tc.loc main_arg1)) (m (c.tc.loc main_arg2))
        (m (c.tc.loc main_arg3)) (m (c.tc.loc main_arg4)) (m (c.tc.loc main_arg5))
        (m (c.tc.loc main_arg6)) (m (c.tc.loc main_arg7)) (m (c.tc.loc main_arg8))
        (m (c.tc.loc main_arg9)) (m (c.tc.loc main_arg10)) (m (c.tc.loc main_arg11)) j := by
  obtain ⟨r, k, rfl⟩ : ∃ (r : Fin 256) (k : Fin 32), y = ix3 0 r k :=
    ⟨y 1, y 2, funext fun a => match a with
      | ⟨0, _⟩ => Subsingleton.elim (α := Fin 1) _ _
      | ⟨1, _⟩ => rfl
      | ⟨2, _⟩ => rfl⟩
  obtain ⟨b, p, n, rfl⟩ : ∃ (b : Fin 2) (p : Fin 4096) (n : Fin 32), j = ix3 b p n :=
    ⟨j 0, j 1, j 2, funext fun a => match a with | ⟨0, _⟩ => rfl | ⟨1, _⟩ => rfl | ⟨2, _⟩ => rfl⟩
  replace hj0 : b.val = t.val / 16 := hj0
  replace hj1 : p.val = 256 * (t.val % 16) + r.val := hj1
  obtain rfl : n = k := Fin.ext hj2
  refine Eq.trans ?_ (v56_at _ _ _ _ _ _ _ _ _ _ _ _ b p n).symm
  refine (pay2_at _ _ _ r n (fun k => ?_) (fun k => ?_)).trans ?_
  · rw [h_at m c t r k b hj0 p hj1]
    exact hrow_isR _ _ _ _ _ _ _ _ _ _ b p f0 f1 f2 f3 f4 f5 f6 f7 f8 f9 k
  · rw [blk10_at m c t k n]
    exact f10 _
  · simp only [blk10_at m c t, blk11_at m c t, fun k => h_at m c t r k b hj0 p hj1]

/-- The first result array after the run is the reference's. -/
theorem final12 (c : Dev nD) : (dats m 0 c).arrAt 12 cfg0.N
    = Cert.Reference8Ideal.Read.val_main_v42 (F := Ideal) (m (c.tc.loc main_arg0)) (m (c.tc.loc main_arg1)) (m (c.tc.loc main_arg2))
        (m (c.tc.loc main_arg3)) (m (c.tc.loc main_arg4)) (m (c.tc.loc main_arg5))
        (m (c.tc.loc main_arg6)) (m (c.tc.loc main_arg7)) := by
  refine (dats m 0 c).arrAt_eq_of_covers 12 _ (by decide +kernel) fun t hf y => ?_
  blk_simp
  rw [after0_12]
  frame_out
  refine point12 m c t y _ ?_ ?_ ?_
  all_goals (blk_simp [idx t] <;> try omega)

/-- The second result array after the run is the reference's. -/
theorem final13 (c : Dev nD) : (dats m 0 c).arrAt 13 cfg0.N
    = Cert.Reference8Ideal.Read.val_main_v48 (F := Ideal) (m (c.tc.loc main_arg0)) (m (c.tc.loc main_arg1)) (m (c.tc.loc main_arg2))
        (m (c.tc.loc main_arg3)) (m (c.tc.loc main_arg4)) (m (c.tc.loc main_arg5))
        (m (c.tc.loc main_arg6)) (m (c.tc.loc main_arg7)) (m (c.tc.loc main_arg8))
        (m (c.tc.loc main_arg9)) := by
  refine (dats m 0 c).arrAt_eq_of_covers 13 _ (by decide +kernel) fun t hf y => ?_
  blk_simp
  rw [after0_13]
  frame_out
  refine point13 m c t y _ ?_ ?_ ?_
  all_goals (blk_simp [idx t] <;> try omega)

/-- The third result array after the run is, on real arguments, the reference's. -/
theorem final14 (c : Dev nD)
    (f0 : ∀ i, IsR ((m (c.tc.loc main_arg0) : FVec Ideal S2x4096x768 .bf16) i))
    (f1 : ∀ i, IsR ((m (c.tc.loc main_arg1) : FVec Ideal S2x4096x640 .bf16) i))
    (f2 : ∀ i, IsR ((m (c.tc.loc main_arg2) : FVec Ideal S2x4096x640 .bf16) i))
    (f3 : ∀ i, IsR ((m (c.tc.loc main_arg3) : FVec Ideal S2x2048x2048 .bf16) i))
    (f4 : ∀ i, IsR ((m (c.tc.loc main_arg4) : FVec Ideal S2x4096x2048 .f32) i))
    (f5 : ∀ i, IsR ((m (c.tc.loc main_arg5) : FVec Ideal S2x1x2048 .f32) i))
    (f6 : ∀ i, IsR ((m (c.tc.loc main_arg6) : FVec Ideal S2x1x2048 .f32) i))
    (f7 : ∀ i, IsR ((m (c.tc.loc main_arg7) : FVec Ideal S2x1x2048 .f32) i))
    (f8 : ∀ i, IsR ((m (c.tc.loc main_arg8) : FVec Ideal S2x1x2048 .f32) i))
    (f9 : ∀ i, IsR ((m (c.tc.loc main_arg9) : FVec Ideal S2x1x2048 .f32) i))
    (f10 : ∀ i, IsR ((m (c.tc.loc main_arg10) : FVec Ideal S2x2048x32 .f32) i)) :
    (dats m 0 c).arrAt 14 cfg0.N
    = Cert.Reference8Ideal.Read.val_main_v56 (F := Ideal) (m (c.tc.loc main_arg0)) (m (c.tc.loc main_arg1)) (m (c.tc.loc main_arg2))
        (m (c.tc.loc main_arg3)) (m (c.tc.loc main_arg4)) (m (c.tc.loc main_arg5))
        (m (c.tc.loc main_arg6)) (m (c.tc.loc main_arg7)) (m (c.tc.loc main_arg8))
        (m (c.tc.loc main_arg9)) (m (c.tc.loc main_arg10)) (m (c.tc.loc main_arg11)) := by
  refine (dats m 0 c).arrAt_eq_of_covers 14 _ (by decide +kernel) fun t hf y => ?_
  blk_simp
  rw [after0_14]
  frame_out
  refine point14 m c f0 f1 f2 f3 f4 f5 f6 f7 f8 f9 f10 t y _ ?_ ?_ ?_
  all_goals (blk_simp [idx t] <;> try omega)

end Cert.Out

end
-- ==== Proof.Out1.lean ====
/- The output projection of layer 1: the kernel's three result arrays are the reference's. -/
module

public import proofs.«01_k».proof.Proof.OutMath
public import proofs.«01_k».proof.Proof.Gen.Kernel9Ideal.Value
public import proofs.«01_k».proof.Proof.Gen.Reference9Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Out1

open Cert.OutMath

section reference

open Cert.Reference9Ideal.Read

-- The reference's arguments and an index.
variable (x0 : FVec Ideal ⟨3, ![2, 4096, 768]⟩ .bf16) (x1 x2 : FVec Ideal ⟨3, ![2, 4096, 640]⟩ .bf16) (x3 : FVec Ideal ⟨3, ![2, 2048, 2048]⟩ .bf16)
  (x4 : FVec Ideal ⟨3, ![2, 4096, 2048]⟩ .f32) (x5 x6 x7 x8 x9 : FVec Ideal ⟨3, ![2, 1, 2048]⟩ .f32) (x10 : FVec Ideal ⟨3, ![2, 2048, 32]⟩ .f32)
  (x11 : FVec Ideal ⟨3, ![2, 1, 32]⟩ .f32) (b : Fin 2) (p : Fin 4096)

/-- The attention's row at an index: the three heads' products with their parts of layer 1's matrix, added. -/
def att (k : Fin 2048) : EReal :=
  (∑ j : Fin 768, (x0 (ix3 b p j) : EReal) * (x3 (ix3 1 ⟨j.val, by omega⟩ k) : EReal)
    + ∑ j : Fin 640, (x1 (ix3 b p j) : EReal) * (x3 (ix3 1 ⟨768 + j.val, by omega⟩ k) : EReal))
    + ∑ j : Fin 640, (x2 (ix3 b p j) : EReal) * (x3 (ix3 1 ⟨1408 + j.val, by omega⟩ k) : EReal)

/-- The residual row at an index. -/
def rrow (k : Fin 2048) : EReal :=
  res (fun k => x4 (ix3 b p k)) (fun k => x5 (ix3 b 0 k)) (att x0 x1 x2 x3 b p) k

/-- The normalized row at an index. -/
def nrow (k : Fin 2048) : EReal :=
  norm (rrow x0 x1 x2 x3 x4 x5 b p) (fun k => x6 (ix3 1 0 k)) (fun k => x7 (ix3 1 0 k)) k

/-- The modulated row at an index. -/
def hrow (k : Fin 2048) : EReal :=
  nrow x0 x1 x2 x3 x4 x5 x6 x7 b p k * (1 + (x8 (ix3 b 0 k) : EReal)) + (x9 (ix3 b 0 k) : EReal)

/-- The reference's product of the concatenated heads is the sum of the three heads' products. -/
theorem v7_at (k : Fin 2048) : (val_main_v7 (F := Ideal) x0 x1 x2 x3 (ix3 b p k) : EReal) = att x0 x1 x2 x3 b p k := by
  pointwise [val_main_v7, val_main_v6, val_main_v5, val_main_v4, val_main_v3, val_main_v2, val_main_v1, val_main_v0]
  refine (sum_cut _).trans ?_
  unfold att
  refine congrArg₂ (fun a b : EReal => a + b) (congrArg₂ (fun a b : EReal => a + b) ?_ ?_) ?_
  · refine Finset.sum_congr rfl fun j _ => congrArg₂ (fun a b : EReal => a * b) ?_ rfl
    exact dif_pos j.isLt
  · refine Finset.sum_congr rfl fun j _ => congrArg₂ (fun a b : EReal => a * b) ?_ rfl
    have hj := j.isLt
    refine (dif_neg (show ¬768 + j.val < 768 by omega)).trans ((dif_pos (show 768 + j.val - 768 < 640 by omega)).trans ?_)
    exact congrArg (fun q : Fin 640 => (x1 (ix3 b p q) : EReal)) (Fin.ext (show 768 + j.val - 768 = j.val by omega))
  · refine Finset.sum_congr rfl fun j _ => congrArg₂ (fun a b : EReal => a * b) ?_ rfl
    have hj := j.isLt
    refine (dif_neg (show ¬1408 + j.val < 768 by omega)).trans ((dif_neg (show ¬1408 + j.val - 768 < 640 by omega)).trans ?_)
    exact congrArg (fun q : Fin 640 => (x2 (ix3 b p q) : EReal)) (Fin.ext (show 1408 + j.val - 768 - 640 = j.val by omega))

/-- The reference's residual at an index. -/
theorem v14_at (k : Fin 2048) : (val_main_v14 (F := Ideal) x0 x1 x2 x3 x4 x5 (ix3 b p k) : EReal) = rrow x0 x1 x2 x3 x4 x5 b p k := by
  unfold rrow res
  rw [← v7_at]
  pointwise [val_main_v14, val_main_v13, val_main_v12, val_main_v11, val_main_v10, val_main_v9, val_main_v8, val_main_cst, val_main_cst_0]

/-- The reference's first result at an index. -/
theorem v42_at (k : Fin 2048) : (val_main_v42 (F := Ideal) x0 x1 x2 x3 x4 x5 x6 x7 (ix3 b p k) : EReal)
    = nrow x0 x1 x2 x3 x4 x5 x6 x7 b p k := by
  unfold nrow
  rw [show rrow x0 x1 x2 x3 x4 x5 b p = fun k => (val_main_v14 (F := Ideal) x0 x1 x2 x3 x4 x5 (ix3 b p k) : EReal) from
    funext fun k => (v14_at x0 x1 x2 x3 x4 x5 b p k).symm]
  unfold Cert.OutMath.norm mean
  pointwise [val_main_v42, val_main_v41, val_main_v40, val_main_v39, val_main_v38, val_main_v37, val_main_v36, val_main_v35, val_main_v34,
    val_main_v33, val_main_v32, val_main_v31, val_main_v30, val_main_v29, val_main_v28, val_main_v27, val_main_v26, val_main_v25, val_main_v24,
    val_main_v23, val_main_v22, val_main_v21, val_main_v20, val_main_v19, val_main_v18, val_main_v17, val_main_v16, val_main_v15, val_main_cst_1,
    val_main_cst_2, val_main_cst_3, val_main_cst_4, val_main_cst_5]

/-- The reference's second result at an index. -/
theorem v48_at (k : Fin 2048) : (val_main_v48 (F := Ideal) x0 x1 x2 x3 x4 x5 x6 x7 x8 x9 (ix3 b p k) : EReal)
    = hrow x0 x1 x2 x3 x4 x5 x6 x7 x8 x9 b p k := by
  unfold hrow
  rw [← v42_at]
  pointwise [val_main_v48, val_main_v47, val_main_v46, val_main_v45, val_main_v44, val_main_v43, val_main_cst_6]

/-- The reference's third result at an index. -/
theorem v56_at (e : Fin 32) : (val_main_v56 (F := Ideal) x0 x1 x2 x3 x4 x5 x6 x7 x8 x9 x10 x11 (ix3 b p e) : EReal)
    = ∑ k : Fin 2048, hrow x0 x1 x2 x3 x4 x5 x6 x7 x8 x9 b p k * (x10 (ix3 1 k e) : EReal) + (x11 (ix3 1 0 e) : EReal) := by
  rw [show hrow x0 x1 x2 x3 x4 x5 x6 x7 x8 x9 b p
      = fun k => (val_main_v48 (F := Ideal) x0 x1 x2 x3 x4 x5 x6 x7 x8 x9 (ix3 b p k) : EReal) from
    funext fun k => (v48_at x0 x1 x2 x3 x4 x5 x6 x7 x8 x9 b p k).symm]
  pointwise [val_main_v56, val_main_v55, val_main_v54, val_main_v53, val_main_v52, val_main_v51, val_main_v50, val_main_v49]

/-- On real arguments the modulated row is a row of real numbers. -/
theorem hrow_isR (h0 : ∀ i, IsR (x0 i)) (h1 : ∀ i, IsR (x1 i)) (h2 : ∀ i, IsR (x2 i)) (h3 : ∀ i, IsR (x3 i)) (h4 : ∀ i, IsR (x4 i))
    (h5 : ∀ i, IsR (x5 i)) (h6 : ∀ i, IsR (x6 i)) (h7 : ∀ i, IsR (x7 i)) (h8 : ∀ i, IsR (x8 i)) (h9 : ∀ i, IsR (x9 i)) (k : Fin 2048) :
    IsR (hrow x0 x1 x2 x3 x4 x5 x6 x7 x8 x9 b p k) := by
  have ha : ∀ k, IsR (att x0 x1 x2 x3 b p k) := fun k =>
    (((IsR.sum fun j => (h0 _).mul (h3 _)).add (IsR.sum fun j => (h1 _).mul (h3 _))).add (IsR.sum fun j => (h2 _).mul (h3 _)))
  have hr : ∀ k, IsR (rrow x0 x1 x2 x3 x4 x5 b p k) := fun k => (alpha_isR.mul (h4 _)).add ((IsR.one.add (h5 _)).mul (ha k))
  exact ((norm_isR hr (fun _ => h6 _) (fun _ => h7 _) k).mul (IsR.one.add (h8 _))).add (h9 _)

end reference

open Cert.Kernel9Ideal Cert.Kernel9Ideal.Gen

/-- The residual block at an index. -/
theorem pay3_at (oa : FVec Ideal S1x256x768 .bf16) (wa : FVec Ideal S1x768x2048 .bf16) (ob : FVec Ideal S1x256x640 .bf16)
    (wb : FVec Ideal S1x640x2048 .bf16) (oc : FVec Ideal S1x256x640 .bf16) (wc : FVec Ideal S1x640x2048 .bf16) (x : FVec Ideal S1x256x2048 .f32)
    (g : FVec Ideal S1x1x2048 .f32) (r : Fin 256) (k : Fin 2048) :
    (k0_pay3 (F := Ideal) oa wa ob wb oc wc x g (ix2 r k) : EReal)
      = res (fun k => x (ix3 0 r k)) (fun k => g (ix3 0 0 k)) (fun k =>
        (∑ j : Fin 768, (oa (ix3 0 r j) : EReal) * (wa (ix3 0 j k) : EReal) + ∑ j : Fin 640, (ob (ix3 0 r j) : EReal) * (wb (ix3 0 j k) : EReal))
          + ∑ j : Fin 640, (oc (ix3 0 r j) : EReal) * (wc (ix3 0 j k) : EReal)) k := by
  unfold res
  pointwise [k0_pay3]

/-- The normalized block at an index. -/
theorem pay4_at (z : FVec Ideal S256x2048 .f32) (lg lb : FVec Ideal S1x1x2048 .f32) (r : Fin 256) (k : Fin 2048) :
    (k0_pay4 (F := Ideal) z lg lb (ix2 r k) : EReal)
      = norm (fun k => z (ix2 r k)) (fun k => lg (ix3 0 0 k)) (fun k => lb (ix3 0 0 k)) k := by
  unfold Cert.OutMath.norm mean
  pointwise [k0_pay4]

/-- The first result's block at an index. -/
theorem pay5_at (z : FVec Ideal S256x2048 .f32) (lg lb : FVec Ideal S1x1x2048 .f32) (r : Fin 256) (k : Fin 2048) :
    (k0_pay5 (F := Ideal) z lg lb (ix3 0 r k) : EReal)
      = norm (fun k => z (ix2 r k)) (fun k => lg (ix3 0 0 k)) (fun k => lb (ix3 0 0 k)) k := by
  rw [← pay4_at]
  pointwise [k0_pay5]

/-- The modulated block at an index. -/
theorem pay6_at (z : FVec Ideal S256x2048 .f32) (lg lb sc sh : FVec Ideal S1x1x2048 .f32) (r : Fin 256) (k : Fin 2048) :
    (k0_pay6 (F := Ideal) z lg lb sc sh (ix2 r k) : EReal)
      = norm (fun k => z (ix2 r k)) (fun k => lg (ix3 0 0 k)) (fun k => lb (ix3 0 0 k)) k * (1 + (sc (ix3 0 0 k) : EReal)) + (sh (ix3 0 0 k) : EReal) := by
  rw [← pay4_at]
  pointwise [k0_pay6]

/-- The second result's block at an index. -/
theorem pay1_at (h : FVec Ideal S256x2048 .f32) (r : Fin 256) (k : Fin 2048) :
    (k0_pay1 (F := Ideal) h (ix3 0 r k) : EReal) = h (ix2 r k) := by
  pointwise [k0_pay1]

/-- The third result's block at an index, where the modulated row and the router's column are real: the low parts vanish. -/
theorem pay2_at (h : FVec Ideal S256x2048 .f32) (w : FVec Ideal S1x2048x32 .f32) (b : FVec Ideal S1x1x32 .f32) (r : Fin 256) (e : Fin 32)
    (hh : ∀ k, IsR (h (ix2 r k))) (hw : ∀ k, IsR (w (ix3 0 k e))) :
    (k0_pay2 (F := Ideal) h w b (ix3 0 r e) : EReal)
      = ∑ k : Fin 2048, (h (ix2 r k) : EReal) * (w (ix3 0 k e) : EReal) + (b (ix3 0 0 e) : EReal) := by
  have e1 : ∑ k : Fin 2048, (h (ix2 r k) : EReal) * ((w (ix3 0 k e) : EReal) - (w (ix3 0 k e) : EReal)) = 0 :=
    Finset.sum_eq_zero fun k _ => by rw [(hw k).sub_self, mul_zero]
  have e2 : ∑ k : Fin 2048, ((h (ix2 r k) : EReal) - (h (ix2 r k) : EReal)) * (w (ix3 0 k e) : EReal) = 0 :=
    Finset.sum_eq_zero fun k _ => by rw [(hh k).sub_self, zero_mul]
  have e3 : (k0_pay2 (F := Ideal) h w b (ix3 0 r e) : EReal)
      = ((∑ k : Fin 2048, (h (ix2 r k) : EReal) * (w (ix3 0 k e) : EReal)
          + ∑ k : Fin 2048, (h (ix2 r k) : EReal) * ((w (ix3 0 k e) : EReal) - (w (ix3 0 k e) : EReal)))
          + ∑ k : Fin 2048, ((h (ix2 r k) : EReal) - (h (ix2 r k) : EReal)) * (w (ix3 0 k e) : EReal)) + (b (ix3 0 0 e) : EReal) := by
    pointwise [k0_pay2]
  rw [e3, e1, e2, add_zero, add_zero]

-- The memory the run starts from.
variable (m : (ℓ : Loc nD τ sig) → Buf (Elt Ideal) ℓ)

/-- The windows' index maps. -/
theorem idx : ∀ t : Fin cfg0.N, win0_0.index t = ![t.val / 16, t.val % 16, 0]
    ∧ win0_1.index t = ![t.val / 16, t.val % 16, 0] ∧ win0_2.index t = ![t.val / 16, t.val % 16, 0]
    ∧ win0_3.index t = ![1, 0, 0] ∧ win0_4.index t = ![t.val / 16, t.val % 16, 0]
    ∧ win0_5.index t = ![t.val / 16, 0, 0] ∧ win0_6.index t = ![1, 0, 0] ∧ win0_7.index t = ![1, 0, 0]
    ∧ win0_8.index t = ![t.val / 16, 0, 0] ∧ win0_9.index t = ![t.val / 16, 0, 0]
    ∧ win0_10.index t = ![1, 0, 0] ∧ win0_11.index t = ![1, 0, 0]
    ∧ win0_12.index t = ![t.val / 16, t.val % 16, 0] ∧ win0_13.index t = ![t.val / 16, t.val % 16, 0]
    ∧ win0_14.index t = ![t.val / 16, t.val % 16, 0] :=
  (by decide +kernel : ∀ t : Fin grid0.N, _)

/-- The first heads' block at an index. -/
theorem blk0_at (c : Dev nD) (t : Fin cfg0.N) (r : Fin 256) (k : Fin 768) (b : Fin 2) (hb : b.val = t.val / 16)
    (p : Fin 4096) (hp : p.val = 256 * (t.val % 16) + r.val) :
    (iblk m c 0 t : FVec Ideal S1x256x768 .bf16) (ix3 0 r k) = (m (c.tc.loc main_arg0) : FVec Ideal S2x4096x768 .bf16) (ix3 b p k) := by
  blk_ext [iblk, V, idx t]

/-- The second heads' block at an index. -/
theorem blk1_at (c : Dev nD) (t : Fin cfg0.N) (r : Fin 256) (k : Fin 640) (b : Fin 2) (hb : b.val = t.val / 16)
    (p : Fin 4096) (hp : p.val = 256 * (t.val % 16) + r.val) :
    (iblk m c 1 t : FVec Ideal S1x256x640 .bf16) (ix3 0 r k) = (m (c.tc.loc main_arg1) : FVec Ideal S2x4096x640 .bf16) (ix3 b p k) := by
  blk_ext [iblk, V, idx t]

/-- The third heads' block at an index. -/
theorem blk2_at (c : Dev nD) (t : Fin cfg0.N) (r : Fin 256) (k : Fin 640) (b : Fin 2) (hb : b.val = t.val / 16)
    (p : Fin 4096) (hp : p.val = 256 * (t.val % 16) + r.val) :
    (iblk m c 2 t : FVec Ideal S1x256x640 .bf16) (ix3 0 r k) = (m (c.tc.loc main_arg2) : FVec Ideal S2x4096x640 .bf16) (ix3 b p k) := by
  blk_ext [iblk, V, idx t]

/-- The matrix's block at an index. -/
theorem blk3_at (c : Dev nD) (t : Fin cfg0.N) (j k : Fin 2048) :
    (iblk m c 3 t : FVec Ideal S1x2048x2048 .bf16) (ix3 0 j k) = (m (c.tc.loc main_arg3) : FVec Ideal S2x2048x2048 .bf16) (ix3 1 j k) := by
  blk_ext [iblk, V, idx t]

/-- The residual stream's block at an index. -/
theorem blk4_at (c : Dev nD) (t : Fin cfg0.N) (r : Fin 256) (k : Fin 2048) (b : Fin 2) (hb : b.val = t.val / 16)
    (p : Fin 4096) (hp : p.val = 256 * (t.val % 16) + r.val) :
    (iblk m c 4 t : FVec Ideal S1x256x2048 .f32) (ix3 0 r k) = (m (c.tc.loc main_arg4) : FVec Ideal S2x4096x2048 .f32) (ix3 b p k) := by
  blk_ext [iblk, V, idx t]

/-- The gate's block at an index. -/
theorem blk5_at (c : Dev nD) (t : Fin cfg0.N) (k : Fin 2048) (b : Fin 2) (hb : b.val = t.val / 16) :
    (iblk m c 5 t : FVec Ideal S1x1x2048 .f32) (ix3 0 0 k) = (m (c.tc.loc main_arg5) : FVec Ideal S2x1x2048 .f32) (ix3 b 0 k) := by
  blk_ext [iblk, V, idx t]

/-- The gain's block at an index. -/
theorem blk6_at (c : Dev nD) (t : Fin cfg0.N) (k : Fin 2048) :
    (iblk m c 6 t : FVec Ideal S1x1x2048 .f32) (ix3 0 0 k) = (m (c.tc.loc main_arg6) : FVec Ideal S2x1x2048 .f32) (ix3 1 0 k) := by
  blk_ext [iblk, V, idx t]

/-- The bias's block at an index. -/
theorem blk7_at (c : Dev nD) (t : Fin cfg0.N) (k : Fin 2048) :
    (iblk m c 7 t : FVec Ideal S1x1x2048 .f32) (ix3 0 0 k) = (m (c.tc.loc main_arg7) : FVec Ideal S2x1x2048 .f32) (ix3 1 0 k) := by
  blk_ext [iblk, V, idx t]

/-- The scale's block at an index. -/
theorem blk8_at (c : Dev nD) (t : Fin cfg0.N) (k : Fin 2048) (b : Fin 2) (hb : b.val = t.val / 16) :
    (iblk m c 8 t : FVec Ideal S1x1x2048 .f32) (ix3 0 0 k) = (m (c.tc.loc main_arg8) : FVec Ideal S2x1x2048 .f32) (ix3 b 0 k) := by
  blk_ext [iblk, V, idx t]

/-- The shift's block at an index. -/
theorem blk9_at (c : Dev nD) (t : Fin cfg0.N) (k : Fin 2048) (b : Fin 2) (hb : b.val = t.val / 16) :
    (iblk m c 9 t : FVec Ideal S1x1x2048 .f32) (ix3 0 0 k) = (m (c.tc.loc main_arg9) : FVec Ideal S2x1x2048 .f32) (ix3 b 0 k) := by
  blk_ext [iblk, V, idx t]

/-- The router's block at an index. -/
theorem blk10_at (c : Dev nD) (t : Fin cfg0.N) (k : Fin 2048) (e : Fin 32) :
    (iblk m c 10 t : FVec Ideal S1x2048x32 .f32) (ix3 0 k e) = (m (c.tc.loc main_arg10) : FVec Ideal S2x2048x32 .f32) (ix3 1 k e) := by
  blk_ext [iblk, V, idx t]

/-- The router's bias block at an index. -/
theorem blk11_at (c : Dev nD) (t : Fin cfg0.N) (e : Fin 32) :
    (iblk m c 11 t : FVec Ideal S1x1x32 .f32) (ix3 0 0 e) = (m (c.tc.loc main_arg11) : FVec Ideal S2x1x32 .f32) (ix3 1 0 e) := by
  blk_ext [iblk, V, idx t]

/-- The residual block's arithmetic takes the matrix in its three parts of rows. -/
theorem pay7_at (x0 : Vec Ideal S1x256x768 .bf16) (x1 x2 : Vec Ideal S1x256x640 .bf16) (x3 : Vec Ideal S1x2048x2048 .bf16) (x4 : Vec Ideal S1x256x2048 .f32)
    (x5 x6 x7 x8 x9 : Vec Ideal S1x1x2048 .f32) (x10 : Vec Ideal S1x2048x32 .f32) (x11 : Vec Ideal S1x1x32 .f32)
    (r : Fin 256) (k : Fin 2048) :
    (k0_pay7 (F := Ideal) x0 x1 x2 x3 x4 x5 x6 x7 x8 x9 x10 x11 (ix2 r k) : EReal)
      = res (fun k => x4 (ix3 0 r k)) (fun k => x5 (ix3 0 0 k)) (fun k =>
        (∑ j : Fin 768, (x0 (ix3 0 r j) : EReal) * (x3 (ix3 0 ⟨j.val, by omega⟩ k) : EReal)
          + ∑ j : Fin 640, (x1 (ix3 0 r j) : EReal) * (x3 (ix3 0 ⟨768 + j.val, by omega⟩ k) : EReal))
          + ∑ j : Fin 640, (x2 (ix3 0 r j) : EReal) * (x3 (ix3 0 ⟨1408 + j.val, by omega⟩ k) : EReal)) k := by
  unfold k0_pay7
  refine (pay3_at _ _ _ _ _ _ _ _ r k).trans ?_
  pointwise

/-- The modulated block at an index, by the residual block. -/
theorem pay8_at (x0 : Vec Ideal S1x256x768 .bf16) (x1 x2 : Vec Ideal S1x256x640 .bf16) (x3 : Vec Ideal S1x2048x2048 .bf16) (x4 : Vec Ideal S1x256x2048 .f32)
    (x5 x6 x7 x8 x9 : Vec Ideal S1x1x2048 .f32) (x10 : Vec Ideal S1x2048x32 .f32) (x11 : Vec Ideal S1x1x32 .f32)
    (r : Fin 256) (k : Fin 2048) :
    (k0_pay8 (F := Ideal) x0 x1 x2 x3 x4 x5 x6 x7 x8 x9 x10 x11 (ix2 r k) : EReal)
      = norm (fun k => k0_pay7 (F := Ideal) x0 x1 x2 x3 x4 x5 x6 x7 x8 x9 x10 x11 (ix2 r k))
        (fun k => x6 (ix3 0 0 k)) (fun k => x7 (ix3 0 0 k)) k * (1 + (x8 (ix3 0 0 k) : EReal)) + (x9 (ix3 0 0 k) : EReal) := by
  unfold k0_pay8
  refine (pay6_at _ _ _ _ _ r k).trans ?_
  pointwise

/-- The residual block of point `t` is the residual row. -/
theorem z_at (c : Dev nD) (t : Fin cfg0.N) (r : Fin 256) (k : Fin 2048) (b : Fin 2) (hb : b.val = t.val / 16)
    (p : Fin 4096) (hp : p.val = 256 * (t.val % 16) + r.val) :
    (k0_pay7 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (ix2 r k) : EReal)
      = rrow (m (c.tc.loc main_arg0)) (m (c.tc.loc main_arg1)) (m (c.tc.loc main_arg2))
        (m (c.tc.loc main_arg3)) (m (c.tc.loc main_arg4)) (m (c.tc.loc main_arg5)) b p k := by
  refine (pay7_at _ _ _ _ _ _ _ _ _ _ _ _ r k).trans ?_
  unfold rrow res att
  beta_reduce
  rw [blk4_at m c t r k b hb p hp, blk5_at m c t k b hb]
  refine congrArg₂ (fun a b : EReal => a + b) rfl (congrArg₂ (fun a b : EReal => a * b) rfl ?_)
  refine congrArg₂ (fun a b : EReal => a + b) (congrArg₂ (fun a b : EReal => a + b) ?_ ?_) ?_
  · exact Finset.sum_congr rfl fun j _ => congrArg₂ (fun a b : EReal => a * b) (blk0_at m c t r j b hb p hp) (blk3_at m c t _ k)
  · exact Finset.sum_congr rfl fun j _ => congrArg₂ (fun a b : EReal => a * b) (blk1_at m c t r j b hb p hp) (blk3_at m c t _ k)
  · exact Finset.sum_congr rfl fun j _ => congrArg₂ (fun a b : EReal => a * b) (blk2_at m c t r j b hb p hp) (blk3_at m c t _ k)

/-- The modulated block of point `t` is the modulated row. -/
theorem h_at (c : Dev nD) (t : Fin cfg0.N) (r : Fin 256) (k : Fin 2048) (b : Fin 2) (hb : b.val = t.val / 16)
    (p : Fin 4096) (hp : p.val = 256 * (t.val % 16) + r.val) :
    (k0_pay8 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (ix2 r k) : EReal)
      = hrow (m (c.tc.loc main_arg0)) (m (c.tc.loc main_arg1)) (m (c.tc.loc main_arg2))
        (m (c.tc.loc main_arg3)) (m (c.tc.loc main_arg4)) (m (c.tc.loc main_arg5))
        (m (c.tc.loc main_arg6)) (m (c.tc.loc main_arg7)) (m (c.tc.loc main_arg8))
        (m (c.tc.loc main_arg9)) b p k := by
  refine (pay8_at _ _ _ _ _ _ _ _ _ _ _ _ r k).trans ?_
  unfold hrow nrow
  beta_reduce
  rw [blk8_at m c t k b hb, blk9_at m c t k b hb]
  simp only [blk6_at m c t, blk7_at m c t, fun k => z_at m c t r k b hb p hp]

/-- What the body leaves in the first result's block at `y` of point `t` is the reference's first result where `y` sits. -/
theorem point12 (c : Dev nD) (t : Fin cfg0.N) (y : S1x256x2048.Idx) (j : S2x4096x2048.Idx) (hj0 : (j 0 : ℕ) = t.val / 16)
    (hj1 : (j 1 : ℕ) = 256 * (t.val % 16) + (y 1).val) (hj2 : (j 2 : ℕ) = (y 2).val) :
    (k0_pay5 (k0_pay7 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t))
      (iblk m c 6 t) (iblk m c 7 t) y : EReal)
    = Cert.Reference9Ideal.Read.val_main_v42 (F := Ideal) (m (c.tc.loc main_arg0)) (m (c.tc.loc main_arg1)) (m (c.tc.loc main_arg2))
        (m (c.tc.loc main_arg3)) (m (c.tc.loc main_arg4)) (m (c.tc.loc main_arg5))
        (m (c.tc.loc main_arg6)) (m (c.tc.loc main_arg7)) j := by
  obtain ⟨r, k, rfl⟩ : ∃ (r : Fin 256) (k : Fin 2048), y = ix3 0 r k :=
    ⟨y 1, y 2, funext fun a => match a with
      | ⟨0, _⟩ => Subsingleton.elim (α := Fin 1) _ _
      | ⟨1, _⟩ => rfl
      | ⟨2, _⟩ => rfl⟩
  obtain ⟨b, p, n, rfl⟩ : ∃ (b : Fin 2) (p : Fin 4096) (n : Fin 2048), j = ix3 b p n :=
    ⟨j 0, j 1, j 2, funext fun a => match a with | ⟨0, _⟩ => rfl | ⟨1, _⟩ => rfl | ⟨2, _⟩ => rfl⟩
  replace hj0 : b.val = t.val / 16 := hj0
  replace hj1 : p.val = 256 * (t.val % 16) + r.val := hj1
  obtain rfl : n = k := Fin.ext hj2
  refine Eq.trans ?_ (v42_at _ _ _ _ _ _ _ _ b p n).symm
  refine (pay5_at _ _ _ r n).trans ?_
  unfold nrow
  simp only [blk6_at m c t, blk7_at m c t, fun k => z_at m c t r k b hj0 p hj1]

/-- What the body leaves in the second result's block at `y` of point `t` is the reference's second result where `y` sits. -/
theorem point13 (c : Dev nD) (t : Fin cfg0.N) (y : S1x256x2048.Idx) (j : S2x4096x2048.Idx) (hj0 : (j 0 : ℕ) = t.val / 16)
    (hj1 : (j 1 : ℕ) = 256 * (t.val % 16) + (y 1).val) (hj2 : (j 2 : ℕ) = (y 2).val) :
    (k0_pay1 (k0_pay8 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t)) y : EReal)
    = Cert.Reference9Ideal.Read.val_main_v48 (F := Ideal) (m (c.tc.loc main_arg0)) (m (c.tc.loc main_arg1)) (m (c.tc.loc main_arg2))
        (m (c.tc.loc main_arg3)) (m (c.tc.loc main_arg4)) (m (c.tc.loc main_arg5))
        (m (c.tc.loc main_arg6)) (m (c.tc.loc main_arg7)) (m (c.tc.loc main_arg8))
        (m (c.tc.loc main_arg9)) j := by
  obtain ⟨r, k, rfl⟩ : ∃ (r : Fin 256) (k : Fin 2048), y = ix3 0 r k :=
    ⟨y 1, y 2, funext fun a => match a with
      | ⟨0, _⟩ => Subsingleton.elim (α := Fin 1) _ _
      | ⟨1, _⟩ => rfl
      | ⟨2, _⟩ => rfl⟩
  obtain ⟨b, p, n, rfl⟩ : ∃ (b : Fin 2) (p : Fin 4096) (n : Fin 2048), j = ix3 b p n :=
    ⟨j 0, j 1, j 2, funext fun a => match a with | ⟨0, _⟩ => rfl | ⟨1, _⟩ => rfl | ⟨2, _⟩ => rfl⟩
  replace hj0 : b.val = t.val / 16 := hj0
  replace hj1 : p.val = 256 * (t.val % 16) + r.val := hj1
  obtain rfl : n = k := Fin.ext hj2
  refine Eq.trans ?_ (v48_at _ _ _ _ _ _ _ _ _ _ b p n).symm
  exact (pay1_at _ r n).trans (h_at m c t r n b hj0 p hj1)

/-- What the body leaves in the third result's block at `y` of point `t` is, on real arguments, the reference's third result
    where `y` sits. -/
theorem point14 (c : Dev nD)
    (f0 : ∀ i, IsR ((m (c.tc.loc main_arg0) : FVec Ideal S2x4096x768 .bf16) i))
    (f1 : ∀ i, IsR ((m (c.tc.loc main_arg1) : FVec Ideal S2x4096x640 .bf16) i))
    (f2 : ∀ i, IsR ((m (c.tc.loc main_arg2) : FVec Ideal S2x4096x640 .bf16) i))
    (f3 : ∀ i, IsR ((m (c.tc.loc main_arg3) : FVec Ideal S2x2048x2048 .bf16) i))
    (f4 : ∀ i, IsR ((m (c.tc.loc main_arg4) : FVec Ideal S2x4096x2048 .f32) i))
    (f5 : ∀ i, IsR ((m (c.tc.loc main_arg5) : FVec Ideal S2x1x2048 .f32) i))
    (f6 : ∀ i, IsR ((m (c.tc.loc main_arg6) : FVec Ideal S2x1x2048 .f32) i))
    (f7 : ∀ i, IsR ((m (c.tc.loc main_arg7) : FVec Ideal S2x1x2048 .f32) i))
    (f8 : ∀ i, IsR ((m (c.tc.loc main_arg8) : FVec Ideal S2x1x2048 .f32) i))
    (f9 : ∀ i, IsR ((m (c.tc.loc main_arg9) : FVec Ideal S2x1x2048 .f32) i))
    (f10 : ∀ i, IsR ((m (c.tc.loc main_arg10) : FVec Ideal S2x2048x32 .f32) i))
    (t : Fin cfg0.N) (y : S1x256x32.Idx) (j : S2x4096x32.Idx) (hj0 : (j 0 : ℕ) = t.val / 16)
    (hj1 : (j 1 : ℕ) = 256 * (t.val % 16) + (y 1).val) (hj2 : (j 2 : ℕ) = (y 2).val) :
    (k0_pay2 (k0_pay8 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t))
      (iblk m c 10 t) (iblk m c 11 t) y : EReal)
    = Cert.Reference9Ideal.Read.val_main_v56 (F := Ideal) (m (c.tc.loc main_arg0)) (m (c.tc.loc main_arg1)) (m (c.tc.loc main_arg2))
        (m (c.tc.loc main_arg3)) (m (c.tc.loc main_arg4)) (m (c.tc.loc main_arg5))
        (m (c.tc.loc main_arg6)) (m (c.tc.loc main_arg7)) (m (c.tc.loc main_arg8))
        (m (c.tc.loc main_arg9)) (m (c.tc.loc main_arg10)) (m (c.tc.loc main_arg11)) j := by
  obtain ⟨r, k, rfl⟩ : ∃ (r : Fin 256) (k : Fin 32), y = ix3 0 r k :=
    ⟨y 1, y 2, funext fun a => match a with
      | ⟨0, _⟩ => Subsingleton.elim (α := Fin 1) _ _
      | ⟨1, _⟩ => rfl
      | ⟨2, _⟩ => rfl⟩
  obtain ⟨b, p, n, rfl⟩ : ∃ (b : Fin 2) (p : Fin 4096) (n : Fin 32), j = ix3 b p n :=
    ⟨j 0, j 1, j 2, funext fun a => match a with | ⟨0, _⟩ => rfl | ⟨1, _⟩ => rfl | ⟨2, _⟩ => rfl⟩
  replace hj0 : b.val = t.val / 16 := hj0
  replace hj1 : p.val = 256 * (t.val % 16) + r.val := hj1
  obtain rfl : n = k := Fin.ext hj2
  refine Eq.trans ?_ (v56_at _ _ _ _ _ _ _ _ _ _ _ _ b p n).symm
  refine (pay2_at _ _ _ r n (fun k => ?_) (fun k => ?_)).trans ?_
  · rw [h_at m c t r k b hj0 p hj1]
    exact hrow_isR _ _ _ _ _ _ _ _ _ _ b p f0 f1 f2 f3 f4 f5 f6 f7 f8 f9 k
  · rw [blk10_at m c t k n]
    exact f10 _
  · simp only [blk10_at m c t, blk11_at m c t, fun k => h_at m c t r k b hj0 p hj1]

/-- The first result array after the run is the reference's. -/
theorem final12 (c : Dev nD) : (dats m 0 c).arrAt 12 cfg0.N
    = Cert.Reference9Ideal.Read.val_main_v42 (F := Ideal) (m (c.tc.loc main_arg0)) (m (c.tc.loc main_arg1)) (m (c.tc.loc main_arg2))
        (m (c.tc.loc main_arg3)) (m (c.tc.loc main_arg4)) (m (c.tc.loc main_arg5))
        (m (c.tc.loc main_arg6)) (m (c.tc.loc main_arg7)) := by
  refine (dats m 0 c).arrAt_eq_of_covers 12 _ (by decide +kernel) fun t hf y => ?_
  blk_simp
  rw [after0_12]
  frame_out
  refine point12 m c t y _ ?_ ?_ ?_
  all_goals (blk_simp [idx t] <;> try omega)

/-- The second result array after the run is the reference's. -/
theorem final13 (c : Dev nD) : (dats m 0 c).arrAt 13 cfg0.N
    = Cert.Reference9Ideal.Read.val_main_v48 (F := Ideal) (m (c.tc.loc main_arg0)) (m (c.tc.loc main_arg1)) (m (c.tc.loc main_arg2))
        (m (c.tc.loc main_arg3)) (m (c.tc.loc main_arg4)) (m (c.tc.loc main_arg5))
        (m (c.tc.loc main_arg6)) (m (c.tc.loc main_arg7)) (m (c.tc.loc main_arg8))
        (m (c.tc.loc main_arg9)) := by
  refine (dats m 0 c).arrAt_eq_of_covers 13 _ (by decide +kernel) fun t hf y => ?_
  blk_simp
  rw [after0_13]
  frame_out
  refine point13 m c t y _ ?_ ?_ ?_
  all_goals (blk_simp [idx t] <;> try omega)

/-- The third result array after the run is, on real arguments, the reference's. -/
theorem final14 (c : Dev nD)
    (f0 : ∀ i, IsR ((m (c.tc.loc main_arg0) : FVec Ideal S2x4096x768 .bf16) i))
    (f1 : ∀ i, IsR ((m (c.tc.loc main_arg1) : FVec Ideal S2x4096x640 .bf16) i))
    (f2 : ∀ i, IsR ((m (c.tc.loc main_arg2) : FVec Ideal S2x4096x640 .bf16) i))
    (f3 : ∀ i, IsR ((m (c.tc.loc main_arg3) : FVec Ideal S2x2048x2048 .bf16) i))
    (f4 : ∀ i, IsR ((m (c.tc.loc main_arg4) : FVec Ideal S2x4096x2048 .f32) i))
    (f5 : ∀ i, IsR ((m (c.tc.loc main_arg5) : FVec Ideal S2x1x2048 .f32) i))
    (f6 : ∀ i, IsR ((m (c.tc.loc main_arg6) : FVec Ideal S2x1x2048 .f32) i))
    (f7 : ∀ i, IsR ((m (c.tc.loc main_arg7) : FVec Ideal S2x1x2048 .f32) i))
    (f8 : ∀ i, IsR ((m (c.tc.loc main_arg8) : FVec Ideal S2x1x2048 .f32) i))
    (f9 : ∀ i, IsR ((m (c.tc.loc main_arg9) : FVec Ideal S2x1x2048 .f32) i))
    (f10 : ∀ i, IsR ((m (c.tc.loc main_arg10) : FVec Ideal S2x2048x32 .f32) i)) :
    (dats m 0 c).arrAt 14 cfg0.N
    = Cert.Reference9Ideal.Read.val_main_v56 (F := Ideal) (m (c.tc.loc main_arg0)) (m (c.tc.loc main_arg1)) (m (c.tc.loc main_arg2))
        (m (c.tc.loc main_arg3)) (m (c.tc.loc main_arg4)) (m (c.tc.loc main_arg5))
        (m (c.tc.loc main_arg6)) (m (c.tc.loc main_arg7)) (m (c.tc.loc main_arg8))
        (m (c.tc.loc main_arg9)) (m (c.tc.loc main_arg10)) (m (c.tc.loc main_arg11)) := by
  refine (dats m 0 c).arrAt_eq_of_covers 14 _ (by decide +kernel) fun t hf y => ?_
  blk_simp
  rw [after0_14]
  frame_out
  refine point14 m c f0 f1 f2 f3 f4 f5 f6 f7 f8 f9 f10 t y _ ?_ ?_ ?_
  all_goals (blk_simp [idx t] <;> try omega)

end Cert.Out1

end
-- ==== Proof.OutClaims.lean ====
/- The claims about the output projection of the two layers: for each layer the three frames, the ideal ones also stated on
   finite arguments, that nothing is replaced,
   and that on finite arguments the kernel and the reference leave the same three arrays. -/
module

public import proofs.«01_k».proof.Defs
public import proofs.«01_k».proof.Proof.Out
public import proofs.«01_k».proof.Proof.Out1
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Pre_finite
public import Idealize.ShloMosaic.Adequacy
public import Idealize.ShloMosaic.Init
public import Idealize.ShloMosaic.Lib.Quiescent

@[expose] public section

set_option maxRecDepth 16384

noncomputable section

namespace Cert.OutClaims

open Idealize.ShloMosaic Idealize.SL.Sem Cert.OutMath

/-- The output projection kernel of layer 0 on machine numbers runs to its end, keeps its arguments and leaves every counter at zero. -/
theorem frame_p8 : Cert.quiescent_Kernel8 := fun m ρ _ => Cert.Kernel8.Gen.frame m ρ

/-- The output projection kernel of layer 0 on ideal numbers runs to its end, keeps its arguments and leaves every counter at zero. -/
theorem frame_pi8 : Cert.quiescent_Kernel8Ideal := fun m ρ _ => Cert.Kernel8Ideal.Gen.frame m ρ

/-- The same of the ideal output projection kernel of layer 0, on finite arguments. -/
theorem frame_pi8_finite : Cert.quiescent_Kernel8Ideal_pre_finite (hPre_finite := Cert.Pre_finite.Gen.facts) :=
  fun m ρ _ => Cert.Kernel8Ideal.Gen.frame m ρ

/-- The output projection reference of layer 0 on ideal numbers runs to its end, keeps its arguments and leaves every counter at zero. -/
theorem frame_ri8 : Cert.quiescent_Reference8Ideal := fun m ρ _ =>
  (θ_run Cert.Reference8Ideal.defs _ _).mono
    (fun r h => ⟨fun c => (h c).2.2.2, Idealize.ShloMosaic.sem_eq_zero_of_no_sems (by decide) r.2⟩)
    (Cert.Reference8Ideal.Value.run (F := Ideal) m ρ)

/-- The same of the output projection reference of layer 0, on finite arguments. -/
theorem frame_ri8_finite : Cert.quiescent_Reference8Ideal_pre_finite (hPre_finite := Cert.Pre_finite.Gen.facts) :=
  fun m ρ _ => frame_ri8 m ρ trivial

/-- Nothing of the output projection kernel of layer 0 is replaced in its ideal counterpart. -/
theorem preserves8 : Cert.preserves_Kernel8_Kernel8Ideal := trivial

/-- On equal finite arguments, the output projection kernel and the reference of layer 0 leave the same three arrays. -/
theorem algebraic8 : Cert.algebraic_Kernel8Ideal_Reference8Ideal_pre_finite (hPre_finite := Cert.Pre_finite.Gen.facts) := by
  intro m ρ m' ρ' hpre hag
  refine ⟨fun c => Cert.Reference8Ideal.Read.val_main_v42
      (m (c.tc.loc Cert.Kernel8Ideal.main_arg0))
      (m (c.tc.loc Cert.Kernel8Ideal.main_arg1))
      (m (c.tc.loc Cert.Kernel8Ideal.main_arg2))
      (m (c.tc.loc Cert.Kernel8Ideal.main_arg3))
      (m (c.tc.loc Cert.Kernel8Ideal.main_arg4))
      (m (c.tc.loc Cert.Kernel8Ideal.main_arg5))
      (m (c.tc.loc Cert.Kernel8Ideal.main_arg6))
      (m (c.tc.loc Cert.Kernel8Ideal.main_arg7)),
    fun c => Cert.Reference8Ideal.Read.val_main_v48
      (m (c.tc.loc Cert.Kernel8Ideal.main_arg0))
      (m (c.tc.loc Cert.Kernel8Ideal.main_arg1))
      (m (c.tc.loc Cert.Kernel8Ideal.main_arg2))
      (m (c.tc.loc Cert.Kernel8Ideal.main_arg3))
      (m (c.tc.loc Cert.Kernel8Ideal.main_arg4))
      (m (c.tc.loc Cert.Kernel8Ideal.main_arg5))
      (m (c.tc.loc Cert.Kernel8Ideal.main_arg6))
      (m (c.tc.loc Cert.Kernel8Ideal.main_arg7))
      (m (c.tc.loc Cert.Kernel8Ideal.main_arg8))
      (m (c.tc.loc Cert.Kernel8Ideal.main_arg9)),
    fun c => Cert.Reference8Ideal.Read.val_main_v56
      (m (c.tc.loc Cert.Kernel8Ideal.main_arg0))
      (m (c.tc.loc Cert.Kernel8Ideal.main_arg1))
      (m (c.tc.loc Cert.Kernel8Ideal.main_arg2))
      (m (c.tc.loc Cert.Kernel8Ideal.main_arg3))
      (m (c.tc.loc Cert.Kernel8Ideal.main_arg4))
      (m (c.tc.loc Cert.Kernel8Ideal.main_arg5))
      (m (c.tc.loc Cert.Kernel8Ideal.main_arg6))
      (m (c.tc.loc Cert.Kernel8Ideal.main_arg7))
      (m (c.tc.loc Cert.Kernel8Ideal.main_arg8))
      (m (c.tc.loc Cert.Kernel8Ideal.main_arg9))
      (m (c.tc.loc Cert.Kernel8Ideal.main_arg10))
      (m (c.tc.loc Cert.Kernel8Ideal.main_arg11)), ?_, ?_⟩
  · refine (θ_run Cert.Kernel8Ideal.defs _ _).mono (fun r h c => ?_) (Cert.Kernel8Ideal.Value.run_blocks m ρ)
    obtain ⟨p0, p1, p2, p3, p4, p5, p6, p7, p8, p9, p10⟩ := hpre c
    exact ⟨(h c).1.trans (Cert.Out.final12 m c), (h c).2.1.trans (Cert.Out.final13 m c),
      (h c).2.2.1.trans (Cert.Out.final14 m c (IsR.of_lt _ _ p0) (IsR.of_lt _ _ p1) (IsR.of_lt _ _ p2) (IsR.of_lt _ _ p3) (IsR.of_lt _ _ p4)
        (IsR.of_lt _ _ p5) (IsR.of_lt _ _ p6) (IsR.of_lt _ _ p7) (IsR.of_lt _ _ p8) (IsR.of_lt _ _ p9) (IsR.of_lt _ _ p10)), (h c).2.2.2⟩
  · refine (θ_run Cert.Reference8Ideal.defs _ _).mono (fun r h c => ?_) (Cert.Reference8Ideal.Value.run (F := Ideal) m' ρ')
    obtain ⟨h0, h1, h2, h3, h4, h5, h6, h7, h8, h9, h10, h11⟩ := hag c
    refine ⟨(h c).1.trans ?_, (h c).2.1.trans ?_, (h c).2.2.1.trans ?_, (h c).2.2.2⟩
    · rw [Cert.Reference8Ideal.Read.val_main_v42_eq, h0, h1, h2, h3, h4, h5, h6, h7]
    · rw [Cert.Reference8Ideal.Read.val_main_v48_eq, h0, h1, h2, h3, h4, h5, h6, h7, h8, h9]
    · rw [Cert.Reference8Ideal.Read.val_main_v56_eq, h0, h1, h2, h3, h4, h5, h6, h7, h8, h9, h10, h11]

/-- The output projection kernel of layer 1 on machine numbers runs to its end, keeps its arguments and leaves every counter at zero. -/
theorem frame_p9 : Cert.quiescent_Kernel9 := fun m ρ _ => Cert.Kernel9.Gen.frame m ρ

/-- The output projection kernel of layer 1 on ideal numbers runs to its end, keeps its arguments and leaves every counter at zero. -/
theorem frame_pi9 : Cert.quiescent_Kernel9Ideal := fun m ρ _ => Cert.Kernel9Ideal.Gen.frame m ρ

/-- The same of the ideal output projection kernel of layer 1, on finite arguments. -/
theorem frame_pi9_finite : Cert.quiescent_Kernel9Ideal_pre_finite (hPre_finite := Cert.Pre_finite.Gen.facts) :=
  fun m ρ _ => Cert.Kernel9Ideal.Gen.frame m ρ

/-- The output projection reference of layer 1 on ideal numbers runs to its end, keeps its arguments and leaves every counter at zero. -/
theorem frame_ri9 : Cert.quiescent_Reference9Ideal := fun m ρ _ =>
  (θ_run Cert.Reference9Ideal.defs _ _).mono
    (fun r h => ⟨fun c => (h c).2.2.2, Idealize.ShloMosaic.sem_eq_zero_of_no_sems (by decide) r.2⟩)
    (Cert.Reference9Ideal.Value.run (F := Ideal) m ρ)

/-- The same of the output projection reference of layer 1, on finite arguments. -/
theorem frame_ri9_finite : Cert.quiescent_Reference9Ideal_pre_finite (hPre_finite := Cert.Pre_finite.Gen.facts) :=
  fun m ρ _ => frame_ri9 m ρ trivial

/-- Nothing of the output projection kernel of layer 1 is replaced in its ideal counterpart. -/
theorem preserves9 : Cert.preserves_Kernel9_Kernel9Ideal := trivial

/-- On equal finite arguments, the output projection kernel and the reference of layer 1 leave the same three arrays. -/
theorem algebraic9 : Cert.algebraic_Kernel9Ideal_Reference9Ideal_pre_finite (hPre_finite := Cert.Pre_finite.Gen.facts) := by
  intro m ρ m' ρ' hpre hag
  refine ⟨fun c => Cert.Reference9Ideal.Read.val_main_v42
      (m (c.tc.loc Cert.Kernel9Ideal.main_arg0))
      (m (c.tc.loc Cert.Kernel9Ideal.main_arg1))
      (m (c.tc.loc Cert.Kernel9Ideal.main_arg2))
      (m (c.tc.loc Cert.Kernel9Ideal.main_arg3))
      (m (c.tc.loc Cert.Kernel9Ideal.main_arg4))
      (m (c.tc.loc Cert.Kernel9Ideal.main_arg5))
      (m (c.tc.loc Cert.Kernel9Ideal.main_arg6))
      (m (c.tc.loc Cert.Kernel9Ideal.main_arg7)),
    fun c => Cert.Reference9Ideal.Read.val_main_v48
      (m (c.tc.loc Cert.Kernel9Ideal.main_arg0))
      (m (c.tc.loc Cert.Kernel9Ideal.main_arg1))
      (m (c.tc.loc Cert.Kernel9Ideal.main_arg2))
      (m (c.tc.loc Cert.Kernel9Ideal.main_arg3))
      (m (c.tc.loc Cert.Kernel9Ideal.main_arg4))
      (m (c.tc.loc Cert.Kernel9Ideal.main_arg5))
      (m (c.tc.loc Cert.Kernel9Ideal.main_arg6))
      (m (c.tc.loc Cert.Kernel9Ideal.main_arg7))
      (m (c.tc.loc Cert.Kernel9Ideal.main_arg8))
      (m (c.tc.loc Cert.Kernel9Ideal.main_arg9)),
    fun c => Cert.Reference9Ideal.Read.val_main_v56
      (m (c.tc.loc Cert.Kernel9Ideal.main_arg0))
      (m (c.tc.loc Cert.Kernel9Ideal.main_arg1))
      (m (c.tc.loc Cert.Kernel9Ideal.main_arg2))
      (m (c.tc.loc Cert.Kernel9Ideal.main_arg3))
      (m (c.tc.loc Cert.Kernel9Ideal.main_arg4))
      (m (c.tc.loc Cert.Kernel9Ideal.main_arg5))
      (m (c.tc.loc Cert.Kernel9Ideal.main_arg6))
      (m (c.tc.loc Cert.Kernel9Ideal.main_arg7))
      (m (c.tc.loc Cert.Kernel9Ideal.main_arg8))
      (m (c.tc.loc Cert.Kernel9Ideal.main_arg9))
      (m (c.tc.loc Cert.Kernel9Ideal.main_arg10))
      (m (c.tc.loc Cert.Kernel9Ideal.main_arg11)), ?_, ?_⟩
  · refine (θ_run Cert.Kernel9Ideal.defs _ _).mono (fun r h c => ?_) (Cert.Kernel9Ideal.Value.run_blocks m ρ)
    obtain ⟨p0, p1, p2, p3, p4, p5, p6, p7, p8, p9, p10⟩ := hpre c
    exact ⟨(h c).1.trans (Cert.Out1.final12 m c), (h c).2.1.trans (Cert.Out1.final13 m c),
      (h c).2.2.1.trans (Cert.Out1.final14 m c (IsR.of_lt _ _ p0) (IsR.of_lt _ _ p1) (IsR.of_lt _ _ p2) (IsR.of_lt _ _ p3) (IsR.of_lt _ _ p4)
        (IsR.of_lt _ _ p5) (IsR.of_lt _ _ p6) (IsR.of_lt _ _ p7) (IsR.of_lt _ _ p8) (IsR.of_lt _ _ p9) (IsR.of_lt _ _ p10)), (h c).2.2.2⟩
  · refine (θ_run Cert.Reference9Ideal.defs _ _).mono (fun r h c => ?_) (Cert.Reference9Ideal.Value.run (F := Ideal) m' ρ')
    obtain ⟨h0, h1, h2, h3, h4, h5, h6, h7, h8, h9, h10, h11⟩ := hag c
    refine ⟨(h c).1.trans ?_, (h c).2.1.trans ?_, (h c).2.2.1.trans ?_, (h c).2.2.2⟩
    · rw [Cert.Reference9Ideal.Read.val_main_v42_eq, h0, h1, h2, h3, h4, h5, h6, h7]
    · rw [Cert.Reference9Ideal.Read.val_main_v48_eq, h0, h1, h2, h3, h4, h5, h6, h7, h8, h9]
    · rw [Cert.Reference9Ideal.Read.val_main_v56_eq, h0, h1, h2, h3, h4, h5, h6, h7, h8, h9, h10, h11]

end Cert.OutClaims

end
-- ==== Proof.DiffMath.lean ====
/- The differential attention's arithmetic: the online softmax kept relative to a running maximum, the weights of a whole
   row, and the difference of two weighted sums. -/
module

public import proofs.«01_k».proof.Proof.OutMath

@[expose] public section

noncomputable section

open Idealize.ShloMosaic

namespace Cert.Diff

open Cert.OutMath

/-- The weight of key `j` for query `t` before normalization: the exponential of its score, `0` for a later key. -/
def ew (z : ℕ → ℝ) (t j : ℕ) : ℝ := if j ≤ t then Real.exp (z j) else 0

/-- The score of key `j` for query `t` as the programs hold it: minus infinity for a later key. -/
def sc (z : ℕ → ℝ) (t j : ℕ) : EReal := if j ≤ t then (z j : EReal) else ⊥

/-- The sum of the weights of the first `n` keys. -/
def sw (z : ℕ → ℝ) (t n : ℕ) : ℝ := ∑ j ∈ Finset.range n, ew z t j

/-- The weighted sum of the values of the first `n` keys. -/
def sv (z : ℕ → ℝ) (t : ℕ) (v : ℕ → ℝ) (n : ℕ) : ℝ := ∑ j ∈ Finset.range n, ew z t j * v j

/-- A weight relative to a real number. -/
theorem exp_sc (z : ℕ → ℝ) (t j : ℕ) (κ : ℝ) : Ideal.exp (sc z t j - (κ : EReal)) = ((ew z t j * Real.exp (-κ) : ℝ) : EReal) := by
  unfold sc ew
  split
  · rw [← EReal.coe_sub, Ideal.exp_coe, ← Real.exp_add, sub_eq_add_neg]
  · rw [show (⊥ : EReal) - (κ : EReal) = ⊥ from EReal.bot_sub _, Ideal.exp_bot, zero_mul, EReal.coe_zero]

/-- What a running maximum, sum and accumulator hold: the sum and the weighted sum, relative to the maximum. -/
def St (m l a : EReal) (L A : ℝ) : Prop :=
  (∃ μ : ℝ, m = (μ : EReal) ∧ l = ((L * Real.exp (-μ) : ℝ) : EReal) ∧ a = ((A * Real.exp (-μ) : ℝ) : EReal))
    ∨ (m = ⊥ ∧ l = 0 ∧ a = 0 ∧ L = 0 ∧ A = 0)

/-- The maximum of a number below infinity and a real number is a real number. -/
theorem max_real {m : EReal} (hm : m ≠ ⊤) (ν : ℝ) : ∃ κ : ℝ, max m (ν : EReal) = (κ : EReal) := by
  induction m with
  | bot => exact ⟨ν, max_eq_right bot_le⟩
  | top => exact absurd rfl hm
  | coe r => exact ⟨max r ν, (EReal.coe_strictMono.monotone.map_max).symm⟩

/-- One chunk's step. -/
theorem St.step {m l a : EReal} {L A : ℝ} (h : St m l a L A) (z : ℕ → ℝ) (t o : ℕ) (s v : Fin 512 → EReal) (u : ℕ → ℝ) (M : EReal)
    (hM : IsR M) (hs : ∀ j, s j = sc z t (o + j.val)) (hv : ∀ j, v j = (u (o + j.val) : EReal)) :
    St (max m M) (Ideal.exp (m - max m M) * l + ∑ j, Ideal.exp (s j - max m M))
      (Ideal.exp (m - max m M) * a + ∑ j, Ideal.exp (s j - max m M) * v j)
      (L + ∑ j : Fin 512, ew z t (o + j.val)) (A + ∑ j : Fin 512, ew z t (o + j.val) * u (o + j.val)) := by
  obtain ⟨ν, rfl⟩ := hM
  have hm : m ≠ ⊤ := by
    rcases h with ⟨μ, rfl, -, -⟩ | ⟨rfl, -⟩
    · exact EReal.coe_ne_top μ
    · exact bot_ne_top
  obtain ⟨κ, hκ⟩ := max_real hm ν
  rw [hκ]
  have e1 : ∑ j : Fin 512, Ideal.exp (s j - (κ : EReal)) = (((∑ j : Fin 512, ew z t (o + j.val)) * Real.exp (-κ) : ℝ) : EReal) := by
    rw [Finset.sum_mul, ← sum_coe]
    exact Finset.sum_congr rfl fun j _ => by rw [hs, exp_sc]
  have e2 : ∑ j : Fin 512, Ideal.exp (s j - (κ : EReal)) * v j
      = (((∑ j : Fin 512, ew z t (o + j.val) * u (o + j.val)) * Real.exp (-κ) : ℝ) : EReal) := by
    rw [Finset.sum_mul, ← sum_coe]
    refine Finset.sum_congr rfl fun j _ => ?_
    rw [hs, exp_sc, hv, ← EReal.coe_mul]
    exact congrArg _ (by ring)
  rw [e1, e2]
  refine Or.inl ⟨κ, rfl, ?_, ?_⟩
  all_goals rcases h with ⟨μ, rfl, rfl, rfl⟩ | ⟨rfl, rfl, rfl, rfl, rfl⟩
  · rw [← EReal.coe_sub, Ideal.exp_coe, ← EReal.coe_mul, ← EReal.coe_add]
    refine congrArg _ ?_
    rw [add_mul, show Real.exp (μ - κ) * (L * Real.exp (-μ)) = L * (Real.exp (μ - κ) * Real.exp (-μ)) by ring, ← Real.exp_add]
    congr 3
    ring
  · rw [mul_zero, zero_add, zero_add]
  · rw [← EReal.coe_sub, Ideal.exp_coe, ← EReal.coe_mul, ← EReal.coe_add]
    refine congrArg _ ?_
    rw [add_mul, show Real.exp (μ - κ) * (A * Real.exp (-μ)) = A * (Real.exp (μ - κ) * Real.exp (-μ)) by ring, ← Real.exp_add]
    congr 3
    ring
  · rw [mul_zero, zero_add, zero_add]

/-- The sums over the keys grow by a chunk. -/
theorem sw_add (z : ℕ → ℝ) (t o : ℕ) : sw z t o + ∑ j : Fin 512, ew z t (o + j.val) = sw z t (o + 512) := by
  unfold sw
  rw [Finset.sum_range_add, Finset.sum_range (n := 512)]

/-- The weighted sums over the keys grow by a chunk. -/
theorem sv_add (z : ℕ → ℝ) (t : ℕ) (v : ℕ → ℝ) (o : ℕ) :
    sv z t v o + ∑ j : Fin 512, ew z t (o + j.val) * v (o + j.val) = sv z t v (o + 512) := by
  unfold sv
  rw [Finset.sum_range_add, Finset.sum_range (n := 512)]

/-- Keys past the query add nothing. -/
theorem sw_past (z : ℕ → ℝ) (t n k : ℕ) (h : t < n) : sw z t (n + k) = sw z t n := by
  unfold sw
  rw [Finset.sum_range_add, Finset.sum_eq_zero (s := Finset.range k) fun j _ => ?_, add_zero]
  exact if_neg (by omega)

/-- Keys past the query add no value. -/
theorem sv_past (z : ℕ → ℝ) (t : ℕ) (v : ℕ → ℝ) (n k : ℕ) (h : t < n) : sv z t v (n + k) = sv z t v n := by
  unfold sv
  rw [Finset.sum_range_add, Finset.sum_eq_zero (s := Finset.range k) fun j _ => ?_, add_zero]
  unfold ew
  rw [if_neg (by omega), zero_mul]

/-- The sum of the weights up to past the query is positive. -/
theorem sw_pos (z : ℕ → ℝ) (t n : ℕ) (h : t < n) : 0 < sw z t n := by
  unfold sw
  refine lt_of_lt_of_le ?_ (Finset.single_le_sum (f := fun j => ew z t j) (fun j _ => ?_) (Finset.mem_range.mpr h))
  · show 0 < ew z t t
    unfold ew
    rw [if_pos le_rfl]
    exact Real.exp_pos _
  · show 0 ≤ ew z t j
    unfold ew
    split
    · exact (Real.exp_pos _).le
    · exact le_rfl

/-- The quotient of two real numbers, the second not zero. -/
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- A quotient relative to a real number is the quotient. -/
theorem div_rel (a b μ : ℝ) (hb : b ≠ 0) :
    Ideal.div ((a * Real.exp (-μ) : ℝ) : EReal) ((b * Real.exp (-μ) : ℝ) : EReal) = ((a / b : ℝ) : EReal) := by
  rw [div_coe _ _ (mul_ne_zero hb (Real.exp_ne_zero _)), mul_div_mul_right _ _ (Real.exp_ne_zero _)]

/-- The accumulator over the sum. -/
theorem St.quot {m l a : EReal} {L A : ℝ} (h : St m l a L A) (hL : L ≠ 0) : Ideal.div a l = ((A / L : ℝ) : EReal) := by
  rcases h with ⟨μ, -, rfl, rfl⟩ | ⟨-, -, -, h, -⟩
  · exact div_rel A L μ hL
  · exact absurd h hL

/-- A weight of a whole row of 4096 keys. -/
theorem weight (z : ℕ → ℝ) (t : ℕ) (ht : t < 4096) (M : EReal) (hM : IsR M) (s : ℕ) :
    Ideal.div (Ideal.exp (sc z t s - M)) (∑ j : Fin 4096, Ideal.exp (sc z t j.val - M)) = ((ew z t s / sw z t 4096 : ℝ) : EReal) := by
  obtain ⟨μ, rfl⟩ := hM
  have e1 : ∑ j : Fin 4096, Ideal.exp (sc z t j.val - (μ : EReal)) = ((sw z t 4096 * Real.exp (-μ) : ℝ) : EReal) := by
    unfold sw
    rw [Finset.sum_range, Finset.sum_mul, ← sum_coe]
    exact Finset.sum_congr rfl fun j _ => exp_sc z t j.val μ
  rw [e1, exp_sc, div_rel _ _ _ (sw_pos z t 4096 ht).ne']

/-- The difference of two quotients of sums, with a factor. -/
def dq (z0 z1 : ℕ → ℝ) (t : ℕ) (v : ℕ → ℝ) (lam : ℝ) (n : ℕ) : ℝ := sv z0 t v n / sw z0 t n - lam * (sv z1 t v n / sw z1 t n)

/-- Past the query, the difference no longer changes. -/
theorem dq_past (z0 z1 : ℕ → ℝ) (t : ℕ) (v : ℕ → ℝ) (lam : ℝ) (n : ℕ) (h : t < n) (hn : n ≤ 4096) :
    dq z0 z1 t v lam n = dq z0 z1 t v lam 4096 := by
  obtain ⟨k, hk⟩ := Nat.exists_eq_add_of_le hn
  unfold dq
  rw [hk, sv_past _ _ _ _ _ h, sv_past _ _ _ _ _ h, sw_past _ _ _ _ h, sw_past _ _ _ _ h]

/-- The values weighted by the difference of the two rows of weights. -/
theorem ref_sum (z0 z1 : ℕ → ℝ) (t : ℕ) (v : ℕ → ℝ) (lam : ℝ) (w0 w1 x : Fin 4096 → EReal)
    (h0 : ∀ s, w0 s = ((ew z0 t s.val / sw z0 t 4096 : ℝ) : EReal)) (h1 : ∀ s, w1 s = ((ew z1 t s.val / sw z1 t 4096 : ℝ) : EReal))
    (hx : ∀ s, x s = (v s.val : EReal)) :
    ∑ s, (w0 s - (lam : EReal) * w1 s) * x s = ((dq z0 z1 t v lam 4096 : ℝ) : EReal) := by
  have e : ∀ s, (w0 s - (lam : EReal) * w1 s) * x s
      = (((ew z0 t s.val / sw z0 t 4096 - lam * (ew z1 t s.val / sw z1 t 4096)) * v s.val : ℝ) : EReal) := fun s => by
    rw [h0, h1, hx, ← EReal.coe_mul, ← EReal.coe_sub, ← EReal.coe_mul]
  rw [Finset.sum_congr rfl fun s _ => e s, sum_coe]
  refine congrArg _ ?_
  unfold dq sv
  rw [Finset.sum_range, Finset.sum_range, Finset.sum_div, Finset.sum_div, Finset.mul_sum, ← Finset.sum_sub_distrib]
  exact Finset.sum_congr rfl fun s _ => by ring

/-- An extended real that is neither infinity is a real number. -/
theorem isR_of_ne {x : EReal} (h1 : x ≠ ⊤) (h2 : x ≠ ⊥) : IsR x := ⟨x.toReal, (EReal.coe_toReal h1 h2).symm⟩

/-- The maximum of terms below infinity of which one is not minus infinity is a real number. -/
theorem isR_fold {ι : Type} [Fintype ι] (b : EReal) (hb : b = ⊥) (f : ι → EReal) (hf : ∀ x, f x ≠ ⊤) (x : ι) (hx : f x ≠ ⊥) :
    IsR (Finset.univ.fold max b f) := by
  subst hb
  refine isR_of_ne (ne_of_lt ?_) (ne_of_gt ?_)
  · exact (Finset.fold_max_lt _).mpr ⟨bot_lt_top, fun y _ => lt_top_iff_ne_top.mpr (hf y)⟩
  · exact (Finset.lt_fold_max _).mpr (Or.inr ⟨x, Finset.mem_univ x, bot_lt_iff_ne_bot.mpr hx⟩)

/-- The word of minus infinity. -/
theorem ofBits_inf : (Ideal.ofBits FTy.f32 4286578688#32 : EReal) = ⊥ := by
  simp [Ideal.ofBits, Ideal.ieee]

/-- A score lies below infinity. -/
theorem sc_ne_top (z : ℕ → ℝ) (t j : ℕ) : sc z t j ≠ ⊤ := by
  unfold sc
  split
  · exact EReal.coe_ne_top _
  · exact bot_ne_top

end Cert.Diff

end
-- ==== Proof.DiffChunk.lean ====
/- One chunk of the differential attention's loop, read at an index. -/
module

public import proofs.«01_k».proof.Proof.Gen.Kernel10Ideal.Value
public import proofs.«01_k».proof.Proof.DiffMath
public import proofs.«01_k».proof.Proof.StickChunk
public import Idealize.ShloMosaic.Lib.Pipeline.ValueKit

@[expose] public section

set_option maxRecDepth 16384

noncomputable section

open Idealize.ShloMosaic Idealize.ShloMosaic.TcCoe Idealize.SL.Sem

namespace Cert.Diff

open Cert.Kernel10Ideal Cert.Kernel10Ideal.Gen Cert.OutMath

/-- A running maximum, a running sum and an accumulator. -/
abbrev T3 := FVec Ideal S512x1 FTy.f32 × FVec Ideal S512x1 FTy.f32 × FVec Ideal S512x128 FTy.f32

/-- The chunk's scores of a map: the map's half of the head's queries with the keys, scaled. -/
def score (c : Fin 2) (q k : FVec Ideal S1x512x128 .bf16) : FVec Ideal S512x512 .f32 :=
  match c with
  | 0 => k0_pay6 k0_pay197 q k
  | 1 => k0_pay12 k0_pay197 q k

/-- The chunk's scores with later keys masked. -/
def causal (s : FVec Ideal S512x512 .f32) : FVec Ideal S512x512 .f32 :=
  select (cmpi .sle (broadcastTo S512x512 (iota .tc S1x512 32 [1] iota_S1x512_d1_w32) broadcasts_S1x512_S512x512)
      (broadcastTo S512x512 (iota .tc S512x1 32 [0] iota_S512x1_d0_w32) broadcasts_S512x1_S512x512))
    s (broadcast S512x512 (Named.named κ "mask" 0xF149F2CA#32))

/-- The chunk's row maxima. -/
def mx (s : FVec Ideal S512x512 .f32) : FVec Ideal S512x1 .f32 :=
  shapeCast S512x1 (multiReduction .maximumf [1] S512 s 0xFF800000#32 reduces_S512x512_S512 (.inl rfl) rfl) shapeCasts_S512_S512x1

/-- One chunk of one map. -/
def upd (s : FVec Ideal S512x512 .f32) (v : FVec Ideal S1x512x128 .bf16) (t : T3) : T3 :=
  (k0_pay14 t.1 (mx s), k0_pay17 t.1 t.2.1 s (mx s), k0_pay18 t.1 t.2.2 (k0_pay5 v) s (mx s))

/-- The scale of the scores. -/
def c8 : ℝ := 8388608 * 2 ^ (-26 : ℤ)

/-- The scale is a real number. -/
theorem c8_eq : (Ideal.ofBits FTy.f32 1040187392#32 : EReal) = (c8 : EReal) := by
  unfold c8
  simp [Ideal.ofBits, Ideal.ieee, -EReal.coe_mul]

/-- The factor's start is a real number. -/
theorem init_isR : IsR (Ideal.ofBits FTy.f32 0x3E4CCCCD#32) := by
  refine ⟨13421773 * 2 ^ (-26 : ℤ), ?_⟩
  simp [Ideal.ofBits, Ideal.ieee, -EReal.coe_mul]

/-- The signed comparison of two numbers below `2^31` is their own. -/
theorem sle_iff (a t : ℕ) (ha : a < 2^31) (ht : t < 2^31) : IntOp.cmpi .sle (BitVec.ofNat 32 a) (BitVec.ofNat 32 t) = 1 ↔ a ≤ t := by
  show BitVec.ofBool (BitVec.sle (BitVec.ofNat 32 a) (BitVec.ofNat 32 t)) = 1 ↔ _
  have e : BitVec.sle (BitVec.ofNat 32 a) (BitVec.ofNat 32 t) = decide (a ≤ t) := by
    rw [BitVec.sle_eq_decide, Cert.Stick.toInt_small a ha, Cert.Stick.toInt_small t ht]
    simp
  rw [e]
  by_cases h : a ≤ t <;> simp [h]

/-- A score: a map's half of a query row with that of a key row, scaled. -/
def dotc (c : Fin 2) (q k : Fin 128 → ℝ) : ℝ :=
  (∑ x : Fin 64, q ⟨64 * c.val + x.val, by omega⟩ * k ⟨64 * c.val + x.val, by omega⟩) * c8

/-- A sum over a head's columns of which the second half is `0`. -/
theorem half0 (f : Fin 128 → ℝ) : ∑ x : Fin 128, (if x.val < 64 then f x else 0) = ∑ x : Fin 64, f ⟨x.val, by omega⟩ := by
  have e := Fin.sum_univ_add (a := 64) (b := 64) (fun x : Fin (64 + 64) => if x.val < 64 then f x else 0)
  refine e.trans ?_
  rw [Finset.sum_eq_zero (f := fun x : Fin 64 => if (Fin.natAdd 64 x).val < 64 then f (Fin.natAdd 64 x) else 0) fun x _ => if_neg (by simp),
    add_zero]
  exact Finset.sum_congr rfl fun x _ => if_pos (by simp)

/-- A sum over a head's columns of which the first half is `0`. -/
theorem half1 (f : Fin 128 → ℝ) : ∑ x : Fin 128, (if x.val < 64 then 0 else f x) = ∑ x : Fin 64, f ⟨64 + x.val, by omega⟩ := by
  have e := Fin.sum_univ_add (a := 64) (b := 64) (fun x : Fin (64 + 64) => if x.val < 64 then 0 else f x)
  refine e.trans ?_
  rw [Finset.sum_eq_zero (f := fun x : Fin 64 => if (Fin.castAdd 64 x).val < 64 then 0 else f (Fin.castAdd 64 x)) fun x _ => if_pos (by simp),
    zero_add]
  exact Finset.sum_congr rfl fun x _ => if_neg (by simp)

/-- The scores at an index. -/
theorem score_at (c : Fin 2) (q k : FVec Ideal S1x512x128 .bf16) (r j : Fin 512) (qv kv : Fin 128 → ℝ)
    (hq : ∀ x, (q (ix3 0 r x) : EReal) = (qv x : EReal)) (hk : ∀ x, (k (ix3 0 j x) : EReal) = (kv x : EReal)) :
    (score c q k (ix2 r j) : EReal) = (dotc c qv kv : EReal) := by
  have hc : ∀ x : Fin 128, (IntOp.cmpi CmpIPredicate.slt (BitVec.ofNat 32 x.val) 64#32 = 1) ↔ x.val < 64 := fun x =>
    Cert.Stick.slt_iff x.val 64 (by have := x.isLt; omega) (by omega)
  unfold score
  match c with
  | 0 =>
    dsimp only
    pointwise [k0_pay6, k0_pay197, k0_pay2, k0_pay3, k0_pay4]
    have e : ∀ x : Fin 128, Scalar.select (IntOp.cmpi CmpIPredicate.slt (BitVec.ofNat 32 x.val) 64#32)
        ((q (ix3 0 r x) : EReal) * k (ix3 0 j x)) 0 = ((if x.val < 64 then qv x * kv x else 0 : ℝ) : EReal) := fun x => by
      rw [Cert.Stick.sel, if_congr (hc x) rfl rfl, hq, hk, ← EReal.coe_mul, ← EReal.coe_zero, ← apply_ite]
    rw [Finset.sum_congr rfl fun x _ => e x, sum_coe, c8_eq, ← EReal.coe_mul, half0 fun x => qv x * kv x]
    unfold dotc
    congr 2
  | 1 =>
    dsimp only
    pointwise [k0_pay12, k0_pay197, k0_pay2, k0_pay3, k0_pay4]
    have e : ∀ x : Fin 128, Scalar.select (IntOp.cmpi CmpIPredicate.slt (BitVec.ofNat 32 x.val) 64#32) 0
        ((q (ix3 0 r x) : EReal) * k (ix3 0 j x)) = ((if x.val < 64 then 0 else qv x * kv x : ℝ) : EReal) := fun x => by
      rw [Cert.Stick.sel, if_congr (hc x) rfl rfl, hq, hk, ← EReal.coe_mul, ← EReal.coe_zero, ← apply_ite]
    rw [Finset.sum_congr rfl fun x _ => e x, sum_coe, c8_eq, ← EReal.coe_mul, half1 fun x => qv x * kv x]
    rfl

/-- The masked scores at an index. -/
theorem causal_at (s : FVec Ideal S512x512 .f32) (r j : Fin 512) :
    (causal s (ix2 r j) : EReal) = if j.val ≤ r.val then s (ix2 r j) else ⊥ := by
  unfold causal
  pointwise
  have hr := r.isLt
  have hj := j.isLt
  rw [Cert.Stick.sel]
  exact if_congr (sle_iff j.val r.val (by omega) (by omega)) rfl rfl

/-- The maximum of a row of scores with one for a key not past the query is a real number. -/
theorem mx_real (s : FVec Ideal S512x512 .f32) (r : Fin 512) (z : ℕ → ℝ) (t o : ℕ) (h : o ≤ t)
    (hs : ∀ j : Fin 512, (s (ix2 r j) : EReal) = sc z t (o + j.val)) : IsR (mx s (ix2 r 0)) := by
  unfold mx
  pointwise
  refine isR_fold _ ofBits_inf _ (fun x => ?_) 0 ?_
  · rw [hs]
    exact sc_ne_top z t _
  · rw [hs]
    unfold sc
    rw [if_pos (by simpa using h)]
    exact EReal.coe_ne_bot _

/-- One chunk at an index: the sums grow by the chunk's keys. -/
theorem upd_at (s : FVec Ideal S512x512 .f32) (v : FVec Ideal S1x512x128 .bf16) (T : T3) (r : Fin 512) (d : Fin 128)
    (z u : ℕ → ℝ) (t o : ℕ) (h : o ≤ t) (hs : ∀ j : Fin 512, (s (ix2 r j) : EReal) = sc z t (o + j.val))
    (hv : ∀ j : Fin 512, (v (ix3 0 j d) : EReal) = (u (o + j.val) : EReal))
    (hT : St (T.1 (ix2 r 0)) (T.2.1 (ix2 r 0)) (T.2.2 (ix2 r d)) (sw z t o) (sv z t u o)) :
    St ((upd s v T).1 (ix2 r 0)) ((upd s v T).2.1 (ix2 r 0)) ((upd s v T).2.2 (ix2 r d)) (sw z t (o + 512)) (sv z t u (o + 512)) := by
  have hM := mx_real s r z t o h hs
  have e := hT.step z t o (fun j => s (ix2 r j)) (fun j => v (ix3 0 j d)) u _ hM hs hv
  rw [sw_add, sv_add] at e
  unfold upd
  dsimp only
  generalize mx s = M at e
  have e1 : (k0_pay14 T.1 M (ix2 r 0) : EReal) = max (T.1 (ix2 r 0)) (M (ix2 r 0)) := by
    pointwise [k0_pay14]
  have e2 : (k0_pay17 T.1 T.2.1 s M (ix2 r 0) : EReal) = Ideal.exp (T.1 (ix2 r 0) - max (T.1 (ix2 r 0)) (M (ix2 r 0))) * T.2.1 (ix2 r 0)
      + ∑ x, Ideal.exp (s (ix2 r x) - max (T.1 (ix2 r 0)) (M (ix2 r 0))) := by
    pointwise [k0_pay17, k0_pay15, k0_pay16, k0_pay14]
  have e3 : (k0_pay18 T.1 T.2.2 (k0_pay5 v) s M (ix2 r d) : EReal)
      = Ideal.exp (T.1 (ix2 r 0) - max (T.1 (ix2 r 0)) (M (ix2 r 0))) * T.2.2 (ix2 r d)
        + ∑ x, Ideal.exp (s (ix2 r x) - max (T.1 (ix2 r 0)) (M (ix2 r 0))) * v (ix3 0 x d) := by
    pointwise [k0_pay18, k0_pay15, k0_pay16, k0_pay14, k0_pay5]
  rw [e1, e2, e3]
  exact e

/-- The head's result from the two maps' sums. -/
def fin (lam : FVec Ideal S1x1 .f32) (a b : T3) (g : FVec Ideal S1x1x128 .f32) : FVec Ideal S1x512x128 .bf16 :=
  k0_pay319 (k0_pay317 lam a.2.1 a.2.2 b.2.1 b.2.2) (k0_pay318 lam a.2.1 a.2.2 b.2.1 b.2.2) g

/-- The norm of a head's row, with its gain and its factor. -/
def nrm (o : Fin 128 → EReal) (g : Fin 128 → EReal) (d : Fin 128) : EReal :=
  o d * Ideal.rsqrt (Ideal.div (∑ x, o x * o x) (Ideal.ofBits FTy.f32 0x43000000#32) + Ideal.ofBits FTy.f32 0x358637BD#32) * g d
    * Ideal.ofBits FTy.f32 0x3F4CCCCD#32

/-- The head's result at an index. -/
theorem fin_at (lam : FVec Ideal S1x1 .f32) (a b : T3) (g : FVec Ideal S1x1x128 .f32) (r : Fin 512) (d : Fin 128) (o : Fin 128 → EReal)
    (ho : ∀ x : Fin 128, Ideal.div (a.2.2 (ix2 r x)) (a.2.1 (ix2 r 0)) - (lam (ix2 0 0) : EReal) * Ideal.div (b.2.2 (ix2 r x)) (b.2.1 (ix2 r 0)) = o x) :
    (fin lam a b g (ix3 0 r d) : EReal) = nrm o (fun x => g (ix3 0 0 x)) d := by
  unfold fin nrm
  pointwise [k0_pay319, k0_pay318, k0_pay317]
  simp only [ho]

/-- The factor of the second map, from the layer's four rows of parameters. -/
def lamE (p : Fin 4 → Fin 64 → EReal) : EReal :=
  Ideal.exp (∑ x, p 0 x * p 1 x) - Ideal.exp (∑ x, p 2 x * p 3 x) + Ideal.ofBits FTy.f32 0x3E4CCCCD#32

/-- The kernel's factor. -/
theorem lam_at (x0 : FVec Ideal S1x4x64 .f32) : (k0_pay196 (F := Ideal) x0 (ix2 0 0) : EReal) = lamE fun a x => x0 (ix3 0 a x) := by
  unfold lamE
  pointwise [k0_pay196]

/-- The factor of real parameters is a real number. -/
theorem lamE_real (p : Fin 4 → Fin 64 → EReal) (hp : ∀ a x, IsR (p a x)) : IsR (lamE p) := by
  have hs : ∀ a b, IsR (∑ x, p a x * p b x) := fun a b => IsR.sum fun x => (hp a x).mul (hp b x)
  obtain ⟨u, hu⟩ := hs 0 1
  obtain ⟨w, hw⟩ := hs 2 3
  unfold lamE
  rw [hu, hw, Ideal.exp_coe, Ideal.exp_coe]
  exact (IsR.sub ⟨_, rfl⟩ ⟨_, rfl⟩).add init_isR

end Cert.Diff

end
-- ==== Proof.DiffLoop.lean ====
/- The differential attention's loop, read at an index: the induction over the chunks before the query's own. -/
module

public import proofs.«01_k».proof.Proof.DiffChunk
public import proofs.«01_k».proof.Proof.Gen.Kernel10Ideal.Value

@[expose] public section

set_option maxRecDepth 16384

noncomputable section

open Idealize.ShloMosaic Idealize.ShloMosaic.TcCoe Idealize.SL.Sem

namespace Cert.Diff

open Cert.Kernel10Ideal Cert.Kernel10Ideal.Gen Cert.OutMath

variable (𝒱 : Variants) (c : Dev nD) (bd : Option 𝒱.V)
  (i : grid0.Coords) (arg2 : Memref sig .tc .vmem S1x4x64 .f32) (harg2 : arg2.IsWhole)
  (arg3 : Memref sig .tc .vmem S1x1x768 .f32) (harg3 : arg3.IsWhole) (arg4 : Memref sig .tc .vmem S1x512x768 .bf16) (harg4 : arg4.IsWhole)
  (arg5 : Memref sig .tc .vmem S1x4096x768 .bf16) (harg5 : arg5.IsWhole) (arg6 : Memref sig .tc .vmem S1x4096x768 .bf16) (harg6 : arg6.IsWhole)
  (arg7 : Memref sig .tc .vmem S1x512x768 .bf16) (harg7 : arg7.IsWhole)
  (X_arg4 : BufTy.Contents (Elt Ideal) arg4.view.ty) (X_arg5 : BufTy.Contents (Elt Ideal) arg5.view.ty)
  (X_arg6 : BufTy.Contents (Elt Ideal) arg6.view.ty)

/-- What the loop carries: a running maximum, a running sum and an accumulator for each of six heads' two maps. -/
abbrev C36 := FVec Ideal S512x1 FTy.f32 × FVec Ideal S512x1 FTy.f32 × FVec Ideal S512x128 FTy.f32 × FVec Ideal S512x1 FTy.f32 × FVec Ideal S512x1 FTy.f32 × FVec Ideal S512x128 FTy.f32 × FVec Ideal S512x1 FTy.f32 × FVec Ideal S512x1 FTy.f32 × FVec Ideal S512x128 FTy.f32 × FVec Ideal S512x1 FTy.f32 × FVec Ideal S512x1 FTy.f32 × FVec Ideal S512x128 FTy.f32 × FVec Ideal S512x1 FTy.f32 × FVec Ideal S512x1 FTy.f32 × FVec Ideal S512x128 FTy.f32 × FVec Ideal S512x1 FTy.f32 × FVec Ideal S512x1 FTy.f32 × FVec Ideal S512x128 FTy.f32 × FVec Ideal S512x1 FTy.f32 × FVec Ideal S512x1 FTy.f32 × FVec Ideal S512x128 FTy.f32 × FVec Ideal S512x1 FTy.f32 × FVec Ideal S512x1 FTy.f32 × FVec Ideal S512x128 FTy.f32 × FVec Ideal S512x1 FTy.f32 × FVec Ideal S512x1 FTy.f32 × FVec Ideal S512x128 FTy.f32 × FVec Ideal S512x1 FTy.f32 × FVec Ideal S512x1 FTy.f32 × FVec Ideal S512x128 FTy.f32 × FVec Ideal S512x1 FTy.f32 × FVec Ideal S512x1 FTy.f32 × FVec Ideal S512x128 FTy.f32 × FVec Ideal S512x1 FTy.f32 × FVec Ideal S512x1 FTy.f32 × FVec Ideal S512x128 FTy.f32

/-- The three values of map `e` of head `h` among those the loop carries. -/
def tri (h : Fin 6) (e : Fin 2) (s : C36) : T3 :=
  match h, e with
  | 0, 0 => (s.1, s.2.1, s.2.2.1)
  | 0, 1 => (s.2.2.2.1, s.2.2.2.2.1, s.2.2.2.2.2.1)
  | 1, 0 => (s.2.2.2.2.2.2.1, s.2.2.2.2.2.2.2.1, s.2.2.2.2.2.2.2.2.1)
  | 1, 1 => (s.2.2.2.2.2.2.2.2.2.1, s.2.2.2.2.2.2.2.2.2.2.1, s.2.2.2.2.2.2.2.2.2.2.2.1)
  | 2, 0 => (s.2.2.2.2.2.2.2.2.2.2.2.2.1, s.2.2.2.2.2.2.2.2.2.2.2.2.2.1, s.2.2.2.2.2.2.2.2.2.2.2.2.2.2.1)
  | 2, 1 => (s.2.2.2.2.2.2.2.2.2.2.2.2.2.2.2.1, s.2.2.2.2.2.2.2.2.2.2.2.2.2.2.2.2.1, s.2.2.2.2.2.2.2.2.2.2.2.2.2.2.2.2.2.1)
  | 3, 0 => (s.2.2.2.2.2.2.2.2.2.2.2.2.2.2.2.2.2.2.1, s.2.2.2.2.2.2.2.2.2.2.2.2.2.2.2.2.2.2.2.1, s.2.2.2.2.2.2.2.2.2.2.2.2.2.2.2.2.2.2.2.2.1)
  | 3, 1 => (s.2.2.2.2.2.2.2.2.2.2.2.2.2.2.2.2.2.2.2.2.2.1, s.2.2.2.2.2.2.2.2.2.2.2.2.2.2.2.2.2.2.2.2.2.2.1, s.2.2.2.2.2.2.2.2.2.2.2.2.2.2.2.2.2.2.2.2.2.2.2.1)
  | 4, 0 => (s.2.2.2.2.2.2.2.2.2.2.2.2.2.2.2.2.2.2.2.2.2.2.2.2.1, s.2.2.2.2.2.2.2.2.2.2.2.2.2.2.2.2.2.2.2.2.2.2.2.2.2.1, s.2.2.2.2.2.2.2.2.2.2.2.2.2.2.2.2.2.2.2.2.2.2.2.2.2.2.1)
  | 4, 1 => (s.2.2.2.2.2.2.2.2.2.2.2.2.2.2.2.2.2.2.2.2.2.2.2.2.2.2.2.1, s.2.2.2.2.2.2.2.2.2.2.2.2.2.2.2.2.2.2.2.2.2.2.2.2.2.2.2.2.1, s.2.2.2.2.2.2.2.2.2.2.2.2.2.2.2.2.2.2.2.2.2.2.2.2.2.2.2.2.2.1)
  | 5, 0 => (s.2.2.2.2.2.2.2.2.2.2.2.2.2.2.2.2.2.2.2.2.2.2.2.2.2.2.2.2.2.2.1, s.2.2.2.2.2.2.2.2.2.2.2.2.2.2.2.2.2.2.2.2.2.2.2.2.2.2.2.2.2.2.2.1, s.2.2.2.2.2.2.2.2.2.2.2.2.2.2.2.2.2.2.2.2.2.2.2.2.2.2.2.2.2.2.2.2.1)
  | 5, 1 => (s.2.2.2.2.2.2.2.2.2.2.2.2.2.2.2.2.2.2.2.2.2.2.2.2.2.2.2.2.2.2.2.2.2.1, s.2.2.2.2.2.2.2.2.2.2.2.2.2.2.2.2.2.2.2.2.2.2.2.2.2.2.2.2.2.2.2.2.2.2.1, s.2.2.2.2.2.2.2.2.2.2.2.2.2.2.2.2.2.2.2.2.2.2.2.2.2.2.2.2.2.2.2.2.2.2.2)

/-- Where a trip reads head `h`'s keys and values. -/
def koff (h : Fin 6) (i : grid0.Coords) (k : Fin (k0_t1_loop i).trips) : Fin 3 → ℕ :=
  match h with
  | 0 => k0_off1 i k
  | 1 => k0_off2 i k
  | 2 => k0_off3 i k
  | 3 => k0_off4 i k
  | 4 => k0_off5 i k
  | 5 => k0_off6 i k

/-- Where the last chunk reads head `h`'s keys and values. -/
def foff (h : Fin 6) (i : grid0.Coords) : Fin 3 → ℕ :=
  match h with
  | 0 => k0_off13 i
  | 1 => k0_off14 i
  | 2 => k0_off15 i
  | 3 => k0_off16 i
  | 4 => k0_off17 i
  | 5 => k0_off18 i

theorem koff_eq : ∀ (h : Fin 6) (i : grid0.Coords) (k : Fin (k0_t1_loop i).trips), koff h i k = ![0, 512 * k.val, 128 * h.val] := by decide +kernel

theorem koff_le : ∀ (h : Fin 6) (i : grid0.Coords) (k : Fin (k0_t1_loop i).trips) (a : Fin 3),
    koff h i k a + S1x512x128.size a ≤ S1x4096x768.size a := by decide +kernel

theorem foff_eq : ∀ (h : Fin 6) (i : grid0.Coords), foff h i = ![0, 512 * (i 1).val, 128 * h.val] := by decide +kernel

theorem foff_le : ∀ (h : Fin 6) (i : grid0.Coords) (a : Fin 3), foff h i a + S1x512x128.size a ≤ S1x4096x768.size a := by decide +kernel

theorem qoff_le : ∀ (h : Fin 6) (a : Fin 3), (![0, 0, 128 * h.val] : Fin 3 → ℕ) a + S1x512x128.size a ≤ S1x512x768.size a := by decide +kernel

theorem trips1 : ∀ i : grid0.Coords, (k0_t1_loop i).trips = (i 1).val := by decide +kernel

theorem trips2 : ∀ i : grid0.Coords, (k0_t2_loop i).trips = 0 := by decide +kernel

theorem i1_lt : ∀ i : grid0.Coords, (i 1).val < 8 := by decide +kernel

/-- Head `h`'s queries of the block. -/
def qLoad (h : Fin 6) : FVec Ideal S1x512x128 .bf16 :=
  View.readAt (Elt Ideal) arg4.view (Rect.unit (s := S1x512x768) ![0, 0, 128 * h.val] S1x512x128.size (qoff_le h)).toLoadRect X_arg4

/-- A chunk of keys or values of a head. -/
def cLoad (arg5 : Memref sig .tc .vmem S1x4096x768 .bf16) (X : BufTy.Contents (Elt Ideal) arg5.view.ty) (o : Fin 3 → ℕ)
    (ho : ∀ a, o a + S1x512x128.size a ≤ S1x4096x768.size a) : FVec Ideal S1x512x128 .bf16 :=
  View.readAt (Elt Ideal) arg5.view (Rect.unit (s := S1x4096x768) o S1x512x128.size ho).toLoadRect X

/-- A trip of the loop is a chunk of every map. -/
theorem trip_tri (k : Fin (k0_t1_loop i).trips) (acc : C36) (h : Fin 6) (e : Fin 2) :
    tri h e (tripR_k0_t1 (F := Ideal) 𝒱 c bd i arg2 harg2 arg3 harg3 arg4 harg4 arg5 harg5 arg6 harg6 arg7 harg7 X_arg4 X_arg5 X_arg6 k acc)
      = upd (score e (qLoad arg4 X_arg4 h) (cLoad arg5 X_arg5 (koff h i k) (koff_le h i k))) (cLoad arg6 X_arg6 (koff h i k) (koff_le h i k))
          (tri h e acc) := by
  unfold tripR_k0_t1 trip_k0_t1
  match h, e with
  | 0, 0 => rfl
  | 0, 1 => rfl
  | 1, 0 => rfl
  | 1, 1 => rfl
  | 2, 0 => rfl
  | 2, 1 => rfl
  | 3, 0 => rfl
  | 3, 1 => rfl
  | 4, 0 => rfl
  | 4, 1 => rfl
  | 5, 0 => rfl
  | 5, 1 => rfl

/-- Head `h`'s queries at an index. -/
theorem qLoad_at (x : FVec Ideal S1x512x768 .bf16) (h : Fin 6) (r : Fin 512) (a : Fin 128) :
    qLoad arg4 (harg4.unread x) h (ix3 0 r a) = x (ix3 0 r ⟨128 * h.val + a.val, by omega⟩) := by
  unfold qLoad
  rw [View.readAt_eq_ld, harg4.read_unread]
  refine View.ld_unit_apply_of _ _ _ _ _ _ fun b => ?_
  match b with
  | ⟨0, _⟩ => rfl
  | ⟨1, _⟩ => exact (Nat.zero_add _).symm
  | ⟨2, _⟩ => rfl

/-- A chunk of keys or values at an index. -/
theorem cLoad_at (x : FVec Ideal S1x4096x768 .bf16) (h : Fin 6) (n : ℕ) (o : Fin 3 → ℕ) (ho) (e : o = ![0, 512 * n, 128 * h.val])
    (j : Fin 512) (a : Fin 128) (s : ℕ) (hs : s < 4096) (es : s = 512 * n + j.val) :
    cLoad arg5 (harg5.unread x) o ho (ix3 0 j a) = x (ix3 0 ⟨s, hs⟩ ⟨128 * h.val + a.val, by omega⟩) := by
  unfold cLoad
  rw [View.readAt_eq_ld, harg5.read_unread]
  refine View.ld_unit_apply_of _ _ _ _ _ _ fun b => ?_
  match b with
  | ⟨0, _⟩ => exact (congrArg (· + 0) (congrFun e 0)).symm
  | ⟨1, _⟩ => exact es.trans (congrArg (· + j.val) (congrFun e 1)).symm
  | ⟨2, _⟩ => exact (congrArg (· + a.val) (congrFun e 2)).symm

/-- The scores of a query row in map `e` of head `h`, by the key's position. -/
def zN (q : Fin 768 → ℝ) (k : ℕ → Fin 768 → ℝ) (h : Fin 6) (e : Fin 2) (s : ℕ) : ℝ :=
  dotc e (fun a => q ⟨128 * h.val + a.val, by omega⟩) (fun a => k s ⟨128 * h.val + a.val, by omega⟩)

/-- The entries of a block's query row, and of the keys or values, are those real numbers. -/
def Row (x : FVec Ideal S1x512x768 .bf16) (r : Fin 512) (q : Fin 768 → ℝ) : Prop := ∀ a, (x (ix3 0 r a) : EReal) = (q a : EReal)

/-- The entries of the keys or values are those real numbers. -/
def Rows (x : FVec Ideal S1x4096x768 .bf16) (k : ℕ → Fin 768 → ℝ) : Prop := ∀ (s : Fin 4096) a, (x (ix3 0 s a) : EReal) = (k s.val a : EReal)

/-- A chunk's scores at an index. -/
theorem chunk_score (x2 : FVec Ideal S1x512x768 .bf16) (x3 : FVec Ideal S1x4096x768 .bf16) (q : Fin 768 → ℝ) (k : ℕ → Fin 768 → ℝ)
    (r : Fin 512) (hq : Row x2 r q) (hk : Rows x3 k) (h : Fin 6) (e : Fin 2) (n : ℕ) (hn : n < 8) (o : Fin 3 → ℕ) (ho)
    (eo : o = ![0, 512 * n, 128 * h.val]) (j : Fin 512) :
    (score e (qLoad arg4 (harg4.unread x2) h) (cLoad arg5 (harg5.unread x3) o ho) (ix2 r j) : EReal) = (zN q k h e (512 * n + j.val) : EReal) := by
  have hj := j.isLt
  exact score_at e _ _ r j _ _ (fun a => by rw [qLoad_at arg4 harg4 x2 h r a]; exact hq _)
    fun a => by rw [cLoad_at arg5 harg5 x3 h n o ho eo j a _ (by omega) rfl]; exact hk _ _

/-- A chunk of the loop, whose keys all stand before the query. -/
theorem chunk_full (x2 : FVec Ideal S1x512x768 .bf16) (x3 x4 : FVec Ideal S1x4096x768 .bf16) (q : Fin 768 → ℝ) (k v : ℕ → Fin 768 → ℝ)
    (r : Fin 512) (d : Fin 128) (hq : Row x2 r q) (hk : Rows x3 k) (hv : Rows x4 v) (h : Fin 6) (e : Fin 2) (n : ℕ) (hn : n < 8) (t : ℕ)
    (ht : 512 * n + 512 ≤ t) (o : Fin 3 → ℕ) (ho) (eo : o = ![0, 512 * n, 128 * h.val]) (T : T3)
    (hT : St (T.1 (ix2 r 0)) (T.2.1 (ix2 r 0)) (T.2.2 (ix2 r d)) (sw (zN q k h e) t (512 * n)) (sv (zN q k h e) t (fun s => v s ⟨128 * h.val + d.val, by omega⟩) (512 * n)))
    (U : T3) (hU : U = upd (score e (qLoad arg4 (harg4.unread x2) h) (cLoad arg5 (harg5.unread x3) o ho)) (cLoad arg6 (harg6.unread x4) o ho) T) :
    St (U.1 (ix2 r 0)) (U.2.1 (ix2 r 0)) (U.2.2 (ix2 r d)) (sw (zN q k h e) t (512 * (n + 1)))
      (sv (zN q k h e) t (fun s => v s ⟨128 * h.val + d.val, by omega⟩) (512 * (n + 1))) := by
  subst hU
  refine upd_at _ _ T r d (zN q k h e) (fun s => v s ⟨128 * h.val + d.val, by omega⟩) t (512 * n) (by omega) (fun j => ?_) (fun j => ?_) hT
  · have hj := j.isLt
    rw [chunk_score arg4 harg4 arg5 harg5 x2 x3 q k r hq hk h e n hn o ho eo j]
    exact (if_pos (by omega)).symm
  · have hj := j.isLt
    rw [cLoad_at arg6 harg6 x4 h n o ho eo j d _ (by omega) rfl]
    exact hv _ _

/-- The last chunk, whose keys stand before the query up to its own. -/
theorem chunk_last (x2 : FVec Ideal S1x512x768 .bf16) (x3 x4 : FVec Ideal S1x4096x768 .bf16) (q : Fin 768 → ℝ) (k v : ℕ → Fin 768 → ℝ)
    (r : Fin 512) (d : Fin 128) (hq : Row x2 r q) (hk : Rows x3 k) (hv : Rows x4 v) (h : Fin 6) (e : Fin 2) (n : ℕ) (hn : n < 8)
    (o : Fin 3 → ℕ) (ho) (eo : o = ![0, 512 * n, 128 * h.val]) (T : T3)
    (hT : St (T.1 (ix2 r 0)) (T.2.1 (ix2 r 0)) (T.2.2 (ix2 r d)) (sw (zN q k h e) (512 * n + r.val) (512 * n))
      (sv (zN q k h e) (512 * n + r.val) (fun s => v s ⟨128 * h.val + d.val, by omega⟩) (512 * n)))
    (U : T3) (hU : U = upd (causal (score e (qLoad arg4 (harg4.unread x2) h) (cLoad arg5 (harg5.unread x3) o ho))) (cLoad arg6 (harg6.unread x4) o ho) T) :
    St (U.1 (ix2 r 0)) (U.2.1 (ix2 r 0)) (U.2.2 (ix2 r d)) (sw (zN q k h e) (512 * n + r.val) (512 * (n + 1)))
      (sv (zN q k h e) (512 * n + r.val) (fun s => v s ⟨128 * h.val + d.val, by omega⟩) (512 * (n + 1))) := by
  subst hU
  refine upd_at _ _ T r d (zN q k h e) (fun s => v s ⟨128 * h.val + d.val, by omega⟩) _ (512 * n) (by omega) (fun j => ?_) (fun j => ?_) hT
  · have hj := j.isLt
    rw [causal_at, chunk_score arg4 harg4 arg5 harg5 x2 x3 q k r hq hk h e n hn o ho eo j]
    exact if_congr (by omega) rfl rfl
  · have hj := j.isLt
    rw [cLoad_at arg6 harg6 x4 h n o ho eo j d _ (by omega) rfl]
    exact hv _ _

/-- The loop at an index, after `n` trips. -/
theorem loop_at (x2 : FVec Ideal S1x512x768 .bf16) (x3 x4 : FVec Ideal S1x4096x768 .bf16) (q : Fin 768 → ℝ) (k v : ℕ → Fin 768 → ℝ)
    (r : Fin 512) (d : Fin 128) (hq : Row x2 r q) (hk : Rows x3 k) (hv : Rows x4 v) (h : Fin 6) (e : Fin 2) (init : C36)
    (h1 : ((tri h e init).1 (ix2 r 0) : EReal) = ⊥) (h2 : ((tri h e init).2.1 (ix2 r 0) : EReal) = 0)
    (h3 : ((tri h e init).2.2 (ix2 r d) : EReal) = 0) (n : ℕ) (hn : n ≤ (k0_t1_loop i).trips) (U : T3)
    (hU : U = tri h e (st_k0_t1 (F := Ideal) 𝒱 c bd i arg2 harg2 arg3 harg3 arg4 harg4 arg5 harg5 arg6 harg6 arg7 harg7
        (harg4.unread x2) (harg5.unread x3) (harg6.unread x4) init n)) :
    St (U.1 (ix2 r 0)) (U.2.1 (ix2 r 0)) (U.2.2 (ix2 r d)) (sw (zN q k h e) (512 * (i 1).val + r.val) (512 * n))
      (sv (zN q k h e) (512 * (i 1).val + r.val) (fun s => v s ⟨128 * h.val + d.val, by omega⟩) (512 * n)) := by
  have hi := i1_lt i
  have ht := trips1 i
  induction n generalizing U with
  | zero =>
    subst hU
    rw [st_k0_t1_zero]
    exact Or.inr ⟨h1, h2, h3, rfl, rfl⟩
  | succ n ih =>
    have hlt : n < (k0_t1_loop i).trips := hn
    have e0 := st_k0_t1_succ (F := Ideal) 𝒱 c bd i arg2 harg2 arg3 harg3 arg4 harg4 arg5 harg5 arg6 harg6 arg7 harg7
      (harg4.unread x2) (harg5.unread x3) (harg6.unread x4) init ⟨n, hlt⟩
    refine chunk_full arg4 harg4 arg5 harg5 arg6 harg6 x2 x3 x4 q k v r d hq hk hv h e n (by omega) _ (by omega) (koff h i ⟨n, hlt⟩)
      (koff_le h i ⟨n, hlt⟩) (koff_eq h i ⟨n, hlt⟩) _ (ih (by omega) _ rfl) U ?_
    rw [hU, show n + 1 = (⟨n, hlt⟩ : Fin (k0_t1_loop i).trips).val + 1 from rfl, e0, trip_tri]

/-- The loop over the chunks left over has no trip. -/
theorem st2_eq (w : BitVec 32) (init : C36) :
    st_k0_t2 (F := Ideal) 𝒱 c bd i arg2 harg2 arg3 harg3 arg4 harg4 arg5 harg5 arg6 harg6 arg7 harg7
      w X_arg4 X_arg5 X_arg6 init (Scf.trips (k0_t2_loop i).lb (k0_t2_loop i).ub (k0_t2_loop i).st) = init := by
  rw [show Scf.trips (k0_t2_loop i).lb (k0_t2_loop i).ub (k0_t2_loop i).st = 0 from trips2 i, st_k0_t2_zero]

end Cert.Diff

end
-- ==== Proof.DiffOut.lean ====
/- The differential attention's block, read at an index. -/
module

public import proofs.«01_k».proof.Proof.DiffLoop

@[expose] public section

set_option maxRecDepth 16384

noncomputable section

open Idealize.ShloMosaic Idealize.ShloMosaic.TcCoe Idealize.SL.Sem

namespace Cert.Diff

open Cert.Kernel10Ideal Cert.Kernel10Ideal.Gen Cert.Kernel10Ideal.Gen.kernelRun0_A.sl Cert.OutMath

variable (c : Dev nD) (i : grid0.Coords) (arg2 : Memref sig .tc .vmem S1x4x64 .f32) (harg2 : arg2.IsWhole)
  (arg3 : Memref sig .tc .vmem S1x1x768 .f32) (harg3 : arg3.IsWhole) (arg4 : Memref sig .tc .vmem S1x512x768 .bf16) (harg4 : arg4.IsWhole)
  (arg5 : Memref sig .tc .vmem S1x4096x768 .bf16) (harg5 : arg5.IsWhole) (arg6 : Memref sig .tc .vmem S1x4096x768 .bf16) (harg6 : arg6.IsWhole)
  (arg7 : Memref sig .tc .vmem S1x512x768 .bf16) (harg7 : arg7.IsWhole)

/-- The running maxima start at minus infinity. -/
theorem init1 (r : Fin 512) : (k0_pay198 (F := Ideal) (ix2 r 0) : EReal) = ⊥ := by
  pointwise [k0_pay198]
  rfl

/-- The running sums start at `0`. -/
theorem init2 (r : Fin 512) : (k0_pay199 (F := Ideal) (ix2 r 0) : EReal) = 0 := by
  pointwise [k0_pay199]

/-- The accumulators start at `0`. -/
theorem init3 (r : Fin 512) (d : Fin 128) : (k0_pay200 (F := Ideal) (ix2 r d) : EReal) = 0 := by
  pointwise [k0_pay200]

/-- What the loop starts from. -/
def start : C36 := (k0_pay198, k0_pay199, k0_pay200, k0_pay198, k0_pay199, k0_pay200, k0_pay198, k0_pay199, k0_pay200, k0_pay198, k0_pay199, k0_pay200, k0_pay198, k0_pay199, k0_pay200, k0_pay198, k0_pay199, k0_pay200, k0_pay198, k0_pay199, k0_pay200, k0_pay198, k0_pay199, k0_pay200, k0_pay198, k0_pay199, k0_pay200, k0_pay198, k0_pay199, k0_pay200, k0_pay198, k0_pay199, k0_pay200, k0_pay198, k0_pay199, k0_pay200)

/-- What the two loops leave: the first one's trips, then the second one's none. -/
def after (x2 : FVec Ideal S1x512x768 .bf16) (x3 x4 : FVec Ideal S1x4096x768 .bf16) : C36 :=
  st_k0_t2 (F := Ideal) Variants.none c none i arg2 harg2 arg3 harg3 arg4 harg4 arg5 harg5 arg6 harg6 arg7 harg7
    (kernelRun0_A.sl.v27 i) (harg4.unread x2) (harg5.unread x3) (harg6.unread x4)
    (st_k0_t1 (F := Ideal) Variants.none c none i arg2 harg2 arg3 harg3 arg4 harg4 arg5 harg5 arg6 harg6 arg7 harg7
      (harg4.unread x2) (harg5.unread x3) (harg6.unread x4) start (Scf.trips (k0_t1_loop i).lb (k0_t1_loop i).ub (k0_t1_loop i).st))
    (Scf.trips (k0_t2_loop i).lb (k0_t2_loop i).ub (k0_t2_loop i).st)

/-- A map's sums after the last chunk. -/
def last (x2 : FVec Ideal S1x512x768 .bf16) (x3 x4 : FVec Ideal S1x4096x768 .bf16) (h : Fin 6) (e : Fin 2) : T3 :=
  upd (causal (score e (qLoad arg4 (harg4.unread x2) h) (cLoad arg5 (harg5.unread x3) (foff h i) (foff_le h i))))
    (cLoad arg6 (harg6.unread x4) (foff h i) (foff_le h i))
    (tri h e (after c i arg2 harg2 arg3 harg3 arg4 harg4 arg5 harg5 arg6 harg6 arg7 harg7 x2 x3 x4))

theorem goff_le : ∀ (h : Fin 6) (a : Fin 3), (![0, 0, 128 * h.val] : Fin 3 → ℕ) a + S1x1x128.size a ≤ S1x1x768.size a := by decide +kernel

/-- Head `h`'s gain. -/
def gLoad (x1 : FVec Ideal S1x1x768 .f32) (h : Fin 6) : FVec Ideal S1x1x128 .f32 :=
  View.readAt (Elt Ideal) arg3.view (Rect.unit (s := S1x1x768) ![0, 0, 128 * h.val] S1x1x128.size (goff_le h)).toLoadRect (harg3.unread x1)

/-- Head `h`'s gain at an index. -/
theorem gLoad_at (x1 : FVec Ideal S1x1x768 .f32) (h : Fin 6) (a : Fin 128) :
    gLoad arg3 harg3 x1 h (ix3 0 0 a) = x1 (ix3 0 0 ⟨128 * h.val + a.val, by omega⟩) := by
  unfold gLoad
  rw [View.readAt_eq_ld, harg3.read_unread]
  refine View.ld_unit_apply_of _ _ _ _ _ _ fun b => ?_
  match b with
  | ⟨0, _⟩ => rfl
  | ⟨1, _⟩ => rfl
  | ⟨2, _⟩ => rfl

/-- The layer's parameters of the factor. -/
def lLoad (x0 : FVec Ideal S1x4x64 .f32) : FVec Ideal S1x4x64 .f32 :=
  View.readAt (Elt Ideal) arg2.view (Rect.unit (s := S1x4x64) ![0, 0, 0] ![1, 4, 64] inb_S1x4x64_S1x4x64_0_0_0).toLoadRect (harg2.unread x0)

/-- The layer's parameters of the factor at an index. -/
theorem lLoad_at (x0 : FVec Ideal S1x4x64 .f32) (a : Fin 4) (x : Fin 64) : lLoad arg2 harg2 x0 (ix3 0 a x) = x0 (ix3 0 a x) := by
  unfold lLoad
  rw [View.readAt_eq_ld, harg2.read_unread]
  refine View.ld_unit_apply_of _ _ _ _ _ _ fun b => ?_
  match b with
  | ⟨0, _⟩ => rfl
  | ⟨1, _⟩ => exact (Nat.zero_add _).symm
  | ⟨2, _⟩ => exact (Nat.zero_add _).symm

/-- A head's result in the block. -/
def blk (x0 : FVec Ideal S1x4x64 .f32) (x1 : FVec Ideal S1x1x768 .f32) (x2 : FVec Ideal S1x512x768 .bf16) (x3 x4 : FVec Ideal S1x4096x768 .bf16)
    (h : Fin 6) : FVec Ideal S1x512x128 .bf16 :=
  fin (k0_pay196 (lLoad arg2 harg2 x0)) (last c i arg2 harg2 arg3 harg3 arg4 harg4 arg5 harg5 arg6 harg6 arg7 harg7 x2 x3 x4 h 0)
    (last c i arg2 harg2 arg3 harg3 arg4 harg4 arg5 harg5 arg6 harg6 arg7 harg7 x2 x3 x4 h 1) (gLoad arg3 harg3 x1 h)

/-- A row's difference of two weighted sums. -/
def orow (lam : ℝ) (q : Fin 768 → ℝ) (k v : ℕ → Fin 768 → ℝ) (t : ℕ) (h : Fin 6) (x : Fin 128) : EReal :=
  ((dq (zN q k h 0) (zN q k h 1) t (fun s => v s ⟨128 * h.val + x.val, by omega⟩) lam 4096 : ℝ) : EReal)

/-- The loop's trips. -/
theorem trips_eq : Scf.trips (k0_t1_loop i).lb (k0_t1_loop i).ub (k0_t1_loop i).st = (i 1).val := trips1 i

/-- What the loops leave is what the first one does. -/
theorem after_eq (x2 : FVec Ideal S1x512x768 .bf16) (x3 x4 : FVec Ideal S1x4096x768 .bf16) :
    after c i arg2 harg2 arg3 harg3 arg4 harg4 arg5 harg5 arg6 harg6 arg7 harg7 x2 x3 x4
      = st_k0_t1 (F := Ideal) Variants.none c none i arg2 harg2 arg3 harg3 arg4 harg4 arg5 harg5 arg6 harg6 arg7 harg7
          (harg4.unread x2) (harg5.unread x3) (harg6.unread x4) start (i 1).val := by
  unfold after
  rw [st2_eq, trips_eq]

/-- A map's sums after the last chunk, at an index. -/
theorem last_at (x2 : FVec Ideal S1x512x768 .bf16) (x3 x4 : FVec Ideal S1x4096x768 .bf16) (q : Fin 768 → ℝ) (k v : ℕ → Fin 768 → ℝ)
    (r : Fin 512) (d : Fin 128) (hq : Row x2 r q) (hk : Rows x3 k) (hv : Rows x4 v) (h : Fin 6) (e : Fin 2) (T : T3)
    (hT : T = last c i arg2 harg2 arg3 harg3 arg4 harg4 arg5 harg5 arg6 harg6 arg7 harg7 x2 x3 x4 h e) :
    Ideal.div (T.2.2 (ix2 r d)) (T.2.1 (ix2 r 0))
      = ((sv (zN q k h e) (512 * (i 1).val + r.val) (fun s => v s ⟨128 * h.val + d.val, by omega⟩) (512 * ((i 1).val + 1))
          / sw (zN q k h e) (512 * (i 1).val + r.val) (512 * ((i 1).val + 1)) : ℝ) : EReal) := by
  have hs : ((tri h e start).1 (ix2 r 0) : EReal) = ⊥ ∧ ((tri h e start).2.1 (ix2 r 0) : EReal) = 0
      ∧ ((tri h e start).2.2 (ix2 r d) : EReal) = 0 := by
    unfold start
    match h, e with
    | 0, 0 => exact ⟨init1 r, init2 r, init3 r d⟩
    | 0, 1 => exact ⟨init1 r, init2 r, init3 r d⟩
    | 1, 0 => exact ⟨init1 r, init2 r, init3 r d⟩
    | 1, 1 => exact ⟨init1 r, init2 r, init3 r d⟩
    | 2, 0 => exact ⟨init1 r, init2 r, init3 r d⟩
    | 2, 1 => exact ⟨init1 r, init2 r, init3 r d⟩
    | 3, 0 => exact ⟨init1 r, init2 r, init3 r d⟩
    | 3, 1 => exact ⟨init1 r, init2 r, init3 r d⟩
    | 4, 0 => exact ⟨init1 r, init2 r, init3 r d⟩
    | 4, 1 => exact ⟨init1 r, init2 r, init3 r d⟩
    | 5, 0 => exact ⟨init1 r, init2 r, init3 r d⟩
    | 5, 1 => exact ⟨init1 r, init2 r, init3 r d⟩
  have L := loop_at Variants.none c none i arg2 harg2 arg3 harg3 arg4 harg4 arg5 harg5 arg6 harg6 arg7 harg7 x2 x3 x4 q k v r d hq hk hv h e
    start hs.1 hs.2.1 hs.2.2 (i 1).val (trips1 i).ge _ rfl
  unfold last at hT
  rw [after_eq] at hT
  refine St.quot (chunk_last arg4 harg4 arg5 harg5 arg6 harg6 x2 x3 x4 q k v r d hq hk hv h e (i 1).val (i1_lt i) (foff h i) (foff_le h i)
    (foff_eq h i) _ L T hT) (sw_pos _ _ _ (by have := r.isLt; omega)).ne'

/-- A head's result at an index. -/
theorem blk_at (x0 : FVec Ideal S1x4x64 .f32) (x1 : FVec Ideal S1x1x768 .f32) (x2 : FVec Ideal S1x512x768 .bf16)
    (x3 x4 : FVec Ideal S1x4096x768 .bf16) (lam : ℝ) (hl : lamE (fun a x => x0 (ix3 0 a x)) = (lam : EReal)) (q : Fin 768 → ℝ)
    (k v : ℕ → Fin 768 → ℝ) (r : Fin 512) (d : Fin 128) (hq : Row x2 r q) (hk : Rows x3 k) (hv : Rows x4 v) (h : Fin 6) :
    (blk c i arg2 harg2 arg3 harg3 arg4 harg4 arg5 harg5 arg6 harg6 arg7 harg7 x0 x1 x2 x3 x4 h (ix3 0 r d) : EReal)
      = nrm (orow lam q k v (512 * (i 1).val + r.val) h) (fun x => x1 (ix3 0 0 ⟨128 * h.val + x.val, by omega⟩)) d := by
  have hr := r.isLt
  have hi := i1_lt i
  unfold blk
  rw [fin_at _ _ _ _ r d (orow lam q k v (512 * (i 1).val + r.val) h) fun x => ?_]
  · congr 1
    funext x
    exact gLoad_at arg3 harg3 x1 h x
  · rw [last_at c i arg2 harg2 arg3 harg3 arg4 harg4 arg5 harg5 arg6 harg6 arg7 harg7 x2 x3 x4 q k v r x hq hk hv h 0 _ rfl,
      last_at c i arg2 harg2 arg3 harg3 arg4 harg4 arg5 harg5 arg6 harg6 arg7 harg7 x2 x3 x4 q k v r x hq hk hv h 1 _ rfl, lam_at,
      show (lamE fun a x => lLoad arg2 harg2 x0 (ix3 0 a x)) = _ from (congrArg lamE (funext fun a => funext fun x => lLoad_at arg2 harg2 x0 a x)).trans hl,
      ← EReal.coe_mul, ← EReal.coe_sub]
    unfold orow
    rw [← dq_past _ _ _ _ _ (512 * ((i 1).val + 1)) (by omega) (by omega)]
    rfl

/-- What the body stores for query `r`, head `h`, column `d` of a grid point. -/
theorem out_at (x0 : FVec Ideal S1x4x64 .f32) (x1 : FVec Ideal S1x1x768 .f32) (x2 : FVec Ideal S1x512x768 .bf16)
    (x3 x4 : FVec Ideal S1x4096x768 .bf16) (h : Fin 6) (r : Fin 512) (d : Fin 128) :
    (out0_A_5 (F := Ideal) c i arg2 harg2 arg3 harg3 arg4 harg4 arg5 harg5 arg6 harg6 arg7 harg7 x0 x1 x2 x3 x4
        (ix3 0 r ⟨128 * h.val + d.val, by omega⟩) : EReal)
      = blk c i arg2 harg2 arg3 harg3 arg4 harg4 arg5 harg5 arg6 harg6 arg7 harg7 x0 x1 x2 x3 x4 h (ix3 0 r d) := by
  unfold out0_A_5
  rw [View.read_writes_eq_canon _ _ _ (cover0_A_5 (F := Ideal) c i arg2 harg2 arg3 harg3 arg4 harg4 arg5 harg5 arg6 harg6 arg7 harg7 x0 x1 x2 x3 x4)]
  unfold kernelRun0_A
  dsimp only
  have E1 : Scf.trips (k0_t1_loop i).lb (k0_t1_loop i).ub (k0_t1_loop i).st = (i 1).val := trips1 i
  have E2 : Scf.trips (k0_t2_loop i).lb (k0_t2_loop i).ub (k0_t2_loop i).st = 0 := trips2 i
  dsimp only at E1 E2
  canon_tiles x g
  all_goals
    obtain rfl : r = x 1 := Fin.ext (by simpa [ix3] using g1)
    have hx : x = ix3 0 (x 1) (x 2) := funext fun a => match a with
      | ⟨0, _⟩ => Fin.ext (show (x 0).val = 0 by omega)
      | ⟨1, _⟩ => rfl
      | ⟨2, _⟩ => rfl
  case' piece0 =>
    obtain rfl : h = 5 := Fin.ext (by have := d.isLt; simp [ix3] at g2; omega)
    obtain rfl : d = x 2 := Fin.ext (by simp [ix3] at g2; omega)
  case' piece1 =>
    obtain rfl : h = 4 := Fin.ext (by have := d.isLt; simp [ix3] at g2; omega)
    obtain rfl : d = x 2 := Fin.ext (by simp [ix3] at g2; omega)
  case' piece2 =>
    obtain rfl : h = 3 := Fin.ext (by have := d.isLt; simp [ix3] at g2; omega)
    obtain rfl : d = x 2 := Fin.ext (by simp [ix3] at g2; omega)
  case' piece3 =>
    obtain rfl : h = 2 := Fin.ext (by have := d.isLt; simp [ix3] at g2; omega)
    obtain rfl : d = x 2 := Fin.ext (by simp [ix3] at g2; omega)
  case' piece4 =>
    obtain rfl : h = 1 := Fin.ext (by have := d.isLt; simp [ix3] at g2; omega)
    obtain rfl : d = x 2 := Fin.ext (by simp [ix3] at g2; omega)
  case' piece5 =>
    obtain rfl : h = 0 := Fin.ext (by have := d.isLt; simp [ix3] at g2; omega)
    obtain rfl : d = x 2 := Fin.ext (by simp [ix3] at g2; omega)
  all_goals
    refine (congrArg _ hx).trans ?_
    unfold blk last
    rw [after_eq]
    simp only [r, r_1, r_2, r_3, r_4, r_5, r_6, r_7, r_8, r_9, r_10, r_11, r_12, r_13, r_14, r_15, r_16, r_17, r_18, r_19, r_20, r_21, r_22, r_23, r_24, r_25, r_26, r_27, r_28, r_29, r_30, r_31, r_32, r_33, r_34, r_35, r_36, r_37, r_38, r_39, r_40, r_41, r_42, r_43, r_44, r_45, r_46, r_47, r_48, r_49, r_50, r_51, r_52, r_53, r_54, r_55, r_56, r_57, r_58, r_59, r_60, r_61, r_62, r_63, r_64, r_65, r_66, r_67, r_68, r_69, r_70, r_71, r_72, r_73, r_74, r_75, r_76, r_77, r_78, r_79, r_80, r_81, r_82, r_83, r_84, r_85, r_86, r_87, r_88, r_89, r_90, r_91, r_92, r_93, r_94, r_95, r_96, E1, E2, st_k0_t2_zero]
    unfold start
    generalize st_k0_t1 (F := Ideal) Variants.none c none i arg2 harg2 arg3 harg3 arg4 harg4 arg5 harg5 arg6 harg6 arg7 harg7
      (harg4.unread x2) (harg5.unread x3) (harg6.unread x4) _ _ = S
    rfl

end Cert.Diff

end
-- ==== Proof.DiffRef.lean ====
/- The differential attention's reference read at an index: its scores, its weights, its difference of two weighted sums,
   its norm. -/
module

public import proofs.«01_k».proof.Proof.Gen.Reference10Ideal.Read
public import proofs.«01_k».proof.Proof.DiffOut

@[expose] public section

set_option maxRecDepth 16384

noncomputable section

open Idealize.ShloMosaic Idealize.ShloMosaic.TcCoe Idealize.SL.Sem

namespace Cert.Diff.Ref

open Cert.Reference10Ideal Cert.Reference10Ideal.Gen Cert.Reference10Ideal.Read Cert.OutMath

/-- Row `t` of the queries, keys or values, as real numbers. -/
def rowR (X : FVec Ideal S2x4096x768 .bf16) (b : Fin 2) (t : ℕ) (a : Fin 768) : ℝ :=
  if h : t < 4096 then (X (ix3 b ⟨t, h⟩ a) : EReal).toReal else 0

/-- A real entry is its row's. -/
theorem rowR_eq (X : FVec Ideal S2x4096x768 .bf16) (hX : ∀ j, IsR (X j)) (b : Fin 2) (t : Fin 4096) (a : Fin 768) :
    (X (ix3 b t a) : EReal) = (rowR X b t.val a : EReal) := by
  unfold rowR
  rw [dif_pos t.isLt]
  obtain ⟨r, hr⟩ := hX (ix3 b t a)
  rw [show (⟨t.val, t.isLt⟩ : Fin 4096) = t from rfl, hr, EReal.toReal_coe]

variable (X0 X1 X2 : FVec Ideal S2x4096x768 .bf16) (h0 : ∀ j, IsR (X0 j)) (h1 : ∀ j, IsR (X1 j)) (h2 : ∀ j, IsR (X2 j))
  (X3 : FVec Ideal S2x4x64 .f32) (X4 : FVec Ideal S2x1x768 .f32)

include h0 h1 in
/-- The reference's scores at an index, later keys masked. -/
theorem s_at (b : Fin 2) (h : Fin 6) (e : Fin 2) (t s : Fin 4096) :
    (val_main_v33 (F := Ideal) X0 X1 (ix5 b h e t s) : EReal) = sc (zN (rowR X0 b t) (rowR X1 b) h e) t.val s.val := by
  pointwise [val_main_v33, val_main_call0_v1, val_main_call0_v2, val_main_call0_v0, val_main_cst_3, val_main_v32, val_main_v31, val_main_v30, val_main_v29, val_main_v28, val_main_v24, val_main_v27, val_main_v26, val_main_cst_2, val_main_v25, val_main_v3, val_main_v2, val_main_v1, val_main_v0, id]
  have ht := t.isLt
  have hs := s.isLt
  rw [Cert.Stick.sel, if_congr (sle_iff s.val t.val (by omega) (by omega)) rfl rfl, ofBits_inf]
  unfold sc
  refine if_congr Iff.rfl ?_ rfl
  have ez : ∀ x : Fin 64, (X0 (ix3 b t ⟨h.val * 128 + e.val * 64 + x.val, by omega⟩) : EReal) * X1 (ix3 b s ⟨h.val * 128 + e.val * 64 + x.val, by omega⟩)
      = ((rowR X0 b t ⟨128 * h.val + (64 * e.val + x.val), by omega⟩ * rowR X1 b s ⟨128 * h.val + (64 * e.val + x.val), by omega⟩ : ℝ) : EReal) := fun x => by
    rw [rowR_eq X0 h0, rowR_eq X1 h1, ← EReal.coe_mul]
    have ex : (⟨h.val * 128 + e.val * 64 + x.val, by omega⟩ : Fin 768) = ⟨128 * h.val + (64 * e.val + x.val), by omega⟩ := Fin.ext (by show h.val * 128 + e.val * 64 + x.val = 128 * h.val + (64 * e.val + x.val); omega)
    rw [ex]
  rw [Finset.sum_congr rfl fun x _ => ez x, sum_coe, c8_eq, ← EReal.coe_mul]
  rfl

/-- The host's maximum over the keys is the fold of the larger of two. -/
theorem m_fold (y : FVec Ideal S2x6x2x4096x4096 .f32) (v : FVec Ideal S_ .f32) (b : Fin 2) (h : Fin 6) (e : Fin 2) (t : Fin 4096) :
    (Host.reduce (FloatOps.maximumf (F := Ideal) (φ := .f32)) y v reducesTo_S2x6x2x4096x4096_S2x6x2x4096_d4 h_S_ (ix4 b h e t) : Ideal .f32)
      = Finset.univ.fold max (v (Shape.Idx.first h_S_) : EReal) (fun x => (y (ix5 b h e t x) : EReal)) := by
  pointwise

/-- The maximum a score is taken relative to. -/
theorem m_eq (b : Fin 2) (h : Fin 6) (e : Fin 2) (t : Fin 4096) (w : EReal) (hw : val_main_v34 (F := Ideal) X0 X1 (ix4 b h e t) = w) :
    (val_main_v36 (F := Ideal) X0 X1 (ix4 b h e t) : EReal) = max ⊥ w := by
  rw [val_main_v36_apply, hw, val_main_v35_apply, val_main_cst_5_apply, ← ofBits_inf]
  rfl

/-- A reference's weight at an index. -/
theorem w_eq (b : Fin 2) (h : Fin 6) (e : Fin 2) (t s : Fin 4096) :
    (val_main_v44 (F := Ideal) X0 X1 (ix5 b h e t s) : EReal)
      = Ideal.div (Ideal.exp (val_main_v33 (F := Ideal) X0 X1 (ix5 b h e t s) - val_main_v36 (F := Ideal) X0 X1 (ix4 b h e t)))
          (∑ x, Ideal.exp (val_main_v33 (F := Ideal) X0 X1 (ix5 b h e t x) - val_main_v36 (F := Ideal) X0 X1 (ix4 b h e t))) := by
  pointwise [val_main_v44, val_main_v43, val_main_v42, val_main_v41, val_main_cst_6, val_main_v40, val_main_v39, val_main_v38, val_main_v37]

/-- The first map's weights. -/
theorem w0_at (b : Fin 2) (h : Fin 6) (t s : Fin 4096) :
    (val_main_v46 (F := Ideal) X0 X1 (ix4 b h t s) : EReal) = val_main_v44 (F := Ideal) X0 X1 (ix5 b h 0 t s) := by
  pointwise [val_main_v46, val_main_v45]

/-- The second map's weights. -/
theorem w1_at (b : Fin 2) (h : Fin 6) (t s : Fin 4096) :
    (val_main_v48 (F := Ideal) X0 X1 (ix4 b h t s) : EReal) = val_main_v44 (F := Ideal) X0 X1 (ix5 b h 1 t s) := by
  pointwise [val_main_v48, val_main_v47]

/-- The reference's factor. -/
theorem l_at : (val_main_v23 (F := Ideal) X3 ix0 : EReal) = lamE fun a x => X3 (ix3 0 a x) := by
  unfold lamE
  pointwise [val_main_v23, val_main_cst_1, val_main_v22, val_main_v21, val_main_v20, val_main_cst_0, val_main_v19, val_main_v18, val_main_v17, val_main_v16, val_main_v15, val_main_v14, val_main_v13, val_main_cst, val_main_v12, val_main_v11, val_main_v10, val_main_v9, val_main_v8, val_main_v7, val_main_v6]

/-- The difference of the two maps' weights. -/
theorem d_at (b : Fin 2) (h : Fin 6) (t s : Fin 4096) :
    (val_main_v51 (F := Ideal) X0 X1 X3 (ix4 b h t s) : EReal)
      = val_main_v46 (F := Ideal) X0 X1 (ix4 b h t s) - (val_main_v23 (F := Ideal) X3 ix0 : EReal) * val_main_v48 (F := Ideal) X0 X1 (ix4 b h t s) := by
  rw [val_main_v51_apply, val_main_v50_apply, val_main_v49_apply, show idx_main_v49 (ix4 b h t s) = ix0 from funext fun a => a.elim0]
  generalize val_main_v46 (F := Ideal) X0 X1 (ix4 b h t s) = p
  generalize val_main_v48 (F := Ideal) X0 X1 (ix4 b h t s) = q
  rfl

/-- The weighted sum of the values. -/
theorem o_eq (b : Fin 2) (h : Fin 6) (t : Fin 4096) (x : Fin 128) :
    (val_main_v53 (F := Ideal) X0 X1 X2 X3 (ix4 b t h x) : EReal)
      = ∑ s, (X2 (ix3 b s ⟨h.val * 128 + x.val, by omega⟩) : EReal) * val_main_v51 (F := Ideal) X0 X1 X3 (ix4 b h t s) := by
  pointwise [val_main_v53, val_main_v52, val_main_v5, val_main_v4]

/-- The reference's result, from the difference of the weighted sums. -/
theorem n_at (b : Fin 2) (h : Fin 6) (t : Fin 4096) (d : Fin 128) :
    (val_main_v73 (F := Ideal) X0 X1 X2 X3 X4 (ix3 b t ⟨128 * h.val + d.val, by omega⟩) : EReal)
      = nrm (fun x => val_main_v53 (F := Ideal) X0 X1 X2 X3 (ix4 b t h x)) (fun x => X4 (ix3 0 0 ⟨h.val * 128 + x.val, by omega⟩)) d := by
  unfold nrm
  pointwise [val_main_v73, val_main_v72, val_main_v71, val_main_v70, val_main_cst_10, val_main_v69, val_main_v68, val_main_v67, val_main_v66, val_main_v65, val_main_v64, val_main_v63, val_main_v62, val_main_v61, val_main_v60, val_main_v59, val_main_cst_9, val_main_v58, val_main_v57, val_main_cst_8, val_main_v56, val_main_v55, val_main_cst_7, val_main_v54]

include h0 h1 in
/-- The maximum the scores are taken relative to is a real number. -/
theorem m_real (b : Fin 2) (h : Fin 6) (e : Fin 2) (t : Fin 4096) : IsR (val_main_v36 (F := Ideal) X0 X1 (ix4 b h e t)) := by
  have hz := s_at X0 X1 h0 h1 b h e t
  have e4 : (val_main_cst_4 (F := Ideal) (Shape.Idx.first h_S_) : EReal) = ⊥ := (val_main_cst_4_apply (F := Ideal) _).trans ofBits_inf
  have hf := m_fold (val_main_v33 (F := Ideal) X0 X1) (val_main_cst_4 (F := Ideal)) b h e t
  rw [m_eq X0 X1 b h e t _ hf, max_eq_right bot_le]
  refine isR_fold _ e4 _ (fun s => ?_) t ?_
  · rw [hz]
    exact sc_ne_top _ _ _
  · rw [hz]
    unfold sc
    rw [if_pos le_rfl]
    exact EReal.coe_ne_bot _

include h0 h1 in
/-- A weight of the reference. -/
theorem w_at (b : Fin 2) (h : Fin 6) (e : Fin 2) (t s : Fin 4096) :
    (val_main_v44 (F := Ideal) X0 X1 (ix5 b h e t s) : EReal)
      = ((ew (zN (rowR X0 b t) (rowR X1 b) h e) t.val s.val / sw (zN (rowR X0 b t) (rowR X1 b) h e) t.val 4096 : ℝ) : EReal) := by
  rw [w_eq, ← weight _ t.val t.isLt _ (m_real X0 X1 h0 h1 b h e t) s.val, s_at X0 X1 h0 h1]
  exact congrArg (Ideal.div _) (Finset.sum_congr rfl fun x _ => by rw [s_at X0 X1 h0 h1])

include h0 h1 h2 in
/-- The difference of two weighted sums, at an index. -/
theorem o_at (lam : ℝ) (hl : lamE (fun a x => X3 (ix3 0 a x)) = (lam : EReal)) (b : Fin 2) (h : Fin 6) (t : Fin 4096) (x : Fin 128) :
    (val_main_v53 (F := Ideal) X0 X1 X2 X3 (ix4 b t h x) : EReal) = orow lam (rowR X0 b t) (rowR X1 b) (rowR X2 b) t.val h x := by
  unfold orow
  rw [o_eq, ← ref_sum _ _ _ _ lam (fun s => val_main_v44 (F := Ideal) X0 X1 (ix5 b h 0 t s)) (fun s => val_main_v44 (F := Ideal) X0 X1 (ix5 b h 1 t s))
    (fun s => X2 (ix3 b s ⟨128 * h.val + x.val, by omega⟩)) (w_at X0 X1 h0 h1 b h 0 t) (w_at X0 X1 h0 h1 b h 1 t) fun s => rowR_eq X2 h2 b s _]
  refine Finset.sum_congr rfl fun s _ => ?_
  rw [d_at, w0_at, w1_at, l_at, hl, mul_comm]
  simp only [Nat.mul_comm h.val 128]

include h0 h1 h2 in
/-- The reference's result at an index. -/
theorem out_ref_at (lam : ℝ) (hl : lamE (fun a x => X3 (ix3 0 a x)) = (lam : EReal)) (b : Fin 2) (h : Fin 6) (t : Fin 4096) (d : Fin 128) :
    (val_main_v73 (F := Ideal) X0 X1 X2 X3 X4 (ix3 b t ⟨128 * h.val + d.val, by omega⟩) : EReal)
      = nrm (orow lam (rowR X0 b t) (rowR X1 b) (rowR X2 b) t.val h) (fun x => X4 (ix3 0 0 ⟨128 * h.val + x.val, by omega⟩)) d := by
  rw [n_at, show (fun x => (val_main_v53 (F := Ideal) X0 X1 X2 X3 (ix4 b t h x) : EReal)) = _ from
    funext fun x => o_at X0 X1 X2 h0 h1 h2 X3 lam hl b h t x]
  simp only [Nat.mul_comm h.val 128]

end Cert.Diff.Ref

end
-- ==== Proof.Diff.lean ====
/- The differential attention kernel's result array is the reference's: the blocks of the grid, put together. -/
module

public import proofs.«01_k».proof.Proof.DiffRef

@[expose] public section

set_option maxRecDepth 16384

noncomputable section

open Idealize.ShloMosaic Idealize.ShloMosaic.TcCoe Idealize.SL.Sem
open Idealize.ShloMosaic.Pipeline (Dat)

namespace Cert.Diff

open Cert.Kernel10Ideal Cert.Kernel10Ideal.Gen Cert.OutMath

variable (m : (ℓ : Loc nD τ sig) → Buf (Elt Ideal) ℓ)

/-- The windows' index maps. -/
theorem idx : ∀ t : Fin cfg0.N, win0_0.index t = ![0, 0, 0] ∧ win0_1.index t = ![0, 0, 0]
    ∧ win0_2.index t = ![(grid0.coords t 0).val, (grid0.coords t 1).val, 0]
    ∧ win0_3.index t = ![(grid0.coords t 0).val, 0, 0] ∧ win0_4.index t = ![(grid0.coords t 0).val, 0, 0]
    ∧ win0_5.index t = ![(grid0.coords t 0).val, (grid0.coords t 1).val, 0]
    ∧ (grid0.coords t 0).val < 2 ∧ (grid0.coords t 1).val < 8 :=
  (by decide +kernel : ∀ t : Fin grid0.N, _)

/-- The factor's parameters' block at an index. -/
theorem blk0_at (c : Dev nD) (t : Fin cfg0.N) (a : Fin 4) (x : Fin 64) :
    (iblk m c 0 t : FVec Ideal S1x4x64 .f32) (ix3 0 a x) = (m (c.tc.loc main_arg3) : FVec Ideal S2x4x64 .f32) (ix3 0 a x) := by
  blk_ext [iblk, V, idx t]

/-- The gain's block at an index. -/
theorem blk1_at (c : Dev nD) (t : Fin cfg0.N) (x : Fin 768) :
    (iblk m c 1 t : FVec Ideal S1x1x768 .f32) (ix3 0 0 x) = (m (c.tc.loc main_arg4) : FVec Ideal S2x1x768 .f32) (ix3 0 0 x) := by
  blk_ext [iblk, V, idx t]

/-- The queries' block at an index. -/
theorem blk2_at (c : Dev nD) (t : Fin cfg0.N) (b : Fin 2) (hb : b.val = (grid0.coords t 0).val) (r : Fin 512) (x : Fin 768)
    (p : Fin 4096) (hp : p.val = 512 * (grid0.coords t 1).val + r.val) :
    (iblk m c 2 t : FVec Ideal S1x512x768 .bf16) (ix3 0 r x) = (m (c.tc.loc main_arg0) : FVec Ideal S2x4096x768 .bf16) (ix3 b p x) := by
  blk_ext [iblk, V, idx t]

/-- The keys' block at an index. -/
theorem blk3_at (c : Dev nD) (t : Fin cfg0.N) (b : Fin 2) (hb : b.val = (grid0.coords t 0).val) (s : Fin 4096) (x : Fin 768) :
    (iblk m c 3 t : FVec Ideal S1x4096x768 .bf16) (ix3 0 s x) = (m (c.tc.loc main_arg1) : FVec Ideal S2x4096x768 .bf16) (ix3 b s x) := by
  blk_ext [iblk, V, idx t]

/-- The values' block at an index. -/
theorem blk4_at (c : Dev nD) (t : Fin cfg0.N) (b : Fin 2) (hb : b.val = (grid0.coords t 0).val) (s : Fin 4096) (x : Fin 768) :
    (iblk m c 4 t : FVec Ideal S1x4096x768 .bf16) (ix3 0 s x) = (m (c.tc.loc main_arg2) : FVec Ideal S2x4096x768 .bf16) (ix3 b s x) := by
  blk_ext [iblk, V, idx t]

/-- What the body leaves at block index `y` of point `t` is the reference's result where `y` sits. -/
theorem point (c : Dev nD) (h0 : ∀ j, IsR ((m (c.tc.loc main_arg0) : FVec Ideal S2x4096x768 .bf16) j))
    (h1 : ∀ j, IsR ((m (c.tc.loc main_arg1) : FVec Ideal S2x4096x768 .bf16) j))
    (h2 : ∀ j, IsR ((m (c.tc.loc main_arg2) : FVec Ideal S2x4096x768 .bf16) j))
    (h3 : ∀ j, IsR ((m (c.tc.loc main_arg3) : FVec Ideal S2x4x64 .f32) j))
    (t : Fin cfg0.N) (y : S1x512x768.Idx) (j : S2x4096x768.Idx) (hj0 : (j 0 : ℕ) = (grid0.coords t 0).val)
    (hj1 : (j 1 : ℕ) = 512 * (grid0.coords t 1).val + (y 1).val) (hj2 : (j 2 : ℕ) = y 2) :
    (out0_A_5 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (iblk m c 0 t) (iblk m c 1 t) (iblk m c 2 t) (iblk m c 3 t) (iblk m c 4 t) y : EReal)
    = Cert.Reference10Ideal.Read.val_main_v73 (F := Ideal) (m (c.tc.loc main_arg0)) (m (c.tc.loc main_arg1))
        (m (c.tc.loc main_arg2)) (m (c.tc.loc main_arg3)) (m (c.tc.loc main_arg4)) j := by
  obtain ⟨-, -, -, -, -, -, hb, hi⟩ := idx t
  have k2 : (y 2).val < 768 := (y 2).isLt
  have k1 : (y 1).val < 512 := (y 1).isLt
  have k0 : (y 0).val < 1 := (y 0).isLt
  let h : Fin 6 := ⟨(y 2).val / 128, by omega⟩
  let d : Fin 128 := ⟨(y 2).val % 128, by omega⟩
  let r : Fin 512 := ⟨(y 1).val, k1⟩
  let b : Fin 2 := ⟨(grid0.coords t 0).val, hb⟩
  let p : Fin 4096 := ⟨512 * (grid0.coords t 1).val + (y 1).val, by omega⟩
  have ed : 128 * ((y 2).val / 128) + (y 2).val % 128 = (y 2).val := by omega
  have ey : y = ix3 0 r ⟨128 * h.val + d.val, by omega⟩ := funext fun a => match a with
    | ⟨0, _⟩ => Fin.ext (show (y 0).val = 0 by omega)
    | ⟨1, _⟩ => rfl
    | ⟨2, _⟩ => Fin.ext ed.symm
  have ej : j = ix3 b p ⟨128 * h.val + d.val, by omega⟩ := funext fun a => match a with
    | ⟨0, _⟩ => Fin.ext hj0
    | ⟨1, _⟩ => Fin.ext hj1
    | ⟨2, _⟩ => Fin.ext (hj2.trans ed.symm)
  obtain ⟨lam, hl⟩ := lamE_real (fun a x => (m (c.tc.loc main_arg3) : FVec Ideal S2x4x64 .f32) (ix3 0 a x)) fun a x => h3 _
  rw [ej, Ref.out_ref_at _ _ _ h0 h1 h2 _ _ lam hl]
  refine (congrArg _ ey).trans ((out_at c (grid0.coords t) (ms0_0 t) (hs0_0 t) (ms0_1 t) (hs0_1 t) (ms0_2 t) (hs0_2 t) (ms0_3 t) (hs0_3 t)
      (ms0_4 t) (hs0_4 t) (ms0_5 t) (hs0_5 t) (iblk m c 0 t) (iblk m c 1 t) (iblk m c 2 t) (iblk m c 3 t) (iblk m c 4 t) h r d).trans ?_)
  refine (blk_at c (grid0.coords t) (ms0_0 t) (hs0_0 t) (ms0_1 t) (hs0_1 t) (ms0_2 t) (hs0_2 t) (ms0_3 t) (hs0_3 t)
      (ms0_4 t) (hs0_4 t) (ms0_5 t) (hs0_5 t) (iblk m c 0 t) (iblk m c 1 t) (iblk m c 2 t) (iblk m c 3 t) (iblk m c 4 t) lam
      ((congrArg lamE (funext fun a => funext fun x => blk0_at m c t a x)).trans hl)
      (Ref.rowR (m (c.tc.loc main_arg0)) b p) (Ref.rowR (m (c.tc.loc main_arg1)) b)
      (Ref.rowR (m (c.tc.loc main_arg2)) b) r d
      (fun a => (blk2_at m c t b rfl r a p rfl).trans (Ref.rowR_eq _ h0 b p a))
      (fun s a => (blk3_at m c t b rfl s a).trans (Ref.rowR_eq _ h1 b s a))
      (fun s a => (blk4_at m c t b rfl s a).trans (Ref.rowR_eq _ h2 b s a)) h).trans ?_
  congr 1
  funext x
  exact blk1_at m c t _

/-- The result array after the run is the reference's result of the arguments. -/
theorem final (c : Dev nD) (h0 : ∀ j, IsR ((m (c.tc.loc main_arg0) : FVec Ideal S2x4096x768 .bf16) j))
    (h1 : ∀ j, IsR ((m (c.tc.loc main_arg1) : FVec Ideal S2x4096x768 .bf16) j))
    (h2 : ∀ j, IsR ((m (c.tc.loc main_arg2) : FVec Ideal S2x4096x768 .bf16) j))
    (h3 : ∀ j, IsR ((m (c.tc.loc main_arg3) : FVec Ideal S2x4x64 .f32) j)) : (dats m 0 c).arrAt 5 cfg0.N
    = Cert.Reference10Ideal.Read.val_main_v73 (F := Ideal) (m (c.tc.loc main_arg0)) (m (c.tc.loc main_arg1))
        (m (c.tc.loc main_arg2)) (m (c.tc.loc main_arg3)) (m (c.tc.loc main_arg4)) := by
  refine (dats m 0 c).arrAt_eq_of_covers 5 _ (by decide +kernel) fun t hf y => ?_
  blk_simp
  rw [after0_5]
  unfold outsAt0
  refine point m c h0 h1 h2 h3 t y _ ?_ ?_ ?_
  all_goals (blk_simp [idx t] <;> try omega)

end Cert.Diff

end
-- ==== Proof.DiffClaims.lean ====
/- The claims about the differential attention: the frames, the ideal ones also stated on finite heads, the named mask, and
   that on finite heads the kernel and the reference leave the same array. -/
module

public import proofs.«01_k».proof.Defs
public import proofs.«01_k».proof.Proof.Diff
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Pre_finite_heads
public import Idealize.ShloMosaic.Adequacy
public import Idealize.ShloMosaic.Init
public import Idealize.ShloMosaic.Lib.Quiescent

@[expose] public section

set_option maxRecDepth 16384

noncomputable section

namespace Cert.DiffClaims

open Idealize.ShloMosaic Idealize.SL.Sem Cert.OutMath

/-- The differential attention kernel on machine numbers runs to its end, keeps its arguments and leaves every counter at zero. -/
theorem frame_p10 : Cert.quiescent_Kernel10 := fun m ρ _ => Cert.Kernel10.Gen.frame m ρ

/-- The differential attention kernel on ideal numbers runs to its end, keeps its arguments and leaves every counter at zero. -/
theorem frame_pi10 : Cert.quiescent_Kernel10Ideal := fun m ρ _ => Cert.Kernel10Ideal.Gen.frame m ρ

/-- The same of the ideal differential attention kernel, on finite heads. -/
theorem frame_pi10_finite_heads : Cert.quiescent_Kernel10Ideal_pre_finite_heads (hPre_finite_heads := Cert.Pre_finite_heads.Gen.facts) :=
  fun m ρ _ => Cert.Kernel10Ideal.Gen.frame m ρ

/-- The differential attention reference on ideal numbers runs to its end, keeps its arguments and leaves every counter at zero. -/
theorem frame_ri10 : Cert.quiescent_Reference10Ideal := fun m ρ _ =>
  (θ_run Cert.Reference10Ideal.defs _ _).mono
    (fun r h => ⟨fun c => (h c).2, Idealize.ShloMosaic.sem_eq_zero_of_no_sems (by decide) r.2⟩)
    (Cert.Reference10Ideal.Value.run (F := Ideal) m ρ)

/-- The same of the differential attention reference, on finite heads. -/
theorem frame_ri10_finite_heads : Cert.quiescent_Reference10Ideal_pre_finite_heads (hPre_finite_heads := Cert.Pre_finite_heads.Gen.facts) :=
  fun m ρ _ => frame_ri10 m ρ trivial

/-- The one constant given a name, the mask, stands for the bottom element in the ideal kernel. -/
theorem preserves10 : Cert.preserves_Kernel10_Kernel10Ideal :=
  IdealRules.named_const.statement Cert.Kernel10Ideal.κ "mask" .f32 0xF149F2CA#32 ⊥ rfl

/-- On equal finite heads, the differential attention kernel and the reference leave the same array. -/
theorem algebraic10 : Cert.algebraic_Kernel10Ideal_Reference10Ideal_pre_finite_heads (hPre_finite_heads := Cert.Pre_finite_heads.Gen.facts) := by
  intro m ρ m' ρ' hpre hag
  refine ⟨fun c => Cert.Reference10Ideal.Read.val_main_v73
      (m ((c.tc : Thread Cert.Kernel10Ideal.nD Cert.Kernel10Ideal.τ).loc Cert.Kernel10Ideal.main_arg0))
      (m ((c.tc : Thread Cert.Kernel10Ideal.nD Cert.Kernel10Ideal.τ).loc Cert.Kernel10Ideal.main_arg1))
      (m ((c.tc : Thread Cert.Kernel10Ideal.nD Cert.Kernel10Ideal.τ).loc Cert.Kernel10Ideal.main_arg2))
      (m ((c.tc : Thread Cert.Kernel10Ideal.nD Cert.Kernel10Ideal.τ).loc Cert.Kernel10Ideal.main_arg3))
      (m ((c.tc : Thread Cert.Kernel10Ideal.nD Cert.Kernel10Ideal.τ).loc Cert.Kernel10Ideal.main_arg4)), ?_, ?_⟩
  · refine (θ_run Cert.Kernel10Ideal.defs _ _).mono (fun r h c => ?_) (Cert.Kernel10Ideal.Value.run_blocks m ρ)
    obtain ⟨p0, p1, p2, p3⟩ := hpre c
    exact ⟨(h c).1.trans (Cert.Diff.final m c (IsR.of_lt _ _ p0) (IsR.of_lt _ _ p1) (IsR.of_lt _ _ p2) (IsR.of_lt _ _ p3)), (h c).2⟩
  · refine (θ_run Cert.Reference10Ideal.defs _ _).mono (fun r h c => ⟨(h c).1.trans ?_, (h c).2⟩)
      (Cert.Reference10Ideal.Value.run (F := Ideal) m' ρ')
    refine (Cert.Reference10Ideal.Read.val_main_v73_eq m' c).trans ?_
    obtain ⟨h0, h1, h2, h3, h4⟩ := hag c
    rw [h0, h1, h2, h3, h4]

end Cert.DiffClaims

end
-- ==== Proof.lean ====
module

public import proofs.«01_k».proof.Defs
public import proofs.«01_k».proof.Proof.StickClaims
public import proofs.«01_k».proof.Proof.MoeClaims
public import proofs.«01_k».proof.Proof.ProjClaims
public import proofs.«01_k».proof.Proof.OutClaims
public import proofs.«01_k».proof.Proof.DiffClaims
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Pre_tiles_named
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Pre_tiles_named_down
public import proofs.«01_k».proof.Proof.Gen.Kernel6
public import proofs.«01_k».proof.Proof.Gen.Kernel6Ideal
public import proofs.«01_k».proof.Proof.Gen.Reference6Ideal
public import proofs.«01_k».proof.Proof.Gen.Kernel7
public import proofs.«01_k».proof.Proof.Gen.Kernel7Ideal
public import proofs.«01_k».proof.Proof.Gen.Reference7Ideal
public import proofs.«01_k».proof.Proof.Gen.Kernel8
public import proofs.«01_k».proof.Proof.Gen.Kernel8Ideal
public import proofs.«01_k».proof.Proof.Gen.Reference8Ideal
public import proofs.«01_k».proof.Proof.Gen.Kernel9
public import proofs.«01_k».proof.Proof.Gen.Kernel9Ideal
public import proofs.«01_k».proof.Proof.Gen.Reference9Ideal
public import proofs.«01_k».proof.Proof.Gen.Pre_finite
public import proofs.«01_k».proof.Proof.Gen.Kernel10
public import proofs.«01_k».proof.Proof.Gen.Kernel10Ideal
public import proofs.«01_k».proof.Proof.Gen.Reference10Ideal
public import proofs.«01_k».proof.Proof.Gen.Pre_finite_heads
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Pre_tiles_named.Gen.facts, Cert.Pre_tiles_named_down.Gen.facts, Cert.Pre_finite.Gen.facts,
    Cert.Pre_finite_heads.Gen.facts,
    StickClaims.frame_p, StickClaims.frame_pi, StickClaims.frame_ri,
    MoeClaims.frame_p2, MoeClaims.frame_pi2, MoeClaims.frame_ri2,
    MoeClaims.frame_p3, MoeClaims.frame_pi3, MoeClaims.frame_ri3,
    MoeClaims.frame_p4, MoeClaims.frame_pi4, MoeClaims.frame_ri4,
    MoeClaims.frame_p5, MoeClaims.frame_pi5, MoeClaims.frame_ri5,
    ProjClaims.frame_p6, ProjClaims.frame_pi6, ProjClaims.frame_ri6,
    ProjClaims.frame_p7, ProjClaims.frame_pi7, ProjClaims.frame_ri7,
    OutClaims.frame_p8, OutClaims.frame_pi8, OutClaims.frame_pi8_finite, OutClaims.frame_ri8, OutClaims.frame_ri8_finite,
    OutClaims.frame_p9, OutClaims.frame_pi9, OutClaims.frame_pi9_finite, OutClaims.frame_ri9, OutClaims.frame_ri9_finite,
    DiffClaims.frame_p10, DiffClaims.frame_pi10, DiffClaims.frame_pi10_finite_heads, DiffClaims.frame_ri10,
    DiffClaims.frame_ri10_finite_heads,
    StickClaims.preserves, StickClaims.algebraic, MoeClaims.preserves2, MoeClaims.algebraic2,
    MoeClaims.preserves3, MoeClaims.algebraic3,
    MoeClaims.preserves4, MoeClaims.algebraic4, MoeClaims.preserves5, MoeClaims.algebraic5,
    ProjClaims.preserves6, ProjClaims.algebraic6, ProjClaims.preserves7, ProjClaims.algebraic7,
    OutClaims.preserves8, OutClaims.algebraic8, OutClaims.preserves9, OutClaims.algebraic9,
    DiffClaims.preserves10, DiffClaims.algebraic10⟩

end Cert.Proof

end
